-- ==== Defs.lean ====
def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareReference (m : (ℓ : Loc Cert.ShareReference.nD Cert.ShareReference.τ Cert.ShareReference.sig) → Buf (Elt Bits) ℓ) : Prop :=
  True

def Pre_ShareReferenceIdeal (m : (ℓ : Loc Cert.ShareReferenceIdeal.nD Cert.ShareReferenceIdeal.τ Cert.ShareReferenceIdeal.sig) → Buf (Elt Ideal) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeReference (m : (ℓ : Loc Cert.ExchangeReference.nD Cert.ExchangeReference.τ Cert.ExchangeReference.sig) → Buf (Elt Bits) ℓ) : Prop :=
  True

def Pre_ExchangeReferenceIdeal (m : (ℓ : Loc Cert.ExchangeReferenceIdeal.nD Cert.ExchangeReferenceIdeal.τ Cert.ExchangeReferenceIdeal.sig) → Buf (Elt Ideal) ℓ) : Prop :=
  True

def Pre_Halves (m : (ℓ : Loc Cert.Halves.nD Cert.Halves.τ Cert.Halves.sig) → Buf (Elt Bits) ℓ) : Prop :=
  True

def Pre_HalvesIdeal (m : (ℓ : Loc Cert.HalvesIdeal.nD Cert.HalvesIdeal.τ Cert.HalvesIdeal.sig) → Buf (Elt Ideal) ℓ) : Prop :=
  True

def Pre_HalvesReference (m : (ℓ : Loc Cert.HalvesReference.nD Cert.HalvesReference.τ Cert.HalvesReference.sig) → Buf (Elt Bits) ℓ) : Prop :=
  True

def Pre_HalvesReferenceIdeal (m : (ℓ : Loc Cert.HalvesReferenceIdeal.nD Cert.HalvesReferenceIdeal.τ Cert.HalvesReferenceIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReference (m : (ℓ : Loc Cert.AdamwInReference.nD Cert.AdamwInReference.τ Cert.AdamwInReference.sig) → Buf (Elt Bits) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AdamwGate (m : (ℓ : Loc Cert.AdamwGate.nD Cert.AdamwGate.τ Cert.AdamwGate.sig) → Buf (Elt Bits) ℓ) : Prop :=
  True

def Pre_AdamwGateIdeal (m : (ℓ : Loc Cert.AdamwGateIdeal.nD Cert.AdamwGateIdeal.τ Cert.AdamwGateIdeal.sig) → Buf (Elt Ideal) ℓ) : Prop :=
  True

def Pre_AdamwGateReference (m : (ℓ : Loc Cert.AdamwGateReference.nD Cert.AdamwGateReference.τ Cert.AdamwGateReference.sig) → Buf (Elt Bits) ℓ) : Prop :=
  True

def Pre_AdamwGateReferenceIdeal (m : (ℓ : Loc Cert.AdamwGateReferenceIdeal.nD Cert.AdamwGateReferenceIdeal.τ Cert.AdamwGateReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReference (m : (ℓ : Loc Cert.AdamwOutReference.nD Cert.AdamwOutReference.τ Cert.AdamwOutReference.sig) → Buf (Elt Bits) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpReference (m : (ℓ : Loc Cert.AdamwUpReference.nD Cert.AdamwUpReference.τ Cert.AdamwUpReference.sig) → Buf (Elt Bits) ℓ) : Prop :=
  True

def Pre_AdamwUpReferenceIdeal (m : (ℓ : Loc Cert.AdamwUpReferenceIdeal.nD Cert.AdamwUpReferenceIdeal.τ Cert.AdamwUpReferenceIdeal.sig) → Buf (Elt Ideal) ℓ) : Prop :=
  True

def Pre_SmallFirst (m : (ℓ : Loc Cert.SmallFirst.nD Cert.SmallFirst.τ Cert.SmallFirst.sig) → Buf (Elt Bits) ℓ) : Prop :=
  True

def Pre_SmallFirstIdeal (m : (ℓ : Loc Cert.SmallFirstIdeal.nD Cert.SmallFirstIdeal.τ Cert.SmallFirstIdeal.sig) → Buf (Elt Ideal) ℓ) : Prop :=
  True

def Pre_SmallFirstReference (m : (ℓ : Loc Cert.SmallFirstReference.nD Cert.SmallFirstReference.τ Cert.SmallFirstReference.sig) → Buf (Elt Bits) ℓ) : Prop :=
  True

def Pre_SmallFirstReferenceIdeal (m : (ℓ : Loc Cert.SmallFirstReferenceIdeal.nD Cert.SmallFirstReferenceIdeal.τ Cert.SmallFirstReferenceIdeal.sig) → Buf (Elt Ideal) ℓ) : Prop :=
  True

def Pre_SmallNext (m : (ℓ : Loc Cert.SmallNext.nD Cert.SmallNext.τ Cert.SmallNext.sig) → Buf (Elt Bits) ℓ) : Prop :=
  True

def Pre_SmallNextIdeal (m : (ℓ : Loc Cert.SmallNextIdeal.nD Cert.SmallNextIdeal.τ Cert.SmallNextIdeal.sig) → Buf (Elt Ideal) ℓ) : Prop :=
  True

def Pre_SmallNextReference (m : (ℓ : Loc Cert.SmallNextReference.nD Cert.SmallNextReference.τ Cert.SmallNextReference.sig) → Buf (Elt Bits) ℓ) : Prop :=
  True

def Pre_SmallNextReferenceIdeal (m : (ℓ : Loc Cert.SmallNextReferenceIdeal.nD Cert.SmallNextReferenceIdeal.τ Cert.SmallNextReferenceIdeal.sig) → Buf (Elt Ideal) ℓ) : Prop :=
  True

def Pre_SmallLast (m : (ℓ : Loc Cert.SmallLast.nD Cert.SmallLast.τ Cert.SmallLast.sig) → Buf (Elt Bits) ℓ) : Prop :=
  True

def Pre_SmallLastIdeal (m : (ℓ : Loc Cert.SmallLastIdeal.nD Cert.SmallLastIdeal.τ Cert.SmallLastIdeal.sig) → Buf (Elt Ideal) ℓ) : Prop :=
  True

def Pre_SmallLastReference (m : (ℓ : Loc Cert.SmallLastReference.nD Cert.SmallLastReference.τ Cert.SmallLastReference.sig) → Buf (Elt Bits) ℓ) : Prop :=
  True

def Pre_SmallLastReferenceIdeal (m : (ℓ : Loc Cert.SmallLastReferenceIdeal.nD Cert.SmallLastReferenceIdeal.τ Cert.SmallLastReferenceIdeal.sig) → Buf (Elt Ideal) ℓ) : Prop :=
  True

def Pre_ChipSumIn (m : (ℓ : Loc Cert.ChipSumIn.nD Cert.ChipSumIn.τ Cert.ChipSumIn.sig) → Buf (Elt Bits) ℓ) : Prop :=
  True

def Pre_ChipSumInIdeal (m : (ℓ : Loc Cert.ChipSumInIdeal.nD Cert.ChipSumInIdeal.τ Cert.ChipSumInIdeal.sig) → Buf (Elt Ideal) ℓ) : Prop :=
  True

def Pre_ChipSumInReference (m : (ℓ : Loc Cert.ChipSumInReference.nD Cert.ChipSumInReference.τ Cert.ChipSumInReference.sig) → Buf (Elt Bits) ℓ) : Prop :=
  True

def Pre_ChipSumInReferenceIdeal (m : (ℓ : Loc Cert.ChipSumInReferenceIdeal.nD Cert.ChipSumInReferenceIdeal.τ Cert.ChipSumInReferenceIdeal.sig) → Buf (Elt Ideal) ℓ) : Prop :=
  True

def Pre_ChipSumGate (m : (ℓ : Loc Cert.ChipSumGate.nD Cert.ChipSumGate.τ Cert.ChipSumGate.sig) → Buf (Elt Bits) ℓ) : Prop :=
  True

def Pre_ChipSumGateIdeal (m : (ℓ : Loc Cert.ChipSumGateIdeal.nD Cert.ChipSumGateIdeal.τ Cert.ChipSumGateIdeal.sig) → Buf (Elt Ideal) ℓ) : Prop :=
  True

def Pre_ChipSumGateReference (m : (ℓ : Loc Cert.ChipSumGateReference.nD Cert.ChipSumGateReference.τ Cert.ChipSumGateReference.sig) → Buf (Elt Bits) ℓ) : Prop :=
  True

def Pre_ChipSumGateReferenceIdeal (m : (ℓ : Loc Cert.ChipSumGateReferenceIdeal.nD Cert.ChipSumGateReferenceIdeal.τ Cert.ChipSumGateReferenceIdeal.sig) → Buf (Elt Ideal) ℓ) : Prop :=
  True

def Pre_ChipSumOut (m : (ℓ : Loc Cert.ChipSumOut.nD Cert.ChipSumOut.τ Cert.ChipSumOut.sig) → Buf (Elt Bits) ℓ) : Prop :=
  True

def Pre_ChipSumOutIdeal (m : (ℓ : Loc Cert.ChipSumOutIdeal.nD Cert.ChipSumOutIdeal.τ Cert.ChipSumOutIdeal.sig) → Buf (Elt Ideal) ℓ) : Prop :=
  True

def Pre_ChipSumOutReference (m : (ℓ : Loc Cert.ChipSumOutReference.nD Cert.ChipSumOutReference.τ Cert.ChipSumOutReference.sig) → Buf (Elt Bits) ℓ) : Prop :=
  True

def Pre_ChipSumOutReferenceIdeal (m : (ℓ : Loc Cert.ChipSumOutReferenceIdeal.nD Cert.ChipSumOutReferenceIdeal.τ Cert.ChipSumOutReferenceIdeal.sig) → Buf (Elt Ideal) ℓ) : Prop :=
  True

def Pre_ChipSumUp (m : (ℓ : Loc Cert.ChipSumUp.nD Cert.ChipSumUp.τ Cert.ChipSumUp.sig) → Buf (Elt Bits) ℓ) : Prop :=
  True

def Pre_ChipSumUpIdeal (m : (ℓ : Loc Cert.ChipSumUpIdeal.nD Cert.ChipSumUpIdeal.τ Cert.ChipSumUpIdeal.sig) → Buf (Elt Ideal) ℓ) : Prop :=
  True

def Pre_ChipSumUpReference (m : (ℓ : Loc Cert.ChipSumUpReference.nD Cert.ChipSumUpReference.τ Cert.ChipSumUpReference.sig) → Buf (Elt Bits) ℓ) : Prop :=
  True

def Pre_ChipSumUpReferenceIdeal (m : (ℓ : Loc Cert.ChipSumUpReferenceIdeal.nD Cert.ChipSumUpReferenceIdeal.τ Cert.ChipSumUpReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReference (m : (ℓ : Loc Cert.GradInReference.nD Cert.GradInReference.τ Cert.GradInReference.sig) → Buf (Elt Bits) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReference (m : (ℓ : Loc Cert.GradOutReference.nD Cert.GradOutReference.τ Cert.GradOutReference.sig) → Buf (Elt Bits) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpReference (m : (ℓ : Loc Cert.GradUpReference.nD Cert.GradUpReference.τ Cert.GradUpReference.sig) → Buf (Elt Bits) ℓ) : Prop :=
  True

def Pre_GradUpReferenceIdeal (m : (ℓ : Loc Cert.GradUpReferenceIdeal.nD Cert.GradUpReferenceIdeal.τ Cert.GradUpReferenceIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownReference (m : (ℓ : Loc Cert.GradDownReference.nD Cert.GradDownReference.τ Cert.GradDownReference.sig) → Buf (Elt Bits) ℓ) : Prop :=
  True

def Pre_GradDownReferenceIdeal (m : (ℓ : Loc Cert.GradDownReferenceIdeal.nD Cert.GradDownReferenceIdeal.τ Cert.GradDownReferenceIdeal.sig) → Buf (Elt Ideal) ℓ) : Prop :=
  True

def Pre_BackIn (m : (ℓ : Loc Cert.BackIn.nD Cert.BackIn.τ Cert.BackIn.sig) → Buf (Elt Bits) ℓ) : Prop :=
  True

def Pre_BackInIdeal (m : (ℓ : Loc Cert.BackInIdeal.nD Cert.BackInIdeal.τ Cert.BackInIdeal.sig) → Buf (Elt Ideal) ℓ) : Prop :=
  True

def Pre_BackInReference (m : (ℓ : Loc Cert.BackInReference.nD Cert.BackInReference.τ Cert.BackInReference.sig) → Buf (Elt Bits) ℓ) : Prop :=
  True

def Pre_BackInReferenceIdeal (m : (ℓ : Loc Cert.BackInReferenceIdeal.nD Cert.BackInReferenceIdeal.τ Cert.BackInReferenceIdeal.sig) → Buf (Elt Ideal) ℓ) : Prop :=
  True

def Pre_ForwardIn (m : (ℓ : Loc Cert.ForwardIn.nD Cert.ForwardIn.τ Cert.ForwardIn.sig) → Buf (Elt Bits) ℓ) : Prop :=
  True

def Pre_ForwardInIdeal (m : (ℓ : Loc Cert.ForwardInIdeal.nD Cert.ForwardInIdeal.τ Cert.ForwardInIdeal.sig) → Buf (Elt Ideal) ℓ) : Prop :=
  True

def Pre_ForwardInReference (m : (ℓ : Loc Cert.ForwardInReference.nD Cert.ForwardInReference.τ Cert.ForwardInReference.sig) → Buf (Elt Bits) ℓ) : Prop :=
  True

def Pre_ForwardInReferenceIdeal (m : (ℓ : Loc Cert.ForwardInReferenceIdeal.nD Cert.ForwardInReferenceIdeal.τ Cert.ForwardInReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReference (m : (ℓ : Loc Cert.MergeReference.nD Cert.MergeReference.τ Cert.MergeReference.sig) → Buf (Elt Bits) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReference (m : (ℓ : Loc Cert.MlpReference.nD Cert.MlpReference.τ Cert.MlpReference.sig) → Buf (Elt Bits) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_BackMlp (m : (ℓ : Loc Cert.BackMlp.nD Cert.BackMlp.τ Cert.BackMlp.sig) → Buf (Elt Bits) ℓ) : Prop :=
  True

def Pre_BackMlpIdeal (m : (ℓ : Loc Cert.BackMlpIdeal.nD Cert.BackMlpIdeal.τ Cert.BackMlpIdeal.sig) → Buf (Elt Ideal) ℓ) : Prop :=
  True

def Pre_BackMlpReference (m : (ℓ : Loc Cert.BackMlpReference.nD Cert.BackMlpReference.τ Cert.BackMlpReference.sig) → Buf (Elt Bits) ℓ) : Prop :=
  True

def Pre_BackMlpReferenceIdeal (m : (ℓ : Loc Cert.BackMlpReferenceIdeal.nD Cert.BackMlpReferenceIdeal.τ Cert.BackMlpReferenceIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReference (m : (ℓ : Loc Cert.GatingReference.nD Cert.GatingReference.τ Cert.GatingReference.sig) → Buf (Elt Bits) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0)
      ∧ r.2.mem ((c.tc : Thread Cert.Share.nD Cert.Share.τ).loc Cert.Share.main_arg1) = m ((c.tc : Thread Cert.Share.nD Cert.Share.τ).loc Cert.Share.main_arg1)
      ∧ r.2.mem ((c.tc : Thread Cert.Share.nD Cert.Share.τ).loc Cert.Share.main_arg2) = m ((c.tc : Thread Cert.Share.nD Cert.Share.τ).loc Cert.Share.main_arg2)
      ∧ r.2.mem ((c.tc : Thread Cert.Share.nD Cert.Share.τ).loc Cert.Share.main_arg3) = m ((c.tc : Thread Cert.Share.nD Cert.Share.τ).loc Cert.Share.main_arg3)
      ∧ r.2.mem ((c.tc : Thread Cert.Share.nD Cert.Share.τ).loc Cert.Share.main_arg4) = m ((c.tc : Thread Cert.Share.nD Cert.Share.τ).loc Cert.Share.main_arg4)
      ∧ r.2.mem ((c.tc : Thread Cert.Share.nD Cert.Share.τ).loc Cert.Share.main_arg5) = m ((c.tc : Thread Cert.Share.nD Cert.Share.τ).loc Cert.Share.main_arg5)
      ∧ r.2.mem ((c.tc : Thread Cert.Share.nD Cert.Share.τ).loc Cert.Share.main_arg6) = m ((c.tc : Thread Cert.Share.nD Cert.Share.τ).loc Cert.Share.main_arg6)
      ∧ r.2.mem ((c.tc : Thread Cert.Share.nD Cert.Share.τ).loc Cert.Share.main_arg7) = m ((c.tc : Thread Cert.Share.nD Cert.Share.τ).loc Cert.Share.main_arg7))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
      ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
      ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
      ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
      ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4)
      ∧ r.2.mem ((c.tc : Thread Cert.ShareIdeal.nD Cert.ShareIdeal.τ).loc Cert.ShareIdeal.main_arg5) = m ((c.tc : Thread Cert.ShareIdeal.nD Cert.ShareIdeal.τ).loc Cert.ShareIdeal.main_arg5)
      ∧ r.2.mem ((c.tc : Thread Cert.ShareIdeal.nD Cert.ShareIdeal.τ).loc Cert.ShareIdeal.main_arg6) = m ((c.tc : Thread Cert.ShareIdeal.nD Cert.ShareIdeal.τ).loc Cert.ShareIdeal.main_arg6)
      ∧ r.2.mem ((c.tc : Thread Cert.ShareIdeal.nD Cert.ShareIdeal.τ).loc Cert.ShareIdeal.main_arg7) = m ((c.tc : Thread Cert.ShareIdeal.nD Cert.ShareIdeal.τ).loc Cert.ShareIdeal.main_arg7))
      ∧ r.2.sem = fun _ => 0)

def quiescent_ShareReference [hShareReference : Cert.ShareReference.Facts] : Prop :=
  ∀ (m : (ℓ : Loc Cert.ShareReference.nD Cert.ShareReference.τ Cert.ShareReference.sig) → Buf (Elt Bits) ℓ) (g : Dev Cert.ShareReference.nD → PrngReg), Pre_ShareReference m →
    θ_run (Cert.ShareReference.defs (F := Bits)) (onTc (τ := Cert.ShareReference.τ) (Cert.ShareReference.main (F := Bits))) ⟨m, fun _ => 0, g⟩ (fun r => (∀ c : Dev Cert.ShareReference.nD,
      r.2.mem ((c.tc : Thread Cert.ShareReference.nD Cert.ShareReference.τ).loc Cert.ShareReference.main_arg0) = m ((c.tc : Thread Cert.ShareReference.nD Cert.ShareReference.τ).loc Cert.ShareReference.main_arg0)
      ∧ r.2.mem ((c.tc : Thread Cert.ShareReference.nD Cert.ShareReference.τ).loc Cert.ShareReference.main_arg1) = m ((c.tc : Thread Cert.ShareReference.nD Cert.ShareReference.τ).loc Cert.ShareReference.main_arg1)
      ∧ r.2.mem ((c.tc : Thread Cert.ShareReference.nD Cert.ShareReference.τ).loc Cert.ShareReference.main_arg2) = m ((c.tc : Thread Cert.ShareReference.nD Cert.ShareReference.τ).loc Cert.ShareReference.main_arg2)
      ∧ r.2.mem ((c.tc : Thread Cert.ShareReference.nD Cert.ShareReference.τ).loc Cert.ShareReference.main_arg3) = m ((c.tc : Thread Cert.ShareReference.nD Cert.ShareReference.τ).loc Cert.ShareReference.main_arg3)
      ∧ r.2.mem ((c.tc : Thread Cert.ShareReference.nD Cert.ShareReference.τ).loc Cert.ShareReference.main_arg4) = m ((c.tc : Thread Cert.ShareReference.nD Cert.ShareReference.τ).loc Cert.ShareReference.main_arg4)
      ∧ r.2.mem ((c.tc : Thread Cert.ShareReference.nD Cert.ShareReference.τ).loc Cert.ShareReference.main_arg5) = m ((c.tc : Thread Cert.ShareReference.nD Cert.ShareReference.τ).loc Cert.ShareReference.main_arg5)
      ∧ r.2.mem ((c.tc : Thread Cert.ShareReference.nD Cert.ShareReference.τ).loc Cert.ShareReference.main_arg6) = m ((c.tc : Thread Cert.ShareReference.nD Cert.ShareReference.τ).loc Cert.ShareReference.main_arg6)
      ∧ r.2.mem ((c.tc : Thread Cert.ShareReference.nD Cert.ShareReference.τ).loc Cert.ShareReference.main_arg7) = m ((c.tc : Thread Cert.ShareReference.nD Cert.ShareReference.τ).loc Cert.ShareReference.main_arg7))
      ∧ r.2.sem = fun _ => 0)

def quiescent_ShareReferenceIdeal [hShareReferenceIdeal : Cert.ShareReferenceIdeal.Facts] : Prop :=
  ∀ (m : (ℓ : Loc Cert.ShareReferenceIdeal.nD Cert.ShareReferenceIdeal.τ Cert.ShareReferenceIdeal.sig) → Buf (Elt Ideal) ℓ) (g : Dev Cert.ShareReferenceIdeal.nD → PrngReg), Pre_ShareReferenceIdeal m →
    θ_run (Cert.ShareReferenceIdeal.defs (F := Ideal)) (onTc (τ := Cert.ShareReferenceIdeal.τ) (Cert.ShareReferenceIdeal.main (F := Ideal))) ⟨m, fun _ => 0, g⟩ (fun r => (∀ c : Dev Cert.ShareReferenceIdeal.nD,
      r.2.mem ((c.tc : Thread Cert.ShareReferenceIdeal.nD Cert.ShareReferenceIdeal.τ).loc Cert.ShareReferenceIdeal.main_arg0) = m ((c.tc : Thread Cert.ShareReferenceIdeal.nD Cert.ShareReferenceIdeal.τ).loc Cert.ShareReferenceIdeal.main_arg0)
      ∧ r.2.mem ((c.tc : Thread Cert.ShareReferenceIdeal.nD Cert.ShareReferenceIdeal.τ).loc Cert.ShareReferenceIdeal.main_arg1) = m ((c.tc : Thread Cert.ShareReferenceIdeal.nD Cert.ShareReferenceIdeal.τ).loc Cert.ShareReferenceIdeal.main_arg1)
      ∧ r.2.mem ((c.tc : Thread Cert.ShareReferenceIdeal.nD Cert.ShareReferenceIdeal.τ).loc Cert.ShareReferenceIdeal.main_arg2) = m ((c.tc : Thread Cert.ShareReferenceIdeal.nD Cert.ShareReferenceIdeal.τ).loc Cert.ShareReferenceIdeal.main_arg2)
      ∧ r.2.mem ((c.tc : Thread Cert.ShareReferenceIdeal.nD Cert.ShareReferenceIdeal.τ).loc Cert.ShareReferenceIdeal.main_arg3) = m ((c.tc : Thread Cert.ShareReferenceIdeal.nD Cert.ShareReferenceIdeal.τ).loc Cert.ShareReferenceIdeal.main_arg3)
      ∧ r.2.mem ((c.tc : Thread Cert.ShareReferenceIdeal.nD Cert.ShareReferenceIdeal.τ).loc Cert.ShareReferenceIdeal.main_arg4) = m ((c.tc : Thread Cert.ShareReferenceIdeal.nD Cert.ShareReferenceIdeal.τ).loc Cert.ShareReferenceIdeal.main_arg4)
      ∧ r.2.mem ((c.tc : Thread Cert.ShareReferenceIdeal.nD Cert.ShareReferenceIdeal.τ).loc Cert.ShareReferenceIdeal.main_arg5) = m ((c.tc : Thread Cert.ShareReferenceIdeal.nD Cert.ShareReferenceIdeal.τ).loc Cert.ShareReferenceIdeal.main_arg5)
      ∧ r.2.mem ((c.tc : Thread Cert.ShareReferenceIdeal.nD Cert.ShareReferenceIdeal.τ).loc Cert.ShareReferenceIdeal.main_arg6) = m ((c.tc : Thread Cert.ShareReferenceIdeal.nD Cert.ShareReferenceIdeal.τ).loc Cert.ShareReferenceIdeal.main_arg6)
      ∧ r.2.mem ((c.tc : Thread Cert.ShareReferenceIdeal.nD Cert.ShareReferenceIdeal.τ).loc Cert.ShareReferenceIdeal.main_arg7) = m ((c.tc : Thread Cert.ShareReferenceIdeal.nD Cert.ShareReferenceIdeal.τ).loc Cert.ShareReferenceIdeal.main_arg7))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1)
      ∧ r.2.mem ((c.tc : Thread Cert.Exchange.nD Cert.Exchange.τ).loc Cert.Exchange.main_arg2) = m ((c.tc : Thread Cert.Exchange.nD Cert.Exchange.τ).loc Cert.Exchange.main_arg2)
      ∧ r.2.mem ((c.tc : Thread Cert.Exchange.nD Cert.Exchange.τ).loc Cert.Exchange.main_arg3) = m ((c.tc : Thread Cert.Exchange.nD Cert.Exchange.τ).loc Cert.Exchange.main_arg3)
      ∧ r.2.mem ((c.tc : Thread Cert.Exchange.nD Cert.Exchange.τ).loc Cert.Exchange.main_arg4) = m ((c.tc : Thread Cert.Exchange.nD Cert.Exchange.τ).loc Cert.Exchange.main_arg4)
      ∧ r.2.mem ((c.tc : Thread Cert.Exchange.nD Cert.Exchange.τ).loc Cert.Exchange.main_arg5) = m ((c.tc : Thread Cert.Exchange.nD Cert.Exchange.τ).loc Cert.Exchange.main_arg5)
      ∧ r.2.mem ((c.tc : Thread Cert.Exchange.nD Cert.Exchange.τ).loc Cert.Exchange.main_arg6) = m ((c.tc : Thread Cert.Exchange.nD Cert.Exchange.τ).loc Cert.Exchange.main_arg6)
      ∧ r.2.mem ((c.tc : Thread Cert.Exchange.nD Cert.Exchange.τ).loc Cert.Exchange.main_arg7) = m ((c.tc : Thread Cert.Exchange.nD Cert.Exchange.τ).loc Cert.Exchange.main_arg7))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
      ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
      ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
      ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
      ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5)
      ∧ r.2.mem ((c.tc : Thread Cert.ExchangeIdeal.nD Cert.ExchangeIdeal.τ).loc Cert.ExchangeIdeal.main_arg6) = m ((c.tc : Thread Cert.ExchangeIdeal.nD Cert.ExchangeIdeal.τ).loc Cert.ExchangeIdeal.main_arg6)
      ∧ r.2.mem ((c.tc : Thread Cert.ExchangeIdeal.nD Cert.ExchangeIdeal.τ).loc Cert.ExchangeIdeal.main_arg7) = m ((c.tc : Thread Cert.ExchangeIdeal.nD Cert.ExchangeIdeal.τ).loc Cert.ExchangeIdeal.main_arg7))
      ∧ r.2.sem = fun _ => 0)

def quiescent_ExchangeReference [hExchangeReference : Cert.ExchangeReference.Facts] : Prop :=
  ∀ (m : (ℓ : Loc Cert.ExchangeReference.nD Cert.ExchangeReference.τ Cert.ExchangeReference.sig) → Buf (Elt Bits) ℓ) (g : Dev Cert.ExchangeReference.nD → PrngReg), Pre_ExchangeReference m →
    θ_run (Cert.ExchangeReference.defs (F := Bits)) (onTc (τ := Cert.ExchangeReference.τ) (Cert.ExchangeReference.main (F := Bits))) ⟨m, fun _ => 0, g⟩ (fun r => (∀ c : Dev Cert.ExchangeReference.nD,
      r.2.mem ((c.tc : Thread Cert.ExchangeReference.nD Cert.ExchangeReference.τ).loc Cert.ExchangeReference.main_arg0) = m ((c.tc : Thread Cert.ExchangeReference.nD Cert.ExchangeReference.τ).loc Cert.ExchangeReference.main_arg0)
      ∧ r.2.mem ((c.tc : Thread Cert.ExchangeReference.nD Cert.ExchangeReference.τ).loc Cert.ExchangeReference.main_arg1) = m ((c.tc : Thread Cert.ExchangeReference.nD Cert.ExchangeReference.τ).loc Cert.ExchangeReference.main_arg1)
      ∧ r.2.mem ((c.tc : Thread Cert.ExchangeReference.nD Cert.ExchangeReference.τ).loc Cert.ExchangeReference.main_arg2) = m ((c.tc : Thread Cert.ExchangeReference.nD Cert.ExchangeReference.τ).loc Cert.ExchangeReference.main_arg2)
      ∧ r.2.mem ((c.tc : Thread Cert.ExchangeReference.nD Cert.ExchangeReference.τ).loc Cert.ExchangeReference.main_arg3) = m ((c.tc : Thread Cert.ExchangeReference.nD Cert.ExchangeReference.τ).loc Cert.ExchangeReference.main_arg3)
      ∧ r.2.mem ((c.tc : Thread Cert.ExchangeReference.nD Cert.ExchangeReference.τ).loc Cert.ExchangeReference.main_arg4) = m ((c.tc : Thread Cert.ExchangeReference.nD Cert.ExchangeReference.τ).loc Cert.ExchangeReference.main_arg4)
      ∧ r.2.mem ((c.tc : Thread Cert.ExchangeReference.nD Cert.ExchangeReference.τ).loc Cert.ExchangeReference.main_arg5) = m ((c.tc : Thread Cert.ExchangeReference.nD Cert.ExchangeReference.τ).loc Cert.ExchangeReference.main_arg5)
      ∧ r.2.mem ((c.tc : Thread Cert.ExchangeReference.nD Cert.ExchangeReference.τ).loc Cert.ExchangeReference.main_arg6) = m ((c.tc : Thread Cert.ExchangeReference.nD Cert.ExchangeReference.τ).loc Cert.ExchangeReference.main_arg6)
      ∧ r.2.mem ((c.tc : Thread Cert.ExchangeReference.nD Cert.ExchangeReference.τ).loc Cert.ExchangeReference.main_arg7) = m ((c.tc : Thread Cert.ExchangeReference.nD Cert.ExchangeReference.τ).loc Cert.ExchangeReference.main_arg7))
      ∧ r.2.sem = fun _ => 0)

def quiescent_ExchangeReferenceIdeal [hExchangeReferenceIdeal : Cert.ExchangeReferenceIdeal.Facts] : Prop :=
  ∀ (m : (ℓ : Loc Cert.ExchangeReferenceIdeal.nD Cert.ExchangeReferenceIdeal.τ Cert.ExchangeReferenceIdeal.sig) → Buf (Elt Ideal) ℓ) (g : Dev Cert.ExchangeReferenceIdeal.nD → PrngReg), Pre_ExchangeReferenceIdeal m →
    θ_run (Cert.ExchangeReferenceIdeal.defs (F := Ideal)) (onTc (τ := Cert.ExchangeReferenceIdeal.τ) (Cert.ExchangeReferenceIdeal.main (F := Ideal))) ⟨m, fun _ => 0, g⟩ (fun r => (∀ c : Dev Cert.ExchangeReferenceIdeal.nD,
      r.2.mem ((c.tc : Thread Cert.ExchangeReferenceIdeal.nD Cert.ExchangeReferenceIdeal.τ).loc Cert.ExchangeReferenceIdeal.main_arg0) = m ((c.tc : Thread Cert.ExchangeReferenceIdeal.nD Cert.ExchangeReferenceIdeal.τ).loc Cert.ExchangeReferenceIdeal.main_arg0)
      ∧ r.2.mem ((c.tc : Thread Cert.ExchangeReferenceIdeal.nD Cert.ExchangeReferenceIdeal.τ).loc Cert.ExchangeReferenceIdeal.main_arg1) = m ((c.tc : Thread Cert.ExchangeReferenceIdeal.nD Cert.ExchangeReferenceIdeal.τ).loc Cert.ExchangeReferenceIdeal.main_arg1)
      ∧ r.2.mem ((c.tc : Thread Cert.ExchangeReferenceIdeal.nD Cert.ExchangeReferenceIdeal.τ).loc Cert.ExchangeReferenceIdeal.main_arg2) = m ((c.tc : Thread Cert.ExchangeReferenceIdeal.nD Cert.ExchangeReferenceIdeal.τ).loc Cert.ExchangeReferenceIdeal.main_arg2)
      ∧ r.2.mem ((c.tc : Thread Cert.ExchangeReferenceIdeal.nD Cert.ExchangeReferenceIdeal.τ).loc Cert.ExchangeReferenceIdeal.main_arg3) = m ((c.tc : Thread Cert.ExchangeReferenceIdeal.nD Cert.ExchangeReferenceIdeal.τ).loc Cert.ExchangeReferenceIdeal.main_arg3)
      ∧ r.2.mem ((c.tc : Thread Cert.ExchangeReferenceIdeal.nD Cert.ExchangeReferenceIdeal.τ).loc Cert.ExchangeReferenceIdeal.main_arg4) = m ((c.tc : Thread Cert.ExchangeReferenceIdeal.nD Cert.ExchangeReferenceIdeal.τ).loc Cert.ExchangeReferenceIdeal.main_arg4)
      ∧ r.2.mem ((c.tc : Thread Cert.ExchangeReferenceIdeal.nD Cert.ExchangeReferenceIdeal.τ).loc Cert.ExchangeReferenceIdeal.main_arg5) = m ((c.tc : Thread Cert.ExchangeReferenceIdeal.nD Cert.ExchangeReferenceIdeal.τ).loc Cert.ExchangeReferenceIdeal.main_arg5)
      ∧ r.2.mem ((c.tc : Thread Cert.ExchangeReferenceIdeal.nD Cert.ExchangeReferenceIdeal.τ).loc Cert.ExchangeReferenceIdeal.main_arg6) = m ((c.tc : Thread Cert.ExchangeReferenceIdeal.nD Cert.ExchangeReferenceIdeal.τ).loc Cert.ExchangeReferenceIdeal.main_arg6)
      ∧ r.2.mem ((c.tc : Thread Cert.ExchangeReferenceIdeal.nD Cert.ExchangeReferenceIdeal.τ).loc Cert.ExchangeReferenceIdeal.main_arg7) = m ((c.tc : Thread Cert.ExchangeReferenceIdeal.nD Cert.ExchangeReferenceIdeal.τ).loc Cert.ExchangeReferenceIdeal.main_arg7))
      ∧ r.2.sem = fun _ => 0)

def quiescent_Halves [hHalves : Cert.Halves.Facts] : Prop :=
  ∀ (m : (ℓ : Loc Cert.Halves.nD Cert.Halves.τ Cert.Halves.sig) → Buf (Elt Bits) ℓ) (g : Dev Cert.Halves.nD → PrngReg), Pre_Halves m →
    θ_run (Cert.Halves.defs (F := Bits)) (onTc (τ := Cert.Halves.τ) (Cert.Halves.main (F := Bits))) ⟨m, fun _ => 0, g⟩ (fun r => (∀ c : Dev Cert.Halves.nD,
      r.2.mem ((c.tc : Thread Cert.Halves.nD Cert.Halves.τ).loc Cert.Halves.main_arg0) = m ((c.tc : Thread Cert.Halves.nD Cert.Halves.τ).loc Cert.Halves.main_arg0)
      ∧ r.2.mem ((c.tc : Thread Cert.Halves.nD Cert.Halves.τ).loc Cert.Halves.main_arg1) = m ((c.tc : Thread Cert.Halves.nD Cert.Halves.τ).loc Cert.Halves.main_arg1)
      ∧ r.2.mem ((c.tc : Thread Cert.Halves.nD Cert.Halves.τ).loc Cert.Halves.main_arg2) = m ((c.tc : Thread Cert.Halves.nD Cert.Halves.τ).loc Cert.Halves.main_arg2)
      ∧ r.2.mem ((c.tc : Thread Cert.Halves.nD Cert.Halves.τ).loc Cert.Halves.main_arg3) = m ((c.tc : Thread Cert.Halves.nD Cert.Halves.τ).loc Cert.Halves.main_arg3)
      ∧ r.2.mem ((c.tc : Thread Cert.Halves.nD Cert.Halves.τ).loc Cert.Halves.main_arg4) = m ((c.tc : Thread Cert.Halves.nD Cert.Halves.τ).loc Cert.Halves.main_arg4)
      ∧ r.2.mem ((c.tc : Thread Cert.Halves.nD Cert.Halves.τ).loc Cert.Halves.main_arg5) = m ((c.tc : Thread Cert.Halves.nD Cert.Halves.τ).loc Cert.Halves.main_arg5)
      ∧ r.2.mem ((c.tc : Thread Cert.Halves.nD Cert.Halves.τ).loc Cert.Halves.main_arg6) = m ((c.tc : Thread Cert.Halves.nD Cert.Halves.τ).loc Cert.Halves.main_arg6)
      ∧ r.2.mem ((c.tc : Thread Cert.Halves.nD Cert.Halves.τ).loc Cert.Halves.main_arg7) = m ((c.tc : Thread Cert.Halves.nD Cert.Halves.τ).loc Cert.Halves.main_arg7))
      ∧ r.2.sem = fun _ => 0)

def quiescent_HalvesIdeal [hHalvesIdeal : Cert.HalvesIdeal.Facts] : Prop :=
  ∀ (m : (ℓ : Loc Cert.HalvesIdeal.nD Cert.HalvesIdeal.τ Cert.HalvesIdeal.sig) → Buf (Elt Ideal) ℓ) (g : Dev Cert.HalvesIdeal.nD → PrngReg), Pre_HalvesIdeal m →
    θ_run (Cert.HalvesIdeal.defs (F := Ideal)) (onTc (τ := Cert.HalvesIdeal.τ) (Cert.HalvesIdeal.main (F := Ideal))) ⟨m, fun _ => 0, g⟩ (fun r => (∀ c : Dev Cert.HalvesIdeal.nD,
      r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
      ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
      ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2)
      ∧ r.2.mem ((c.tc : Thread Cert.HalvesIdeal.nD Cert.HalvesIdeal.τ).loc Cert.HalvesIdeal.main_arg3) = m ((c.tc : Thread Cert.HalvesIdeal.nD Cert.HalvesIdeal.τ).loc Cert.HalvesIdeal.main_arg3)
      ∧ r.2.mem ((c.tc : Thread Cert.HalvesIdeal.nD Cert.HalvesIdeal.τ).loc Cert.HalvesIdeal.main_arg4) = m ((c.tc : Thread Cert.HalvesIdeal.nD Cert.HalvesIdeal.τ).loc Cert.HalvesIdeal.main_arg4)
      ∧ r.2.mem ((c.tc : Thread Cert.HalvesIdeal.nD Cert.HalvesIdeal.τ).loc Cert.HalvesIdeal.main_arg5) = m ((c.tc : Thread Cert.HalvesIdeal.nD Cert.HalvesIdeal.τ).loc Cert.HalvesIdeal.main_arg5)
      ∧ r.2.mem ((c.tc : Thread Cert.HalvesIdeal.nD Cert.HalvesIdeal.τ).loc Cert.HalvesIdeal.main_arg6) = m ((c.tc : Thread Cert.HalvesIdeal.nD Cert.HalvesIdeal.τ).loc Cert.HalvesIdeal.main_arg6)
      ∧ r.2.mem ((c.tc : Thread Cert.HalvesIdeal.nD Cert.HalvesIdeal.τ).loc Cert.HalvesIdeal.main_arg7) = m ((c.tc : Thread Cert.HalvesIdeal.nD Cert.HalvesIdeal.τ).loc Cert.HalvesIdeal.main_arg7))
      ∧ r.2.sem = fun _ => 0)

def quiescent_HalvesReference [hHalvesReference : Cert.HalvesReference.Facts] : Prop :=
  ∀ (m : (ℓ : Loc Cert.HalvesReference.nD Cert.HalvesReference.τ Cert.HalvesReference.sig) → Buf (Elt Bits) ℓ) (g : Dev Cert.HalvesReference.nD → PrngReg), Pre_HalvesReference m →
    θ_run (Cert.HalvesReference.defs (F := Bits)) (onTc (τ := Cert.HalvesReference.τ) (Cert.HalvesReference.main (F := Bits))) ⟨m, fun _ => 0, g⟩ (fun r => (∀ c : Dev Cert.HalvesReference.nD,
      r.2.mem ((c.tc : Thread Cert.HalvesReference.nD Cert.HalvesReference.τ).loc Cert.HalvesReference.main_arg0) = m ((c.tc : Thread Cert.HalvesReference.nD Cert.HalvesReference.τ).loc Cert.HalvesReference.main_arg0)
      ∧ r.2.mem ((c.tc : Thread Cert.HalvesReference.nD Cert.HalvesReference.τ).loc Cert.HalvesReference.main_arg1) = m ((c.tc : Thread Cert.HalvesReference.nD Cert.HalvesReference.τ).loc Cert.HalvesReference.main_arg1)
      ∧ r.2.mem ((c.tc : Thread Cert.HalvesReference.nD Cert.HalvesReference.τ).loc Cert.HalvesReference.main_arg2) = m ((c.tc : Thread Cert.HalvesReference.nD Cert.HalvesReference.τ).loc Cert.HalvesReference.main_arg2)
      ∧ r.2.mem ((c.tc : Thread Cert.HalvesReference.nD Cert.HalvesReference.τ).loc Cert.HalvesReference.main_arg3) = m ((c.tc : Thread Cert.HalvesReference.nD Cert.HalvesReference.τ).loc Cert.HalvesReference.main_arg3)
      ∧ r.2.mem ((c.tc : Thread Cert.HalvesReference.nD Cert.HalvesReference.τ).loc Cert.HalvesReference.main_arg4) = m ((c.tc : Thread Cert.HalvesReference.nD Cert.HalvesReference.τ).loc Cert.HalvesReference.main_arg4)
      ∧ r.2.mem ((c.tc : Thread Cert.HalvesReference.nD Cert.HalvesReference.τ).loc Cert.HalvesReference.main_arg5) = m ((c.tc : Thread Cert.HalvesReference.nD Cert.HalvesReference.τ).loc Cert.HalvesReference.main_arg5)
      ∧ r.2.mem ((c.tc : Thread Cert.HalvesReference.nD Cert.HalvesReference.τ).loc Cert.HalvesReference.main_arg6) = m ((c.tc : Thread Cert.HalvesReference.nD Cert.HalvesReference.τ).loc Cert.HalvesReference.main_arg6)
      ∧ r.2.mem ((c.tc : Thread Cert.HalvesReference.nD Cert.HalvesReference.τ).loc Cert.HalvesReference.main_arg7) = m ((c.tc : Thread Cert.HalvesReference.nD Cert.HalvesReference.τ).loc Cert.HalvesReference.main_arg7))
      ∧ r.2.sem = fun _ => 0)

def quiescent_HalvesReferenceIdeal [hHalvesReferenceIdeal : Cert.HalvesReferenceIdeal.Facts] : Prop :=
  ∀ (m : (ℓ : Loc Cert.HalvesReferenceIdeal.nD Cert.HalvesReferenceIdeal.τ Cert.HalvesReferenceIdeal.sig) → Buf (Elt Ideal) ℓ) (g : Dev Cert.HalvesReferenceIdeal.nD → PrngReg), Pre_HalvesReferenceIdeal m →
    θ_run (Cert.HalvesReferenceIdeal.defs (F := Ideal)) (onTc (τ := Cert.HalvesReferenceIdeal.τ) (Cert.HalvesReferenceIdeal.main (F := Ideal))) ⟨m, fun _ => 0, g⟩ (fun r => (∀ c : Dev Cert.HalvesReferenceIdeal.nD,
      r.2.mem ((c.tc : Thread Cert.HalvesReferenceIdeal.nD Cert.HalvesReferenceIdeal.τ).loc Cert.HalvesReferenceIdeal.main_arg0) = m ((c.tc : Thread Cert.HalvesReferenceIdeal.nD Cert.HalvesReferenceIdeal.τ).loc Cert.HalvesReferenceIdeal.main_arg0)
      ∧ r.2.mem ((c.tc : Thread Cert.HalvesReferenceIdeal.nD Cert.HalvesReferenceIdeal.τ).loc Cert.HalvesReferenceIdeal.main_arg1) = m ((c.tc : Thread Cert.HalvesReferenceIdeal.nD Cert.HalvesReferenceIdeal.τ).loc Cert.HalvesReferenceIdeal.main_arg1)
      ∧ r.2.mem ((c.tc : Thread Cert.HalvesReferenceIdeal.nD Cert.HalvesReferenceIdeal.τ).loc Cert.HalvesReferenceIdeal.main_arg2) = m ((c.tc : Thread Cert.HalvesReferenceIdeal.nD Cert.HalvesReferenceIdeal.τ).loc Cert.HalvesReferenceIdeal.main_arg2)
      ∧ r.2.mem ((c.tc : Thread Cert.HalvesReferenceIdeal.nD Cert.HalvesReferenceIdeal.τ).loc Cert.HalvesReferenceIdeal.main_arg3) = m ((c.tc : Thread Cert.HalvesReferenceIdeal.nD Cert.HalvesReferenceIdeal.τ).loc Cert.HalvesReferenceIdeal.main_arg3)
      ∧ r.2.mem ((c.tc : Thread Cert.HalvesReferenceIdeal.nD Cert.HalvesReferenceIdeal.τ).loc Cert.HalvesReferenceIdeal.main_arg4) = m ((c.tc : Thread Cert.HalvesReferenceIdeal.nD Cert.HalvesReferenceIdeal.τ).loc Cert.HalvesReferenceIdeal.main_arg4)
      ∧ r.2.mem ((c.tc : Thread Cert.HalvesReferenceIdeal.nD Cert.HalvesReferenceIdeal.τ).loc Cert.HalvesReferenceIdeal.main_arg5) = m ((c.tc : Thread Cert.HalvesReferenceIdeal.nD Cert.HalvesReferenceIdeal.τ).loc Cert.HalvesReferenceIdeal.main_arg5)
      ∧ r.2.mem ((c.tc : Thread Cert.HalvesReferenceIdeal.nD Cert.HalvesReferenceIdeal.τ).loc Cert.HalvesReferenceIdeal.main_arg6) = m ((c.tc : Thread Cert.HalvesReferenceIdeal.nD Cert.HalvesReferenceIdeal.τ).loc Cert.HalvesReferenceIdeal.main_arg6)
      ∧ r.2.mem ((c.tc : Thread Cert.HalvesReferenceIdeal.nD Cert.HalvesReferenceIdeal.τ).loc Cert.HalvesReferenceIdeal.main_arg7) = m ((c.tc : Thread Cert.HalvesReferenceIdeal.nD Cert.HalvesReferenceIdeal.τ).loc Cert.HalvesReferenceIdeal.main_arg7))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3)
      ∧ r.2.mem ((c.tc : Thread Cert.Gather.nD Cert.Gather.τ).loc Cert.Gather.main_arg4) = m ((c.tc : Thread Cert.Gather.nD Cert.Gather.τ).loc Cert.Gather.main_arg4)
      ∧ r.2.mem ((c.tc : Thread Cert.Gather.nD Cert.Gather.τ).loc Cert.Gather.main_arg5) = m ((c.tc : Thread Cert.Gather.nD Cert.Gather.τ).loc Cert.Gather.main_arg5)
      ∧ r.2.mem ((c.tc : Thread Cert.Gather.nD Cert.Gather.τ).loc Cert.Gather.main_arg6) = m ((c.tc : Thread Cert.Gather.nD Cert.Gather.τ).loc Cert.Gather.main_arg6)
      ∧ r.2.mem ((c.tc : Thread Cert.Gather.nD Cert.Gather.τ).loc Cert.Gather.main_arg7) = m ((c.tc : Thread Cert.Gather.nD Cert.Gather.τ).loc Cert.Gather.main_arg7)
      ∧ r.2.mem ((c.tc : Thread Cert.Gather.nD Cert.Gather.τ).loc Cert.Gather.main_arg8) = m ((c.tc : Thread Cert.Gather.nD Cert.Gather.τ).loc Cert.Gather.main_arg8))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
      ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
      ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
      ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
      ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
      ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1)
      ∧ r.2.mem ((c.tc : Thread Cert.GatherReference.nD Cert.GatherReference.τ).loc Cert.GatherReference.main_arg2) = m ((c.tc : Thread Cert.GatherReference.nD Cert.GatherReference.τ).loc Cert.GatherReference.main_arg2)
      ∧ r.2.mem ((c.tc : Thread Cert.GatherReference.nD Cert.GatherReference.τ).loc Cert.GatherReference.main_arg3) = m ((c.tc : Thread Cert.GatherReference.nD Cert.GatherReference.τ).loc Cert.GatherReference.main_arg3)
      ∧ r.2.mem ((c.tc : Thread Cert.GatherReference.nD Cert.GatherReference.τ).loc Cert.GatherReference.main_arg4) = m ((c.tc : Thread Cert.GatherReference.nD Cert.GatherReference.τ).loc Cert.GatherReference.main_arg4)
      ∧ r.2.mem ((c.tc : Thread Cert.GatherReference.nD Cert.GatherReference.τ).loc Cert.GatherReference.main_arg5) = m ((c.tc : Thread Cert.GatherReference.nD Cert.GatherReference.τ).loc Cert.GatherReference.main_arg5)
      ∧ r.2.mem ((c.tc : Thread Cert.GatherReference.nD Cert.GatherReference.τ).loc Cert.GatherReference.main_arg6) = m ((c.tc : Thread Cert.GatherReference.nD Cert.GatherReference.τ).loc Cert.GatherReference.main_arg6)
      ∧ r.2.mem ((c.tc : Thread Cert.GatherReference.nD Cert.GatherReference.τ).loc Cert.GatherReference.main_arg7) = m ((c.tc : Thread Cert.GatherReference.nD Cert.GatherReference.τ).loc Cert.GatherReference.main_arg7)
      ∧ r.2.mem ((c.tc : Thread Cert.GatherReference.nD Cert.GatherReference.τ).loc Cert.GatherReference.main_arg8) = m ((c.tc : Thread Cert.GatherReference.nD Cert.GatherReference.τ).loc Cert.GatherReference.main_arg8))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3)
      ∧ r.2.mem ((c.tc : Thread Cert.GatherReferenceIdeal.nD Cert.GatherReferenceIdeal.τ).loc Cert.GatherReferenceIdeal.main_arg4) = m ((c.tc : Thread Cert.GatherReferenceIdeal.nD Cert.GatherReferenceIdeal.τ).loc Cert.GatherReferenceIdeal.main_arg4)
      ∧ r.2.mem ((c.tc : Thread Cert.GatherReferenceIdeal.nD Cert.GatherReferenceIdeal.τ).loc Cert.GatherReferenceIdeal.main_arg5) = m ((c.tc : Thread Cert.GatherReferenceIdeal.nD Cert.GatherReferenceIdeal.τ).loc Cert.GatherReferenceIdeal.main_arg5)
      ∧ r.2.mem ((c.tc : Thread Cert.GatherReferenceIdeal.nD Cert.GatherReferenceIdeal.τ).loc Cert.GatherReferenceIdeal.main_arg6) = m ((c.tc : Thread Cert.GatherReferenceIdeal.nD Cert.GatherReferenceIdeal.τ).loc Cert.GatherReferenceIdeal.main_arg6)
      ∧ r.2.mem ((c.tc : Thread Cert.GatherReferenceIdeal.nD Cert.GatherReferenceIdeal.τ).loc Cert.GatherReferenceIdeal.main_arg7) = m ((c.tc : Thread Cert.GatherReferenceIdeal.nD Cert.GatherReferenceIdeal.τ).loc Cert.GatherReferenceIdeal.main_arg7)
      ∧ r.2.mem ((c.tc : Thread Cert.GatherReferenceIdeal.nD Cert.GatherReferenceIdeal.τ).loc Cert.GatherReferenceIdeal.main_arg8) = m ((c.tc : Thread Cert.GatherReferenceIdeal.nD Cert.GatherReferenceIdeal.τ).loc Cert.GatherReferenceIdeal.main_arg8))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInReference [hAdamwInReference : Cert.AdamwInReference.Facts] : Prop :=
  ∀ (m : (ℓ : Loc Cert.AdamwInReference.nD Cert.AdamwInReference.τ Cert.AdamwInReference.sig) → Buf (Elt Bits) ℓ) (g : Dev Cert.AdamwInReference.nD → PrngReg), Pre_AdamwInReference m →
    θ_run (Cert.AdamwInReference.defs (F := Bits)) (onTc (τ := Cert.AdamwInReference.τ) (Cert.AdamwInReference.main (F := Bits))) ⟨m, fun _ => 0, g⟩ (fun r => (∀ c : Dev Cert.AdamwInReference.nD,
      r.2.mem ((c.tc : Thread Cert.AdamwInReference.nD Cert.AdamwInReference.τ).loc Cert.AdamwInReference.main_arg0) = m ((c.tc : Thread Cert.AdamwInReference.nD Cert.AdamwInReference.τ).loc Cert.AdamwInReference.main_arg0)
      ∧ r.2.mem ((c.tc : Thread Cert.AdamwInReference.nD Cert.AdamwInReference.τ).loc Cert.AdamwInReference.main_arg1) = m ((c.tc : Thread Cert.AdamwInReference.nD Cert.AdamwInReference.τ).loc Cert.AdamwInReference.main_arg1)
      ∧ r.2.mem ((c.tc : Thread Cert.AdamwInReference.nD Cert.AdamwInReference.τ).loc Cert.AdamwInReference.main_arg2) = m ((c.tc : Thread Cert.AdamwInReference.nD Cert.AdamwInReference.τ).loc Cert.AdamwInReference.main_arg2)
      ∧ r.2.mem ((c.tc : Thread Cert.AdamwInReference.nD Cert.AdamwInReference.τ).loc Cert.AdamwInReference.main_arg3) = m ((c.tc : Thread Cert.AdamwInReference.nD Cert.AdamwInReference.τ).loc Cert.AdamwInReference.main_arg3))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3))
      ∧ r.2.sem = fun _ => 0)

def quiescent_AdamwGate [hAdamwGate : Cert.AdamwGate.Facts] : Prop :=
  ∀ (m : (ℓ : Loc Cert.AdamwGate.nD Cert.AdamwGate.τ Cert.AdamwGate.sig) → Buf (Elt Bits) ℓ) (g : Dev Cert.AdamwGate.nD → PrngReg), Pre_AdamwGate m →
    θ_run (Cert.AdamwGate.defs (F := Bits)) (onTc (τ := Cert.AdamwGate.τ) (Cert.AdamwGate.main (F := Bits))) ⟨m, fun _ => 0, g⟩ (fun r => (∀ c : Dev Cert.AdamwGate.nD,
      r.2.mem ((c.tc : Thread Cert.AdamwGate.nD Cert.AdamwGate.τ).loc Cert.AdamwGate.main_arg0) = m ((c.tc : Thread Cert.AdamwGate.nD Cert.AdamwGate.τ).loc Cert.AdamwGate.main_arg0)
      ∧ r.2.mem ((c.tc : Thread Cert.AdamwGate.nD Cert.AdamwGate.τ).loc Cert.AdamwGate.main_arg1) = m ((c.tc : Thread Cert.AdamwGate.nD Cert.AdamwGate.τ).loc Cert.AdamwGate.main_arg1)
      ∧ r.2.mem ((c.tc : Thread Cert.AdamwGate.nD Cert.AdamwGate.τ).loc Cert.AdamwGate.main_arg2) = m ((c.tc : Thread Cert.AdamwGate.nD Cert.AdamwGate.τ).loc Cert.AdamwGate.main_arg2)
      ∧ r.2.mem ((c.tc : Thread Cert.AdamwGate.nD Cert.AdamwGate.τ).loc Cert.AdamwGate.main_arg3) = m ((c.tc : Thread Cert.AdamwGate.nD Cert.AdamwGate.τ).loc Cert.AdamwGate.main_arg3))
      ∧ r.2.sem = fun _ => 0)

def quiescent_AdamwGateIdeal [hAdamwGateIdeal : Cert.AdamwGateIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg), Pre_AdamwGateIdeal m →
    θ_run (Cert.AdamwGateIdeal.defs (F := Ideal)) (onTc (τ := Cert.AdamwGateIdeal.τ) (Cert.AdamwGateIdeal.main (F := Ideal))) ⟨m, fun _ => 0, g⟩ (fun r => (∀ c : Dev Cert.AdamwGateIdeal.nD,
      r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
      ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
      ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
      ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3))
      ∧ r.2.sem = fun _ => 0)

def quiescent_AdamwGateReference [hAdamwGateReference : Cert.AdamwGateReference.Facts] : Prop :=
  ∀ (m : (ℓ : Loc Cert.AdamwGateReference.nD Cert.AdamwGateReference.τ Cert.AdamwGateReference.sig) → Buf (Elt Bits) ℓ) (g : Dev Cert.AdamwGateReference.nD → PrngReg), Pre_AdamwGateReference m →
    θ_run (Cert.AdamwGateReference.defs (F := Bits)) (onTc (τ := Cert.AdamwGateReference.τ) (Cert.AdamwGateReference.main (F := Bits))) ⟨m, fun _ => 0, g⟩ (fun r => (∀ c : Dev Cert.AdamwGateReference.nD,
      r.2.mem ((c.tc : Thread Cert.AdamwGateReference.nD Cert.AdamwGateReference.τ).loc Cert.AdamwGateReference.main_arg0) = m ((c.tc : Thread Cert.AdamwGateReference.nD Cert.AdamwGateReference.τ).loc Cert.AdamwGateReference.main_arg0)
      ∧ r.2.mem ((c.tc : Thread Cert.AdamwGateReference.nD Cert.AdamwGateReference.τ).loc Cert.AdamwGateReference.main_arg1) = m ((c.tc : Thread Cert.AdamwGateReference.nD Cert.AdamwGateReference.τ).loc Cert.AdamwGateReference.main_arg1)
      ∧ r.2.mem ((c.tc : Thread Cert.AdamwGateReference.nD Cert.AdamwGateReference.τ).loc Cert.AdamwGateReference.main_arg2) = m ((c.tc : Thread Cert.AdamwGateReference.nD Cert.AdamwGateReference.τ).loc Cert.AdamwGateReference.main_arg2)
      ∧ r.2.mem ((c.tc : Thread Cert.AdamwGateReference.nD Cert.AdamwGateReference.τ).loc Cert.AdamwGateReference.main_arg3) = m ((c.tc : Thread Cert.AdamwGateReference.nD Cert.AdamwGateReference.τ).loc Cert.AdamwGateReference.main_arg3))
      ∧ r.2.sem = fun _ => 0)

def quiescent_AdamwGateReferenceIdeal [hAdamwGateReferenceIdeal : Cert.AdamwGateReferenceIdeal.Facts] : Prop :=
  ∀ (m : (ℓ : Loc Cert.AdamwGateReferenceIdeal.nD Cert.AdamwGateReferenceIdeal.τ Cert.AdamwGateReferenceIdeal.sig) → Buf (Elt Ideal) ℓ) (g : Dev Cert.AdamwGateReferenceIdeal.nD → PrngReg), Pre_AdamwGateReferenceIdeal m →
    θ_run (Cert.AdamwGateReferenceIdeal.defs (F := Ideal)) (onTc (τ := Cert.AdamwGateReferenceIdeal.τ) (Cert.AdamwGateReferenceIdeal.main (F := Ideal))) ⟨m, fun _ => 0, g⟩ (fun r => (∀ c : Dev Cert.AdamwGateReferenceIdeal.nD,
      r.2.mem ((c.tc : Thread Cert.AdamwGateReferenceIdeal.nD Cert.AdamwGateReferenceIdeal.τ).loc Cert.AdamwGateReferenceIdeal.main_arg0) = m ((c.tc : Thread Cert.AdamwGateReferenceIdeal.nD Cert.AdamwGateReferenceIdeal.τ).loc Cert.AdamwGateReferenceIdeal.main_arg0)
      ∧ r.2.mem ((c.tc : Thread Cert.AdamwGateReferenceIdeal.nD Cert.AdamwGateReferenceIdeal.τ).loc Cert.AdamwGateReferenceIdeal.main_arg1) = m ((c.tc : Thread Cert.AdamwGateReferenceIdeal.nD Cert.AdamwGateReferenceIdeal.τ).loc Cert.AdamwGateReferenceIdeal.main_arg1)
      ∧ r.2.mem ((c.tc : Thread Cert.AdamwGateReferenceIdeal.nD Cert.AdamwGateReferenceIdeal.τ).loc Cert.AdamwGateReferenceIdeal.main_arg2) = m ((c.tc : Thread Cert.AdamwGateReferenceIdeal.nD Cert.AdamwGateReferenceIdeal.τ).loc Cert.AdamwGateReferenceIdeal.main_arg2)
      ∧ r.2.mem ((c.tc : Thread Cert.AdamwGateReferenceIdeal.nD Cert.AdamwGateReferenceIdeal.τ).loc Cert.AdamwGateReferenceIdeal.main_arg3) = m ((c.tc : Thread Cert.AdamwGateReferenceIdeal.nD Cert.AdamwGateReferenceIdeal.τ).loc Cert.AdamwGateReferenceIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutReference [hAdamwOutReference : Cert.AdamwOutReference.Facts] : Prop :=
  ∀ (m : (ℓ : Loc Cert.AdamwOutReference.nD Cert.AdamwOutReference.τ Cert.AdamwOutReference.sig) → Buf (Elt Bits) ℓ) (g : Dev Cert.AdamwOutReference.nD → PrngReg), Pre_AdamwOutReference m →
    θ_run (Cert.AdamwOutReference.defs (F := Bits)) (onTc (τ := Cert.AdamwOutReference.τ) (Cert.AdamwOutReference.main (F := Bits))) ⟨m, fun _ => 0, g⟩ (fun r => (∀ c : Dev Cert.AdamwOutReference.nD,
      r.2.mem ((c.tc : Thread Cert.AdamwOutReference.nD Cert.AdamwOutReference.τ).loc Cert.AdamwOutReference.main_arg0) = m ((c.tc : Thread Cert.AdamwOutReference.nD Cert.AdamwOutReference.τ).loc Cert.AdamwOutReference.main_arg0)
      ∧ r.2.mem ((c.tc : Thread Cert.AdamwOutReference.nD Cert.AdamwOutReference.τ).loc Cert.AdamwOutReference.main_arg1) = m ((c.tc : Thread Cert.AdamwOutReference.nD Cert.AdamwOutReference.τ).loc Cert.AdamwOutReference.main_arg1)
      ∧ r.2.mem ((c.tc : Thread Cert.AdamwOutReference.nD Cert.AdamwOutReference.τ).loc Cert.AdamwOutReference.main_arg2) = m ((c.tc : Thread Cert.AdamwOutReference.nD Cert.AdamwOutReference.τ).loc Cert.AdamwOutReference.main_arg2)
      ∧ r.2.mem ((c.tc : Thread Cert.AdamwOutReference.nD Cert.AdamwOutReference.τ).loc Cert.AdamwOutReference.main_arg3) = m ((c.tc : Thread Cert.AdamwOutReference.nD Cert.AdamwOutReference.τ).loc Cert.AdamwOutReference.main_arg3))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ r.2.sem = fun _ => 0)

def quiescent_AdamwUpReference [hAdamwUpReference : Cert.AdamwUpReference.Facts] : Prop :=
  ∀ (m : (ℓ : Loc Cert.AdamwUpReference.nD Cert.AdamwUpReference.τ Cert.AdamwUpReference.sig) → Buf (Elt Bits) ℓ) (g : Dev Cert.AdamwUpReference.nD → PrngReg), Pre_AdamwUpReference m →
    θ_run (Cert.AdamwUpReference.defs (F := Bits)) (onTc (τ := Cert.AdamwUpReference.τ) (Cert.AdamwUpReference.main (F := Bits))) ⟨m, fun _ => 0, g⟩ (fun r => (∀ c : Dev Cert.AdamwUpReference.nD,
      r.2.mem ((c.tc : Thread Cert.AdamwUpReference.nD Cert.AdamwUpReference.τ).loc Cert.AdamwUpReference.main_arg0) = m ((c.tc : Thread Cert.AdamwUpReference.nD Cert.AdamwUpReference.τ).loc Cert.AdamwUpReference.main_arg0)
      ∧ r.2.mem ((c.tc : Thread Cert.AdamwUpReference.nD Cert.AdamwUpReference.τ).loc Cert.AdamwUpReference.main_arg1) = m ((c.tc : Thread Cert.AdamwUpReference.nD Cert.AdamwUpReference.τ).loc Cert.AdamwUpReference.main_arg1)
      ∧ r.2.mem ((c.tc : Thread Cert.AdamwUpReference.nD Cert.AdamwUpReference.τ).loc Cert.AdamwUpReference.main_arg2) = m ((c.tc : Thread Cert.AdamwUpReference.nD Cert.AdamwUpReference.τ).loc Cert.AdamwUpReference.main_arg2)
      ∧ r.2.mem ((c.tc : Thread Cert.AdamwUpReference.nD Cert.AdamwUpReference.τ).loc Cert.AdamwUpReference.main_arg3) = m ((c.tc : Thread Cert.AdamwUpReference.nD Cert.AdamwUpReference.τ).loc Cert.AdamwUpReference.main_arg3))
      ∧ r.2.sem = fun _ => 0)

def quiescent_AdamwUpReferenceIdeal [hAdamwUpReferenceIdeal : Cert.AdamwUpReferenceIdeal.Facts] : Prop :=
  ∀ (m : (ℓ : Loc Cert.AdamwUpReferenceIdeal.nD Cert.AdamwUpReferenceIdeal.τ Cert.AdamwUpReferenceIdeal.sig) → Buf (Elt Ideal) ℓ) (g : Dev Cert.AdamwUpReferenceIdeal.nD → PrngReg), Pre_AdamwUpReferenceIdeal m →
    θ_run (Cert.AdamwUpReferenceIdeal.defs (F := Ideal)) (onTc (τ := Cert.AdamwUpReferenceIdeal.τ) (Cert.AdamwUpReferenceIdeal.main (F := Ideal))) ⟨m, fun _ => 0, g⟩ (fun r => (∀ c : Dev Cert.AdamwUpReferenceIdeal.nD,
      r.2.mem ((c.tc : Thread Cert.AdamwUpReferenceIdeal.nD Cert.AdamwUpReferenceIdeal.τ).loc Cert.AdamwUpReferenceIdeal.main_arg0) = m ((c.tc : Thread Cert.AdamwUpReferenceIdeal.nD Cert.AdamwUpReferenceIdeal.τ).loc Cert.AdamwUpReferenceIdeal.main_arg0)
      ∧ r.2.mem ((c.tc : Thread Cert.AdamwUpReferenceIdeal.nD Cert.AdamwUpReferenceIdeal.τ).loc Cert.AdamwUpReferenceIdeal.main_arg1) = m ((c.tc : Thread Cert.AdamwUpReferenceIdeal.nD Cert.AdamwUpReferenceIdeal.τ).loc Cert.AdamwUpReferenceIdeal.main_arg1)
      ∧ r.2.mem ((c.tc : Thread Cert.AdamwUpReferenceIdeal.nD Cert.AdamwUpReferenceIdeal.τ).loc Cert.AdamwUpReferenceIdeal.main_arg2) = m ((c.tc : Thread Cert.AdamwUpReferenceIdeal.nD Cert.AdamwUpReferenceIdeal.τ).loc Cert.AdamwUpReferenceIdeal.main_arg2)
      ∧ r.2.mem ((c.tc : Thread Cert.AdamwUpReferenceIdeal.nD Cert.AdamwUpReferenceIdeal.τ).loc Cert.AdamwUpReferenceIdeal.main_arg3) = m ((c.tc : Thread Cert.AdamwUpReferenceIdeal.nD Cert.AdamwUpReferenceIdeal.τ).loc Cert.AdamwUpReferenceIdeal.main_arg3))
      ∧ r.2.sem = fun _ => 0)

def quiescent_SmallFirst [hSmallFirst : Cert.SmallFirst.Facts] : Prop :=
  ∀ (m : (ℓ : Loc Cert.SmallFirst.nD Cert.SmallFirst.τ Cert.SmallFirst.sig) → Buf (Elt Bits) ℓ) (g : Dev Cert.SmallFirst.nD → PrngReg), Pre_SmallFirst m →
    θ_run (Cert.SmallFirst.defs (F := Bits)) (onTc (τ := Cert.SmallFirst.τ) (Cert.SmallFirst.main (F := Bits))) ⟨m, fun _ => 0, g⟩ (fun r => (∀ c : Dev Cert.SmallFirst.nD,
      r.2.mem ((c.tc : Thread Cert.SmallFirst.nD Cert.SmallFirst.τ).loc Cert.SmallFirst.main_arg0) = m ((c.tc : Thread Cert.SmallFirst.nD Cert.SmallFirst.τ).loc Cert.SmallFirst.main_arg0)
      ∧ r.2.mem ((c.tc : Thread Cert.SmallFirst.nD Cert.SmallFirst.τ).loc Cert.SmallFirst.main_arg1) = m ((c.tc : Thread Cert.SmallFirst.nD Cert.SmallFirst.τ).loc Cert.SmallFirst.main_arg1)
      ∧ r.2.mem ((c.tc : Thread Cert.SmallFirst.nD Cert.SmallFirst.τ).loc Cert.SmallFirst.main_arg2) = m ((c.tc : Thread Cert.SmallFirst.nD Cert.SmallFirst.τ).loc Cert.SmallFirst.main_arg2)
      ∧ r.2.mem ((c.tc : Thread Cert.SmallFirst.nD Cert.SmallFirst.τ).loc Cert.SmallFirst.main_arg3) = m ((c.tc : Thread Cert.SmallFirst.nD Cert.SmallFirst.τ).loc Cert.SmallFirst.main_arg3)
      ∧ r.2.mem ((c.tc : Thread Cert.SmallFirst.nD Cert.SmallFirst.τ).loc Cert.SmallFirst.main_arg4) = m ((c.tc : Thread Cert.SmallFirst.nD Cert.SmallFirst.τ).loc Cert.SmallFirst.main_arg4)
      ∧ r.2.mem ((c.tc : Thread Cert.SmallFirst.nD Cert.SmallFirst.τ).loc Cert.SmallFirst.main_arg5) = m ((c.tc : Thread Cert.SmallFirst.nD Cert.SmallFirst.τ).loc Cert.SmallFirst.main_arg5)
      ∧ r.2.mem ((c.tc : Thread Cert.SmallFirst.nD Cert.SmallFirst.τ).loc Cert.SmallFirst.main_arg6) = m ((c.tc : Thread Cert.SmallFirst.nD Cert.SmallFirst.τ).loc Cert.SmallFirst.main_arg6)
      ∧ r.2.mem ((c.tc : Thread Cert.SmallFirst.nD Cert.SmallFirst.τ).loc Cert.SmallFirst.main_arg7) = m ((c.tc : Thread Cert.SmallFirst.nD Cert.SmallFirst.τ).loc Cert.SmallFirst.main_arg7)
      ∧ r.2.mem ((c.tc : Thread Cert.SmallFirst.nD Cert.SmallFirst.τ).loc Cert.SmallFirst.main_arg8) = m ((c.tc : Thread Cert.SmallFirst.nD Cert.SmallFirst.τ).loc Cert.SmallFirst.main_arg8)
      ∧ r.2.mem ((c.tc : Thread Cert.SmallFirst.nD Cert.SmallFirst.τ).loc Cert.SmallFirst.main_arg9) = m ((c.tc : Thread Cert.SmallFirst.nD Cert.SmallFirst.τ).loc Cert.SmallFirst.main_arg9)
      ∧ r.2.mem ((c.tc : Thread Cert.SmallFirst.nD Cert.SmallFirst.τ).loc Cert.SmallFirst.main_arg10) = m ((c.tc : Thread Cert.SmallFirst.nD Cert.SmallFirst.τ).loc Cert.SmallFirst.main_arg10)
      ∧ r.2.mem ((c.tc : Thread Cert.SmallFirst.nD Cert.SmallFirst.τ).loc Cert.SmallFirst.main_arg11) = m ((c.tc : Thread Cert.SmallFirst.nD Cert.SmallFirst.τ).loc Cert.SmallFirst.main_arg11)
      ∧ r.2.mem ((c.tc : Thread Cert.SmallFirst.nD Cert.SmallFirst.τ).loc Cert.SmallFirst.main_arg12) = m ((c.tc : Thread Cert.SmallFirst.nD Cert.SmallFirst.τ).loc Cert.SmallFirst.main_arg12)
      ∧ r.2.mem ((c.tc : Thread Cert.SmallFirst.nD Cert.SmallFirst.τ).loc Cert.SmallFirst.main_arg13) = m ((c.tc : Thread Cert.SmallFirst.nD Cert.SmallFirst.τ).loc Cert.SmallFirst.main_arg13)
      ∧ r.2.mem ((c.tc : Thread Cert.SmallFirst.nD Cert.SmallFirst.τ).loc Cert.SmallFirst.main_arg14) = m ((c.tc : Thread Cert.SmallFirst.nD Cert.SmallFirst.τ).loc Cert.SmallFirst.main_arg14)
      ∧ r.2.mem ((c.tc : Thread Cert.SmallFirst.nD Cert.SmallFirst.τ).loc Cert.SmallFirst.main_arg15) = m ((c.tc : Thread Cert.SmallFirst.nD Cert.SmallFirst.τ).loc Cert.SmallFirst.main_arg15))
      ∧ r.2.sem = fun _ => 0)

def quiescent_SmallFirstIdeal [hSmallFirstIdeal : Cert.SmallFirstIdeal.Facts] : Prop :=
  ∀ (m : (ℓ : Loc Cert.SmallFirstIdeal.nD Cert.SmallFirstIdeal.τ Cert.SmallFirstIdeal.sig) → Buf (Elt Ideal) ℓ) (g : Dev Cert.SmallFirstIdeal.nD → PrngReg), Pre_SmallFirstIdeal m →
    θ_run (Cert.SmallFirstIdeal.defs (F := Ideal)) (onTc (τ := Cert.SmallFirstIdeal.τ) (Cert.SmallFirstIdeal.main (F := Ideal))) ⟨m, fun _ => 0, g⟩ (fun r => (∀ c : Dev Cert.SmallFirstIdeal.nD,
      r.2.mem ((c.tc : Thread Cert.SmallFirstIdeal.nD Cert.SmallFirstIdeal.τ).loc Cert.SmallFirstIdeal.main_arg0) = m ((c.tc : Thread Cert.SmallFirstIdeal.nD Cert.SmallFirstIdeal.τ).loc Cert.SmallFirstIdeal.main_arg0)
      ∧ r.2.mem ((c.tc : Thread Cert.SmallFirstIdeal.nD Cert.SmallFirstIdeal.τ).loc Cert.SmallFirstIdeal.main_arg1) = m ((c.tc : Thread Cert.SmallFirstIdeal.nD Cert.SmallFirstIdeal.τ).loc Cert.SmallFirstIdeal.main_arg1)
      ∧ r.2.mem ((c.tc : Thread Cert.SmallFirstIdeal.nD Cert.SmallFirstIdeal.τ).loc Cert.SmallFirstIdeal.main_arg2) = m ((c.tc : Thread Cert.SmallFirstIdeal.nD Cert.SmallFirstIdeal.τ).loc Cert.SmallFirstIdeal.main_arg2)
      ∧ r.2.mem ((c.tc : Thread Cert.SmallFirstIdeal.nD Cert.SmallFirstIdeal.τ).loc Cert.SmallFirstIdeal.main_arg3) = m ((c.tc : Thread Cert.SmallFirstIdeal.nD Cert.SmallFirstIdeal.τ).loc Cert.SmallFirstIdeal.main_arg3)
      ∧ r.2.mem ((c.tc : Thread Cert.SmallFirstIdeal.nD Cert.SmallFirstIdeal.τ).loc Cert.SmallFirstIdeal.main_arg4) = m ((c.tc : Thread Cert.SmallFirstIdeal.nD Cert.SmallFirstIdeal.τ).loc Cert.SmallFirstIdeal.main_arg4)
      ∧ r.2.mem ((c.tc : Thread Cert.SmallFirstIdeal.nD Cert.SmallFirstIdeal.τ).loc Cert.SmallFirstIdeal.main_arg5) = m ((c.tc : Thread Cert.SmallFirstIdeal.nD Cert.SmallFirstIdeal.τ).loc Cert.SmallFirstIdeal.main_arg5)
      ∧ r.2.mem ((c.tc : Thread Cert.SmallFirstIdeal.nD Cert.SmallFirstIdeal.τ).loc Cert.SmallFirstIdeal.main_arg6) = m ((c.tc : Thread Cert.SmallFirstIdeal.nD Cert.SmallFirstIdeal.τ).loc Cert.SmallFirstIdeal.main_arg6)
      ∧ r.2.mem ((c.tc : Thread Cert.SmallFirstIdeal.nD Cert.SmallFirstIdeal.τ).loc Cert.SmallFirstIdeal.main_arg7) = m ((c.tc : Thread Cert.SmallFirstIdeal.nD Cert.SmallFirstIdeal.τ).loc Cert.SmallFirstIdeal.main_arg7)
      ∧ r.2.mem ((c.tc : Thread Cert.SmallFirstIdeal.nD Cert.SmallFirstIdeal.τ).loc Cert.SmallFirstIdeal.main_arg8) = m ((c.tc : Thread Cert.SmallFirstIdeal.nD Cert.SmallFirstIdeal.τ).loc Cert.SmallFirstIdeal.main_arg8)
      ∧ r.2.mem ((c.tc : Thread Cert.SmallFirstIdeal.nD Cert.SmallFirstIdeal.τ).loc Cert.SmallFirstIdeal.main_arg9) = m ((c.tc : Thread Cert.SmallFirstIdeal.nD Cert.SmallFirstIdeal.τ).loc Cert.SmallFirstIdeal.main_arg9)
      ∧ r.2.mem ((c.tc : Thread Cert.SmallFirstIdeal.nD Cert.SmallFirstIdeal.τ).loc Cert.SmallFirstIdeal.main_arg10) = m ((c.tc : Thread Cert.SmallFirstIdeal.nD Cert.SmallFirstIdeal.τ).loc Cert.SmallFirstIdeal.main_arg10)
      ∧ r.2.mem ((c.tc : Thread Cert.SmallFirstIdeal.nD Cert.SmallFirstIdeal.τ).loc Cert.SmallFirstIdeal.main_arg11) = m ((c.tc : Thread Cert.SmallFirstIdeal.nD Cert.SmallFirstIdeal.τ).loc Cert.SmallFirstIdeal.main_arg11)
      ∧ r.2.mem ((c.tc : Thread Cert.SmallFirstIdeal.nD Cert.SmallFirstIdeal.τ).loc Cert.SmallFirstIdeal.main_arg12) = m ((c.tc : Thread Cert.SmallFirstIdeal.nD Cert.SmallFirstIdeal.τ).loc Cert.SmallFirstIdeal.main_arg12)
      ∧ r.2.mem ((c.tc : Thread Cert.SmallFirstIdeal.nD Cert.SmallFirstIdeal.τ).loc Cert.SmallFirstIdeal.main_arg13) = m ((c.tc : Thread Cert.SmallFirstIdeal.nD Cert.SmallFirstIdeal.τ).loc Cert.SmallFirstIdeal.main_arg13)
      ∧ r.2.mem ((c.tc : Thread Cert.SmallFirstIdeal.nD Cert.SmallFirstIdeal.τ).loc Cert.SmallFirstIdeal.main_arg14) = m ((c.tc : Thread Cert.SmallFirstIdeal.nD Cert.SmallFirstIdeal.τ).loc Cert.SmallFirstIdeal.main_arg14)
      ∧ r.2.mem ((c.tc : Thread Cert.SmallFirstIdeal.nD Cert.SmallFirstIdeal.τ).loc Cert.SmallFirstIdeal.main_arg15) = m ((c.tc : Thread Cert.SmallFirstIdeal.nD Cert.SmallFirstIdeal.τ).loc Cert.SmallFirstIdeal.main_arg15))
      ∧ r.2.sem = fun _ => 0)

def quiescent_SmallFirstReference [hSmallFirstReference : Cert.SmallFirstReference.Facts] : Prop :=
  ∀ (m : (ℓ : Loc Cert.SmallFirstReference.nD Cert.SmallFirstReference.τ Cert.SmallFirstReference.sig) → Buf (Elt Bits) ℓ) (g : Dev Cert.SmallFirstReference.nD → PrngReg), Pre_SmallFirstReference m →
    θ_run (Cert.SmallFirstReference.defs (F := Bits)) (onTc (τ := Cert.SmallFirstReference.τ) (Cert.SmallFirstReference.main (F := Bits))) ⟨m, fun _ => 0, g⟩ (fun r => (∀ c : Dev Cert.SmallFirstReference.nD,
      r.2.mem ((c.tc : Thread Cert.SmallFirstReference.nD Cert.SmallFirstReference.τ).loc Cert.SmallFirstReference.main_arg0) = m ((c.tc : Thread Cert.SmallFirstReference.nD Cert.SmallFirstReference.τ).loc Cert.SmallFirstReference.main_arg0)
      ∧ r.2.mem ((c.tc : Thread Cert.SmallFirstReference.nD Cert.SmallFirstReference.τ).loc Cert.SmallFirstReference.main_arg1) = m ((c.tc : Thread Cert.SmallFirstReference.nD Cert.SmallFirstReference.τ).loc Cert.SmallFirstReference.main_arg1)
      ∧ r.2.mem ((c.tc : Thread Cert.SmallFirstReference.nD Cert.SmallFirstReference.τ).loc Cert.SmallFirstReference.main_arg2) = m ((c.tc : Thread Cert.SmallFirstReference.nD Cert.SmallFirstReference.τ).loc Cert.SmallFirstReference.main_arg2)
      ∧ r.2.mem ((c.tc : Thread Cert.SmallFirstReference.nD Cert.SmallFirstReference.τ).loc Cert.SmallFirstReference.main_arg3) = m ((c.tc : Thread Cert.SmallFirstReference.nD Cert.SmallFirstReference.τ).loc Cert.SmallFirstReference.main_arg3)
      ∧ r.2.mem ((c.tc : Thread Cert.SmallFirstReference.nD Cert.SmallFirstReference.τ).loc Cert.SmallFirstReference.main_arg4) = m ((c.tc : Thread Cert.SmallFirstReference.nD Cert.SmallFirstReference.τ).loc Cert.SmallFirstReference.main_arg4)
      ∧ r.2.mem ((c.tc : Thread Cert.SmallFirstReference.nD Cert.SmallFirstReference.τ).loc Cert.SmallFirstReference.main_arg5) = m ((c.tc : Thread Cert.SmallFirstReference.nD Cert.SmallFirstReference.τ).loc Cert.SmallFirstReference.main_arg5)
      ∧ r.2.mem ((c.tc : Thread Cert.SmallFirstReference.nD Cert.SmallFirstReference.τ).loc Cert.SmallFirstReference.main_arg6) = m ((c.tc : Thread Cert.SmallFirstReference.nD Cert.SmallFirstReference.τ).loc Cert.SmallFirstReference.main_arg6)
      ∧ r.2.mem ((c.tc : Thread Cert.SmallFirstReference.nD Cert.SmallFirstReference.τ).loc Cert.SmallFirstReference.main_arg7) = m ((c.tc : Thread Cert.SmallFirstReference.nD Cert.SmallFirstReference.τ).loc Cert.SmallFirstReference.main_arg7)
      ∧ r.2.mem ((c.tc : Thread Cert.SmallFirstReference.nD Cert.SmallFirstReference.τ).loc Cert.SmallFirstReference.main_arg8) = m ((c.tc : Thread Cert.SmallFirstReference.nD Cert.SmallFirstReference.τ).loc Cert.SmallFirstReference.main_arg8)
      ∧ r.2.mem ((c.tc : Thread Cert.SmallFirstReference.nD Cert.SmallFirstReference.τ).loc Cert.SmallFirstReference.main_arg9) = m ((c.tc : Thread Cert.SmallFirstReference.nD Cert.SmallFirstReference.τ).loc Cert.SmallFirstReference.main_arg9)
      ∧ r.2.mem ((c.tc : Thread Cert.SmallFirstReference.nD Cert.SmallFirstReference.τ).loc Cert.SmallFirstReference.main_arg10) = m ((c.tc : Thread Cert.SmallFirstReference.nD Cert.SmallFirstReference.τ).loc Cert.SmallFirstReference.main_arg10)
      ∧ r.2.mem ((c.tc : Thread Cert.SmallFirstReference.nD Cert.SmallFirstReference.τ).loc Cert.SmallFirstReference.main_arg11) = m ((c.tc : Thread Cert.SmallFirstReference.nD Cert.SmallFirstReference.τ).loc Cert.SmallFirstReference.main_arg11)
      ∧ r.2.mem ((c.tc : Thread Cert.SmallFirstReference.nD Cert.SmallFirstReference.τ).loc Cert.SmallFirstReference.main_arg12) = m ((c.tc : Thread Cert.SmallFirstReference.nD Cert.SmallFirstReference.τ).loc Cert.SmallFirstReference.main_arg12)
      ∧ r.2.mem ((c.tc : Thread Cert.SmallFirstReference.nD Cert.SmallFirstReference.τ).loc Cert.SmallFirstReference.main_arg13) = m ((c.tc : Thread Cert.SmallFirstReference.nD Cert.SmallFirstReference.τ).loc Cert.SmallFirstReference.main_arg13)
      ∧ r.2.mem ((c.tc : Thread Cert.SmallFirstReference.nD Cert.SmallFirstReference.τ).loc Cert.SmallFirstReference.main_arg14) = m ((c.tc : Thread Cert.SmallFirstReference.nD Cert.SmallFirstReference.τ).loc Cert.SmallFirstReference.main_arg14)
      ∧ r.2.mem ((c.tc : Thread Cert.SmallFirstReference.nD Cert.SmallFirstReference.τ).loc Cert.SmallFirstReference.main_arg15) = m ((c.tc : Thread Cert.SmallFirstReference.nD Cert.SmallFirstReference.τ).loc Cert.SmallFirstReference.main_arg15))
      ∧ r.2.sem = fun _ => 0)

def quiescent_SmallFirstReferenceIdeal [hSmallFirstReferenceIdeal : Cert.SmallFirstReferenceIdeal.Facts] : Prop :=
  ∀ (m : (ℓ : Loc Cert.SmallFirstReferenceIdeal.nD Cert.SmallFirstReferenceIdeal.τ Cert.SmallFirstReferenceIdeal.sig) → Buf (Elt Ideal) ℓ) (g : Dev Cert.SmallFirstReferenceIdeal.nD → PrngReg), Pre_SmallFirstReferenceIdeal m →
    θ_run (Cert.SmallFirstReferenceIdeal.defs (F := Ideal)) (onTc (τ := Cert.SmallFirstReferenceIdeal.τ) (Cert.SmallFirstReferenceIdeal.main (F := Ideal))) ⟨m, fun _ => 0, g⟩ (fun r => (∀ c : Dev Cert.SmallFirstReferenceIdeal.nD,
      r.2.mem ((c.tc : Thread Cert.SmallFirstReferenceIdeal.nD Cert.SmallFirstReferenceIdeal.τ).loc Cert.SmallFirstReferenceIdeal.main_arg0) = m ((c.tc : Thread Cert.SmallFirstReferenceIdeal.nD Cert.SmallFirstReferenceIdeal.τ).loc Cert.SmallFirstReferenceIdeal.main_arg0)
      ∧ r.2.mem ((c.tc : Thread Cert.SmallFirstReferenceIdeal.nD Cert.SmallFirstReferenceIdeal.τ).loc Cert.SmallFirstReferenceIdeal.main_arg1) = m ((c.tc : Thread Cert.SmallFirstReferenceIdeal.nD Cert.SmallFirstReferenceIdeal.τ).loc Cert.SmallFirstReferenceIdeal.main_arg1)
      ∧ r.2.mem ((c.tc : Thread Cert.SmallFirstReferenceIdeal.nD Cert.SmallFirstReferenceIdeal.τ).loc Cert.SmallFirstReferenceIdeal.main_arg2) = m ((c.tc : Thread Cert.SmallFirstReferenceIdeal.nD Cert.SmallFirstReferenceIdeal.τ).loc Cert.SmallFirstReferenceIdeal.main_arg2)
      ∧ r.2.mem ((c.tc : Thread Cert.SmallFirstReferenceIdeal.nD Cert.SmallFirstReferenceIdeal.τ).loc Cert.SmallFirstReferenceIdeal.main_arg3) = m ((c.tc : Thread Cert.SmallFirstReferenceIdeal.nD Cert.SmallFirstReferenceIdeal.τ).loc Cert.SmallFirstReferenceIdeal.main_arg3)
      ∧ r.2.mem ((c.tc : Thread Cert.SmallFirstReferenceIdeal.nD Cert.SmallFirstReferenceIdeal.τ).loc Cert.SmallFirstReferenceIdeal.main_arg4) = m ((c.tc : Thread Cert.SmallFirstReferenceIdeal.nD Cert.SmallFirstReferenceIdeal.τ).loc Cert.SmallFirstReferenceIdeal.main_arg4)
      ∧ r.2.mem ((c.tc : Thread Cert.SmallFirstReferenceIdeal.nD Cert.SmallFirstReferenceIdeal.τ).loc Cert.SmallFirstReferenceIdeal.main_arg5) = m ((c.tc : Thread Cert.SmallFirstReferenceIdeal.nD Cert.SmallFirstReferenceIdeal.τ).loc Cert.SmallFirstReferenceIdeal.main_arg5)
      ∧ r.2.mem ((c.tc : Thread Cert.SmallFirstReferenceIdeal.nD Cert.SmallFirstReferenceIdeal.τ).loc Cert.SmallFirstReferenceIdeal.main_arg6) = m ((c.tc : Thread Cert.SmallFirstReferenceIdeal.nD Cert.SmallFirstReferenceIdeal.τ).loc Cert.SmallFirstReferenceIdeal.main_arg6)
      ∧ r.2.mem ((c.tc : Thread Cert.SmallFirstReferenceIdeal.nD Cert.SmallFirstReferenceIdeal.τ).loc Cert.SmallFirstReferenceIdeal.main_arg7) = m ((c.tc : Thread Cert.SmallFirstReferenceIdeal.nD Cert.SmallFirstReferenceIdeal.τ).loc Cert.SmallFirstReferenceIdeal.main_arg7)
      ∧ r.2.mem ((c.tc : Thread Cert.SmallFirstReferenceIdeal.nD Cert.SmallFirstReferenceIdeal.τ).loc Cert.SmallFirstReferenceIdeal.main_arg8) = m ((c.tc : Thread Cert.SmallFirstReferenceIdeal.nD Cert.SmallFirstReferenceIdeal.τ).loc Cert.SmallFirstReferenceIdeal.main_arg8)
      ∧ r.2.mem ((c.tc : Thread Cert.SmallFirstReferenceIdeal.nD Cert.SmallFirstReferenceIdeal.τ).loc Cert.SmallFirstReferenceIdeal.main_arg9) = m ((c.tc : Thread Cert.SmallFirstReferenceIdeal.nD Cert.SmallFirstReferenceIdeal.τ).loc Cert.SmallFirstReferenceIdeal.main_arg9)
      ∧ r.2.mem ((c.tc : Thread Cert.SmallFirstReferenceIdeal.nD Cert.SmallFirstReferenceIdeal.τ).loc Cert.SmallFirstReferenceIdeal.main_arg10) = m ((c.tc : Thread Cert.SmallFirstReferenceIdeal.nD Cert.SmallFirstReferenceIdeal.τ).loc Cert.SmallFirstReferenceIdeal.main_arg10)
      ∧ r.2.mem ((c.tc : Thread Cert.SmallFirstReferenceIdeal.nD Cert.SmallFirstReferenceIdeal.τ).loc Cert.SmallFirstReferenceIdeal.main_arg11) = m ((c.tc : Thread Cert.SmallFirstReferenceIdeal.nD Cert.SmallFirstReferenceIdeal.τ).loc Cert.SmallFirstReferenceIdeal.main_arg11)
      ∧ r.2.mem ((c.tc : Thread Cert.SmallFirstReferenceIdeal.nD Cert.SmallFirstReferenceIdeal.τ).loc Cert.SmallFirstReferenceIdeal.main_arg12) = m ((c.tc : Thread Cert.SmallFirstReferenceIdeal.nD Cert.SmallFirstReferenceIdeal.τ).loc Cert.SmallFirstReferenceIdeal.main_arg12)
      ∧ r.2.mem ((c.tc : Thread Cert.SmallFirstReferenceIdeal.nD Cert.SmallFirstReferenceIdeal.τ).loc Cert.SmallFirstReferenceIdeal.main_arg13) = m ((c.tc : Thread Cert.SmallFirstReferenceIdeal.nD Cert.SmallFirstReferenceIdeal.τ).loc Cert.SmallFirstReferenceIdeal.main_arg13)
      ∧ r.2.mem ((c.tc : Thread Cert.SmallFirstReferenceIdeal.nD Cert.SmallFirstReferenceIdeal.τ).loc Cert.SmallFirstReferenceIdeal.main_arg14) = m ((c.tc : Thread Cert.SmallFirstReferenceIdeal.nD Cert.SmallFirstReferenceIdeal.τ).loc Cert.SmallFirstReferenceIdeal.main_arg14)
      ∧ r.2.mem ((c.tc : Thread Cert.SmallFirstReferenceIdeal.nD Cert.SmallFirstReferenceIdeal.τ).loc Cert.SmallFirstReferenceIdeal.main_arg15) = m ((c.tc : Thread Cert.SmallFirstReferenceIdeal.nD Cert.SmallFirstReferenceIdeal.τ).loc Cert.SmallFirstReferenceIdeal.main_arg15))
      ∧ r.2.sem = fun _ => 0)

def quiescent_SmallNext [hSmallNext : Cert.SmallNext.Facts] : Prop :=
  ∀ (m : (ℓ : Loc Cert.SmallNext.nD Cert.SmallNext.τ Cert.SmallNext.sig) → Buf (Elt Bits) ℓ) (g : Dev Cert.SmallNext.nD → PrngReg), Pre_SmallNext m →
    θ_run (Cert.SmallNext.defs (F := Bits)) (onTc (τ := Cert.SmallNext.τ) (Cert.SmallNext.main (F := Bits))) ⟨m, fun _ => 0, g⟩ (fun r => (∀ c : Dev Cert.SmallNext.nD,
      r.2.mem ((c.tc : Thread Cert.SmallNext.nD Cert.SmallNext.τ).loc Cert.SmallNext.main_arg0) = m ((c.tc : Thread Cert.SmallNext.nD Cert.SmallNext.τ).loc Cert.SmallNext.main_arg0)
      ∧ r.2.mem ((c.tc : Thread Cert.SmallNext.nD Cert.SmallNext.τ).loc Cert.SmallNext.main_arg1) = m ((c.tc : Thread Cert.SmallNext.nD Cert.SmallNext.τ).loc Cert.SmallNext.main_arg1)
      ∧ r.2.mem ((c.tc : Thread Cert.SmallNext.nD Cert.SmallNext.τ).loc Cert.SmallNext.main_arg2) = m ((c.tc : Thread Cert.SmallNext.nD Cert.SmallNext.τ).loc Cert.SmallNext.main_arg2)
      ∧ r.2.mem ((c.tc : Thread Cert.SmallNext.nD Cert.SmallNext.τ).loc Cert.SmallNext.main_arg3) = m ((c.tc : Thread Cert.SmallNext.nD Cert.SmallNext.τ).loc Cert.SmallNext.main_arg3)
      ∧ r.2.mem ((c.tc : Thread Cert.SmallNext.nD Cert.SmallNext.τ).loc Cert.SmallNext.main_arg4) = m ((c.tc : Thread Cert.SmallNext.nD Cert.SmallNext.τ).loc Cert.SmallNext.main_arg4)
      ∧ r.2.mem ((c.tc : Thread Cert.SmallNext.nD Cert.SmallNext.τ).loc Cert.SmallNext.main_arg5) = m ((c.tc : Thread Cert.SmallNext.nD Cert.SmallNext.τ).loc Cert.SmallNext.main_arg5)
      ∧ r.2.mem ((c.tc : Thread Cert.SmallNext.nD Cert.SmallNext.τ).loc Cert.SmallNext.main_arg6) = m ((c.tc : Thread Cert.SmallNext.nD Cert.SmallNext.τ).loc Cert.SmallNext.main_arg6)
      ∧ r.2.mem ((c.tc : Thread Cert.SmallNext.nD Cert.SmallNext.τ).loc Cert.SmallNext.main_arg7) = m ((c.tc : Thread Cert.SmallNext.nD Cert.SmallNext.τ).loc Cert.SmallNext.main_arg7)
      ∧ r.2.mem ((c.tc : Thread Cert.SmallNext.nD Cert.SmallNext.τ).loc Cert.SmallNext.main_arg8) = m ((c.tc : Thread Cert.SmallNext.nD Cert.SmallNext.τ).loc Cert.SmallNext.main_arg8)
      ∧ r.2.mem ((c.tc : Thread Cert.SmallNext.nD Cert.SmallNext.τ).loc Cert.SmallNext.main_arg9) = m ((c.tc : Thread Cert.SmallNext.nD Cert.SmallNext.τ).loc Cert.SmallNext.main_arg9)
      ∧ r.2.mem ((c.tc : Thread Cert.SmallNext.nD Cert.SmallNext.τ).loc Cert.SmallNext.main_arg10) = m ((c.tc : Thread Cert.SmallNext.nD Cert.SmallNext.τ).loc Cert.SmallNext.main_arg10)
      ∧ r.2.mem ((c.tc : Thread Cert.SmallNext.nD Cert.SmallNext.τ).loc Cert.SmallNext.main_arg11) = m ((c.tc : Thread Cert.SmallNext.nD Cert.SmallNext.τ).loc Cert.SmallNext.main_arg11)
      ∧ r.2.mem ((c.tc : Thread Cert.SmallNext.nD Cert.SmallNext.τ).loc Cert.SmallNext.main_arg12) = m ((c.tc : Thread Cert.SmallNext.nD Cert.SmallNext.τ).loc Cert.SmallNext.main_arg12)
      ∧ r.2.mem ((c.tc : Thread Cert.SmallNext.nD Cert.SmallNext.τ).loc Cert.SmallNext.main_arg13) = m ((c.tc : Thread Cert.SmallNext.nD Cert.SmallNext.τ).loc Cert.SmallNext.main_arg13)
      ∧ r.2.mem ((c.tc : Thread Cert.SmallNext.nD Cert.SmallNext.τ).loc Cert.SmallNext.main_arg14) = m ((c.tc : Thread Cert.SmallNext.nD Cert.SmallNext.τ).loc Cert.SmallNext.main_arg14)
      ∧ r.2.mem ((c.tc : Thread Cert.SmallNext.nD Cert.SmallNext.τ).loc Cert.SmallNext.main_arg15) = m ((c.tc : Thread Cert.SmallNext.nD Cert.SmallNext.τ).loc Cert.SmallNext.main_arg15))
      ∧ r.2.sem = fun _ => 0)

def quiescent_SmallNextIdeal [hSmallNextIdeal : Cert.SmallNextIdeal.Facts] : Prop :=
  ∀ (m : (ℓ : Loc Cert.SmallNextIdeal.nD Cert.SmallNextIdeal.τ Cert.SmallNextIdeal.sig) → Buf (Elt Ideal) ℓ) (g : Dev Cert.SmallNextIdeal.nD → PrngReg), Pre_SmallNextIdeal m →
    θ_run (Cert.SmallNextIdeal.defs (F := Ideal)) (onTc (τ := Cert.SmallNextIdeal.τ) (Cert.SmallNextIdeal.main (F := Ideal))) ⟨m, fun _ => 0, g⟩ (fun r => (∀ c : Dev Cert.SmallNextIdeal.nD,
      r.2.mem ((c.tc : Thread Cert.SmallNextIdeal.nD Cert.SmallNextIdeal.τ).loc Cert.SmallNextIdeal.main_arg0) = m ((c.tc : Thread Cert.SmallNextIdeal.nD Cert.SmallNextIdeal.τ).loc Cert.SmallNextIdeal.main_arg0)
      ∧ r.2.mem ((c.tc : Thread Cert.SmallNextIdeal.nD Cert.SmallNextIdeal.τ).loc Cert.SmallNextIdeal.main_arg1) = m ((c.tc : Thread Cert.SmallNextIdeal.nD Cert.SmallNextIdeal.τ).loc Cert.SmallNextIdeal.main_arg1)
      ∧ r.2.mem ((c.tc : Thread Cert.SmallNextIdeal.nD Cert.SmallNextIdeal.τ).loc Cert.SmallNextIdeal.main_arg2) = m ((c.tc : Thread Cert.SmallNextIdeal.nD Cert.SmallNextIdeal.τ).loc Cert.SmallNextIdeal.main_arg2)
      ∧ r.2.mem ((c.tc : Thread Cert.SmallNextIdeal.nD Cert.SmallNextIdeal.τ).loc Cert.SmallNextIdeal.main_arg3) = m ((c.tc : Thread Cert.SmallNextIdeal.nD Cert.SmallNextIdeal.τ).loc Cert.SmallNextIdeal.main_arg3)
      ∧ r.2.mem ((c.tc : Thread Cert.SmallNextIdeal.nD Cert.SmallNextIdeal.τ).loc Cert.SmallNextIdeal.main_arg4) = m ((c.tc : Thread Cert.SmallNextIdeal.nD Cert.SmallNextIdeal.τ).loc Cert.SmallNextIdeal.main_arg4)
      ∧ r.2.mem ((c.tc : Thread Cert.SmallNextIdeal.nD Cert.SmallNextIdeal.τ).loc Cert.SmallNextIdeal.main_arg5) = m ((c.tc : Thread Cert.SmallNextIdeal.nD Cert.SmallNextIdeal.τ).loc Cert.SmallNextIdeal.main_arg5)
      ∧ r.2.mem ((c.tc : Thread Cert.SmallNextIdeal.nD Cert.SmallNextIdeal.τ).loc Cert.SmallNextIdeal.main_arg6) = m ((c.tc : Thread Cert.SmallNextIdeal.nD Cert.SmallNextIdeal.τ).loc Cert.SmallNextIdeal.main_arg6)
      ∧ r.2.mem ((c.tc : Thread Cert.SmallNextIdeal.nD Cert.SmallNextIdeal.τ).loc Cert.SmallNextIdeal.main_arg7) = m ((c.tc : Thread Cert.SmallNextIdeal.nD Cert.SmallNextIdeal.τ).loc Cert.SmallNextIdeal.main_arg7)
      ∧ r.2.mem ((c.tc : Thread Cert.SmallNextIdeal.nD Cert.SmallNextIdeal.τ).loc Cert.SmallNextIdeal.main_arg8) = m ((c.tc : Thread Cert.SmallNextIdeal.nD Cert.SmallNextIdeal.τ).loc Cert.SmallNextIdeal.main_arg8)
      ∧ r.2.mem ((c.tc : Thread Cert.SmallNextIdeal.nD Cert.SmallNextIdeal.τ).loc Cert.SmallNextIdeal.main_arg9) = m ((c.tc : Thread Cert.SmallNextIdeal.nD Cert.SmallNextIdeal.τ).loc Cert.SmallNextIdeal.main_arg9)
      ∧ r.2.mem ((c.tc : Thread Cert.SmallNextIdeal.nD Cert.SmallNextIdeal.τ).loc Cert.SmallNextIdeal.main_arg10) = m ((c.tc : Thread Cert.SmallNextIdeal.nD Cert.SmallNextIdeal.τ).loc Cert.SmallNextIdeal.main_arg10)
      ∧ r.2.mem ((c.tc : Thread Cert.SmallNextIdeal.nD Cert.SmallNextIdeal.τ).loc Cert.SmallNextIdeal.main_arg11) = m ((c.tc : Thread Cert.SmallNextIdeal.nD Cert.SmallNextIdeal.τ).loc Cert.SmallNextIdeal.main_arg11)
      ∧ r.2.mem ((c.tc : Thread Cert.SmallNextIdeal.nD Cert.SmallNextIdeal.τ).loc Cert.SmallNextIdeal.main_arg12) = m ((c.tc : Thread Cert.SmallNextIdeal.nD Cert.SmallNextIdeal.τ).loc Cert.SmallNextIdeal.main_arg12)
      ∧ r.2.mem ((c.tc : Thread Cert.SmallNextIdeal.nD Cert.SmallNextIdeal.τ).loc Cert.SmallNextIdeal.main_arg13) = m ((c.tc : Thread Cert.SmallNextIdeal.nD Cert.SmallNextIdeal.τ).loc Cert.SmallNextIdeal.main_arg13)
      ∧ r.2.mem ((c.tc : Thread Cert.SmallNextIdeal.nD Cert.SmallNextIdeal.τ).loc Cert.SmallNextIdeal.main_arg14) = m ((c.tc : Thread Cert.SmallNextIdeal.nD Cert.SmallNextIdeal.τ).loc Cert.SmallNextIdeal.main_arg14)
      ∧ r.2.mem ((c.tc : Thread Cert.SmallNextIdeal.nD Cert.SmallNextIdeal.τ).loc Cert.SmallNextIdeal.main_arg15) = m ((c.tc : Thread Cert.SmallNextIdeal.nD Cert.SmallNextIdeal.τ).loc Cert.SmallNextIdeal.main_arg15))
      ∧ r.2.sem = fun _ => 0)

def quiescent_SmallNextReference [hSmallNextReference : Cert.SmallNextReference.Facts] : Prop :=
  ∀ (m : (ℓ : Loc Cert.SmallNextReference.nD Cert.SmallNextReference.τ Cert.SmallNextReference.sig) → Buf (Elt Bits) ℓ) (g : Dev Cert.SmallNextReference.nD → PrngReg), Pre_SmallNextReference m →
    θ_run (Cert.SmallNextReference.defs (F := Bits)) (onTc (τ := Cert.SmallNextReference.τ) (Cert.SmallNextReference.main (F := Bits))) ⟨m, fun _ => 0, g⟩ (fun r => (∀ c : Dev Cert.SmallNextReference.nD,
      r.2.mem ((c.tc : Thread Cert.SmallNextReference.nD Cert.SmallNextReference.τ).loc Cert.SmallNextReference.main_arg0) = m ((c.tc : Thread Cert.SmallNextReference.nD Cert.SmallNextReference.τ).loc Cert.SmallNextReference.main_arg0)
      ∧ r.2.mem ((c.tc : Thread Cert.SmallNextReference.nD Cert.SmallNextReference.τ).loc Cert.SmallNextReference.main_arg1) = m ((c.tc : Thread Cert.SmallNextReference.nD Cert.SmallNextReference.τ).loc Cert.SmallNextReference.main_arg1)
      ∧ r.2.mem ((c.tc : Thread Cert.SmallNextReference.nD Cert.SmallNextReference.τ).loc Cert.SmallNextReference.main_arg2) = m ((c.tc : Thread Cert.SmallNextReference.nD Cert.SmallNextReference.τ).loc Cert.SmallNextReference.main_arg2)
      ∧ r.2.mem ((c.tc : Thread Cert.SmallNextReference.nD Cert.SmallNextReference.τ).loc Cert.SmallNextReference.main_arg3) = m ((c.tc : Thread Cert.SmallNextReference.nD Cert.SmallNextReference.τ).loc Cert.SmallNextReference.main_arg3)
      ∧ r.2.mem ((c.tc : Thread Cert.SmallNextReference.nD Cert.SmallNextReference.τ).loc Cert.SmallNextReference.main_arg4) = m ((c.tc : Thread Cert.SmallNextReference.nD Cert.SmallNextReference.τ).loc Cert.SmallNextReference.main_arg4)
      ∧ r.2.mem ((c.tc : Thread Cert.SmallNextReference.nD Cert.SmallNextReference.τ).loc Cert.SmallNextReference.main_arg5) = m ((c.tc : Thread Cert.SmallNextReference.nD Cert.SmallNextReference.τ).loc Cert.SmallNextReference.main_arg5)
      ∧ r.2.mem ((c.tc : Thread Cert.SmallNextReference.nD Cert.SmallNextReference.τ).loc Cert.SmallNextReference.main_arg6) = m ((c.tc : Thread Cert.SmallNextReference.nD Cert.SmallNextReference.τ).loc Cert.SmallNextReference.main_arg6)
      ∧ r.2.mem ((c.tc : Thread Cert.SmallNextReference.nD Cert.SmallNextReference.τ).loc Cert.SmallNextReference.main_arg7) = m ((c.tc : Thread Cert.SmallNextReference.nD Cert.SmallNextReference.τ).loc Cert.SmallNextReference.main_arg7)
      ∧ r.2.mem ((c.tc : Thread Cert.SmallNextReference.nD Cert.SmallNextReference.τ).loc Cert.SmallNextReference.main_arg8) = m ((c.tc : Thread Cert.SmallNextReference.nD Cert.SmallNextReference.τ).loc Cert.SmallNextReference.main_arg8)
      ∧ r.2.mem ((c.tc : Thread Cert.SmallNextReference.nD Cert.SmallNextReference.τ).loc Cert.SmallNextReference.main_arg9) = m ((c.tc : Thread Cert.SmallNextReference.nD Cert.SmallNextReference.τ).loc Cert.SmallNextReference.main_arg9)
      ∧ r.2.mem ((c.tc : Thread Cert.SmallNextReference.nD Cert.SmallNextReference.τ).loc Cert.SmallNextReference.main_arg10) = m ((c.tc : Thread Cert.SmallNextReference.nD Cert.SmallNextReference.τ).loc Cert.SmallNextReference.main_arg10)
      ∧ r.2.mem ((c.tc : Thread Cert.SmallNextReference.nD Cert.SmallNextReference.τ).loc Cert.SmallNextReference.main_arg11) = m ((c.tc : Thread Cert.SmallNextReference.nD Cert.SmallNextReference.τ).loc Cert.SmallNextReference.main_arg11)
      ∧ r.2.mem ((c.tc : Thread Cert.SmallNextReference.nD Cert.SmallNextReference.τ).loc Cert.SmallNextReference.main_arg12) = m ((c.tc : Thread Cert.SmallNextReference.nD Cert.SmallNextReference.τ).loc Cert.SmallNextReference.main_arg12)
      ∧ r.2.mem ((c.tc : Thread Cert.SmallNextReference.nD Cert.SmallNextReference.τ).loc Cert.SmallNextReference.main_arg13) = m ((c.tc : Thread Cert.SmallNextReference.nD Cert.SmallNextReference.τ).loc Cert.SmallNextReference.main_arg13)
      ∧ r.2.mem ((c.tc : Thread Cert.SmallNextReference.nD Cert.SmallNextReference.τ).loc Cert.SmallNextReference.main_arg14) = m ((c.tc : Thread Cert.SmallNextReference.nD Cert.SmallNextReference.τ).loc Cert.SmallNextReference.main_arg14)
      ∧ r.2.mem ((c.tc : Thread Cert.SmallNextReference.nD Cert.SmallNextReference.τ).loc Cert.SmallNextReference.main_arg15) = m ((c.tc : Thread Cert.SmallNextReference.nD Cert.SmallNextReference.τ).loc Cert.SmallNextReference.main_arg15))
      ∧ r.2.sem = fun _ => 0)

def quiescent_SmallNextReferenceIdeal [hSmallNextReferenceIdeal : Cert.SmallNextReferenceIdeal.Facts] : Prop :=
  ∀ (m : (ℓ : Loc Cert.SmallNextReferenceIdeal.nD Cert.SmallNextReferenceIdeal.τ Cert.SmallNextReferenceIdeal.sig) → Buf (Elt Ideal) ℓ) (g : Dev Cert.SmallNextReferenceIdeal.nD → PrngReg), Pre_SmallNextReferenceIdeal m →
    θ_run (Cert.SmallNextReferenceIdeal.defs (F := Ideal)) (onTc (τ := Cert.SmallNextReferenceIdeal.τ) (Cert.SmallNextReferenceIdeal.main (F := Ideal))) ⟨m, fun _ => 0, g⟩ (fun r => (∀ c : Dev Cert.SmallNextReferenceIdeal.nD,
      r.2.mem ((c.tc : Thread Cert.SmallNextReferenceIdeal.nD Cert.SmallNextReferenceIdeal.τ).loc Cert.SmallNextReferenceIdeal.main_arg0) = m ((c.tc : Thread Cert.SmallNextReferenceIdeal.nD Cert.SmallNextReferenceIdeal.τ).loc Cert.SmallNextReferenceIdeal.main_arg0)
      ∧ r.2.mem ((c.tc : Thread Cert.SmallNextReferenceIdeal.nD Cert.SmallNextReferenceIdeal.τ).loc Cert.SmallNextReferenceIdeal.main_arg1) = m ((c.tc : Thread Cert.SmallNextReferenceIdeal.nD Cert.SmallNextReferenceIdeal.τ).loc Cert.SmallNextReferenceIdeal.main_arg1)
      ∧ r.2.mem ((c.tc : Thread Cert.SmallNextReferenceIdeal.nD Cert.SmallNextReferenceIdeal.τ).loc Cert.SmallNextReferenceIdeal.main_arg2) = m ((c.tc : Thread Cert.SmallNextReferenceIdeal.nD Cert.SmallNextReferenceIdeal.τ).loc Cert.SmallNextReferenceIdeal.main_arg2)
      ∧ r.2.mem ((c.tc : Thread Cert.SmallNextReferenceIdeal.nD Cert.SmallNextReferenceIdeal.τ).loc Cert.SmallNextReferenceIdeal.main_arg3) = m ((c.tc : Thread Cert.SmallNextReferenceIdeal.nD Cert.SmallNextReferenceIdeal.τ).loc Cert.SmallNextReferenceIdeal.main_arg3)
      ∧ r.2.mem ((c.tc : Thread Cert.SmallNextReferenceIdeal.nD Cert.SmallNextReferenceIdeal.τ).loc Cert.SmallNextReferenceIdeal.main_arg4) = m ((c.tc : Thread Cert.SmallNextReferenceIdeal.nD Cert.SmallNextReferenceIdeal.τ).loc Cert.SmallNextReferenceIdeal.main_arg4)
      ∧ r.2.mem ((c.tc : Thread Cert.SmallNextReferenceIdeal.nD Cert.SmallNextReferenceIdeal.τ).loc Cert.SmallNextReferenceIdeal.main_arg5) = m ((c.tc : Thread Cert.SmallNextReferenceIdeal.nD Cert.SmallNextReferenceIdeal.τ).loc Cert.SmallNextReferenceIdeal.main_arg5)
      ∧ r.2.mem ((c.tc : Thread Cert.SmallNextReferenceIdeal.nD Cert.SmallNextReferenceIdeal.τ).loc Cert.SmallNextReferenceIdeal.main_arg6) = m ((c.tc : Thread Cert.SmallNextReferenceIdeal.nD Cert.SmallNextReferenceIdeal.τ).loc Cert.SmallNextReferenceIdeal.main_arg6)
      ∧ r.2.mem ((c.tc : Thread Cert.SmallNextReferenceIdeal.nD Cert.SmallNextReferenceIdeal.τ).loc Cert.SmallNextReferenceIdeal.main_arg7) = m ((c.tc : Thread Cert.SmallNextReferenceIdeal.nD Cert.SmallNextReferenceIdeal.τ).loc Cert.SmallNextReferenceIdeal.main_arg7)
      ∧ r.2.mem ((c.tc : Thread Cert.SmallNextReferenceIdeal.nD Cert.SmallNextReferenceIdeal.τ).loc Cert.SmallNextReferenceIdeal.main_arg8) = m ((c.tc : Thread Cert.SmallNextReferenceIdeal.nD Cert.SmallNextReferenceIdeal.τ).loc Cert.SmallNextReferenceIdeal.main_arg8)
      ∧ r.2.mem ((c.tc : Thread Cert.SmallNextReferenceIdeal.nD Cert.SmallNextReferenceIdeal.τ).loc Cert.SmallNextReferenceIdeal.main_arg9) = m ((c.tc : Thread Cert.SmallNextReferenceIdeal.nD Cert.SmallNextReferenceIdeal.τ).loc Cert.SmallNextReferenceIdeal.main_arg9)
      ∧ r.2.mem ((c.tc : Thread Cert.SmallNextReferenceIdeal.nD Cert.SmallNextReferenceIdeal.τ).loc Cert.SmallNextReferenceIdeal.main_arg10) = m ((c.tc : Thread Cert.SmallNextReferenceIdeal.nD Cert.SmallNextReferenceIdeal.τ).loc Cert.SmallNextReferenceIdeal.main_arg10)
      ∧ r.2.mem ((c.tc : Thread Cert.SmallNextReferenceIdeal.nD Cert.SmallNextReferenceIdeal.τ).loc Cert.SmallNextReferenceIdeal.main_arg11) = m ((c.tc : Thread Cert.SmallNextReferenceIdeal.nD Cert.SmallNextReferenceIdeal.τ).loc Cert.SmallNextReferenceIdeal.main_arg11)
      ∧ r.2.mem ((c.tc : Thread Cert.SmallNextReferenceIdeal.nD Cert.SmallNextReferenceIdeal.τ).loc Cert.SmallNextReferenceIdeal.main_arg12) = m ((c.tc : Thread Cert.SmallNextReferenceIdeal.nD Cert.SmallNextReferenceIdeal.τ).loc Cert.SmallNextReferenceIdeal.main_arg12)
      ∧ r.2.mem ((c.tc : Thread Cert.SmallNextReferenceIdeal.nD Cert.SmallNextReferenceIdeal.τ).loc Cert.SmallNextReferenceIdeal.main_arg13) = m ((c.tc : Thread Cert.SmallNextReferenceIdeal.nD Cert.SmallNextReferenceIdeal.τ).loc Cert.SmallNextReferenceIdeal.main_arg13)
      ∧ r.2.mem ((c.tc : Thread Cert.SmallNextReferenceIdeal.nD Cert.SmallNextReferenceIdeal.τ).loc Cert.SmallNextReferenceIdeal.main_arg14) = m ((c.tc : Thread Cert.SmallNextReferenceIdeal.nD Cert.SmallNextReferenceIdeal.τ).loc Cert.SmallNextReferenceIdeal.main_arg14)
      ∧ r.2.mem ((c.tc : Thread Cert.SmallNextReferenceIdeal.nD Cert.SmallNextReferenceIdeal.τ).loc Cert.SmallNextReferenceIdeal.main_arg15) = m ((c.tc : Thread Cert.SmallNextReferenceIdeal.nD Cert.SmallNextReferenceIdeal.τ).loc Cert.SmallNextReferenceIdeal.main_arg15))
      ∧ r.2.sem = fun _ => 0)

def quiescent_SmallLast [hSmallLast : Cert.SmallLast.Facts] : Prop :=
  ∀ (m : (ℓ : Loc Cert.SmallLast.nD Cert.SmallLast.τ Cert.SmallLast.sig) → Buf (Elt Bits) ℓ) (g : Dev Cert.SmallLast.nD → PrngReg), Pre_SmallLast m →
    θ_run (Cert.SmallLast.defs (F := Bits)) (onTc (τ := Cert.SmallLast.τ) (Cert.SmallLast.main (F := Bits))) ⟨m, fun _ => 0, g⟩ (fun r => (∀ c : Dev Cert.SmallLast.nD,
      r.2.mem ((c.tc : Thread Cert.SmallLast.nD Cert.SmallLast.τ).loc Cert.SmallLast.main_arg0) = m ((c.tc : Thread Cert.SmallLast.nD Cert.SmallLast.τ).loc Cert.SmallLast.main_arg0)
      ∧ r.2.mem ((c.tc : Thread Cert.SmallLast.nD Cert.SmallLast.τ).loc Cert.SmallLast.main_arg1) = m ((c.tc : Thread Cert.SmallLast.nD Cert.SmallLast.τ).loc Cert.SmallLast.main_arg1)
      ∧ r.2.mem ((c.tc : Thread Cert.SmallLast.nD Cert.SmallLast.τ).loc Cert.SmallLast.main_arg2) = m ((c.tc : Thread Cert.SmallLast.nD Cert.SmallLast.τ).loc Cert.SmallLast.main_arg2)
      ∧ r.2.mem ((c.tc : Thread Cert.SmallLast.nD Cert.SmallLast.τ).loc Cert.SmallLast.main_arg3) = m ((c.tc : Thread Cert.SmallLast.nD Cert.SmallLast.τ).loc Cert.SmallLast.main_arg3)
      ∧ r.2.mem ((c.tc : Thread Cert.SmallLast.nD Cert.SmallLast.τ).loc Cert.SmallLast.main_arg4) = m ((c.tc : Thread Cert.SmallLast.nD Cert.SmallLast.τ).loc Cert.SmallLast.main_arg4)
      ∧ r.2.mem ((c.tc : Thread Cert.SmallLast.nD Cert.SmallLast.τ).loc Cert.SmallLast.main_arg5) = m ((c.tc : Thread Cert.SmallLast.nD Cert.SmallLast.τ).loc Cert.SmallLast.main_arg5)
      ∧ r.2.mem ((c.tc : Thread Cert.SmallLast.nD Cert.SmallLast.τ).loc Cert.SmallLast.main_arg6) = m ((c.tc : Thread Cert.SmallLast.nD Cert.SmallLast.τ).loc Cert.SmallLast.main_arg6)
      ∧ r.2.mem ((c.tc : Thread Cert.SmallLast.nD Cert.SmallLast.τ).loc Cert.SmallLast.main_arg7) = m ((c.tc : Thread Cert.SmallLast.nD Cert.SmallLast.τ).loc Cert.SmallLast.main_arg7)
      ∧ r.2.mem ((c.tc : Thread Cert.SmallLast.nD Cert.SmallLast.τ).loc Cert.SmallLast.main_arg8) = m ((c.tc : Thread Cert.SmallLast.nD Cert.SmallLast.τ).loc Cert.SmallLast.main_arg8)
      ∧ r.2.mem ((c.tc : Thread Cert.SmallLast.nD Cert.SmallLast.τ).loc Cert.SmallLast.main_arg9) = m ((c.tc : Thread Cert.SmallLast.nD Cert.SmallLast.τ).loc Cert.SmallLast.main_arg9)
      ∧ r.2.mem ((c.tc : Thread Cert.SmallLast.nD Cert.SmallLast.τ).loc Cert.SmallLast.main_arg10) = m ((c.tc : Thread Cert.SmallLast.nD Cert.SmallLast.τ).loc Cert.SmallLast.main_arg10)
      ∧ r.2.mem ((c.tc : Thread Cert.SmallLast.nD Cert.SmallLast.τ).loc Cert.SmallLast.main_arg11) = m ((c.tc : Thread Cert.SmallLast.nD Cert.SmallLast.τ).loc Cert.SmallLast.main_arg11)
      ∧ r.2.mem ((c.tc : Thread Cert.SmallLast.nD Cert.SmallLast.τ).loc Cert.SmallLast.main_arg12) = m ((c.tc : Thread Cert.SmallLast.nD Cert.SmallLast.τ).loc Cert.SmallLast.main_arg12)
      ∧ r.2.mem ((c.tc : Thread Cert.SmallLast.nD Cert.SmallLast.τ).loc Cert.SmallLast.main_arg13) = m ((c.tc : Thread Cert.SmallLast.nD Cert.SmallLast.τ).loc Cert.SmallLast.main_arg13)
      ∧ r.2.mem ((c.tc : Thread Cert.SmallLast.nD Cert.SmallLast.τ).loc Cert.SmallLast.main_arg14) = m ((c.tc : Thread Cert.SmallLast.nD Cert.SmallLast.τ).loc Cert.SmallLast.main_arg14)
      ∧ r.2.mem ((c.tc : Thread Cert.SmallLast.nD Cert.SmallLast.τ).loc Cert.SmallLast.main_arg15) = m ((c.tc : Thread Cert.SmallLast.nD Cert.SmallLast.τ).loc Cert.SmallLast.main_arg15))
      ∧ r.2.sem = fun _ => 0)

def quiescent_SmallLastIdeal [hSmallLastIdeal : Cert.SmallLastIdeal.Facts] : Prop :=
  ∀ (m : (ℓ : Loc Cert.SmallLastIdeal.nD Cert.SmallLastIdeal.τ Cert.SmallLastIdeal.sig) → Buf (Elt Ideal) ℓ) (g : Dev Cert.SmallLastIdeal.nD → PrngReg), Pre_SmallLastIdeal m →
    θ_run (Cert.SmallLastIdeal.defs (F := Ideal)) (onTc (τ := Cert.SmallLastIdeal.τ) (Cert.SmallLastIdeal.main (F := Ideal))) ⟨m, fun _ => 0, g⟩ (fun r => (∀ c : Dev Cert.SmallLastIdeal.nD,
      r.2.mem ((c.tc : Thread Cert.SmallLastIdeal.nD Cert.SmallLastIdeal.τ).loc Cert.SmallLastIdeal.main_arg0) = m ((c.tc : Thread Cert.SmallLastIdeal.nD Cert.SmallLastIdeal.τ).loc Cert.SmallLastIdeal.main_arg0)
      ∧ r.2.mem ((c.tc : Thread Cert.SmallLastIdeal.nD Cert.SmallLastIdeal.τ).loc Cert.SmallLastIdeal.main_arg1) = m ((c.tc : Thread Cert.SmallLastIdeal.nD Cert.SmallLastIdeal.τ).loc Cert.SmallLastIdeal.main_arg1)
      ∧ r.2.mem ((c.tc : Thread Cert.SmallLastIdeal.nD Cert.SmallLastIdeal.τ).loc Cert.SmallLastIdeal.main_arg2) = m ((c.tc : Thread Cert.SmallLastIdeal.nD Cert.SmallLastIdeal.τ).loc Cert.SmallLastIdeal.main_arg2)
      ∧ r.2.mem ((c.tc : Thread Cert.SmallLastIdeal.nD Cert.SmallLastIdeal.τ).loc Cert.SmallLastIdeal.main_arg3) = m ((c.tc : Thread Cert.SmallLastIdeal.nD Cert.SmallLastIdeal.τ).loc Cert.SmallLastIdeal.main_arg3)
      ∧ r.2.mem ((c.tc : Thread Cert.SmallLastIdeal.nD Cert.SmallLastIdeal.τ).loc Cert.SmallLastIdeal.main_arg4) = m ((c.tc : Thread Cert.SmallLastIdeal.nD Cert.SmallLastIdeal.τ).loc Cert.SmallLastIdeal.main_arg4)
      ∧ r.2.mem ((c.tc : Thread Cert.SmallLastIdeal.nD Cert.SmallLastIdeal.τ).loc Cert.SmallLastIdeal.main_arg5) = m ((c.tc : Thread Cert.SmallLastIdeal.nD Cert.SmallLastIdeal.τ).loc Cert.SmallLastIdeal.main_arg5)
      ∧ r.2.mem ((c.tc : Thread Cert.SmallLastIdeal.nD Cert.SmallLastIdeal.τ).loc Cert.SmallLastIdeal.main_arg6) = m ((c.tc : Thread Cert.SmallLastIdeal.nD Cert.SmallLastIdeal.τ).loc Cert.SmallLastIdeal.main_arg6)
      ∧ r.2.mem ((c.tc : Thread Cert.SmallLastIdeal.nD Cert.SmallLastIdeal.τ).loc Cert.SmallLastIdeal.main_arg7) = m ((c.tc : Thread Cert.SmallLastIdeal.nD Cert.SmallLastIdeal.τ).loc Cert.SmallLastIdeal.main_arg7)
      ∧ r.2.mem ((c.tc : Thread Cert.SmallLastIdeal.nD Cert.SmallLastIdeal.τ).loc Cert.SmallLastIdeal.main_arg8) = m ((c.tc : Thread Cert.SmallLastIdeal.nD Cert.SmallLastIdeal.τ).loc Cert.SmallLastIdeal.main_arg8)
      ∧ r.2.mem ((c.tc : Thread Cert.SmallLastIdeal.nD Cert.SmallLastIdeal.τ).loc Cert.SmallLastIdeal.main_arg9) = m ((c.tc : Thread Cert.SmallLastIdeal.nD Cert.SmallLastIdeal.τ).loc Cert.SmallLastIdeal.main_arg9)
      ∧ r.2.mem ((c.tc : Thread Cert.SmallLastIdeal.nD Cert.SmallLastIdeal.τ).loc Cert.SmallLastIdeal.main_arg10) = m ((c.tc : Thread Cert.SmallLastIdeal.nD Cert.SmallLastIdeal.τ).loc Cert.SmallLastIdeal.main_arg10)
      ∧ r.2.mem ((c.tc : Thread Cert.SmallLastIdeal.nD Cert.SmallLastIdeal.τ).loc Cert.SmallLastIdeal.main_arg11) = m ((c.tc : Thread Cert.SmallLastIdeal.nD Cert.SmallLastIdeal.τ).loc Cert.SmallLastIdeal.main_arg11)
      ∧ r.2.mem ((c.tc : Thread Cert.SmallLastIdeal.nD Cert.SmallLastIdeal.τ).loc Cert.SmallLastIdeal.main_arg12) = m ((c.tc : Thread Cert.SmallLastIdeal.nD Cert.SmallLastIdeal.τ).loc Cert.SmallLastIdeal.main_arg12)
      ∧ r.2.mem ((c.tc : Thread Cert.SmallLastIdeal.nD Cert.SmallLastIdeal.τ).loc Cert.SmallLastIdeal.main_arg13) = m ((c.tc : Thread Cert.SmallLastIdeal.nD Cert.SmallLastIdeal.τ).loc Cert.SmallLastIdeal.main_arg13)
      ∧ r.2.mem ((c.tc : Thread Cert.SmallLastIdeal.nD Cert.SmallLastIdeal.τ).loc Cert.SmallLastIdeal.main_arg14) = m ((c.tc : Thread Cert.SmallLastIdeal.nD Cert.SmallLastIdeal.τ).loc Cert.SmallLastIdeal.main_arg14)
      ∧ r.2.mem ((c.tc : Thread Cert.SmallLastIdeal.nD Cert.SmallLastIdeal.τ).loc Cert.SmallLastIdeal.main_arg15) = m ((c.tc : Thread Cert.SmallLastIdeal.nD Cert.SmallLastIdeal.τ).loc Cert.SmallLastIdeal.main_arg15))
      ∧ r.2.sem = fun _ => 0)

def quiescent_SmallLastReference [hSmallLastReference : Cert.SmallLastReference.Facts] : Prop :=
  ∀ (m : (ℓ : Loc Cert.SmallLastReference.nD Cert.SmallLastReference.τ Cert.SmallLastReference.sig) → Buf (Elt Bits) ℓ) (g : Dev Cert.SmallLastReference.nD → PrngReg), Pre_SmallLastReference m →
    θ_run (Cert.SmallLastReference.defs (F := Bits)) (onTc (τ := Cert.SmallLastReference.τ) (Cert.SmallLastReference.main (F := Bits))) ⟨m, fun _ => 0, g⟩ (fun r => (∀ c : Dev Cert.SmallLastReference.nD,
      r.2.mem ((c.tc : Thread Cert.SmallLastReference.nD Cert.SmallLastReference.τ).loc Cert.SmallLastReference.main_arg0) = m ((c.tc : Thread Cert.SmallLastReference.nD Cert.SmallLastReference.τ).loc Cert.SmallLastReference.main_arg0)
      ∧ r.2.mem ((c.tc : Thread Cert.SmallLastReference.nD Cert.SmallLastReference.τ).loc Cert.SmallLastReference.main_arg1) = m ((c.tc : Thread Cert.SmallLastReference.nD Cert.SmallLastReference.τ).loc Cert.SmallLastReference.main_arg1)
      ∧ r.2.mem ((c.tc : Thread Cert.SmallLastReference.nD Cert.SmallLastReference.τ).loc Cert.SmallLastReference.main_arg2) = m ((c.tc : Thread Cert.SmallLastReference.nD Cert.SmallLastReference.τ).loc Cert.SmallLastReference.main_arg2)
      ∧ r.2.mem ((c.tc : Thread Cert.SmallLastReference.nD Cert.SmallLastReference.τ).loc Cert.SmallLastReference.main_arg3) = m ((c.tc : Thread Cert.SmallLastReference.nD Cert.SmallLastReference.τ).loc Cert.SmallLastReference.main_arg3)
      ∧ r.2.mem ((c.tc : Thread Cert.SmallLastReference.nD Cert.SmallLastReference.τ).loc Cert.SmallLastReference.main_arg4) = m ((c.tc : Thread Cert.SmallLastReference.nD Cert.SmallLastReference.τ).loc Cert.SmallLastReference.main_arg4)
      ∧ r.2.mem ((c.tc : Thread Cert.SmallLastReference.nD Cert.SmallLastReference.τ).loc Cert.SmallLastReference.main_arg5) = m ((c.tc : Thread Cert.SmallLastReference.nD Cert.SmallLastReference.τ).loc Cert.SmallLastReference.main_arg5)
      ∧ r.2.mem ((c.tc : Thread Cert.SmallLastReference.nD Cert.SmallLastReference.τ).loc Cert.SmallLastReference.main_arg6) = m ((c.tc : Thread Cert.SmallLastReference.nD Cert.SmallLastReference.τ).loc Cert.SmallLastReference.main_arg6)
      ∧ r.2.mem ((c.tc : Thread Cert.SmallLastReference.nD Cert.SmallLastReference.τ).loc Cert.SmallLastReference.main_arg7) = m ((c.tc : Thread Cert.SmallLastReference.nD Cert.SmallLastReference.τ).loc Cert.SmallLastReference.main_arg7)
      ∧ r.2.mem ((c.tc : Thread Cert.SmallLastReference.nD Cert.SmallLastReference.τ).loc Cert.SmallLastReference.main_arg8) = m ((c.tc : Thread Cert.SmallLastReference.nD Cert.SmallLastReference.τ).loc Cert.SmallLastReference.main_arg8)
      ∧ r.2.mem ((c.tc : Thread Cert.SmallLastReference.nD Cert.SmallLastReference.τ).loc Cert.SmallLastReference.main_arg9) = m ((c.tc : Thread Cert.SmallLastReference.nD Cert.SmallLastReference.τ).loc Cert.SmallLastReference.main_arg9)
      ∧ r.2.mem ((c.tc : Thread Cert.SmallLastReference.nD Cert.SmallLastReference.τ).loc Cert.SmallLastReference.main_arg10) = m ((c.tc : Thread Cert.SmallLastReference.nD Cert.SmallLastReference.τ).loc Cert.SmallLastReference.main_arg10)
      ∧ r.2.mem ((c.tc : Thread Cert.SmallLastReference.nD Cert.SmallLastReference.τ).loc Cert.SmallLastReference.main_arg11) = m ((c.tc : Thread Cert.SmallLastReference.nD Cert.SmallLastReference.τ).loc Cert.SmallLastReference.main_arg11)
      ∧ r.2.mem ((c.tc : Thread Cert.SmallLastReference.nD Cert.SmallLastReference.τ).loc Cert.SmallLastReference.main_arg12) = m ((c.tc : Thread Cert.SmallLastReference.nD Cert.SmallLastReference.τ).loc Cert.SmallLastReference.main_arg12)
      ∧ r.2.mem ((c.tc : Thread Cert.SmallLastReference.nD Cert.SmallLastReference.τ).loc Cert.SmallLastReference.main_arg13) = m ((c.tc : Thread Cert.SmallLastReference.nD Cert.SmallLastReference.τ).loc Cert.SmallLastReference.main_arg13)
      ∧ r.2.mem ((c.tc : Thread Cert.SmallLastReference.nD Cert.SmallLastReference.τ).loc Cert.SmallLastReference.main_arg14) = m ((c.tc : Thread Cert.SmallLastReference.nD Cert.SmallLastReference.τ).loc Cert.SmallLastReference.main_arg14)
      ∧ r.2.mem ((c.tc : Thread Cert.SmallLastReference.nD Cert.SmallLastReference.τ).loc Cert.SmallLastReference.main_arg15) = m ((c.tc : Thread Cert.SmallLastReference.nD Cert.SmallLastReference.τ).loc Cert.SmallLastReference.main_arg15))
      ∧ r.2.sem = fun _ => 0)

def quiescent_SmallLastReferenceIdeal [hSmallLastReferenceIdeal : Cert.SmallLastReferenceIdeal.Facts] : Prop :=
  ∀ (m : (ℓ : Loc Cert.SmallLastReferenceIdeal.nD Cert.SmallLastReferenceIdeal.τ Cert.SmallLastReferenceIdeal.sig) → Buf (Elt Ideal) ℓ) (g : Dev Cert.SmallLastReferenceIdeal.nD → PrngReg), Pre_SmallLastReferenceIdeal m →
    θ_run (Cert.SmallLastReferenceIdeal.defs (F := Ideal)) (onTc (τ := Cert.SmallLastReferenceIdeal.τ) (Cert.SmallLastReferenceIdeal.main (F := Ideal))) ⟨m, fun _ => 0, g⟩ (fun r => (∀ c : Dev Cert.SmallLastReferenceIdeal.nD,
      r.2.mem ((c.tc : Thread Cert.SmallLastReferenceIdeal.nD Cert.SmallLastReferenceIdeal.τ).loc Cert.SmallLastReferenceIdeal.main_arg0) = m ((c.tc : Thread Cert.SmallLastReferenceIdeal.nD Cert.SmallLastReferenceIdeal.τ).loc Cert.SmallLastReferenceIdeal.main_arg0)
      ∧ r.2.mem ((c.tc : Thread Cert.SmallLastReferenceIdeal.nD Cert.SmallLastReferenceIdeal.τ).loc Cert.SmallLastReferenceIdeal.main_arg1) = m ((c.tc : Thread Cert.SmallLastReferenceIdeal.nD Cert.SmallLastReferenceIdeal.τ).loc Cert.SmallLastReferenceIdeal.main_arg1)
      ∧ r.2.mem ((c.tc : Thread Cert.SmallLastReferenceIdeal.nD Cert.SmallLastReferenceIdeal.τ).loc Cert.SmallLastReferenceIdeal.main_arg2) = m ((c.tc : Thread Cert.SmallLastReferenceIdeal.nD Cert.SmallLastReferenceIdeal.τ).loc Cert.SmallLastReferenceIdeal.main_arg2)
      ∧ r.2.mem ((c.tc : Thread Cert.SmallLastReferenceIdeal.nD Cert.SmallLastReferenceIdeal.τ).loc Cert.SmallLastReferenceIdeal.main_arg3) = m ((c.tc : Thread Cert.SmallLastReferenceIdeal.nD Cert.SmallLastReferenceIdeal.τ).loc Cert.SmallLastReferenceIdeal.main_arg3)
      ∧ r.2.mem ((c.tc : Thread Cert.SmallLastReferenceIdeal.nD Cert.SmallLastReferenceIdeal.τ).loc Cert.SmallLastReferenceIdeal.main_arg4) = m ((c.tc : Thread Cert.SmallLastReferenceIdeal.nD Cert.SmallLastReferenceIdeal.τ).loc Cert.SmallLastReferenceIdeal.main_arg4)
      ∧ r.2.mem ((c.tc : Thread Cert.SmallLastReferenceIdeal.nD Cert.SmallLastReferenceIdeal.τ).loc Cert.SmallLastReferenceIdeal.main_arg5) = m ((c.tc : Thread Cert.SmallLastReferenceIdeal.nD Cert.SmallLastReferenceIdeal.τ).loc Cert.SmallLastReferenceIdeal.main_arg5)
      ∧ r.2.mem ((c.tc : Thread Cert.SmallLastReferenceIdeal.nD Cert.SmallLastReferenceIdeal.τ).loc Cert.SmallLastReferenceIdeal.main_arg6) = m ((c.tc : Thread Cert.SmallLastReferenceIdeal.nD Cert.SmallLastReferenceIdeal.τ).loc Cert.SmallLastReferenceIdeal.main_arg6)
      ∧ r.2.mem ((c.tc : Thread Cert.SmallLastReferenceIdeal.nD Cert.SmallLastReferenceIdeal.τ).loc Cert.SmallLastReferenceIdeal.main_arg7) = m ((c.tc : Thread Cert.SmallLastReferenceIdeal.nD Cert.SmallLastReferenceIdeal.τ).loc Cert.SmallLastReferenceIdeal.main_arg7)
      ∧ r.2.mem ((c.tc : Thread Cert.SmallLastReferenceIdeal.nD Cert.SmallLastReferenceIdeal.τ).loc Cert.SmallLastReferenceIdeal.main_arg8) = m ((c.tc : Thread Cert.SmallLastReferenceIdeal.nD Cert.SmallLastReferenceIdeal.τ).loc Cert.SmallLastReferenceIdeal.main_arg8)
      ∧ r.2.mem ((c.tc : Thread Cert.SmallLastReferenceIdeal.nD Cert.SmallLastReferenceIdeal.τ).loc Cert.SmallLastReferenceIdeal.main_arg9) = m ((c.tc : Thread Cert.SmallLastReferenceIdeal.nD Cert.SmallLastReferenceIdeal.τ).loc Cert.SmallLastReferenceIdeal.main_arg9)
      ∧ r.2.mem ((c.tc : Thread Cert.SmallLastReferenceIdeal.nD Cert.SmallLastReferenceIdeal.τ).loc Cert.SmallLastReferenceIdeal.main_arg10) = m ((c.tc : Thread Cert.SmallLastReferenceIdeal.nD Cert.SmallLastReferenceIdeal.τ).loc Cert.SmallLastReferenceIdeal.main_arg10)
      ∧ r.2.mem ((c.tc : Thread Cert.SmallLastReferenceIdeal.nD Cert.SmallLastReferenceIdeal.τ).loc Cert.SmallLastReferenceIdeal.main_arg11) = m ((c.tc : Thread Cert.SmallLastReferenceIdeal.nD Cert.SmallLastReferenceIdeal.τ).loc Cert.SmallLastReferenceIdeal.main_arg11)
      ∧ r.2.mem ((c.tc : Thread Cert.SmallLastReferenceIdeal.nD Cert.SmallLastReferenceIdeal.τ).loc Cert.SmallLastReferenceIdeal.main_arg12) = m ((c.tc : Thread Cert.SmallLastReferenceIdeal.nD Cert.SmallLastReferenceIdeal.τ).loc Cert.SmallLastReferenceIdeal.main_arg12)
      ∧ r.2.mem ((c.tc : Thread Cert.SmallLastReferenceIdeal.nD Cert.SmallLastReferenceIdeal.τ).loc Cert.SmallLastReferenceIdeal.main_arg13) = m ((c.tc : Thread Cert.SmallLastReferenceIdeal.nD Cert.SmallLastReferenceIdeal.τ).loc Cert.SmallLastReferenceIdeal.main_arg13)
      ∧ r.2.mem ((c.tc : Thread Cert.SmallLastReferenceIdeal.nD Cert.SmallLastReferenceIdeal.τ).loc Cert.SmallLastReferenceIdeal.main_arg14) = m ((c.tc : Thread Cert.SmallLastReferenceIdeal.nD Cert.SmallLastReferenceIdeal.τ).loc Cert.SmallLastReferenceIdeal.main_arg14)
      ∧ r.2.mem ((c.tc : Thread Cert.SmallLastReferenceIdeal.nD Cert.SmallLastReferenceIdeal.τ).loc Cert.SmallLastReferenceIdeal.main_arg15) = m ((c.tc : Thread Cert.SmallLastReferenceIdeal.nD Cert.SmallLastReferenceIdeal.τ).loc Cert.SmallLastReferenceIdeal.main_arg15))
      ∧ r.2.sem = fun _ => 0)

def quiescent_ChipSumIn [hChipSumIn : Cert.ChipSumIn.Facts] : Prop :=
  ∀ (m : (ℓ : Loc Cert.ChipSumIn.nD Cert.ChipSumIn.τ Cert.ChipSumIn.sig) → Buf (Elt Bits) ℓ) (g : Dev Cert.ChipSumIn.nD → PrngReg), Pre_ChipSumIn m →
    θ_run (Cert.ChipSumIn.defs (F := Bits)) (onTc (τ := Cert.ChipSumIn.τ) (Cert.ChipSumIn.main (F := Bits))) ⟨m, fun _ => 0, g⟩ (fun r => (∀ c : Dev Cert.ChipSumIn.nD,
      r.2.mem ((c.tc : Thread Cert.ChipSumIn.nD Cert.ChipSumIn.τ).loc Cert.ChipSumIn.main_arg0) = m ((c.tc : Thread Cert.ChipSumIn.nD Cert.ChipSumIn.τ).loc Cert.ChipSumIn.main_arg0))
      ∧ r.2.sem = fun _ => 0)

def quiescent_ChipSumInIdeal [hChipSumInIdeal : Cert.ChipSumInIdeal.Facts] : Prop :=
  ∀ (m : (ℓ : Loc Cert.ChipSumInIdeal.nD Cert.ChipSumInIdeal.τ Cert.ChipSumInIdeal.sig) → Buf (Elt Ideal) ℓ) (g : Dev Cert.ChipSumInIdeal.nD → PrngReg), Pre_ChipSumInIdeal m →
    θ_run (Cert.ChipSumInIdeal.defs (F := Ideal)) (onTc (τ := Cert.ChipSumInIdeal.τ) (Cert.ChipSumInIdeal.main (F := Ideal))) ⟨m, fun _ => 0, g⟩ (fun r => (∀ c : Dev Cert.ChipSumInIdeal.nD,
      r.2.mem ((c.tc : Thread Cert.ChipSumInIdeal.nD Cert.ChipSumInIdeal.τ).loc Cert.ChipSumInIdeal.main_arg0) = m ((c.tc : Thread Cert.ChipSumInIdeal.nD Cert.ChipSumInIdeal.τ).loc Cert.ChipSumInIdeal.main_arg0))
      ∧ r.2.sem = fun _ => 0)

def quiescent_ChipSumInReference [hChipSumInReference : Cert.ChipSumInReference.Facts] : Prop :=
  ∀ (m : (ℓ : Loc Cert.ChipSumInReference.nD Cert.ChipSumInReference.τ Cert.ChipSumInReference.sig) → Buf (Elt Bits) ℓ) (g : Dev Cert.ChipSumInReference.nD → PrngReg), Pre_ChipSumInReference m →
    θ_run (Cert.ChipSumInReference.defs (F := Bits)) (onTc (τ := Cert.ChipSumInReference.τ) (Cert.ChipSumInReference.main (F := Bits))) ⟨m, fun _ => 0, g⟩ (fun r => (∀ c : Dev Cert.ChipSumInReference.nD,
      r.2.mem ((c.tc : Thread Cert.ChipSumInReference.nD Cert.ChipSumInReference.τ).loc Cert.ChipSumInReference.main_arg0) = m ((c.tc : Thread Cert.ChipSumInReference.nD Cert.ChipSumInReference.τ).loc Cert.ChipSumInReference.main_arg0))
      ∧ r.2.sem = fun _ => 0)

def quiescent_ChipSumInReferenceIdeal [hChipSumInReferenceIdeal : Cert.ChipSumInReferenceIdeal.Facts] : Prop :=
  ∀ (m : (ℓ : Loc Cert.ChipSumInReferenceIdeal.nD Cert.ChipSumInReferenceIdeal.τ Cert.ChipSumInReferenceIdeal.sig) → Buf (Elt Ideal) ℓ) (g : Dev Cert.ChipSumInReferenceIdeal.nD → PrngReg), Pre_ChipSumInReferenceIdeal m →
    θ_run (Cert.ChipSumInReferenceIdeal.defs (F := Ideal)) (onTc (τ := Cert.ChipSumInReferenceIdeal.τ) (Cert.ChipSumInReferenceIdeal.main (F := Ideal))) ⟨m, fun _ => 0, g⟩ (fun r => (∀ c : Dev Cert.ChipSumInReferenceIdeal.nD,
      r.2.mem ((c.tc : Thread Cert.ChipSumInReferenceIdeal.nD Cert.ChipSumInReferenceIdeal.τ).loc Cert.ChipSumInReferenceIdeal.main_arg0) = m ((c.tc : Thread Cert.ChipSumInReferenceIdeal.nD Cert.ChipSumInReferenceIdeal.τ).loc Cert.ChipSumInReferenceIdeal.main_arg0))
      ∧ r.2.sem = fun _ => 0)

def quiescent_ChipSumGate [hChipSumGate : Cert.ChipSumGate.Facts] : Prop :=
  ∀ (m : (ℓ : Loc Cert.ChipSumGate.nD Cert.ChipSumGate.τ Cert.ChipSumGate.sig) → Buf (Elt Bits) ℓ) (g : Dev Cert.ChipSumGate.nD → PrngReg), Pre_ChipSumGate m →
    θ_run (Cert.ChipSumGate.defs (F := Bits)) (onTc (τ := Cert.ChipSumGate.τ) (Cert.ChipSumGate.main (F := Bits))) ⟨m, fun _ => 0, g⟩ (fun r => (∀ c : Dev Cert.ChipSumGate.nD,
      r.2.mem ((c.tc : Thread Cert.ChipSumGate.nD Cert.ChipSumGate.τ).loc Cert.ChipSumGate.main_arg0) = m ((c.tc : Thread Cert.ChipSumGate.nD Cert.ChipSumGate.τ).loc Cert.ChipSumGate.main_arg0))
      ∧ r.2.sem = fun _ => 0)

def quiescent_ChipSumGateIdeal [hChipSumGateIdeal : Cert.ChipSumGateIdeal.Facts] : Prop :=
  ∀ (m : (ℓ : Loc Cert.ChipSumGateIdeal.nD Cert.ChipSumGateIdeal.τ Cert.ChipSumGateIdeal.sig) → Buf (Elt Ideal) ℓ) (g : Dev Cert.ChipSumGateIdeal.nD → PrngReg), Pre_ChipSumGateIdeal m →
    θ_run (Cert.ChipSumGateIdeal.defs (F := Ideal)) (onTc (τ := Cert.ChipSumGateIdeal.τ) (Cert.ChipSumGateIdeal.main (F := Ideal))) ⟨m, fun _ => 0, g⟩ (fun r => (∀ c : Dev Cert.ChipSumGateIdeal.nD,
      r.2.mem ((c.tc : Thread Cert.ChipSumGateIdeal.nD Cert.ChipSumGateIdeal.τ).loc Cert.ChipSumGateIdeal.main_arg0) = m ((c.tc : Thread Cert.ChipSumGateIdeal.nD Cert.ChipSumGateIdeal.τ).loc Cert.ChipSumGateIdeal.main_arg0))
      ∧ r.2.sem = fun _ => 0)

def quiescent_ChipSumGateReference [hChipSumGateReference : Cert.ChipSumGateReference.Facts] : Prop :=
  ∀ (m : (ℓ : Loc Cert.ChipSumGateReference.nD Cert.ChipSumGateReference.τ Cert.ChipSumGateReference.sig) → Buf (Elt Bits) ℓ) (g : Dev Cert.ChipSumGateReference.nD → PrngReg), Pre_ChipSumGateReference m →
    θ_run (Cert.ChipSumGateReference.defs (F := Bits)) (onTc (τ := Cert.ChipSumGateReference.τ) (Cert.ChipSumGateReference.main (F := Bits))) ⟨m, fun _ => 0, g⟩ (fun r => (∀ c : Dev Cert.ChipSumGateReference.nD,
      r.2.mem ((c.tc : Thread Cert.ChipSumGateReference.nD Cert.ChipSumGateReference.τ).loc Cert.ChipSumGateReference.main_arg0) = m ((c.tc : Thread Cert.ChipSumGateReference.nD Cert.ChipSumGateReference.τ).loc Cert.ChipSumGateReference.main_arg0))
      ∧ r.2.sem = fun _ => 0)

def quiescent_ChipSumGateReferenceIdeal [hChipSumGateReferenceIdeal : Cert.ChipSumGateReferenceIdeal.Facts] : Prop :=
  ∀ (m : (ℓ : Loc Cert.ChipSumGateReferenceIdeal.nD Cert.ChipSumGateReferenceIdeal.τ Cert.ChipSumGateReferenceIdeal.sig) → Buf (Elt Ideal) ℓ) (g : Dev Cert.ChipSumGateReferenceIdeal.nD → PrngReg), Pre_ChipSumGateReferenceIdeal m →
    θ_run (Cert.ChipSumGateReferenceIdeal.defs (F := Ideal)) (onTc (τ := Cert.ChipSumGateReferenceIdeal.τ) (Cert.ChipSumGateReferenceIdeal.main (F := Ideal))) ⟨m, fun _ => 0, g⟩ (fun r => (∀ c : Dev Cert.ChipSumGateReferenceIdeal.nD,
      r.2.mem ((c.tc : Thread Cert.ChipSumGateReferenceIdeal.nD Cert.ChipSumGateReferenceIdeal.τ).loc Cert.ChipSumGateReferenceIdeal.main_arg0) = m ((c.tc : Thread Cert.ChipSumGateReferenceIdeal.nD Cert.ChipSumGateReferenceIdeal.τ).loc Cert.ChipSumGateReferenceIdeal.main_arg0))
      ∧ r.2.sem = fun _ => 0)

def quiescent_ChipSumOut [hChipSumOut : Cert.ChipSumOut.Facts] : Prop :=
  ∀ (m : (ℓ : Loc Cert.ChipSumOut.nD Cert.ChipSumOut.τ Cert.ChipSumOut.sig) → Buf (Elt Bits) ℓ) (g : Dev Cert.ChipSumOut.nD → PrngReg), Pre_ChipSumOut m →
    θ_run (Cert.ChipSumOut.defs (F := Bits)) (onTc (τ := Cert.ChipSumOut.τ) (Cert.ChipSumOut.main (F := Bits))) ⟨m, fun _ => 0, g⟩ (fun r => (∀ c : Dev Cert.ChipSumOut.nD,
      r.2.mem ((c.tc : Thread Cert.ChipSumOut.nD Cert.ChipSumOut.τ).loc Cert.ChipSumOut.main_arg0) = m ((c.tc : Thread Cert.ChipSumOut.nD Cert.ChipSumOut.τ).loc Cert.ChipSumOut.main_arg0))
      ∧ r.2.sem = fun _ => 0)

def quiescent_ChipSumOutIdeal [hChipSumOutIdeal : Cert.ChipSumOutIdeal.Facts] : Prop :=
  ∀ (m : (ℓ : Loc Cert.ChipSumOutIdeal.nD Cert.ChipSumOutIdeal.τ Cert.ChipSumOutIdeal.sig) → Buf (Elt Ideal) ℓ) (g : Dev Cert.ChipSumOutIdeal.nD → PrngReg), Pre_ChipSumOutIdeal m →
    θ_run (Cert.ChipSumOutIdeal.defs (F := Ideal)) (onTc (τ := Cert.ChipSumOutIdeal.τ) (Cert.ChipSumOutIdeal.main (F := Ideal))) ⟨m, fun _ => 0, g⟩ (fun r => (∀ c : Dev Cert.ChipSumOutIdeal.nD,
      r.2.mem ((c.tc : Thread Cert.ChipSumOutIdeal.nD Cert.ChipSumOutIdeal.τ).loc Cert.ChipSumOutIdeal.main_arg0) = m ((c.tc : Thread Cert.ChipSumOutIdeal.nD Cert.ChipSumOutIdeal.τ).loc Cert.ChipSumOutIdeal.main_arg0))
      ∧ r.2.sem = fun _ => 0)

def quiescent_ChipSumOutReference [hChipSumOutReference : Cert.ChipSumOutReference.Facts] : Prop :=
  ∀ (m : (ℓ : Loc Cert.ChipSumOutReference.nD Cert.ChipSumOutReference.τ Cert.ChipSumOutReference.sig) → Buf (Elt Bits) ℓ) (g : Dev Cert.ChipSumOutReference.nD → PrngReg), Pre_ChipSumOutReference m →
    θ_run (Cert.ChipSumOutReference.defs (F := Bits)) (onTc (τ := Cert.ChipSumOutReference.τ) (Cert.ChipSumOutReference.main (F := Bits))) ⟨m, fun _ => 0, g⟩ (fun r => (∀ c : Dev Cert.ChipSumOutReference.nD,
      r.2.mem ((c.tc : Thread Cert.ChipSumOutReference.nD Cert.ChipSumOutReference.τ).loc Cert.ChipSumOutReference.main_arg0) = m ((c.tc : Thread Cert.ChipSumOutReference.nD Cert.ChipSumOutReference.τ).loc Cert.ChipSumOutReference.main_arg0))
      ∧ r.2.sem = fun _ => 0)

def quiescent_ChipSumOutReferenceIdeal [hChipSumOutReferenceIdeal : Cert.ChipSumOutReferenceIdeal.Facts] : Prop :=
  ∀ (m : (ℓ : Loc Cert.ChipSumOutReferenceIdeal.nD Cert.ChipSumOutReferenceIdeal.τ Cert.ChipSumOutReferenceIdeal.sig) → Buf (Elt Ideal) ℓ) (g : Dev Cert.ChipSumOutReferenceIdeal.nD → PrngReg), Pre_ChipSumOutReferenceIdeal m →
    θ_run (Cert.ChipSumOutReferenceIdeal.defs (F := Ideal)) (onTc (τ := Cert.ChipSumOutReferenceIdeal.τ) (Cert.ChipSumOutReferenceIdeal.main (F := Ideal))) ⟨m, fun _ => 0, g⟩ (fun r => (∀ c : Dev Cert.ChipSumOutReferenceIdeal.nD,
      r.2.mem ((c.tc : Thread Cert.ChipSumOutReferenceIdeal.nD Cert.ChipSumOutReferenceIdeal.τ).loc Cert.ChipSumOutReferenceIdeal.main_arg0) = m ((c.tc : Thread Cert.ChipSumOutReferenceIdeal.nD Cert.ChipSumOutReferenceIdeal.τ).loc Cert.ChipSumOutReferenceIdeal.main_arg0))
      ∧ r.2.sem = fun _ => 0)

def quiescent_ChipSumUp [hChipSumUp : Cert.ChipSumUp.Facts] : Prop :=
  ∀ (m : (ℓ : Loc Cert.ChipSumUp.nD Cert.ChipSumUp.τ Cert.ChipSumUp.sig) → Buf (Elt Bits) ℓ) (g : Dev Cert.ChipSumUp.nD → PrngReg), Pre_ChipSumUp m →
    θ_run (Cert.ChipSumUp.defs (F := Bits)) (onTc (τ := Cert.ChipSumUp.τ) (Cert.ChipSumUp.main (F := Bits))) ⟨m, fun _ => 0, g⟩ (fun r => (∀ c : Dev Cert.ChipSumUp.nD,
      r.2.mem ((c.tc : Thread Cert.ChipSumUp.nD Cert.ChipSumUp.τ).loc Cert.ChipSumUp.main_arg0) = m ((c.tc : Thread Cert.ChipSumUp.nD Cert.ChipSumUp.τ).loc Cert.ChipSumUp.main_arg0))
      ∧ r.2.sem = fun _ => 0)

def quiescent_ChipSumUpIdeal [hChipSumUpIdeal : Cert.ChipSumUpIdeal.Facts] : Prop :=
  ∀ (m : (ℓ : Loc Cert.ChipSumUpIdeal.nD Cert.ChipSumUpIdeal.τ Cert.ChipSumUpIdeal.sig) → Buf (Elt Ideal) ℓ) (g : Dev Cert.ChipSumUpIdeal.nD → PrngReg), Pre_ChipSumUpIdeal m →
    θ_run (Cert.ChipSumUpIdeal.defs (F := Ideal)) (onTc (τ := Cert.ChipSumUpIdeal.τ) (Cert.ChipSumUpIdeal.main (F := Ideal))) ⟨m, fun _ => 0, g⟩ (fun r => (∀ c : Dev Cert.ChipSumUpIdeal.nD,
      r.2.mem ((c.tc : Thread Cert.ChipSumUpIdeal.nD Cert.ChipSumUpIdeal.τ).loc Cert.ChipSumUpIdeal.main_arg0) = m ((c.tc : Thread Cert.ChipSumUpIdeal.nD Cert.ChipSumUpIdeal.τ).loc Cert.ChipSumUpIdeal.main_arg0))
      ∧ r.2.sem = fun _ => 0)

def quiescent_ChipSumUpReference [hChipSumUpReference : Cert.ChipSumUpReference.Facts] : Prop :=
  ∀ (m : (ℓ : Loc Cert.ChipSumUpReference.nD Cert.ChipSumUpReference.τ Cert.ChipSumUpReference.sig) → Buf (Elt Bits) ℓ) (g : Dev Cert.ChipSumUpReference.nD → PrngReg), Pre_ChipSumUpReference m →
    θ_run (Cert.ChipSumUpReference.defs (F := Bits)) (onTc (τ := Cert.ChipSumUpReference.τ) (Cert.ChipSumUpReference.main (F := Bits))) ⟨m, fun _ => 0, g⟩ (fun r => (∀ c : Dev Cert.ChipSumUpReference.nD,
      r.2.mem ((c.tc : Thread Cert.ChipSumUpReference.nD Cert.ChipSumUpReference.τ).loc Cert.ChipSumUpReference.main_arg0) = m ((c.tc : Thread Cert.ChipSumUpReference.nD Cert.ChipSumUpReference.τ).loc Cert.ChipSumUpReference.main_arg0))
      ∧ r.2.sem = fun _ => 0)

def quiescent_ChipSumUpReferenceIdeal [hChipSumUpReferenceIdeal : Cert.ChipSumUpReferenceIdeal.Facts] : Prop :=
  ∀ (m : (ℓ : Loc Cert.ChipSumUpReferenceIdeal.nD Cert.ChipSumUpReferenceIdeal.τ Cert.ChipSumUpReferenceIdeal.sig) → Buf (Elt Ideal) ℓ) (g : Dev Cert.ChipSumUpReferenceIdeal.nD → PrngReg), Pre_ChipSumUpReferenceIdeal m →
    θ_run (Cert.ChipSumUpReferenceIdeal.defs (F := Ideal)) (onTc (τ := Cert.ChipSumUpReferenceIdeal.τ) (Cert.ChipSumUpReferenceIdeal.main (F := Ideal))) ⟨m, fun _ => 0, g⟩ (fun r => (∀ c : Dev Cert.ChipSumUpReferenceIdeal.nD,
      r.2.mem ((c.tc : Thread Cert.ChipSumUpReferenceIdeal.nD Cert.ChipSumUpReferenceIdeal.τ).loc Cert.ChipSumUpReferenceIdeal.main_arg0) = m ((c.tc : Thread Cert.ChipSumUpReferenceIdeal.nD Cert.ChipSumUpReferenceIdeal.τ).loc Cert.ChipSumUpReferenceIdeal.main_arg0))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInReference [hGradInReference : Cert.GradInReference.Facts] : Prop :=
  ∀ (m : (ℓ : Loc Cert.GradInReference.nD Cert.GradInReference.τ Cert.GradInReference.sig) → Buf (Elt Bits) ℓ) (g : Dev Cert.GradInReference.nD → PrngReg), Pre_GradInReference m →
    θ_run (Cert.GradInReference.defs (F := Bits)) (onTc (τ := Cert.GradInReference.τ) (Cert.GradInReference.main (F := Bits))) ⟨m, fun _ => 0, g⟩ (fun r => (∀ c : Dev Cert.GradInReference.nD,
      r.2.mem ((c.tc : Thread Cert.GradInReference.nD Cert.GradInReference.τ).loc Cert.GradInReference.main_arg0) = m ((c.tc : Thread Cert.GradInReference.nD Cert.GradInReference.τ).loc Cert.GradInReference.main_arg0)
      ∧ r.2.mem ((c.tc : Thread Cert.GradInReference.nD Cert.GradInReference.τ).loc Cert.GradInReference.main_arg1) = m ((c.tc : Thread Cert.GradInReference.nD Cert.GradInReference.τ).loc Cert.GradInReference.main_arg1))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReference [hGradOutReference : Cert.GradOutReference.Facts] : Prop :=
  ∀ (m : (ℓ : Loc Cert.GradOutReference.nD Cert.GradOutReference.τ Cert.GradOutReference.sig) → Buf (Elt Bits) ℓ) (g : Dev Cert.GradOutReference.nD → PrngReg), Pre_GradOutReference m →
    θ_run (Cert.GradOutReference.defs (F := Bits)) (onTc (τ := Cert.GradOutReference.τ) (Cert.GradOutReference.main (F := Bits))) ⟨m, fun _ => 0, g⟩ (fun r => (∀ c : Dev Cert.GradOutReference.nD,
      r.2.mem ((c.tc : Thread Cert.GradOutReference.nD Cert.GradOutReference.τ).loc Cert.GradOutReference.main_arg0) = m ((c.tc : Thread Cert.GradOutReference.nD Cert.GradOutReference.τ).loc Cert.GradOutReference.main_arg0)
      ∧ r.2.mem ((c.tc : Thread Cert.GradOutReference.nD Cert.GradOutReference.τ).loc Cert.GradOutReference.main_arg1) = m ((c.tc : Thread Cert.GradOutReference.nD Cert.GradOutReference.τ).loc Cert.GradOutReference.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpReference [hGradUpReference : Cert.GradUpReference.Facts] : Prop :=
  ∀ (m : (ℓ : Loc Cert.GradUpReference.nD Cert.GradUpReference.τ Cert.GradUpReference.sig) → Buf (Elt Bits) ℓ) (g : Dev Cert.GradUpReference.nD → PrngReg), Pre_GradUpReference m →
    θ_run (Cert.GradUpReference.defs (F := Bits)) (onTc (τ := Cert.GradUpReference.τ) (Cert.GradUpReference.main (F := Bits))) ⟨m, fun _ => 0, g⟩ (fun r => (∀ c : Dev Cert.GradUpReference.nD,
      r.2.mem ((c.tc : Thread Cert.GradUpReference.nD Cert.GradUpReference.τ).loc Cert.GradUpReference.main_arg0) = m ((c.tc : Thread Cert.GradUpReference.nD Cert.GradUpReference.τ).loc Cert.GradUpReference.main_arg0)
      ∧ r.2.mem ((c.tc : Thread Cert.GradUpReference.nD Cert.GradUpReference.τ).loc Cert.GradUpReference.main_arg1) = m ((c.tc : Thread Cert.GradUpReference.nD Cert.GradUpReference.τ).loc Cert.GradUpReference.main_arg1))
      ∧ r.2.sem = fun _ => 0)

def quiescent_GradUpReferenceIdeal [hGradUpReferenceIdeal : Cert.GradUpReferenceIdeal.Facts] : Prop :=
  ∀ (m : (ℓ : Loc Cert.GradUpReferenceIdeal.nD Cert.GradUpReferenceIdeal.τ Cert.GradUpReferenceIdeal.sig) → Buf (Elt Ideal) ℓ) (g : Dev Cert.GradUpReferenceIdeal.nD → PrngReg), Pre_GradUpReferenceIdeal m →
    θ_run (Cert.GradUpReferenceIdeal.defs (F := Ideal)) (onTc (τ := Cert.GradUpReferenceIdeal.τ) (Cert.GradUpReferenceIdeal.main (F := Ideal))) ⟨m, fun _ => 0, g⟩ (fun r => (∀ c : Dev Cert.GradUpReferenceIdeal.nD,
      r.2.mem ((c.tc : Thread Cert.GradUpReferenceIdeal.nD Cert.GradUpReferenceIdeal.τ).loc Cert.GradUpReferenceIdeal.main_arg0) = m ((c.tc : Thread Cert.GradUpReferenceIdeal.nD Cert.GradUpReferenceIdeal.τ).loc Cert.GradUpReferenceIdeal.main_arg0)
      ∧ r.2.mem ((c.tc : Thread Cert.GradUpReferenceIdeal.nD Cert.GradUpReferenceIdeal.τ).loc Cert.GradUpReferenceIdeal.main_arg1) = m ((c.tc : Thread Cert.GradUpReferenceIdeal.nD Cert.GradUpReferenceIdeal.τ).loc Cert.GradUpReferenceIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownReference [hGradDownReference : Cert.GradDownReference.Facts] : Prop :=
  ∀ (m : (ℓ : Loc Cert.GradDownReference.nD Cert.GradDownReference.τ Cert.GradDownReference.sig) → Buf (Elt Bits) ℓ) (g : Dev Cert.GradDownReference.nD → PrngReg), Pre_GradDownReference m →
    θ_run (Cert.GradDownReference.defs (F := Bits)) (onTc (τ := Cert.GradDownReference.τ) (Cert.GradDownReference.main (F := Bits))) ⟨m, fun _ => 0, g⟩ (fun r => (∀ c : Dev Cert.GradDownReference.nD,
      r.2.mem ((c.tc : Thread Cert.GradDownReference.nD Cert.GradDownReference.τ).loc Cert.GradDownReference.main_arg0) = m ((c.tc : Thread Cert.GradDownReference.nD Cert.GradDownReference.τ).loc Cert.GradDownReference.main_arg0)
      ∧ r.2.mem ((c.tc : Thread Cert.GradDownReference.nD Cert.GradDownReference.τ).loc Cert.GradDownReference.main_arg1) = m ((c.tc : Thread Cert.GradDownReference.nD Cert.GradDownReference.τ).loc Cert.GradDownReference.main_arg1))
      ∧ r.2.sem = fun _ => 0)

def quiescent_GradDownReferenceIdeal [hGradDownReferenceIdeal : Cert.GradDownReferenceIdeal.Facts] : Prop :=
  ∀ (m : (ℓ : Loc Cert.GradDownReferenceIdeal.nD Cert.GradDownReferenceIdeal.τ Cert.GradDownReferenceIdeal.sig) → Buf (Elt Ideal) ℓ) (g : Dev Cert.GradDownReferenceIdeal.nD → PrngReg), Pre_GradDownReferenceIdeal m →
    θ_run (Cert.GradDownReferenceIdeal.defs (F := Ideal)) (onTc (τ := Cert.GradDownReferenceIdeal.τ) (Cert.GradDownReferenceIdeal.main (F := Ideal))) ⟨m, fun _ => 0, g⟩ (fun r => (∀ c : Dev Cert.GradDownReferenceIdeal.nD,
      r.2.mem ((c.tc : Thread Cert.GradDownReferenceIdeal.nD Cert.GradDownReferenceIdeal.τ).loc Cert.GradDownReferenceIdeal.main_arg0) = m ((c.tc : Thread Cert.GradDownReferenceIdeal.nD Cert.GradDownReferenceIdeal.τ).loc Cert.GradDownReferenceIdeal.main_arg0)
      ∧ r.2.mem ((c.tc : Thread Cert.GradDownReferenceIdeal.nD Cert.GradDownReferenceIdeal.τ).loc Cert.GradDownReferenceIdeal.main_arg1) = m ((c.tc : Thread Cert.GradDownReferenceIdeal.nD Cert.GradDownReferenceIdeal.τ).loc Cert.GradDownReferenceIdeal.main_arg1))
      ∧ r.2.sem = fun _ => 0)

def quiescent_BackIn [hBackIn : Cert.BackIn.Facts] : Prop :=
  ∀ (m : (ℓ : Loc Cert.BackIn.nD Cert.BackIn.τ Cert.BackIn.sig) → Buf (Elt Bits) ℓ) (g : Dev Cert.BackIn.nD → PrngReg), Pre_BackIn m →
    θ_run (Cert.BackIn.defs (F := Bits)) (onTc (τ := Cert.BackIn.τ) (Cert.BackIn.main (F := Bits))) ⟨m, fun _ => 0, g⟩ (fun r => (∀ c : Dev Cert.BackIn.nD,
      r.2.mem ((c.tc : Thread Cert.BackIn.nD Cert.BackIn.τ).loc Cert.BackIn.main_arg0) = m ((c.tc : Thread Cert.BackIn.nD Cert.BackIn.τ).loc Cert.BackIn.main_arg0)
      ∧ r.2.mem ((c.tc : Thread Cert.BackIn.nD Cert.BackIn.τ).loc Cert.BackIn.main_arg1) = m ((c.tc : Thread Cert.BackIn.nD Cert.BackIn.τ).loc Cert.BackIn.main_arg1)
      ∧ r.2.mem ((c.tc : Thread Cert.BackIn.nD Cert.BackIn.τ).loc Cert.BackIn.main_arg2) = m ((c.tc : Thread Cert.BackIn.nD Cert.BackIn.τ).loc Cert.BackIn.main_arg2)
      ∧ r.2.mem ((c.tc : Thread Cert.BackIn.nD Cert.BackIn.τ).loc Cert.BackIn.main_arg3) = m ((c.tc : Thread Cert.BackIn.nD Cert.BackIn.τ).loc Cert.BackIn.main_arg3)
      ∧ r.2.mem ((c.tc : Thread Cert.BackIn.nD Cert.BackIn.τ).loc Cert.BackIn.main_arg4) = m ((c.tc : Thread Cert.BackIn.nD Cert.BackIn.τ).loc Cert.BackIn.main_arg4))
      ∧ r.2.sem = fun _ => 0)

def quiescent_BackInIdeal [hBackInIdeal : Cert.BackInIdeal.Facts] : Prop :=
  ∀ (m : (ℓ : Loc Cert.BackInIdeal.nD Cert.BackInIdeal.τ Cert.BackInIdeal.sig) → Buf (Elt Ideal) ℓ) (g : Dev Cert.BackInIdeal.nD → PrngReg), Pre_BackInIdeal m →
    θ_run (Cert.BackInIdeal.defs (F := Ideal)) (onTc (τ := Cert.BackInIdeal.τ) (Cert.BackInIdeal.main (F := Ideal))) ⟨m, fun _ => 0, g⟩ (fun r => (∀ c : Dev Cert.BackInIdeal.nD,
      r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
      ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1)
      ∧ r.2.mem ((c.tc : Thread Cert.BackInIdeal.nD Cert.BackInIdeal.τ).loc Cert.BackInIdeal.main_arg2) = m ((c.tc : Thread Cert.BackInIdeal.nD Cert.BackInIdeal.τ).loc Cert.BackInIdeal.main_arg2)
      ∧ r.2.mem ((c.tc : Thread Cert.BackInIdeal.nD Cert.BackInIdeal.τ).loc Cert.BackInIdeal.main_arg3) = m ((c.tc : Thread Cert.BackInIdeal.nD Cert.BackInIdeal.τ).loc Cert.BackInIdeal.main_arg3)
      ∧ r.2.mem ((c.tc : Thread Cert.BackInIdeal.nD Cert.BackInIdeal.τ).loc Cert.BackInIdeal.main_arg4) = m ((c.tc : Thread Cert.BackInIdeal.nD Cert.BackInIdeal.τ).loc Cert.BackInIdeal.main_arg4))
      ∧ r.2.sem = fun _ => 0)

def quiescent_BackInReference [hBackInReference : Cert.BackInReference.Facts] : Prop :=
  ∀ (m : (ℓ : Loc Cert.BackInReference.nD Cert.BackInReference.τ Cert.BackInReference.sig) → Buf (Elt Bits) ℓ) (g : Dev Cert.BackInReference.nD → PrngReg), Pre_BackInReference m →
    θ_run (Cert.BackInReference.defs (F := Bits)) (onTc (τ := Cert.BackInReference.τ) (Cert.BackInReference.main (F := Bits))) ⟨m, fun _ => 0, g⟩ (fun r => (∀ c : Dev Cert.BackInReference.nD,
      r.2.mem ((c.tc : Thread Cert.BackInReference.nD Cert.BackInReference.τ).loc Cert.BackInReference.main_arg0) = m ((c.tc : Thread Cert.BackInReference.nD Cert.BackInReference.τ).loc Cert.BackInReference.main_arg0)
      ∧ r.2.mem ((c.tc : Thread Cert.BackInReference.nD Cert.BackInReference.τ).loc Cert.BackInReference.main_arg1) = m ((c.tc : Thread Cert.BackInReference.nD Cert.BackInReference.τ).loc Cert.BackInReference.main_arg1)
      ∧ r.2.mem ((c.tc : Thread Cert.BackInReference.nD Cert.BackInReference.τ).loc Cert.BackInReference.main_arg2) = m ((c.tc : Thread Cert.BackInReference.nD Cert.BackInReference.τ).loc Cert.BackInReference.main_arg2)
      ∧ r.2.mem ((c.tc : Thread Cert.BackInReference.nD Cert.BackInReference.τ).loc Cert.BackInReference.main_arg3) = m ((c.tc : Thread Cert.BackInReference.nD Cert.BackInReference.τ).loc Cert.BackInReference.main_arg3)
      ∧ r.2.mem ((c.tc : Thread Cert.BackInReference.nD Cert.BackInReference.τ).loc Cert.BackInReference.main_arg4) = m ((c.tc : Thread Cert.BackInReference.nD Cert.BackInReference.τ).loc Cert.BackInReference.main_arg4))
      ∧ r.2.sem = fun _ => 0)

def quiescent_BackInReferenceIdeal [hBackInReferenceIdeal : Cert.BackInReferenceIdeal.Facts] : Prop :=
  ∀ (m : (ℓ : Loc Cert.BackInReferenceIdeal.nD Cert.BackInReferenceIdeal.τ Cert.BackInReferenceIdeal.sig) → Buf (Elt Ideal) ℓ) (g : Dev Cert.BackInReferenceIdeal.nD → PrngReg), Pre_BackInReferenceIdeal m →
    θ_run (Cert.BackInReferenceIdeal.defs (F := Ideal)) (onTc (τ := Cert.BackInReferenceIdeal.τ) (Cert.BackInReferenceIdeal.main (F := Ideal))) ⟨m, fun _ => 0, g⟩ (fun r => (∀ c : Dev Cert.BackInReferenceIdeal.nD,
      r.2.mem ((c.tc : Thread Cert.BackInReferenceIdeal.nD Cert.BackInReferenceIdeal.τ).loc Cert.BackInReferenceIdeal.main_arg0) = m ((c.tc : Thread Cert.BackInReferenceIdeal.nD Cert.BackInReferenceIdeal.τ).loc Cert.BackInReferenceIdeal.main_arg0)
      ∧ r.2.mem ((c.tc : Thread Cert.BackInReferenceIdeal.nD Cert.BackInReferenceIdeal.τ).loc Cert.BackInReferenceIdeal.main_arg1) = m ((c.tc : Thread Cert.BackInReferenceIdeal.nD Cert.BackInReferenceIdeal.τ).loc Cert.BackInReferenceIdeal.main_arg1)
      ∧ r.2.mem ((c.tc : Thread Cert.BackInReferenceIdeal.nD Cert.BackInReferenceIdeal.τ).loc Cert.BackInReferenceIdeal.main_arg2) = m ((c.tc : Thread Cert.BackInReferenceIdeal.nD Cert.BackInReferenceIdeal.τ).loc Cert.BackInReferenceIdeal.main_arg2)
      ∧ r.2.mem ((c.tc : Thread Cert.BackInReferenceIdeal.nD Cert.BackInReferenceIdeal.τ).loc Cert.BackInReferenceIdeal.main_arg3) = m ((c.tc : Thread Cert.BackInReferenceIdeal.nD Cert.BackInReferenceIdeal.τ).loc Cert.BackInReferenceIdeal.main_arg3)
      ∧ r.2.mem ((c.tc : Thread Cert.BackInReferenceIdeal.nD Cert.BackInReferenceIdeal.τ).loc Cert.BackInReferenceIdeal.main_arg4) = m ((c.tc : Thread Cert.BackInReferenceIdeal.nD Cert.BackInReferenceIdeal.τ).loc Cert.BackInReferenceIdeal.main_arg4))
      ∧ r.2.sem = fun _ => 0)

def quiescent_ForwardIn [hForwardIn : Cert.ForwardIn.Facts] : Prop :=
  ∀ (m : (ℓ : Loc Cert.ForwardIn.nD Cert.ForwardIn.τ Cert.ForwardIn.sig) → Buf (Elt Bits) ℓ) (g : Dev Cert.ForwardIn.nD → PrngReg), Pre_ForwardIn m →
    θ_run (Cert.ForwardIn.defs (F := Bits)) (onTc (τ := Cert.ForwardIn.τ) (Cert.ForwardIn.main (F := Bits))) ⟨m, fun _ => 0, g⟩ (fun r => (∀ c : Dev Cert.ForwardIn.nD,
      r.2.mem ((c.tc : Thread Cert.ForwardIn.nD Cert.ForwardIn.τ).loc Cert.ForwardIn.main_arg0) = m ((c.tc : Thread Cert.ForwardIn.nD Cert.ForwardIn.τ).loc Cert.ForwardIn.main_arg0)
      ∧ r.2.mem ((c.tc : Thread Cert.ForwardIn.nD Cert.ForwardIn.τ).loc Cert.ForwardIn.main_arg1) = m ((c.tc : Thread Cert.ForwardIn.nD Cert.ForwardIn.τ).loc Cert.ForwardIn.main_arg1)
      ∧ r.2.mem ((c.tc : Thread Cert.ForwardIn.nD Cert.ForwardIn.τ).loc Cert.ForwardIn.main_arg2) = m ((c.tc : Thread Cert.ForwardIn.nD Cert.ForwardIn.τ).loc Cert.ForwardIn.main_arg2))
      ∧ r.2.sem = fun _ => 0)

def quiescent_ForwardInIdeal [hForwardInIdeal : Cert.ForwardInIdeal.Facts] : Prop :=
  ∀ (m : (ℓ : Loc Cert.ForwardInIdeal.nD Cert.ForwardInIdeal.τ Cert.ForwardInIdeal.sig) → Buf (Elt Ideal) ℓ) (g : Dev Cert.ForwardInIdeal.nD → PrngReg), Pre_ForwardInIdeal m →
    θ_run (Cert.ForwardInIdeal.defs (F := Ideal)) (onTc (τ := Cert.ForwardInIdeal.τ) (Cert.ForwardInIdeal.main (F := Ideal))) ⟨m, fun _ => 0, g⟩ (fun r => (∀ c : Dev Cert.ForwardInIdeal.nD,
      r.2.mem ((c.tc : Thread Cert.ForwardInIdeal.nD Cert.ForwardInIdeal.τ).loc Cert.ForwardInIdeal.main_arg0) = m ((c.tc : Thread Cert.ForwardInIdeal.nD Cert.ForwardInIdeal.τ).loc Cert.ForwardInIdeal.main_arg0)
      ∧ r.2.mem ((c.tc : Thread Cert.ForwardInIdeal.nD Cert.ForwardInIdeal.τ).loc Cert.ForwardInIdeal.main_arg1) = m ((c.tc : Thread Cert.ForwardInIdeal.nD Cert.ForwardInIdeal.τ).loc Cert.ForwardInIdeal.main_arg1)
      ∧ r.2.mem ((c.tc : Thread Cert.ForwardInIdeal.nD Cert.ForwardInIdeal.τ).loc Cert.ForwardInIdeal.main_arg2) = m ((c.tc : Thread Cert.ForwardInIdeal.nD Cert.ForwardInIdeal.τ).loc Cert.ForwardInIdeal.main_arg2))
      ∧ r.2.sem = fun _ => 0)

def quiescent_ForwardInReference [hForwardInReference : Cert.ForwardInReference.Facts] : Prop :=
  ∀ (m : (ℓ : Loc Cert.ForwardInReference.nD Cert.ForwardInReference.τ Cert.ForwardInReference.sig) → Buf (Elt Bits) ℓ) (g : Dev Cert.ForwardInReference.nD → PrngReg), Pre_ForwardInReference m →
    θ_run (Cert.ForwardInReference.defs (F := Bits)) (onTc (τ := Cert.ForwardInReference.τ) (Cert.ForwardInReference.main (F := Bits))) ⟨m, fun _ => 0, g⟩ (fun r => (∀ c : Dev Cert.ForwardInReference.nD,
      r.2.mem ((c.tc : Thread Cert.ForwardInReference.nD Cert.ForwardInReference.τ).loc Cert.ForwardInReference.main_arg0) = m ((c.tc : Thread Cert.ForwardInReference.nD Cert.ForwardInReference.τ).loc Cert.ForwardInReference.main_arg0)
      ∧ r.2.mem ((c.tc : Thread Cert.ForwardInReference.nD Cert.ForwardInReference.τ).loc Cert.ForwardInReference.main_arg1) = m ((c.tc : Thread Cert.ForwardInReference.nD Cert.ForwardInReference.τ).loc Cert.ForwardInReference.main_arg1)
      ∧ r.2.mem ((c.tc : Thread Cert.ForwardInReference.nD Cert.ForwardInReference.τ).loc Cert.ForwardInReference.main_arg2) = m ((c.tc : Thread Cert.ForwardInReference.nD Cert.ForwardInReference.τ).loc Cert.ForwardInReference.main_arg2))
      ∧ r.2.sem = fun _ => 0)

def quiescent_ForwardInReferenceIdeal [hForwardInReferenceIdeal : Cert.ForwardInReferenceIdeal.Facts] : Prop :=
  ∀ (m : (ℓ : Loc Cert.ForwardInReferenceIdeal.nD Cert.ForwardInReferenceIdeal.τ Cert.ForwardInReferenceIdeal.sig) → Buf (Elt Ideal) ℓ) (g : Dev Cert.ForwardInReferenceIdeal.nD → PrngReg), Pre_ForwardInReferenceIdeal m →
    θ_run (Cert.ForwardInReferenceIdeal.defs (F := Ideal)) (onTc (τ := Cert.ForwardInReferenceIdeal.τ) (Cert.ForwardInReferenceIdeal.main (F := Ideal))) ⟨m, fun _ => 0, g⟩ (fun r => (∀ c : Dev Cert.ForwardInReferenceIdeal.nD,
      r.2.mem ((c.tc : Thread Cert.ForwardInReferenceIdeal.nD Cert.ForwardInReferenceIdeal.τ).loc Cert.ForwardInReferenceIdeal.main_arg0) = m ((c.tc : Thread Cert.ForwardInReferenceIdeal.nD Cert.ForwardInReferenceIdeal.τ).loc Cert.ForwardInReferenceIdeal.main_arg0)
      ∧ r.2.mem ((c.tc : Thread Cert.ForwardInReferenceIdeal.nD Cert.ForwardInReferenceIdeal.τ).loc Cert.ForwardInReferenceIdeal.main_arg1) = m ((c.tc : Thread Cert.ForwardInReferenceIdeal.nD Cert.ForwardInReferenceIdeal.τ).loc Cert.ForwardInReferenceIdeal.main_arg1)
      ∧ r.2.mem ((c.tc : Thread Cert.ForwardInReferenceIdeal.nD Cert.ForwardInReferenceIdeal.τ).loc Cert.ForwardInReferenceIdeal.main_arg2) = m ((c.tc : Thread Cert.ForwardInReferenceIdeal.nD Cert.ForwardInReferenceIdeal.τ).loc Cert.ForwardInReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReference [hMergeReference : Cert.MergeReference.Facts] : Prop :=
  ∀ (m : (ℓ : Loc Cert.MergeReference.nD Cert.MergeReference.τ Cert.MergeReference.sig) → Buf (Elt Bits) ℓ) (g : Dev Cert.MergeReference.nD → PrngReg), Pre_MergeReference m →
    θ_run (Cert.MergeReference.defs (F := Bits)) (onTc (τ := Cert.MergeReference.τ) (Cert.MergeReference.main (F := Bits))) ⟨m, fun _ => 0, g⟩ (fun r => (∀ c : Dev Cert.MergeReference.nD,
      r.2.mem ((c.tc : Thread Cert.MergeReference.nD Cert.MergeReference.τ).loc Cert.MergeReference.main_arg0) = m ((c.tc : Thread Cert.MergeReference.nD Cert.MergeReference.τ).loc Cert.MergeReference.main_arg0)
      ∧ r.2.mem ((c.tc : Thread Cert.MergeReference.nD Cert.MergeReference.τ).loc Cert.MergeReference.main_arg1) = m ((c.tc : Thread Cert.MergeReference.nD Cert.MergeReference.τ).loc Cert.MergeReference.main_arg1)
      ∧ r.2.mem ((c.tc : Thread Cert.MergeReference.nD Cert.MergeReference.τ).loc Cert.MergeReference.main_arg2) = m ((c.tc : Thread Cert.MergeReference.nD Cert.MergeReference.τ).loc Cert.MergeReference.main_arg2)
      ∧ r.2.mem ((c.tc : Thread Cert.MergeReference.nD Cert.MergeReference.τ).loc Cert.MergeReference.main_arg3) = m ((c.tc : Thread Cert.MergeReference.nD Cert.MergeReference.τ).loc Cert.MergeReference.main_arg3)
      ∧ r.2.mem ((c.tc : Thread Cert.MergeReference.nD Cert.MergeReference.τ).loc Cert.MergeReference.main_arg4) = m ((c.tc : Thread Cert.MergeReference.nD Cert.MergeReference.τ).loc Cert.MergeReference.main_arg4)
      ∧ r.2.mem ((c.tc : Thread Cert.MergeReference.nD Cert.MergeReference.τ).loc Cert.MergeReference.main_arg5) = m ((c.tc : Thread Cert.MergeReference.nD Cert.MergeReference.τ).loc Cert.MergeReference.main_arg5)
      ∧ r.2.mem ((c.tc : Thread Cert.MergeReference.nD Cert.MergeReference.τ).loc Cert.MergeReference.main_arg6) = m ((c.tc : Thread Cert.MergeReference.nD Cert.MergeReference.τ).loc Cert.MergeReference.main_arg6)
      ∧ r.2.mem ((c.tc : Thread Cert.MergeReference.nD Cert.MergeReference.τ).loc Cert.MergeReference.main_arg7) = m ((c.tc : Thread Cert.MergeReference.nD Cert.MergeReference.τ).loc Cert.MergeReference.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReference [hMlpReference : Cert.MlpReference.Facts] : Prop :=
  ∀ (m : (ℓ : Loc Cert.MlpReference.nD Cert.MlpReference.τ Cert.MlpReference.sig) → Buf (Elt Bits) ℓ) (g : Dev Cert.MlpReference.nD → PrngReg), Pre_MlpReference m →
    θ_run (Cert.MlpReference.defs (F := Bits)) (onTc (τ := Cert.MlpReference.τ) (Cert.MlpReference.main (F := Bits))) ⟨m, fun _ => 0, g⟩ (fun r => (∀ c : Dev Cert.MlpReference.nD,
      r.2.mem ((c.tc : Thread Cert.MlpReference.nD Cert.MlpReference.τ).loc Cert.MlpReference.main_arg0) = m ((c.tc : Thread Cert.MlpReference.nD Cert.MlpReference.τ).loc Cert.MlpReference.main_arg0)
      ∧ r.2.mem ((c.tc : Thread Cert.MlpReference.nD Cert.MlpReference.τ).loc Cert.MlpReference.main_arg1) = m ((c.tc : Thread Cert.MlpReference.nD Cert.MlpReference.τ).loc Cert.MlpReference.main_arg1)
      ∧ r.2.mem ((c.tc : Thread Cert.MlpReference.nD Cert.MlpReference.τ).loc Cert.MlpReference.main_arg2) = m ((c.tc : Thread Cert.MlpReference.nD Cert.MlpReference.τ).loc Cert.MlpReference.main_arg2)
      ∧ r.2.mem ((c.tc : Thread Cert.MlpReference.nD Cert.MlpReference.τ).loc Cert.MlpReference.main_arg3) = m ((c.tc : Thread Cert.MlpReference.nD Cert.MlpReference.τ).loc Cert.MlpReference.main_arg3)
      ∧ r.2.mem ((c.tc : Thread Cert.MlpReference.nD Cert.MlpReference.τ).loc Cert.MlpReference.main_arg4) = m ((c.tc : Thread Cert.MlpReference.nD Cert.MlpReference.τ).loc Cert.MlpReference.main_arg4)
      ∧ r.2.mem ((c.tc : Thread Cert.MlpReference.nD Cert.MlpReference.τ).loc Cert.MlpReference.main_arg5) = m ((c.tc : Thread Cert.MlpReference.nD Cert.MlpReference.τ).loc Cert.MlpReference.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_BackMlp [hBackMlp : Cert.BackMlp.Facts] : Prop :=
  ∀ (m : (ℓ : Loc Cert.BackMlp.nD Cert.BackMlp.τ Cert.BackMlp.sig) → Buf (Elt Bits) ℓ) (g : Dev Cert.BackMlp.nD → PrngReg), Pre_BackMlp m →
    θ_run (Cert.BackMlp.defs (F := Bits)) (onTc (τ := Cert.BackMlp.τ) (Cert.BackMlp.main (F := Bits))) ⟨m, fun _ => 0, g⟩ (fun r => (∀ c : Dev Cert.BackMlp.nD,
      r.2.mem ((c.tc : Thread Cert.BackMlp.nD Cert.BackMlp.τ).loc Cert.BackMlp.main_arg0) = m ((c.tc : Thread Cert.BackMlp.nD Cert.BackMlp.τ).loc Cert.BackMlp.main_arg0)
      ∧ r.2.mem ((c.tc : Thread Cert.BackMlp.nD Cert.BackMlp.τ).loc Cert.BackMlp.main_arg1) = m ((c.tc : Thread Cert.BackMlp.nD Cert.BackMlp.τ).loc Cert.BackMlp.main_arg1)
      ∧ r.2.mem ((c.tc : Thread Cert.BackMlp.nD Cert.BackMlp.τ).loc Cert.BackMlp.main_arg2) = m ((c.tc : Thread Cert.BackMlp.nD Cert.BackMlp.τ).loc Cert.BackMlp.main_arg2)
      ∧ r.2.mem ((c.tc : Thread Cert.BackMlp.nD Cert.BackMlp.τ).loc Cert.BackMlp.main_arg3) = m ((c.tc : Thread Cert.BackMlp.nD Cert.BackMlp.τ).loc Cert.BackMlp.main_arg3)
      ∧ r.2.mem ((c.tc : Thread Cert.BackMlp.nD Cert.BackMlp.τ).loc Cert.BackMlp.main_arg4) = m ((c.tc : Thread Cert.BackMlp.nD Cert.BackMlp.τ).loc Cert.BackMlp.main_arg4)
      ∧ r.2.mem ((c.tc : Thread Cert.BackMlp.nD Cert.BackMlp.τ).loc Cert.BackMlp.main_arg5) = m ((c.tc : Thread Cert.BackMlp.nD Cert.BackMlp.τ).loc Cert.BackMlp.main_arg5)
      ∧ r.2.mem ((c.tc : Thread Cert.BackMlp.nD Cert.BackMlp.τ).loc Cert.BackMlp.main_arg6) = m ((c.tc : Thread Cert.BackMlp.nD Cert.BackMlp.τ).loc Cert.BackMlp.main_arg6))
      ∧ r.2.sem = fun _ => 0)

def quiescent_BackMlpIdeal [hBackMlpIdeal : Cert.BackMlpIdeal.Facts] : Prop :=
  ∀ (m : (ℓ : Loc Cert.BackMlpIdeal.nD Cert.BackMlpIdeal.τ Cert.BackMlpIdeal.sig) → Buf (Elt Ideal) ℓ) (g : Dev Cert.BackMlpIdeal.nD → PrngReg), Pre_BackMlpIdeal m →
    θ_run (Cert.BackMlpIdeal.defs (F := Ideal)) (onTc (τ := Cert.BackMlpIdeal.τ) (Cert.BackMlpIdeal.main (F := Ideal))) ⟨m, fun _ => 0, g⟩ (fun r => (∀ c : Dev Cert.BackMlpIdeal.nD,
      r.2.mem ((c.tc : Thread Cert.BackMlpIdeal.nD Cert.BackMlpIdeal.τ).loc Cert.BackMlpIdeal.main_arg0) = m ((c.tc : Thread Cert.BackMlpIdeal.nD Cert.BackMlpIdeal.τ).loc Cert.BackMlpIdeal.main_arg0)
      ∧ r.2.mem ((c.tc : Thread Cert.BackMlpIdeal.nD Cert.BackMlpIdeal.τ).loc Cert.BackMlpIdeal.main_arg1) = m ((c.tc : Thread Cert.BackMlpIdeal.nD Cert.BackMlpIdeal.τ).loc Cert.BackMlpIdeal.main_arg1)
      ∧ r.2.mem ((c.tc : Thread Cert.BackMlpIdeal.nD Cert.BackMlpIdeal.τ).loc Cert.BackMlpIdeal.main_arg2) = m ((c.tc : Thread Cert.BackMlpIdeal.nD Cert.BackMlpIdeal.τ).loc Cert.BackMlpIdeal.main_arg2)
      ∧ r.2.mem ((c.tc : Thread Cert.BackMlpIdeal.nD Cert.BackMlpIdeal.τ).loc Cert.BackMlpIdeal.main_arg3) = m ((c.tc : Thread Cert.BackMlpIdeal.nD Cert.BackMlpIdeal.τ).loc Cert.BackMlpIdeal.main_arg3)
      ∧ r.2.mem ((c.tc : Thread Cert.BackMlpIdeal.nD Cert.BackMlpIdeal.τ).loc Cert.BackMlpIdeal.main_arg4) = m ((c.tc : Thread Cert.BackMlpIdeal.nD Cert.BackMlpIdeal.τ).loc Cert.BackMlpIdeal.main_arg4)
      ∧ r.2.mem ((c.tc : Thread Cert.BackMlpIdeal.nD Cert.BackMlpIdeal.τ).loc Cert.BackMlpIdeal.main_arg5) = m ((c.tc : Thread Cert.BackMlpIdeal.nD Cert.BackMlpIdeal.τ).loc Cert.BackMlpIdeal.main_arg5)
      ∧ r.2.mem ((c.tc : Thread Cert.BackMlpIdeal.nD Cert.BackMlpIdeal.τ).loc Cert.BackMlpIdeal.main_arg6) = m ((c.tc : Thread Cert.BackMlpIdeal.nD Cert.BackMlpIdeal.τ).loc Cert.BackMlpIdeal.main_arg6))
      ∧ r.2.sem = fun _ => 0)

def quiescent_BackMlpReference [hBackMlpReference : Cert.BackMlpReference.Facts] : Prop :=
  ∀ (m : (ℓ : Loc Cert.BackMlpReference.nD Cert.BackMlpReference.τ Cert.BackMlpReference.sig) → Buf (Elt Bits) ℓ) (g : Dev Cert.BackMlpReference.nD → PrngReg), Pre_BackMlpReference m →
    θ_run (Cert.BackMlpReference.defs (F := Bits)) (onTc (τ := Cert.BackMlpReference.τ) (Cert.BackMlpReference.main (F := Bits))) ⟨m, fun _ => 0, g⟩ (fun r => (∀ c : Dev Cert.BackMlpReference.nD,
      r.2.mem ((c.tc : Thread Cert.BackMlpReference.nD Cert.BackMlpReference.τ).loc Cert.BackMlpReference.main_arg0) = m ((c.tc : Thread Cert.BackMlpReference.nD Cert.BackMlpReference.τ).loc Cert.BackMlpReference.main_arg0)
      ∧ r.2.mem ((c.tc : Thread Cert.BackMlpReference.nD Cert.BackMlpReference.τ).loc Cert.BackMlpReference.main_arg1) = m ((c.tc : Thread Cert.BackMlpReference.nD Cert.BackMlpReference.τ).loc Cert.BackMlpReference.main_arg1)
      ∧ r.2.mem ((c.tc : Thread Cert.BackMlpReference.nD Cert.BackMlpReference.τ).loc Cert.BackMlpReference.main_arg2) = m ((c.tc : Thread Cert.BackMlpReference.nD Cert.BackMlpReference.τ).loc Cert.BackMlpReference.main_arg2)
      ∧ r.2.mem ((c.tc : Thread Cert.BackMlpReference.nD Cert.BackMlpReference.τ).loc Cert.BackMlpReference.main_arg3) = m ((c.tc : Thread Cert.BackMlpReference.nD Cert.BackMlpReference.τ).loc Cert.BackMlpReference.main_arg3)
      ∧ r.2.mem ((c.tc : Thread Cert.BackMlpReference.nD Cert.BackMlpReference.τ).loc Cert.BackMlpReference.main_arg4) = m ((c.tc : Thread Cert.BackMlpReference.nD Cert.BackMlpReference.τ).loc Cert.BackMlpReference.main_arg4)
      ∧ r.2.mem ((c.tc : Thread Cert.BackMlpReference.nD Cert.BackMlpReference.τ).loc Cert.BackMlpReference.main_arg5) = m ((c.tc : Thread Cert.BackMlpReference.nD Cert.BackMlpReference.τ).loc Cert.BackMlpReference.main_arg5)
      ∧ r.2.mem ((c.tc : Thread Cert.BackMlpReference.nD Cert.BackMlpReference.τ).loc Cert.BackMlpReference.main_arg6) = m ((c.tc : Thread Cert.BackMlpReference.nD Cert.BackMlpReference.τ).loc Cert.BackMlpReference.main_arg6))
      ∧ r.2.sem = fun _ => 0)

def quiescent_BackMlpReferenceIdeal [hBackMlpReferenceIdeal : Cert.BackMlpReferenceIdeal.Facts] : Prop :=
  ∀ (m : (ℓ : Loc Cert.BackMlpReferenceIdeal.nD Cert.BackMlpReferenceIdeal.τ Cert.BackMlpReferenceIdeal.sig) → Buf (Elt Ideal) ℓ) (g : Dev Cert.BackMlpReferenceIdeal.nD → PrngReg), Pre_BackMlpReferenceIdeal m →
    θ_run (Cert.BackMlpReferenceIdeal.defs (F := Ideal)) (onTc (τ := Cert.BackMlpReferenceIdeal.τ) (Cert.BackMlpReferenceIdeal.main (F := Ideal))) ⟨m, fun _ => 0, g⟩ (fun r => (∀ c : Dev Cert.BackMlpReferenceIdeal.nD,
      r.2.mem ((c.tc : Thread Cert.BackMlpReferenceIdeal.nD Cert.BackMlpReferenceIdeal.τ).loc Cert.BackMlpReferenceIdeal.main_arg0) = m ((c.tc : Thread Cert.BackMlpReferenceIdeal.nD Cert.BackMlpReferenceIdeal.τ).loc Cert.BackMlpReferenceIdeal.main_arg0)
      ∧ r.2.mem ((c.tc : Thread Cert.BackMlpReferenceIdeal.nD Cert.BackMlpReferenceIdeal.τ).loc Cert.BackMlpReferenceIdeal.main_arg1) = m ((c.tc : Thread Cert.BackMlpReferenceIdeal.nD Cert.BackMlpReferenceIdeal.τ).loc Cert.BackMlpReferenceIdeal.main_arg1)
      ∧ r.2.mem ((c.tc : Thread Cert.BackMlpReferenceIdeal.nD Cert.BackMlpReferenceIdeal.τ).loc Cert.BackMlpReferenceIdeal.main_arg2) = m ((c.tc : Thread Cert.BackMlpReferenceIdeal.nD Cert.BackMlpReferenceIdeal.τ).loc Cert.BackMlpReferenceIdeal.main_arg2)
      ∧ r.2.mem ((c.tc : Thread Cert.BackMlpReferenceIdeal.nD Cert.BackMlpReferenceIdeal.τ).loc Cert.BackMlpReferenceIdeal.main_arg3) = m ((c.tc : Thread Cert.BackMlpReferenceIdeal.nD Cert.BackMlpReferenceIdeal.τ).loc Cert.BackMlpReferenceIdeal.main_arg3)
      ∧ r.2.mem ((c.tc : Thread Cert.BackMlpReferenceIdeal.nD Cert.BackMlpReferenceIdeal.τ).loc Cert.BackMlpReferenceIdeal.main_arg4) = m ((c.tc : Thread Cert.BackMlpReferenceIdeal.nD Cert.BackMlpReferenceIdeal.τ).loc Cert.BackMlpReferenceIdeal.main_arg4)
      ∧ r.2.mem ((c.tc : Thread Cert.BackMlpReferenceIdeal.nD Cert.BackMlpReferenceIdeal.τ).loc Cert.BackMlpReferenceIdeal.main_arg5) = m ((c.tc : Thread Cert.BackMlpReferenceIdeal.nD Cert.BackMlpReferenceIdeal.τ).loc Cert.BackMlpReferenceIdeal.main_arg5)
      ∧ r.2.mem ((c.tc : Thread Cert.BackMlpReferenceIdeal.nD Cert.BackMlpReferenceIdeal.τ).loc Cert.BackMlpReferenceIdeal.main_arg6) = m ((c.tc : Thread Cert.BackMlpReferenceIdeal.nD Cert.BackMlpReferenceIdeal.τ).loc Cert.BackMlpReferenceIdeal.main_arg6))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingReference [hGatingReference : Cert.GatingReference.Facts] : Prop :=
  ∀ (m : (ℓ : Loc Cert.GatingReference.nD Cert.GatingReference.τ Cert.GatingReference.sig) → Buf (Elt Bits) ℓ) (g : Dev Cert.GatingReference.nD → PrngReg), Pre_GatingReference m →
    θ_run (Cert.GatingReference.defs (F := Bits)) (onTc (τ := Cert.GatingReference.τ) (Cert.GatingReference.main (F := Bits))) ⟨m, fun _ => 0, g⟩ (fun r => (∀ c : Dev Cert.GatingReference.nD,
      r.2.mem ((c.tc : Thread Cert.GatingReference.nD Cert.GatingReference.τ).loc Cert.GatingReference.main_arg0) = m ((c.tc : Thread Cert.GatingReference.nD Cert.GatingReference.τ).loc Cert.GatingReference.main_arg0)
      ∧ r.2.mem ((c.tc : Thread Cert.GatingReference.nD Cert.GatingReference.τ).loc Cert.GatingReference.main_arg1) = m ((c.tc : Thread Cert.GatingReference.nD Cert.GatingReference.τ).loc Cert.GatingReference.main_arg1)
      ∧ r.2.mem ((c.tc : Thread Cert.GatingReference.nD Cert.GatingReference.τ).loc Cert.GatingReference.main_arg2) = m ((c.tc : Thread Cert.GatingReference.nD Cert.GatingReference.τ).loc Cert.GatingReference.main_arg2)
      ∧ r.2.mem ((c.tc : Thread Cert.GatingReference.nD Cert.GatingReference.τ).loc Cert.GatingReference.main_arg3) = m ((c.tc : Thread Cert.GatingReference.nD Cert.GatingReference.τ).loc Cert.GatingReference.main_arg3)
      ∧ r.2.mem ((c.tc : Thread Cert.GatingReference.nD Cert.GatingReference.τ).loc Cert.GatingReference.main_arg4) = m ((c.tc : Thread Cert.GatingReference.nD Cert.GatingReference.τ).loc Cert.GatingReference.main_arg4))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4))
      ∧ r.2.sem = fun _ => 0)

def preserves_Share_ShareIdeal : Prop :=
  True

def algebraic_ShareIdeal_ShareReferenceIdeal [hShareIdeal : Cert.ShareIdeal.Facts] [hShareReferenceIdeal : Cert.ShareReferenceIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareReferenceIdeal.nD Cert.ShareReferenceIdeal.τ Cert.ShareReferenceIdeal.sig) → Buf (Elt Ideal) ℓ) (g' : Dev Cert.ShareReferenceIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![512, 1536]⟩ ⟨2, ![4096, 1536]⟩ 0 8 c (m' (((0 : Dev Cert.ShareReferenceIdeal.nD).tc : Thread Cert.ShareReferenceIdeal.nD Cert.ShareReferenceIdeal.τ).loc Cert.ShareReferenceIdeal.main_arg0))
      ∧ m ((c.tc : Thread Cert.ShareIdeal.nD Cert.ShareIdeal.τ).loc Cert.ShareIdeal.main_arg1) = Layout.block ⟨2, ![128, 256]⟩ ⟨2, ![1024, 256]⟩ 0 8 c (m' (((0 : Dev Cert.ShareReferenceIdeal.nD).tc : Thread Cert.ShareReferenceIdeal.nD Cert.ShareReferenceIdeal.τ).loc Cert.ShareReferenceIdeal.main_arg1))
      ∧ m ((c.tc : Thread Cert.ShareIdeal.nD Cert.ShareIdeal.τ).loc Cert.ShareIdeal.main_arg2) = Layout.block ⟨2, ![128, 256]⟩ ⟨2, ![1024, 256]⟩ 0 8 c (m' (((0 : Dev Cert.ShareReferenceIdeal.nD).tc : Thread Cert.ShareReferenceIdeal.nD Cert.ShareReferenceIdeal.τ).loc Cert.ShareReferenceIdeal.main_arg2))
      ∧ m ((c.tc : Thread Cert.ShareIdeal.nD Cert.ShareIdeal.τ).loc Cert.ShareIdeal.main_arg3) = Layout.block ⟨2, ![128, 1024]⟩ ⟨2, ![1024, 1024]⟩ 0 8 c (m' (((0 : Dev Cert.ShareReferenceIdeal.nD).tc : Thread Cert.ShareReferenceIdeal.nD Cert.ShareReferenceIdeal.τ).loc Cert.ShareReferenceIdeal.main_arg3))
      ∧ m ((c.tc : Thread Cert.ShareIdeal.nD Cert.ShareIdeal.τ).loc Cert.ShareIdeal.main_arg4) = Layout.block ⟨2, ![128, 1024]⟩ ⟨2, ![1024, 1024]⟩ 0 8 c (m' (((0 : Dev Cert.ShareReferenceIdeal.nD).tc : Thread Cert.ShareReferenceIdeal.nD Cert.ShareReferenceIdeal.τ).loc Cert.ShareReferenceIdeal.main_arg4))
      ∧ m ((c.tc : Thread Cert.ShareIdeal.nD Cert.ShareIdeal.τ).loc Cert.ShareIdeal.main_arg5) = Layout.block ⟨2, ![128, 1024]⟩ ⟨2, ![1024, 1024]⟩ 0 8 c (m' (((0 : Dev Cert.ShareReferenceIdeal.nD).tc : Thread Cert.ShareReferenceIdeal.nD Cert.ShareReferenceIdeal.τ).loc Cert.ShareReferenceIdeal.main_arg5))
      ∧ m ((c.tc : Thread Cert.ShareIdeal.nD Cert.ShareIdeal.τ).loc Cert.ShareIdeal.main_arg6) = Layout.block ⟨2, ![512, 1024]⟩ ⟨2, ![4096, 1024]⟩ 0 8 c (m' (((0 : Dev Cert.ShareReferenceIdeal.nD).tc : Thread Cert.ShareReferenceIdeal.nD Cert.ShareReferenceIdeal.τ).loc Cert.ShareReferenceIdeal.main_arg6))
      ∧ m ((c.tc : Thread Cert.ShareIdeal.nD Cert.ShareIdeal.τ).loc Cert.ShareIdeal.main_arg7) = Layout.block ⟨2, ![512, 1024]⟩ ⟨2, ![4096, 1024]⟩ 0 8 c (m' (((0 : Dev Cert.ShareReferenceIdeal.nD).tc : Thread Cert.ShareReferenceIdeal.nD Cert.ShareReferenceIdeal.τ).loc Cert.ShareReferenceIdeal.main_arg7))) →
    ∃ (v0 : Buf (Elt Ideal) (((0 : Dev Cert.ShareReferenceIdeal.nD).tc : Thread Cert.ShareReferenceIdeal.nD Cert.ShareReferenceIdeal.τ).loc Cert.ShareReferenceIdeal.main_v0)) (v1 : Buf (Elt Ideal) (((0 : Dev Cert.ShareReferenceIdeal.nD).tc : Thread Cert.ShareReferenceIdeal.nD Cert.ShareReferenceIdeal.τ).loc Cert.ShareReferenceIdeal.main_v1)) (v2 : Buf (Elt Ideal) (((0 : Dev Cert.ShareReferenceIdeal.nD).tc : Thread Cert.ShareReferenceIdeal.nD Cert.ShareReferenceIdeal.τ).loc Cert.ShareReferenceIdeal.main_v2)) (v3 : Buf (Elt Ideal) (((0 : Dev Cert.ShareReferenceIdeal.nD).tc : Thread Cert.ShareReferenceIdeal.nD Cert.ShareReferenceIdeal.τ).loc Cert.ShareReferenceIdeal.main_v3)) (v4 : Buf (Elt Ideal) (((0 : Dev Cert.ShareReferenceIdeal.nD).tc : Thread Cert.ShareReferenceIdeal.nD Cert.ShareReferenceIdeal.τ).loc Cert.ShareReferenceIdeal.main_v4)) (v5 : Buf (Elt Ideal) (((0 : Dev Cert.ShareReferenceIdeal.nD).tc : Thread Cert.ShareReferenceIdeal.nD Cert.ShareReferenceIdeal.τ).loc Cert.ShareReferenceIdeal.main_v5)) (v6 : Buf (Elt Ideal) (((0 : Dev Cert.ShareReferenceIdeal.nD).tc : Thread Cert.ShareReferenceIdeal.nD Cert.ShareReferenceIdeal.τ).loc Cert.ShareReferenceIdeal.main_v6)) (v7 : Buf (Elt Ideal) (((0 : Dev Cert.ShareReferenceIdeal.nD).tc : Thread Cert.ShareReferenceIdeal.nD Cert.ShareReferenceIdeal.τ).loc Cert.ShareReferenceIdeal.main_v7)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1_0) = Layout.blockN ⟨3, ![2, 512, 1536]⟩ ⟨3, ![8, 512, 1536]⟩ (Layout.meshBlock [2, 2, 2] ![[0, 1], [], []] c) v0
          ∧ r.2.mem ((c.tc : Thread Cert.ShareIdeal.nD Cert.ShareIdeal.τ).loc Cert.ShareIdeal.main_v1_1) = Layout.blockN ⟨3, ![2, 128, 256]⟩ ⟨3, ![8, 128, 256]⟩ (Layout.meshBlock [2, 2, 2] ![[0, 1], [], []] c) v1
          ∧ r.2.mem ((c.tc : Thread Cert.ShareIdeal.nD Cert.ShareIdeal.τ).loc Cert.ShareIdeal.main_v1_2) = Layout.blockN ⟨3, ![2, 128, 256]⟩ ⟨3, ![8, 128, 256]⟩ (Layout.meshBlock [2, 2, 2] ![[0, 1], [], []] c) v2
          ∧ r.2.mem ((c.tc : Thread Cert.ShareIdeal.nD Cert.ShareIdeal.τ).loc Cert.ShareIdeal.main_v1_3) = Layout.blockN ⟨3, ![2, 128, 1024]⟩ ⟨3, ![8, 128, 1024]⟩ (Layout.meshBlock [2, 2, 2] ![[0, 1], [], []] c) v3
          ∧ r.2.mem ((c.tc : Thread Cert.ShareIdeal.nD Cert.ShareIdeal.τ).loc Cert.ShareIdeal.main_v1_4) = Layout.blockN ⟨3, ![2, 128, 1024]⟩ ⟨3, ![8, 128, 1024]⟩ (Layout.meshBlock [2, 2, 2] ![[0, 1], [], []] c) v4
          ∧ r.2.mem ((c.tc : Thread Cert.ShareIdeal.nD Cert.ShareIdeal.τ).loc Cert.ShareIdeal.main_v1_5) = Layout.blockN ⟨3, ![2, 128, 1024]⟩ ⟨3, ![8, 128, 1024]⟩ (Layout.meshBlock [2, 2, 2] ![[0, 1], [], []] c) v5
          ∧ r.2.mem ((c.tc : Thread Cert.ShareIdeal.nD Cert.ShareIdeal.τ).loc Cert.ShareIdeal.main_v1_6) = Layout.blockN ⟨3, ![2, 512, 1024]⟩ ⟨3, ![8, 512, 1024]⟩ (Layout.meshBlock [2, 2, 2] ![[0, 1], [], []] c) v6
          ∧ r.2.mem ((c.tc : Thread Cert.ShareIdeal.nD Cert.ShareIdeal.τ).loc Cert.ShareIdeal.main_v1_7) = Layout.blockN ⟨3, ![2, 512, 1024]⟩ ⟨3, ![8, 512, 1024]⟩ (Layout.meshBlock [2, 2, 2] ![[0, 1], [], []] c) v7
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
          ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
          ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
          ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
          ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4)
          ∧ r.2.mem ((c.tc : Thread Cert.ShareIdeal.nD Cert.ShareIdeal.τ).loc Cert.ShareIdeal.main_arg5) = m ((c.tc : Thread Cert.ShareIdeal.nD Cert.ShareIdeal.τ).loc Cert.ShareIdeal.main_arg5)
          ∧ r.2.mem ((c.tc : Thread Cert.ShareIdeal.nD Cert.ShareIdeal.τ).loc Cert.ShareIdeal.main_arg6) = m ((c.tc : Thread Cert.ShareIdeal.nD Cert.ShareIdeal.τ).loc Cert.ShareIdeal.main_arg6)
          ∧ r.2.mem ((c.tc : Thread Cert.ShareIdeal.nD Cert.ShareIdeal.τ).loc Cert.ShareIdeal.main_arg7) = m ((c.tc : Thread Cert.ShareIdeal.nD Cert.ShareIdeal.τ).loc Cert.ShareIdeal.main_arg7))
      ∧ θ_run (Cert.ShareReferenceIdeal.defs (F := Ideal)) (onTc (τ := Cert.ShareReferenceIdeal.τ) (Cert.ShareReferenceIdeal.main (F := Ideal))) ⟨m', fun _ => 0, g'⟩ (fun r =>
          r.2.mem (((0 : Dev Cert.ShareReferenceIdeal.nD).tc : Thread Cert.ShareReferenceIdeal.nD Cert.ShareReferenceIdeal.τ).loc Cert.ShareReferenceIdeal.main_v0) = v0
          ∧ r.2.mem (((0 : Dev Cert.ShareReferenceIdeal.nD).tc : Thread Cert.ShareReferenceIdeal.nD Cert.ShareReferenceIdeal.τ).loc Cert.ShareReferenceIdeal.main_v1) = v1
          ∧ r.2.mem (((0 : Dev Cert.ShareReferenceIdeal.nD).tc : Thread Cert.ShareReferenceIdeal.nD Cert.ShareReferenceIdeal.τ).loc Cert.ShareReferenceIdeal.main_v2) = v2
          ∧ r.2.mem (((0 : Dev Cert.ShareReferenceIdeal.nD).tc : Thread Cert.ShareReferenceIdeal.nD Cert.ShareReferenceIdeal.τ).loc Cert.ShareReferenceIdeal.main_v3) = v3
          ∧ r.2.mem (((0 : Dev Cert.ShareReferenceIdeal.nD).tc : Thread Cert.ShareReferenceIdeal.nD Cert.ShareReferenceIdeal.τ).loc Cert.ShareReferenceIdeal.main_v4) = v4
          ∧ r.2.mem (((0 : Dev Cert.ShareReferenceIdeal.nD).tc : Thread Cert.ShareReferenceIdeal.nD Cert.ShareReferenceIdeal.τ).loc Cert.ShareReferenceIdeal.main_v5) = v5
          ∧ r.2.mem (((0 : Dev Cert.ShareReferenceIdeal.nD).tc : Thread Cert.ShareReferenceIdeal.nD Cert.ShareReferenceIdeal.τ).loc Cert.ShareReferenceIdeal.main_v6) = v6
          ∧ r.2.mem (((0 : Dev Cert.ShareReferenceIdeal.nD).tc : Thread Cert.ShareReferenceIdeal.nD Cert.ShareReferenceIdeal.τ).loc Cert.ShareReferenceIdeal.main_v7) = v7
          ∧ r.2.mem (((0 : Dev Cert.ShareReferenceIdeal.nD).tc : Thread Cert.ShareReferenceIdeal.nD Cert.ShareReferenceIdeal.τ).loc Cert.ShareReferenceIdeal.main_arg0) = m' (((0 : Dev Cert.ShareReferenceIdeal.nD).tc : Thread Cert.ShareReferenceIdeal.nD Cert.ShareReferenceIdeal.τ).loc Cert.ShareReferenceIdeal.main_arg0)
          ∧ r.2.mem (((0 : Dev Cert.ShareReferenceIdeal.nD).tc : Thread Cert.ShareReferenceIdeal.nD Cert.ShareReferenceIdeal.τ).loc Cert.ShareReferenceIdeal.main_arg1) = m' (((0 : Dev Cert.ShareReferenceIdeal.nD).tc : Thread Cert.ShareReferenceIdeal.nD Cert.ShareReferenceIdeal.τ).loc Cert.ShareReferenceIdeal.main_arg1)
          ∧ r.2.mem (((0 : Dev Cert.ShareReferenceIdeal.nD).tc : Thread Cert.ShareReferenceIdeal.nD Cert.ShareReferenceIdeal.τ).loc Cert.ShareReferenceIdeal.main_arg2) = m' (((0 : Dev Cert.ShareReferenceIdeal.nD).tc : Thread Cert.ShareReferenceIdeal.nD Cert.ShareReferenceIdeal.τ).loc Cert.ShareReferenceIdeal.main_arg2)
          ∧ r.2.mem (((0 : Dev Cert.ShareReferenceIdeal.nD).tc : Thread Cert.ShareReferenceIdeal.nD Cert.ShareReferenceIdeal.τ).loc Cert.ShareReferenceIdeal.main_arg3) = m' (((0 : Dev Cert.ShareReferenceIdeal.nD).tc : Thread Cert.ShareReferenceIdeal.nD Cert.ShareReferenceIdeal.τ).loc Cert.ShareReferenceIdeal.main_arg3)
          ∧ r.2.mem (((0 : Dev Cert.ShareReferenceIdeal.nD).tc : Thread Cert.ShareReferenceIdeal.nD Cert.ShareReferenceIdeal.τ).loc Cert.ShareReferenceIdeal.main_arg4) = m' (((0 : Dev Cert.ShareReferenceIdeal.nD).tc : Thread Cert.ShareReferenceIdeal.nD Cert.ShareReferenceIdeal.τ).loc Cert.ShareReferenceIdeal.main_arg4)
          ∧ r.2.mem (((0 : Dev Cert.ShareReferenceIdeal.nD).tc : Thread Cert.ShareReferenceIdeal.nD Cert.ShareReferenceIdeal.τ).loc Cert.ShareReferenceIdeal.main_arg5) = m' (((0 : Dev Cert.ShareReferenceIdeal.nD).tc : Thread Cert.ShareReferenceIdeal.nD Cert.ShareReferenceIdeal.τ).loc Cert.ShareReferenceIdeal.main_arg5)
          ∧ r.2.mem (((0 : Dev Cert.ShareReferenceIdeal.nD).tc : Thread Cert.ShareReferenceIdeal.nD Cert.ShareReferenceIdeal.τ).loc Cert.ShareReferenceIdeal.main_arg6) = m' (((0 : Dev Cert.ShareReferenceIdeal.nD).tc : Thread Cert.ShareReferenceIdeal.nD Cert.ShareReferenceIdeal.τ).loc Cert.ShareReferenceIdeal.main_arg6)
          ∧ r.2.mem (((0 : Dev Cert.ShareReferenceIdeal.nD).tc : Thread Cert.ShareReferenceIdeal.nD Cert.ShareReferenceIdeal.τ).loc Cert.ShareReferenceIdeal.main_arg7) = m' (((0 : Dev Cert.ShareReferenceIdeal.nD).tc : Thread Cert.ShareReferenceIdeal.nD Cert.ShareReferenceIdeal.τ).loc Cert.ShareReferenceIdeal.main_arg7))

def bitexact_Share_ShareReference [hShare : Cert.Share.Facts] [hShareReference : Cert.ShareReference.Facts] : Prop :=
  ∀ (m : (ℓ : Loc Cert.Share.nD Cert.Share.τ Cert.Share.sig) → Buf (Elt Bits) ℓ) (g : Dev Cert.Share.nD → PrngReg)
    (m' : (ℓ : Loc Cert.ShareReference.nD Cert.ShareReference.τ Cert.ShareReference.sig) → Buf (Elt Bits) ℓ) (g' : Dev Cert.ShareReference.nD → PrngReg), Pre_Share m →
    (∀ c : Dev Cert.Share.nD,
      m ((c.tc : Thread Cert.Share.nD Cert.Share.τ).loc Cert.Share.main_arg0) = Layout.block ⟨2, ![512, 1536]⟩ ⟨2, ![4096, 1536]⟩ 0 8 c (m' (((0 : Dev Cert.ShareReference.nD).tc : Thread Cert.ShareReference.nD Cert.ShareReference.τ).loc Cert.ShareReference.main_arg0))
      ∧ m ((c.tc : Thread Cert.Share.nD Cert.Share.τ).loc Cert.Share.main_arg1) = Layout.block ⟨2, ![128, 256]⟩ ⟨2, ![1024, 256]⟩ 0 8 c (m' (((0 : Dev Cert.ShareReference.nD).tc : Thread Cert.ShareReference.nD Cert.ShareReference.τ).loc Cert.ShareReference.main_arg1))
      ∧ m ((c.tc : Thread Cert.Share.nD Cert.Share.τ).loc Cert.Share.main_arg2) = Layout.block ⟨2, ![128, 256]⟩ ⟨2, ![1024, 256]⟩ 0 8 c (m' (((0 : Dev Cert.ShareReference.nD).tc : Thread Cert.ShareReference.nD Cert.ShareReference.τ).loc Cert.ShareReference.main_arg2))
      ∧ m ((c.tc : Thread Cert.Share.nD Cert.Share.τ).loc Cert.Share.main_arg3) = Layout.block ⟨2, ![128, 1024]⟩ ⟨2, ![1024, 1024]⟩ 0 8 c (m' (((0 : Dev Cert.ShareReference.nD).tc : Thread Cert.ShareReference.nD Cert.ShareReference.τ).loc Cert.ShareReference.main_arg3))
      ∧ m ((c.tc : Thread Cert.Share.nD Cert.Share.τ).loc Cert.Share.main_arg4) = Layout.block ⟨2, ![128, 1024]⟩ ⟨2, ![1024, 1024]⟩ 0 8 c (m' (((0 : Dev Cert.ShareReference.nD).tc : Thread Cert.ShareReference.nD Cert.ShareReference.τ).loc Cert.ShareReference.main_arg4))
      ∧ m ((c.tc : Thread Cert.Share.nD Cert.Share.τ).loc Cert.Share.main_arg5) = Layout.block ⟨2, ![128, 1024]⟩ ⟨2, ![1024, 1024]⟩ 0 8 c (m' (((0 : Dev Cert.ShareReference.nD).tc : Thread Cert.ShareReference.nD Cert.ShareReference.τ).loc Cert.ShareReference.main_arg5))
      ∧ m ((c.tc : Thread Cert.Share.nD Cert.Share.τ).loc Cert.Share.main_arg6) = Layout.block ⟨2, ![512, 1024]⟩ ⟨2, ![4096, 1024]⟩ 0 8 c (m' (((0 : Dev Cert.ShareReference.nD).tc : Thread Cert.ShareReference.nD Cert.ShareReference.τ).loc Cert.ShareReference.main_arg6))
      ∧ m ((c.tc : Thread Cert.Share.nD Cert.Share.τ).loc Cert.Share.main_arg7) = Layout.block ⟨2, ![512, 1024]⟩ ⟨2, ![4096, 1024]⟩ 0 8 c (m' (((0 : Dev Cert.ShareReference.nD).tc : Thread Cert.ShareReference.nD Cert.ShareReference.τ).loc Cert.ShareReference.main_arg7))) →
    ∃ (v0 : Buf (Elt Bits) (((0 : Dev Cert.ShareReference.nD).tc : Thread Cert.ShareReference.nD Cert.ShareReference.τ).loc Cert.ShareReference.main_v0)) (v1 : Buf (Elt Bits) (((0 : Dev Cert.ShareReference.nD).tc : Thread Cert.ShareReference.nD Cert.ShareReference.τ).loc Cert.ShareReference.main_v1)) (v2 : Buf (Elt Bits) (((0 : Dev Cert.ShareReference.nD).tc : Thread Cert.ShareReference.nD Cert.ShareReference.τ).loc Cert.ShareReference.main_v2)) (v3 : Buf (Elt Bits) (((0 : Dev Cert.ShareReference.nD).tc : Thread Cert.ShareReference.nD Cert.ShareReference.τ).loc Cert.ShareReference.main_v3)) (v4 : Buf (Elt Bits) (((0 : Dev Cert.ShareReference.nD).tc : Thread Cert.ShareReference.nD Cert.ShareReference.τ).loc Cert.ShareReference.main_v4)) (v5 : Buf (Elt Bits) (((0 : Dev Cert.ShareReference.nD).tc : Thread Cert.ShareReference.nD Cert.ShareReference.τ).loc Cert.ShareReference.main_v5)) (v6 : Buf (Elt Bits) (((0 : Dev Cert.ShareReference.nD).tc : Thread Cert.ShareReference.nD Cert.ShareReference.τ).loc Cert.ShareReference.main_v6)) (v7 : Buf (Elt Bits) (((0 : Dev Cert.ShareReference.nD).tc : Thread Cert.ShareReference.nD Cert.ShareReference.τ).loc Cert.ShareReference.main_v7)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1_0) = Layout.blockN ⟨3, ![2, 512, 1536]⟩ ⟨3, ![8, 512, 1536]⟩ (Layout.meshBlock [2, 2, 2] ![[0, 1], [], []] c) v0
          ∧ r.2.mem ((c.tc : Thread Cert.Share.nD Cert.Share.τ).loc Cert.Share.main_v1_1) = Layout.blockN ⟨3, ![2, 128, 256]⟩ ⟨3, ![8, 128, 256]⟩ (Layout.meshBlock [2, 2, 2] ![[0, 1], [], []] c) v1
          ∧ r.2.mem ((c.tc : Thread Cert.Share.nD Cert.Share.τ).loc Cert.Share.main_v1_2) = Layout.blockN ⟨3, ![2, 128, 256]⟩ ⟨3, ![8, 128, 256]⟩ (Layout.meshBlock [2, 2, 2] ![[0, 1], [], []] c) v2
          ∧ r.2.mem ((c.tc : Thread Cert.Share.nD Cert.Share.τ).loc Cert.Share.main_v1_3) = Layout.blockN ⟨3, ![2, 128, 1024]⟩ ⟨3, ![8, 128, 1024]⟩ (Layout.meshBlock [2, 2, 2] ![[0, 1], [], []] c) v3
          ∧ r.2.mem ((c.tc : Thread Cert.Share.nD Cert.Share.τ).loc Cert.Share.main_v1_4) = Layout.blockN ⟨3, ![2, 128, 1024]⟩ ⟨3, ![8, 128, 1024]⟩ (Layout.meshBlock [2, 2, 2] ![[0, 1], [], []] c) v4
          ∧ r.2.mem ((c.tc : Thread Cert.Share.nD Cert.Share.τ).loc Cert.Share.main_v1_5) = Layout.blockN ⟨3, ![2, 128, 1024]⟩ ⟨3, ![8, 128, 1024]⟩ (Layout.meshBlock [2, 2, 2] ![[0, 1], [], []] c) v5
          ∧ r.2.mem ((c.tc : Thread Cert.Share.nD Cert.Share.τ).loc Cert.Share.main_v1_6) = Layout.blockN ⟨3, ![2, 512, 1024]⟩ ⟨3, ![8, 512, 1024]⟩ (Layout.meshBlock [2, 2, 2] ![[0, 1], [], []] c) v6
          ∧ r.2.mem ((c.tc : Thread Cert.Share.nD Cert.Share.τ).loc Cert.Share.main_v1_7) = Layout.blockN ⟨3, ![2, 512, 1024]⟩ ⟨3, ![8, 512, 1024]⟩ (Layout.meshBlock [2, 2, 2] ![[0, 1], [], []] c) v7
          ∧ r.2.mem ((c.tc : Thread Cert.Share.nD Cert.Share.τ).loc Cert.Share.main_arg0) = m ((c.tc : Thread Cert.Share.nD Cert.Share.τ).loc Cert.Share.main_arg0)
          ∧ r.2.mem ((c.tc : Thread Cert.Share.nD Cert.Share.τ).loc Cert.Share.main_arg1) = m ((c.tc : Thread Cert.Share.nD Cert.Share.τ).loc Cert.Share.main_arg1)
          ∧ r.2.mem ((c.tc : Thread Cert.Share.nD Cert.Share.τ).loc Cert.Share.main_arg2) = m ((c.tc : Thread Cert.Share.nD Cert.Share.τ).loc Cert.Share.main_arg2)
          ∧ r.2.mem ((c.tc : Thread Cert.Share.nD Cert.Share.τ).loc Cert.Share.main_arg3) = m ((c.tc : Thread Cert.Share.nD Cert.Share.τ).loc Cert.Share.main_arg3)
          ∧ r.2.mem ((c.tc : Thread Cert.Share.nD Cert.Share.τ).loc Cert.Share.main_arg4) = m ((c.tc : Thread Cert.Share.nD Cert.Share.τ).loc Cert.Share.main_arg4)
          ∧ r.2.mem ((c.tc : Thread Cert.Share.nD Cert.Share.τ).loc Cert.Share.main_arg5) = m ((c.tc : Thread Cert.Share.nD Cert.Share.τ).loc Cert.Share.main_arg5)
          ∧ r.2.mem ((c.tc : Thread Cert.Share.nD Cert.Share.τ).loc Cert.Share.main_arg6) = m ((c.tc : Thread Cert.Share.nD Cert.Share.τ).loc Cert.Share.main_arg6)
          ∧ r.2.mem ((c.tc : Thread Cert.Share.nD Cert.Share.τ).loc Cert.Share.main_arg7) = m ((c.tc : Thread Cert.Share.nD Cert.Share.τ).loc Cert.Share.main_arg7))
      ∧ θ_run (Cert.ShareReference.defs (F := Bits)) (onTc (τ := Cert.ShareReference.τ) (Cert.ShareReference.main (F := Bits))) ⟨m', fun _ => 0, g'⟩ (fun r =>
          r.2.mem (((0 : Dev Cert.ShareReference.nD).tc : Thread Cert.ShareReference.nD Cert.ShareReference.τ).loc Cert.ShareReference.main_v0) = v0
          ∧ r.2.mem (((0 : Dev Cert.ShareReference.nD).tc : Thread Cert.ShareReference.nD Cert.ShareReference.τ).loc Cert.ShareReference.main_v1) = v1
          ∧ r.2.mem (((0 : Dev Cert.ShareReference.nD).tc : Thread Cert.ShareReference.nD Cert.ShareReference.τ).loc Cert.ShareReference.main_v2) = v2
          ∧ r.2.mem (((0 : Dev Cert.ShareReference.nD).tc : Thread Cert.ShareReference.nD Cert.ShareReference.τ).loc Cert.ShareReference.main_v3) = v3
          ∧ r.2.mem (((0 : Dev Cert.ShareReference.nD).tc : Thread Cert.ShareReference.nD Cert.ShareReference.τ).loc Cert.ShareReference.main_v4) = v4
          ∧ r.2.mem (((0 : Dev Cert.ShareReference.nD).tc : Thread Cert.ShareReference.nD Cert.ShareReference.τ).loc Cert.ShareReference.main_v5) = v5
          ∧ r.2.mem (((0 : Dev Cert.ShareReference.nD).tc : Thread Cert.ShareReference.nD Cert.ShareReference.τ).loc Cert.ShareReference.main_v6) = v6
          ∧ r.2.mem (((0 : Dev Cert.ShareReference.nD).tc : Thread Cert.ShareReference.nD Cert.ShareReference.τ).loc Cert.ShareReference.main_v7) = v7
          ∧ r.2.mem (((0 : Dev Cert.ShareReference.nD).tc : Thread Cert.ShareReference.nD Cert.ShareReference.τ).loc Cert.ShareReference.main_arg0) = m' (((0 : Dev Cert.ShareReference.nD).tc : Thread Cert.ShareReference.nD Cert.ShareReference.τ).loc Cert.ShareReference.main_arg0)
          ∧ r.2.mem (((0 : Dev Cert.ShareReference.nD).tc : Thread Cert.ShareReference.nD Cert.ShareReference.τ).loc Cert.ShareReference.main_arg1) = m' (((0 : Dev Cert.ShareReference.nD).tc : Thread Cert.ShareReference.nD Cert.ShareReference.τ).loc Cert.ShareReference.main_arg1)
          ∧ r.2.mem (((0 : Dev Cert.ShareReference.nD).tc : Thread Cert.ShareReference.nD Cert.ShareReference.τ).loc Cert.ShareReference.main_arg2) = m' (((0 : Dev Cert.ShareReference.nD).tc : Thread Cert.ShareReference.nD Cert.ShareReference.τ).loc Cert.ShareReference.main_arg2)
          ∧ r.2.mem (((0 : Dev Cert.ShareReference.nD).tc : Thread Cert.ShareReference.nD Cert.ShareReference.τ).loc Cert.ShareReference.main_arg3) = m' (((0 : Dev Cert.ShareReference.nD).tc : Thread Cert.ShareReference.nD Cert.ShareReference.τ).loc Cert.ShareReference.main_arg3)
          ∧ r.2.mem (((0 : Dev Cert.ShareReference.nD).tc : Thread Cert.ShareReference.nD Cert.ShareReference.τ).loc Cert.ShareReference.main_arg4) = m' (((0 : Dev Cert.ShareReference.nD).tc : Thread Cert.ShareReference.nD Cert.ShareReference.τ).loc Cert.ShareReference.main_arg4)
          ∧ r.2.mem (((0 : Dev Cert.ShareReference.nD).tc : Thread Cert.ShareReference.nD Cert.ShareReference.τ).loc Cert.ShareReference.main_arg5) = m' (((0 : Dev Cert.ShareReference.nD).tc : Thread Cert.ShareReference.nD Cert.ShareReference.τ).loc Cert.ShareReference.main_arg5)
          ∧ r.2.mem (((0 : Dev Cert.ShareReference.nD).tc : Thread Cert.ShareReference.nD Cert.ShareReference.τ).loc Cert.ShareReference.main_arg6) = m' (((0 : Dev Cert.ShareReference.nD).tc : Thread Cert.ShareReference.nD Cert.ShareReference.τ).loc Cert.ShareReference.main_arg6)
          ∧ r.2.mem (((0 : Dev Cert.ShareReference.nD).tc : Thread Cert.ShareReference.nD Cert.ShareReference.τ).loc Cert.ShareReference.main_arg7) = m' (((0 : Dev Cert.ShareReference.nD).tc : Thread Cert.ShareReference.nD Cert.ShareReference.τ).loc Cert.ShareReference.main_arg7))

def preserves_Exchange_ExchangeIdeal : Prop :=
  True

def algebraic_ExchangeIdeal_ExchangeReferenceIdeal [hExchangeIdeal : Cert.ExchangeIdeal.Facts] [hExchangeReferenceIdeal : Cert.ExchangeReferenceIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeReferenceIdeal.nD Cert.ExchangeReferenceIdeal.τ Cert.ExchangeReferenceIdeal.sig) → Buf (Elt Ideal) ℓ) (g' : Dev Cert.ExchangeReferenceIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![4, 512, 1536]⟩ ⟨3, ![32, 512, 1536]⟩ 0 8 c (m' (((0 : Dev Cert.ExchangeReferenceIdeal.nD).tc : Thread Cert.ExchangeReferenceIdeal.nD Cert.ExchangeReferenceIdeal.τ).loc Cert.ExchangeReferenceIdeal.main_arg0))
      ∧ m ((c.tc : Thread Cert.ExchangeIdeal.nD Cert.ExchangeIdeal.τ).loc Cert.ExchangeIdeal.main_arg1) = Layout.block ⟨3, ![4, 128, 256]⟩ ⟨3, ![32, 128, 256]⟩ 0 8 c (m' (((0 : Dev Cert.ExchangeReferenceIdeal.nD).tc : Thread Cert.ExchangeReferenceIdeal.nD Cert.ExchangeReferenceIdeal.τ).loc Cert.ExchangeReferenceIdeal.main_arg1))
      ∧ m ((c.tc : Thread Cert.ExchangeIdeal.nD Cert.ExchangeIdeal.τ).loc Cert.ExchangeIdeal.main_arg2) = Layout.block ⟨3, ![4, 128, 256]⟩ ⟨3, ![32, 128, 256]⟩ 0 8 c (m' (((0 : Dev Cert.ExchangeReferenceIdeal.nD).tc : Thread Cert.ExchangeReferenceIdeal.nD Cert.ExchangeReferenceIdeal.τ).loc Cert.ExchangeReferenceIdeal.main_arg2))
      ∧ m ((c.tc : Thread Cert.ExchangeIdeal.nD Cert.ExchangeIdeal.τ).loc Cert.ExchangeIdeal.main_arg3) = Layout.block ⟨3, ![4, 128, 1024]⟩ ⟨3, ![32, 128, 1024]⟩ 0 8 c (m' (((0 : Dev Cert.ExchangeReferenceIdeal.nD).tc : Thread Cert.ExchangeReferenceIdeal.nD Cert.ExchangeReferenceIdeal.τ).loc Cert.ExchangeReferenceIdeal.main_arg3))
      ∧ m ((c.tc : Thread Cert.ExchangeIdeal.nD Cert.ExchangeIdeal.τ).loc Cert.ExchangeIdeal.main_arg4) = Layout.block ⟨3, ![4, 128, 1024]⟩ ⟨3, ![32, 128, 1024]⟩ 0 8 c (m' (((0 : Dev Cert.ExchangeReferenceIdeal.nD).tc : Thread Cert.ExchangeReferenceIdeal.nD Cert.ExchangeReferenceIdeal.τ).loc Cert.ExchangeReferenceIdeal.main_arg4))
      ∧ m ((c.tc : Thread Cert.ExchangeIdeal.nD Cert.ExchangeIdeal.τ).loc Cert.ExchangeIdeal.main_arg5) = Layout.block ⟨3, ![4, 128, 1024]⟩ ⟨3, ![32, 128, 1024]⟩ 0 8 c (m' (((0 : Dev Cert.ExchangeReferenceIdeal.nD).tc : Thread Cert.ExchangeReferenceIdeal.nD Cert.ExchangeReferenceIdeal.τ).loc Cert.ExchangeReferenceIdeal.main_arg5))
      ∧ m ((c.tc : Thread Cert.ExchangeIdeal.nD Cert.ExchangeIdeal.τ).loc Cert.ExchangeIdeal.main_arg6) = Layout.block ⟨3, ![4, 512, 1024]⟩ ⟨3, ![32, 512, 1024]⟩ 0 8 c (m' (((0 : Dev Cert.ExchangeReferenceIdeal.nD).tc : Thread Cert.ExchangeReferenceIdeal.nD Cert.ExchangeReferenceIdeal.τ).loc Cert.ExchangeReferenceIdeal.main_arg6))
      ∧ m ((c.tc : Thread Cert.ExchangeIdeal.nD Cert.ExchangeIdeal.τ).loc Cert.ExchangeIdeal.main_arg7) = Layout.block ⟨3, ![4, 512, 1024]⟩ ⟨3, ![32, 512, 1024]⟩ 0 8 c (m' (((0 : Dev Cert.ExchangeReferenceIdeal.nD).tc : Thread Cert.ExchangeReferenceIdeal.nD Cert.ExchangeReferenceIdeal.τ).loc Cert.ExchangeReferenceIdeal.main_arg7))) →
    ∃ (v0 : Buf (Elt Ideal) (((0 : Dev Cert.ExchangeReferenceIdeal.nD).tc : Thread Cert.ExchangeReferenceIdeal.nD Cert.ExchangeReferenceIdeal.τ).loc Cert.ExchangeReferenceIdeal.main_v2)) (v1 : Buf (Elt Ideal) (((0 : Dev Cert.ExchangeReferenceIdeal.nD).tc : Thread Cert.ExchangeReferenceIdeal.nD Cert.ExchangeReferenceIdeal.τ).loc Cert.ExchangeReferenceIdeal.main_v5)) (v2 : Buf (Elt Ideal) (((0 : Dev Cert.ExchangeReferenceIdeal.nD).tc : Thread Cert.ExchangeReferenceIdeal.nD Cert.ExchangeReferenceIdeal.τ).loc Cert.ExchangeReferenceIdeal.main_v8)) (v3 : Buf (Elt Ideal) (((0 : Dev Cert.ExchangeReferenceIdeal.nD).tc : Thread Cert.ExchangeReferenceIdeal.nD Cert.ExchangeReferenceIdeal.τ).loc Cert.ExchangeReferenceIdeal.main_v11)) (v4 : Buf (Elt Ideal) (((0 : Dev Cert.ExchangeReferenceIdeal.nD).tc : Thread Cert.ExchangeReferenceIdeal.nD Cert.ExchangeReferenceIdeal.τ).loc Cert.ExchangeReferenceIdeal.main_v14)) (v5 : Buf (Elt Ideal) (((0 : Dev Cert.ExchangeReferenceIdeal.nD).tc : Thread Cert.ExchangeReferenceIdeal.nD Cert.ExchangeReferenceIdeal.τ).loc Cert.ExchangeReferenceIdeal.main_v17)) (v6 : Buf (Elt Ideal) (((0 : Dev Cert.ExchangeReferenceIdeal.nD).tc : Thread Cert.ExchangeReferenceIdeal.nD Cert.ExchangeReferenceIdeal.τ).loc Cert.ExchangeReferenceIdeal.main_v20)) (v7 : Buf (Elt Ideal) (((0 : Dev Cert.ExchangeReferenceIdeal.nD).tc : Thread Cert.ExchangeReferenceIdeal.nD Cert.ExchangeReferenceIdeal.τ).loc Cert.ExchangeReferenceIdeal.main_v23)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨3, ![4, 512, 1536]⟩ ⟨3, ![32, 512, 1536]⟩ 0 8 c v0
          ∧ r.2.mem ((c.tc : Thread Cert.ExchangeIdeal.nD Cert.ExchangeIdeal.τ).loc Cert.ExchangeIdeal.main_v1_1) = Layout.block ⟨3, ![4, 128, 256]⟩ ⟨3, ![32, 128, 256]⟩ 0 8 c v1
          ∧ r.2.mem ((c.tc : Thread Cert.ExchangeIdeal.nD Cert.ExchangeIdeal.τ).loc Cert.ExchangeIdeal.main_v1_2) = Layout.block ⟨3, ![4, 128, 256]⟩ ⟨3, ![32, 128, 256]⟩ 0 8 c v2
          ∧ r.2.mem ((c.tc : Thread Cert.ExchangeIdeal.nD Cert.ExchangeIdeal.τ).loc Cert.ExchangeIdeal.main_v1_3) = Layout.block ⟨3, ![4, 128, 1024]⟩ ⟨3, ![32, 128, 1024]⟩ 0 8 c v3
          ∧ r.2.mem ((c.tc : Thread Cert.ExchangeIdeal.nD Cert.ExchangeIdeal.τ).loc Cert.ExchangeIdeal.main_v1_4) = Layout.block ⟨3, ![4, 128, 1024]⟩ ⟨3, ![32, 128, 1024]⟩ 0 8 c v4
          ∧ r.2.mem ((c.tc : Thread Cert.ExchangeIdeal.nD Cert.ExchangeIdeal.τ).loc Cert.ExchangeIdeal.main_v1_5) = Layout.block ⟨3, ![4, 128, 1024]⟩ ⟨3, ![32, 128, 1024]⟩ 0 8 c v5
          ∧ r.2.mem ((c.tc : Thread Cert.ExchangeIdeal.nD Cert.ExchangeIdeal.τ).loc Cert.ExchangeIdeal.main_v1_6) = Layout.block ⟨3, ![4, 512, 1024]⟩ ⟨3, ![32, 512, 1024]⟩ 0 8 c v6
          ∧ r.2.mem ((c.tc : Thread Cert.ExchangeIdeal.nD Cert.ExchangeIdeal.τ).loc Cert.ExchangeIdeal.main_v1_7) = Layout.block ⟨3, ![4, 512, 1024]⟩ ⟨3, ![32, 512, 1024]⟩ 0 8 c v7
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
          ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
          ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
          ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5)
          ∧ r.2.mem ((c.tc : Thread Cert.ExchangeIdeal.nD Cert.ExchangeIdeal.τ).loc Cert.ExchangeIdeal.main_arg6) = m ((c.tc : Thread Cert.ExchangeIdeal.nD Cert.ExchangeIdeal.τ).loc Cert.ExchangeIdeal.main_arg6)
          ∧ r.2.mem ((c.tc : Thread Cert.ExchangeIdeal.nD Cert.ExchangeIdeal.τ).loc Cert.ExchangeIdeal.main_arg7) = m ((c.tc : Thread Cert.ExchangeIdeal.nD Cert.ExchangeIdeal.τ).loc Cert.ExchangeIdeal.main_arg7))
      ∧ θ_run (Cert.ExchangeReferenceIdeal.defs (F := Ideal)) (onTc (τ := Cert.ExchangeReferenceIdeal.τ) (Cert.ExchangeReferenceIdeal.main (F := Ideal))) ⟨m', fun _ => 0, g'⟩ (fun r =>
          r.2.mem (((0 : Dev Cert.ExchangeReferenceIdeal.nD).tc : Thread Cert.ExchangeReferenceIdeal.nD Cert.ExchangeReferenceIdeal.τ).loc Cert.ExchangeReferenceIdeal.main_v2) = v0
          ∧ r.2.mem (((0 : Dev Cert.ExchangeReferenceIdeal.nD).tc : Thread Cert.ExchangeReferenceIdeal.nD Cert.ExchangeReferenceIdeal.τ).loc Cert.ExchangeReferenceIdeal.main_v5) = v1
          ∧ r.2.mem (((0 : Dev Cert.ExchangeReferenceIdeal.nD).tc : Thread Cert.ExchangeReferenceIdeal.nD Cert.ExchangeReferenceIdeal.τ).loc Cert.ExchangeReferenceIdeal.main_v8) = v2
          ∧ r.2.mem (((0 : Dev Cert.ExchangeReferenceIdeal.nD).tc : Thread Cert.ExchangeReferenceIdeal.nD Cert.ExchangeReferenceIdeal.τ).loc Cert.ExchangeReferenceIdeal.main_v11) = v3
          ∧ r.2.mem (((0 : Dev Cert.ExchangeReferenceIdeal.nD).tc : Thread Cert.ExchangeReferenceIdeal.nD Cert.ExchangeReferenceIdeal.τ).loc Cert.ExchangeReferenceIdeal.main_v14) = v4
          ∧ r.2.mem (((0 : Dev Cert.ExchangeReferenceIdeal.nD).tc : Thread Cert.ExchangeReferenceIdeal.nD Cert.ExchangeReferenceIdeal.τ).loc Cert.ExchangeReferenceIdeal.main_v17) = v5
          ∧ r.2.mem (((0 : Dev Cert.ExchangeReferenceIdeal.nD).tc : Thread Cert.ExchangeReferenceIdeal.nD Cert.ExchangeReferenceIdeal.τ).loc Cert.ExchangeReferenceIdeal.main_v20) = v6
          ∧ r.2.mem (((0 : Dev Cert.ExchangeReferenceIdeal.nD).tc : Thread Cert.ExchangeReferenceIdeal.nD Cert.ExchangeReferenceIdeal.τ).loc Cert.ExchangeReferenceIdeal.main_v23) = v7
          ∧ r.2.mem (((0 : Dev Cert.ExchangeReferenceIdeal.nD).tc : Thread Cert.ExchangeReferenceIdeal.nD Cert.ExchangeReferenceIdeal.τ).loc Cert.ExchangeReferenceIdeal.main_arg0) = m' (((0 : Dev Cert.ExchangeReferenceIdeal.nD).tc : Thread Cert.ExchangeReferenceIdeal.nD Cert.ExchangeReferenceIdeal.τ).loc Cert.ExchangeReferenceIdeal.main_arg0)
          ∧ r.2.mem (((0 : Dev Cert.ExchangeReferenceIdeal.nD).tc : Thread Cert.ExchangeReferenceIdeal.nD Cert.ExchangeReferenceIdeal.τ).loc Cert.ExchangeReferenceIdeal.main_arg1) = m' (((0 : Dev Cert.ExchangeReferenceIdeal.nD).tc : Thread Cert.ExchangeReferenceIdeal.nD Cert.ExchangeReferenceIdeal.τ).loc Cert.ExchangeReferenceIdeal.main_arg1)
          ∧ r.2.mem (((0 : Dev Cert.ExchangeReferenceIdeal.nD).tc : Thread Cert.ExchangeReferenceIdeal.nD Cert.ExchangeReferenceIdeal.τ).loc Cert.ExchangeReferenceIdeal.main_arg2) = m' (((0 : Dev Cert.ExchangeReferenceIdeal.nD).tc : Thread Cert.ExchangeReferenceIdeal.nD Cert.ExchangeReferenceIdeal.τ).loc Cert.ExchangeReferenceIdeal.main_arg2)
          ∧ r.2.mem (((0 : Dev Cert.ExchangeReferenceIdeal.nD).tc : Thread Cert.ExchangeReferenceIdeal.nD Cert.ExchangeReferenceIdeal.τ).loc Cert.ExchangeReferenceIdeal.main_arg3) = m' (((0 : Dev Cert.ExchangeReferenceIdeal.nD).tc : Thread Cert.ExchangeReferenceIdeal.nD Cert.ExchangeReferenceIdeal.τ).loc Cert.ExchangeReferenceIdeal.main_arg3)
          ∧ r.2.mem (((0 : Dev Cert.ExchangeReferenceIdeal.nD).tc : Thread Cert.ExchangeReferenceIdeal.nD Cert.ExchangeReferenceIdeal.τ).loc Cert.ExchangeReferenceIdeal.main_arg4) = m' (((0 : Dev Cert.ExchangeReferenceIdeal.nD).tc : Thread Cert.ExchangeReferenceIdeal.nD Cert.ExchangeReferenceIdeal.τ).loc Cert.ExchangeReferenceIdeal.main_arg4)
          ∧ r.2.mem (((0 : Dev Cert.ExchangeReferenceIdeal.nD).tc : Thread Cert.ExchangeReferenceIdeal.nD Cert.ExchangeReferenceIdeal.τ).loc Cert.ExchangeReferenceIdeal.main_arg5) = m' (((0 : Dev Cert.ExchangeReferenceIdeal.nD).tc : Thread Cert.ExchangeReferenceIdeal.nD Cert.ExchangeReferenceIdeal.τ).loc Cert.ExchangeReferenceIdeal.main_arg5)
          ∧ r.2.mem (((0 : Dev Cert.ExchangeReferenceIdeal.nD).tc : Thread Cert.ExchangeReferenceIdeal.nD Cert.ExchangeReferenceIdeal.τ).loc Cert.ExchangeReferenceIdeal.main_arg6) = m' (((0 : Dev Cert.ExchangeReferenceIdeal.nD).tc : Thread Cert.ExchangeReferenceIdeal.nD Cert.ExchangeReferenceIdeal.τ).loc Cert.ExchangeReferenceIdeal.main_arg6)
          ∧ r.2.mem (((0 : Dev Cert.ExchangeReferenceIdeal.nD).tc : Thread Cert.ExchangeReferenceIdeal.nD Cert.ExchangeReferenceIdeal.τ).loc Cert.ExchangeReferenceIdeal.main_arg7) = m' (((0 : Dev Cert.ExchangeReferenceIdeal.nD).tc : Thread Cert.ExchangeReferenceIdeal.nD Cert.ExchangeReferenceIdeal.τ).loc Cert.ExchangeReferenceIdeal.main_arg7))

def bitexact_Exchange_ExchangeReference [hExchange : Cert.Exchange.Facts] [hExchangeReference : Cert.ExchangeReference.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeReference.nD Cert.ExchangeReference.τ Cert.ExchangeReference.sig) → Buf (Elt Bits) ℓ) (g' : Dev Cert.ExchangeReference.nD → PrngReg), Pre_Exchange m →
    (∀ c : Dev Cert.Exchange.nD,
      m ((c.tc : Thread Cert.Exchange.nD Cert.Exchange.τ).loc Cert.Exchange.main_arg0) = Layout.block ⟨3, ![4, 512, 1536]⟩ ⟨3, ![32, 512, 1536]⟩ 0 8 c (m' (((0 : Dev Cert.ExchangeReference.nD).tc : Thread Cert.ExchangeReference.nD Cert.ExchangeReference.τ).loc Cert.ExchangeReference.main_arg0))
      ∧ m ((c.tc : Thread Cert.Exchange.nD Cert.Exchange.τ).loc Cert.Exchange.main_arg1) = Layout.block ⟨3, ![4, 128, 256]⟩ ⟨3, ![32, 128, 256]⟩ 0 8 c (m' (((0 : Dev Cert.ExchangeReference.nD).tc : Thread Cert.ExchangeReference.nD Cert.ExchangeReference.τ).loc Cert.ExchangeReference.main_arg1))
      ∧ m ((c.tc : Thread Cert.Exchange.nD Cert.Exchange.τ).loc Cert.Exchange.main_arg2) = Layout.block ⟨3, ![4, 128, 256]⟩ ⟨3, ![32, 128, 256]⟩ 0 8 c (m' (((0 : Dev Cert.ExchangeReference.nD).tc : Thread Cert.ExchangeReference.nD Cert.ExchangeReference.τ).loc Cert.ExchangeReference.main_arg2))
      ∧ m ((c.tc : Thread Cert.Exchange.nD Cert.Exchange.τ).loc Cert.Exchange.main_arg3) = Layout.block ⟨3, ![4, 128, 1024]⟩ ⟨3, ![32, 128, 1024]⟩ 0 8 c (m' (((0 : Dev Cert.ExchangeReference.nD).tc : Thread Cert.ExchangeReference.nD Cert.ExchangeReference.τ).loc Cert.ExchangeReference.main_arg3))
      ∧ m ((c.tc : Thread Cert.Exchange.nD Cert.Exchange.τ).loc Cert.Exchange.main_arg4) = Layout.block ⟨3, ![4, 128, 1024]⟩ ⟨3, ![32, 128, 1024]⟩ 0 8 c (m' (((0 : Dev Cert.ExchangeReference.nD).tc : Thread Cert.ExchangeReference.nD Cert.ExchangeReference.τ).loc Cert.ExchangeReference.main_arg4))
      ∧ m ((c.tc : Thread Cert.Exchange.nD Cert.Exchange.τ).loc Cert.Exchange.main_arg5) = Layout.block ⟨3, ![4, 128, 1024]⟩ ⟨3, ![32, 128, 1024]⟩ 0 8 c (m' (((0 : Dev Cert.ExchangeReference.nD).tc : Thread Cert.ExchangeReference.nD Cert.ExchangeReference.τ).loc Cert.ExchangeReference.main_arg5))
      ∧ m ((c.tc : Thread Cert.Exchange.nD Cert.Exchange.τ).loc Cert.Exchange.main_arg6) = Layout.block ⟨3, ![4, 512, 1024]⟩ ⟨3, ![32, 512, 1024]⟩ 0 8 c (m' (((0 : Dev Cert.ExchangeReference.nD).tc : Thread Cert.ExchangeReference.nD Cert.ExchangeReference.τ).loc Cert.ExchangeReference.main_arg6))
      ∧ m ((c.tc : Thread Cert.Exchange.nD Cert.Exchange.τ).loc Cert.Exchange.main_arg7) = Layout.block ⟨3, ![4, 512, 1024]⟩ ⟨3, ![32, 512, 1024]⟩ 0 8 c (m' (((0 : Dev Cert.ExchangeReference.nD).tc : Thread Cert.ExchangeReference.nD Cert.ExchangeReference.τ).loc Cert.ExchangeReference.main_arg7))) →
    ∃ (v0 : Buf (Elt Bits) (((0 : Dev Cert.ExchangeReference.nD).tc : Thread Cert.ExchangeReference.nD Cert.ExchangeReference.τ).loc Cert.ExchangeReference.main_v2)) (v1 : Buf (Elt Bits) (((0 : Dev Cert.ExchangeReference.nD).tc : Thread Cert.ExchangeReference.nD Cert.ExchangeReference.τ).loc Cert.ExchangeReference.main_v5)) (v2 : Buf (Elt Bits) (((0 : Dev Cert.ExchangeReference.nD).tc : Thread Cert.ExchangeReference.nD Cert.ExchangeReference.τ).loc Cert.ExchangeReference.main_v8)) (v3 : Buf (Elt Bits) (((0 : Dev Cert.ExchangeReference.nD).tc : Thread Cert.ExchangeReference.nD Cert.ExchangeReference.τ).loc Cert.ExchangeReference.main_v11)) (v4 : Buf (Elt Bits) (((0 : Dev Cert.ExchangeReference.nD).tc : Thread Cert.ExchangeReference.nD Cert.ExchangeReference.τ).loc Cert.ExchangeReference.main_v14)) (v5 : Buf (Elt Bits) (((0 : Dev Cert.ExchangeReference.nD).tc : Thread Cert.ExchangeReference.nD Cert.ExchangeReference.τ).loc Cert.ExchangeReference.main_v17)) (v6 : Buf (Elt Bits) (((0 : Dev Cert.ExchangeReference.nD).tc : Thread Cert.ExchangeReference.nD Cert.ExchangeReference.τ).loc Cert.ExchangeReference.main_v20)) (v7 : Buf (Elt Bits) (((0 : Dev Cert.ExchangeReference.nD).tc : Thread Cert.ExchangeReference.nD Cert.ExchangeReference.τ).loc Cert.ExchangeReference.main_v23)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.block ⟨3, ![4, 512, 1536]⟩ ⟨3, ![32, 512, 1536]⟩ 0 8 c v0
          ∧ r.2.mem ((c.tc : Thread Cert.Exchange.nD Cert.Exchange.τ).loc Cert.Exchange.main_v1_1) = Layout.block ⟨3, ![4, 128, 256]⟩ ⟨3, ![32, 128, 256]⟩ 0 8 c v1
          ∧ r.2.mem ((c.tc : Thread Cert.Exchange.nD Cert.Exchange.τ).loc Cert.Exchange.main_v1_2) = Layout.block ⟨3, ![4, 128, 256]⟩ ⟨3, ![32, 128, 256]⟩ 0 8 c v2
          ∧ r.2.mem ((c.tc : Thread Cert.Exchange.nD Cert.Exchange.τ).loc Cert.Exchange.main_v1_3) = Layout.block ⟨3, ![4, 128, 1024]⟩ ⟨3, ![32, 128, 1024]⟩ 0 8 c v3
          ∧ r.2.mem ((c.tc : Thread Cert.Exchange.nD Cert.Exchange.τ).loc Cert.Exchange.main_v1_4) = Layout.block ⟨3, ![4, 128, 1024]⟩ ⟨3, ![32, 128, 1024]⟩ 0 8 c v4
          ∧ r.2.mem ((c.tc : Thread Cert.Exchange.nD Cert.Exchange.τ).loc Cert.Exchange.main_v1_5) = Layout.block ⟨3, ![4, 128, 1024]⟩ ⟨3, ![32, 128, 1024]⟩ 0 8 c v5
          ∧ r.2.mem ((c.tc : Thread Cert.Exchange.nD Cert.Exchange.τ).loc Cert.Exchange.main_v1_6) = Layout.block ⟨3, ![4, 512, 1024]⟩ ⟨3, ![32, 512, 1024]⟩ 0 8 c v6
          ∧ r.2.mem ((c.tc : Thread Cert.Exchange.nD Cert.Exchange.τ).loc Cert.Exchange.main_v1_7) = Layout.block ⟨3, ![4, 512, 1024]⟩ ⟨3, ![32, 512, 1024]⟩ 0 8 c v7
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1)
          ∧ r.2.mem ((c.tc : Thread Cert.Exchange.nD Cert.Exchange.τ).loc Cert.Exchange.main_arg2) = m ((c.tc : Thread Cert.Exchange.nD Cert.Exchange.τ).loc Cert.Exchange.main_arg2)
          ∧ r.2.mem ((c.tc : Thread Cert.Exchange.nD Cert.Exchange.τ).loc Cert.Exchange.main_arg3) = m ((c.tc : Thread Cert.Exchange.nD Cert.Exchange.τ).loc Cert.Exchange.main_arg3)
          ∧ r.2.mem ((c.tc : Thread Cert.Exchange.nD Cert.Exchange.τ).loc Cert.Exchange.main_arg4) = m ((c.tc : Thread Cert.Exchange.nD Cert.Exchange.τ).loc Cert.Exchange.main_arg4)
          ∧ r.2.mem ((c.tc : Thread Cert.Exchange.nD Cert.Exchange.τ).loc Cert.Exchange.main_arg5) = m ((c.tc : Thread Cert.Exchange.nD Cert.Exchange.τ).loc Cert.Exchange.main_arg5)
          ∧ r.2.mem ((c.tc : Thread Cert.Exchange.nD Cert.Exchange.τ).loc Cert.Exchange.main_arg6) = m ((c.tc : Thread Cert.Exchange.nD Cert.Exchange.τ).loc Cert.Exchange.main_arg6)
          ∧ r.2.mem ((c.tc : Thread Cert.Exchange.nD Cert.Exchange.τ).loc Cert.Exchange.main_arg7) = m ((c.tc : Thread Cert.Exchange.nD Cert.Exchange.τ).loc Cert.Exchange.main_arg7))
      ∧ θ_run (Cert.ExchangeReference.defs (F := Bits)) (onTc (τ := Cert.ExchangeReference.τ) (Cert.ExchangeReference.main (F := Bits))) ⟨m', fun _ => 0, g'⟩ (fun r =>
          r.2.mem (((0 : Dev Cert.ExchangeReference.nD).tc : Thread Cert.ExchangeReference.nD Cert.ExchangeReference.τ).loc Cert.ExchangeReference.main_v2) = v0
          ∧ r.2.mem (((0 : Dev Cert.ExchangeReference.nD).tc : Thread Cert.ExchangeReference.nD Cert.ExchangeReference.τ).loc Cert.ExchangeReference.main_v5) = v1
          ∧ r.2.mem (((0 : Dev Cert.ExchangeReference.nD).tc : Thread Cert.ExchangeReference.nD Cert.ExchangeReference.τ).loc Cert.ExchangeReference.main_v8) = v2
          ∧ r.2.mem (((0 : Dev Cert.ExchangeReference.nD).tc : Thread Cert.ExchangeReference.nD Cert.ExchangeReference.τ).loc Cert.ExchangeReference.main_v11) = v3
          ∧ r.2.mem (((0 : Dev Cert.ExchangeReference.nD).tc : Thread Cert.ExchangeReference.nD Cert.ExchangeReference.τ).loc Cert.ExchangeReference.main_v14) = v4
          ∧ r.2.mem (((0 : Dev Cert.ExchangeReference.nD).tc : Thread Cert.ExchangeReference.nD Cert.ExchangeReference.τ).loc Cert.ExchangeReference.main_v17) = v5
          ∧ r.2.mem (((0 : Dev Cert.ExchangeReference.nD).tc : Thread Cert.ExchangeReference.nD Cert.ExchangeReference.τ).loc Cert.ExchangeReference.main_v20) = v6
          ∧ r.2.mem (((0 : Dev Cert.ExchangeReference.nD).tc : Thread Cert.ExchangeReference.nD Cert.ExchangeReference.τ).loc Cert.ExchangeReference.main_v23) = v7
          ∧ r.2.mem (((0 : Dev Cert.ExchangeReference.nD).tc : Thread Cert.ExchangeReference.nD Cert.ExchangeReference.τ).loc Cert.ExchangeReference.main_arg0) = m' (((0 : Dev Cert.ExchangeReference.nD).tc : Thread Cert.ExchangeReference.nD Cert.ExchangeReference.τ).loc Cert.ExchangeReference.main_arg0)
          ∧ r.2.mem (((0 : Dev Cert.ExchangeReference.nD).tc : Thread Cert.ExchangeReference.nD Cert.ExchangeReference.τ).loc Cert.ExchangeReference.main_arg1) = m' (((0 : Dev Cert.ExchangeReference.nD).tc : Thread Cert.ExchangeReference.nD Cert.ExchangeReference.τ).loc Cert.ExchangeReference.main_arg1)
          ∧ r.2.mem (((0 : Dev Cert.ExchangeReference.nD).tc : Thread Cert.ExchangeReference.nD Cert.ExchangeReference.τ).loc Cert.ExchangeReference.main_arg2) = m' (((0 : Dev Cert.ExchangeReference.nD).tc : Thread Cert.ExchangeReference.nD Cert.ExchangeReference.τ).loc Cert.ExchangeReference.main_arg2)
          ∧ r.2.mem (((0 : Dev Cert.ExchangeReference.nD).tc : Thread Cert.ExchangeReference.nD Cert.ExchangeReference.τ).loc Cert.ExchangeReference.main_arg3) = m' (((0 : Dev Cert.ExchangeReference.nD).tc : Thread Cert.ExchangeReference.nD Cert.ExchangeReference.τ).loc Cert.ExchangeReference.main_arg3)
          ∧ r.2.mem (((0 : Dev Cert.ExchangeReference.nD).tc : Thread Cert.ExchangeReference.nD Cert.ExchangeReference.τ).loc Cert.ExchangeReference.main_arg4) = m' (((0 : Dev Cert.ExchangeReference.nD).tc : Thread Cert.ExchangeReference.nD Cert.ExchangeReference.τ).loc Cert.ExchangeReference.main_arg4)
          ∧ r.2.mem (((0 : Dev Cert.ExchangeReference.nD).tc : Thread Cert.ExchangeReference.nD Cert.ExchangeReference.τ).loc Cert.ExchangeReference.main_arg5) = m' (((0 : Dev Cert.ExchangeReference.nD).tc : Thread Cert.ExchangeReference.nD Cert.ExchangeReference.τ).loc Cert.ExchangeReference.main_arg5)
          ∧ r.2.mem (((0 : Dev Cert.ExchangeReference.nD).tc : Thread Cert.ExchangeReference.nD Cert.ExchangeReference.τ).loc Cert.ExchangeReference.main_arg6) = m' (((0 : Dev Cert.ExchangeReference.nD).tc : Thread Cert.ExchangeReference.nD Cert.ExchangeReference.τ).loc Cert.ExchangeReference.main_arg6)
          ∧ r.2.mem (((0 : Dev Cert.ExchangeReference.nD).tc : Thread Cert.ExchangeReference.nD Cert.ExchangeReference.τ).loc Cert.ExchangeReference.main_arg7) = m' (((0 : Dev Cert.ExchangeReference.nD).tc : Thread Cert.ExchangeReference.nD Cert.ExchangeReference.τ).loc Cert.ExchangeReference.main_arg7))

def preserves_Halves_HalvesIdeal : Prop :=
  True

def algebraic_HalvesIdeal_HalvesReferenceIdeal [hHalvesIdeal : Cert.HalvesIdeal.Facts] [hHalvesReferenceIdeal : Cert.HalvesReferenceIdeal.Facts] : Prop :=
  ∀ (m : (ℓ : Loc Cert.HalvesIdeal.nD Cert.HalvesIdeal.τ Cert.HalvesIdeal.sig) → Buf (Elt Ideal) ℓ) (g : Dev Cert.HalvesIdeal.nD → PrngReg)
    (m' : (ℓ : Loc Cert.HalvesReferenceIdeal.nD Cert.HalvesReferenceIdeal.τ Cert.HalvesReferenceIdeal.sig) → Buf (Elt Ideal) ℓ) (g' : Dev Cert.HalvesReferenceIdeal.nD → PrngReg), Pre_HalvesIdeal m →
    (∀ c : Dev Cert.HalvesIdeal.nD,
      m ((c.tc : Thread Cert.HalvesIdeal.nD Cert.HalvesIdeal.τ).loc Cert.HalvesIdeal.main_arg0) = Layout.block ⟨3, ![4, 1024, 1536]⟩ ⟨3, ![32, 1024, 1536]⟩ 0 8 c (m' (((0 : Dev Cert.HalvesReferenceIdeal.nD).tc : Thread Cert.HalvesReferenceIdeal.nD Cert.HalvesReferenceIdeal.τ).loc Cert.HalvesReferenceIdeal.main_arg0))
      ∧ m ((c.tc : Thread Cert.HalvesIdeal.nD Cert.HalvesIdeal.τ).loc Cert.HalvesIdeal.main_arg1) = Layout.block ⟨3, ![4, 256, 256]⟩ ⟨3, ![32, 256, 256]⟩ 0 8 c (m' (((0 : Dev Cert.HalvesReferenceIdeal.nD).tc : Thread Cert.HalvesReferenceIdeal.nD Cert.HalvesReferenceIdeal.τ).loc Cert.HalvesReferenceIdeal.main_arg1))
      ∧ m ((c.tc : Thread Cert.HalvesIdeal.nD Cert.HalvesIdeal.τ).loc Cert.HalvesIdeal.main_arg2) = Layout.block ⟨3, ![4, 256, 256]⟩ ⟨3, ![32, 256, 256]⟩ 0 8 c (m' (((0 : Dev Cert.HalvesReferenceIdeal.nD).tc : Thread Cert.HalvesReferenceIdeal.nD Cert.HalvesReferenceIdeal.τ).loc Cert.HalvesReferenceIdeal.main_arg2))
      ∧ m ((c.tc : Thread Cert.HalvesIdeal.nD Cert.HalvesIdeal.τ).loc Cert.HalvesIdeal.main_arg3) = Layout.block ⟨3, ![4, 256, 1024]⟩ ⟨3, ![32, 256, 1024]⟩ 0 8 c (m' (((0 : Dev Cert.HalvesReferenceIdeal.nD).tc : Thread Cert.HalvesReferenceIdeal.nD Cert.HalvesReferenceIdeal.τ).loc Cert.HalvesReferenceIdeal.main_arg3))
      ∧ m ((c.tc : Thread Cert.HalvesIdeal.nD Cert.HalvesIdeal.τ).loc Cert.HalvesIdeal.main_arg4) = Layout.block ⟨3, ![4, 256, 1024]⟩ ⟨3, ![32, 256, 1024]⟩ 0 8 c (m' (((0 : Dev Cert.HalvesReferenceIdeal.nD).tc : Thread Cert.HalvesReferenceIdeal.nD Cert.HalvesReferenceIdeal.τ).loc Cert.HalvesReferenceIdeal.main_arg4))
      ∧ m ((c.tc : Thread Cert.HalvesIdeal.nD Cert.HalvesIdeal.τ).loc Cert.HalvesIdeal.main_arg5) = Layout.block ⟨3, ![4, 256, 1024]⟩ ⟨3, ![32, 256, 1024]⟩ 0 8 c (m' (((0 : Dev Cert.HalvesReferenceIdeal.nD).tc : Thread Cert.HalvesReferenceIdeal.nD Cert.HalvesReferenceIdeal.τ).loc Cert.HalvesReferenceIdeal.main_arg5))
      ∧ m ((c.tc : Thread Cert.HalvesIdeal.nD Cert.HalvesIdeal.τ).loc Cert.HalvesIdeal.main_arg6) = Layout.block ⟨3, ![4, 1024, 1024]⟩ ⟨3, ![32, 1024, 1024]⟩ 0 8 c (m' (((0 : Dev Cert.HalvesReferenceIdeal.nD).tc : Thread Cert.HalvesReferenceIdeal.nD Cert.HalvesReferenceIdeal.τ).loc Cert.HalvesReferenceIdeal.main_arg6))
      ∧ m ((c.tc : Thread Cert.HalvesIdeal.nD Cert.HalvesIdeal.τ).loc Cert.HalvesIdeal.main_arg7) = Layout.block ⟨3, ![4, 1024, 1024]⟩ ⟨3, ![32, 1024, 1024]⟩ 0 8 c (m' (((0 : Dev Cert.HalvesReferenceIdeal.nD).tc : Thread Cert.HalvesReferenceIdeal.nD Cert.HalvesReferenceIdeal.τ).loc Cert.HalvesReferenceIdeal.main_arg7))) →
    ∃ (v0 : Buf (Elt Ideal) (((0 : Dev Cert.HalvesReferenceIdeal.nD).tc : Thread Cert.HalvesReferenceIdeal.nD Cert.HalvesReferenceIdeal.τ).loc Cert.HalvesReferenceIdeal.main_v8)) (v1 : Buf (Elt Ideal) (((0 : Dev Cert.HalvesReferenceIdeal.nD).tc : Thread Cert.HalvesReferenceIdeal.nD Cert.HalvesReferenceIdeal.τ).loc Cert.HalvesReferenceIdeal.main_v17)) (v2 : Buf (Elt Ideal) (((0 : Dev Cert.HalvesReferenceIdeal.nD).tc : Thread Cert.HalvesReferenceIdeal.nD Cert.HalvesReferenceIdeal.τ).loc Cert.HalvesReferenceIdeal.main_v26)) (v3 : Buf (Elt Ideal) (((0 : Dev Cert.HalvesReferenceIdeal.nD).tc : Thread Cert.HalvesReferenceIdeal.nD Cert.HalvesReferenceIdeal.τ).loc Cert.HalvesReferenceIdeal.main_v35)) (v4 : Buf (Elt Ideal) (((0 : Dev Cert.HalvesReferenceIdeal.nD).tc : Thread Cert.HalvesReferenceIdeal.nD Cert.HalvesReferenceIdeal.τ).loc Cert.HalvesReferenceIdeal.main_v44)) (v5 : Buf (Elt Ideal) (((0 : Dev Cert.HalvesReferenceIdeal.nD).tc : Thread Cert.HalvesReferenceIdeal.nD Cert.HalvesReferenceIdeal.τ).loc Cert.HalvesReferenceIdeal.main_v53)) (v6 : Buf (Elt Ideal) (((0 : Dev Cert.HalvesReferenceIdeal.nD).tc : Thread Cert.HalvesReferenceIdeal.nD Cert.HalvesReferenceIdeal.τ).loc Cert.HalvesReferenceIdeal.main_v62)) (v7 : Buf (Elt Ideal) (((0 : Dev Cert.HalvesReferenceIdeal.nD).tc : Thread Cert.HalvesReferenceIdeal.nD Cert.HalvesReferenceIdeal.τ).loc Cert.HalvesReferenceIdeal.main_v71)),
      θ_run (Cert.HalvesIdeal.defs (F := Ideal)) (onTc (τ := Cert.HalvesIdeal.τ) (Cert.HalvesIdeal.main (F := Ideal))) ⟨m, fun _ => 0, g⟩ (fun r => ∀ c : Dev Cert.HalvesIdeal.nD,
          r.2.mem ((c.tc : Thread Cert.HalvesIdeal.nD Cert.HalvesIdeal.τ).loc Cert.HalvesIdeal.main_v1_0) = Layout.block ⟨3, ![4, 512, 1536]⟩ ⟨3, ![32, 512, 1536]⟩ 0 8 c v0
          ∧ r.2.mem ((c.tc : Thread Cert.HalvesIdeal.nD Cert.HalvesIdeal.τ).loc Cert.HalvesIdeal.main_v1_1) = Layout.block ⟨3, ![4, 128, 256]⟩ ⟨3, ![32, 128, 256]⟩ 0 8 c v1
          ∧ r.2.mem ((c.tc : Thread Cert.HalvesIdeal.nD Cert.HalvesIdeal.τ).loc Cert.HalvesIdeal.main_v1_2) = Layout.block ⟨3, ![4, 128, 256]⟩ ⟨3, ![32, 128, 256]⟩ 0 8 c v2
          ∧ r.2.mem ((c.tc : Thread Cert.HalvesIdeal.nD Cert.HalvesIdeal.τ).loc Cert.HalvesIdeal.main_v1_3) = Layout.block ⟨3, ![4, 128, 1024]⟩ ⟨3, ![32, 128, 1024]⟩ 0 8 c v3
          ∧ r.2.mem ((c.tc : Thread Cert.HalvesIdeal.nD Cert.HalvesIdeal.τ).loc Cert.HalvesIdeal.main_v1_4) = Layout.block ⟨3, ![4, 128, 1024]⟩ ⟨3, ![32, 128, 1024]⟩ 0 8 c v4
          ∧ r.2.mem ((c.tc : Thread Cert.HalvesIdeal.nD Cert.HalvesIdeal.τ).loc Cert.HalvesIdeal.main_v1_5) = Layout.block ⟨3, ![4, 128, 1024]⟩ ⟨3, ![32, 128, 1024]⟩ 0 8 c v5
          ∧ r.2.mem ((c.tc : Thread Cert.HalvesIdeal.nD Cert.HalvesIdeal.τ).loc Cert.HalvesIdeal.main_v1_6) = Layout.block ⟨3, ![4, 512, 1024]⟩ ⟨3, ![32, 512, 1024]⟩ 0 8 c v6
          ∧ r.2.mem ((c.tc : Thread Cert.HalvesIdeal.nD Cert.HalvesIdeal.τ).loc Cert.HalvesIdeal.main_v1_7) = Layout.block ⟨3, ![4, 512, 1024]⟩ ⟨3, ![32, 512, 1024]⟩ 0 8 c v7
          ∧ r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
          ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
          ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2)
          ∧ r.2.mem ((c.tc : Thread Cert.HalvesIdeal.nD Cert.HalvesIdeal.τ).loc Cert.HalvesIdeal.main_arg3) = m ((c.tc : Thread Cert.HalvesIdeal.nD Cert.HalvesIdeal.τ).loc Cert.HalvesIdeal.main_arg3)
          ∧ r.2.mem ((c.tc : Thread Cert.HalvesIdeal.nD Cert.HalvesIdeal.τ).loc Cert.HalvesIdeal.main_arg4) = m ((c.tc : Thread Cert.HalvesIdeal.nD Cert.HalvesIdeal.τ).loc Cert.HalvesIdeal.main_arg4)
          ∧ r.2.mem ((c.tc : Thread Cert.HalvesIdeal.nD Cert.HalvesIdeal.τ).loc Cert.HalvesIdeal.main_arg5) = m ((c.tc : Thread Cert.HalvesIdeal.nD Cert.HalvesIdeal.τ).loc Cert.HalvesIdeal.main_arg5)
          ∧ r.2.mem ((c.tc : Thread Cert.HalvesIdeal.nD Cert.HalvesIdeal.τ).loc Cert.HalvesIdeal.main_arg6) = m ((c.tc : Thread Cert.HalvesIdeal.nD Cert.HalvesIdeal.τ).loc Cert.HalvesIdeal.main_arg6)
          ∧ r.2.mem ((c.tc : Thread Cert.HalvesIdeal.nD Cert.HalvesIdeal.τ).loc Cert.HalvesIdeal.main_arg7) = m ((c.tc : Thread Cert.HalvesIdeal.nD Cert.HalvesIdeal.τ).loc Cert.HalvesIdeal.main_arg7))
      ∧ θ_run (Cert.HalvesReferenceIdeal.defs (F := Ideal)) (onTc (τ := Cert.HalvesReferenceIdeal.τ) (Cert.HalvesReferenceIdeal.main (F := Ideal))) ⟨m', fun _ => 0, g'⟩ (fun r =>
          r.2.mem (((0 : Dev Cert.HalvesReferenceIdeal.nD).tc : Thread Cert.HalvesReferenceIdeal.nD Cert.HalvesReferenceIdeal.τ).loc Cert.HalvesReferenceIdeal.main_v8) = v0
          ∧ r.2.mem (((0 : Dev Cert.HalvesReferenceIdeal.nD).tc : Thread Cert.HalvesReferenceIdeal.nD Cert.HalvesReferenceIdeal.τ).loc Cert.HalvesReferenceIdeal.main_v17) = v1
          ∧ r.2.mem (((0 : Dev Cert.HalvesReferenceIdeal.nD).tc : Thread Cert.HalvesReferenceIdeal.nD Cert.HalvesReferenceIdeal.τ).loc Cert.HalvesReferenceIdeal.main_v26) = v2
          ∧ r.2.mem (((0 : Dev Cert.HalvesReferenceIdeal.nD).tc : Thread Cert.HalvesReferenceIdeal.nD Cert.HalvesReferenceIdeal.τ).loc Cert.HalvesReferenceIdeal.main_v35) = v3
          ∧ r.2.mem (((0 : Dev Cert.HalvesReferenceIdeal.nD).tc : Thread Cert.HalvesReferenceIdeal.nD Cert.HalvesReferenceIdeal.τ).loc Cert.HalvesReferenceIdeal.main_v44) = v4
          ∧ r.2.mem (((0 : Dev Cert.HalvesReferenceIdeal.nD).tc : Thread Cert.HalvesReferenceIdeal.nD Cert.HalvesReferenceIdeal.τ).loc Cert.HalvesReferenceIdeal.main_v53) = v5
          ∧ r.2.mem (((0 : Dev Cert.HalvesReferenceIdeal.nD).tc : Thread Cert.HalvesReferenceIdeal.nD Cert.HalvesReferenceIdeal.τ).loc Cert.HalvesReferenceIdeal.main_v62) = v6
          ∧ r.2.mem (((0 : Dev Cert.HalvesReferenceIdeal.nD).tc : Thread Cert.HalvesReferenceIdeal.nD Cert.HalvesReferenceIdeal.τ).loc Cert.HalvesReferenceIdeal.main_v71) = v7
          ∧ r.2.mem (((0 : Dev Cert.HalvesReferenceIdeal.nD).tc : Thread Cert.HalvesReferenceIdeal.nD Cert.HalvesReferenceIdeal.τ).loc Cert.HalvesReferenceIdeal.main_arg0) = m' (((0 : Dev Cert.HalvesReferenceIdeal.nD).tc : Thread Cert.HalvesReferenceIdeal.nD Cert.HalvesReferenceIdeal.τ).loc Cert.HalvesReferenceIdeal.main_arg0)
          ∧ r.2.mem (((0 : Dev Cert.HalvesReferenceIdeal.nD).tc : Thread Cert.HalvesReferenceIdeal.nD Cert.HalvesReferenceIdeal.τ).loc Cert.HalvesReferenceIdeal.main_arg1) = m' (((0 : Dev Cert.HalvesReferenceIdeal.nD).tc : Thread Cert.HalvesReferenceIdeal.nD Cert.HalvesReferenceIdeal.τ).loc Cert.HalvesReferenceIdeal.main_arg1)
          ∧ r.2.mem (((0 : Dev Cert.HalvesReferenceIdeal.nD).tc : Thread Cert.HalvesReferenceIdeal.nD Cert.HalvesReferenceIdeal.τ).loc Cert.HalvesReferenceIdeal.main_arg2) = m' (((0 : Dev Cert.HalvesReferenceIdeal.nD).tc : Thread Cert.HalvesReferenceIdeal.nD Cert.HalvesReferenceIdeal.τ).loc Cert.HalvesReferenceIdeal.main_arg2)
          ∧ r.2.mem (((0 : Dev Cert.HalvesReferenceIdeal.nD).tc : Thread Cert.HalvesReferenceIdeal.nD Cert.HalvesReferenceIdeal.τ).loc Cert.HalvesReferenceIdeal.main_arg3) = m' (((0 : Dev Cert.HalvesReferenceIdeal.nD).tc : Thread Cert.HalvesReferenceIdeal.nD Cert.HalvesReferenceIdeal.τ).loc Cert.HalvesReferenceIdeal.main_arg3)
          ∧ r.2.mem (((0 : Dev Cert.HalvesReferenceIdeal.nD).tc : Thread Cert.HalvesReferenceIdeal.nD Cert.HalvesReferenceIdeal.τ).loc Cert.HalvesReferenceIdeal.main_arg4) = m' (((0 : Dev Cert.HalvesReferenceIdeal.nD).tc : Thread Cert.HalvesReferenceIdeal.nD Cert.HalvesReferenceIdeal.τ).loc Cert.HalvesReferenceIdeal.main_arg4)
          ∧ r.2.mem (((0 : Dev Cert.HalvesReferenceIdeal.nD).tc : Thread Cert.HalvesReferenceIdeal.nD Cert.HalvesReferenceIdeal.τ).loc Cert.HalvesReferenceIdeal.main_arg5) = m' (((0 : Dev Cert.HalvesReferenceIdeal.nD).tc : Thread Cert.HalvesReferenceIdeal.nD Cert.HalvesReferenceIdeal.τ).loc Cert.HalvesReferenceIdeal.main_arg5)
          ∧ r.2.mem (((0 : Dev Cert.HalvesReferenceIdeal.nD).tc : Thread Cert.HalvesReferenceIdeal.nD Cert.HalvesReferenceIdeal.τ).loc Cert.HalvesReferenceIdeal.main_arg6) = m' (((0 : Dev Cert.HalvesReferenceIdeal.nD).tc : Thread Cert.HalvesReferenceIdeal.nD Cert.HalvesReferenceIdeal.τ).loc Cert.HalvesReferenceIdeal.main_arg6)
          ∧ r.2.mem (((0 : Dev Cert.HalvesReferenceIdeal.nD).tc : Thread Cert.HalvesReferenceIdeal.nD Cert.HalvesReferenceIdeal.τ).loc Cert.HalvesReferenceIdeal.main_arg7) = m' (((0 : Dev Cert.HalvesReferenceIdeal.nD).tc : Thread Cert.HalvesReferenceIdeal.nD Cert.HalvesReferenceIdeal.τ).loc Cert.HalvesReferenceIdeal.main_arg7))

def bitexact_Halves_HalvesReference [hHalves : Cert.Halves.Facts] [hHalvesReference : Cert.HalvesReference.Facts] : Prop :=
  ∀ (m : (ℓ : Loc Cert.Halves.nD Cert.Halves.τ Cert.Halves.sig) → Buf (Elt Bits) ℓ) (g : Dev Cert.Halves.nD → PrngReg)
    (m' : (ℓ : Loc Cert.HalvesReference.nD Cert.HalvesReference.τ Cert.HalvesReference.sig) → Buf (Elt Bits) ℓ) (g' : Dev Cert.HalvesReference.nD → PrngReg), Pre_Halves m →
    (∀ c : Dev Cert.Halves.nD,
      m ((c.tc : Thread Cert.Halves.nD Cert.Halves.τ).loc Cert.Halves.main_arg0) = Layout.block ⟨3, ![4, 1024, 1536]⟩ ⟨3, ![32, 1024, 1536]⟩ 0 8 c (m' (((0 : Dev Cert.HalvesReference.nD).tc : Thread Cert.HalvesReference.nD Cert.HalvesReference.τ).loc Cert.HalvesReference.main_arg0))
      ∧ m ((c.tc : Thread Cert.Halves.nD Cert.Halves.τ).loc Cert.Halves.main_arg1) = Layout.block ⟨3, ![4, 256, 256]⟩ ⟨3, ![32, 256, 256]⟩ 0 8 c (m' (((0 : Dev Cert.HalvesReference.nD).tc : Thread Cert.HalvesReference.nD Cert.HalvesReference.τ).loc Cert.HalvesReference.main_arg1))
      ∧ m ((c.tc : Thread Cert.Halves.nD Cert.Halves.τ).loc Cert.Halves.main_arg2) = Layout.block ⟨3, ![4, 256, 256]⟩ ⟨3, ![32, 256, 256]⟩ 0 8 c (m' (((0 : Dev Cert.HalvesReference.nD).tc : Thread Cert.HalvesReference.nD Cert.HalvesReference.τ).loc Cert.HalvesReference.main_arg2))
      ∧ m ((c.tc : Thread Cert.Halves.nD Cert.Halves.τ).loc Cert.Halves.main_arg3) = Layout.block ⟨3, ![4, 256, 1024]⟩ ⟨3, ![32, 256, 1024]⟩ 0 8 c (m' (((0 : Dev Cert.HalvesReference.nD).tc : Thread Cert.HalvesReference.nD Cert.HalvesReference.τ).loc Cert.HalvesReference.main_arg3))
      ∧ m ((c.tc : Thread Cert.Halves.nD Cert.Halves.τ).loc Cert.Halves.main_arg4) = Layout.block ⟨3, ![4, 256, 1024]⟩ ⟨3, ![32, 256, 1024]⟩ 0 8 c (m' (((0 : Dev Cert.HalvesReference.nD).tc : Thread Cert.HalvesReference.nD Cert.HalvesReference.τ).loc Cert.HalvesReference.main_arg4))
      ∧ m ((c.tc : Thread Cert.Halves.nD Cert.Halves.τ).loc Cert.Halves.main_arg5) = Layout.block ⟨3, ![4, 256, 1024]⟩ ⟨3, ![32, 256, 1024]⟩ 0 8 c (m' (((0 : Dev Cert.HalvesReference.nD).tc : Thread Cert.HalvesReference.nD Cert.HalvesReference.τ).loc Cert.HalvesReference.main_arg5))
      ∧ m ((c.tc : Thread Cert.Halves.nD Cert.Halves.τ).loc Cert.Halves.main_arg6) = Layout.block ⟨3, ![4, 1024, 1024]⟩ ⟨3, ![32, 1024, 1024]⟩ 0 8 c (m' (((0 : Dev Cert.HalvesReference.nD).tc : Thread Cert.HalvesReference.nD Cert.HalvesReference.τ).loc Cert.HalvesReference.main_arg6))
      ∧ m ((c.tc : Thread Cert.Halves.nD Cert.Halves.τ).loc Cert.Halves.main_arg7) = Layout.block ⟨3, ![4, 1024, 1024]⟩ ⟨3, ![32, 1024, 1024]⟩ 0 8 c (m' (((0 : Dev Cert.HalvesReference.nD).tc : Thread Cert.HalvesReference.nD Cert.HalvesReference.τ).loc Cert.HalvesReference.main_arg7))) →
    ∃ (v0 : Buf (Elt Bits) (((0 : Dev Cert.HalvesReference.nD).tc : Thread Cert.HalvesReference.nD Cert.HalvesReference.τ).loc Cert.HalvesReference.main_v8)) (v1 : Buf (Elt Bits) (((0 : Dev Cert.HalvesReference.nD).tc : Thread Cert.HalvesReference.nD Cert.HalvesReference.τ).loc Cert.HalvesReference.main_v17)) (v2 : Buf (Elt Bits) (((0 : Dev Cert.HalvesReference.nD).tc : Thread Cert.HalvesReference.nD Cert.HalvesReference.τ).loc Cert.HalvesReference.main_v26)) (v3 : Buf (Elt Bits) (((0 : Dev Cert.HalvesReference.nD).tc : Thread Cert.HalvesReference.nD Cert.HalvesReference.τ).loc Cert.HalvesReference.main_v35)) (v4 : Buf (Elt Bits) (((0 : Dev Cert.HalvesReference.nD).tc : Thread Cert.HalvesReference.nD Cert.HalvesReference.τ).loc Cert.HalvesReference.main_v44)) (v5 : Buf (Elt Bits) (((0 : Dev Cert.HalvesReference.nD).tc : Thread Cert.HalvesReference.nD Cert.HalvesReference.τ).loc Cert.HalvesReference.main_v53)) (v6 : Buf (Elt Bits) (((0 : Dev Cert.HalvesReference.nD).tc : Thread Cert.HalvesReference.nD Cert.HalvesReference.τ).loc Cert.HalvesReference.main_v62)) (v7 : Buf (Elt Bits) (((0 : Dev Cert.HalvesReference.nD).tc : Thread Cert.HalvesReference.nD Cert.HalvesReference.τ).loc Cert.HalvesReference.main_v71)),
      θ_run (Cert.Halves.defs (F := Bits)) (onTc (τ := Cert.Halves.τ) (Cert.Halves.main (F := Bits))) ⟨m, fun _ => 0, g⟩ (fun r => ∀ c : Dev Cert.Halves.nD,
          r.2.mem ((c.tc : Thread Cert.Halves.nD Cert.Halves.τ).loc Cert.Halves.main_v1_0) = Layout.block ⟨3, ![4, 512, 1536]⟩ ⟨3, ![32, 512, 1536]⟩ 0 8 c v0
          ∧ r.2.mem ((c.tc : Thread Cert.Halves.nD Cert.Halves.τ).loc Cert.Halves.main_v1_1) = Layout.block ⟨3, ![4, 128, 256]⟩ ⟨3, ![32, 128, 256]⟩ 0 8 c v1
          ∧ r.2.mem ((c.tc : Thread Cert.Halves.nD Cert.Halves.τ).loc Cert.Halves.main_v1_2) = Layout.block ⟨3, ![4, 128, 256]⟩ ⟨3, ![32, 128, 256]⟩ 0 8 c v2
          ∧ r.2.mem ((c.tc : Thread Cert.Halves.nD Cert.Halves.τ).loc Cert.Halves.main_v1_3) = Layout.block ⟨3, ![4, 128, 1024]⟩ ⟨3, ![32, 128, 1024]⟩ 0 8 c v3
          ∧ r.2.mem ((c.tc : Thread Cert.Halves.nD Cert.Halves.τ).loc Cert.Halves.main_v1_4) = Layout.block ⟨3, ![4, 128, 1024]⟩ ⟨3, ![32, 128, 1024]⟩ 0 8 c v4
          ∧ r.2.mem ((c.tc : Thread Cert.Halves.nD Cert.Halves.τ).loc Cert.Halves.main_v1_5) = Layout.block ⟨3, ![4, 128, 1024]⟩ ⟨3, ![32, 128, 1024]⟩ 0 8 c v5
          ∧ r.2.mem ((c.tc : Thread Cert.Halves.nD Cert.Halves.τ).loc Cert.Halves.main_v1_6) = Layout.block ⟨3, ![4, 512, 1024]⟩ ⟨3, ![32, 512, 1024]⟩ 0 8 c v6
          ∧ r.2.mem ((c.tc : Thread Cert.Halves.nD Cert.Halves.τ).loc Cert.Halves.main_v1_7) = Layout.block ⟨3, ![4, 512, 1024]⟩ ⟨3, ![32, 512, 1024]⟩ 0 8 c v7
          ∧ r.2.mem ((c.tc : Thread Cert.Halves.nD Cert.Halves.τ).loc Cert.Halves.main_arg0) = m ((c.tc : Thread Cert.Halves.nD Cert.Halves.τ).loc Cert.Halves.main_arg0)
          ∧ r.2.mem ((c.tc : Thread Cert.Halves.nD Cert.Halves.τ).loc Cert.Halves.main_arg1) = m ((c.tc : Thread Cert.Halves.nD Cert.Halves.τ).loc Cert.Halves.main_arg1)
          ∧ r.2.mem ((c.tc : Thread Cert.Halves.nD Cert.Halves.τ).loc Cert.Halves.main_arg2) = m ((c.tc : Thread Cert.Halves.nD Cert.Halves.τ).loc Cert.Halves.main_arg2)
          ∧ r.2.mem ((c.tc : Thread Cert.Halves.nD Cert.Halves.τ).loc Cert.Halves.main_arg3) = m ((c.tc : Thread Cert.Halves.nD Cert.Halves.τ).loc Cert.Halves.main_arg3)
          ∧ r.2.mem ((c.tc : Thread Cert.Halves.nD Cert.Halves.τ).loc Cert.Halves.main_arg4) = m ((c.tc : Thread Cert.Halves.nD Cert.Halves.τ).loc Cert.Halves.main_arg4)
          ∧ r.2.mem ((c.tc : Thread Cert.Halves.nD Cert.Halves.τ).loc Cert.Halves.main_arg5) = m ((c.tc : Thread Cert.Halves.nD Cert.Halves.τ).loc Cert.Halves.main_arg5)
          ∧ r.2.mem ((c.tc : Thread Cert.Halves.nD Cert.Halves.τ).loc Cert.Halves.main_arg6) = m ((c.tc : Thread Cert.Halves.nD Cert.Halves.τ).loc Cert.Halves.main_arg6)
          ∧ r.2.mem ((c.tc : Thread Cert.Halves.nD Cert.Halves.τ).loc Cert.Halves.main_arg7) = m ((c.tc : Thread Cert.Halves.nD Cert.Halves.τ).loc Cert.Halves.main_arg7))
      ∧ θ_run (Cert.HalvesReference.defs (F := Bits)) (onTc (τ := Cert.HalvesReference.τ) (Cert.HalvesReference.main (F := Bits))) ⟨m', fun _ => 0, g'⟩ (fun r =>
          r.2.mem (((0 : Dev Cert.HalvesReference.nD).tc : Thread Cert.HalvesReference.nD Cert.HalvesReference.τ).loc Cert.HalvesReference.main_v8) = v0
          ∧ r.2.mem (((0 : Dev Cert.HalvesReference.nD).tc : Thread Cert.HalvesReference.nD Cert.HalvesReference.τ).loc Cert.HalvesReference.main_v17) = v1
          ∧ r.2.mem (((0 : Dev Cert.HalvesReference.nD).tc : Thread Cert.HalvesReference.nD Cert.HalvesReference.τ).loc Cert.HalvesReference.main_v26) = v2
          ∧ r.2.mem (((0 : Dev Cert.HalvesReference.nD).tc : Thread Cert.HalvesReference.nD Cert.HalvesReference.τ).loc Cert.HalvesReference.main_v35) = v3
          ∧ r.2.mem (((0 : Dev Cert.HalvesReference.nD).tc : Thread Cert.HalvesReference.nD Cert.HalvesReference.τ).loc Cert.HalvesReference.main_v44) = v4
          ∧ r.2.mem (((0 : Dev Cert.HalvesReference.nD).tc : Thread Cert.HalvesReference.nD Cert.HalvesReference.τ).loc Cert.HalvesReference.main_v53) = v5
          ∧ r.2.mem (((0 : Dev Cert.HalvesReference.nD).tc : Thread Cert.HalvesReference.nD Cert.HalvesReference.τ).loc Cert.HalvesReference.main_v62) = v6
          ∧ r.2.mem (((0 : Dev Cert.HalvesReference.nD).tc : Thread Cert.HalvesReference.nD Cert.HalvesReference.τ).loc Cert.HalvesReference.main_v71) = v7
          ∧ r.2.mem (((0 : Dev Cert.HalvesReference.nD).tc : Thread Cert.HalvesReference.nD Cert.HalvesReference.τ).loc Cert.HalvesReference.main_arg0) = m' (((0 : Dev Cert.HalvesReference.nD).tc : Thread Cert.HalvesReference.nD Cert.HalvesReference.τ).loc Cert.HalvesReference.main_arg0)
          ∧ r.2.mem (((0 : Dev Cert.HalvesReference.nD).tc : Thread Cert.HalvesReference.nD Cert.HalvesReference.τ).loc Cert.HalvesReference.main_arg1) = m' (((0 : Dev Cert.HalvesReference.nD).tc : Thread Cert.HalvesReference.nD Cert.HalvesReference.τ).loc Cert.HalvesReference.main_arg1)
          ∧ r.2.mem (((0 : Dev Cert.HalvesReference.nD).tc : Thread Cert.HalvesReference.nD Cert.HalvesReference.τ).loc Cert.HalvesReference.main_arg2) = m' (((0 : Dev Cert.HalvesReference.nD).tc : Thread Cert.HalvesReference.nD Cert.HalvesReference.τ).loc Cert.HalvesReference.main_arg2)
          ∧ r.2.mem (((0 : Dev Cert.HalvesReference.nD).tc : Thread Cert.HalvesReference.nD Cert.HalvesReference.τ).loc Cert.HalvesReference.main_arg3) = m' (((0 : Dev Cert.HalvesReference.nD).tc : Thread Cert.HalvesReference.nD Cert.HalvesReference.τ).loc Cert.HalvesReference.main_arg3)
          ∧ r.2.mem (((0 : Dev Cert.HalvesReference.nD).tc : Thread Cert.HalvesReference.nD Cert.HalvesReference.τ).loc Cert.HalvesReference.main_arg4) = m' (((0 : Dev Cert.HalvesReference.nD).tc : Thread Cert.HalvesReference.nD Cert.HalvesReference.τ).loc Cert.HalvesReference.main_arg4)
          ∧ r.2.mem (((0 : Dev Cert.HalvesReference.nD).tc : Thread Cert.HalvesReference.nD Cert.HalvesReference.τ).loc Cert.HalvesReference.main_arg5) = m' (((0 : Dev Cert.HalvesReference.nD).tc : Thread Cert.HalvesReference.nD Cert.HalvesReference.τ).loc Cert.HalvesReference.main_arg5)
          ∧ r.2.mem (((0 : Dev Cert.HalvesReference.nD).tc : Thread Cert.HalvesReference.nD Cert.HalvesReference.τ).loc Cert.HalvesReference.main_arg6) = m' (((0 : Dev Cert.HalvesReference.nD).tc : Thread Cert.HalvesReference.nD Cert.HalvesReference.τ).loc Cert.HalvesReference.main_arg6)
          ∧ r.2.mem (((0 : Dev Cert.HalvesReference.nD).tc : Thread Cert.HalvesReference.nD Cert.HalvesReference.τ).loc Cert.HalvesReference.main_arg7) = m' (((0 : Dev Cert.HalvesReference.nD).tc : Thread Cert.HalvesReference.nD Cert.HalvesReference.τ).loc Cert.HalvesReference.main_arg7))

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![1024, 1536]⟩ ⟨2, ![4096, 1536]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.blockN ⟨2, ![256, 256]⟩ ⟨2, ![1024, 256]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.blockN ⟨2, ![256, 256]⟩ ⟨2, ![1024, 256]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.blockN ⟨2, ![256, 1024]⟩ ⟨2, ![1024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = Layout.blockN ⟨2, ![256, 1024]⟩ ⟨2, ![1024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg4))
      ∧ m ((c.tc : Thread Cert.GatherIdeal.nD Cert.GatherIdeal.τ).loc Cert.GatherIdeal.main_arg5) = Layout.blockN ⟨2, ![256, 1024]⟩ ⟨2, ![1024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg5))
      ∧ m ((c.tc : Thread Cert.GatherIdeal.nD Cert.GatherIdeal.τ).loc Cert.GatherIdeal.main_arg6) = Layout.blockN ⟨2, ![1024, 1024]⟩ ⟨2, ![4096, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg6))
      ∧ m ((c.tc : Thread Cert.GatherIdeal.nD Cert.GatherIdeal.τ).loc Cert.GatherIdeal.main_arg7) = Layout.blockN ⟨2, ![1024, 1024]⟩ ⟨2, ![4096, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg7))
      ∧ m ((c.tc : Thread Cert.GatherIdeal.nD Cert.GatherIdeal.τ).loc Cert.GatherIdeal.main_arg8) = Layout.blockN ⟨2, ![8, 384]⟩ ⟨2, ![32, 384]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg8))) →
    ∃ (v0 : Buf (Elt Ideal) (((0 : Dev Cert.GatherReferenceIdeal.nD).tc : Thread Cert.GatherReferenceIdeal.nD Cert.GatherReferenceIdeal.τ).loc Cert.GatherReferenceIdeal.main_v0)) (v1 : Buf (Elt Ideal) (((0 : Dev Cert.GatherReferenceIdeal.nD).tc : Thread Cert.GatherReferenceIdeal.nD Cert.GatherReferenceIdeal.τ).loc Cert.GatherReferenceIdeal.main_v1)) (v2 : Buf (Elt Ideal) (((0 : Dev Cert.GatherReferenceIdeal.nD).tc : Thread Cert.GatherReferenceIdeal.nD Cert.GatherReferenceIdeal.τ).loc Cert.GatherReferenceIdeal.main_v2)) (v3 : Buf (Elt Ideal) (((0 : Dev Cert.GatherReferenceIdeal.nD).tc : Thread Cert.GatherReferenceIdeal.nD Cert.GatherReferenceIdeal.τ).loc Cert.GatherReferenceIdeal.main_v3)) (v4 : Buf (Elt Ideal) (((0 : Dev Cert.GatherReferenceIdeal.nD).tc : Thread Cert.GatherReferenceIdeal.nD Cert.GatherReferenceIdeal.τ).loc Cert.GatherReferenceIdeal.main_v4)) (v5 : Buf (Elt Ideal) (((0 : Dev Cert.GatherReferenceIdeal.nD).tc : Thread Cert.GatherReferenceIdeal.nD Cert.GatherReferenceIdeal.τ).loc Cert.GatherReferenceIdeal.main_v5)) (v6 : Buf (Elt Ideal) (((0 : Dev Cert.GatherReferenceIdeal.nD).tc : Thread Cert.GatherReferenceIdeal.nD Cert.GatherReferenceIdeal.τ).loc Cert.GatherReferenceIdeal.main_v6)) (v7 : Buf (Elt Ideal) (((0 : Dev Cert.GatherReferenceIdeal.nD).tc : Thread Cert.GatherReferenceIdeal.nD Cert.GatherReferenceIdeal.τ).loc Cert.GatherReferenceIdeal.main_v7)) (v8 : Buf (Elt Ideal) (((0 : Dev Cert.GatherReferenceIdeal.nD).tc : Thread Cert.GatherReferenceIdeal.nD Cert.GatherReferenceIdeal.τ).loc Cert.GatherReferenceIdeal.main_v8)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_v1_8) = v8
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_v1) = v1
          ∧ r.2.mem (((0 : Dev Cert.GatherReferenceIdeal.nD).tc : Thread Cert.GatherReferenceIdeal.nD Cert.GatherReferenceIdeal.τ).loc Cert.GatherReferenceIdeal.main_v2) = v2
          ∧ r.2.mem (((0 : Dev Cert.GatherReferenceIdeal.nD).tc : Thread Cert.GatherReferenceIdeal.nD Cert.GatherReferenceIdeal.τ).loc Cert.GatherReferenceIdeal.main_v3) = v3
          ∧ r.2.mem (((0 : Dev Cert.GatherReferenceIdeal.nD).tc : Thread Cert.GatherReferenceIdeal.nD Cert.GatherReferenceIdeal.τ).loc Cert.GatherReferenceIdeal.main_v4) = v4
          ∧ r.2.mem (((0 : Dev Cert.GatherReferenceIdeal.nD).tc : Thread Cert.GatherReferenceIdeal.nD Cert.GatherReferenceIdeal.τ).loc Cert.GatherReferenceIdeal.main_v5) = v5
          ∧ r.2.mem (((0 : Dev Cert.GatherReferenceIdeal.nD).tc : Thread Cert.GatherReferenceIdeal.nD Cert.GatherReferenceIdeal.τ).loc Cert.GatherReferenceIdeal.main_v6) = v6
          ∧ r.2.mem (((0 : Dev Cert.GatherReferenceIdeal.nD).tc : Thread Cert.GatherReferenceIdeal.nD Cert.GatherReferenceIdeal.τ).loc Cert.GatherReferenceIdeal.main_v7) = v7
          ∧ r.2.mem (((0 : Dev Cert.GatherReferenceIdeal.nD).tc : Thread Cert.GatherReferenceIdeal.nD Cert.GatherReferenceIdeal.τ).loc Cert.GatherReferenceIdeal.main_v8) = v8
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5)
          ∧ r.2.mem (((0 : Dev Cert.GatherReferenceIdeal.nD).tc : Thread Cert.GatherReferenceIdeal.nD Cert.GatherReferenceIdeal.τ).loc Cert.GatherReferenceIdeal.main_arg6) = m' (((0 : Dev Cert.GatherReferenceIdeal.nD).tc : Thread Cert.GatherReferenceIdeal.nD Cert.GatherReferenceIdeal.τ).loc Cert.GatherReferenceIdeal.main_arg6)
          ∧ r.2.mem (((0 : Dev Cert.GatherReferenceIdeal.nD).tc : Thread Cert.GatherReferenceIdeal.nD Cert.GatherReferenceIdeal.τ).loc Cert.GatherReferenceIdeal.main_arg7) = m' (((0 : Dev Cert.GatherReferenceIdeal.nD).tc : Thread Cert.GatherReferenceIdeal.nD Cert.GatherReferenceIdeal.τ).loc Cert.GatherReferenceIdeal.main_arg7)
          ∧ r.2.mem (((0 : Dev Cert.GatherReferenceIdeal.nD).tc : Thread Cert.GatherReferenceIdeal.nD Cert.GatherReferenceIdeal.τ).loc Cert.GatherReferenceIdeal.main_arg8) = m' (((0 : Dev Cert.GatherReferenceIdeal.nD).tc : Thread Cert.GatherReferenceIdeal.nD Cert.GatherReferenceIdeal.τ).loc Cert.GatherReferenceIdeal.main_arg8))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.blockN ⟨2, ![1024, 1536]⟩ ⟨2, ![4096, 1536]⟩ (Layout.meshBlock [2, 2, 2] ![[0, 1], []] c) (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.blockN ⟨2, ![256, 256]⟩ ⟨2, ![1024, 256]⟩ (Layout.meshBlock [2, 2, 2] ![[0, 1], []] c) (m' (((0 : Dev Cert.GatherReference.nD).tc : Thread Cert.GatherReference.nD Cert.GatherReference.τ).loc Cert.GatherReference.main_arg1))
      ∧ m ((c.tc : Thread Cert.Gather.nD Cert.Gather.τ).loc Cert.Gather.main_arg2) = Layout.blockN ⟨2, ![256, 256]⟩ ⟨2, ![1024, 256]⟩ (Layout.meshBlock [2, 2, 2] ![[0, 1], []] c) (m' (((0 : Dev Cert.GatherReference.nD).tc : Thread Cert.GatherReference.nD Cert.GatherReference.τ).loc Cert.GatherReference.main_arg2))
      ∧ m ((c.tc : Thread Cert.Gather.nD Cert.Gather.τ).loc Cert.Gather.main_arg3) = Layout.blockN ⟨2, ![256, 1024]⟩ ⟨2, ![1024, 1024]⟩ (Layout.meshBlock [2, 2, 2] ![[0, 1], []] c) (m' (((0 : Dev Cert.GatherReference.nD).tc : Thread Cert.GatherReference.nD Cert.GatherReference.τ).loc Cert.GatherReference.main_arg3))
      ∧ m ((c.tc : Thread Cert.Gather.nD Cert.Gather.τ).loc Cert.Gather.main_arg4) = Layout.blockN ⟨2, ![256, 1024]⟩ ⟨2, ![1024, 1024]⟩ (Layout.meshBlock [2, 2, 2] ![[0, 1], []] c) (m' (((0 : Dev Cert.GatherReference.nD).tc : Thread Cert.GatherReference.nD Cert.GatherReference.τ).loc Cert.GatherReference.main_arg4))
      ∧ m ((c.tc : Thread Cert.Gather.nD Cert.Gather.τ).loc Cert.Gather.main_arg5) = Layout.blockN ⟨2, ![256, 1024]⟩ ⟨2, ![1024, 1024]⟩ (Layout.meshBlock [2, 2, 2] ![[0, 1], []] c) (m' (((0 : Dev Cert.GatherReference.nD).tc : Thread Cert.GatherReference.nD Cert.GatherReference.τ).loc Cert.GatherReference.main_arg5))
      ∧ m ((c.tc : Thread Cert.Gather.nD Cert.Gather.τ).loc Cert.Gather.main_arg6) = Layout.blockN ⟨2, ![1024, 1024]⟩ ⟨2, ![4096, 1024]⟩ (Layout.meshBlock [2, 2, 2] ![[0, 1], []] c) (m' (((0 : Dev Cert.GatherReference.nD).tc : Thread Cert.GatherReference.nD Cert.GatherReference.τ).loc Cert.GatherReference.main_arg6))
      ∧ m ((c.tc : Thread Cert.Gather.nD Cert.Gather.τ).loc Cert.Gather.main_arg7) = Layout.blockN ⟨2, ![1024, 1024]⟩ ⟨2, ![4096, 1024]⟩ (Layout.meshBlock [2, 2, 2] ![[0, 1], []] c) (m' (((0 : Dev Cert.GatherReference.nD).tc : Thread Cert.GatherReference.nD Cert.GatherReference.τ).loc Cert.GatherReference.main_arg7))
      ∧ m ((c.tc : Thread Cert.Gather.nD Cert.Gather.τ).loc Cert.Gather.main_arg8) = Layout.blockN ⟨2, ![8, 384]⟩ ⟨2, ![32, 384]⟩ (Layout.meshBlock [2, 2, 2] ![[0, 1], []] c) (m' (((0 : Dev Cert.GatherReference.nD).tc : Thread Cert.GatherReference.nD Cert.GatherReference.τ).loc Cert.GatherReference.main_arg8))) →
    ∃ (v0 : Buf (Elt Bits) (((0 : Dev Cert.GatherReference.nD).tc : Thread Cert.GatherReference.nD Cert.GatherReference.τ).loc Cert.GatherReference.main_v0)) (v1 : Buf (Elt Bits) (((0 : Dev Cert.GatherReference.nD).tc : Thread Cert.GatherReference.nD Cert.GatherReference.τ).loc Cert.GatherReference.main_v1)) (v2 : Buf (Elt Bits) (((0 : Dev Cert.GatherReference.nD).tc : Thread Cert.GatherReference.nD Cert.GatherReference.τ).loc Cert.GatherReference.main_v2)) (v3 : Buf (Elt Bits) (((0 : Dev Cert.GatherReference.nD).tc : Thread Cert.GatherReference.nD Cert.GatherReference.τ).loc Cert.GatherReference.main_v3)) (v4 : Buf (Elt Bits) (((0 : Dev Cert.GatherReference.nD).tc : Thread Cert.GatherReference.nD Cert.GatherReference.τ).loc Cert.GatherReference.main_v4)) (v5 : Buf (Elt Bits) (((0 : Dev Cert.GatherReference.nD).tc : Thread Cert.GatherReference.nD Cert.GatherReference.τ).loc Cert.GatherReference.main_v5)) (v6 : Buf (Elt Bits) (((0 : Dev Cert.GatherReference.nD).tc : Thread Cert.GatherReference.nD Cert.GatherReference.τ).loc Cert.GatherReference.main_v6)) (v7 : Buf (Elt Bits) (((0 : Dev Cert.GatherReference.nD).tc : Thread Cert.GatherReference.nD Cert.GatherReference.τ).loc Cert.GatherReference.main_v7)) (v8 : Buf (Elt Bits) (((0 : Dev Cert.GatherReference.nD).tc : Thread Cert.GatherReference.nD Cert.GatherReference.τ).loc Cert.GatherReference.main_v8)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_v1_4) = v4
          ∧ r.2.mem ((c.tc : Thread Cert.Gather.nD Cert.Gather.τ).loc Cert.Gather.main_v1_5) = v5
          ∧ r.2.mem ((c.tc : Thread Cert.Gather.nD Cert.Gather.τ).loc Cert.Gather.main_v1_6) = v6
          ∧ r.2.mem ((c.tc : Thread Cert.Gather.nD Cert.Gather.τ).loc Cert.Gather.main_v1_7) = v7
          ∧ r.2.mem ((c.tc : Thread Cert.Gather.nD Cert.Gather.τ).loc Cert.Gather.main_v1_8) = v8
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3)
          ∧ r.2.mem ((c.tc : Thread Cert.Gather.nD Cert.Gather.τ).loc Cert.Gather.main_arg4) = m ((c.tc : Thread Cert.Gather.nD Cert.Gather.τ).loc Cert.Gather.main_arg4)
          ∧ r.2.mem ((c.tc : Thread Cert.Gather.nD Cert.Gather.τ).loc Cert.Gather.main_arg5) = m ((c.tc : Thread Cert.Gather.nD Cert.Gather.τ).loc Cert.Gather.main_arg5)
          ∧ r.2.mem ((c.tc : Thread Cert.Gather.nD Cert.Gather.τ).loc Cert.Gather.main_arg6) = m ((c.tc : Thread Cert.Gather.nD Cert.Gather.τ).loc Cert.Gather.main_arg6)
          ∧ r.2.mem ((c.tc : Thread Cert.Gather.nD Cert.Gather.τ).loc Cert.Gather.main_arg7) = m ((c.tc : Thread Cert.Gather.nD Cert.Gather.τ).loc Cert.Gather.main_arg7)
          ∧ r.2.mem ((c.tc : Thread Cert.Gather.nD Cert.Gather.τ).loc Cert.Gather.main_arg8) = m ((c.tc : Thread Cert.Gather.nD Cert.Gather.τ).loc Cert.Gather.main_arg8))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_v1) = v1
          ∧ r.2.mem (((0 : Dev Cert.GatherReference.nD).tc : Thread Cert.GatherReference.nD Cert.GatherReference.τ).loc Cert.GatherReference.main_v2) = v2
          ∧ r.2.mem (((0 : Dev Cert.GatherReference.nD).tc : Thread Cert.GatherReference.nD Cert.GatherReference.τ).loc Cert.GatherReference.main_v3) = v3
          ∧ r.2.mem (((0 : Dev Cert.GatherReference.nD).tc : Thread Cert.GatherReference.nD Cert.GatherReference.τ).loc Cert.GatherReference.main_v4) = v4
          ∧ r.2.mem (((0 : Dev Cert.GatherReference.nD).tc : Thread Cert.GatherReference.nD Cert.GatherReference.τ).loc Cert.GatherReference.main_v5) = v5
          ∧ r.2.mem (((0 : Dev Cert.GatherReference.nD).tc : Thread Cert.GatherReference.nD Cert.GatherReference.τ).loc Cert.GatherReference.main_v6) = v6
          ∧ r.2.mem (((0 : Dev Cert.GatherReference.nD).tc : Thread Cert.GatherReference.nD Cert.GatherReference.τ).loc Cert.GatherReference.main_v7) = v7
          ∧ r.2.mem (((0 : Dev Cert.GatherReference.nD).tc : Thread Cert.GatherReference.nD Cert.GatherReference.τ).loc Cert.GatherReference.main_v8) = v8
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1)
          ∧ r.2.mem (((0 : Dev Cert.GatherReference.nD).tc : Thread Cert.GatherReference.nD Cert.GatherReference.τ).loc Cert.GatherReference.main_arg2) = m' (((0 : Dev Cert.GatherReference.nD).tc : Thread Cert.GatherReference.nD Cert.GatherReference.τ).loc Cert.GatherReference.main_arg2)
          ∧ r.2.mem (((0 : Dev Cert.GatherReference.nD).tc : Thread Cert.GatherReference.nD Cert.GatherReference.τ).loc Cert.GatherReference.main_arg3) = m' (((0 : Dev Cert.GatherReference.nD).tc : Thread Cert.GatherReference.nD Cert.GatherReference.τ).loc Cert.GatherReference.main_arg3)
          ∧ r.2.mem (((0 : Dev Cert.GatherReference.nD).tc : Thread Cert.GatherReference.nD Cert.GatherReference.τ).loc Cert.GatherReference.main_arg4) = m' (((0 : Dev Cert.GatherReference.nD).tc : Thread Cert.GatherReference.nD Cert.GatherReference.τ).loc Cert.GatherReference.main_arg4)
          ∧ r.2.mem (((0 : Dev Cert.GatherReference.nD).tc : Thread Cert.GatherReference.nD Cert.GatherReference.τ).loc Cert.GatherReference.main_arg5) = m' (((0 : Dev Cert.GatherReference.nD).tc : Thread Cert.GatherReference.nD Cert.GatherReference.τ).loc Cert.GatherReference.main_arg5)
          ∧ r.2.mem (((0 : Dev Cert.GatherReference.nD).tc : Thread Cert.GatherReference.nD Cert.GatherReference.τ).loc Cert.GatherReference.main_arg6) = m' (((0 : Dev Cert.GatherReference.nD).tc : Thread Cert.GatherReference.nD Cert.GatherReference.τ).loc Cert.GatherReference.main_arg6)
          ∧ r.2.mem (((0 : Dev Cert.GatherReference.nD).tc : Thread Cert.GatherReference.nD Cert.GatherReference.τ).loc Cert.GatherReference.main_arg7) = m' (((0 : Dev Cert.GatherReference.nD).tc : Thread Cert.GatherReference.nD Cert.GatherReference.τ).loc Cert.GatherReference.main_arg7)
          ∧ r.2.mem (((0 : Dev Cert.GatherReference.nD).tc : Thread Cert.GatherReference.nD Cert.GatherReference.τ).loc Cert.GatherReference.main_arg8) = m' (((0 : Dev Cert.GatherReference.nD).tc : Thread Cert.GatherReference.nD Cert.GatherReference.τ).loc Cert.GatherReference.main_arg8))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_v23) = v0 c
          ∧ r.2.mem ((c.tc : Thread Cert.AdamwInReferenceIdeal.nD Cert.AdamwInReferenceIdeal.τ).loc Cert.AdamwInReferenceIdeal.main_v4) = v1 c
          ∧ r.2.mem ((c.tc : Thread Cert.AdamwInReferenceIdeal.nD Cert.AdamwInReferenceIdeal.τ).loc Cert.AdamwInReferenceIdeal.main_v10) = v2 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3))

def preserves_AdamwGate_AdamwGateIdeal : Prop :=
  True

def algebraic_AdamwGateIdeal_AdamwGateReferenceIdeal [hAdamwGateIdeal : Cert.AdamwGateIdeal.Facts] [hAdamwGateReferenceIdeal : Cert.AdamwGateReferenceIdeal.Facts] : Prop :=
  ∀ (m : (ℓ : Loc Cert.AdamwGateIdeal.nD Cert.AdamwGateIdeal.τ Cert.AdamwGateIdeal.sig) → Buf (Elt Ideal) ℓ) (g : Dev Cert.AdamwGateIdeal.nD → PrngReg)
    (m' : (ℓ : Loc Cert.AdamwGateReferenceIdeal.nD Cert.AdamwGateReferenceIdeal.τ Cert.AdamwGateReferenceIdeal.sig) → Buf (Elt Ideal) ℓ) (g' : Dev Cert.AdamwGateReferenceIdeal.nD → PrngReg), Pre_AdamwGateIdeal m →
    (∀ c : Dev Cert.AdamwGateIdeal.nD,
      m' ((c.tc : Thread Cert.AdamwGateReferenceIdeal.nD Cert.AdamwGateReferenceIdeal.τ).loc Cert.AdamwGateReferenceIdeal.main_arg0) = m ((c.tc : Thread Cert.AdamwGateIdeal.nD Cert.AdamwGateIdeal.τ).loc Cert.AdamwGateIdeal.main_arg0)
      ∧ m' ((c.tc : Thread Cert.AdamwGateReferenceIdeal.nD Cert.AdamwGateReferenceIdeal.τ).loc Cert.AdamwGateReferenceIdeal.main_arg1) = m ((c.tc : Thread Cert.AdamwGateIdeal.nD Cert.AdamwGateIdeal.τ).loc Cert.AdamwGateIdeal.main_arg1)
      ∧ m' ((c.tc : Thread Cert.AdamwGateReferenceIdeal.nD Cert.AdamwGateReferenceIdeal.τ).loc Cert.AdamwGateReferenceIdeal.main_arg2) = m ((c.tc : Thread Cert.AdamwGateIdeal.nD Cert.AdamwGateIdeal.τ).loc Cert.AdamwGateIdeal.main_arg2)
      ∧ m' ((c.tc : Thread Cert.AdamwGateReferenceIdeal.nD Cert.AdamwGateReferenceIdeal.τ).loc Cert.AdamwGateReferenceIdeal.main_arg3) = m ((c.tc : Thread Cert.AdamwGateIdeal.nD Cert.AdamwGateIdeal.τ).loc Cert.AdamwGateIdeal.main_arg3)) →
    ∃ (v0 : (c : Dev Cert.AdamwGateIdeal.nD) → Buf (Elt Ideal) ((c.tc : Thread Cert.AdamwGateIdeal.nD Cert.AdamwGateIdeal.τ).loc Cert.AdamwGateIdeal.main_v0_0)) (v1 : (c : Dev Cert.AdamwGateIdeal.nD) → Buf (Elt Ideal) ((c.tc : Thread Cert.AdamwGateIdeal.nD Cert.AdamwGateIdeal.τ).loc Cert.AdamwGateIdeal.main_v0_1)) (v2 : (c : Dev Cert.AdamwGateIdeal.nD) → Buf (Elt Ideal) ((c.tc : Thread Cert.AdamwGateIdeal.nD Cert.AdamwGateIdeal.τ).loc Cert.AdamwGateIdeal.main_v0_2)),
      θ_run (Cert.AdamwGateIdeal.defs (F := Ideal)) (onTc (τ := Cert.AdamwGateIdeal.τ) (Cert.AdamwGateIdeal.main (F := Ideal))) ⟨m, fun _ => 0, g⟩ (fun r => ∀ c : Dev Cert.AdamwGateIdeal.nD,
          r.2.mem ((c.tc : Thread Cert.AdamwGateIdeal.nD Cert.AdamwGateIdeal.τ).loc Cert.AdamwGateIdeal.main_v0_0) = v0 c
          ∧ r.2.mem ((c.tc : Thread Cert.AdamwGateIdeal.nD Cert.AdamwGateIdeal.τ).loc Cert.AdamwGateIdeal.main_v0_1) = v1 c
          ∧ r.2.mem ((c.tc : Thread Cert.AdamwGateIdeal.nD Cert.AdamwGateIdeal.τ).loc Cert.AdamwGateIdeal.main_v0_2) = v2 c
          ∧ r.2.mem ((c.tc : Thread Cert.AdamwGateIdeal.nD Cert.AdamwGateIdeal.τ).loc Cert.AdamwGateIdeal.main_arg0) = m ((c.tc : Thread Cert.AdamwGateIdeal.nD Cert.AdamwGateIdeal.τ).loc Cert.AdamwGateIdeal.main_arg0)
          ∧ r.2.mem ((c.tc : Thread Cert.AdamwGateIdeal.nD Cert.AdamwGateIdeal.τ).loc Cert.AdamwGateIdeal.main_arg1) = m ((c.tc : Thread Cert.AdamwGateIdeal.nD Cert.AdamwGateIdeal.τ).loc Cert.AdamwGateIdeal.main_arg1)
          ∧ r.2.mem ((c.tc : Thread Cert.AdamwGateIdeal.nD Cert.AdamwGateIdeal.τ).loc Cert.AdamwGateIdeal.main_arg2) = m ((c.tc : Thread Cert.AdamwGateIdeal.nD Cert.AdamwGateIdeal.τ).loc Cert.AdamwGateIdeal.main_arg2)
          ∧ r.2.mem ((c.tc : Thread Cert.AdamwGateIdeal.nD Cert.AdamwGateIdeal.τ).loc Cert.AdamwGateIdeal.main_arg3) = m ((c.tc : Thread Cert.AdamwGateIdeal.nD Cert.AdamwGateIdeal.τ).loc Cert.AdamwGateIdeal.main_arg3))
      ∧ θ_run (Cert.AdamwGateReferenceIdeal.defs (F := Ideal)) (onTc (τ := Cert.AdamwGateReferenceIdeal.τ) (Cert.AdamwGateReferenceIdeal.main (F := Ideal))) ⟨m', fun _ => 0, g'⟩ (fun r => ∀ c : Dev Cert.AdamwGateReferenceIdeal.nD,
          r.2.mem ((c.tc : Thread Cert.AdamwGateReferenceIdeal.nD Cert.AdamwGateReferenceIdeal.τ).loc Cert.AdamwGateReferenceIdeal.main_v23) = v0 c
          ∧ r.2.mem ((c.tc : Thread Cert.AdamwGateReferenceIdeal.nD Cert.AdamwGateReferenceIdeal.τ).loc Cert.AdamwGateReferenceIdeal.main_v4) = v1 c
          ∧ r.2.mem ((c.tc : Thread Cert.AdamwGateReferenceIdeal.nD Cert.AdamwGateReferenceIdeal.τ).loc Cert.AdamwGateReferenceIdeal.main_v10) = v2 c
          ∧ r.2.mem ((c.tc : Thread Cert.AdamwGateReferenceIdeal.nD Cert.AdamwGateReferenceIdeal.τ).loc Cert.AdamwGateReferenceIdeal.main_arg0) = m' ((c.tc : Thread Cert.AdamwGateReferenceIdeal.nD Cert.AdamwGateReferenceIdeal.τ).loc Cert.AdamwGateReferenceIdeal.main_arg0)
          ∧ r.2.mem ((c.tc : Thread Cert.AdamwGateReferenceIdeal.nD Cert.AdamwGateReferenceIdeal.τ).loc Cert.AdamwGateReferenceIdeal.main_arg1) = m' ((c.tc : Thread Cert.AdamwGateReferenceIdeal.nD Cert.AdamwGateReferenceIdeal.τ).loc Cert.AdamwGateReferenceIdeal.main_arg1)
          ∧ r.2.mem ((c.tc : Thread Cert.AdamwGateReferenceIdeal.nD Cert.AdamwGateReferenceIdeal.τ).loc Cert.AdamwGateReferenceIdeal.main_arg2) = m' ((c.tc : Thread Cert.AdamwGateReferenceIdeal.nD Cert.AdamwGateReferenceIdeal.τ).loc Cert.AdamwGateReferenceIdeal.main_arg2)
          ∧ r.2.mem ((c.tc : Thread Cert.AdamwGateReferenceIdeal.nD Cert.AdamwGateReferenceIdeal.τ).loc Cert.AdamwGateReferenceIdeal.main_arg3) = m' ((c.tc : Thread Cert.AdamwGateReferenceIdeal.nD Cert.AdamwGateReferenceIdeal.τ).loc Cert.AdamwGateReferenceIdeal.main_arg3))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v23) = v0 c
          ∧ r.2.mem ((c.tc : Thread Cert.AdamwOutReferenceIdeal.nD Cert.AdamwOutReferenceIdeal.τ).loc Cert.AdamwOutReferenceIdeal.main_v4) = v1 c
          ∧ r.2.mem ((c.tc : Thread Cert.AdamwOutReferenceIdeal.nD Cert.AdamwOutReferenceIdeal.τ).loc Cert.AdamwOutReferenceIdeal.main_v10) = v2 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3))

def preserves_AdamwUp_AdamwUpIdeal : Prop :=
  True

def algebraic_AdamwUpIdeal_AdamwUpReferenceIdeal [hAdamwUpIdeal : Cert.AdamwUpIdeal.Facts] [hAdamwUpReferenceIdeal : Cert.AdamwUpReferenceIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpReferenceIdeal.nD Cert.AdamwUpReferenceIdeal.τ Cert.AdamwUpReferenceIdeal.sig) → Buf (Elt Ideal) ℓ) (g' : Dev Cert.AdamwUpReferenceIdeal.nD → PrngReg), Pre_AdamwUpIdeal m →
    (∀ c : Dev Cert.AdamwUpIdeal.nD,
      m' ((c.tc : Thread Cert.AdamwUpReferenceIdeal.nD Cert.AdamwUpReferenceIdeal.τ).loc Cert.AdamwUpReferenceIdeal.main_arg0) = m ((c.tc : Thread Cert.AdamwUpIdeal.nD Cert.AdamwUpIdeal.τ).loc Cert.AdamwUpIdeal.main_arg0)
      ∧ m' ((c.tc : Thread Cert.AdamwUpReferenceIdeal.nD Cert.AdamwUpReferenceIdeal.τ).loc Cert.AdamwUpReferenceIdeal.main_arg1) = m ((c.tc : Thread Cert.AdamwUpIdeal.nD Cert.AdamwUpIdeal.τ).loc Cert.AdamwUpIdeal.main_arg1)
      ∧ m' ((c.tc : Thread Cert.AdamwUpReferenceIdeal.nD Cert.AdamwUpReferenceIdeal.τ).loc Cert.AdamwUpReferenceIdeal.main_arg2) = m ((c.tc : Thread Cert.AdamwUpIdeal.nD Cert.AdamwUpIdeal.τ).loc Cert.AdamwUpIdeal.main_arg2)
      ∧ m' ((c.tc : Thread Cert.AdamwUpReferenceIdeal.nD Cert.AdamwUpReferenceIdeal.τ).loc Cert.AdamwUpReferenceIdeal.main_arg3) = m ((c.tc : Thread Cert.AdamwUpIdeal.nD Cert.AdamwUpIdeal.τ).loc Cert.AdamwUpIdeal.main_arg3)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3))
      ∧ θ_run (Cert.AdamwUpReferenceIdeal.defs (F := Ideal)) (onTc (τ := Cert.AdamwUpReferenceIdeal.τ) (Cert.AdamwUpReferenceIdeal.main (F := Ideal))) ⟨m', fun _ => 0, g'⟩ (fun r => ∀ c : Dev Cert.AdamwUpReferenceIdeal.nD,
          r.2.mem ((c.tc : Thread Cert.AdamwUpReferenceIdeal.nD Cert.AdamwUpReferenceIdeal.τ).loc Cert.AdamwUpReferenceIdeal.main_v23) = v0 c
          ∧ r.2.mem ((c.tc : Thread Cert.AdamwUpReferenceIdeal.nD Cert.AdamwUpReferenceIdeal.τ).loc Cert.AdamwUpReferenceIdeal.main_v4) = v1 c
          ∧ r.2.mem ((c.tc : Thread Cert.AdamwUpReferenceIdeal.nD Cert.AdamwUpReferenceIdeal.τ).loc Cert.AdamwUpReferenceIdeal.main_v10) = v2 c
          ∧ r.2.mem ((c.tc : Thread Cert.AdamwUpReferenceIdeal.nD Cert.AdamwUpReferenceIdeal.τ).loc Cert.AdamwUpReferenceIdeal.main_arg0) = m' ((c.tc : Thread Cert.AdamwUpReferenceIdeal.nD Cert.AdamwUpReferenceIdeal.τ).loc Cert.AdamwUpReferenceIdeal.main_arg0)
          ∧ r.2.mem ((c.tc : Thread Cert.AdamwUpReferenceIdeal.nD Cert.AdamwUpReferenceIdeal.τ).loc Cert.AdamwUpReferenceIdeal.main_arg1) = m' ((c.tc : Thread Cert.AdamwUpReferenceIdeal.nD Cert.AdamwUpReferenceIdeal.τ).loc Cert.AdamwUpReferenceIdeal.main_arg1)
          ∧ r.2.mem ((c.tc : Thread Cert.AdamwUpReferenceIdeal.nD Cert.AdamwUpReferenceIdeal.τ).loc Cert.AdamwUpReferenceIdeal.main_arg2) = m' ((c.tc : Thread Cert.AdamwUpReferenceIdeal.nD Cert.AdamwUpReferenceIdeal.τ).loc Cert.AdamwUpReferenceIdeal.main_arg2)
          ∧ r.2.mem ((c.tc : Thread Cert.AdamwUpReferenceIdeal.nD Cert.AdamwUpReferenceIdeal.τ).loc Cert.AdamwUpReferenceIdeal.main_arg3) = m' ((c.tc : Thread Cert.AdamwUpReferenceIdeal.nD Cert.AdamwUpReferenceIdeal.τ).loc Cert.AdamwUpReferenceIdeal.main_arg3))

def preserves_SmallFirst_SmallFirstIdeal : Prop :=
  True

def algebraic_SmallFirstIdeal_SmallFirstReferenceIdeal [hSmallFirstIdeal : Cert.SmallFirstIdeal.Facts] [hSmallFirstReferenceIdeal : Cert.SmallFirstReferenceIdeal.Facts] : Prop :=
  ∀ (m : (ℓ : Loc Cert.SmallFirstIdeal.nD Cert.SmallFirstIdeal.τ Cert.SmallFirstIdeal.sig) → Buf (Elt Ideal) ℓ) (g : Dev Cert.SmallFirstIdeal.nD → PrngReg)
    (m' : (ℓ : Loc Cert.SmallFirstReferenceIdeal.nD Cert.SmallFirstReferenceIdeal.τ Cert.SmallFirstReferenceIdeal.sig) → Buf (Elt Ideal) ℓ) (g' : Dev Cert.SmallFirstReferenceIdeal.nD → PrngReg), Pre_SmallFirstIdeal m →
    (∀ c : Dev Cert.SmallFirstIdeal.nD,
      m' ((c.tc : Thread Cert.SmallFirstReferenceIdeal.nD Cert.SmallFirstReferenceIdeal.τ).loc Cert.SmallFirstReferenceIdeal.main_arg0) = m ((c.tc : Thread Cert.SmallFirstIdeal.nD Cert.SmallFirstIdeal.τ).loc Cert.SmallFirstIdeal.main_arg0)
      ∧ m' ((c.tc : Thread Cert.SmallFirstReferenceIdeal.nD Cert.SmallFirstReferenceIdeal.τ).loc Cert.SmallFirstReferenceIdeal.main_arg1) = m ((c.tc : Thread Cert.SmallFirstIdeal.nD Cert.SmallFirstIdeal.τ).loc Cert.SmallFirstIdeal.main_arg1)
      ∧ m' ((c.tc : Thread Cert.SmallFirstReferenceIdeal.nD Cert.SmallFirstReferenceIdeal.τ).loc Cert.SmallFirstReferenceIdeal.main_arg2) = m ((c.tc : Thread Cert.SmallFirstIdeal.nD Cert.SmallFirstIdeal.τ).loc Cert.SmallFirstIdeal.main_arg2)
      ∧ m' ((c.tc : Thread Cert.SmallFirstReferenceIdeal.nD Cert.SmallFirstReferenceIdeal.τ).loc Cert.SmallFirstReferenceIdeal.main_arg3) = m ((c.tc : Thread Cert.SmallFirstIdeal.nD Cert.SmallFirstIdeal.τ).loc Cert.SmallFirstIdeal.main_arg3)
      ∧ m' ((c.tc : Thread Cert.SmallFirstReferenceIdeal.nD Cert.SmallFirstReferenceIdeal.τ).loc Cert.SmallFirstReferenceIdeal.main_arg4) = m ((c.tc : Thread Cert.SmallFirstIdeal.nD Cert.SmallFirstIdeal.τ).loc Cert.SmallFirstIdeal.main_arg4)
      ∧ m' ((c.tc : Thread Cert.SmallFirstReferenceIdeal.nD Cert.SmallFirstReferenceIdeal.τ).loc Cert.SmallFirstReferenceIdeal.main_arg5) = m ((c.tc : Thread Cert.SmallFirstIdeal.nD Cert.SmallFirstIdeal.τ).loc Cert.SmallFirstIdeal.main_arg5)
      ∧ m' ((c.tc : Thread Cert.SmallFirstReferenceIdeal.nD Cert.SmallFirstReferenceIdeal.τ).loc Cert.SmallFirstReferenceIdeal.main_arg6) = m ((c.tc : Thread Cert.SmallFirstIdeal.nD Cert.SmallFirstIdeal.τ).loc Cert.SmallFirstIdeal.main_arg6)
      ∧ m' ((c.tc : Thread Cert.SmallFirstReferenceIdeal.nD Cert.SmallFirstReferenceIdeal.τ).loc Cert.SmallFirstReferenceIdeal.main_arg7) = m ((c.tc : Thread Cert.SmallFirstIdeal.nD Cert.SmallFirstIdeal.τ).loc Cert.SmallFirstIdeal.main_arg7)
      ∧ m' ((c.tc : Thread Cert.SmallFirstReferenceIdeal.nD Cert.SmallFirstReferenceIdeal.τ).loc Cert.SmallFirstReferenceIdeal.main_arg8) = m ((c.tc : Thread Cert.SmallFirstIdeal.nD Cert.SmallFirstIdeal.τ).loc Cert.SmallFirstIdeal.main_arg8)
      ∧ m' ((c.tc : Thread Cert.SmallFirstReferenceIdeal.nD Cert.SmallFirstReferenceIdeal.τ).loc Cert.SmallFirstReferenceIdeal.main_arg9) = m ((c.tc : Thread Cert.SmallFirstIdeal.nD Cert.SmallFirstIdeal.τ).loc Cert.SmallFirstIdeal.main_arg9)
      ∧ m' ((c.tc : Thread Cert.SmallFirstReferenceIdeal.nD Cert.SmallFirstReferenceIdeal.τ).loc Cert.SmallFirstReferenceIdeal.main_arg10) = m ((c.tc : Thread Cert.SmallFirstIdeal.nD Cert.SmallFirstIdeal.τ).loc Cert.SmallFirstIdeal.main_arg10)
      ∧ m' ((c.tc : Thread Cert.SmallFirstReferenceIdeal.nD Cert.SmallFirstReferenceIdeal.τ).loc Cert.SmallFirstReferenceIdeal.main_arg11) = m ((c.tc : Thread Cert.SmallFirstIdeal.nD Cert.SmallFirstIdeal.τ).loc Cert.SmallFirstIdeal.main_arg11)
      ∧ m' ((c.tc : Thread Cert.SmallFirstReferenceIdeal.nD Cert.SmallFirstReferenceIdeal.τ).loc Cert.SmallFirstReferenceIdeal.main_arg12) = m ((c.tc : Thread Cert.SmallFirstIdeal.nD Cert.SmallFirstIdeal.τ).loc Cert.SmallFirstIdeal.main_arg12)
      ∧ m' ((c.tc : Thread Cert.SmallFirstReferenceIdeal.nD Cert.SmallFirstReferenceIdeal.τ).loc Cert.SmallFirstReferenceIdeal.main_arg13) = m ((c.tc : Thread Cert.SmallFirstIdeal.nD Cert.SmallFirstIdeal.τ).loc Cert.SmallFirstIdeal.main_arg13)
      ∧ m' ((c.tc : Thread Cert.SmallFirstReferenceIdeal.nD Cert.SmallFirstReferenceIdeal.τ).loc Cert.SmallFirstReferenceIdeal.main_arg14) = m ((c.tc : Thread Cert.SmallFirstIdeal.nD Cert.SmallFirstIdeal.τ).loc Cert.SmallFirstIdeal.main_arg14)
      ∧ m' ((c.tc : Thread Cert.SmallFirstReferenceIdeal.nD Cert.SmallFirstReferenceIdeal.τ).loc Cert.SmallFirstReferenceIdeal.main_arg15) = m ((c.tc : Thread Cert.SmallFirstIdeal.nD Cert.SmallFirstIdeal.τ).loc Cert.SmallFirstIdeal.main_arg15)) →
    ∃ (v0 : (c : Dev Cert.SmallFirstIdeal.nD) → Buf (Elt Ideal) ((c.tc : Thread Cert.SmallFirstIdeal.nD Cert.SmallFirstIdeal.τ).loc Cert.SmallFirstIdeal.main_v0_0)) (v1 : (c : Dev Cert.SmallFirstIdeal.nD) → Buf (Elt Ideal) ((c.tc : Thread Cert.SmallFirstIdeal.nD Cert.SmallFirstIdeal.τ).loc Cert.SmallFirstIdeal.main_v0_1)) (v2 : (c : Dev Cert.SmallFirstIdeal.nD) → Buf (Elt Ideal) ((c.tc : Thread Cert.SmallFirstIdeal.nD Cert.SmallFirstIdeal.τ).loc Cert.SmallFirstIdeal.main_v0_2)) (v3 : (c : Dev Cert.SmallFirstIdeal.nD) → Buf (Elt Ideal) ((c.tc : Thread Cert.SmallFirstIdeal.nD Cert.SmallFirstIdeal.τ).loc Cert.SmallFirstIdeal.main_v0_3)) (v4 : (c : Dev Cert.SmallFirstIdeal.nD) → Buf (Elt Ideal) ((c.tc : Thread Cert.SmallFirstIdeal.nD Cert.SmallFirstIdeal.τ).loc Cert.SmallFirstIdeal.main_v0_4)) (v5 : (c : Dev Cert.SmallFirstIdeal.nD) → Buf (Elt Ideal) ((c.tc : Thread Cert.SmallFirstIdeal.nD Cert.SmallFirstIdeal.τ).loc Cert.SmallFirstIdeal.main_v0_5)) (v6 : (c : Dev Cert.SmallFirstIdeal.nD) → Buf (Elt Ideal) ((c.tc : Thread Cert.SmallFirstIdeal.nD Cert.SmallFirstIdeal.τ).loc Cert.SmallFirstIdeal.main_v0_6)) (v7 : (c : Dev Cert.SmallFirstIdeal.nD) → Buf (Elt Ideal) ((c.tc : Thread Cert.SmallFirstIdeal.nD Cert.SmallFirstIdeal.τ).loc Cert.SmallFirstIdeal.main_v0_7)) (v8 : (c : Dev Cert.SmallFirstIdeal.nD) → Buf (Elt Ideal) ((c.tc : Thread Cert.SmallFirstIdeal.nD Cert.SmallFirstIdeal.τ).loc Cert.SmallFirstIdeal.main_v0_8)) (v9 : (c : Dev Cert.SmallFirstIdeal.nD) → Buf (Elt Ideal) ((c.tc : Thread Cert.SmallFirstIdeal.nD Cert.SmallFirstIdeal.τ).loc Cert.SmallFirstIdeal.main_v0_9)) (v10 : (c : Dev Cert.SmallFirstIdeal.nD) → Buf (Elt Ideal) ((c.tc : Thread Cert.SmallFirstIdeal.nD Cert.SmallFirstIdeal.τ).loc Cert.SmallFirstIdeal.main_v0_10)) (v11 : (c : Dev Cert.SmallFirstIdeal.nD) → Buf (Elt Ideal) ((c.tc : Thread Cert.SmallFirstIdeal.nD Cert.SmallFirstIdeal.τ).loc Cert.SmallFirstIdeal.main_v0_11)),
      θ_run (Cert.SmallFirstIdeal.defs (F := Ideal)) (onTc (τ := Cert.SmallFirstIdeal.τ) (Cert.SmallFirstIdeal.main (F := Ideal))) ⟨m, fun _ => 0, g⟩ (fun r => ∀ c : Dev Cert.SmallFirstIdeal.nD,
          r.2.mem ((c.tc : Thread Cert.SmallFirstIdeal.nD Cert.SmallFirstIdeal.τ).loc Cert.SmallFirstIdeal.main_v0_0) = v0 c
          ∧ r.2.mem ((c.tc : Thread Cert.SmallFirstIdeal.nD Cert.SmallFirstIdeal.τ).loc Cert.SmallFirstIdeal.main_v0_1) = v1 c
          ∧ r.2.mem ((c.tc : Thread Cert.SmallFirstIdeal.nD Cert.SmallFirstIdeal.τ).loc Cert.SmallFirstIdeal.main_v0_2) = v2 c
          ∧ r.2.mem ((c.tc : Thread Cert.SmallFirstIdeal.nD Cert.SmallFirstIdeal.τ).loc Cert.SmallFirstIdeal.main_v0_3) = v3 c
          ∧ r.2.mem ((c.tc : Thread Cert.SmallFirstIdeal.nD Cert.SmallFirstIdeal.τ).loc Cert.SmallFirstIdeal.main_v0_4) = v4 c
          ∧ r.2.mem ((c.tc : Thread Cert.SmallFirstIdeal.nD Cert.SmallFirstIdeal.τ).loc Cert.SmallFirstIdeal.main_v0_5) = v5 c
          ∧ r.2.mem ((c.tc : Thread Cert.SmallFirstIdeal.nD Cert.SmallFirstIdeal.τ).loc Cert.SmallFirstIdeal.main_v0_6) = v6 c
          ∧ r.2.mem ((c.tc : Thread Cert.SmallFirstIdeal.nD Cert.SmallFirstIdeal.τ).loc Cert.SmallFirstIdeal.main_v0_7) = v7 c
          ∧ r.2.mem ((c.tc : Thread Cert.SmallFirstIdeal.nD Cert.SmallFirstIdeal.τ).loc Cert.SmallFirstIdeal.main_v0_8) = v8 c
          ∧ r.2.mem ((c.tc : Thread Cert.SmallFirstIdeal.nD Cert.SmallFirstIdeal.τ).loc Cert.SmallFirstIdeal.main_v0_9) = v9 c
          ∧ r.2.mem ((c.tc : Thread Cert.SmallFirstIdeal.nD Cert.SmallFirstIdeal.τ).loc Cert.SmallFirstIdeal.main_v0_10) = v10 c
          ∧ r.2.mem ((c.tc : Thread Cert.SmallFirstIdeal.nD Cert.SmallFirstIdeal.τ).loc Cert.SmallFirstIdeal.main_v0_11) = v11 c
          ∧ r.2.mem ((c.tc : Thread Cert.SmallFirstIdeal.nD Cert.SmallFirstIdeal.τ).loc Cert.SmallFirstIdeal.main_arg0) = m ((c.tc : Thread Cert.SmallFirstIdeal.nD Cert.SmallFirstIdeal.τ).loc Cert.SmallFirstIdeal.main_arg0)
          ∧ r.2.mem ((c.tc : Thread Cert.SmallFirstIdeal.nD Cert.SmallFirstIdeal.τ).loc Cert.SmallFirstIdeal.main_arg1) = m ((c.tc : Thread Cert.SmallFirstIdeal.nD Cert.SmallFirstIdeal.τ).loc Cert.SmallFirstIdeal.main_arg1)
          ∧ r.2.mem ((c.tc : Thread Cert.SmallFirstIdeal.nD Cert.SmallFirstIdeal.τ).loc Cert.SmallFirstIdeal.main_arg2) = m ((c.tc : Thread Cert.SmallFirstIdeal.nD Cert.SmallFirstIdeal.τ).loc Cert.SmallFirstIdeal.main_arg2)
          ∧ r.2.mem ((c.tc : Thread Cert.SmallFirstIdeal.nD Cert.SmallFirstIdeal.τ).loc Cert.SmallFirstIdeal.main_arg3) = m ((c.tc : Thread Cert.SmallFirstIdeal.nD Cert.SmallFirstIdeal.τ).loc Cert.SmallFirstIdeal.main_arg3)
          ∧ r.2.mem ((c.tc : Thread Cert.SmallFirstIdeal.nD Cert.SmallFirstIdeal.τ).loc Cert.SmallFirstIdeal.main_arg4) = m ((c.tc : Thread Cert.SmallFirstIdeal.nD Cert.SmallFirstIdeal.τ).loc Cert.SmallFirstIdeal.main_arg4)
          ∧ r.2.mem ((c.tc : Thread Cert.SmallFirstIdeal.nD Cert.SmallFirstIdeal.τ).loc Cert.SmallFirstIdeal.main_arg5) = m ((c.tc : Thread Cert.SmallFirstIdeal.nD Cert.SmallFirstIdeal.τ).loc Cert.SmallFirstIdeal.main_arg5)
          ∧ r.2.mem ((c.tc : Thread Cert.SmallFirstIdeal.nD Cert.SmallFirstIdeal.τ).loc Cert.SmallFirstIdeal.main_arg6) = m ((c.tc : Thread Cert.SmallFirstIdeal.nD Cert.SmallFirstIdeal.τ).loc Cert.SmallFirstIdeal.main_arg6)
          ∧ r.2.mem ((c.tc : Thread Cert.SmallFirstIdeal.nD Cert.SmallFirstIdeal.τ).loc Cert.SmallFirstIdeal.main_arg7) = m ((c.tc : Thread Cert.SmallFirstIdeal.nD Cert.SmallFirstIdeal.τ).loc Cert.SmallFirstIdeal.main_arg7)
          ∧ r.2.mem ((c.tc : Thread Cert.SmallFirstIdeal.nD Cert.SmallFirstIdeal.τ).loc Cert.SmallFirstIdeal.main_arg8) = m ((c.tc : Thread Cert.SmallFirstIdeal.nD Cert.SmallFirstIdeal.τ).loc Cert.SmallFirstIdeal.main_arg8)
          ∧ r.2.mem ((c.tc : Thread Cert.SmallFirstIdeal.nD Cert.SmallFirstIdeal.τ).loc Cert.SmallFirstIdeal.main_arg9) = m ((c.tc : Thread Cert.SmallFirstIdeal.nD Cert.SmallFirstIdeal.τ).loc Cert.SmallFirstIdeal.main_arg9)
          ∧ r.2.mem ((c.tc : Thread Cert.SmallFirstIdeal.nD Cert.SmallFirstIdeal.τ).loc Cert.SmallFirstIdeal.main_arg10) = m ((c.tc : Thread Cert.SmallFirstIdeal.nD Cert.SmallFirstIdeal.τ).loc Cert.SmallFirstIdeal.main_arg10)
          ∧ r.2.mem ((c.tc : Thread Cert.SmallFirstIdeal.nD Cert.SmallFirstIdeal.τ).loc Cert.SmallFirstIdeal.main_arg11) = m ((c.tc : Thread Cert.SmallFirstIdeal.nD Cert.SmallFirstIdeal.τ).loc Cert.SmallFirstIdeal.main_arg11)
          ∧ r.2.mem ((c.tc : Thread Cert.SmallFirstIdeal.nD Cert.SmallFirstIdeal.τ).loc Cert.SmallFirstIdeal.main_arg12) = m ((c.tc : Thread Cert.SmallFirstIdeal.nD Cert.SmallFirstIdeal.τ).loc Cert.SmallFirstIdeal.main_arg12)
          ∧ r.2.mem ((c.tc : Thread Cert.SmallFirstIdeal.nD Cert.SmallFirstIdeal.τ).loc Cert.SmallFirstIdeal.main_arg13) = m ((c.tc : Thread Cert.SmallFirstIdeal.nD Cert.SmallFirstIdeal.τ).loc Cert.SmallFirstIdeal.main_arg13)
          ∧ r.2.mem ((c.tc : Thread Cert.SmallFirstIdeal.nD Cert.SmallFirstIdeal.τ).loc Cert.SmallFirstIdeal.main_arg14) = m ((c.tc : Thread Cert.SmallFirstIdeal.nD Cert.SmallFirstIdeal.τ).loc Cert.SmallFirstIdeal.main_arg14)
          ∧ r.2.mem ((c.tc : Thread Cert.SmallFirstIdeal.nD Cert.SmallFirstIdeal.τ).loc Cert.SmallFirstIdeal.main_arg15) = m ((c.tc : Thread Cert.SmallFirstIdeal.nD Cert.SmallFirstIdeal.τ).loc Cert.SmallFirstIdeal.main_arg15))
      ∧ θ_run (Cert.SmallFirstReferenceIdeal.defs (F := Ideal)) (onTc (τ := Cert.SmallFirstReferenceIdeal.τ) (Cert.SmallFirstReferenceIdeal.main (F := Ideal))) ⟨m', fun _ => 0, g'⟩ (fun r => ∀ c : Dev Cert.SmallFirstReferenceIdeal.nD,
          r.2.mem ((c.tc : Thread Cert.SmallFirstReferenceIdeal.nD Cert.SmallFirstReferenceIdeal.τ).loc Cert.SmallFirstReferenceIdeal.main_v23) = v0 c
          ∧ r.2.mem ((c.tc : Thread Cert.SmallFirstReferenceIdeal.nD Cert.SmallFirstReferenceIdeal.τ).loc Cert.SmallFirstReferenceIdeal.main_v47) = v1 c
          ∧ r.2.mem ((c.tc : Thread Cert.SmallFirstReferenceIdeal.nD Cert.SmallFirstReferenceIdeal.τ).loc Cert.SmallFirstReferenceIdeal.main_v71) = v2 c
          ∧ r.2.mem ((c.tc : Thread Cert.SmallFirstReferenceIdeal.nD Cert.SmallFirstReferenceIdeal.τ).loc Cert.SmallFirstReferenceIdeal.main_v95) = v3 c
          ∧ r.2.mem ((c.tc : Thread Cert.SmallFirstReferenceIdeal.nD Cert.SmallFirstReferenceIdeal.τ).loc Cert.SmallFirstReferenceIdeal.main_v4) = v4 c
          ∧ r.2.mem ((c.tc : Thread Cert.SmallFirstReferenceIdeal.nD Cert.SmallFirstReferenceIdeal.τ).loc Cert.SmallFirstReferenceIdeal.main_v28) = v5 c
          ∧ r.2.mem ((c.tc : Thread Cert.SmallFirstReferenceIdeal.nD Cert.SmallFirstReferenceIdeal.τ).loc Cert.SmallFirstReferenceIdeal.main_v52) = v6 c
          ∧ r.2.mem ((c.tc : Thread Cert.SmallFirstReferenceIdeal.nD Cert.SmallFirstReferenceIdeal.τ).loc Cert.SmallFirstReferenceIdeal.main_v76) = v7 c
          ∧ r.2.mem ((c.tc : Thread Cert.SmallFirstReferenceIdeal.nD Cert.SmallFirstReferenceIdeal.τ).loc Cert.SmallFirstReferenceIdeal.main_v10) = v8 c
          ∧ r.2.mem ((c.tc : Thread Cert.SmallFirstReferenceIdeal.nD Cert.SmallFirstReferenceIdeal.τ).loc Cert.SmallFirstReferenceIdeal.main_v34) = v9 c
          ∧ r.2.mem ((c.tc : Thread Cert.SmallFirstReferenceIdeal.nD Cert.SmallFirstReferenceIdeal.τ).loc Cert.SmallFirstReferenceIdeal.main_v58) = v10 c
          ∧ r.2.mem ((c.tc : Thread Cert.SmallFirstReferenceIdeal.nD Cert.SmallFirstReferenceIdeal.τ).loc Cert.SmallFirstReferenceIdeal.main_v82) = v11 c
          ∧ r.2.mem ((c.tc : Thread Cert.SmallFirstReferenceIdeal.nD Cert.SmallFirstReferenceIdeal.τ).loc Cert.SmallFirstReferenceIdeal.main_arg0) = m' ((c.tc : Thread Cert.SmallFirstReferenceIdeal.nD Cert.SmallFirstReferenceIdeal.τ).loc Cert.SmallFirstReferenceIdeal.main_arg0)
          ∧ r.2.mem ((c.tc : Thread Cert.SmallFirstReferenceIdeal.nD Cert.SmallFirstReferenceIdeal.τ).loc Cert.SmallFirstReferenceIdeal.main_arg1) = m' ((c.tc : Thread Cert.SmallFirstReferenceIdeal.nD Cert.SmallFirstReferenceIdeal.τ).loc Cert.SmallFirstReferenceIdeal.main_arg1)
          ∧ r.2.mem ((c.tc : Thread Cert.SmallFirstReferenceIdeal.nD Cert.SmallFirstReferenceIdeal.τ).loc Cert.SmallFirstReferenceIdeal.main_arg2) = m' ((c.tc : Thread Cert.SmallFirstReferenceIdeal.nD Cert.SmallFirstReferenceIdeal.τ).loc Cert.SmallFirstReferenceIdeal.main_arg2)
          ∧ r.2.mem ((c.tc : Thread Cert.SmallFirstReferenceIdeal.nD Cert.SmallFirstReferenceIdeal.τ).loc Cert.SmallFirstReferenceIdeal.main_arg3) = m' ((c.tc : Thread Cert.SmallFirstReferenceIdeal.nD Cert.SmallFirstReferenceIdeal.τ).loc Cert.SmallFirstReferenceIdeal.main_arg3)
          ∧ r.2.mem ((c.tc : Thread Cert.SmallFirstReferenceIdeal.nD Cert.SmallFirstReferenceIdeal.τ).loc Cert.SmallFirstReferenceIdeal.main_arg4) = m' ((c.tc : Thread Cert.SmallFirstReferenceIdeal.nD Cert.SmallFirstReferenceIdeal.τ).loc Cert.SmallFirstReferenceIdeal.main_arg4)
          ∧ r.2.mem ((c.tc : Thread Cert.SmallFirstReferenceIdeal.nD Cert.SmallFirstReferenceIdeal.τ).loc Cert.SmallFirstReferenceIdeal.main_arg5) = m' ((c.tc : Thread Cert.SmallFirstReferenceIdeal.nD Cert.SmallFirstReferenceIdeal.τ).loc Cert.SmallFirstReferenceIdeal.main_arg5)
          ∧ r.2.mem ((c.tc : Thread Cert.SmallFirstReferenceIdeal.nD Cert.SmallFirstReferenceIdeal.τ).loc Cert.SmallFirstReferenceIdeal.main_arg6) = m' ((c.tc : Thread Cert.SmallFirstReferenceIdeal.nD Cert.SmallFirstReferenceIdeal.τ).loc Cert.SmallFirstReferenceIdeal.main_arg6)
          ∧ r.2.mem ((c.tc : Thread Cert.SmallFirstReferenceIdeal.nD Cert.SmallFirstReferenceIdeal.τ).loc Cert.SmallFirstReferenceIdeal.main_arg7) = m' ((c.tc : Thread Cert.SmallFirstReferenceIdeal.nD Cert.SmallFirstReferenceIdeal.τ).loc Cert.SmallFirstReferenceIdeal.main_arg7)
          ∧ r.2.mem ((c.tc : Thread Cert.SmallFirstReferenceIdeal.nD Cert.SmallFirstReferenceIdeal.τ).loc Cert.SmallFirstReferenceIdeal.main_arg8) = m' ((c.tc : Thread Cert.SmallFirstReferenceIdeal.nD Cert.SmallFirstReferenceIdeal.τ).loc Cert.SmallFirstReferenceIdeal.main_arg8)
          ∧ r.2.mem ((c.tc : Thread Cert.SmallFirstReferenceIdeal.nD Cert.SmallFirstReferenceIdeal.τ).loc Cert.SmallFirstReferenceIdeal.main_arg9) = m' ((c.tc : Thread Cert.SmallFirstReferenceIdeal.nD Cert.SmallFirstReferenceIdeal.τ).loc Cert.SmallFirstReferenceIdeal.main_arg9)
          ∧ r.2.mem ((c.tc : Thread Cert.SmallFirstReferenceIdeal.nD Cert.SmallFirstReferenceIdeal.τ).loc Cert.SmallFirstReferenceIdeal.main_arg10) = m' ((c.tc : Thread Cert.SmallFirstReferenceIdeal.nD Cert.SmallFirstReferenceIdeal.τ).loc Cert.SmallFirstReferenceIdeal.main_arg10)
          ∧ r.2.mem ((c.tc : Thread Cert.SmallFirstReferenceIdeal.nD Cert.SmallFirstReferenceIdeal.τ).loc Cert.SmallFirstReferenceIdeal.main_arg11) = m' ((c.tc : Thread Cert.SmallFirstReferenceIdeal.nD Cert.SmallFirstReferenceIdeal.τ).loc Cert.SmallFirstReferenceIdeal.main_arg11)
          ∧ r.2.mem ((c.tc : Thread Cert.SmallFirstReferenceIdeal.nD Cert.SmallFirstReferenceIdeal.τ).loc Cert.SmallFirstReferenceIdeal.main_arg12) = m' ((c.tc : Thread Cert.SmallFirstReferenceIdeal.nD Cert.SmallFirstReferenceIdeal.τ).loc Cert.SmallFirstReferenceIdeal.main_arg12)
          ∧ r.2.mem ((c.tc : Thread Cert.SmallFirstReferenceIdeal.nD Cert.SmallFirstReferenceIdeal.τ).loc Cert.SmallFirstReferenceIdeal.main_arg13) = m' ((c.tc : Thread Cert.SmallFirstReferenceIdeal.nD Cert.SmallFirstReferenceIdeal.τ).loc Cert.SmallFirstReferenceIdeal.main_arg13)
          ∧ r.2.mem ((c.tc : Thread Cert.SmallFirstReferenceIdeal.nD Cert.SmallFirstReferenceIdeal.τ).loc Cert.SmallFirstReferenceIdeal.main_arg14) = m' ((c.tc : Thread Cert.SmallFirstReferenceIdeal.nD Cert.SmallFirstReferenceIdeal.τ).loc Cert.SmallFirstReferenceIdeal.main_arg14)
          ∧ r.2.mem ((c.tc : Thread Cert.SmallFirstReferenceIdeal.nD Cert.SmallFirstReferenceIdeal.τ).loc Cert.SmallFirstReferenceIdeal.main_arg15) = m' ((c.tc : Thread Cert.SmallFirstReferenceIdeal.nD Cert.SmallFirstReferenceIdeal.τ).loc Cert.SmallFirstReferenceIdeal.main_arg15))

def preserves_SmallNext_SmallNextIdeal : Prop :=
  True

def algebraic_SmallNextIdeal_SmallNextReferenceIdeal [hSmallNextIdeal : Cert.SmallNextIdeal.Facts] [hSmallNextReferenceIdeal : Cert.SmallNextReferenceIdeal.Facts] : Prop :=
  ∀ (m : (ℓ : Loc Cert.SmallNextIdeal.nD Cert.SmallNextIdeal.τ Cert.SmallNextIdeal.sig) → Buf (Elt Ideal) ℓ) (g : Dev Cert.SmallNextIdeal.nD → PrngReg)
    (m' : (ℓ : Loc Cert.SmallNextReferenceIdeal.nD Cert.SmallNextReferenceIdeal.τ Cert.SmallNextReferenceIdeal.sig) → Buf (Elt Ideal) ℓ) (g' : Dev Cert.SmallNextReferenceIdeal.nD → PrngReg), Pre_SmallNextIdeal m →
    (∀ c : Dev Cert.SmallNextIdeal.nD,
      m' ((c.tc : Thread Cert.SmallNextReferenceIdeal.nD Cert.SmallNextReferenceIdeal.τ).loc Cert.SmallNextReferenceIdeal.main_arg0) = m ((c.tc : Thread Cert.SmallNextIdeal.nD Cert.SmallNextIdeal.τ).loc Cert.SmallNextIdeal.main_arg0)
      ∧ m' ((c.tc : Thread Cert.SmallNextReferenceIdeal.nD Cert.SmallNextReferenceIdeal.τ).loc Cert.SmallNextReferenceIdeal.main_arg1) = m ((c.tc : Thread Cert.SmallNextIdeal.nD Cert.SmallNextIdeal.τ).loc Cert.SmallNextIdeal.main_arg1)
      ∧ m' ((c.tc : Thread Cert.SmallNextReferenceIdeal.nD Cert.SmallNextReferenceIdeal.τ).loc Cert.SmallNextReferenceIdeal.main_arg2) = m ((c.tc : Thread Cert.SmallNextIdeal.nD Cert.SmallNextIdeal.τ).loc Cert.SmallNextIdeal.main_arg2)
      ∧ m' ((c.tc : Thread Cert.SmallNextReferenceIdeal.nD Cert.SmallNextReferenceIdeal.τ).loc Cert.SmallNextReferenceIdeal.main_arg3) = m ((c.tc : Thread Cert.SmallNextIdeal.nD Cert.SmallNextIdeal.τ).loc Cert.SmallNextIdeal.main_arg3)
      ∧ m' ((c.tc : Thread Cert.SmallNextReferenceIdeal.nD Cert.SmallNextReferenceIdeal.τ).loc Cert.SmallNextReferenceIdeal.main_arg4) = m ((c.tc : Thread Cert.SmallNextIdeal.nD Cert.SmallNextIdeal.τ).loc Cert.SmallNextIdeal.main_arg4)
      ∧ m' ((c.tc : Thread Cert.SmallNextReferenceIdeal.nD Cert.SmallNextReferenceIdeal.τ).loc Cert.SmallNextReferenceIdeal.main_arg5) = m ((c.tc : Thread Cert.SmallNextIdeal.nD Cert.SmallNextIdeal.τ).loc Cert.SmallNextIdeal.main_arg5)
      ∧ m' ((c.tc : Thread Cert.SmallNextReferenceIdeal.nD Cert.SmallNextReferenceIdeal.τ).loc Cert.SmallNextReferenceIdeal.main_arg6) = m ((c.tc : Thread Cert.SmallNextIdeal.nD Cert.SmallNextIdeal.τ).loc Cert.SmallNextIdeal.main_arg6)
      ∧ m' ((c.tc : Thread Cert.SmallNextReferenceIdeal.nD Cert.SmallNextReferenceIdeal.τ).loc Cert.SmallNextReferenceIdeal.main_arg7) = m ((c.tc : Thread Cert.SmallNextIdeal.nD Cert.SmallNextIdeal.τ).loc Cert.SmallNextIdeal.main_arg7)
      ∧ m' ((c.tc : Thread Cert.SmallNextReferenceIdeal.nD Cert.SmallNextReferenceIdeal.τ).loc Cert.SmallNextReferenceIdeal.main_arg8) = m ((c.tc : Thread Cert.SmallNextIdeal.nD Cert.SmallNextIdeal.τ).loc Cert.SmallNextIdeal.main_arg8)
      ∧ m' ((c.tc : Thread Cert.SmallNextReferenceIdeal.nD Cert.SmallNextReferenceIdeal.τ).loc Cert.SmallNextReferenceIdeal.main_arg9) = m ((c.tc : Thread Cert.SmallNextIdeal.nD Cert.SmallNextIdeal.τ).loc Cert.SmallNextIdeal.main_arg9)
      ∧ m' ((c.tc : Thread Cert.SmallNextReferenceIdeal.nD Cert.SmallNextReferenceIdeal.τ).loc Cert.SmallNextReferenceIdeal.main_arg10) = m ((c.tc : Thread Cert.SmallNextIdeal.nD Cert.SmallNextIdeal.τ).loc Cert.SmallNextIdeal.main_arg10)
      ∧ m' ((c.tc : Thread Cert.SmallNextReferenceIdeal.nD Cert.SmallNextReferenceIdeal.τ).loc Cert.SmallNextReferenceIdeal.main_arg11) = m ((c.tc : Thread Cert.SmallNextIdeal.nD Cert.SmallNextIdeal.τ).loc Cert.SmallNextIdeal.main_arg11)
      ∧ m' ((c.tc : Thread Cert.SmallNextReferenceIdeal.nD Cert.SmallNextReferenceIdeal.τ).loc Cert.SmallNextReferenceIdeal.main_arg12) = m ((c.tc : Thread Cert.SmallNextIdeal.nD Cert.SmallNextIdeal.τ).loc Cert.SmallNextIdeal.main_arg12)
      ∧ m' ((c.tc : Thread Cert.SmallNextReferenceIdeal.nD Cert.SmallNextReferenceIdeal.τ).loc Cert.SmallNextReferenceIdeal.main_arg13) = m ((c.tc : Thread Cert.SmallNextIdeal.nD Cert.SmallNextIdeal.τ).loc Cert.SmallNextIdeal.main_arg13)
      ∧ m' ((c.tc : Thread Cert.SmallNextReferenceIdeal.nD Cert.SmallNextReferenceIdeal.τ).loc Cert.SmallNextReferenceIdeal.main_arg14) = m ((c.tc : Thread Cert.SmallNextIdeal.nD Cert.SmallNextIdeal.τ).loc Cert.SmallNextIdeal.main_arg14)
      ∧ m' ((c.tc : Thread Cert.SmallNextReferenceIdeal.nD Cert.SmallNextReferenceIdeal.τ).loc Cert.SmallNextReferenceIdeal.main_arg15) = m ((c.tc : Thread Cert.SmallNextIdeal.nD Cert.SmallNextIdeal.τ).loc Cert.SmallNextIdeal.main_arg15)) →
    ∃ (v0 : (c : Dev Cert.SmallNextIdeal.nD) → Buf (Elt Ideal) ((c.tc : Thread Cert.SmallNextIdeal.nD Cert.SmallNextIdeal.τ).loc Cert.SmallNextIdeal.main_v0_0)) (v1 : (c : Dev Cert.SmallNextIdeal.nD) → Buf (Elt Ideal) ((c.tc : Thread Cert.SmallNextIdeal.nD Cert.SmallNextIdeal.τ).loc Cert.SmallNextIdeal.main_v0_1)) (v2 : (c : Dev Cert.SmallNextIdeal.nD) → Buf (Elt Ideal) ((c.tc : Thread Cert.SmallNextIdeal.nD Cert.SmallNextIdeal.τ).loc Cert.SmallNextIdeal.main_v0_2)) (v3 : (c : Dev Cert.SmallNextIdeal.nD) → Buf (Elt Ideal) ((c.tc : Thread Cert.SmallNextIdeal.nD Cert.SmallNextIdeal.τ).loc Cert.SmallNextIdeal.main_v0_3)) (v4 : (c : Dev Cert.SmallNextIdeal.nD) → Buf (Elt Ideal) ((c.tc : Thread Cert.SmallNextIdeal.nD Cert.SmallNextIdeal.τ).loc Cert.SmallNextIdeal.main_v0_4)) (v5 : (c : Dev Cert.SmallNextIdeal.nD) → Buf (Elt Ideal) ((c.tc : Thread Cert.SmallNextIdeal.nD Cert.SmallNextIdeal.τ).loc Cert.SmallNextIdeal.main_v0_5)) (v6 : (c : Dev Cert.SmallNextIdeal.nD) → Buf (Elt Ideal) ((c.tc : Thread Cert.SmallNextIdeal.nD Cert.SmallNextIdeal.τ).loc Cert.SmallNextIdeal.main_v0_6)) (v7 : (c : Dev Cert.SmallNextIdeal.nD) → Buf (Elt Ideal) ((c.tc : Thread Cert.SmallNextIdeal.nD Cert.SmallNextIdeal.τ).loc Cert.SmallNextIdeal.main_v0_7)) (v8 : (c : Dev Cert.SmallNextIdeal.nD) → Buf (Elt Ideal) ((c.tc : Thread Cert.SmallNextIdeal.nD Cert.SmallNextIdeal.τ).loc Cert.SmallNextIdeal.main_v0_8)) (v9 : (c : Dev Cert.SmallNextIdeal.nD) → Buf (Elt Ideal) ((c.tc : Thread Cert.SmallNextIdeal.nD Cert.SmallNextIdeal.τ).loc Cert.SmallNextIdeal.main_v0_9)) (v10 : (c : Dev Cert.SmallNextIdeal.nD) → Buf (Elt Ideal) ((c.tc : Thread Cert.SmallNextIdeal.nD Cert.SmallNextIdeal.τ).loc Cert.SmallNextIdeal.main_v0_10)) (v11 : (c : Dev Cert.SmallNextIdeal.nD) → Buf (Elt Ideal) ((c.tc : Thread Cert.SmallNextIdeal.nD Cert.SmallNextIdeal.τ).loc Cert.SmallNextIdeal.main_v0_11)),
      θ_run (Cert.SmallNextIdeal.defs (F := Ideal)) (onTc (τ := Cert.SmallNextIdeal.τ) (Cert.SmallNextIdeal.main (F := Ideal))) ⟨m, fun _ => 0, g⟩ (fun r => ∀ c : Dev Cert.SmallNextIdeal.nD,
          r.2.mem ((c.tc : Thread Cert.SmallNextIdeal.nD Cert.SmallNextIdeal.τ).loc Cert.SmallNextIdeal.main_v0_0) = v0 c
          ∧ r.2.mem ((c.tc : Thread Cert.SmallNextIdeal.nD Cert.SmallNextIdeal.τ).loc Cert.SmallNextIdeal.main_v0_1) = v1 c
          ∧ r.2.mem ((c.tc : Thread Cert.SmallNextIdeal.nD Cert.SmallNextIdeal.τ).loc Cert.SmallNextIdeal.main_v0_2) = v2 c
          ∧ r.2.mem ((c.tc : Thread Cert.SmallNextIdeal.nD Cert.SmallNextIdeal.τ).loc Cert.SmallNextIdeal.main_v0_3) = v3 c
          ∧ r.2.mem ((c.tc : Thread Cert.SmallNextIdeal.nD Cert.SmallNextIdeal.τ).loc Cert.SmallNextIdeal.main_v0_4) = v4 c
          ∧ r.2.mem ((c.tc : Thread Cert.SmallNextIdeal.nD Cert.SmallNextIdeal.τ).loc Cert.SmallNextIdeal.main_v0_5) = v5 c
          ∧ r.2.mem ((c.tc : Thread Cert.SmallNextIdeal.nD Cert.SmallNextIdeal.τ).loc Cert.SmallNextIdeal.main_v0_6) = v6 c
          ∧ r.2.mem ((c.tc : Thread Cert.SmallNextIdeal.nD Cert.SmallNextIdeal.τ).loc Cert.SmallNextIdeal.main_v0_7) = v7 c
          ∧ r.2.mem ((c.tc : Thread Cert.SmallNextIdeal.nD Cert.SmallNextIdeal.τ).loc Cert.SmallNextIdeal.main_v0_8) = v8 c
          ∧ r.2.mem ((c.tc : Thread Cert.SmallNextIdeal.nD Cert.SmallNextIdeal.τ).loc Cert.SmallNextIdeal.main_v0_9) = v9 c
          ∧ r.2.mem ((c.tc : Thread Cert.SmallNextIdeal.nD Cert.SmallNextIdeal.τ).loc Cert.SmallNextIdeal.main_v0_10) = v10 c
          ∧ r.2.mem ((c.tc : Thread Cert.SmallNextIdeal.nD Cert.SmallNextIdeal.τ).loc Cert.SmallNextIdeal.main_v0_11) = v11 c
          ∧ r.2.mem ((c.tc : Thread Cert.SmallNextIdeal.nD Cert.SmallNextIdeal.τ).loc Cert.SmallNextIdeal.main_arg0) = m ((c.tc : Thread Cert.SmallNextIdeal.nD Cert.SmallNextIdeal.τ).loc Cert.SmallNextIdeal.main_arg0)
          ∧ r.2.mem ((c.tc : Thread Cert.SmallNextIdeal.nD Cert.SmallNextIdeal.τ).loc Cert.SmallNextIdeal.main_arg1) = m ((c.tc : Thread Cert.SmallNextIdeal.nD Cert.SmallNextIdeal.τ).loc Cert.SmallNextIdeal.main_arg1)
          ∧ r.2.mem ((c.tc : Thread Cert.SmallNextIdeal.nD Cert.SmallNextIdeal.τ).loc Cert.SmallNextIdeal.main_arg2) = m ((c.tc : Thread Cert.SmallNextIdeal.nD Cert.SmallNextIdeal.τ).loc Cert.SmallNextIdeal.main_arg2)
          ∧ r.2.mem ((c.tc : Thread Cert.SmallNextIdeal.nD Cert.SmallNextIdeal.τ).loc Cert.SmallNextIdeal.main_arg3) = m ((c.tc : Thread Cert.SmallNextIdeal.nD Cert.SmallNextIdeal.τ).loc Cert.SmallNextIdeal.main_arg3)
          ∧ r.2.mem ((c.tc : Thread Cert.SmallNextIdeal.nD Cert.SmallNextIdeal.τ).loc Cert.SmallNextIdeal.main_arg4) = m ((c.tc : Thread Cert.SmallNextIdeal.nD Cert.SmallNextIdeal.τ).loc Cert.SmallNextIdeal.main_arg4)
          ∧ r.2.mem ((c.tc : Thread Cert.SmallNextIdeal.nD Cert.SmallNextIdeal.τ).loc Cert.SmallNextIdeal.main_arg5) = m ((c.tc : Thread Cert.SmallNextIdeal.nD Cert.SmallNextIdeal.τ).loc Cert.SmallNextIdeal.main_arg5)
          ∧ r.2.mem ((c.tc : Thread Cert.SmallNextIdeal.nD Cert.SmallNextIdeal.τ).loc Cert.SmallNextIdeal.main_arg6) = m ((c.tc : Thread Cert.SmallNextIdeal.nD Cert.SmallNextIdeal.τ).loc Cert.SmallNextIdeal.main_arg6)
          ∧ r.2.mem ((c.tc : Thread Cert.SmallNextIdeal.nD Cert.SmallNextIdeal.τ).loc Cert.SmallNextIdeal.main_arg7) = m ((c.tc : Thread Cert.SmallNextIdeal.nD Cert.SmallNextIdeal.τ).loc Cert.SmallNextIdeal.main_arg7)
          ∧ r.2.mem ((c.tc : Thread Cert.SmallNextIdeal.nD Cert.SmallNextIdeal.τ).loc Cert.SmallNextIdeal.main_arg8) = m ((c.tc : Thread Cert.SmallNextIdeal.nD Cert.SmallNextIdeal.τ).loc Cert.SmallNextIdeal.main_arg8)
          ∧ r.2.mem ((c.tc : Thread Cert.SmallNextIdeal.nD Cert.SmallNextIdeal.τ).loc Cert.SmallNextIdeal.main_arg9) = m ((c.tc : Thread Cert.SmallNextIdeal.nD Cert.SmallNextIdeal.τ).loc Cert.SmallNextIdeal.main_arg9)
          ∧ r.2.mem ((c.tc : Thread Cert.SmallNextIdeal.nD Cert.SmallNextIdeal.τ).loc Cert.SmallNextIdeal.main_arg10) = m ((c.tc : Thread Cert.SmallNextIdeal.nD Cert.SmallNextIdeal.τ).loc Cert.SmallNextIdeal.main_arg10)
          ∧ r.2.mem ((c.tc : Thread Cert.SmallNextIdeal.nD Cert.SmallNextIdeal.τ).loc Cert.SmallNextIdeal.main_arg11) = m ((c.tc : Thread Cert.SmallNextIdeal.nD Cert.SmallNextIdeal.τ).loc Cert.SmallNextIdeal.main_arg11)
          ∧ r.2.mem ((c.tc : Thread Cert.SmallNextIdeal.nD Cert.SmallNextIdeal.τ).loc Cert.SmallNextIdeal.main_arg12) = m ((c.tc : Thread Cert.SmallNextIdeal.nD Cert.SmallNextIdeal.τ).loc Cert.SmallNextIdeal.main_arg12)
          ∧ r.2.mem ((c.tc : Thread Cert.SmallNextIdeal.nD Cert.SmallNextIdeal.τ).loc Cert.SmallNextIdeal.main_arg13) = m ((c.tc : Thread Cert.SmallNextIdeal.nD Cert.SmallNextIdeal.τ).loc Cert.SmallNextIdeal.main_arg13)
          ∧ r.2.mem ((c.tc : Thread Cert.SmallNextIdeal.nD Cert.SmallNextIdeal.τ).loc Cert.SmallNextIdeal.main_arg14) = m ((c.tc : Thread Cert.SmallNextIdeal.nD Cert.SmallNextIdeal.τ).loc Cert.SmallNextIdeal.main_arg14)
          ∧ r.2.mem ((c.tc : Thread Cert.SmallNextIdeal.nD Cert.SmallNextIdeal.τ).loc Cert.SmallNextIdeal.main_arg15) = m ((c.tc : Thread Cert.SmallNextIdeal.nD Cert.SmallNextIdeal.τ).loc Cert.SmallNextIdeal.main_arg15))
      ∧ θ_run (Cert.SmallNextReferenceIdeal.defs (F := Ideal)) (onTc (τ := Cert.SmallNextReferenceIdeal.τ) (Cert.SmallNextReferenceIdeal.main (F := Ideal))) ⟨m', fun _ => 0, g'⟩ (fun r => ∀ c : Dev Cert.SmallNextReferenceIdeal.nD,
          r.2.mem ((c.tc : Thread Cert.SmallNextReferenceIdeal.nD Cert.SmallNextReferenceIdeal.τ).loc Cert.SmallNextReferenceIdeal.main_v23) = v0 c
          ∧ r.2.mem ((c.tc : Thread Cert.SmallNextReferenceIdeal.nD Cert.SmallNextReferenceIdeal.τ).loc Cert.SmallNextReferenceIdeal.main_v47) = v1 c
          ∧ r.2.mem ((c.tc : Thread Cert.SmallNextReferenceIdeal.nD Cert.SmallNextReferenceIdeal.τ).loc Cert.SmallNextReferenceIdeal.main_v71) = v2 c
          ∧ r.2.mem ((c.tc : Thread Cert.SmallNextReferenceIdeal.nD Cert.SmallNextReferenceIdeal.τ).loc Cert.SmallNextReferenceIdeal.main_v95) = v3 c
          ∧ r.2.mem ((c.tc : Thread Cert.SmallNextReferenceIdeal.nD Cert.SmallNextReferenceIdeal.τ).loc Cert.SmallNextReferenceIdeal.main_v4) = v4 c
          ∧ r.2.mem ((c.tc : Thread Cert.SmallNextReferenceIdeal.nD Cert.SmallNextReferenceIdeal.τ).loc Cert.SmallNextReferenceIdeal.main_v28) = v5 c
          ∧ r.2.mem ((c.tc : Thread Cert.SmallNextReferenceIdeal.nD Cert.SmallNextReferenceIdeal.τ).loc Cert.SmallNextReferenceIdeal.main_v52) = v6 c
          ∧ r.2.mem ((c.tc : Thread Cert.SmallNextReferenceIdeal.nD Cert.SmallNextReferenceIdeal.τ).loc Cert.SmallNextReferenceIdeal.main_v76) = v7 c
          ∧ r.2.mem ((c.tc : Thread Cert.SmallNextReferenceIdeal.nD Cert.SmallNextReferenceIdeal.τ).loc Cert.SmallNextReferenceIdeal.main_v10) = v8 c
          ∧ r.2.mem ((c.tc : Thread Cert.SmallNextReferenceIdeal.nD Cert.SmallNextReferenceIdeal.τ).loc Cert.SmallNextReferenceIdeal.main_v34) = v9 c
          ∧ r.2.mem ((c.tc : Thread Cert.SmallNextReferenceIdeal.nD Cert.SmallNextReferenceIdeal.τ).loc Cert.SmallNextReferenceIdeal.main_v58) = v10 c
          ∧ r.2.mem ((c.tc : Thread Cert.SmallNextReferenceIdeal.nD Cert.SmallNextReferenceIdeal.τ).loc Cert.SmallNextReferenceIdeal.main_v82) = v11 c
          ∧ r.2.mem ((c.tc : Thread Cert.SmallNextReferenceIdeal.nD Cert.SmallNextReferenceIdeal.τ).loc Cert.SmallNextReferenceIdeal.main_arg0) = m' ((c.tc : Thread Cert.SmallNextReferenceIdeal.nD Cert.SmallNextReferenceIdeal.τ).loc Cert.SmallNextReferenceIdeal.main_arg0)
          ∧ r.2.mem ((c.tc : Thread Cert.SmallNextReferenceIdeal.nD Cert.SmallNextReferenceIdeal.τ).loc Cert.SmallNextReferenceIdeal.main_arg1) = m' ((c.tc : Thread Cert.SmallNextReferenceIdeal.nD Cert.SmallNextReferenceIdeal.τ).loc Cert.SmallNextReferenceIdeal.main_arg1)
          ∧ r.2.mem ((c.tc : Thread Cert.SmallNextReferenceIdeal.nD Cert.SmallNextReferenceIdeal.τ).loc Cert.SmallNextReferenceIdeal.main_arg2) = m' ((c.tc : Thread Cert.SmallNextReferenceIdeal.nD Cert.SmallNextReferenceIdeal.τ).loc Cert.SmallNextReferenceIdeal.main_arg2)
          ∧ r.2.mem ((c.tc : Thread Cert.SmallNextReferenceIdeal.nD Cert.SmallNextReferenceIdeal.τ).loc Cert.SmallNextReferenceIdeal.main_arg3) = m' ((c.tc : Thread Cert.SmallNextReferenceIdeal.nD Cert.SmallNextReferenceIdeal.τ).loc Cert.SmallNextReferenceIdeal.main_arg3)
          ∧ r.2.mem ((c.tc : Thread Cert.SmallNextReferenceIdeal.nD Cert.SmallNextReferenceIdeal.τ).loc Cert.SmallNextReferenceIdeal.main_arg4) = m' ((c.tc : Thread Cert.SmallNextReferenceIdeal.nD Cert.SmallNextReferenceIdeal.τ).loc Cert.SmallNextReferenceIdeal.main_arg4)
          ∧ r.2.mem ((c.tc : Thread Cert.SmallNextReferenceIdeal.nD Cert.SmallNextReferenceIdeal.τ).loc Cert.SmallNextReferenceIdeal.main_arg5) = m' ((c.tc : Thread Cert.SmallNextReferenceIdeal.nD Cert.SmallNextReferenceIdeal.τ).loc Cert.SmallNextReferenceIdeal.main_arg5)
          ∧ r.2.mem ((c.tc : Thread Cert.SmallNextReferenceIdeal.nD Cert.SmallNextReferenceIdeal.τ).loc Cert.SmallNextReferenceIdeal.main_arg6) = m' ((c.tc : Thread Cert.SmallNextReferenceIdeal.nD Cert.SmallNextReferenceIdeal.τ).loc Cert.SmallNextReferenceIdeal.main_arg6)
          ∧ r.2.mem ((c.tc : Thread Cert.SmallNextReferenceIdeal.nD Cert.SmallNextReferenceIdeal.τ).loc Cert.SmallNextReferenceIdeal.main_arg7) = m' ((c.tc : Thread Cert.SmallNextReferenceIdeal.nD Cert.SmallNextReferenceIdeal.τ).loc Cert.SmallNextReferenceIdeal.main_arg7)
          ∧ r.2.mem ((c.tc : Thread Cert.SmallNextReferenceIdeal.nD Cert.SmallNextReferenceIdeal.τ).loc Cert.SmallNextReferenceIdeal.main_arg8) = m' ((c.tc : Thread Cert.SmallNextReferenceIdeal.nD Cert.SmallNextReferenceIdeal.τ).loc Cert.SmallNextReferenceIdeal.main_arg8)
          ∧ r.2.mem ((c.tc : Thread Cert.SmallNextReferenceIdeal.nD Cert.SmallNextReferenceIdeal.τ).loc Cert.SmallNextReferenceIdeal.main_arg9) = m' ((c.tc : Thread Cert.SmallNextReferenceIdeal.nD Cert.SmallNextReferenceIdeal.τ).loc Cert.SmallNextReferenceIdeal.main_arg9)
          ∧ r.2.mem ((c.tc : Thread Cert.SmallNextReferenceIdeal.nD Cert.SmallNextReferenceIdeal.τ).loc Cert.SmallNextReferenceIdeal.main_arg10) = m' ((c.tc : Thread Cert.SmallNextReferenceIdeal.nD Cert.SmallNextReferenceIdeal.τ).loc Cert.SmallNextReferenceIdeal.main_arg10)
          ∧ r.2.mem ((c.tc : Thread Cert.SmallNextReferenceIdeal.nD Cert.SmallNextReferenceIdeal.τ).loc Cert.SmallNextReferenceIdeal.main_arg11) = m' ((c.tc : Thread Cert.SmallNextReferenceIdeal.nD Cert.SmallNextReferenceIdeal.τ).loc Cert.SmallNextReferenceIdeal.main_arg11)
          ∧ r.2.mem ((c.tc : Thread Cert.SmallNextReferenceIdeal.nD Cert.SmallNextReferenceIdeal.τ).loc Cert.SmallNextReferenceIdeal.main_arg12) = m' ((c.tc : Thread Cert.SmallNextReferenceIdeal.nD Cert.SmallNextReferenceIdeal.τ).loc Cert.SmallNextReferenceIdeal.main_arg12)
          ∧ r.2.mem ((c.tc : Thread Cert.SmallNextReferenceIdeal.nD Cert.SmallNextReferenceIdeal.τ).loc Cert.SmallNextReferenceIdeal.main_arg13) = m' ((c.tc : Thread Cert.SmallNextReferenceIdeal.nD Cert.SmallNextReferenceIdeal.τ).loc Cert.SmallNextReferenceIdeal.main_arg13)
          ∧ r.2.mem ((c.tc : Thread Cert.SmallNextReferenceIdeal.nD Cert.SmallNextReferenceIdeal.τ).loc Cert.SmallNextReferenceIdeal.main_arg14) = m' ((c.tc : Thread Cert.SmallNextReferenceIdeal.nD Cert.SmallNextReferenceIdeal.τ).loc Cert.SmallNextReferenceIdeal.main_arg14)
          ∧ r.2.mem ((c.tc : Thread Cert.SmallNextReferenceIdeal.nD Cert.SmallNextReferenceIdeal.τ).loc Cert.SmallNextReferenceIdeal.main_arg15) = m' ((c.tc : Thread Cert.SmallNextReferenceIdeal.nD Cert.SmallNextReferenceIdeal.τ).loc Cert.SmallNextReferenceIdeal.main_arg15))

def preserves_SmallLast_SmallLastIdeal : Prop :=
  True

def algebraic_SmallLastIdeal_SmallLastReferenceIdeal [hSmallLastIdeal : Cert.SmallLastIdeal.Facts] [hSmallLastReferenceIdeal : Cert.SmallLastReferenceIdeal.Facts] : Prop :=
  ∀ (m : (ℓ : Loc Cert.SmallLastIdeal.nD Cert.SmallLastIdeal.τ Cert.SmallLastIdeal.sig) → Buf (Elt Ideal) ℓ) (g : Dev Cert.SmallLastIdeal.nD → PrngReg)
    (m' : (ℓ : Loc Cert.SmallLastReferenceIdeal.nD Cert.SmallLastReferenceIdeal.τ Cert.SmallLastReferenceIdeal.sig) → Buf (Elt Ideal) ℓ) (g' : Dev Cert.SmallLastReferenceIdeal.nD → PrngReg), Pre_SmallLastIdeal m →
    (∀ c : Dev Cert.SmallLastIdeal.nD,
      m' ((c.tc : Thread Cert.SmallLastReferenceIdeal.nD Cert.SmallLastReferenceIdeal.τ).loc Cert.SmallLastReferenceIdeal.main_arg0) = m ((c.tc : Thread Cert.SmallLastIdeal.nD Cert.SmallLastIdeal.τ).loc Cert.SmallLastIdeal.main_arg0)
      ∧ m' ((c.tc : Thread Cert.SmallLastReferenceIdeal.nD Cert.SmallLastReferenceIdeal.τ).loc Cert.SmallLastReferenceIdeal.main_arg1) = m ((c.tc : Thread Cert.SmallLastIdeal.nD Cert.SmallLastIdeal.τ).loc Cert.SmallLastIdeal.main_arg1)
      ∧ m' ((c.tc : Thread Cert.SmallLastReferenceIdeal.nD Cert.SmallLastReferenceIdeal.τ).loc Cert.SmallLastReferenceIdeal.main_arg2) = m ((c.tc : Thread Cert.SmallLastIdeal.nD Cert.SmallLastIdeal.τ).loc Cert.SmallLastIdeal.main_arg2)
      ∧ m' ((c.tc : Thread Cert.SmallLastReferenceIdeal.nD Cert.SmallLastReferenceIdeal.τ).loc Cert.SmallLastReferenceIdeal.main_arg3) = m ((c.tc : Thread Cert.SmallLastIdeal.nD Cert.SmallLastIdeal.τ).loc Cert.SmallLastIdeal.main_arg3)
      ∧ m' ((c.tc : Thread Cert.SmallLastReferenceIdeal.nD Cert.SmallLastReferenceIdeal.τ).loc Cert.SmallLastReferenceIdeal.main_arg4) = m ((c.tc : Thread Cert.SmallLastIdeal.nD Cert.SmallLastIdeal.τ).loc Cert.SmallLastIdeal.main_arg4)
      ∧ m' ((c.tc : Thread Cert.SmallLastReferenceIdeal.nD Cert.SmallLastReferenceIdeal.τ).loc Cert.SmallLastReferenceIdeal.main_arg5) = m ((c.tc : Thread Cert.SmallLastIdeal.nD Cert.SmallLastIdeal.τ).loc Cert.SmallLastIdeal.main_arg5)
      ∧ m' ((c.tc : Thread Cert.SmallLastReferenceIdeal.nD Cert.SmallLastReferenceIdeal.τ).loc Cert.SmallLastReferenceIdeal.main_arg6) = m ((c.tc : Thread Cert.SmallLastIdeal.nD Cert.SmallLastIdeal.τ).loc Cert.SmallLastIdeal.main_arg6)
      ∧ m' ((c.tc : Thread Cert.SmallLastReferenceIdeal.nD Cert.SmallLastReferenceIdeal.τ).loc Cert.SmallLastReferenceIdeal.main_arg7) = m ((c.tc : Thread Cert.SmallLastIdeal.nD Cert.SmallLastIdeal.τ).loc Cert.SmallLastIdeal.main_arg7)
      ∧ m' ((c.tc : Thread Cert.SmallLastReferenceIdeal.nD Cert.SmallLastReferenceIdeal.τ).loc Cert.SmallLastReferenceIdeal.main_arg8) = m ((c.tc : Thread Cert.SmallLastIdeal.nD Cert.SmallLastIdeal.τ).loc Cert.SmallLastIdeal.main_arg8)
      ∧ m' ((c.tc : Thread Cert.SmallLastReferenceIdeal.nD Cert.SmallLastReferenceIdeal.τ).loc Cert.SmallLastReferenceIdeal.main_arg9) = m ((c.tc : Thread Cert.SmallLastIdeal.nD Cert.SmallLastIdeal.τ).loc Cert.SmallLastIdeal.main_arg9)
      ∧ m' ((c.tc : Thread Cert.SmallLastReferenceIdeal.nD Cert.SmallLastReferenceIdeal.τ).loc Cert.SmallLastReferenceIdeal.main_arg10) = m ((c.tc : Thread Cert.SmallLastIdeal.nD Cert.SmallLastIdeal.τ).loc Cert.SmallLastIdeal.main_arg10)
      ∧ m' ((c.tc : Thread Cert.SmallLastReferenceIdeal.nD Cert.SmallLastReferenceIdeal.τ).loc Cert.SmallLastReferenceIdeal.main_arg11) = m ((c.tc : Thread Cert.SmallLastIdeal.nD Cert.SmallLastIdeal.τ).loc Cert.SmallLastIdeal.main_arg11)
      ∧ m' ((c.tc : Thread Cert.SmallLastReferenceIdeal.nD Cert.SmallLastReferenceIdeal.τ).loc Cert.SmallLastReferenceIdeal.main_arg12) = m ((c.tc : Thread Cert.SmallLastIdeal.nD Cert.SmallLastIdeal.τ).loc Cert.SmallLastIdeal.main_arg12)
      ∧ m' ((c.tc : Thread Cert.SmallLastReferenceIdeal.nD Cert.SmallLastReferenceIdeal.τ).loc Cert.SmallLastReferenceIdeal.main_arg13) = m ((c.tc : Thread Cert.SmallLastIdeal.nD Cert.SmallLastIdeal.τ).loc Cert.SmallLastIdeal.main_arg13)
      ∧ m' ((c.tc : Thread Cert.SmallLastReferenceIdeal.nD Cert.SmallLastReferenceIdeal.τ).loc Cert.SmallLastReferenceIdeal.main_arg14) = m ((c.tc : Thread Cert.SmallLastIdeal.nD Cert.SmallLastIdeal.τ).loc Cert.SmallLastIdeal.main_arg14)
      ∧ m' ((c.tc : Thread Cert.SmallLastReferenceIdeal.nD Cert.SmallLastReferenceIdeal.τ).loc Cert.SmallLastReferenceIdeal.main_arg15) = m ((c.tc : Thread Cert.SmallLastIdeal.nD Cert.SmallLastIdeal.τ).loc Cert.SmallLastIdeal.main_arg15)) →
    ∃ (v0 : (c : Dev Cert.SmallLastIdeal.nD) → Buf (Elt Ideal) ((c.tc : Thread Cert.SmallLastIdeal.nD Cert.SmallLastIdeal.τ).loc Cert.SmallLastIdeal.main_v0_0)) (v1 : (c : Dev Cert.SmallLastIdeal.nD) → Buf (Elt Ideal) ((c.tc : Thread Cert.SmallLastIdeal.nD Cert.SmallLastIdeal.τ).loc Cert.SmallLastIdeal.main_v0_1)) (v2 : (c : Dev Cert.SmallLastIdeal.nD) → Buf (Elt Ideal) ((c.tc : Thread Cert.SmallLastIdeal.nD Cert.SmallLastIdeal.τ).loc Cert.SmallLastIdeal.main_v0_2)) (v3 : (c : Dev Cert.SmallLastIdeal.nD) → Buf (Elt Ideal) ((c.tc : Thread Cert.SmallLastIdeal.nD Cert.SmallLastIdeal.τ).loc Cert.SmallLastIdeal.main_v0_3)) (v4 : (c : Dev Cert.SmallLastIdeal.nD) → Buf (Elt Ideal) ((c.tc : Thread Cert.SmallLastIdeal.nD Cert.SmallLastIdeal.τ).loc Cert.SmallLastIdeal.main_v0_4)) (v5 : (c : Dev Cert.SmallLastIdeal.nD) → Buf (Elt Ideal) ((c.tc : Thread Cert.SmallLastIdeal.nD Cert.SmallLastIdeal.τ).loc Cert.SmallLastIdeal.main_v0_5)) (v6 : (c : Dev Cert.SmallLastIdeal.nD) → Buf (Elt Ideal) ((c.tc : Thread Cert.SmallLastIdeal.nD Cert.SmallLastIdeal.τ).loc Cert.SmallLastIdeal.main_v0_6)) (v7 : (c : Dev Cert.SmallLastIdeal.nD) → Buf (Elt Ideal) ((c.tc : Thread Cert.SmallLastIdeal.nD Cert.SmallLastIdeal.τ).loc Cert.SmallLastIdeal.main_v0_7)) (v8 : (c : Dev Cert.SmallLastIdeal.nD) → Buf (Elt Ideal) ((c.tc : Thread Cert.SmallLastIdeal.nD Cert.SmallLastIdeal.τ).loc Cert.SmallLastIdeal.main_v0_8)) (v9 : (c : Dev Cert.SmallLastIdeal.nD) → Buf (Elt Ideal) ((c.tc : Thread Cert.SmallLastIdeal.nD Cert.SmallLastIdeal.τ).loc Cert.SmallLastIdeal.main_v0_9)) (v10 : (c : Dev Cert.SmallLastIdeal.nD) → Buf (Elt Ideal) ((c.tc : Thread Cert.SmallLastIdeal.nD Cert.SmallLastIdeal.τ).loc Cert.SmallLastIdeal.main_v0_10)) (v11 : (c : Dev Cert.SmallLastIdeal.nD) → Buf (Elt Ideal) ((c.tc : Thread Cert.SmallLastIdeal.nD Cert.SmallLastIdeal.τ).loc Cert.SmallLastIdeal.main_v0_11)),
      θ_run (Cert.SmallLastIdeal.defs (F := Ideal)) (onTc (τ := Cert.SmallLastIdeal.τ) (Cert.SmallLastIdeal.main (F := Ideal))) ⟨m, fun _ => 0, g⟩ (fun r => ∀ c : Dev Cert.SmallLastIdeal.nD,
          r.2.mem ((c.tc : Thread Cert.SmallLastIdeal.nD Cert.SmallLastIdeal.τ).loc Cert.SmallLastIdeal.main_v0_0) = v0 c
          ∧ r.2.mem ((c.tc : Thread Cert.SmallLastIdeal.nD Cert.SmallLastIdeal.τ).loc Cert.SmallLastIdeal.main_v0_1) = v1 c
          ∧ r.2.mem ((c.tc : Thread Cert.SmallLastIdeal.nD Cert.SmallLastIdeal.τ).loc Cert.SmallLastIdeal.main_v0_2) = v2 c
          ∧ r.2.mem ((c.tc : Thread Cert.SmallLastIdeal.nD Cert.SmallLastIdeal.τ).loc Cert.SmallLastIdeal.main_v0_3) = v3 c
          ∧ r.2.mem ((c.tc : Thread Cert.SmallLastIdeal.nD Cert.SmallLastIdeal.τ).loc Cert.SmallLastIdeal.main_v0_4) = v4 c
          ∧ r.2.mem ((c.tc : Thread Cert.SmallLastIdeal.nD Cert.SmallLastIdeal.τ).loc Cert.SmallLastIdeal.main_v0_5) = v5 c
          ∧ r.2.mem ((c.tc : Thread Cert.SmallLastIdeal.nD Cert.SmallLastIdeal.τ).loc Cert.SmallLastIdeal.main_v0_6) = v6 c
          ∧ r.2.mem ((c.tc : Thread Cert.SmallLastIdeal.nD Cert.SmallLastIdeal.τ).loc Cert.SmallLastIdeal.main_v0_7) = v7 c
          ∧ r.2.mem ((c.tc : Thread Cert.SmallLastIdeal.nD Cert.SmallLastIdeal.τ).loc Cert.SmallLastIdeal.main_v0_8) = v8 c
          ∧ r.2.mem ((c.tc : Thread Cert.SmallLastIdeal.nD Cert.SmallLastIdeal.τ).loc Cert.SmallLastIdeal.main_v0_9) = v9 c
          ∧ r.2.mem ((c.tc : Thread Cert.SmallLastIdeal.nD Cert.SmallLastIdeal.τ).loc Cert.SmallLastIdeal.main_v0_10) = v10 c
          ∧ r.2.mem ((c.tc : Thread Cert.SmallLastIdeal.nD Cert.SmallLastIdeal.τ).loc Cert.SmallLastIdeal.main_v0_11) = v11 c
          ∧ r.2.mem ((c.tc : Thread Cert.SmallLastIdeal.nD Cert.SmallLastIdeal.τ).loc Cert.SmallLastIdeal.main_arg0) = m ((c.tc : Thread Cert.SmallLastIdeal.nD Cert.SmallLastIdeal.τ).loc Cert.SmallLastIdeal.main_arg0)
          ∧ r.2.mem ((c.tc : Thread Cert.SmallLastIdeal.nD Cert.SmallLastIdeal.τ).loc Cert.SmallLastIdeal.main_arg1) = m ((c.tc : Thread Cert.SmallLastIdeal.nD Cert.SmallLastIdeal.τ).loc Cert.SmallLastIdeal.main_arg1)
          ∧ r.2.mem ((c.tc : Thread Cert.SmallLastIdeal.nD Cert.SmallLastIdeal.τ).loc Cert.SmallLastIdeal.main_arg2) = m ((c.tc : Thread Cert.SmallLastIdeal.nD Cert.SmallLastIdeal.τ).loc Cert.SmallLastIdeal.main_arg2)
          ∧ r.2.mem ((c.tc : Thread Cert.SmallLastIdeal.nD Cert.SmallLastIdeal.τ).loc Cert.SmallLastIdeal.main_arg3) = m ((c.tc : Thread Cert.SmallLastIdeal.nD Cert.SmallLastIdeal.τ).loc Cert.SmallLastIdeal.main_arg3)
          ∧ r.2.mem ((c.tc : Thread Cert.SmallLastIdeal.nD Cert.SmallLastIdeal.τ).loc Cert.SmallLastIdeal.main_arg4) = m ((c.tc : Thread Cert.SmallLastIdeal.nD Cert.SmallLastIdeal.τ).loc Cert.SmallLastIdeal.main_arg4)
          ∧ r.2.mem ((c.tc : Thread Cert.SmallLastIdeal.nD Cert.SmallLastIdeal.τ).loc Cert.SmallLastIdeal.main_arg5) = m ((c.tc : Thread Cert.SmallLastIdeal.nD Cert.SmallLastIdeal.τ).loc Cert.SmallLastIdeal.main_arg5)
          ∧ r.2.mem ((c.tc : Thread Cert.SmallLastIdeal.nD Cert.SmallLastIdeal.τ).loc Cert.SmallLastIdeal.main_arg6) = m ((c.tc : Thread Cert.SmallLastIdeal.nD Cert.SmallLastIdeal.τ).loc Cert.SmallLastIdeal.main_arg6)
          ∧ r.2.mem ((c.tc : Thread Cert.SmallLastIdeal.nD Cert.SmallLastIdeal.τ).loc Cert.SmallLastIdeal.main_arg7) = m ((c.tc : Thread Cert.SmallLastIdeal.nD Cert.SmallLastIdeal.τ).loc Cert.SmallLastIdeal.main_arg7)
          ∧ r.2.mem ((c.tc : Thread Cert.SmallLastIdeal.nD Cert.SmallLastIdeal.τ).loc Cert.SmallLastIdeal.main_arg8) = m ((c.tc : Thread Cert.SmallLastIdeal.nD Cert.SmallLastIdeal.τ).loc Cert.SmallLastIdeal.main_arg8)
          ∧ r.2.mem ((c.tc : Thread Cert.SmallLastIdeal.nD Cert.SmallLastIdeal.τ).loc Cert.SmallLastIdeal.main_arg9) = m ((c.tc : Thread Cert.SmallLastIdeal.nD Cert.SmallLastIdeal.τ).loc Cert.SmallLastIdeal.main_arg9)
          ∧ r.2.mem ((c.tc : Thread Cert.SmallLastIdeal.nD Cert.SmallLastIdeal.τ).loc Cert.SmallLastIdeal.main_arg10) = m ((c.tc : Thread Cert.SmallLastIdeal.nD Cert.SmallLastIdeal.τ).loc Cert.SmallLastIdeal.main_arg10)
          ∧ r.2.mem ((c.tc : Thread Cert.SmallLastIdeal.nD Cert.SmallLastIdeal.τ).loc Cert.SmallLastIdeal.main_arg11) = m ((c.tc : Thread Cert.SmallLastIdeal.nD Cert.SmallLastIdeal.τ).loc Cert.SmallLastIdeal.main_arg11)
          ∧ r.2.mem ((c.tc : Thread Cert.SmallLastIdeal.nD Cert.SmallLastIdeal.τ).loc Cert.SmallLastIdeal.main_arg12) = m ((c.tc : Thread Cert.SmallLastIdeal.nD Cert.SmallLastIdeal.τ).loc Cert.SmallLastIdeal.main_arg12)
          ∧ r.2.mem ((c.tc : Thread Cert.SmallLastIdeal.nD Cert.SmallLastIdeal.τ).loc Cert.SmallLastIdeal.main_arg13) = m ((c.tc : Thread Cert.SmallLastIdeal.nD Cert.SmallLastIdeal.τ).loc Cert.SmallLastIdeal.main_arg13)
          ∧ r.2.mem ((c.tc : Thread Cert.SmallLastIdeal.nD Cert.SmallLastIdeal.τ).loc Cert.SmallLastIdeal.main_arg14) = m ((c.tc : Thread Cert.SmallLastIdeal.nD Cert.SmallLastIdeal.τ).loc Cert.SmallLastIdeal.main_arg14)
          ∧ r.2.mem ((c.tc : Thread Cert.SmallLastIdeal.nD Cert.SmallLastIdeal.τ).loc Cert.SmallLastIdeal.main_arg15) = m ((c.tc : Thread Cert.SmallLastIdeal.nD Cert.SmallLastIdeal.τ).loc Cert.SmallLastIdeal.main_arg15))
      ∧ θ_run (Cert.SmallLastReferenceIdeal.defs (F := Ideal)) (onTc (τ := Cert.SmallLastReferenceIdeal.τ) (Cert.SmallLastReferenceIdeal.main (F := Ideal))) ⟨m', fun _ => 0, g'⟩ (fun r => ∀ c : Dev Cert.SmallLastReferenceIdeal.nD,
          r.2.mem ((c.tc : Thread Cert.SmallLastReferenceIdeal.nD Cert.SmallLastReferenceIdeal.τ).loc Cert.SmallLastReferenceIdeal.main_v23) = v0 c
          ∧ r.2.mem ((c.tc : Thread Cert.SmallLastReferenceIdeal.nD Cert.SmallLastReferenceIdeal.τ).loc Cert.SmallLastReferenceIdeal.main_v47) = v1 c
          ∧ r.2.mem ((c.tc : Thread Cert.SmallLastReferenceIdeal.nD Cert.SmallLastReferenceIdeal.τ).loc Cert.SmallLastReferenceIdeal.main_v71) = v2 c
          ∧ r.2.mem ((c.tc : Thread Cert.SmallLastReferenceIdeal.nD Cert.SmallLastReferenceIdeal.τ).loc Cert.SmallLastReferenceIdeal.main_v95) = v3 c
          ∧ r.2.mem ((c.tc : Thread Cert.SmallLastReferenceIdeal.nD Cert.SmallLastReferenceIdeal.τ).loc Cert.SmallLastReferenceIdeal.main_v4) = v4 c
          ∧ r.2.mem ((c.tc : Thread Cert.SmallLastReferenceIdeal.nD Cert.SmallLastReferenceIdeal.τ).loc Cert.SmallLastReferenceIdeal.main_v28) = v5 c
          ∧ r.2.mem ((c.tc : Thread Cert.SmallLastReferenceIdeal.nD Cert.SmallLastReferenceIdeal.τ).loc Cert.SmallLastReferenceIdeal.main_v52) = v6 c
          ∧ r.2.mem ((c.tc : Thread Cert.SmallLastReferenceIdeal.nD Cert.SmallLastReferenceIdeal.τ).loc Cert.SmallLastReferenceIdeal.main_v76) = v7 c
          ∧ r.2.mem ((c.tc : Thread Cert.SmallLastReferenceIdeal.nD Cert.SmallLastReferenceIdeal.τ).loc Cert.SmallLastReferenceIdeal.main_v10) = v8 c
          ∧ r.2.mem ((c.tc : Thread Cert.SmallLastReferenceIdeal.nD Cert.SmallLastReferenceIdeal.τ).loc Cert.SmallLastReferenceIdeal.main_v34) = v9 c
          ∧ r.2.mem ((c.tc : Thread Cert.SmallLastReferenceIdeal.nD Cert.SmallLastReferenceIdeal.τ).loc Cert.SmallLastReferenceIdeal.main_v58) = v10 c
          ∧ r.2.mem ((c.tc : Thread Cert.SmallLastReferenceIdeal.nD Cert.SmallLastReferenceIdeal.τ).loc Cert.SmallLastReferenceIdeal.main_v82) = v11 c
          ∧ r.2.mem ((c.tc : Thread Cert.SmallLastReferenceIdeal.nD Cert.SmallLastReferenceIdeal.τ).loc Cert.SmallLastReferenceIdeal.main_arg0) = m' ((c.tc : Thread Cert.SmallLastReferenceIdeal.nD Cert.SmallLastReferenceIdeal.τ).loc Cert.SmallLastReferenceIdeal.main_arg0)
          ∧ r.2.mem ((c.tc : Thread Cert.SmallLastReferenceIdeal.nD Cert.SmallLastReferenceIdeal.τ).loc Cert.SmallLastReferenceIdeal.main_arg1) = m' ((c.tc : Thread Cert.SmallLastReferenceIdeal.nD Cert.SmallLastReferenceIdeal.τ).loc Cert.SmallLastReferenceIdeal.main_arg1)
          ∧ r.2.mem ((c.tc : Thread Cert.SmallLastReferenceIdeal.nD Cert.SmallLastReferenceIdeal.τ).loc Cert.SmallLastReferenceIdeal.main_arg2) = m' ((c.tc : Thread Cert.SmallLastReferenceIdeal.nD Cert.SmallLastReferenceIdeal.τ).loc Cert.SmallLastReferenceIdeal.main_arg2)
          ∧ r.2.mem ((c.tc : Thread Cert.SmallLastReferenceIdeal.nD Cert.SmallLastReferenceIdeal.τ).loc Cert.SmallLastReferenceIdeal.main_arg3) = m' ((c.tc : Thread Cert.SmallLastReferenceIdeal.nD Cert.SmallLastReferenceIdeal.τ).loc Cert.SmallLastReferenceIdeal.main_arg3)
          ∧ r.2.mem ((c.tc : Thread Cert.SmallLastReferenceIdeal.nD Cert.SmallLastReferenceIdeal.τ).loc Cert.SmallLastReferenceIdeal.main_arg4) = m' ((c.tc : Thread Cert.SmallLastReferenceIdeal.nD Cert.SmallLastReferenceIdeal.τ).loc Cert.SmallLastReferenceIdeal.main_arg4)
          ∧ r.2.mem ((c.tc : Thread Cert.SmallLastReferenceIdeal.nD Cert.SmallLastReferenceIdeal.τ).loc Cert.SmallLastReferenceIdeal.main_arg5) = m' ((c.tc : Thread Cert.SmallLastReferenceIdeal.nD Cert.SmallLastReferenceIdeal.τ).loc Cert.SmallLastReferenceIdeal.main_arg5)
          ∧ r.2.mem ((c.tc : Thread Cert.SmallLastReferenceIdeal.nD Cert.SmallLastReferenceIdeal.τ).loc Cert.SmallLastReferenceIdeal.main_arg6) = m' ((c.tc : Thread Cert.SmallLastReferenceIdeal.nD Cert.SmallLastReferenceIdeal.τ).loc Cert.SmallLastReferenceIdeal.main_arg6)
          ∧ r.2.mem ((c.tc : Thread Cert.SmallLastReferenceIdeal.nD Cert.SmallLastReferenceIdeal.τ).loc Cert.SmallLastReferenceIdeal.main_arg7) = m' ((c.tc : Thread Cert.SmallLastReferenceIdeal.nD Cert.SmallLastReferenceIdeal.τ).loc Cert.SmallLastReferenceIdeal.main_arg7)
          ∧ r.2.mem ((c.tc : Thread Cert.SmallLastReferenceIdeal.nD Cert.SmallLastReferenceIdeal.τ).loc Cert.SmallLastReferenceIdeal.main_arg8) = m' ((c.tc : Thread Cert.SmallLastReferenceIdeal.nD Cert.SmallLastReferenceIdeal.τ).loc Cert.SmallLastReferenceIdeal.main_arg8)
          ∧ r.2.mem ((c.tc : Thread Cert.SmallLastReferenceIdeal.nD Cert.SmallLastReferenceIdeal.τ).loc Cert.SmallLastReferenceIdeal.main_arg9) = m' ((c.tc : Thread Cert.SmallLastReferenceIdeal.nD Cert.SmallLastReferenceIdeal.τ).loc Cert.SmallLastReferenceIdeal.main_arg9)
          ∧ r.2.mem ((c.tc : Thread Cert.SmallLastReferenceIdeal.nD Cert.SmallLastReferenceIdeal.τ).loc Cert.SmallLastReferenceIdeal.main_arg10) = m' ((c.tc : Thread Cert.SmallLastReferenceIdeal.nD Cert.SmallLastReferenceIdeal.τ).loc Cert.SmallLastReferenceIdeal.main_arg10)
          ∧ r.2.mem ((c.tc : Thread Cert.SmallLastReferenceIdeal.nD Cert.SmallLastReferenceIdeal.τ).loc Cert.SmallLastReferenceIdeal.main_arg11) = m' ((c.tc : Thread Cert.SmallLastReferenceIdeal.nD Cert.SmallLastReferenceIdeal.τ).loc Cert.SmallLastReferenceIdeal.main_arg11)
          ∧ r.2.mem ((c.tc : Thread Cert.SmallLastReferenceIdeal.nD Cert.SmallLastReferenceIdeal.τ).loc Cert.SmallLastReferenceIdeal.main_arg12) = m' ((c.tc : Thread Cert.SmallLastReferenceIdeal.nD Cert.SmallLastReferenceIdeal.τ).loc Cert.SmallLastReferenceIdeal.main_arg12)
          ∧ r.2.mem ((c.tc : Thread Cert.SmallLastReferenceIdeal.nD Cert.SmallLastReferenceIdeal.τ).loc Cert.SmallLastReferenceIdeal.main_arg13) = m' ((c.tc : Thread Cert.SmallLastReferenceIdeal.nD Cert.SmallLastReferenceIdeal.τ).loc Cert.SmallLastReferenceIdeal.main_arg13)
          ∧ r.2.mem ((c.tc : Thread Cert.SmallLastReferenceIdeal.nD Cert.SmallLastReferenceIdeal.τ).loc Cert.SmallLastReferenceIdeal.main_arg14) = m' ((c.tc : Thread Cert.SmallLastReferenceIdeal.nD Cert.SmallLastReferenceIdeal.τ).loc Cert.SmallLastReferenceIdeal.main_arg14)
          ∧ r.2.mem ((c.tc : Thread Cert.SmallLastReferenceIdeal.nD Cert.SmallLastReferenceIdeal.τ).loc Cert.SmallLastReferenceIdeal.main_arg15) = m' ((c.tc : Thread Cert.SmallLastReferenceIdeal.nD Cert.SmallLastReferenceIdeal.τ).loc Cert.SmallLastReferenceIdeal.main_arg15))

def preserves_ChipSumIn_ChipSumInIdeal : Prop :=
  True

def algebraic_ChipSumInIdeal_ChipSumInReferenceIdeal [hChipSumInIdeal : Cert.ChipSumInIdeal.Facts] [hChipSumInReferenceIdeal : Cert.ChipSumInReferenceIdeal.Facts] : Prop :=
  ∀ (m : (ℓ : Loc Cert.ChipSumInIdeal.nD Cert.ChipSumInIdeal.τ Cert.ChipSumInIdeal.sig) → Buf (Elt Ideal) ℓ) (g : Dev Cert.ChipSumInIdeal.nD → PrngReg)
    (m' : (ℓ : Loc Cert.ChipSumInReferenceIdeal.nD Cert.ChipSumInReferenceIdeal.τ Cert.ChipSumInReferenceIdeal.sig) → Buf (Elt Ideal) ℓ) (g' : Dev Cert.ChipSumInReferenceIdeal.nD → PrngReg), Pre_ChipSumInIdeal m →
    (∀ c : Dev Cert.ChipSumInIdeal.nD,
      m' ((c.tc : Thread Cert.ChipSumInReferenceIdeal.nD Cert.ChipSumInReferenceIdeal.τ).loc Cert.ChipSumInReferenceIdeal.main_arg0) = m ((c.tc : Thread Cert.ChipSumInIdeal.nD Cert.ChipSumInIdeal.τ).loc Cert.ChipSumInIdeal.main_arg0)) →
    ∃ (v0 : (c : Dev Cert.ChipSumInIdeal.nD) → Buf (Elt Ideal) ((c.tc : Thread Cert.ChipSumInIdeal.nD Cert.ChipSumInIdeal.τ).loc Cert.ChipSumInIdeal.main_v0)),
      θ_run (Cert.ChipSumInIdeal.defs (F := Ideal)) (onTc (τ := Cert.ChipSumInIdeal.τ) (Cert.ChipSumInIdeal.main (F := Ideal))) ⟨m, fun _ => 0, g⟩ (fun r => ∀ c : Dev Cert.ChipSumInIdeal.nD,
          r.2.mem ((c.tc : Thread Cert.ChipSumInIdeal.nD Cert.ChipSumInIdeal.τ).loc Cert.ChipSumInIdeal.main_v0) = v0 c
          ∧ r.2.mem ((c.tc : Thread Cert.ChipSumInIdeal.nD Cert.ChipSumInIdeal.τ).loc Cert.ChipSumInIdeal.main_arg0) = m ((c.tc : Thread Cert.ChipSumInIdeal.nD Cert.ChipSumInIdeal.τ).loc Cert.ChipSumInIdeal.main_arg0))
      ∧ θ_run (Cert.ChipSumInReferenceIdeal.defs (F := Ideal)) (onTc (τ := Cert.ChipSumInReferenceIdeal.τ) (Cert.ChipSumInReferenceIdeal.main (F := Ideal))) ⟨m', fun _ => 0, g'⟩ (fun r => ∀ c : Dev Cert.ChipSumInReferenceIdeal.nD,
          r.2.mem ((c.tc : Thread Cert.ChipSumInReferenceIdeal.nD Cert.ChipSumInReferenceIdeal.τ).loc Cert.ChipSumInReferenceIdeal.main_v1) = v0 c
          ∧ r.2.mem ((c.tc : Thread Cert.ChipSumInReferenceIdeal.nD Cert.ChipSumInReferenceIdeal.τ).loc Cert.ChipSumInReferenceIdeal.main_arg0) = m' ((c.tc : Thread Cert.ChipSumInReferenceIdeal.nD Cert.ChipSumInReferenceIdeal.τ).loc Cert.ChipSumInReferenceIdeal.main_arg0))

def preserves_ChipSumGate_ChipSumGateIdeal : Prop :=
  True

def algebraic_ChipSumGateIdeal_ChipSumGateReferenceIdeal [hChipSumGateIdeal : Cert.ChipSumGateIdeal.Facts] [hChipSumGateReferenceIdeal : Cert.ChipSumGateReferenceIdeal.Facts] : Prop :=
  ∀ (m : (ℓ : Loc Cert.ChipSumGateIdeal.nD Cert.ChipSumGateIdeal.τ Cert.ChipSumGateIdeal.sig) → Buf (Elt Ideal) ℓ) (g : Dev Cert.ChipSumGateIdeal.nD → PrngReg)
    (m' : (ℓ : Loc Cert.ChipSumGateReferenceIdeal.nD Cert.ChipSumGateReferenceIdeal.τ Cert.ChipSumGateReferenceIdeal.sig) → Buf (Elt Ideal) ℓ) (g' : Dev Cert.ChipSumGateReferenceIdeal.nD → PrngReg), Pre_ChipSumGateIdeal m →
    (∀ c : Dev Cert.ChipSumGateIdeal.nD,
      m' ((c.tc : Thread Cert.ChipSumGateReferenceIdeal.nD Cert.ChipSumGateReferenceIdeal.τ).loc Cert.ChipSumGateReferenceIdeal.main_arg0) = m ((c.tc : Thread Cert.ChipSumGateIdeal.nD Cert.ChipSumGateIdeal.τ).loc Cert.ChipSumGateIdeal.main_arg0)) →
    ∃ (v0 : (c : Dev Cert.ChipSumGateIdeal.nD) → Buf (Elt Ideal) ((c.tc : Thread Cert.ChipSumGateIdeal.nD Cert.ChipSumGateIdeal.τ).loc Cert.ChipSumGateIdeal.main_v0)),
      θ_run (Cert.ChipSumGateIdeal.defs (F := Ideal)) (onTc (τ := Cert.ChipSumGateIdeal.τ) (Cert.ChipSumGateIdeal.main (F := Ideal))) ⟨m, fun _ => 0, g⟩ (fun r => ∀ c : Dev Cert.ChipSumGateIdeal.nD,
          r.2.mem ((c.tc : Thread Cert.ChipSumGateIdeal.nD Cert.ChipSumGateIdeal.τ).loc Cert.ChipSumGateIdeal.main_v0) = v0 c
          ∧ r.2.mem ((c.tc : Thread Cert.ChipSumGateIdeal.nD Cert.ChipSumGateIdeal.τ).loc Cert.ChipSumGateIdeal.main_arg0) = m ((c.tc : Thread Cert.ChipSumGateIdeal.nD Cert.ChipSumGateIdeal.τ).loc Cert.ChipSumGateIdeal.main_arg0))
      ∧ θ_run (Cert.ChipSumGateReferenceIdeal.defs (F := Ideal)) (onTc (τ := Cert.ChipSumGateReferenceIdeal.τ) (Cert.ChipSumGateReferenceIdeal.main (F := Ideal))) ⟨m', fun _ => 0, g'⟩ (fun r => ∀ c : Dev Cert.ChipSumGateReferenceIdeal.nD,
          r.2.mem ((c.tc : Thread Cert.ChipSumGateReferenceIdeal.nD Cert.ChipSumGateReferenceIdeal.τ).loc Cert.ChipSumGateReferenceIdeal.main_v1) = v0 c
          ∧ r.2.mem ((c.tc : Thread Cert.ChipSumGateReferenceIdeal.nD Cert.ChipSumGateReferenceIdeal.τ).loc Cert.ChipSumGateReferenceIdeal.main_arg0) = m' ((c.tc : Thread Cert.ChipSumGateReferenceIdeal.nD Cert.ChipSumGateReferenceIdeal.τ).loc Cert.ChipSumGateReferenceIdeal.main_arg0))

def preserves_ChipSumOut_ChipSumOutIdeal : Prop :=
  True

def algebraic_ChipSumOutIdeal_ChipSumOutReferenceIdeal [hChipSumOutIdeal : Cert.ChipSumOutIdeal.Facts] [hChipSumOutReferenceIdeal : Cert.ChipSumOutReferenceIdeal.Facts] : Prop :=
  ∀ (m : (ℓ : Loc Cert.ChipSumOutIdeal.nD Cert.ChipSumOutIdeal.τ Cert.ChipSumOutIdeal.sig) → Buf (Elt Ideal) ℓ) (g : Dev Cert.ChipSumOutIdeal.nD → PrngReg)
    (m' : (ℓ : Loc Cert.ChipSumOutReferenceIdeal.nD Cert.ChipSumOutReferenceIdeal.τ Cert.ChipSumOutReferenceIdeal.sig) → Buf (Elt Ideal) ℓ) (g' : Dev Cert.ChipSumOutReferenceIdeal.nD → PrngReg), Pre_ChipSumOutIdeal m →
    (∀ c : Dev Cert.ChipSumOutIdeal.nD,
      m' ((c.tc : Thread Cert.ChipSumOutReferenceIdeal.nD Cert.ChipSumOutReferenceIdeal.τ).loc Cert.ChipSumOutReferenceIdeal.main_arg0) = m ((c.tc : Thread Cert.ChipSumOutIdeal.nD Cert.ChipSumOutIdeal.τ).loc Cert.ChipSumOutIdeal.main_arg0)) →
    ∃ (v0 : (c : Dev Cert.ChipSumOutIdeal.nD) → Buf (Elt Ideal) ((c.tc : Thread Cert.ChipSumOutIdeal.nD Cert.ChipSumOutIdeal.τ).loc Cert.ChipSumOutIdeal.main_v0)),
      θ_run (Cert.ChipSumOutIdeal.defs (F := Ideal)) (onTc (τ := Cert.ChipSumOutIdeal.τ) (Cert.ChipSumOutIdeal.main (F := Ideal))) ⟨m, fun _ => 0, g⟩ (fun r => ∀ c : Dev Cert.ChipSumOutIdeal.nD,
          r.2.mem ((c.tc : Thread Cert.ChipSumOutIdeal.nD Cert.ChipSumOutIdeal.τ).loc Cert.ChipSumOutIdeal.main_v0) = v0 c
          ∧ r.2.mem ((c.tc : Thread Cert.ChipSumOutIdeal.nD Cert.ChipSumOutIdeal.τ).loc Cert.ChipSumOutIdeal.main_arg0) = m ((c.tc : Thread Cert.ChipSumOutIdeal.nD Cert.ChipSumOutIdeal.τ).loc Cert.ChipSumOutIdeal.main_arg0))
      ∧ θ_run (Cert.ChipSumOutReferenceIdeal.defs (F := Ideal)) (onTc (τ := Cert.ChipSumOutReferenceIdeal.τ) (Cert.ChipSumOutReferenceIdeal.main (F := Ideal))) ⟨m', fun _ => 0, g'⟩ (fun r => ∀ c : Dev Cert.ChipSumOutReferenceIdeal.nD,
          r.2.mem ((c.tc : Thread Cert.ChipSumOutReferenceIdeal.nD Cert.ChipSumOutReferenceIdeal.τ).loc Cert.ChipSumOutReferenceIdeal.main_v1) = v0 c
          ∧ r.2.mem ((c.tc : Thread Cert.ChipSumOutReferenceIdeal.nD Cert.ChipSumOutReferenceIdeal.τ).loc Cert.ChipSumOutReferenceIdeal.main_arg0) = m' ((c.tc : Thread Cert.ChipSumOutReferenceIdeal.nD Cert.ChipSumOutReferenceIdeal.τ).loc Cert.ChipSumOutReferenceIdeal.main_arg0))

def preserves_ChipSumUp_ChipSumUpIdeal : Prop :=
  True

def algebraic_ChipSumUpIdeal_ChipSumUpReferenceIdeal [hChipSumUpIdeal : Cert.ChipSumUpIdeal.Facts] [hChipSumUpReferenceIdeal : Cert.ChipSumUpReferenceIdeal.Facts] : Prop :=
  ∀ (m : (ℓ : Loc Cert.ChipSumUpIdeal.nD Cert.ChipSumUpIdeal.τ Cert.ChipSumUpIdeal.sig) → Buf (Elt Ideal) ℓ) (g : Dev Cert.ChipSumUpIdeal.nD → PrngReg)
    (m' : (ℓ : Loc Cert.ChipSumUpReferenceIdeal.nD Cert.ChipSumUpReferenceIdeal.τ Cert.ChipSumUpReferenceIdeal.sig) → Buf (Elt Ideal) ℓ) (g' : Dev Cert.ChipSumUpReferenceIdeal.nD → PrngReg), Pre_ChipSumUpIdeal m →
    (∀ c : Dev Cert.ChipSumUpIdeal.nD,
      m' ((c.tc : Thread Cert.ChipSumUpReferenceIdeal.nD Cert.ChipSumUpReferenceIdeal.τ).loc Cert.ChipSumUpReferenceIdeal.main_arg0) = m ((c.tc : Thread Cert.ChipSumUpIdeal.nD Cert.ChipSumUpIdeal.τ).loc Cert.ChipSumUpIdeal.main_arg0)) →
    ∃ (v0 : (c : Dev Cert.ChipSumUpIdeal.nD) → Buf (Elt Ideal) ((c.tc : Thread Cert.ChipSumUpIdeal.nD Cert.ChipSumUpIdeal.τ).loc Cert.ChipSumUpIdeal.main_v0)),
      θ_run (Cert.ChipSumUpIdeal.defs (F := Ideal)) (onTc (τ := Cert.ChipSumUpIdeal.τ) (Cert.ChipSumUpIdeal.main (F := Ideal))) ⟨m, fun _ => 0, g⟩ (fun r => ∀ c : Dev Cert.ChipSumUpIdeal.nD,
          r.2.mem ((c.tc : Thread Cert.ChipSumUpIdeal.nD Cert.ChipSumUpIdeal.τ).loc Cert.ChipSumUpIdeal.main_v0) = v0 c
          ∧ r.2.mem ((c.tc : Thread Cert.ChipSumUpIdeal.nD Cert.ChipSumUpIdeal.τ).loc Cert.ChipSumUpIdeal.main_arg0) = m ((c.tc : Thread Cert.ChipSumUpIdeal.nD Cert.ChipSumUpIdeal.τ).loc Cert.ChipSumUpIdeal.main_arg0))
      ∧ θ_run (Cert.ChipSumUpReferenceIdeal.defs (F := Ideal)) (onTc (τ := Cert.ChipSumUpReferenceIdeal.τ) (Cert.ChipSumUpReferenceIdeal.main (F := Ideal))) ⟨m', fun _ => 0, g'⟩ (fun r => ∀ c : Dev Cert.ChipSumUpReferenceIdeal.nD,
          r.2.mem ((c.tc : Thread Cert.ChipSumUpReferenceIdeal.nD Cert.ChipSumUpReferenceIdeal.τ).loc Cert.ChipSumUpReferenceIdeal.main_v1) = v0 c
          ∧ r.2.mem ((c.tc : Thread Cert.ChipSumUpReferenceIdeal.nD Cert.ChipSumUpReferenceIdeal.τ).loc Cert.ChipSumUpReferenceIdeal.main_arg0) = m' ((c.tc : Thread Cert.ChipSumUpReferenceIdeal.nD Cert.ChipSumUpReferenceIdeal.τ).loc Cert.ChipSumUpReferenceIdeal.main_arg0))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v4) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v3) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradUp_GradUpIdeal : Prop :=
  True

def algebraic_GradUpIdeal_GradUpReferenceIdeal [hGradUpIdeal : Cert.GradUpIdeal.Facts] [hGradUpReferenceIdeal : Cert.GradUpReferenceIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpReferenceIdeal.nD Cert.GradUpReferenceIdeal.τ Cert.GradUpReferenceIdeal.sig) → Buf (Elt Ideal) ℓ) (g' : Dev Cert.GradUpReferenceIdeal.nD → PrngReg), Pre_GradUpIdeal m →
    (∀ c : Dev Cert.GradUpIdeal.nD,
      m' ((c.tc : Thread Cert.GradUpReferenceIdeal.nD Cert.GradUpReferenceIdeal.τ).loc Cert.GradUpReferenceIdeal.main_arg0) = m ((c.tc : Thread Cert.GradUpIdeal.nD Cert.GradUpIdeal.τ).loc Cert.GradUpIdeal.main_arg0)
      ∧ m' ((c.tc : Thread Cert.GradUpReferenceIdeal.nD Cert.GradUpReferenceIdeal.τ).loc Cert.GradUpReferenceIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpReferenceIdeal.defs (F := Ideal)) (onTc (τ := Cert.GradUpReferenceIdeal.τ) (Cert.GradUpReferenceIdeal.main (F := Ideal))) ⟨m', fun _ => 0, g'⟩ (fun r => ∀ c : Dev Cert.GradUpReferenceIdeal.nD,
          r.2.mem ((c.tc : Thread Cert.GradUpReferenceIdeal.nD Cert.GradUpReferenceIdeal.τ).loc Cert.GradUpReferenceIdeal.main_v4) = v0 c
          ∧ r.2.mem ((c.tc : Thread Cert.GradUpReferenceIdeal.nD Cert.GradUpReferenceIdeal.τ).loc Cert.GradUpReferenceIdeal.main_arg0) = m' ((c.tc : Thread Cert.GradUpReferenceIdeal.nD Cert.GradUpReferenceIdeal.τ).loc Cert.GradUpReferenceIdeal.main_arg0)
          ∧ r.2.mem ((c.tc : Thread Cert.GradUpReferenceIdeal.nD Cert.GradUpReferenceIdeal.τ).loc Cert.GradUpReferenceIdeal.main_arg1) = m' ((c.tc : Thread Cert.GradUpReferenceIdeal.nD Cert.GradUpReferenceIdeal.τ).loc Cert.GradUpReferenceIdeal.main_arg1))

def preserves_GradDown_GradDownIdeal : Prop :=
  True

def algebraic_GradDownIdeal_GradDownReferenceIdeal [hGradDownIdeal : Cert.GradDownIdeal.Facts] [hGradDownReferenceIdeal : Cert.GradDownReferenceIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownReferenceIdeal.nD Cert.GradDownReferenceIdeal.τ Cert.GradDownReferenceIdeal.sig) → Buf (Elt Ideal) ℓ) (g' : Dev Cert.GradDownReferenceIdeal.nD → PrngReg), Pre_GradDownIdeal m →
    (∀ c : Dev Cert.GradDownIdeal.nD,
      m' ((c.tc : Thread Cert.GradDownReferenceIdeal.nD Cert.GradDownReferenceIdeal.τ).loc Cert.GradDownReferenceIdeal.main_arg0) = m ((c.tc : Thread Cert.GradDownIdeal.nD Cert.GradDownIdeal.τ).loc Cert.GradDownIdeal.main_arg0)
      ∧ m' ((c.tc : Thread Cert.GradDownReferenceIdeal.nD Cert.GradDownReferenceIdeal.τ).loc Cert.GradDownReferenceIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownReferenceIdeal.defs (F := Ideal)) (onTc (τ := Cert.GradDownReferenceIdeal.τ) (Cert.GradDownReferenceIdeal.main (F := Ideal))) ⟨m', fun _ => 0, g'⟩ (fun r => ∀ c : Dev Cert.GradDownReferenceIdeal.nD,
          r.2.mem ((c.tc : Thread Cert.GradDownReferenceIdeal.nD Cert.GradDownReferenceIdeal.τ).loc Cert.GradDownReferenceIdeal.main_v3) = v0 c
          ∧ r.2.mem ((c.tc : Thread Cert.GradDownReferenceIdeal.nD Cert.GradDownReferenceIdeal.τ).loc Cert.GradDownReferenceIdeal.main_arg0) = m' ((c.tc : Thread Cert.GradDownReferenceIdeal.nD Cert.GradDownReferenceIdeal.τ).loc Cert.GradDownReferenceIdeal.main_arg0)
          ∧ r.2.mem ((c.tc : Thread Cert.GradDownReferenceIdeal.nD Cert.GradDownReferenceIdeal.τ).loc Cert.GradDownReferenceIdeal.main_arg1) = m' ((c.tc : Thread Cert.GradDownReferenceIdeal.nD Cert.GradDownReferenceIdeal.τ).loc Cert.GradDownReferenceIdeal.main_arg1))

def preserves_BackIn_BackInIdeal : Prop :=
  True

def algebraic_BackInIdeal_BackInReferenceIdeal [hBackInIdeal : Cert.BackInIdeal.Facts] [hBackInReferenceIdeal : Cert.BackInReferenceIdeal.Facts] : Prop :=
  ∀ (m : (ℓ : Loc Cert.BackInIdeal.nD Cert.BackInIdeal.τ Cert.BackInIdeal.sig) → Buf (Elt Ideal) ℓ) (g : Dev Cert.BackInIdeal.nD → PrngReg)
    (m' : (ℓ : Loc Cert.BackInReferenceIdeal.nD Cert.BackInReferenceIdeal.τ Cert.BackInReferenceIdeal.sig) → Buf (Elt Ideal) ℓ) (g' : Dev Cert.BackInReferenceIdeal.nD → PrngReg), Pre_BackInIdeal m →
    (∀ c : Dev Cert.BackInIdeal.nD,
      m' ((c.tc : Thread Cert.BackInReferenceIdeal.nD Cert.BackInReferenceIdeal.τ).loc Cert.BackInReferenceIdeal.main_arg0) = m ((c.tc : Thread Cert.BackInIdeal.nD Cert.BackInIdeal.τ).loc Cert.BackInIdeal.main_arg0)
      ∧ m' ((c.tc : Thread Cert.BackInReferenceIdeal.nD Cert.BackInReferenceIdeal.τ).loc Cert.BackInReferenceIdeal.main_arg1) = m ((c.tc : Thread Cert.BackInIdeal.nD Cert.BackInIdeal.τ).loc Cert.BackInIdeal.main_arg1)
      ∧ m' ((c.tc : Thread Cert.BackInReferenceIdeal.nD Cert.BackInReferenceIdeal.τ).loc Cert.BackInReferenceIdeal.main_arg2) = m ((c.tc : Thread Cert.BackInIdeal.nD Cert.BackInIdeal.τ).loc Cert.BackInIdeal.main_arg2)
      ∧ m' ((c.tc : Thread Cert.BackInReferenceIdeal.nD Cert.BackInReferenceIdeal.τ).loc Cert.BackInReferenceIdeal.main_arg3) = m ((c.tc : Thread Cert.BackInIdeal.nD Cert.BackInIdeal.τ).loc Cert.BackInIdeal.main_arg3)
      ∧ m' ((c.tc : Thread Cert.BackInReferenceIdeal.nD Cert.BackInReferenceIdeal.τ).loc Cert.BackInReferenceIdeal.main_arg4) = m ((c.tc : Thread Cert.BackInIdeal.nD Cert.BackInIdeal.τ).loc Cert.BackInIdeal.main_arg4)) →
    ∃ (v0 : (c : Dev Cert.BackInIdeal.nD) → Buf (Elt Ideal) ((c.tc : Thread Cert.BackInIdeal.nD Cert.BackInIdeal.τ).loc Cert.BackInIdeal.main_v0_0)) (v1 : (c : Dev Cert.BackInIdeal.nD) → Buf (Elt Ideal) ((c.tc : Thread Cert.BackInIdeal.nD Cert.BackInIdeal.τ).loc Cert.BackInIdeal.main_v0_1)),
      θ_run (Cert.BackInIdeal.defs (F := Ideal)) (onTc (τ := Cert.BackInIdeal.τ) (Cert.BackInIdeal.main (F := Ideal))) ⟨m, fun _ => 0, g⟩ (fun r => ∀ c : Dev Cert.BackInIdeal.nD,
          r.2.mem ((c.tc : Thread Cert.BackInIdeal.nD Cert.BackInIdeal.τ).loc Cert.BackInIdeal.main_v0_0) = v0 c
          ∧ r.2.mem ((c.tc : Thread Cert.BackInIdeal.nD Cert.BackInIdeal.τ).loc Cert.BackInIdeal.main_v0_1) = v1 c
          ∧ r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
          ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1)
          ∧ r.2.mem ((c.tc : Thread Cert.BackInIdeal.nD Cert.BackInIdeal.τ).loc Cert.BackInIdeal.main_arg2) = m ((c.tc : Thread Cert.BackInIdeal.nD Cert.BackInIdeal.τ).loc Cert.BackInIdeal.main_arg2)
          ∧ r.2.mem ((c.tc : Thread Cert.BackInIdeal.nD Cert.BackInIdeal.τ).loc Cert.BackInIdeal.main_arg3) = m ((c.tc : Thread Cert.BackInIdeal.nD Cert.BackInIdeal.τ).loc Cert.BackInIdeal.main_arg3)
          ∧ r.2.mem ((c.tc : Thread Cert.BackInIdeal.nD Cert.BackInIdeal.τ).loc Cert.BackInIdeal.main_arg4) = m ((c.tc : Thread Cert.BackInIdeal.nD Cert.BackInIdeal.τ).loc Cert.BackInIdeal.main_arg4))
      ∧ θ_run (Cert.BackInReferenceIdeal.defs (F := Ideal)) (onTc (τ := Cert.BackInReferenceIdeal.τ) (Cert.BackInReferenceIdeal.main (F := Ideal))) ⟨m', fun _ => 0, g'⟩ (fun r => ∀ c : Dev Cert.BackInReferenceIdeal.nD,
          r.2.mem ((c.tc : Thread Cert.BackInReferenceIdeal.nD Cert.BackInReferenceIdeal.τ).loc Cert.BackInReferenceIdeal.main_v43) = v0 c
          ∧ r.2.mem ((c.tc : Thread Cert.BackInReferenceIdeal.nD Cert.BackInReferenceIdeal.τ).loc Cert.BackInReferenceIdeal.main_v44) = v1 c
          ∧ r.2.mem ((c.tc : Thread Cert.BackInReferenceIdeal.nD Cert.BackInReferenceIdeal.τ).loc Cert.BackInReferenceIdeal.main_arg0) = m' ((c.tc : Thread Cert.BackInReferenceIdeal.nD Cert.BackInReferenceIdeal.τ).loc Cert.BackInReferenceIdeal.main_arg0)
          ∧ r.2.mem ((c.tc : Thread Cert.BackInReferenceIdeal.nD Cert.BackInReferenceIdeal.τ).loc Cert.BackInReferenceIdeal.main_arg1) = m' ((c.tc : Thread Cert.BackInReferenceIdeal.nD Cert.BackInReferenceIdeal.τ).loc Cert.BackInReferenceIdeal.main_arg1)
          ∧ r.2.mem ((c.tc : Thread Cert.BackInReferenceIdeal.nD Cert.BackInReferenceIdeal.τ).loc Cert.BackInReferenceIdeal.main_arg2) = m' ((c.tc : Thread Cert.BackInReferenceIdeal.nD Cert.BackInReferenceIdeal.τ).loc Cert.BackInReferenceIdeal.main_arg2)
          ∧ r.2.mem ((c.tc : Thread Cert.BackInReferenceIdeal.nD Cert.BackInReferenceIdeal.τ).loc Cert.BackInReferenceIdeal.main_arg3) = m' ((c.tc : Thread Cert.BackInReferenceIdeal.nD Cert.BackInReferenceIdeal.τ).loc Cert.BackInReferenceIdeal.main_arg3)
          ∧ r.2.mem ((c.tc : Thread Cert.BackInReferenceIdeal.nD Cert.BackInReferenceIdeal.τ).loc Cert.BackInReferenceIdeal.main_arg4) = m' ((c.tc : Thread Cert.BackInReferenceIdeal.nD Cert.BackInReferenceIdeal.τ).loc Cert.BackInReferenceIdeal.main_arg4))

def preserves_ForwardIn_ForwardInIdeal : Prop :=
  True

def algebraic_ForwardInIdeal_ForwardInReferenceIdeal [hForwardInIdeal : Cert.ForwardInIdeal.Facts] [hForwardInReferenceIdeal : Cert.ForwardInReferenceIdeal.Facts] : Prop :=
  ∀ (m : (ℓ : Loc Cert.ForwardInIdeal.nD Cert.ForwardInIdeal.τ Cert.ForwardInIdeal.sig) → Buf (Elt Ideal) ℓ) (g : Dev Cert.ForwardInIdeal.nD → PrngReg)
    (m' : (ℓ : Loc Cert.ForwardInReferenceIdeal.nD Cert.ForwardInReferenceIdeal.τ Cert.ForwardInReferenceIdeal.sig) → Buf (Elt Ideal) ℓ) (g' : Dev Cert.ForwardInReferenceIdeal.nD → PrngReg), Pre_ForwardInIdeal m →
    (∀ c : Dev Cert.ForwardInIdeal.nD,
      m' ((c.tc : Thread Cert.ForwardInReferenceIdeal.nD Cert.ForwardInReferenceIdeal.τ).loc Cert.ForwardInReferenceIdeal.main_arg0) = m ((c.tc : Thread Cert.ForwardInIdeal.nD Cert.ForwardInIdeal.τ).loc Cert.ForwardInIdeal.main_arg0)
      ∧ m' ((c.tc : Thread Cert.ForwardInReferenceIdeal.nD Cert.ForwardInReferenceIdeal.τ).loc Cert.ForwardInReferenceIdeal.main_arg1) = m ((c.tc : Thread Cert.ForwardInIdeal.nD Cert.ForwardInIdeal.τ).loc Cert.ForwardInIdeal.main_arg1)
      ∧ m' ((c.tc : Thread Cert.ForwardInReferenceIdeal.nD Cert.ForwardInReferenceIdeal.τ).loc Cert.ForwardInReferenceIdeal.main_arg2) = m ((c.tc : Thread Cert.ForwardInIdeal.nD Cert.ForwardInIdeal.τ).loc Cert.ForwardInIdeal.main_arg2)) →
    ∃ (v0 : (c : Dev Cert.ForwardInIdeal.nD) → Buf (Elt Ideal) ((c.tc : Thread Cert.ForwardInIdeal.nD Cert.ForwardInIdeal.τ).loc Cert.ForwardInIdeal.main_v0_0)) (v1 : (c : Dev Cert.ForwardInIdeal.nD) → Buf (Elt Ideal) ((c.tc : Thread Cert.ForwardInIdeal.nD Cert.ForwardInIdeal.τ).loc Cert.ForwardInIdeal.main_v0_1)),
      θ_run (Cert.ForwardInIdeal.defs (F := Ideal)) (onTc (τ := Cert.ForwardInIdeal.τ) (Cert.ForwardInIdeal.main (F := Ideal))) ⟨m, fun _ => 0, g⟩ (fun r => ∀ c : Dev Cert.ForwardInIdeal.nD,
          r.2.mem ((c.tc : Thread Cert.ForwardInIdeal.nD Cert.ForwardInIdeal.τ).loc Cert.ForwardInIdeal.main_v0_0) = v0 c
          ∧ r.2.mem ((c.tc : Thread Cert.ForwardInIdeal.nD Cert.ForwardInIdeal.τ).loc Cert.ForwardInIdeal.main_v0_1) = v1 c
          ∧ r.2.mem ((c.tc : Thread Cert.ForwardInIdeal.nD Cert.ForwardInIdeal.τ).loc Cert.ForwardInIdeal.main_arg0) = m ((c.tc : Thread Cert.ForwardInIdeal.nD Cert.ForwardInIdeal.τ).loc Cert.ForwardInIdeal.main_arg0)
          ∧ r.2.mem ((c.tc : Thread Cert.ForwardInIdeal.nD Cert.ForwardInIdeal.τ).loc Cert.ForwardInIdeal.main_arg1) = m ((c.tc : Thread Cert.ForwardInIdeal.nD Cert.ForwardInIdeal.τ).loc Cert.ForwardInIdeal.main_arg1)
          ∧ r.2.mem ((c.tc : Thread Cert.ForwardInIdeal.nD Cert.ForwardInIdeal.τ).loc Cert.ForwardInIdeal.main_arg2) = m ((c.tc : Thread Cert.ForwardInIdeal.nD Cert.ForwardInIdeal.τ).loc Cert.ForwardInIdeal.main_arg2))
      ∧ θ_run (Cert.ForwardInReferenceIdeal.defs (F := Ideal)) (onTc (τ := Cert.ForwardInReferenceIdeal.τ) (Cert.ForwardInReferenceIdeal.main (F := Ideal))) ⟨m', fun _ => 0, g'⟩ (fun r => ∀ c : Dev Cert.ForwardInReferenceIdeal.nD,
          r.2.mem ((c.tc : Thread Cert.ForwardInReferenceIdeal.nD Cert.ForwardInReferenceIdeal.τ).loc Cert.ForwardInReferenceIdeal.main_v17) = v0 c
          ∧ r.2.mem ((c.tc : Thread Cert.ForwardInReferenceIdeal.nD Cert.ForwardInReferenceIdeal.τ).loc Cert.ForwardInReferenceIdeal.main_v18) = v1 c
          ∧ r.2.mem ((c.tc : Thread Cert.ForwardInReferenceIdeal.nD Cert.ForwardInReferenceIdeal.τ).loc Cert.ForwardInReferenceIdeal.main_arg0) = m' ((c.tc : Thread Cert.ForwardInReferenceIdeal.nD Cert.ForwardInReferenceIdeal.τ).loc Cert.ForwardInReferenceIdeal.main_arg0)
          ∧ r.2.mem ((c.tc : Thread Cert.ForwardInReferenceIdeal.nD Cert.ForwardInReferenceIdeal.τ).loc Cert.ForwardInReferenceIdeal.main_arg1) = m' ((c.tc : Thread Cert.ForwardInReferenceIdeal.nD Cert.ForwardInReferenceIdeal.τ).loc Cert.ForwardInReferenceIdeal.main_arg1)
          ∧ r.2.mem ((c.tc : Thread Cert.ForwardInReferenceIdeal.nD Cert.ForwardInReferenceIdeal.τ).loc Cert.ForwardInReferenceIdeal.main_arg2) = m' ((c.tc : Thread Cert.ForwardInReferenceIdeal.nD Cert.ForwardInReferenceIdeal.τ).loc Cert.ForwardInReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v4) = v0 c
          ∧ r.2.mem ((c.tc : Thread Cert.MergeReferenceIdeal.nD Cert.MergeReferenceIdeal.τ).loc Cert.MergeReferenceIdeal.main_v7) = v1 c
          ∧ r.2.mem ((c.tc : Thread Cert.MergeReferenceIdeal.nD Cert.MergeReferenceIdeal.τ).loc Cert.MergeReferenceIdeal.main_v25) = v2 c
          ∧ r.2.mem ((c.tc : Thread Cert.MergeReferenceIdeal.nD Cert.MergeReferenceIdeal.τ).loc Cert.MergeReferenceIdeal.main_v40) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)) (v2 : (c : Dev Cert.MlpIdeal.nD) → Buf (Elt Ideal) ((c.tc : Thread Cert.MlpIdeal.nD Cert.MlpIdeal.τ).loc Cert.MlpIdeal.main_v0_2)) (v3 : (c : Dev Cert.MlpIdeal.nD) → Buf (Elt Ideal) ((c.tc : Thread Cert.MlpIdeal.nD Cert.MlpIdeal.τ).loc Cert.MlpIdeal.main_v0_3)) (v4 : (c : Dev Cert.MlpIdeal.nD) → Buf (Elt Ideal) ((c.tc : Thread Cert.MlpIdeal.nD Cert.MlpIdeal.τ).loc Cert.MlpIdeal.main_v0_4)) (v5 : (c : Dev Cert.MlpIdeal.nD) → Buf (Elt Ideal) ((c.tc : Thread Cert.MlpIdeal.nD Cert.MlpIdeal.τ).loc Cert.MlpIdeal.main_v0_5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_v0_2) = v2 c
          ∧ r.2.mem ((c.tc : Thread Cert.MlpIdeal.nD Cert.MlpIdeal.τ).loc Cert.MlpIdeal.main_v0_3) = v3 c
          ∧ r.2.mem ((c.tc : Thread Cert.MlpIdeal.nD Cert.MlpIdeal.τ).loc Cert.MlpIdeal.main_v0_4) = v4 c
          ∧ r.2.mem ((c.tc : Thread Cert.MlpIdeal.nD Cert.MlpIdeal.τ).loc Cert.MlpIdeal.main_v0_5) = v5 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v4) = v0 c
          ∧ r.2.mem ((c.tc : Thread Cert.MlpReferenceIdeal.nD Cert.MlpReferenceIdeal.τ).loc Cert.MlpReferenceIdeal.main_v62) = v1 c
          ∧ r.2.mem ((c.tc : Thread Cert.MlpReferenceIdeal.nD Cert.MlpReferenceIdeal.τ).loc Cert.MlpReferenceIdeal.main_v61) = v2 c
          ∧ r.2.mem ((c.tc : Thread Cert.MlpReferenceIdeal.nD Cert.MlpReferenceIdeal.τ).loc Cert.MlpReferenceIdeal.main_v63) = v3 c
          ∧ r.2.mem ((c.tc : Thread Cert.MlpReferenceIdeal.nD Cert.MlpReferenceIdeal.τ).loc Cert.MlpReferenceIdeal.main_v64) = v4 c
          ∧ r.2.mem ((c.tc : Thread Cert.MlpReferenceIdeal.nD Cert.MlpReferenceIdeal.τ).loc Cert.MlpReferenceIdeal.main_v65) = v5 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_BackMlp_BackMlpIdeal : Prop :=
  True

def algebraic_BackMlpIdeal_BackMlpReferenceIdeal [hBackMlpIdeal : Cert.BackMlpIdeal.Facts] [hBackMlpReferenceIdeal : Cert.BackMlpReferenceIdeal.Facts] : Prop :=
  ∀ (m : (ℓ : Loc Cert.BackMlpIdeal.nD Cert.BackMlpIdeal.τ Cert.BackMlpIdeal.sig) → Buf (Elt Ideal) ℓ) (g : Dev Cert.BackMlpIdeal.nD → PrngReg)
    (m' : (ℓ : Loc Cert.BackMlpReferenceIdeal.nD Cert.BackMlpReferenceIdeal.τ Cert.BackMlpReferenceIdeal.sig) → Buf (Elt Ideal) ℓ) (g' : Dev Cert.BackMlpReferenceIdeal.nD → PrngReg), Pre_BackMlpIdeal m →
    (∀ c : Dev Cert.BackMlpIdeal.nD,
      m' ((c.tc : Thread Cert.BackMlpReferenceIdeal.nD Cert.BackMlpReferenceIdeal.τ).loc Cert.BackMlpReferenceIdeal.main_arg0) = m ((c.tc : Thread Cert.BackMlpIdeal.nD Cert.BackMlpIdeal.τ).loc Cert.BackMlpIdeal.main_arg0)
      ∧ m' ((c.tc : Thread Cert.BackMlpReferenceIdeal.nD Cert.BackMlpReferenceIdeal.τ).loc Cert.BackMlpReferenceIdeal.main_arg1) = m ((c.tc : Thread Cert.BackMlpIdeal.nD Cert.BackMlpIdeal.τ).loc Cert.BackMlpIdeal.main_arg1)
      ∧ m' ((c.tc : Thread Cert.BackMlpReferenceIdeal.nD Cert.BackMlpReferenceIdeal.τ).loc Cert.BackMlpReferenceIdeal.main_arg2) = m ((c.tc : Thread Cert.BackMlpIdeal.nD Cert.BackMlpIdeal.τ).loc Cert.BackMlpIdeal.main_arg2)
      ∧ m' ((c.tc : Thread Cert.BackMlpReferenceIdeal.nD Cert.BackMlpReferenceIdeal.τ).loc Cert.BackMlpReferenceIdeal.main_arg3) = m ((c.tc : Thread Cert.BackMlpIdeal.nD Cert.BackMlpIdeal.τ).loc Cert.BackMlpIdeal.main_arg3)
      ∧ m' ((c.tc : Thread Cert.BackMlpReferenceIdeal.nD Cert.BackMlpReferenceIdeal.τ).loc Cert.BackMlpReferenceIdeal.main_arg4) = m ((c.tc : Thread Cert.BackMlpIdeal.nD Cert.BackMlpIdeal.τ).loc Cert.BackMlpIdeal.main_arg4)
      ∧ m' ((c.tc : Thread Cert.BackMlpReferenceIdeal.nD Cert.BackMlpReferenceIdeal.τ).loc Cert.BackMlpReferenceIdeal.main_arg5) = m ((c.tc : Thread Cert.BackMlpIdeal.nD Cert.BackMlpIdeal.τ).loc Cert.BackMlpIdeal.main_arg5)
      ∧ m' ((c.tc : Thread Cert.BackMlpReferenceIdeal.nD Cert.BackMlpReferenceIdeal.τ).loc Cert.BackMlpReferenceIdeal.main_arg6) = m ((c.tc : Thread Cert.BackMlpIdeal.nD Cert.BackMlpIdeal.τ).loc Cert.BackMlpIdeal.main_arg6)) →
    ∃ (v0 : (c : Dev Cert.BackMlpIdeal.nD) → Buf (Elt Ideal) ((c.tc : Thread Cert.BackMlpIdeal.nD Cert.BackMlpIdeal.τ).loc Cert.BackMlpIdeal.main_v0_0)) (v1 : (c : Dev Cert.BackMlpIdeal.nD) → Buf (Elt Ideal) ((c.tc : Thread Cert.BackMlpIdeal.nD Cert.BackMlpIdeal.τ).loc Cert.BackMlpIdeal.main_v0_1)) (v2 : (c : Dev Cert.BackMlpIdeal.nD) → Buf (Elt Ideal) ((c.tc : Thread Cert.BackMlpIdeal.nD Cert.BackMlpIdeal.τ).loc Cert.BackMlpIdeal.main_v0_2)),
      θ_run (Cert.BackMlpIdeal.defs (F := Ideal)) (onTc (τ := Cert.BackMlpIdeal.τ) (Cert.BackMlpIdeal.main (F := Ideal))) ⟨m, fun _ => 0, g⟩ (fun r => ∀ c : Dev Cert.BackMlpIdeal.nD,
          r.2.mem ((c.tc : Thread Cert.BackMlpIdeal.nD Cert.BackMlpIdeal.τ).loc Cert.BackMlpIdeal.main_v0_0) = v0 c
          ∧ r.2.mem ((c.tc : Thread Cert.BackMlpIdeal.nD Cert.BackMlpIdeal.τ).loc Cert.BackMlpIdeal.main_v0_1) = v1 c
          ∧ r.2.mem ((c.tc : Thread Cert.BackMlpIdeal.nD Cert.BackMlpIdeal.τ).loc Cert.BackMlpIdeal.main_v0_2) = v2 c
          ∧ r.2.mem ((c.tc : Thread Cert.BackMlpIdeal.nD Cert.BackMlpIdeal.τ).loc Cert.BackMlpIdeal.main_arg0) = m ((c.tc : Thread Cert.BackMlpIdeal.nD Cert.BackMlpIdeal.τ).loc Cert.BackMlpIdeal.main_arg0)
          ∧ r.2.mem ((c.tc : Thread Cert.BackMlpIdeal.nD Cert.BackMlpIdeal.τ).loc Cert.BackMlpIdeal.main_arg1) = m ((c.tc : Thread Cert.BackMlpIdeal.nD Cert.BackMlpIdeal.τ).loc Cert.BackMlpIdeal.main_arg1)
          ∧ r.2.mem ((c.tc : Thread Cert.BackMlpIdeal.nD Cert.BackMlpIdeal.τ).loc Cert.BackMlpIdeal.main_arg2) = m ((c.tc : Thread Cert.BackMlpIdeal.nD Cert.BackMlpIdeal.τ).loc Cert.BackMlpIdeal.main_arg2)
          ∧ r.2.mem ((c.tc : Thread Cert.BackMlpIdeal.nD Cert.BackMlpIdeal.τ).loc Cert.BackMlpIdeal.main_arg3) = m ((c.tc : Thread Cert.BackMlpIdeal.nD Cert.BackMlpIdeal.τ).loc Cert.BackMlpIdeal.main_arg3)
          ∧ r.2.mem ((c.tc : Thread Cert.BackMlpIdeal.nD Cert.BackMlpIdeal.τ).loc Cert.BackMlpIdeal.main_arg4) = m ((c.tc : Thread Cert.BackMlpIdeal.nD Cert.BackMlpIdeal.τ).loc Cert.BackMlpIdeal.main_arg4)
          ∧ r.2.mem ((c.tc : Thread Cert.BackMlpIdeal.nD Cert.BackMlpIdeal.τ).loc Cert.BackMlpIdeal.main_arg5) = m ((c.tc : Thread Cert.BackMlpIdeal.nD Cert.BackMlpIdeal.τ).loc Cert.BackMlpIdeal.main_arg5)
          ∧ r.2.mem ((c.tc : Thread Cert.BackMlpIdeal.nD Cert.BackMlpIdeal.τ).loc Cert.BackMlpIdeal.main_arg6) = m ((c.tc : Thread Cert.BackMlpIdeal.nD Cert.BackMlpIdeal.τ).loc Cert.BackMlpIdeal.main_arg6))
      ∧ θ_run (Cert.BackMlpReferenceIdeal.defs (F := Ideal)) (onTc (τ := Cert.BackMlpReferenceIdeal.τ) (Cert.BackMlpReferenceIdeal.main (F := Ideal))) ⟨m', fun _ => 0, g'⟩ (fun r => ∀ c : Dev Cert.BackMlpReferenceIdeal.nD,
          r.2.mem ((c.tc : Thread Cert.BackMlpReferenceIdeal.nD Cert.BackMlpReferenceIdeal.τ).loc Cert.BackMlpReferenceIdeal.main_v56) = v0 c
          ∧ r.2.mem ((c.tc : Thread Cert.BackMlpReferenceIdeal.nD Cert.BackMlpReferenceIdeal.τ).loc Cert.BackMlpReferenceIdeal.main_v57) = v1 c
          ∧ r.2.mem ((c.tc : Thread Cert.BackMlpReferenceIdeal.nD Cert.BackMlpReferenceIdeal.τ).loc Cert.BackMlpReferenceIdeal.main_v58) = v2 c
          ∧ r.2.mem ((c.tc : Thread Cert.BackMlpReferenceIdeal.nD Cert.BackMlpReferenceIdeal.τ).loc Cert.BackMlpReferenceIdeal.main_arg0) = m' ((c.tc : Thread Cert.BackMlpReferenceIdeal.nD Cert.BackMlpReferenceIdeal.τ).loc Cert.BackMlpReferenceIdeal.main_arg0)
          ∧ r.2.mem ((c.tc : Thread Cert.BackMlpReferenceIdeal.nD Cert.BackMlpReferenceIdeal.τ).loc Cert.BackMlpReferenceIdeal.main_arg1) = m' ((c.tc : Thread Cert.BackMlpReferenceIdeal.nD Cert.BackMlpReferenceIdeal.τ).loc Cert.BackMlpReferenceIdeal.main_arg1)
          ∧ r.2.mem ((c.tc : Thread Cert.BackMlpReferenceIdeal.nD Cert.BackMlpReferenceIdeal.τ).loc Cert.BackMlpReferenceIdeal.main_arg2) = m' ((c.tc : Thread Cert.BackMlpReferenceIdeal.nD Cert.BackMlpReferenceIdeal.τ).loc Cert.BackMlpReferenceIdeal.main_arg2)
          ∧ r.2.mem ((c.tc : Thread Cert.BackMlpReferenceIdeal.nD Cert.BackMlpReferenceIdeal.τ).loc Cert.BackMlpReferenceIdeal.main_arg3) = m' ((c.tc : Thread Cert.BackMlpReferenceIdeal.nD Cert.BackMlpReferenceIdeal.τ).loc Cert.BackMlpReferenceIdeal.main_arg3)
          ∧ r.2.mem ((c.tc : Thread Cert.BackMlpReferenceIdeal.nD Cert.BackMlpReferenceIdeal.τ).loc Cert.BackMlpReferenceIdeal.main_arg4) = m' ((c.tc : Thread Cert.BackMlpReferenceIdeal.nD Cert.BackMlpReferenceIdeal.τ).loc Cert.BackMlpReferenceIdeal.main_arg4)
          ∧ r.2.mem ((c.tc : Thread Cert.BackMlpReferenceIdeal.nD Cert.BackMlpReferenceIdeal.τ).loc Cert.BackMlpReferenceIdeal.main_arg5) = m' ((c.tc : Thread Cert.BackMlpReferenceIdeal.nD Cert.BackMlpReferenceIdeal.τ).loc Cert.BackMlpReferenceIdeal.main_arg5)
          ∧ r.2.mem ((c.tc : Thread Cert.BackMlpReferenceIdeal.nD Cert.BackMlpReferenceIdeal.τ).loc Cert.BackMlpReferenceIdeal.main_arg6) = m' ((c.tc : Thread Cert.BackMlpReferenceIdeal.nD Cert.BackMlpReferenceIdeal.τ).loc Cert.BackMlpReferenceIdeal.main_arg6))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)
      ∧ m' ((c.tc : Thread Cert.GatingReferenceIdeal.nD Cert.GatingReferenceIdeal.τ).loc Cert.GatingReferenceIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v0)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v0) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v68) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4))

def Claim : Prop :=
  ∃ (hShare : Cert.Share.Facts) (hShareIdeal : Cert.ShareIdeal.Facts) (hShareReference : Cert.ShareReference.Facts) (hShareReferenceIdeal : Cert.ShareReferenceIdeal.Facts) (hExchange : Cert.Exchange.Facts) (hExchangeIdeal : Cert.ExchangeIdeal.Facts) (hExchangeReference : Cert.ExchangeReference.Facts) (hExchangeReferenceIdeal : Cert.ExchangeReferenceIdeal.Facts) (hHalves : Cert.Halves.Facts) (hHalvesIdeal : Cert.HalvesIdeal.Facts) (hHalvesReference : Cert.HalvesReference.Facts) (hHalvesReferenceIdeal : Cert.HalvesReferenceIdeal.Facts) (hGather : Cert.Gather.Facts) (hGatherIdeal : Cert.GatherIdeal.Facts) (hGatherReference : Cert.GatherReference.Facts) (hGatherReferenceIdeal : Cert.GatherReferenceIdeal.Facts) (hAdamwIn : Cert.AdamwIn.Facts) (hAdamwInIdeal : Cert.AdamwInIdeal.Facts) (hAdamwInReference : Cert.AdamwInReference.Facts) (hAdamwInReferenceIdeal : Cert.AdamwInReferenceIdeal.Facts) (hAdamwGate : Cert.AdamwGate.Facts) (hAdamwGateIdeal : Cert.AdamwGateIdeal.Facts) (hAdamwGateReference : Cert.AdamwGateReference.Facts) (hAdamwGateReferenceIdeal : Cert.AdamwGateReferenceIdeal.Facts) (hAdamwOut : Cert.AdamwOut.Facts) (hAdamwOutIdeal : Cert.AdamwOutIdeal.Facts) (hAdamwOutReference : Cert.AdamwOutReference.Facts) (hAdamwOutReferenceIdeal : Cert.AdamwOutReferenceIdeal.Facts) (hAdamwUp : Cert.AdamwUp.Facts) (hAdamwUpIdeal : Cert.AdamwUpIdeal.Facts) (hAdamwUpReference : Cert.AdamwUpReference.Facts) (hAdamwUpReferenceIdeal : Cert.AdamwUpReferenceIdeal.Facts) (hSmallFirst : Cert.SmallFirst.Facts) (hSmallFirstIdeal : Cert.SmallFirstIdeal.Facts) (hSmallFirstReference : Cert.SmallFirstReference.Facts) (hSmallFirstReferenceIdeal : Cert.SmallFirstReferenceIdeal.Facts) (hSmallNext : Cert.SmallNext.Facts) (hSmallNextIdeal : Cert.SmallNextIdeal.Facts) (hSmallNextReference : Cert.SmallNextReference.Facts) (hSmallNextReferenceIdeal : Cert.SmallNextReferenceIdeal.Facts) (hSmallLast : Cert.SmallLast.Facts) (hSmallLastIdeal : Cert.SmallLastIdeal.Facts) (hSmallLastReference : Cert.SmallLastReference.Facts) (hSmallLastReferenceIdeal : Cert.SmallLastReferenceIdeal.Facts) (hChipSumIn : Cert.ChipSumIn.Facts) (hChipSumInIdeal : Cert.ChipSumInIdeal.Facts) (hChipSumInReference : Cert.ChipSumInReference.Facts) (hChipSumInReferenceIdeal : Cert.ChipSumInReferenceIdeal.Facts) (hChipSumGate : Cert.ChipSumGate.Facts) (hChipSumGateIdeal : Cert.ChipSumGateIdeal.Facts) (hChipSumGateReference : Cert.ChipSumGateReference.Facts) (hChipSumGateReferenceIdeal : Cert.ChipSumGateReferenceIdeal.Facts) (hChipSumOut : Cert.ChipSumOut.Facts) (hChipSumOutIdeal : Cert.ChipSumOutIdeal.Facts) (hChipSumOutReference : Cert.ChipSumOutReference.Facts) (hChipSumOutReferenceIdeal : Cert.ChipSumOutReferenceIdeal.Facts) (hChipSumUp : Cert.ChipSumUp.Facts) (hChipSumUpIdeal : Cert.ChipSumUpIdeal.Facts) (hChipSumUpReference : Cert.ChipSumUpReference.Facts) (hChipSumUpReferenceIdeal : Cert.ChipSumUpReferenceIdeal.Facts) (hGradIn : Cert.GradIn.Facts) (hGradInIdeal : Cert.GradInIdeal.Facts) (hGradInReference : Cert.GradInReference.Facts) (hGradInReferenceIdeal : Cert.GradInReferenceIdeal.Facts) (hGradOut : Cert.GradOut.Facts) (hGradOutIdeal : Cert.GradOutIdeal.Facts) (hGradOutReference : Cert.GradOutReference.Facts) (hGradOutReferenceIdeal : Cert.GradOutReferenceIdeal.Facts) (hGradUp : Cert.GradUp.Facts) (hGradUpIdeal : Cert.GradUpIdeal.Facts) (hGradUpReference : Cert.GradUpReference.Facts) (hGradUpReferenceIdeal : Cert.GradUpReferenceIdeal.Facts) (hGradDown : Cert.GradDown.Facts) (hGradDownIdeal : Cert.GradDownIdeal.Facts) (hGradDownReference : Cert.GradDownReference.Facts) (hGradDownReferenceIdeal : Cert.GradDownReferenceIdeal.Facts) (hBackIn : Cert.BackIn.Facts) (hBackInIdeal : Cert.BackInIdeal.Facts) (hBackInReference : Cert.BackInReference.Facts) (hBackInReferenceIdeal : Cert.BackInReferenceIdeal.Facts) (hForwardIn : Cert.ForwardIn.Facts) (hForwardInIdeal : Cert.ForwardInIdeal.Facts) (hForwardInReference : Cert.ForwardInReference.Facts) (hForwardInReferenceIdeal : Cert.ForwardInReferenceIdeal.Facts) (hMerge : Cert.Merge.Facts) (hMergeIdeal : Cert.MergeIdeal.Facts) (hMergeReference : Cert.MergeReference.Facts) (hMergeReferenceIdeal : Cert.MergeReferenceIdeal.Facts) (hMlp : Cert.Mlp.Facts) (hMlpIdeal : Cert.MlpIdeal.Facts) (hMlpReference : Cert.MlpReference.Facts) (hMlpReferenceIdeal : Cert.MlpReferenceIdeal.Facts) (hBackMlp : Cert.BackMlp.Facts) (hBackMlpIdeal : Cert.BackMlpIdeal.Facts) (hBackMlpReference : Cert.BackMlpReference.Facts) (hBackMlpReferenceIdeal : Cert.BackMlpReferenceIdeal.Facts) (hGating : Cert.Gating.Facts) (hGatingIdeal : Cert.GatingIdeal.Facts) (hGatingReference : Cert.GatingReference.Facts) (hGatingReferenceIdeal : Cert.GatingReferenceIdeal.Facts),
    quiescent_Share (hShare := hShare)
    ∧ quiescent_ShareIdeal (hShareIdeal := hShareIdeal)
    ∧ quiescent_ShareReference (hShareReference := hShareReference)
    ∧ quiescent_ShareReferenceIdeal (hShareReferenceIdeal := hShareReferenceIdeal)
    ∧ quiescent_Exchange (hExchange := hExchange)
    ∧ quiescent_ExchangeIdeal (hExchangeIdeal := hExchangeIdeal)
    ∧ quiescent_ExchangeReference (hExchangeReference := hExchangeReference)
    ∧ quiescent_ExchangeReferenceIdeal (hExchangeReferenceIdeal := hExchangeReferenceIdeal)
    ∧ quiescent_Halves (hHalves := hHalves)
    ∧ quiescent_HalvesIdeal (hHalvesIdeal := hHalvesIdeal)
    ∧ quiescent_HalvesReference (hHalvesReference := hHalvesReference)
    ∧ quiescent_HalvesReferenceIdeal (hHalvesReferenceIdeal := hHalvesReferenceIdeal)
    ∧ quiescent_Gather (hGather := hGather)
    ∧ quiescent_GatherIdeal (hGatherIdeal := hGatherIdeal)
    ∧ quiescent_GatherReference (hGatherReference := hGatherReference)
    ∧ quiescent_GatherReferenceIdeal (hGatherReferenceIdeal := hGatherReferenceIdeal)
    ∧ quiescent_AdamwIn (hAdamwIn := hAdamwIn)
    ∧ quiescent_AdamwInIdeal (hAdamwInIdeal := hAdamwInIdeal)
    ∧ quiescent_AdamwInReference (hAdamwInReference := hAdamwInReference)
    ∧ quiescent_AdamwInReferenceIdeal (hAdamwInReferenceIdeal := hAdamwInReferenceIdeal)
    ∧ quiescent_AdamwGate (hAdamwGate := hAdamwGate)
    ∧ quiescent_AdamwGateIdeal (hAdamwGateIdeal := hAdamwGateIdeal)
    ∧ quiescent_AdamwGateReference (hAdamwGateReference := hAdamwGateReference)
    ∧ quiescent_AdamwGateReferenceIdeal (hAdamwGateReferenceIdeal := hAdamwGateReferenceIdeal)
    ∧ quiescent_AdamwOut (hAdamwOut := hAdamwOut)
    ∧ quiescent_AdamwOutIdeal (hAdamwOutIdeal := hAdamwOutIdeal)
    ∧ quiescent_AdamwOutReference (hAdamwOutReference := hAdamwOutReference)
    ∧ quiescent_AdamwOutReferenceIdeal (hAdamwOutReferenceIdeal := hAdamwOutReferenceIdeal)
    ∧ quiescent_AdamwUp (hAdamwUp := hAdamwUp)
    ∧ quiescent_AdamwUpIdeal (hAdamwUpIdeal := hAdamwUpIdeal)
    ∧ quiescent_AdamwUpReference (hAdamwUpReference := hAdamwUpReference)
    ∧ quiescent_AdamwUpReferenceIdeal (hAdamwUpReferenceIdeal := hAdamwUpReferenceIdeal)
    ∧ quiescent_SmallFirst (hSmallFirst := hSmallFirst)
    ∧ quiescent_SmallFirstIdeal (hSmallFirstIdeal := hSmallFirstIdeal)
    ∧ quiescent_SmallFirstReference (hSmallFirstReference := hSmallFirstReference)
    ∧ quiescent_SmallFirstReferenceIdeal (hSmallFirstReferenceIdeal := hSmallFirstReferenceIdeal)
    ∧ quiescent_SmallNext (hSmallNext := hSmallNext)
    ∧ quiescent_SmallNextIdeal (hSmallNextIdeal := hSmallNextIdeal)
    ∧ quiescent_SmallNextReference (hSmallNextReference := hSmallNextReference)
    ∧ quiescent_SmallNextReferenceIdeal (hSmallNextReferenceIdeal := hSmallNextReferenceIdeal)
    ∧ quiescent_SmallLast (hSmallLast := hSmallLast)
    ∧ quiescent_SmallLastIdeal (hSmallLastIdeal := hSmallLastIdeal)
    ∧ quiescent_SmallLastReference (hSmallLastReference := hSmallLastReference)
    ∧ quiescent_SmallLastReferenceIdeal (hSmallLastReferenceIdeal := hSmallLastReferenceIdeal)
    ∧ quiescent_ChipSumIn (hChipSumIn := hChipSumIn)
    ∧ quiescent_ChipSumInIdeal (hChipSumInIdeal := hChipSumInIdeal)
    ∧ quiescent_ChipSumInReference (hChipSumInReference := hChipSumInReference)
    ∧ quiescent_ChipSumInReferenceIdeal (hChipSumInReferenceIdeal := hChipSumInReferenceIdeal)
    ∧ quiescent_ChipSumGate (hChipSumGate := hChipSumGate)
    ∧ quiescent_ChipSumGateIdeal (hChipSumGateIdeal := hChipSumGateIdeal)
    ∧ quiescent_ChipSumGateReference (hChipSumGateReference := hChipSumGateReference)
    ∧ quiescent_ChipSumGateReferenceIdeal (hChipSumGateReferenceIdeal := hChipSumGateReferenceIdeal)
    ∧ quiescent_ChipSumOut (hChipSumOut := hChipSumOut)
    ∧ quiescent_ChipSumOutIdeal (hChipSumOutIdeal := hChipSumOutIdeal)
    ∧ quiescent_ChipSumOutReference (hChipSumOutReference := hChipSumOutReference)
    ∧ quiescent_ChipSumOutReferenceIdeal (hChipSumOutReferenceIdeal := hChipSumOutReferenceIdeal)
    ∧ quiescent_ChipSumUp (hChipSumUp := hChipSumUp)
    ∧ quiescent_ChipSumUpIdeal (hChipSumUpIdeal := hChipSumUpIdeal)
    ∧ quiescent_ChipSumUpReference (hChipSumUpReference := hChipSumUpReference)
    ∧ quiescent_ChipSumUpReferenceIdeal (hChipSumUpReferenceIdeal := hChipSumUpReferenceIdeal)
    ∧ quiescent_GradIn (hGradIn := hGradIn)
    ∧ quiescent_GradInIdeal (hGradInIdeal := hGradInIdeal)
    ∧ quiescent_GradInReference (hGradInReference := hGradInReference)
    ∧ quiescent_GradInReferenceIdeal (hGradInReferenceIdeal := hGradInReferenceIdeal)
    ∧ quiescent_GradOut (hGradOut := hGradOut)
    ∧ quiescent_GradOutIdeal (hGradOutIdeal := hGradOutIdeal)
    ∧ quiescent_GradOutReference (hGradOutReference := hGradOutReference)
    ∧ quiescent_GradOutReferenceIdeal (hGradOutReferenceIdeal := hGradOutReferenceIdeal)
    ∧ quiescent_GradUp (hGradUp := hGradUp)
    ∧ quiescent_GradUpIdeal (hGradUpIdeal := hGradUpIdeal)
    ∧ quiescent_GradUpReference (hGradUpReference := hGradUpReference)
    ∧ quiescent_GradUpReferenceIdeal (hGradUpReferenceIdeal := hGradUpReferenceIdeal)
    ∧ quiescent_GradDown (hGradDown := hGradDown)
    ∧ quiescent_GradDownIdeal (hGradDownIdeal := hGradDownIdeal)
    ∧ quiescent_GradDownReference (hGradDownReference := hGradDownReference)
    ∧ quiescent_GradDownReferenceIdeal (hGradDownReferenceIdeal := hGradDownReferenceIdeal)
    ∧ quiescent_BackIn (hBackIn := hBackIn)
    ∧ quiescent_BackInIdeal (hBackInIdeal := hBackInIdeal)
    ∧ quiescent_BackInReference (hBackInReference := hBackInReference)
    ∧ quiescent_BackInReferenceIdeal (hBackInReferenceIdeal := hBackInReferenceIdeal)
    ∧ quiescent_ForwardIn (hForwardIn := hForwardIn)
    ∧ quiescent_ForwardInIdeal (hForwardInIdeal := hForwardInIdeal)
    ∧ quiescent_ForwardInReference (hForwardInReference := hForwardInReference)
    ∧ quiescent_ForwardInReferenceIdeal (hForwardInReferenceIdeal := hForwardInReferenceIdeal)
    ∧ quiescent_Merge (hMerge := hMerge)
    ∧ quiescent_MergeIdeal (hMergeIdeal := hMergeIdeal)
    ∧ quiescent_MergeReference (hMergeReference := hMergeReference)
    ∧ quiescent_MergeReferenceIdeal (hMergeReferenceIdeal := hMergeReferenceIdeal)
    ∧ quiescent_Mlp (hMlp := hMlp)
    ∧ quiescent_MlpIdeal (hMlpIdeal := hMlpIdeal)
    ∧ quiescent_MlpReference (hMlpReference := hMlpReference)
    ∧ quiescent_MlpReferenceIdeal (hMlpReferenceIdeal := hMlpReferenceIdeal)
    ∧ quiescent_BackMlp (hBackMlp := hBackMlp)
    ∧ quiescent_BackMlpIdeal (hBackMlpIdeal := hBackMlpIdeal)
    ∧ quiescent_BackMlpReference (hBackMlpReference := hBackMlpReference)
    ∧ quiescent_BackMlpReferenceIdeal (hBackMlpReferenceIdeal := hBackMlpReferenceIdeal)
    ∧ quiescent_Gating (hGating := hGating)
    ∧ quiescent_GatingIdeal (hGatingIdeal := hGatingIdeal)
    ∧ quiescent_GatingReference (hGatingReference := hGatingReference)
    ∧ quiescent_GatingReferenceIdeal (hGatingReferenceIdeal := hGatingReferenceIdeal)
    ∧ preserves_Share_ShareIdeal
    ∧ algebraic_ShareIdeal_ShareReferenceIdeal (hShareIdeal := hShareIdeal) (hShareReferenceIdeal := hShareReferenceIdeal)
    ∧ bitexact_Share_ShareReference (hShare := hShare) (hShareReference := hShareReference)
    ∧ preserves_Exchange_ExchangeIdeal
    ∧ algebraic_ExchangeIdeal_ExchangeReferenceIdeal (hExchangeIdeal := hExchangeIdeal) (hExchangeReferenceIdeal := hExchangeReferenceIdeal)
    ∧ bitexact_Exchange_ExchangeReference (hExchange := hExchange) (hExchangeReference := hExchangeReference)
    ∧ preserves_Halves_HalvesIdeal
    ∧ algebraic_HalvesIdeal_HalvesReferenceIdeal (hHalvesIdeal := hHalvesIdeal) (hHalvesReferenceIdeal := hHalvesReferenceIdeal)
    ∧ bitexact_Halves_HalvesReference (hHalves := hHalves) (hHalvesReference := hHalvesReference)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AdamwGate_AdamwGateIdeal
    ∧ algebraic_AdamwGateIdeal_AdamwGateReferenceIdeal (hAdamwGateIdeal := hAdamwGateIdeal) (hAdamwGateReferenceIdeal := hAdamwGateReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwUp_AdamwUpIdeal
    ∧ algebraic_AdamwUpIdeal_AdamwUpReferenceIdeal (hAdamwUpIdeal := hAdamwUpIdeal) (hAdamwUpReferenceIdeal := hAdamwUpReferenceIdeal)
    ∧ preserves_SmallFirst_SmallFirstIdeal
    ∧ algebraic_SmallFirstIdeal_SmallFirstReferenceIdeal (hSmallFirstIdeal := hSmallFirstIdeal) (hSmallFirstReferenceIdeal := hSmallFirstReferenceIdeal)
    ∧ preserves_SmallNext_SmallNextIdeal
    ∧ algebraic_SmallNextIdeal_SmallNextReferenceIdeal (hSmallNextIdeal := hSmallNextIdeal) (hSmallNextReferenceIdeal := hSmallNextReferenceIdeal)
    ∧ preserves_SmallLast_SmallLastIdeal
    ∧ algebraic_SmallLastIdeal_SmallLastReferenceIdeal (hSmallLastIdeal := hSmallLastIdeal) (hSmallLastReferenceIdeal := hSmallLastReferenceIdeal)
    ∧ preserves_ChipSumIn_ChipSumInIdeal
    ∧ algebraic_ChipSumInIdeal_ChipSumInReferenceIdeal (hChipSumInIdeal := hChipSumInIdeal) (hChipSumInReferenceIdeal := hChipSumInReferenceIdeal)
    ∧ preserves_ChipSumGate_ChipSumGateIdeal
    ∧ algebraic_ChipSumGateIdeal_ChipSumGateReferenceIdeal (hChipSumGateIdeal := hChipSumGateIdeal) (hChipSumGateReferenceIdeal := hChipSumGateReferenceIdeal)
    ∧ preserves_ChipSumOut_ChipSumOutIdeal
    ∧ algebraic_ChipSumOutIdeal_ChipSumOutReferenceIdeal (hChipSumOutIdeal := hChipSumOutIdeal) (hChipSumOutReferenceIdeal := hChipSumOutReferenceIdeal)
    ∧ preserves_ChipSumUp_ChipSumUpIdeal
    ∧ algebraic_ChipSumUpIdeal_ChipSumUpReferenceIdeal (hChipSumUpIdeal := hChipSumUpIdeal) (hChipSumUpReferenceIdeal := hChipSumUpReferenceIdeal)
    ∧ preserves_GradIn_GradInIdeal
    ∧ algebraic_GradInIdeal_GradInReferenceIdeal (hGradInIdeal := hGradInIdeal) (hGradInReferenceIdeal := hGradInReferenceIdeal)
    ∧ preserves_GradOut_GradOutIdeal
    ∧ algebraic_GradOutIdeal_GradOutReferenceIdeal (hGradOutIdeal := hGradOutIdeal) (hGradOutReferenceIdeal := hGradOutReferenceIdeal)
    ∧ preserves_GradUp_GradUpIdeal
    ∧ algebraic_GradUpIdeal_GradUpReferenceIdeal (hGradUpIdeal := hGradUpIdeal) (hGradUpReferenceIdeal := hGradUpReferenceIdeal)
    ∧ preserves_GradDown_GradDownIdeal
    ∧ algebraic_GradDownIdeal_GradDownReferenceIdeal (hGradDownIdeal := hGradDownIdeal) (hGradDownReferenceIdeal := hGradDownReferenceIdeal)
    ∧ preserves_BackIn_BackInIdeal
    ∧ algebraic_BackInIdeal_BackInReferenceIdeal (hBackInIdeal := hBackInIdeal) (hBackInReferenceIdeal := hBackInReferenceIdeal)
    ∧ preserves_ForwardIn_ForwardInIdeal
    ∧ algebraic_ForwardInIdeal_ForwardInReferenceIdeal (hForwardInIdeal := hForwardInIdeal) (hForwardInReferenceIdeal := hForwardInReferenceIdeal)
    ∧ preserves_Merge_MergeIdeal
    ∧ algebraic_MergeIdeal_MergeReferenceIdeal (hMergeIdeal := hMergeIdeal) (hMergeReferenceIdeal := hMergeReferenceIdeal)
    ∧ preserves_Mlp_MlpIdeal
    ∧ algebraic_MlpIdeal_MlpReferenceIdeal (hMlpIdeal := hMlpIdeal) (hMlpReferenceIdeal := hMlpReferenceIdeal)
    ∧ preserves_BackMlp_BackMlpIdeal
    ∧ algebraic_BackMlpIdeal_BackMlpReferenceIdeal (hBackMlpIdeal := hBackMlpIdeal) (hBackMlpReferenceIdeal := hBackMlpReferenceIdeal)
    ∧ preserves_Gating_GatingIdeal
    ∧ algebraic_GatingIdeal_GatingReferenceIdeal (hGatingIdeal := hGatingIdeal) (hGatingReferenceIdeal := hGatingReferenceIdeal)
-- ==== Share.lean ====
abbrev S512x1536 : Shape := ⟨2, ![512, 1536]⟩
abbrev S128x256 : Shape := ⟨2, ![128, 256]⟩
abbrev S128x1024 : Shape := ⟨2, ![128, 1024]⟩
abbrev S512x1024 : Shape := ⟨2, ![512, 1024]⟩
abbrev S2x512x1536 : Shape := ⟨3, ![2, 512, 1536]⟩
abbrev S2x128x256 : Shape := ⟨3, ![2, 128, 256]⟩
abbrev S2x128x1024 : Shape := ⟨3, ![2, 128, 1024]⟩
abbrev S2x512x1024 : Shape := ⟨3, ![2, 512, 1024]⟩
abbrev S8 : Shape := ⟨1, ![8]⟩
abbrev S1 : Shape := ⟨1, ![1]⟩
abbrev S_ : Shape := ⟨0, ![]⟩
abbrev S1x512x1536 : Shape := ⟨3, ![1, 512, 1536]⟩
abbrev S1x128x256 : Shape := ⟨3, ![1, 128, 256]⟩
abbrev S1x128x1024 : Shape := ⟨3, ![1, 128, 1024]⟩
abbrev S1x512x1024 : Shape := ⟨3, ![1, 512, 1024]⟩

abbrev nBuf : Space → Nat
  | .hbm => 16
  | .vmem => 0
  | .smem => 0
  | _ => 0

abbrev bufTy : (tb : Table) → Fin (tcTables nBuf tb) → BufTy
  | .hbm, ⟨0, _⟩ => ⟨S512x1536, .f32⟩
  | .hbm, ⟨1, _⟩ => ⟨S128x256, .f32⟩
  | .hbm, ⟨2, _⟩ => ⟨S128x256, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S512x1024, .f32⟩
  | .hbm, ⟨7, _⟩ => ⟨S512x1024, .f32⟩
  | .hbm, ⟨8, _⟩ => ⟨S2x512x1536, .f32⟩
  | .hbm, ⟨9, _⟩ => ⟨S2x128x256, .f32⟩
  | .hbm, ⟨10, _⟩ => ⟨S2x128x256, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S2x512x1024, .f32⟩
  | .hbm, ⟨15, _⟩ => ⟨S2x512x1024, .f32⟩
  | _, _ => ⟨S512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_3 : BitVec 32 := 0#32
  let c0_i32_4 : BitVec 32 := 0#32
  ![v8.toNat, 0, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v14 : BitVec 32 := Scalar.muli v2 c4_i32_8
  let v15 : BitVec 32 := Scalar.addi c0_i32_9 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v16 : BitVec 32 := Scalar.muli v5 c2_i32_10
  let v17 : BitVec 32 := Scalar.addi v15 v16
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_11 : BitVec 32 := 1#32
  let v18 : BitVec 32 := Scalar.muli v13 c1_i32_11
  let v19 : BitVec 32 := Scalar.addi v17 v18
  v19.toNat
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let c0_i32_16 : BitVec 32 := 0#32
  ![v8.toNat, 0, 0]
def k0_dev2 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v31 : BitVec 32 := Scalar.muli v2 c4_i32_20
  let v32 : BitVec 32 := Scalar.addi c0_i32_21 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v33 : BitVec 32 := Scalar.muli v5 c2_i32_22
  let v34 : BitVec 32 := Scalar.addi v32 v33
  let c1_i32_17 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v30 : BitVec 32 := Scalar.subi c1_i32_17 v8
  let c1_i32_23 : BitVec 32 := 1#32
  let v35 : BitVec 32 := Scalar.muli v30 c1_i32_23
  let v36 : BitVec 32 := Scalar.addi v34 v35
  v36.toNat
def k0_dev3 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v48 : BitVec 32 := Scalar.muli v2 c4_i32_32
  let v49 : BitVec 32 := Scalar.addi c0_i32_33 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v50 : BitVec 32 := Scalar.muli v5 c2_i32_34
  let v51 : BitVec 32 := Scalar.addi v49 v50
  let c1_i32_29 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_29 v8
  let c1_i32_35 : BitVec 32 := 1#32
  let v52 : BitVec 32 := Scalar.muli v47 c1_i32_35
  let v53 : BitVec 32 := Scalar.addi v51 v52
  v53.toNat
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_38 : BitVec 32 := 0#32
  let c0_i32_39 : BitVec 32 := 0#32
  ![v8.toNat, 0, 0]
def k0_dev4 (d0 : Dev nD) : Nat :=
  let c0_i32_44 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_43 : BitVec 32 := 4#32
  let v65 : BitVec 32 := Scalar.muli v2 c4_i32_43
  let v66 : BitVec 32 := Scalar.addi c0_i32_44 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v67 : BitVec 32 := Scalar.muli v5 c2_i32_45
  let v68 : BitVec 32 := Scalar.addi v66 v67
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v64 : BitVec 32 := Scalar.subi c1_i32_40 v8
  let c1_i32_46 : BitVec 32 := 1#32
  let v69 : BitVec 32 := Scalar.muli v64 c1_i32_46
  let v70 : BitVec 32 := Scalar.addi v68 v69
  v70.toNat
def k0_dev5 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v82 : BitVec 32 := Scalar.muli v2 c4_i32_55
  let v83 : BitVec 32 := Scalar.addi c0_i32_56 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v84 : BitVec 32 := Scalar.muli v5 c2_i32_57
  let v85 : BitVec 32 := Scalar.addi v83 v84
  let c1_i32_52 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.subi c1_i32_52 v8
  let c1_i32_58 : BitVec 32 := 1#32
  let v86 : BitVec 32 := Scalar.muli v81 c1_i32_58
  let v87 : BitVec 32 := Scalar.addi v85 v86
  v87.toNat
def k0_dev6 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v99 : BitVec 32 := Scalar.muli v2 c4_i32_66
  let v100 : BitVec 32 := Scalar.addi c0_i32_67 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_68 : BitVec 32 := 2#32
  let v101 : BitVec 32 := Scalar.muli v5 c2_i32_68
  let v102 : BitVec 32 := Scalar.addi v100 v101
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v98 : BitVec 32 := Scalar.subi c1_i32_63 v8
  let c1_i32_69 : BitVec 32 := 1#32
  let v103 : BitVec 32 := Scalar.muli v98 c1_i32_69
  let v104 : BitVec 32 := Scalar.addi v102 v103
  v104.toNat
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_72 : BitVec 32 := 0#32
  let c0_i32_73 : BitVec 32 := 0#32
  ![v8.toNat, 0, 0]
def k0_dev7 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v116 : BitVec 32 := Scalar.muli v2 c4_i32_77
  let v117 : BitVec 32 := Scalar.addi c0_i32_78 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v118 : BitVec 32 := Scalar.muli v5 c2_i32_79
  let v119 : BitVec 32 := Scalar.addi v117 v118
  let c1_i32_74 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.subi c1_i32_74 v8
  let c1_i32_80 : BitVec 32 := 1#32
  let v120 : BitVec 32 := Scalar.muli v115 c1_i32_80
  let v121 : BitVec 32 := Scalar.addi v119 v120
  v121.toNat
def k0_dev8 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v133 : BitVec 32 := Scalar.muli v2 c4_i32_88
  let v134 : BitVec 32 := Scalar.addi c0_i32_89 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v135 : BitVec 32 := Scalar.muli v5 c2_i32_90
  let v136 : BitVec 32 := Scalar.addi v134 v135
  let c1_i32_85 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v132 : BitVec 32 := Scalar.subi c1_i32_85 v8
  let c1_i32_91 : BitVec 32 := 1#32
  let v137 : BitVec 32 := Scalar.muli v132 c1_i32_91
  let v138 : BitVec 32 := Scalar.addi v136 v137
  v138.toNat
def k0_off5 (d0 : Dev nD) : Fin 3 → Nat :=
  let c1_i32_94 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v145 : BitVec 32 := Scalar.subi c1_i32_94 v8
  let c0_i32_102 : BitVec 32 := 0#32
  let c0_i32_103 : BitVec 32 := 0#32
  ![v145.toNat, 0, 0]
def k0_off6 (d0 : Dev nD) : Fin 3 → Nat :=
  let c1_i32_104 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v157 : BitVec 32 := Scalar.subi c1_i32_104 v8
  let c0_i32_112 : BitVec 32 := 0#32
  let c0_i32_113 : BitVec 32 := 0#32
  ![v157.toNat, 0, 0]
def k0_off7 (d0 : Dev nD) : Fin 3 → Nat :=
  let c1_i32_124 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v181 : BitVec 32 := Scalar.subi c1_i32_124 v8
  let c0_i32_132 : BitVec 32 := 0#32
  let c0_i32_133 : BitVec 32 := 0#32
  ![v181.toNat, 0, 0]
def k0_off8 (d0 : Dev nD) : Fin 3 → Nat :=
  let c1_i32_154 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v217 : BitVec 32 := Scalar.subi c1_i32_154 v8
  let c0_i32_162 : BitVec 32 := 0#32
  let c0_i32_163 : BitVec 32 := 0#32
  ![v217.toNat, 0, 0]
-- ==== ShareReference.lean ====
abbrev S4096x1536 : Shape := ⟨2, ![4096, 1536]⟩
abbrev S1024x256 : Shape := ⟨2, ![1024, 256]⟩
abbrev S1024x1024 : Shape := ⟨2, ![1024, 1024]⟩
abbrev S4096x1024 : Shape := ⟨2, ![4096, 1024]⟩
abbrev S8x512x1536 : Shape := ⟨3, ![8, 512, 1536]⟩
abbrev S8x128x256 : Shape := ⟨3, ![8, 128, 256]⟩
abbrev S8x128x1024 : Shape := ⟨3, ![8, 128, 1024]⟩
abbrev S8x512x1024 : Shape := ⟨3, ![8, 512, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1024x256, .f32⟩
  | .hbm, ⟨2, _⟩ => ⟨S1024x256, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S8x512x1536, .f32⟩
  | .hbm, ⟨9, _⟩ => ⟨S8x128x256, .f32⟩
  | .hbm, ⟨10, _⟩ => ⟨S8x128x256, .f32⟩
  | .hbm, ⟨11, _⟩ => ⟨S8x128x1024, .f32⟩
  | .hbm, ⟨12, _⟩ => ⟨S8x128x1024, .f32⟩
  | .hbm, ⟨13, _⟩ => ⟨S8x128x1024, .f32⟩
  | .hbm, ⟨14, _⟩ => ⟨S8x512x1024, .f32⟩
  | .hbm, ⟨15, _⟩ => ⟨S8x512x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Exchange.lean ====
abbrev S4x512x1536 : Shape := ⟨3, ![4, 512, 1536]⟩
abbrev S4x128x256 : Shape := ⟨3, ![4, 128, 256]⟩
abbrev S4x128x1024 : Shape := ⟨3, ![4, 128, 1024]⟩
abbrev S4x512x1024 : Shape := ⟨3, ![4, 512, 1024]⟩
abbrev S24 : Shape := ⟨1, ![24]⟩
abbrev S8 : Shape := ⟨1, ![8]⟩
abbrev S1 : Shape := ⟨1, ![1]⟩
abbrev S_ : Shape := ⟨0, ![]⟩
abbrev S1x512x1536 : Shape := ⟨3, ![1, 512, 1536]⟩
abbrev S512x1536 : Shape := ⟨2, ![512, 1536]⟩
abbrev S1x128x256 : Shape := ⟨3, ![1, 128, 256]⟩
abbrev S128x256 : Shape := ⟨2, ![128, 256]⟩
abbrev S1x128x1024 : Shape := ⟨3, ![1, 128, 1024]⟩
abbrev S128x1024 : Shape := ⟨2, ![128, 1024]⟩
abbrev S1x512x1024 : Shape := ⟨3, ![1, 512, 1024]⟩
abbrev S512x1024 : Shape := ⟨2, ![512, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x512x1536, .bf16⟩
  | .hbm, ⟨1, _⟩ => ⟨S4x128x256, .bf16⟩
  | .hbm, ⟨2, _⟩ => ⟨S4x128x256, .bf16⟩
  | .hbm, ⟨3, _⟩ => ⟨S4x128x1024, .bf16⟩
  | .hbm, ⟨4, _⟩ => ⟨S4x128x1024, .bf16⟩
  | .hbm, ⟨5, _⟩ => ⟨S4x128x1024, .bf16⟩
  | .hbm, ⟨6, _⟩ => ⟨S4x512x1024, .bf16⟩
  | .hbm, ⟨7, _⟩ => ⟨S4x512x1024, .bf16⟩
  | .hbm, ⟨8, _⟩ => ⟨S4x512x1536, .bf16⟩
  | .hbm, ⟨9, _⟩ => ⟨S4x128x256, .bf16⟩
  | .hbm, ⟨10, _⟩ => ⟨S4x128x256, .bf16⟩
  | .hbm, ⟨11, _⟩ => ⟨S4x128x1024, .bf16⟩
  | .hbm, ⟨12, _⟩ => ⟨S4x128x1024, .bf16⟩
  | .hbm, ⟨13, _⟩ => ⟨S4x128x1024, .bf16⟩
  | .hbm, ⟨14, _⟩ => ⟨S4x512x1024, .bf16⟩
  | .hbm, ⟨15, _⟩ => ⟨S4x512x1024, .bf16⟩
  | _, _ => ⟨S4x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_8 : BitVec 32 := 0#32
  let c0_i32_9 : BitVec 32 := 0#32
  ![v14.toNat, 0, 0]
def k0_off2 (d0 : Dev nD) : Fin 3 → Nat :=
  let c2_i32_12 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v21 : BitVec 32 := Scalar.muli c2_i32_12 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.addi v21 v5
  let c0_i32_21 : BitVec 32 := 0#32
  let c0_i32_22 : BitVec 32 := 0#32
  ![v22.toNat, 0, 0]
def k0_dev1 (d0 : Dev nD) : Nat :=
  let c0_i32_16 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v23 : BitVec 32 := Scalar.muli v9 c4_i32_15
  let v24 : BitVec 32 := Scalar.addi c0_i32_16 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v25 : BitVec 32 := Scalar.muli v5 c2_i32_17
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.muli v8 c1_i32_18
  let v28 : BitVec 32 := Scalar.addi v26 v27
  v28.toNat
def k0_off3 (d0 : Dev nD) : Fin 3 → Nat :=
  let c2_i32_23 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c2_i32_23 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v38 : BitVec 32 := Scalar.addi v37 v10
  let c0_i32_32 : BitVec 32 := 0#32
  let c0_i32_33 : BitVec 32 := 0#32
  ![v38.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_34 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v53 : BitVec 32 := Scalar.muli c2_i32_34 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v54 : BitVec 32 := Scalar.addi v53 v12
  let c0_i32_43 : BitVec 32 := 0#32
  let c0_i32_44 : BitVec 32 := 0#32
  ![v54.toNat, 0, 0]
def k0_dev3 (d0 : Dev nD) : Nat :=
  let c0_i32_38 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_37 : BitVec 32 := 4#32
  let v55 : BitVec 32 := Scalar.muli v11 c4_i32_37
  let v56 : BitVec 32 := Scalar.addi c0_i32_38 v55
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_39 : BitVec 32 := 2#32
  let v57 : BitVec 32 := Scalar.muli v12 c2_i32_39
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v59 : BitVec 32 := Scalar.muli v8 c1_i32_40
  let v60 : BitVec 32 := Scalar.addi v58 v59
  v60.toNat
def k0_off5 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_46 : BitVec 32 := 0#32
  let c0_i32_47 : BitVec 32 := 0#32
  ![v14.toNat, 0, 0]
def k0_off6 (d0 : Dev nD) : Fin 3 → Nat :=
  let c2_i32_50 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v75 : BitVec 32 := Scalar.muli c2_i32_50 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.addi v75 v5
  let c0_i32_58 : BitVec 32 := 0#32
  let c0_i32_59 : BitVec 32 := 0#32
  ![v76.toNat, 0, 0]
def k0_dev4 (d0 : Dev nD) : Nat :=
  let c0_i32_53 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_52 : BitVec 32 := 4#32
  let v77 : BitVec 32 := Scalar.muli v9 c4_i32_52
  let v78 : BitVec 32 := Scalar.addi c0_i32_53 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v79 : BitVec 32 := Scalar.muli v5 c2_i32_54
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v81 : BitVec 32 := Scalar.muli v8 c1_i32_55
  let v82 : BitVec 32 := Scalar.addi v80 v81
  v82.toNat
def k0_off7 (d0 : Dev nD) : Fin 3 → Nat :=
  let c2_i32_60 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v91 : BitVec 32 := Scalar.muli c2_i32_60 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v92 : BitVec 32 := Scalar.addi v91 v10
  let c0_i32_69 : BitVec 32 := 0#32
  let c0_i32_70 : BitVec 32 := 0#32
  ![v92.toNat, 0, 0]
def k0_dev5 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v93 : BitVec 32 := Scalar.muli v2 c4_i32_63
  let v94 : BitVec 32 := Scalar.addi c0_i32_64 v93
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_65 : BitVec 32 := 2#32
  let v95 : BitVec 32 := Scalar.muli v10 c2_i32_65
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v97 : BitVec 32 := Scalar.muli v8 c1_i32_66
  let v98 : BitVec 32 := Scalar.addi v96 v97
  v98.toNat
def k0_off8 (d0 : Dev nD) : Fin 3 → Nat :=
  let c2_i32_71 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v107 : BitVec 32 := Scalar.muli c2_i32_71 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v108 : BitVec 32 := Scalar.addi v107 v12
  let c0_i32_79 : BitVec 32 := 0#32
  let c0_i32_80 : BitVec 32 := 0#32
  ![v108.toNat, 0, 0]
def k0_dev6 (d0 : Dev nD) : Nat :=
  let c0_i32_74 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_73 : BitVec 32 := 4#32
  let v109 : BitVec 32 := Scalar.muli v11 c4_i32_73
  let v110 : BitVec 32 := Scalar.addi c0_i32_74 v109
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_75 : BitVec 32 := 2#32
  let v111 : BitVec 32 := Scalar.muli v12 c2_i32_75
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v113 : BitVec 32 := Scalar.muli v8 c1_i32_76
  let v114 : BitVec 32 := Scalar.addi v112 v113
  v114.toNat
def k0_dev7 (d0 : Dev nD) : Nat :=
  let c0_i32_89 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_88 : BitVec 32 := 4#32
  let v131 : BitVec 32 := Scalar.muli v9 c4_i32_88
  let v132 : BitVec 32 := Scalar.addi c0_i32_89 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v133 : BitVec 32 := Scalar.muli v5 c2_i32_90
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v135 : BitVec 32 := Scalar.muli v8 c1_i32_91
  let v136 : BitVec 32 := Scalar.addi v134 v135
  v136.toNat
def k0_dev8 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v147 : BitVec 32 := Scalar.muli v2 c4_i32_98
  let v148 : BitVec 32 := Scalar.addi c0_i32_99 v147
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_100 : BitVec 32 := 2#32
  let v149 : BitVec 32 := Scalar.muli v10 c2_i32_100
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v151 : BitVec 32 := Scalar.muli v8 c1_i32_101
  let v152 : BitVec 32 := Scalar.addi v150 v151
  v152.toNat
def k0_dev9 (d0 : Dev nD) : Nat :=
  let c0_i32_109 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_108 : BitVec 32 := 4#32
  let v163 : BitVec 32 := Scalar.muli v11 c4_i32_108
  let v164 : BitVec 32 := Scalar.addi c0_i32_109 v163
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_110 : BitVec 32 := 2#32
  let v165 : BitVec 32 := Scalar.muli v12 c2_i32_110
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v167 : BitVec 32 := Scalar.muli v8 c1_i32_111
  let v168 : BitVec 32 := Scalar.addi v166 v167
  v168.toNat
def k0_off9 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_117 : BitVec 32 := 0#32
  let c0_i32_118 : BitVec 32 := 0#32
  ![v14.toNat, 0, 0]
def k0_off10 (d0 : Dev nD) : Fin 3 → Nat :=
  let c2_i32_121 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v183 : BitVec 32 := Scalar.muli c2_i32_121 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v184 : BitVec 32 := Scalar.addi v183 v5
  let c0_i32_129 : BitVec 32 := 0#32
  let c0_i32_130 : BitVec 32 := 0#32
  ![v184.toNat, 0, 0]
def k0_dev10 (d0 : Dev nD) : Nat :=
  let c0_i32_124 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_123 : BitVec 32 := 4#32
  let v185 : BitVec 32 := Scalar.muli v9 c4_i32_123
  let v186 : BitVec 32 := Scalar.addi c0_i32_124 v185
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_125 : BitVec 32 := 2#32
  let v187 : BitVec 32 := Scalar.muli v5 c2_i32_125
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v189 : BitVec 32 := Scalar.muli v8 c1_i32_126
  let v190 : BitVec 32 := Scalar.addi v188 v189
  v190.toNat
def k0_off11 (d0 : Dev nD) : Fin 3 → Nat :=
  let c2_i32_131 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v199 : BitVec 32 := Scalar.muli c2_i32_131 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v200 : BitVec 32 := Scalar.addi v199 v10
  let c0_i32_139 : BitVec 32 := 0#32
  let c0_i32_140 : BitVec 32 := 0#32
  ![v200.toNat, 0, 0]
def k0_dev11 (d0 : Dev nD) : Nat :=
  let c0_i32_134 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_133 : BitVec 32 := 4#32
  let v201 : BitVec 32 := Scalar.muli v2 c4_i32_133
  let v202 : BitVec 32 := Scalar.addi c0_i32_134 v201
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_135 : BitVec 32 := 2#32
  let v203 : BitVec 32 := Scalar.muli v10 c2_i32_135
  let v204 : BitVec 32 := Scalar.addi v202 v203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v205 : BitVec 32 := Scalar.muli v8 c1_i32_136
  let v206 : BitVec 32 := Scalar.addi v204 v205
  v206.toNat
def k0_off12 (d0 : Dev nD) : Fin 3 → Nat :=
  let c2_i32_141 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v215 : BitVec 32 := Scalar.muli c2_i32_141 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v216 : BitVec 32 := Scalar.addi v215 v12
  let c0_i32_149 : BitVec 32 := 0#32
  let c0_i32_150 : BitVec 32 := 0#32
  ![v216.toNat, 0, 0]
def k0_dev12 (d0 : Dev nD) : Nat :=
  let c0_i32_144 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_143 : BitVec 32 := 4#32
  let v217 : BitVec 32 := Scalar.muli v11 c4_i32_143
  let v218 : BitVec 32 := Scalar.addi c0_i32_144 v217
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_145 : BitVec 32 := 2#32
  let v219 : BitVec 32 := Scalar.muli v12 c2_i32_145
  let v220 : BitVec 32 := Scalar.addi v218 v219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v221 : BitVec 32 := Scalar.muli v8 c1_i32_146
  let v222 : BitVec 32 := Scalar.addi v220 v221
  v222.toNat
def k0_dev13 (d0 : Dev nD) : Nat :=
  let c0_i32_159 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_158 : BitVec 32 := 4#32
  let v239 : BitVec 32 := Scalar.muli v9 c4_i32_158
  let v240 : BitVec 32 := Scalar.addi c0_i32_159 v239
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_160 : BitVec 32 := 2#32
  let v241 : BitVec 32 := Scalar.muli v5 c2_i32_160
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_161 : BitVec 32 := 1#32
  let v243 : BitVec 32 := Scalar.muli v8 c1_i32_161
  let v244 : BitVec 32 := Scalar.addi v242 v243
  v244.toNat
def k0_dev14 (d0 : Dev nD) : Nat :=
  let c0_i32_169 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_168 : BitVec 32 := 4#32
  let v255 : BitVec 32 := Scalar.muli v2 c4_i32_168
  let v256 : BitVec 32 := Scalar.addi c0_i32_169 v255
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_170 : BitVec 32 := 2#32
  let v257 : BitVec 32 := Scalar.muli v10 c2_i32_170
  let v258 : BitVec 32 := Scalar.addi v256 v257
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_171 : BitVec 32 := 1#32
  let v259 : BitVec 32 := Scalar.muli v8 c1_i32_171
  let v260 : BitVec 32 := Scalar.addi v258 v259
  v260.toNat
def k0_dev15 (d0 : Dev nD) : Nat :=
  let c0_i32_179 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_178 : BitVec 32 := 4#32
  let v271 : BitVec 32 := Scalar.muli v11 c4_i32_178
  let v272 : BitVec 32 := Scalar.addi c0_i32_179 v271
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_180 : BitVec 32 := 2#32
  let v273 : BitVec 32 := Scalar.muli v12 c2_i32_180
  let v274 : BitVec 32 := Scalar.addi v272 v273
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_181 : BitVec 32 := 1#32
  let v275 : BitVec 32 := Scalar.muli v8 c1_i32_181
  let v276 : BitVec 32 := Scalar.addi v274 v275
  v276.toNat
def k0_dev16 (d0 : Dev nD) : Nat :=
  let c0_i32_194 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_193 : BitVec 32 := 4#32
  let v293 : BitVec 32 := Scalar.muli v9 c4_i32_193
  let v294 : BitVec 32 := Scalar.addi c0_i32_194 v293
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_195 : BitVec 32 := 2#32
  let v295 : BitVec 32 := Scalar.muli v5 c2_i32_195
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v297 : BitVec 32 := Scalar.muli v8 c1_i32_196
  let v298 : BitVec 32 := Scalar.addi v296 v297
  v298.toNat
def k0_dev17 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v309 : BitVec 32 := Scalar.muli v2 c4_i32_203
  let v310 : BitVec 32 := Scalar.addi c0_i32_204 v309
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_205 : BitVec 32 := 2#32
  let v311 : BitVec 32 := Scalar.muli v10 c2_i32_205
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v313 : BitVec 32 := Scalar.muli v8 c1_i32_206
  let v314 : BitVec 32 := Scalar.addi v312 v313
  v314.toNat
def k0_dev18 (d0 : Dev nD) : Nat :=
  let c0_i32_214 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_213 : BitVec 32 := 4#32
  let v325 : BitVec 32 := Scalar.muli v11 c4_i32_213
  let v326 : BitVec 32 := Scalar.addi c0_i32_214 v325
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_215 : BitVec 32 := 2#32
  let v327 : BitVec 32 := Scalar.muli v12 c2_i32_215
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_216 : BitVec 32 := 1#32
  let v329 : BitVec 32 := Scalar.muli v8 c1_i32_216
  let v330 : BitVec 32 := Scalar.addi v328 v329
  v330.toNat
def k0_off13 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_222 : BitVec 32 := 0#32
  let c0_i32_223 : BitVec 32 := 0#32
  ![v14.toNat, 0, 0]
def k0_off14 (d0 : Dev nD) : Fin 3 → Nat :=
  let c2_i32_226 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v345 : BitVec 32 := Scalar.muli c2_i32_226 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v346 : BitVec 32 := Scalar.addi v345 v5
  let c0_i32_234 : BitVec 32 := 0#32
  let c0_i32_235 : BitVec 32 := 0#32
  ![v346.toNat, 0, 0]
def k0_dev19 (d0 : Dev nD) : Nat :=
  let c0_i32_229 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_228 : BitVec 32 := 4#32
  let v347 : BitVec 32 := Scalar.muli v9 c4_i32_228
  let v348 : BitVec 32 := Scalar.addi c0_i32_229 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_230 : BitVec 32 := 2#32
  let v349 : BitVec 32 := Scalar.muli v5 c2_i32_230
  let v350 : BitVec 32 := Scalar.addi v348 v349
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v351 : BitVec 32 := Scalar.muli v8 c1_i32_231
  let v352 : BitVec 32 := Scalar.addi v350 v351
  v352.toNat
def k0_off15 (d0 : Dev nD) : Fin 3 → Nat :=
  let c2_i32_236 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v361 : BitVec 32 := Scalar.muli c2_i32_236 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v362 : BitVec 32 := Scalar.addi v361 v10
  let c0_i32_244 : BitVec 32 := 0#32
  let c0_i32_245 : BitVec 32 := 0#32
  ![v362.toNat, 0, 0]
def k0_dev20 (d0 : Dev nD) : Nat :=
  let c0_i32_239 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_238 : BitVec 32 := 4#32
  let v363 : BitVec 32 := Scalar.muli v2 c4_i32_238
  let v364 : BitVec 32 := Scalar.addi c0_i32_239 v363
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_240 : BitVec 32 := 2#32
  let v365 : BitVec 32 := Scalar.muli v10 c2_i32_240
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_241 : BitVec 32 := 1#32
  let v367 : BitVec 32 := Scalar.muli v8 c1_i32_241
  let v368 : BitVec 32 := Scalar.addi v366 v367
  v368.toNat
def k0_off16 (d0 : Dev nD) : Fin 3 → Nat :=
  let c2_i32_246 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v377 : BitVec 32 := Scalar.muli c2_i32_246 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v378 : BitVec 32 := Scalar.addi v377 v12
  let c0_i32_254 : BitVec 32 := 0#32
  let c0_i32_255 : BitVec 32 := 0#32
  ![v378.toNat, 0, 0]
def k0_dev21 (d0 : Dev nD) : Nat :=
  let c0_i32_249 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_248 : BitVec 32 := 4#32
  let v379 : BitVec 32 := Scalar.muli v11 c4_i32_248
  let v380 : BitVec 32 := Scalar.addi c0_i32_249 v379
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_250 : BitVec 32 := 2#32
  let v381 : BitVec 32 := Scalar.muli v12 c2_i32_250
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_251 : BitVec 32 := 1#32
  let v383 : BitVec 32 := Scalar.muli v8 c1_i32_251
  let v384 : BitVec 32 := Scalar.addi v382 v383
  v384.toNat
def k0_dev22 (d0 : Dev nD) : Nat :=
  let c0_i32_264 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_263 : BitVec 32 := 4#32
  let v401 : BitVec 32 := Scalar.muli v9 c4_i32_263
  let v402 : BitVec 32 := Scalar.addi c0_i32_264 v401
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v403 : BitVec 32 := Scalar.muli v5 c2_i32_265
  let v404 : BitVec 32 := Scalar.addi v402 v403
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v405 : BitVec 32 := Scalar.muli v8 c1_i32_266
  let v406 : BitVec 32 := Scalar.addi v404 v405
  v406.toNat
def k0_dev23 (d0 : Dev nD) : Nat :=
  let c0_i32_274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_273 : BitVec 32 := 4#32
  let v417 : BitVec 32 := Scalar.muli v2 c4_i32_273
  let v418 : BitVec 32 := Scalar.addi c0_i32_274 v417
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_275 : BitVec 32 := 2#32
  let v419 : BitVec 32 := Scalar.muli v10 c2_i32_275
  let v420 : BitVec 32 := Scalar.addi v418 v419
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_276 : BitVec 32 := 1#32
  let v421 : BitVec 32 := Scalar.muli v8 c1_i32_276
  let v422 : BitVec 32 := Scalar.addi v420 v421
  v422.toNat
def k0_dev24 (d0 : Dev nD) : Nat :=
  let c0_i32_284 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_283 : BitVec 32 := 4#32
  let v433 : BitVec 32 := Scalar.muli v11 c4_i32_283
  let v434 : BitVec 32 := Scalar.addi c0_i32_284 v433
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_285 : BitVec 32 := 2#32
  let v435 : BitVec 32 := Scalar.muli v12 c2_i32_285
  let v436 : BitVec 32 := Scalar.addi v434 v435
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_286 : BitVec 32 := 1#32
  let v437 : BitVec 32 := Scalar.muli v8 c1_i32_286
  let v438 : BitVec 32 := Scalar.addi v436 v437
  v438.toNat
-- ==== ExchangeReference.lean ====
abbrev S32x512x1536 : Shape := ⟨3, ![32, 512, 1536]⟩
abbrev S32x128x256 : Shape := ⟨3, ![32, 128, 256]⟩
abbrev S32x128x1024 : Shape := ⟨3, ![32, 128, 1024]⟩
abbrev S32x512x1024 : Shape := ⟨3, ![32, 512, 1024]⟩
abbrev S4x2x4x512x1536 : Shape := ⟨5, ![4, 2, 4, 512, 1536]⟩
abbrev S4x2x4x128x256 : Shape := ⟨5, ![4, 2, 4, 128, 256]⟩
abbrev S4x2x4x128x1024 : Shape := ⟨5, ![4, 2, 4, 128, 1024]⟩
abbrev S4x2x4x512x1024 : Shape := ⟨5, ![4, 2, 4, 512, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32x512x1536, .bf16⟩
  | .hbm, ⟨1, _⟩ => ⟨S32x128x256, .bf16⟩
  | .hbm, ⟨2, _⟩ => ⟨S32x128x256, .bf16⟩
  | .hbm, ⟨3, _⟩ => ⟨S32x128x1024, .bf16⟩
  | .hbm, ⟨4, _⟩ => ⟨S32x128x1024, .bf16⟩
  | .hbm, ⟨5, _⟩ => ⟨S32x128x1024, .bf16⟩
  | .hbm, ⟨6, _⟩ => ⟨S32x512x1024, .bf16⟩
  | .hbm, ⟨7, _⟩ => ⟨S32x512x1024, .bf16⟩
  | .hbm, ⟨8, _⟩ => ⟨S4x2x4x512x1536, .bf16⟩
  | .hbm, ⟨9, _⟩ => ⟨S4x2x4x512x1536, .bf16⟩
  | .hbm, ⟨10, _⟩ => ⟨S32x512x1536, .bf16⟩
  | .hbm, ⟨11, _⟩ => ⟨S4x2x4x128x256, .bf16⟩
  | .hbm, ⟨12, _⟩ => ⟨S4x2x4x128x256, .bf16⟩
  | .hbm, ⟨13, _⟩ => ⟨S32x128x256, .bf16⟩
  | .hbm, ⟨14, _⟩ => ⟨S4x2x4x128x256, .bf16⟩
  | .hbm, ⟨15, _⟩ => ⟨S4x2x4x128x256, .bf16⟩
  | .hbm, ⟨16, _⟩ => ⟨S32x128x256, .bf16⟩
  | .hbm, ⟨17, _⟩ => ⟨S4x2x4x128x1024, .bf16⟩
  | .hbm, ⟨18, _⟩ => ⟨S4x2x4x128x1024, .bf16⟩
  | .hbm, ⟨19, _⟩ => ⟨S32x128x1024, .bf16⟩
  | .hbm, ⟨20, _⟩ => ⟨S4x2x4x128x1024, .bf16⟩
  | .hbm, ⟨21, _⟩ => ⟨S4x2x4x128x1024, .bf16⟩
  | .hbm, ⟨22, _⟩ => ⟨S32x128x1024, .bf16⟩
  | .hbm, ⟨23, _⟩ => ⟨S4x2x4x128x1024, .bf16⟩
  | .hbm, ⟨24, _⟩ => ⟨S4x2x4x128x1024, .bf16⟩
  | .hbm, ⟨25, _⟩ => ⟨S32x128x1024, .bf16⟩
  | .hbm, ⟨26, _⟩ => ⟨S4x2x4x512x1024, .bf16⟩
  | .hbm, ⟨27, _⟩ => ⟨S4x2x4x512x1024, .bf16⟩
  | .hbm, ⟨28, _⟩ => ⟨S32x512x1024, .bf16⟩
  | .hbm, ⟨29, _⟩ => ⟨S4x2x4x512x1024, .bf16⟩
  | .hbm, ⟨30, _⟩ => ⟨S4x2x4x512x1024, .bf16⟩
  | .hbm, ⟨31, _⟩ => ⟨S32x512x1024, .bf16⟩
  | _, _ => ⟨S32x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Halves.lean ====
abbrev S4x1024x1536 : Shape := ⟨3, ![4, 1024, 1536]⟩
abbrev S4x256x256 : Shape := ⟨3, ![4, 256, 256]⟩
abbrev S4x256x1024 : Shape := ⟨3, ![4, 256, 1024]⟩
abbrev S4x1024x1024 : Shape := ⟨3, ![4, 1024, 1024]⟩
abbrev S4x512x1536 : Shape := ⟨3, ![4, 512, 1536]⟩
abbrev S4x128x256 : Shape := ⟨3, ![4, 128, 256]⟩
abbrev S4x128x1024 : Shape := ⟨3, ![4, 128, 1024]⟩
abbrev S4x512x1024 : Shape := ⟨3, ![4, 512, 1024]⟩
abbrev S8 : Shape := ⟨1, ![8]⟩
abbrev S1 : Shape := ⟨1, ![1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x1024x1536, .bf16⟩
  | .hbm, ⟨1, _⟩ => ⟨S4x256x256, .bf16⟩
  | .hbm, ⟨2, _⟩ => ⟨S4x256x256, .bf16⟩
  | .hbm, ⟨3, _⟩ => ⟨S4x256x1024, .bf16⟩
  | .hbm, ⟨4, _⟩ => ⟨S4x256x1024, .bf16⟩
  | .hbm, ⟨5, _⟩ => ⟨S4x256x1024, .bf16⟩
  | .hbm, ⟨6, _⟩ => ⟨S4x1024x1024, .bf16⟩
  | .hbm, ⟨7, _⟩ => ⟨S4x1024x1024, .bf16⟩
  | .hbm, ⟨8, _⟩ => ⟨S4x512x1536, .bf16⟩
  | .hbm, ⟨9, _⟩ => ⟨S4x128x256, .bf16⟩
  | .hbm, ⟨10, _⟩ => ⟨S4x128x256, .bf16⟩
  | .hbm, ⟨11, _⟩ => ⟨S4x128x1024, .bf16⟩
  | .hbm, ⟨12, _⟩ => ⟨S4x128x1024, .bf16⟩
  | .hbm, ⟨13, _⟩ => ⟨S4x128x1024, .bf16⟩
  | .hbm, ⟨14, _⟩ => ⟨S4x512x1024, .bf16⟩
  | .hbm, ⟨15, _⟩ => ⟨S4x512x1024, .bf16⟩
  | _, _ => ⟨S4x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev main_v1_7 : Ref sig .tc := ⟨.hbm, 15, rfl⟩

abbrev nD : Nat := 8
abbrev τ : Topo := Topo.v7x

variable {F : FTy → Type} [FloatOps F]

abbrev grid0 : Pipeline.Grid := .none

def k0_off1 (d0 : Dev nD) : Fin 3 → Nat :=
  let c0_i32_10 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32 : BitVec 32 := 512#32
  let v10 : BitVec 32 := Scalar.muli v9 c512_i32
  let c0_i32_11 : BitVec 32 := 0#32
  ![0, v10.toNat, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32_7 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v14 : BitVec 32 := Scalar.muli v5 c2_i32_8
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_9 : BitVec 32 := 1#32
  let v16 : BitVec 32 := Scalar.muli v11 c1_i32_9
  let v17 : BitVec 32 := Scalar.addi v15 v16
  v17.toNat
def k0_off2 (d0 : Dev nD) : Fin 3 → Nat :=
  let c0_i32_20 : BitVec 32 := 0#32
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c128_i32 : BitVec 32 := 128#32
  let v24 : BitVec 32 := Scalar.muli v23 c128_i32
  let c0_i32_21 : BitVec 32 := 0#32
  ![0, v24.toNat, 0]
def k0_dev2 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v26 : BitVec 32 := Scalar.muli v2 c4_i32_16
  let v27 : BitVec 32 := Scalar.addi c0_i32_17 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v28 : BitVec 32 := Scalar.muli v5 c2_i32_18
  let v29 : BitVec 32 := Scalar.addi v27 v28
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_13 v8
  let c1_i32_19 : BitVec 32 := 1#32
  let v30 : BitVec 32 := Scalar.muli v25 c1_i32_19
  let v31 : BitVec 32 := Scalar.addi v29 v30
  v31.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v40 : BitVec 32 := Scalar.muli v2 c4_i32_27
  let v41 : BitVec 32 := Scalar.addi c0_i32_28 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v42 : BitVec 32 := Scalar.muli v5 c2_i32_29
  let v43 : BitVec 32 := Scalar.addi v41 v42
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_24 v8
  let c1_i32_30 : BitVec 32 := 1#32
  let v44 : BitVec 32 := Scalar.muli v39 c1_i32_30
  let v45 : BitVec 32 := Scalar.addi v43 v44
  v45.toNat
def k0_off3 (d0 : Dev nD) : Fin 3 → Nat :=
  let c0_i32_41 : BitVec 32 := 0#32
  let c1_i32_33 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_33 v8
  let c128_i32_34 : BitVec 32 := 128#32
  let v52 : BitVec 32 := Scalar.muli v51 c128_i32_34
  let c0_i32_42 : BitVec 32 := 0#32
  ![0, v52.toNat, 0]
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v54 : BitVec 32 := Scalar.muli v2 c4_i32_37
  let v55 : BitVec 32 := Scalar.addi c0_i32_38 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v56 : BitVec 32 := Scalar.muli v5 c2_i32_39
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_35 v8
  let c1_i32_40 : BitVec 32 := 1#32
  let v58 : BitVec 32 := Scalar.muli v53 c1_i32_40
  let v59 : BitVec 32 := Scalar.addi v57 v58
  v59.toNat
def k0_dev5 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v68 : BitVec 32 := Scalar.muli v2 c4_i32_48
  let v69 : BitVec 32 := Scalar.addi c0_i32_49 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v70 : BitVec 32 := Scalar.muli v5 c2_i32_50
  let v71 : BitVec 32 := Scalar.addi v69 v70
  let c1_i32_45 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.subi c1_i32_45 v8
  let c1_i32_51 : BitVec 32 := 1#32
  let v72 : BitVec 32 := Scalar.muli v67 c1_i32_51
  let v73 : BitVec 32 := Scalar.addi v71 v72
  v73.toNat
def k0_dev6 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v82 : BitVec 32 := Scalar.muli v2 c4_i32_58
  let v83 : BitVec 32 := Scalar.addi c0_i32_59 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v84 : BitVec 32 := Scalar.muli v5 c2_i32_60
  let v85 : BitVec 32 := Scalar.addi v83 v84
  let c1_i32_56 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v81 : BitVec 32 := Scalar.subi c1_i32_56 v8
  let c1_i32_61 : BitVec 32 := 1#32
  let v86 : BitVec 32 := Scalar.muli v81 c1_i32_61
  let v87 : BitVec 32 := Scalar.addi v85 v86
  v87.toNat
def k0_off4 (d0 : Dev nD) : Fin 3 → Nat :=
  let c0_i32_72 : BitVec 32 := 0#32
  let c1_i32_64 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v93 : BitVec 32 := Scalar.subi c1_i32_64 v8
  let c512_i32_65 : BitVec 32 := 512#32
  let v94 : BitVec 32 := Scalar.muli v93 c512_i32_65
  let c0_i32_73 : BitVec 32 := 0#32
  ![0, v94.toNat, 0]
def k0_dev7 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_68 : BitVec 32 := 4#32
  let v96 : BitVec 32 := Scalar.muli v2 c4_i32_68
  let v97 : BitVec 32 := Scalar.addi c0_i32_69 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v98 : BitVec 32 := Scalar.muli v5 c2_i32_70
  let v99 : BitVec 32 := Scalar.addi v97 v98
  let c1_i32_66 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_66 v8
  let c1_i32_71 : BitVec 32 := 1#32
  let v100 : BitVec 32 := Scalar.muli v95 c1_i32_71
  let v101 : BitVec 32 := Scalar.addi v99 v100
  v101.toNat
def k0_dev8 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v110 : BitVec 32 := Scalar.muli v2 c4_i32_78
  let v111 : BitVec 32 := Scalar.addi c0_i32_79 v110
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v112 : BitVec 32 := Scalar.muli v5 c2_i32_80
  let v113 : BitVec 32 := Scalar.addi v111 v112
  let c1_i32_76 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v109 : BitVec 32 := Scalar.subi c1_i32_76 v8
  let c1_i32_81 : BitVec 32 := 1#32
  let v114 : BitVec 32 := Scalar.muli v109 c1_i32_81
  let v115 : BitVec 32 := Scalar.addi v113 v114
  v115.toNat
-- ==== HalvesReference.lean ====
abbrev S32x1024x1536 : Shape := ⟨3, ![32, 1024, 1536]⟩
abbrev S32x256x256 : Shape := ⟨3, ![32, 256, 256]⟩
abbrev S32x256x1024 : Shape := ⟨3, ![32, 256, 1024]⟩
abbrev S32x1024x1024 : Shape := ⟨3, ![32, 1024, 1024]⟩
abbrev S4x2x4x2x512x1536 : Shape := ⟨6, ![4, 2, 4, 2, 512, 1536]⟩
abbrev S4x1x4x1x512x1536 : Shape := ⟨6, ![4, 1, 4, 1, 512, 1536]⟩
abbrev S4x4x512x1536 : Shape := ⟨4, ![4, 4, 512, 1536]⟩
abbrev S4x1x4x512x1536 : Shape := ⟨5, ![4, 1, 4, 512, 1536]⟩
abbrev S4x2x4x512x1536 : Shape := ⟨5, ![4, 2, 4, 512, 1536]⟩
abbrev S32x512x1536 : Shape := ⟨3, ![32, 512, 1536]⟩
abbrev S4x2x4x2x128x256 : Shape := ⟨6, ![4, 2, 4, 2, 128, 256]⟩
abbrev S4x1x4x1x128x256 : Shape := ⟨6, ![4, 1, 4, 1, 128, 256]⟩
abbrev S4x4x128x256 : Shape := ⟨4, ![4, 4, 128, 256]⟩
abbrev S4x1x4x128x256 : Shape := ⟨5, ![4, 1, 4, 128, 256]⟩
abbrev S4x2x4x128x256 : Shape := ⟨5, ![4, 2, 4, 128, 256]⟩
abbrev S32x128x256 : Shape := ⟨3, ![32, 128, 256]⟩
abbrev S4x2x4x2x128x1024 : Shape := ⟨6, ![4, 2, 4, 2, 128, 1024]⟩
abbrev S4x1x4x1x128x1024 : Shape := ⟨6, ![4, 1, 4, 1, 128, 1024]⟩
abbrev S4x4x128x1024 : Shape := ⟨4, ![4, 4, 128, 1024]⟩
abbrev S4x1x4x128x1024 : Shape := ⟨5, ![4, 1, 4, 128, 1024]⟩
abbrev S4x2x4x128x1024 : Shape := ⟨5, ![4, 2, 4, 128, 1024]⟩
abbrev S32x128x1024 : Shape := ⟨3, ![32, 128, 1024]⟩
abbrev S4x2x4x2x512x1024 : Shape := ⟨6, ![4, 2, 4, 2, 512, 1024]⟩
abbrev S4x1x4x1x512x1024 : Shape := ⟨6, ![4, 1, 4, 1, 512, 1024]⟩
abbrev S4x4x512x1024 : Shape := ⟨4, ![4, 4, 512, 1024]⟩
abbrev S4x1x4x512x1024 : Shape := ⟨5, ![4, 1, 4, 512, 1024]⟩
abbrev S4x2x4x512x1024 : Shape := ⟨5, ![4, 2, 4, 512, 1024]⟩
abbrev S32x512x1024 : Shape := ⟨3, ![32, 512, 1024]⟩

abbrev nBuf : Space → Nat
  | .hbm => 80
  | .vmem => 0
  | .smem => 0
  | _ => 0

abbrev bufTy : (tb : Table) → Fin (tcTables nBuf tb) → BufTy
  | .hbm, ⟨0, _⟩ => ⟨S32x1024x1536, .bf16⟩
  | .hbm, ⟨1, _⟩ => ⟨S32x256x256, .bf16⟩
  | .hbm, ⟨2, _⟩ => ⟨S32x256x256, .bf16⟩
  | .hbm, ⟨3, _⟩ => ⟨S32x256x1024, .bf16⟩
  | .hbm, ⟨4, _⟩ => ⟨S32x256x1024, .bf16⟩
  | .hbm, ⟨5, _⟩ => ⟨S32x256x1024, .bf16⟩
  | .hbm, ⟨6, _⟩ => ⟨S32x1024x1024, .bf16⟩
  | .hbm, ⟨7, _⟩ => ⟨S32x1024x1024, .bf16⟩
  | .hbm, ⟨8, _⟩ => ⟨S4x2x4x2x512x1536, .bf16⟩
  | .hbm, ⟨9, _⟩ => ⟨S4x1x4x1x512x1536, .bf16⟩
  | .hbm, ⟨10, _⟩ => ⟨S4x4x512x1536, .bf16⟩
  | .hbm, ⟨11, _⟩ => ⟨S4x1x4x1x512x1536, .bf16⟩
  | .hbm, ⟨12, _⟩ => ⟨S4x4x512x1536, .bf16⟩
  | .hbm, ⟨13, _⟩ => ⟨S4x1x4x512x1536, .bf16⟩
  | .hbm, ⟨14, _⟩ => ⟨S4x1x4x512x1536, .bf16⟩
  | .hbm, ⟨15, _⟩ => ⟨S4x2x4x512x1536, .bf16⟩
  | .hbm, ⟨16, _⟩ => ⟨S32x512x1536, .bf16⟩
  | .hbm, ⟨17, _⟩ => ⟨S4x2x4x2x128x256, .bf16⟩
  | .hbm, ⟨18, _⟩ => ⟨S4x1x4x1x128x256, .bf16⟩
  | .hbm, ⟨19, _⟩ => ⟨S4x4x128x256, .bf16⟩
  | .hbm, ⟨20, _⟩ => ⟨S4x1x4x1x128x256, .bf16⟩
  | .hbm, ⟨21, _⟩ => ⟨S4x4x128x256, .bf16⟩
  | .hbm, ⟨22, _⟩ => ⟨S4x1x4x128x256, .bf16⟩
  | .hbm, ⟨23, _⟩ => ⟨S4x1x4x128x256, .bf16⟩
  | .hbm, ⟨24, _⟩ => ⟨S4x2x4x128x256, .bf16⟩
  | .hbm, ⟨25, _⟩ => ⟨S32x128x256, .bf16⟩
  | .hbm, ⟨26, _⟩ => ⟨S4x2x4x2x128x256, .bf16⟩
  | .hbm, ⟨27, _⟩ => ⟨S4x1x4x1x128x256, .bf16⟩
  | .hbm, ⟨28, _⟩ => ⟨S4x4x128x256, .bf16⟩
  | .hbm, ⟨29, _⟩ => ⟨S4x1x4x1x128x256, .bf16⟩
  | .hbm, ⟨30, _⟩ => ⟨S4x4x128x256, .bf16⟩
  | .hbm, ⟨31, _⟩ => ⟨S4x1x4x128x256, .bf16⟩
  | .hbm, ⟨32, _⟩ => ⟨S4x1x4x128x256, .bf16⟩
  | .hbm, ⟨33, _⟩ => ⟨S4x2x4x128x256, .bf16⟩
  | .hbm, ⟨34, _⟩ => ⟨S32x128x256, .bf16⟩
  | .hbm, ⟨35, _⟩ => ⟨S4x2x4x2x128x1024, .bf16⟩
  | .hbm, ⟨36, _⟩ => ⟨S4x1x4x1x128x1024, .bf16⟩
  | .hbm, ⟨37, _⟩ => ⟨S4x4x128x1024, .bf16⟩
  | .hbm, ⟨38, _⟩ => ⟨S4x1x4x1x128x1024, .bf16⟩
  | .hbm, ⟨39, _⟩ => ⟨S4x4x128x1024, .bf16⟩
  | .hbm, ⟨40, _⟩ => ⟨S4x1x4x128x1024, .bf16⟩
  | .hbm, ⟨41, _⟩ => ⟨S4x1x4x128x1024, .bf16⟩
  | .hbm, ⟨42, _⟩ => ⟨S4x2x4x128x1024, .bf16⟩
  | .hbm, ⟨43, _⟩ => ⟨S32x128x1024, .bf16⟩
  | .hbm, ⟨44, _⟩ => ⟨S4x2x4x2x128x1024, .bf16⟩
  | .hbm, ⟨45, _⟩ => ⟨S4x1x4x1x128x1024, .bf16⟩
  | .hbm, ⟨46, _⟩ => ⟨S4x4x128x1024, .bf16⟩
  | .hbm, ⟨47, _⟩ => ⟨S4x1x4x1x128x1024, .bf16⟩
  | .hbm, ⟨48, _⟩ => ⟨S4x4x128x1024, .bf16⟩
  | .hbm, ⟨49, _⟩ => ⟨S4x1x4x128x1024, .bf16⟩
  | .hbm, ⟨50, _⟩ => ⟨S4x1x4x128x1024, .bf16⟩
  | .hbm, ⟨51, _⟩ => ⟨S4x2x4x128x1024, .bf16⟩
  | .hbm, ⟨52, _⟩ => ⟨S32x128x1024, .bf16⟩
  | .hbm, ⟨53, _⟩ => ⟨S4x2x4x2x128x1024, .bf16⟩
  | .hbm, ⟨54, _⟩ => ⟨S4x1x4x1x128x1024, .bf16⟩
  | .hbm, ⟨55, _⟩ => ⟨S4x4x128x1024, .bf16⟩
  | .hbm, ⟨56, _⟩ => ⟨S4x1x4x1x128x1024, .bf16⟩
  | .hbm, ⟨57, _⟩ => ⟨S4x4x128x1024, .bf16⟩
  | .hbm, ⟨58, _⟩ => ⟨S4x1x4x128x1024, .bf16⟩
  | .hbm, ⟨59, _⟩ => ⟨S4x1x4x128x1024, .bf16⟩
  | .hbm, ⟨60, _⟩ => ⟨S4x2x4x128x1024, .bf16⟩
  | .hbm, ⟨61, _⟩ => ⟨S32x128x1024, .bf16⟩
  | .hbm, ⟨62, _⟩ => ⟨S4x2x4x2x512x1024, .bf16⟩
  | .hbm, ⟨63, _⟩ => ⟨S4x1x4x1x512x1024, .bf16⟩
  | .hbm, ⟨64, _⟩ => ⟨S4x4x512x1024, .bf16⟩
  | .hbm, ⟨65, _⟩ => ⟨S4x1x4x1x512x1024, .bf16⟩
  | .hbm, ⟨66, _⟩ => ⟨S4x4x512x1024, .bf16⟩
  | .hbm, ⟨67, _⟩ => ⟨S4x1x4x512x1024, .bf16⟩
  | .hbm, ⟨68, _⟩ => ⟨S4x1x4x512x1024, .bf16⟩
  | .hbm, ⟨69, _⟩ => ⟨S4x2x4x512x1024, .bf16⟩
  | .hbm, ⟨70, _⟩ => ⟨S32x512x1024, .bf16⟩
  | .hbm, ⟨71, _⟩ => ⟨S4x2x4x2x512x1024, .bf16⟩
  | .hbm, ⟨72, _⟩ => ⟨S4x1x4x1x512x1024, .bf16⟩
  | .hbm, ⟨73, _⟩ => ⟨S4x4x512x1024, .bf16⟩
  | .hbm, ⟨74, _⟩ => ⟨S4x1x4x1x512x1024, .bf16⟩
  | .hbm, ⟨75, _⟩ => ⟨S4x4x512x1024, .bf16⟩
  | .hbm, ⟨76, _⟩ => ⟨S4x1x4x512x1024, .bf16⟩
  | .hbm, ⟨77, _⟩ => ⟨S4x1x4x512x1024, .bf16⟩
  | .hbm, ⟨78, _⟩ => ⟨S4x2x4x512x1024, .bf16⟩
  | .hbm, ⟨79, _⟩ => ⟨S32x512x1024, .bf16⟩
  | _, _ => ⟨S32x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩

abbrev nD : Nat := 1
abbrev τ : Topo := Topo.v7x

variable {F : FTy → Type} [FloatOps F]
-- ==== Gather.lean ====
abbrev S1024x1536 : Shape := ⟨2, ![1024, 1536]⟩
abbrev S256x256 : Shape := ⟨2, ![256, 256]⟩
abbrev S256x1024 : Shape := ⟨2, ![256, 1024]⟩
abbrev S1024x1024 : Shape := ⟨2, ![1024, 1024]⟩
abbrev S8x384 : Shape := ⟨2, ![8, 384]⟩
abbrev S4x1024x1536 : Shape := ⟨3, ![4, 1024, 1536]⟩
abbrev S4x256x256 : Shape := ⟨3, ![4, 256, 256]⟩
abbrev S4x256x1024 : Shape := ⟨3, ![4, 256, 1024]⟩
abbrev S4x1024x1024 : Shape := ⟨3, ![4, 1024, 1024]⟩
abbrev S4x8x384 : Shape := ⟨3, ![4, 8, 384]⟩
abbrev S56 : Shape := ⟨1, ![56]⟩
abbrev S9 : Shape := ⟨1, ![9]⟩
abbrev S3 : Shape := ⟨1, ![3]⟩
abbrev S1 : Shape := ⟨1, ![1]⟩
abbrev S_ : Shape := ⟨0, ![]⟩
abbrev S1x512x1536 : Shape := ⟨3, ![1, 512, 1536]⟩
abbrev S512x1536 : Shape := ⟨2, ![512, 1536]⟩
abbrev S1x128x256 : Shape := ⟨3, ![1, 128, 256]⟩
abbrev S128x256 : Shape := ⟨2, ![128, 256]⟩
abbrev S1x128x1024 : Shape := ⟨3, ![1, 128, 1024]⟩
abbrev S128x1024 : Shape := ⟨2, ![128, 1024]⟩
abbrev S1x512x1024 : Shape := ⟨3, ![1, 512, 1024]⟩
abbrev S512x1024 : Shape := ⟨2, ![512, 1024]⟩
abbrev S1x8x384 : Shape := ⟨3, ![1, 8, 384]⟩

abbrev nBuf : Space → Nat
  | .hbm => 18
  | .vmem => 0
  | .smem => 0
  | _ => 0

abbrev bufTy : (tb : Table) → Fin (tcTables nBuf tb) → BufTy
  | .hbm, ⟨0, _⟩ => ⟨S1024x1536, .bf16⟩
  | .hbm, ⟨1, _⟩ => ⟨S256x256, .bf16⟩
  | .hbm, ⟨2, _⟩ => ⟨S256x256, .bf16⟩
  | .hbm, ⟨3, _⟩ => ⟨S256x1024, .bf16⟩
  | .hbm, ⟨4, _⟩ => ⟨S256x1024, .bf16⟩
  | .hbm, ⟨5, _⟩ => ⟨S256x1024, .bf16⟩
  | .hbm, ⟨6, _⟩ => ⟨S1024x1024, .bf16⟩
  | .hbm, ⟨7, _⟩ => ⟨S1024x1024, .bf16⟩
  | .hbm, ⟨8, _⟩ => ⟨S8x384, .f32⟩
  | .hbm, ⟨9, _⟩ => ⟨S4x1024x1536, .bf16⟩
  | .hbm, ⟨10, _⟩ => ⟨S4x256x256, .bf16⟩
  | .hbm, ⟨11, _⟩ => ⟨S4x256x256, .bf16⟩
  | .hbm, ⟨12, _⟩ => ⟨S4x256x1024, .bf16⟩
  | .hbm, ⟨13, _⟩ => ⟨S4x256x1024, .bf16⟩
  | .hbm, ⟨14, _⟩ => ⟨S4x256x1024, .bf16⟩
  | .hbm, ⟨15, _⟩ => ⟨S4x1024x1024, .bf16⟩
  | .hbm, ⟨16, _⟩ => ⟨S4x1024x1024, .bf16⟩
  | .hbm, ⟨17, _⟩ => ⟨S4x8x384, .f32⟩
  | _, _ => ⟨S1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  ofTc nBuf bufTy 0 127 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev main_v1_7 : Ref sig .tc := ⟨.hbm, 16, rfl⟩
abbrev main_v1_8 : Ref sig .tc := ⟨.hbm, 17, rfl⟩

abbrev nD : Nat := 8
abbrev τ : Topo := Topo.v7x

variable {F : FTy → Type} [FloatOps F]

abbrev grid0 : Pipeline.Grid := .none

def k0_off1 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_9 : BitVec 32 := 512#32
  let v17 : BitVec 32 := Scalar.muli v8 c512_i32_9
  let c0_i32_10 : BitVec 32 := 0#32
  ![v16.toNat, v17.toNat, 0]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v14 : BitVec 32 := Scalar.muli v8 c512_i32
  let c0_i32_11 : BitVec 32 := 0#32
  ![v14.toNat, 0]
def k0_dev1 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v35 : BitVec 32 := Scalar.muli v2 c4_i32_22
  let v36 : BitVec 32 := Scalar.addi c0_i32_23 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v37 : BitVec 32 := Scalar.muli v5 c2_i32_24
  let v38 : BitVec 32 := Scalar.addi v36 v37
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_25 : BitVec 32 := 1#32
  let v39 : BitVec 32 := Scalar.muli v13 c1_i32_25
  let v40 : BitVec 32 := Scalar.addi v38 v39
  v40.toNat
def k0_dev2 (d0 : Dev nD) : Nat :=
  let c0_i32_31 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_30 : BitVec 32 := 4#32
  let v48 : BitVec 32 := Scalar.muli v9 c4_i32_30
  let v49 : BitVec 32 := Scalar.addi c0_i32_31 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_32 : BitVec 32 := 2#32
  let v50 : BitVec 32 := Scalar.muli v5 c2_i32_32
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v52 : BitVec 32 := Scalar.muli v8 c1_i32_33
  let v53 : BitVec 32 := Scalar.addi v51 v52
  v53.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v61 : BitVec 32 := Scalar.muli v2 c4_i32_38
  let v62 : BitVec 32 := Scalar.addi c0_i32_39 v61
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_40 : BitVec 32 := 2#32
  let v63 : BitVec 32 := Scalar.muli v10 c2_i32_40
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v65 : BitVec 32 := Scalar.muli v8 c1_i32_41
  let v66 : BitVec 32 := Scalar.addi v64 v65
  v66.toNat
def k0_dev4 (d0 : Dev nD) : Nat :=
  let c0_i32_46 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_45 : BitVec 32 := 4#32
  let v74 : BitVec 32 := Scalar.muli v11 c4_i32_45
  let v75 : BitVec 32 := Scalar.addi c0_i32_46 v74
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_47 : BitVec 32 := 2#32
  let v76 : BitVec 32 := Scalar.muli v12 c2_i32_47
  let v77 : BitVec 32 := Scalar.addi v75 v76
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v78 : BitVec 32 := Scalar.muli v8 c1_i32_48
  let v79 : BitVec 32 := Scalar.addi v77 v78
  v79.toNat
def k0_off3 (d0 : Dev nD) : Fin 3 → Nat :=
  let c2_i32_51 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v88 : BitVec 32 := Scalar.muli c2_i32_51 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v89 : BitVec 32 := Scalar.addi v88 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_52 : BitVec 32 := 128#32
  let v90 : BitVec 32 := Scalar.muli v8 c128_i32_52
  let c0_i32_54 : BitVec 32 := 0#32
  ![v89.toNat, v90.toNat, 0]
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32 : BitVec 32 := 128#32
  let v87 : BitVec 32 := Scalar.muli v8 c128_i32
  let c0_i32_55 : BitVec 32 := 0#32
  ![v87.toNat, 0]
def k0_dev5 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v108 : BitVec 32 := Scalar.muli v2 c4_i32_65
  let v109 : BitVec 32 := Scalar.addi c0_i32_66 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v110 : BitVec 32 := Scalar.muli v5 c2_i32_67
  let v111 : BitVec 32 := Scalar.addi v109 v110
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_68 : BitVec 32 := 1#32
  let v112 : BitVec 32 := Scalar.muli v13 c1_i32_68
  let v113 : BitVec 32 := Scalar.addi v111 v112
  v113.toNat
def k0_dev6 (d0 : Dev nD) : Nat :=
  let c0_i32_73 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_72 : BitVec 32 := 4#32
  let v121 : BitVec 32 := Scalar.muli v9 c4_i32_72
  let v122 : BitVec 32 := Scalar.addi c0_i32_73 v121
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v123 : BitVec 32 := Scalar.muli v5 c2_i32_74
  let v124 : BitVec 32 := Scalar.addi v122 v123
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_75 : BitVec 32 := 1#32
  let v125 : BitVec 32 := Scalar.muli v8 c1_i32_75
  let v126 : BitVec 32 := Scalar.addi v124 v125
  v126.toNat
def k0_dev7 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_79 : BitVec 32 := 4#32
  let v134 : BitVec 32 := Scalar.muli v2 c4_i32_79
  let v135 : BitVec 32 := Scalar.addi c0_i32_80 v134
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_81 : BitVec 32 := 2#32
  let v136 : BitVec 32 := Scalar.muli v10 c2_i32_81
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v138 : BitVec 32 := Scalar.muli v8 c1_i32_82
  let v139 : BitVec 32 := Scalar.addi v137 v138
  v139.toNat
def k0_dev8 (d0 : Dev nD) : Nat :=
  let c0_i32_87 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_86 : BitVec 32 := 4#32
  let v147 : BitVec 32 := Scalar.muli v11 c4_i32_86
  let v148 : BitVec 32 := Scalar.addi c0_i32_87 v147
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_88 : BitVec 32 := 2#32
  let v149 : BitVec 32 := Scalar.muli v12 c2_i32_88
  let v150 : BitVec 32 := Scalar.addi v148 v149
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v151 : BitVec 32 := Scalar.muli v8 c1_i32_89
  let v152 : BitVec 32 := Scalar.addi v150 v151
  v152.toNat
def k0_dev9 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v181 : BitVec 32 := Scalar.muli v2 c4_i32_107
  let v182 : BitVec 32 := Scalar.addi c0_i32_108 v181
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v183 : BitVec 32 := Scalar.muli v5 c2_i32_109
  let v184 : BitVec 32 := Scalar.addi v182 v183
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_110 : BitVec 32 := 1#32
  let v185 : BitVec 32 := Scalar.muli v13 c1_i32_110
  let v186 : BitVec 32 := Scalar.addi v184 v185
  v186.toNat
def k0_dev10 (d0 : Dev nD) : Nat :=
  let c0_i32_115 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_114 : BitVec 32 := 4#32
  let v194 : BitVec 32 := Scalar.muli v9 c4_i32_114
  let v195 : BitVec 32 := Scalar.addi c0_i32_115 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_116 : BitVec 32 := 2#32
  let v196 : BitVec 32 := Scalar.muli v5 c2_i32_116
  let v197 : BitVec 32 := Scalar.addi v195 v196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_117 : BitVec 32 := 1#32
  let v198 : BitVec 32 := Scalar.muli v8 c1_i32_117
  let v199 : BitVec 32 := Scalar.addi v197 v198
  v199.toNat
def k0_dev11 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v207 : BitVec 32 := Scalar.muli v2 c4_i32_121
  let v208 : BitVec 32 := Scalar.addi c0_i32_122 v207
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_123 : BitVec 32 := 2#32
  let v209 : BitVec 32 := Scalar.muli v10 c2_i32_123
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v211 : BitVec 32 := Scalar.muli v8 c1_i32_124
  let v212 : BitVec 32 := Scalar.addi v210 v211
  v212.toNat
def k0_dev12 (d0 : Dev nD) : Nat :=
  let c0_i32_129 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_128 : BitVec 32 := 4#32
  let v220 : BitVec 32 := Scalar.muli v11 c4_i32_128
  let v221 : BitVec 32 := Scalar.addi c0_i32_129 v220
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_130 : BitVec 32 := 2#32
  let v222 : BitVec 32 := Scalar.muli v12 c2_i32_130
  let v223 : BitVec 32 := Scalar.addi v221 v222
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_131 : BitVec 32 := 1#32
  let v224 : BitVec 32 := Scalar.muli v8 c1_i32_131
  let v225 : BitVec 32 := Scalar.addi v223 v224
  v225.toNat
def k0_off5 (d0 : Dev nD) : Fin 3 → Nat :=
  let c2_i32_135 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v234 : BitVec 32 := Scalar.muli c2_i32_135 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v235 : BitVec 32 := Scalar.addi v234 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_136 : BitVec 32 := 128#32
  let v236 : BitVec 32 := Scalar.muli v8 c128_i32_136
  let c0_i32_138 : BitVec 32 := 0#32
  ![v235.toNat, v236.toNat, 0]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_134 : BitVec 32 := 128#32
  let v233 : BitVec 32 := Scalar.muli v8 c128_i32_134
  let c0_i32_139 : BitVec 32 := 0#32
  ![v233.toNat, 0]
def k0_dev13 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v254 : BitVec 32 := Scalar.muli v2 c4_i32_149
  let v255 : BitVec 32 := Scalar.addi c0_i32_150 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v256 : BitVec 32 := Scalar.muli v5 c2_i32_151
  let v257 : BitVec 32 := Scalar.addi v255 v256
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_152 : BitVec 32 := 1#32
  let v258 : BitVec 32 := Scalar.muli v13 c1_i32_152
  let v259 : BitVec 32 := Scalar.addi v257 v258
  v259.toNat
def k0_dev14 (d0 : Dev nD) : Nat :=
  let c0_i32_157 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_156 : BitVec 32 := 4#32
  let v267 : BitVec 32 := Scalar.muli v9 c4_i32_156
  let v268 : BitVec 32 := Scalar.addi c0_i32_157 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_158 : BitVec 32 := 2#32
  let v269 : BitVec 32 := Scalar.muli v5 c2_i32_158
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_159 : BitVec 32 := 1#32
  let v271 : BitVec 32 := Scalar.muli v8 c1_i32_159
  let v272 : BitVec 32 := Scalar.addi v270 v271
  v272.toNat
def k0_dev15 (d0 : Dev nD) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_163 : BitVec 32 := 4#32
  let v280 : BitVec 32 := Scalar.muli v2 c4_i32_163
  let v281 : BitVec 32 := Scalar.addi c0_i32_164 v280
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_165 : BitVec 32 := 2#32
  let v282 : BitVec 32 := Scalar.muli v10 c2_i32_165
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_166 : BitVec 32 := 1#32
  let v284 : BitVec 32 := Scalar.muli v8 c1_i32_166
  let v285 : BitVec 32 := Scalar.addi v283 v284
  v285.toNat
def k0_dev16 (d0 : Dev nD) : Nat :=
  let c0_i32_171 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_170 : BitVec 32 := 4#32
  let v293 : BitVec 32 := Scalar.muli v11 c4_i32_170
  let v294 : BitVec 32 := Scalar.addi c0_i32_171 v293
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_172 : BitVec 32 := 2#32
  let v295 : BitVec 32 := Scalar.muli v12 c2_i32_172
  let v296 : BitVec 32 := Scalar.addi v294 v295
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v297 : BitVec 32 := Scalar.muli v8 c1_i32_173
  let v298 : BitVec 32 := Scalar.addi v296 v297
  v298.toNat
def k0_dev17 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v327 : BitVec 32 := Scalar.muli v2 c4_i32_191
  let v328 : BitVec 32 := Scalar.addi c0_i32_192 v327
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v329 : BitVec 32 := Scalar.muli v5 c2_i32_193
  let v330 : BitVec 32 := Scalar.addi v328 v329
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_194 : BitVec 32 := 1#32
  let v331 : BitVec 32 := Scalar.muli v13 c1_i32_194
  let v332 : BitVec 32 := Scalar.addi v330 v331
  v332.toNat
def k0_dev18 (d0 : Dev nD) : Nat :=
  let c0_i32_199 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_198 : BitVec 32 := 4#32
  let v340 : BitVec 32 := Scalar.muli v9 c4_i32_198
  let v341 : BitVec 32 := Scalar.addi c0_i32_199 v340
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_200 : BitVec 32 := 2#32
  let v342 : BitVec 32 := Scalar.muli v5 c2_i32_200
  let v343 : BitVec 32 := Scalar.addi v341 v342
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v344 : BitVec 32 := Scalar.muli v8 c1_i32_201
  let v345 : BitVec 32 := Scalar.addi v343 v344
  v345.toNat
def k0_dev19 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v353 : BitVec 32 := Scalar.muli v2 c4_i32_205
  let v354 : BitVec 32 := Scalar.addi c0_i32_206 v353
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_207 : BitVec 32 := 2#32
  let v355 : BitVec 32 := Scalar.muli v10 c2_i32_207
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_208 : BitVec 32 := 1#32
  let v357 : BitVec 32 := Scalar.muli v8 c1_i32_208
  let v358 : BitVec 32 := Scalar.addi v356 v357
  v358.toNat
def k0_dev20 (d0 : Dev nD) : Nat :=
  let c0_i32_213 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_212 : BitVec 32 := 4#32
  let v366 : BitVec 32 := Scalar.muli v11 c4_i32_212
  let v367 : BitVec 32 := Scalar.addi c0_i32_213 v366
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_214 : BitVec 32 := 2#32
  let v368 : BitVec 32 := Scalar.muli v12 c2_i32_214
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_215 : BitVec 32 := 1#32
  let v370 : BitVec 32 := Scalar.muli v8 c1_i32_215
  let v371 : BitVec 32 := Scalar.addi v369 v370
  v371.toNat
def k0_dev21 (d0 : Dev nD) : Nat :=
  let c0_i32_233 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_232 : BitVec 32 := 4#32
  let v400 : BitVec 32 := Scalar.muli v2 c4_i32_232
  let v401 : BitVec 32 := Scalar.addi c0_i32_233 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_234 : BitVec 32 := 2#32
  let v402 : BitVec 32 := Scalar.muli v5 c2_i32_234
  let v403 : BitVec 32 := Scalar.addi v401 v402
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_235 : BitVec 32 := 1#32
  let v404 : BitVec 32 := Scalar.muli v13 c1_i32_235
  let v405 : BitVec 32 := Scalar.addi v403 v404
  v405.toNat
def k0_dev22 (d0 : Dev nD) : Nat :=
  let c0_i32_240 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_239 : BitVec 32 := 4#32
  let v413 : BitVec 32 := Scalar.muli v9 c4_i32_239
  let v414 : BitVec 32 := Scalar.addi c0_i32_240 v413
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_241 : BitVec 32 := 2#32
  let v415 : BitVec 32 := Scalar.muli v5 c2_i32_241
  let v416 : BitVec 32 := Scalar.addi v414 v415
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_242 : BitVec 32 := 1#32
  let v417 : BitVec 32 := Scalar.muli v8 c1_i32_242
  let v418 : BitVec 32 := Scalar.addi v416 v417
  v418.toNat
def k0_dev23 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v426 : BitVec 32 := Scalar.muli v2 c4_i32_246
  let v427 : BitVec 32 := Scalar.addi c0_i32_247 v426
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_248 : BitVec 32 := 2#32
  let v428 : BitVec 32 := Scalar.muli v10 c2_i32_248
  let v429 : BitVec 32 := Scalar.addi v427 v428
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_249 : BitVec 32 := 1#32
  let v430 : BitVec 32 := Scalar.muli v8 c1_i32_249
  let v431 : BitVec 32 := Scalar.addi v429 v430
  v431.toNat
def k0_dev24 (d0 : Dev nD) : Nat :=
  let c0_i32_254 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_253 : BitVec 32 := 4#32
  let v439 : BitVec 32 := Scalar.muli v11 c4_i32_253
  let v440 : BitVec 32 := Scalar.addi c0_i32_254 v439
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_255 : BitVec 32 := 2#32
  let v441 : BitVec 32 := Scalar.muli v12 c2_i32_255
  let v442 : BitVec 32 := Scalar.addi v440 v441
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_256 : BitVec 32 := 1#32
  let v443 : BitVec 32 := Scalar.muli v8 c1_i32_256
  let v444 : BitVec 32 := Scalar.addi v442 v443
  v444.toNat
def k0_off7 (d0 : Dev nD) : Fin 3 → Nat :=
  let c2_i32_260 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v453 : BitVec 32 := Scalar.muli c2_i32_260 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v454 : BitVec 32 := Scalar.addi v453 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_261 : BitVec 32 := 512#32
  let v455 : BitVec 32 := Scalar.muli v8 c512_i32_261
  let c0_i32_262 : BitVec 32 := 0#32
  ![v454.toNat, v455.toNat, 0]
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_259 : BitVec 32 := 512#32
  let v452 : BitVec 32 := Scalar.muli v8 c512_i32_259
  let c0_i32_263 : BitVec 32 := 0#32
  ![v452.toNat, 0]
def k0_dev25 (d0 : Dev nD) : Nat :=
  let c0_i32_274 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_273 : BitVec 32 := 4#32
  let v473 : BitVec 32 := Scalar.muli v2 c4_i32_273
  let v474 : BitVec 32 := Scalar.addi c0_i32_274 v473
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_275 : BitVec 32 := 2#32
  let v475 : BitVec 32 := Scalar.muli v5 c2_i32_275
  let v476 : BitVec 32 := Scalar.addi v474 v475
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_276 : BitVec 32 := 1#32
  let v477 : BitVec 32 := Scalar.muli v13 c1_i32_276
  let v478 : BitVec 32 := Scalar.addi v476 v477
  v478.toNat
def k0_dev26 (d0 : Dev nD) : Nat :=
  let c0_i32_281 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_280 : BitVec 32 := 4#32
  let v486 : BitVec 32 := Scalar.muli v9 c4_i32_280
  let v487 : BitVec 32 := Scalar.addi c0_i32_281 v486
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v488 : BitVec 32 := Scalar.muli v5 c2_i32_282
  let v489 : BitVec 32 := Scalar.addi v487 v488
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_283 : BitVec 32 := 1#32
  let v490 : BitVec 32 := Scalar.muli v8 c1_i32_283
  let v491 : BitVec 32 := Scalar.addi v489 v490
  v491.toNat
def k0_dev27 (d0 : Dev nD) : Nat :=
  let c0_i32_288 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_287 : BitVec 32 := 4#32
  let v499 : BitVec 32 := Scalar.muli v2 c4_i32_287
  let v500 : BitVec 32 := Scalar.addi c0_i32_288 v499
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_289 : BitVec 32 := 2#32
  let v501 : BitVec 32 := Scalar.muli v10 c2_i32_289
  let v502 : BitVec 32 := Scalar.addi v500 v501
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_290 : BitVec 32 := 1#32
  let v503 : BitVec 32 := Scalar.muli v8 c1_i32_290
  let v504 : BitVec 32 := Scalar.addi v502 v503
  v504.toNat
def k0_dev28 (d0 : Dev nD) : Nat :=
  let c0_i32_295 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_294 : BitVec 32 := 4#32
  let v512 : BitVec 32 := Scalar.muli v11 c4_i32_294
  let v513 : BitVec 32 := Scalar.addi c0_i32_295 v512
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_296 : BitVec 32 := 2#32
  let v514 : BitVec 32 := Scalar.muli v12 c2_i32_296
  let v515 : BitVec 32 := Scalar.addi v513 v514
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_297 : BitVec 32 := 1#32
  let v516 : BitVec 32 := Scalar.muli v8 c1_i32_297
  let v517 : BitVec 32 := Scalar.addi v515 v516
  v517.toNat
def k0_dev29 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_315 : BitVec 32 := 4#32
  let v546 : BitVec 32 := Scalar.muli v2 c4_i32_315
  let v547 : BitVec 32 := Scalar.addi c0_i32_316 v546
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_317 : BitVec 32 := 2#32
  let v548 : BitVec 32 := Scalar.muli v5 c2_i32_317
  let v549 : BitVec 32 := Scalar.addi v547 v548
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_318 : BitVec 32 := 1#32
  let v550 : BitVec 32 := Scalar.muli v13 c1_i32_318
  let v551 : BitVec 32 := Scalar.addi v549 v550
  v551.toNat
def k0_dev30 (d0 : Dev nD) : Nat :=
  let c0_i32_323 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_322 : BitVec 32 := 4#32
  let v559 : BitVec 32 := Scalar.muli v9 c4_i32_322
  let v560 : BitVec 32 := Scalar.addi c0_i32_323 v559
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_324 : BitVec 32 := 2#32
  let v561 : BitVec 32 := Scalar.muli v5 c2_i32_324
  let v562 : BitVec 32 := Scalar.addi v560 v561
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v563 : BitVec 32 := Scalar.muli v8 c1_i32_325
  let v564 : BitVec 32 := Scalar.addi v562 v563
  v564.toNat
def k0_dev31 (d0 : Dev nD) : Nat :=
  let c0_i32_330 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_329 : BitVec 32 := 4#32
  let v572 : BitVec 32 := Scalar.muli v2 c4_i32_329
  let v573 : BitVec 32 := Scalar.addi c0_i32_330 v572
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_331 : BitVec 32 := 2#32
  let v574 : BitVec 32 := Scalar.muli v10 c2_i32_331
  let v575 : BitVec 32 := Scalar.addi v573 v574
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_332 : BitVec 32 := 1#32
  let v576 : BitVec 32 := Scalar.muli v8 c1_i32_332
  let v577 : BitVec 32 := Scalar.addi v575 v576
  v577.toNat
def k0_dev32 (d0 : Dev nD) : Nat :=
  let c0_i32_337 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_336 : BitVec 32 := 4#32
  let v585 : BitVec 32 := Scalar.muli v11 c4_i32_336
  let v586 : BitVec 32 := Scalar.addi c0_i32_337 v585
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_338 : BitVec 32 := 2#32
  let v587 : BitVec 32 := Scalar.muli v12 c2_i32_338
  let v588 : BitVec 32 := Scalar.addi v586 v587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v589 : BitVec 32 := Scalar.muli v8 c1_i32_339
  let v590 : BitVec 32 := Scalar.addi v588 v589
  v590.toNat
def k0_off9 (d0 : Dev nD) : Fin 3 → Nat :=
  let c2_i32_342 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v598 : BitVec 32 := Scalar.muli c2_i32_342 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v599 : BitVec 32 := Scalar.addi v598 v5
  let c0_i32_344 : BitVec 32 := 0#32
  let c0_i32_345 : BitVec 32 := 0#32
  ![v599.toNat, 0, 0]
def k0_dev33 (d0 : Dev nD) : Nat :=
  let c0_i32_352 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_351 : BitVec 32 := 4#32
  let v610 : BitVec 32 := Scalar.muli v9 c4_i32_351
  let v611 : BitVec 32 := Scalar.addi c0_i32_352 v610
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v612 : BitVec 32 := Scalar.muli v5 c2_i32_353
  let v613 : BitVec 32 := Scalar.addi v611 v612
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_354 : BitVec 32 := 1#32
  let v614 : BitVec 32 := Scalar.muli v8 c1_i32_354
  let v615 : BitVec 32 := Scalar.addi v613 v614
  v615.toNat
def k0_dev34 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v622 : BitVec 32 := Scalar.muli v2 c4_i32_359
  let v623 : BitVec 32 := Scalar.addi c0_i32_360 v622
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_361 : BitVec 32 := 2#32
  let v624 : BitVec 32 := Scalar.muli v10 c2_i32_361
  let v625 : BitVec 32 := Scalar.addi v623 v624
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_362 : BitVec 32 := 1#32
  let v626 : BitVec 32 := Scalar.muli v8 c1_i32_362
  let v627 : BitVec 32 := Scalar.addi v625 v626
  v627.toNat
def k0_dev35 (d0 : Dev nD) : Nat :=
  let c0_i32_368 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_367 : BitVec 32 := 4#32
  let v634 : BitVec 32 := Scalar.muli v11 c4_i32_367
  let v635 : BitVec 32 := Scalar.addi c0_i32_368 v634
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_369 : BitVec 32 := 2#32
  let v636 : BitVec 32 := Scalar.muli v12 c2_i32_369
  let v637 : BitVec 32 := Scalar.addi v635 v636
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_370 : BitVec 32 := 1#32
  let v638 : BitVec 32 := Scalar.muli v8 c1_i32_370
  let v639 : BitVec 32 := Scalar.addi v637 v638
  v639.toNat
def k0_off10 (d0 : Dev nD) : Fin 3 → Nat :=
  let c2_i32_375 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v649 : BitVec 32 := Scalar.muli c2_i32_375 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v650 : BitVec 32 := Scalar.addi v649 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_376 : BitVec 32 := 512#32
  let v651 : BitVec 32 := Scalar.muli v8 c512_i32_376
  let c0_i32_383 : BitVec 32 := 0#32
  ![v650.toNat, v651.toNat, 0]
def k0_dev36 (d0 : Dev nD) : Nat :=
  let c0_i32_392 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_391 : BitVec 32 := 4#32
  let v670 : BitVec 32 := Scalar.muli v2 c4_i32_391
  let v671 : BitVec 32 := Scalar.addi c0_i32_392 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_393 : BitVec 32 := 2#32
  let v672 : BitVec 32 := Scalar.muli v5 c2_i32_393
  let v673 : BitVec 32 := Scalar.addi v671 v672
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_394 : BitVec 32 := 1#32
  let v674 : BitVec 32 := Scalar.muli v13 c1_i32_394
  let v675 : BitVec 32 := Scalar.addi v673 v674
  v675.toNat
def k0_off11 (d0 : Dev nD) : Fin 3 → Nat :=
  let c2_i32_399 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v687 : BitVec 32 := Scalar.muli c2_i32_399 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v688 : BitVec 32 := Scalar.addi v687 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_400 : BitVec 32 := 512#32
  let v689 : BitVec 32 := Scalar.muli v8 c512_i32_400
  let c0_i32_407 : BitVec 32 := 0#32
  ![v688.toNat, v689.toNat, 0]
def k0_dev37 (d0 : Dev nD) : Nat :=
  let c0_i32_416 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_415 : BitVec 32 := 4#32
  let v708 : BitVec 32 := Scalar.muli v2 c4_i32_415
  let v709 : BitVec 32 := Scalar.addi c0_i32_416 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_417 : BitVec 32 := 2#32
  let v710 : BitVec 32 := Scalar.muli v5 c2_i32_417
  let v711 : BitVec 32 := Scalar.addi v709 v710
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_418 : BitVec 32 := 1#32
  let v712 : BitVec 32 := Scalar.muli v13 c1_i32_418
  let v713 : BitVec 32 := Scalar.addi v711 v712
  v713.toNat
def k0_off12 (d0 : Dev nD) : Fin 3 → Nat :=
  let c2_i32_423 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v725 : BitVec 32 := Scalar.muli c2_i32_423 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v726 : BitVec 32 := Scalar.addi v725 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_424 : BitVec 32 := 512#32
  let v727 : BitVec 32 := Scalar.muli v8 c512_i32_424
  let c0_i32_431 : BitVec 32 := 0#32
  ![v726.toNat, v727.toNat, 0]
def k0_dev38 (d0 : Dev nD) : Nat :=
  let c0_i32_440 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_439 : BitVec 32 := 4#32
  let v746 : BitVec 32 := Scalar.muli v2 c4_i32_439
  let v747 : BitVec 32 := Scalar.addi c0_i32_440 v746
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_441 : BitVec 32 := 2#32
  let v748 : BitVec 32 := Scalar.muli v5 c2_i32_441
  let v749 : BitVec 32 := Scalar.addi v747 v748
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_442 : BitVec 32 := 1#32
  let v750 : BitVec 32 := Scalar.muli v13 c1_i32_442
  let v751 : BitVec 32 := Scalar.addi v749 v750
  v751.toNat
def k0_off13 (d0 : Dev nD) : Fin 3 → Nat :=
  let c2_i32_447 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v763 : BitVec 32 := Scalar.muli c2_i32_447 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v764 : BitVec 32 := Scalar.addi v763 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_448 : BitVec 32 := 128#32
  let v765 : BitVec 32 := Scalar.muli v8 c128_i32_448
  let c0_i32_455 : BitVec 32 := 0#32
  ![v764.toNat, v765.toNat, 0]
def k0_dev39 (d0 : Dev nD) : Nat :=
  let c0_i32_463 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_462 : BitVec 32 := 4#32
  let v784 : BitVec 32 := Scalar.muli v2 c4_i32_462
  let v785 : BitVec 32 := Scalar.addi c0_i32_463 v784
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_464 : BitVec 32 := 2#32
  let v786 : BitVec 32 := Scalar.muli v5 c2_i32_464
  let v787 : BitVec 32 := Scalar.addi v785 v786
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_465 : BitVec 32 := 1#32
  let v788 : BitVec 32 := Scalar.muli v13 c1_i32_465
  let v789 : BitVec 32 := Scalar.addi v787 v788
  v789.toNat
def k0_off14 (d0 : Dev nD) : Fin 3 → Nat :=
  let c2_i32_470 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v801 : BitVec 32 := Scalar.muli c2_i32_470 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v802 : BitVec 32 := Scalar.addi v801 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_471 : BitVec 32 := 128#32
  let v803 : BitVec 32 := Scalar.muli v8 c128_i32_471
  let c0_i32_478 : BitVec 32 := 0#32
  ![v802.toNat, v803.toNat, 0]
def k0_dev40 (d0 : Dev nD) : Nat :=
  let c0_i32_486 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_485 : BitVec 32 := 4#32
  let v822 : BitVec 32 := Scalar.muli v2 c4_i32_485
  let v823 : BitVec 32 := Scalar.addi c0_i32_486 v822
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_487 : BitVec 32 := 2#32
  let v824 : BitVec 32 := Scalar.muli v5 c2_i32_487
  let v825 : BitVec 32 := Scalar.addi v823 v824
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_488 : BitVec 32 := 1#32
  let v826 : BitVec 32 := Scalar.muli v13 c1_i32_488
  let v827 : BitVec 32 := Scalar.addi v825 v826
  v827.toNat
def k0_off15 (d0 : Dev nD) : Fin 3 → Nat :=
  let c2_i32_493 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v839 : BitVec 32 := Scalar.muli c2_i32_493 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v840 : BitVec 32 := Scalar.addi v839 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_494 : BitVec 32 := 128#32
  let v841 : BitVec 32 := Scalar.muli v8 c128_i32_494
  let c0_i32_501 : BitVec 32 := 0#32
  ![v840.toNat, v841.toNat, 0]
def k0_dev41 (d0 : Dev nD) : Nat :=
  let c0_i32_509 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_508 : BitVec 32 := 4#32
  let v860 : BitVec 32 := Scalar.muli v2 c4_i32_508
  let v861 : BitVec 32 := Scalar.addi c0_i32_509 v860
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_510 : BitVec 32 := 2#32
  let v862 : BitVec 32 := Scalar.muli v5 c2_i32_510
  let v863 : BitVec 32 := Scalar.addi v861 v862
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_511 : BitVec 32 := 1#32
  let v864 : BitVec 32 := Scalar.muli v13 c1_i32_511
  let v865 : BitVec 32 := Scalar.addi v863 v864
  v865.toNat
def k0_dev42 (d0 : Dev nD) : Nat :=
  let c0_i32_532 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_531 : BitVec 32 := 4#32
  let v898 : BitVec 32 := Scalar.muli v2 c4_i32_531
  let v899 : BitVec 32 := Scalar.addi c0_i32_532 v898
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_533 : BitVec 32 := 2#32
  let v900 : BitVec 32 := Scalar.muli v5 c2_i32_533
  let v901 : BitVec 32 := Scalar.addi v899 v900
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_534 : BitVec 32 := 1#32
  let v902 : BitVec 32 := Scalar.muli v13 c1_i32_534
  let v903 : BitVec 32 := Scalar.addi v901 v902
  v903.toNat
def k0_dev43 (d0 : Dev nD) : Nat :=
  let c0_i32_555 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_554 : BitVec 32 := 4#32
  let v936 : BitVec 32 := Scalar.muli v2 c4_i32_554
  let v937 : BitVec 32 := Scalar.addi c0_i32_555 v936
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_556 : BitVec 32 := 2#32
  let v938 : BitVec 32 := Scalar.muli v5 c2_i32_556
  let v939 : BitVec 32 := Scalar.addi v937 v938
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_557 : BitVec 32 := 1#32
  let v940 : BitVec 32 := Scalar.muli v13 c1_i32_557
  let v941 : BitVec 32 := Scalar.addi v939 v940
  v941.toNat
def k0_dev44 (d0 : Dev nD) : Nat :=
  let c0_i32_578 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_577 : BitVec 32 := 4#32
  let v974 : BitVec 32 := Scalar.muli v2 c4_i32_577
  let v975 : BitVec 32 := Scalar.addi c0_i32_578 v974
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_579 : BitVec 32 := 2#32
  let v976 : BitVec 32 := Scalar.muli v5 c2_i32_579
  let v977 : BitVec 32 := Scalar.addi v975 v976
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_580 : BitVec 32 := 1#32
  let v978 : BitVec 32 := Scalar.muli v13 c1_i32_580
  let v979 : BitVec 32 := Scalar.addi v977 v978
  v979.toNat
def k0_off16 (d0 : Dev nD) : Fin 3 → Nat :=
  let c2_i32_585 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v991 : BitVec 32 := Scalar.muli c2_i32_585 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v992 : BitVec 32 := Scalar.addi v991 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_586 : BitVec 32 := 128#32
  let v993 : BitVec 32 := Scalar.muli v8 c128_i32_586
  let c0_i32_593 : BitVec 32 := 0#32
  ![v992.toNat, v993.toNat, 0]
def k0_dev45 (d0 : Dev nD) : Nat :=
  let c0_i32_601 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_600 : BitVec 32 := 4#32
  let v1012 : BitVec 32 := Scalar.muli v2 c4_i32_600
  let v1013 : BitVec 32 := Scalar.addi c0_i32_601 v1012
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_602 : BitVec 32 := 2#32
  let v1014 : BitVec 32 := Scalar.muli v5 c2_i32_602
  let v1015 : BitVec 32 := Scalar.addi v1013 v1014
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_603 : BitVec 32 := 1#32
  let v1016 : BitVec 32 := Scalar.muli v13 c1_i32_603
  let v1017 : BitVec 32 := Scalar.addi v1015 v1016
  v1017.toNat
def k0_off17 (d0 : Dev nD) : Fin 3 → Nat :=
  let c2_i32_608 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1029 : BitVec 32 := Scalar.muli c2_i32_608 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1030 : BitVec 32 := Scalar.addi v1029 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_609 : BitVec 32 := 128#32
  let v1031 : BitVec 32 := Scalar.muli v8 c128_i32_609
  let c0_i32_616 : BitVec 32 := 0#32
  ![v1030.toNat, v1031.toNat, 0]
def k0_dev46 (d0 : Dev nD) : Nat :=
  let c0_i32_624 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_623 : BitVec 32 := 4#32
  let v1050 : BitVec 32 := Scalar.muli v2 c4_i32_623
  let v1051 : BitVec 32 := Scalar.addi c0_i32_624 v1050
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_625 : BitVec 32 := 2#32
  let v1052 : BitVec 32 := Scalar.muli v5 c2_i32_625
  let v1053 : BitVec 32 := Scalar.addi v1051 v1052
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_626 : BitVec 32 := 1#32
  let v1054 : BitVec 32 := Scalar.muli v13 c1_i32_626
  let v1055 : BitVec 32 := Scalar.addi v1053 v1054
  v1055.toNat
def k0_off18 (d0 : Dev nD) : Fin 3 → Nat :=
  let c2_i32_631 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1067 : BitVec 32 := Scalar.muli c2_i32_631 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1068 : BitVec 32 := Scalar.addi v1067 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c128_i32_632 : BitVec 32 := 128#32
  let v1069 : BitVec 32 := Scalar.muli v8 c128_i32_632
  let c0_i32_639 : BitVec 32 := 0#32
  ![v1068.toNat, v1069.toNat, 0]
def k0_dev47 (d0 : Dev nD) : Nat :=
  let c0_i32_647 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_646 : BitVec 32 := 4#32
  let v1088 : BitVec 32 := Scalar.muli v2 c4_i32_646
  let v1089 : BitVec 32 := Scalar.addi c0_i32_647 v1088
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_648 : BitVec 32 := 2#32
  let v1090 : BitVec 32 := Scalar.muli v5 c2_i32_648
  let v1091 : BitVec 32 := Scalar.addi v1089 v1090
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_649 : BitVec 32 := 1#32
  let v1092 : BitVec 32 := Scalar.muli v13 c1_i32_649
  let v1093 : BitVec 32 := Scalar.addi v1091 v1092
  v1093.toNat
def k0_dev48 (d0 : Dev nD) : Nat :=
  let c0_i32_670 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_669 : BitVec 32 := 4#32
  let v1126 : BitVec 32 := Scalar.muli v2 c4_i32_669
  let v1127 : BitVec 32 := Scalar.addi c0_i32_670 v1126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_671 : BitVec 32 := 2#32
  let v1128 : BitVec 32 := Scalar.muli v5 c2_i32_671
  let v1129 : BitVec 32 := Scalar.addi v1127 v1128
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_672 : BitVec 32 := 1#32
  let v1130 : BitVec 32 := Scalar.muli v13 c1_i32_672
  let v1131 : BitVec 32 := Scalar.addi v1129 v1130
  v1131.toNat
def k0_dev49 (d0 : Dev nD) : Nat :=
  let c0_i32_693 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_692 : BitVec 32 := 4#32
  let v1164 : BitVec 32 := Scalar.muli v2 c4_i32_692
  let v1165 : BitVec 32 := Scalar.addi c0_i32_693 v1164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_694 : BitVec 32 := 2#32
  let v1166 : BitVec 32 := Scalar.muli v5 c2_i32_694
  let v1167 : BitVec 32 := Scalar.addi v1165 v1166
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_695 : BitVec 32 := 1#32
  let v1168 : BitVec 32 := Scalar.muli v13 c1_i32_695
  let v1169 : BitVec 32 := Scalar.addi v1167 v1168
  v1169.toNat
def k0_dev50 (d0 : Dev nD) : Nat :=
  let c0_i32_716 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_715 : BitVec 32 := 4#32
  let v1202 : BitVec 32 := Scalar.muli v2 c4_i32_715
  let v1203 : BitVec 32 := Scalar.addi c0_i32_716 v1202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_717 : BitVec 32 := 2#32
  let v1204 : BitVec 32 := Scalar.muli v5 c2_i32_717
  let v1205 : BitVec 32 := Scalar.addi v1203 v1204
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_718 : BitVec 32 := 1#32
  let v1206 : BitVec 32 := Scalar.muli v13 c1_i32_718
  let v1207 : BitVec 32 := Scalar.addi v1205 v1206
  v1207.toNat
def k0_dev51 (d0 : Dev nD) : Nat :=
  let c0_i32_739 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_738 : BitVec 32 := 4#32
  let v1240 : BitVec 32 := Scalar.muli v2 c4_i32_738
  let v1241 : BitVec 32 := Scalar.addi c0_i32_739 v1240
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_740 : BitVec 32 := 2#32
  let v1242 : BitVec 32 := Scalar.muli v5 c2_i32_740
  let v1243 : BitVec 32 := Scalar.addi v1241 v1242
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_741 : BitVec 32 := 1#32
  let v1244 : BitVec 32 := Scalar.muli v13 c1_i32_741
  let v1245 : BitVec 32 := Scalar.addi v1243 v1244
  v1245.toNat
def k0_dev52 (d0 : Dev nD) : Nat :=
  let c0_i32_762 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_761 : BitVec 32 := 4#32
  let v1278 : BitVec 32 := Scalar.muli v2 c4_i32_761
  let v1279 : BitVec 32 := Scalar.addi c0_i32_762 v1278
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_763 : BitVec 32 := 2#32
  let v1280 : BitVec 32 := Scalar.muli v5 c2_i32_763
  let v1281 : BitVec 32 := Scalar.addi v1279 v1280
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_764 : BitVec 32 := 1#32
  let v1282 : BitVec 32 := Scalar.muli v13 c1_i32_764
  let v1283 : BitVec 32 := Scalar.addi v1281 v1282
  v1283.toNat
def k0_dev53 (d0 : Dev nD) : Nat :=
  let c0_i32_785 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_784 : BitVec 32 := 4#32
  let v1316 : BitVec 32 := Scalar.muli v2 c4_i32_784
  let v1317 : BitVec 32 := Scalar.addi c0_i32_785 v1316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_786 : BitVec 32 := 2#32
  let v1318 : BitVec 32 := Scalar.muli v5 c2_i32_786
  let v1319 : BitVec 32 := Scalar.addi v1317 v1318
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_787 : BitVec 32 := 1#32
  let v1320 : BitVec 32 := Scalar.muli v13 c1_i32_787
  let v1321 : BitVec 32 := Scalar.addi v1319 v1320
  v1321.toNat
def k0_off19 (d0 : Dev nD) : Fin 3 → Nat :=
  let c2_i32_792 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1333 : BitVec 32 := Scalar.muli c2_i32_792 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1334 : BitVec 32 := Scalar.addi v1333 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_793 : BitVec 32 := 512#32
  let v1335 : BitVec 32 := Scalar.muli v8 c512_i32_793
  let c0_i32_800 : BitVec 32 := 0#32
  ![v1334.toNat, v1335.toNat, 0]
def k0_dev54 (d0 : Dev nD) : Nat :=
  let c0_i32_808 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_807 : BitVec 32 := 4#32
  let v1354 : BitVec 32 := Scalar.muli v2 c4_i32_807
  let v1355 : BitVec 32 := Scalar.addi c0_i32_808 v1354
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_809 : BitVec 32 := 2#32
  let v1356 : BitVec 32 := Scalar.muli v5 c2_i32_809
  let v1357 : BitVec 32 := Scalar.addi v1355 v1356
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_810 : BitVec 32 := 1#32
  let v1358 : BitVec 32 := Scalar.muli v13 c1_i32_810
  let v1359 : BitVec 32 := Scalar.addi v1357 v1358
  v1359.toNat
def k0_off20 (d0 : Dev nD) : Fin 3 → Nat :=
  let c2_i32_815 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1371 : BitVec 32 := Scalar.muli c2_i32_815 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1372 : BitVec 32 := Scalar.addi v1371 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_816 : BitVec 32 := 512#32
  let v1373 : BitVec 32 := Scalar.muli v8 c512_i32_816
  let c0_i32_823 : BitVec 32 := 0#32
  ![v1372.toNat, v1373.toNat, 0]
def k0_dev55 (d0 : Dev nD) : Nat :=
  let c0_i32_831 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_830 : BitVec 32 := 4#32
  let v1392 : BitVec 32 := Scalar.muli v2 c4_i32_830
  let v1393 : BitVec 32 := Scalar.addi c0_i32_831 v1392
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_832 : BitVec 32 := 2#32
  let v1394 : BitVec 32 := Scalar.muli v5 c2_i32_832
  let v1395 : BitVec 32 := Scalar.addi v1393 v1394
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_833 : BitVec 32 := 1#32
  let v1396 : BitVec 32 := Scalar.muli v13 c1_i32_833
  let v1397 : BitVec 32 := Scalar.addi v1395 v1396
  v1397.toNat
def k0_off21 (d0 : Dev nD) : Fin 3 → Nat :=
  let c2_i32_838 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1409 : BitVec 32 := Scalar.muli c2_i32_838 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1410 : BitVec 32 := Scalar.addi v1409 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_839 : BitVec 32 := 512#32
  let v1411 : BitVec 32 := Scalar.muli v8 c512_i32_839
  let c0_i32_846 : BitVec 32 := 0#32
  ![v1410.toNat, v1411.toNat, 0]
def k0_dev56 (d0 : Dev nD) : Nat :=
  let c0_i32_854 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_853 : BitVec 32 := 4#32
  let v1430 : BitVec 32 := Scalar.muli v2 c4_i32_853
  let v1431 : BitVec 32 := Scalar.addi c0_i32_854 v1430
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_855 : BitVec 32 := 2#32
  let v1432 : BitVec 32 := Scalar.muli v5 c2_i32_855
  let v1433 : BitVec 32 := Scalar.addi v1431 v1432
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_856 : BitVec 32 := 1#32
  let v1434 : BitVec 32 := Scalar.muli v13 c1_i32_856
  let v1435 : BitVec 32 := Scalar.addi v1433 v1434
  v1435.toNat
def k0_dev57 (d0 : Dev nD) : Nat :=
  let c0_i32_877 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_876 : BitVec 32 := 4#32
  let v1468 : BitVec 32 := Scalar.muli v2 c4_i32_876
  let v1469 : BitVec 32 := Scalar.addi c0_i32_877 v1468
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_878 : BitVec 32 := 2#32
  let v1470 : BitVec 32 := Scalar.muli v5 c2_i32_878
  let v1471 : BitVec 32 := Scalar.addi v1469 v1470
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_879 : BitVec 32 := 1#32
  let v1472 : BitVec 32 := Scalar.muli v13 c1_i32_879
  let v1473 : BitVec 32 := Scalar.addi v1471 v1472
  v1473.toNat
def k0_dev58 (d0 : Dev nD) : Nat :=
  let c0_i32_900 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_899 : BitVec 32 := 4#32
  let v1506 : BitVec 32 := Scalar.muli v2 c4_i32_899
  let v1507 : BitVec 32 := Scalar.addi c0_i32_900 v1506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_901 : BitVec 32 := 2#32
  let v1508 : BitVec 32 := Scalar.muli v5 c2_i32_901
  let v1509 : BitVec 32 := Scalar.addi v1507 v1508
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_902 : BitVec 32 := 1#32
  let v1510 : BitVec 32 := Scalar.muli v13 c1_i32_902
  let v1511 : BitVec 32 := Scalar.addi v1509 v1510
  v1511.toNat
def k0_dev59 (d0 : Dev nD) : Nat :=
  let c0_i32_923 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_922 : BitVec 32 := 4#32
  let v1544 : BitVec 32 := Scalar.muli v2 c4_i32_922
  let v1545 : BitVec 32 := Scalar.addi c0_i32_923 v1544
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_924 : BitVec 32 := 2#32
  let v1546 : BitVec 32 := Scalar.muli v5 c2_i32_924
  let v1547 : BitVec 32 := Scalar.addi v1545 v1546
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_925 : BitVec 32 := 1#32
  let v1548 : BitVec 32 := Scalar.muli v13 c1_i32_925
  let v1549 : BitVec 32 := Scalar.addi v1547 v1548
  v1549.toNat
def k0_off22 (d0 : Dev nD) : Fin 3 → Nat :=
  let c2_i32_930 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1561 : BitVec 32 := Scalar.muli c2_i32_930 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1562 : BitVec 32 := Scalar.addi v1561 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c512_i32_931 : BitVec 32 := 512#32
  let v1563 : BitVec 32 := Scalar.muli v13 c512_i32_931
  let c0_i32_938 : BitVec 32 := 0#32
  ![v1562.toNat, v1563.toNat, 0]
def k0_off23 (d0 : Dev nD) : Fin 3 → Nat :=
  let c2_i32_943 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1580 : BitVec 32 := Scalar.muli c2_i32_943 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1581 : BitVec 32 := Scalar.addi v1580 v5
  let c1_i32_940 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1576 : BitVec 32 := Scalar.subi c1_i32_940 v8
  let c512_i32_944 : BitVec 32 := 512#32
  let v1582 : BitVec 32 := Scalar.muli v1576 c512_i32_944
  let c0_i32_951 : BitVec 32 := 0#32
  ![v1581.toNat, v1582.toNat, 0]
def k0_off24 (d0 : Dev nD) : Fin 3 → Nat :=
  let c2_i32_956 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1599 : BitVec 32 := Scalar.muli c2_i32_956 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1600 : BitVec 32 := Scalar.addi v1599 v10
  let c1_i32_953 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1595 : BitVec 32 := Scalar.subi c1_i32_953 v8
  let c512_i32_957 : BitVec 32 := 512#32
  let v1601 : BitVec 32 := Scalar.muli v1595 c512_i32_957
  let c0_i32_964 : BitVec 32 := 0#32
  ![v1600.toNat, v1601.toNat, 0]
def k0_off25 (d0 : Dev nD) : Fin 3 → Nat :=
  let c2_i32_969 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1618 : BitVec 32 := Scalar.muli c2_i32_969 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1619 : BitVec 32 := Scalar.addi v1618 v12
  let c1_i32_966 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1614 : BitVec 32 := Scalar.subi c1_i32_966 v8
  let c512_i32_970 : BitVec 32 := 512#32
  let v1620 : BitVec 32 := Scalar.muli v1614 c512_i32_970
  let c0_i32_977 : BitVec 32 := 0#32
  ![v1619.toNat, v1620.toNat, 0]
def k0_off26 (d0 : Dev nD) : Fin 3 → Nat :=
  let c2_i32_981 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1636 : BitVec 32 := Scalar.muli c2_i32_981 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1637 : BitVec 32 := Scalar.addi v1636 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c128_i32_982 : BitVec 32 := 128#32
  let v1638 : BitVec 32 := Scalar.muli v13 c128_i32_982
  let c0_i32_989 : BitVec 32 := 0#32
  ![v1637.toNat, v1638.toNat, 0]
def k0_off27 (d0 : Dev nD) : Fin 3 → Nat :=
  let c2_i32_994 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1655 : BitVec 32 := Scalar.muli c2_i32_994 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1656 : BitVec 32 := Scalar.addi v1655 v5
  let c1_i32_991 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1651 : BitVec 32 := Scalar.subi c1_i32_991 v8
  let c128_i32_995 : BitVec 32 := 128#32
  let v1657 : BitVec 32 := Scalar.muli v1651 c128_i32_995
  let c0_i32_1002 : BitVec 32 := 0#32
  ![v1656.toNat, v1657.toNat, 0]
def k0_off28 (d0 : Dev nD) : Fin 3 → Nat :=
  let c2_i32_1007 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1674 : BitVec 32 := Scalar.muli c2_i32_1007 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1675 : BitVec 32 := Scalar.addi v1674 v10
  let c1_i32_1004 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1670 : BitVec 32 := Scalar.subi c1_i32_1004 v8
  let c128_i32_1008 : BitVec 32 := 128#32
  let v1676 : BitVec 32 := Scalar.muli v1670 c128_i32_1008
  let c0_i32_1015 : BitVec 32 := 0#32
  ![v1675.toNat, v1676.toNat, 0]
def k0_off29 (d0 : Dev nD) : Fin 3 → Nat :=
  let c2_i32_1020 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1693 : BitVec 32 := Scalar.muli c2_i32_1020 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1694 : BitVec 32 := Scalar.addi v1693 v12
  let c1_i32_1017 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1689 : BitVec 32 := Scalar.subi c1_i32_1017 v8
  let c128_i32_1021 : BitVec 32 := 128#32
  let v1695 : BitVec 32 := Scalar.muli v1689 c128_i32_1021
  let c0_i32_1028 : BitVec 32 := 0#32
  ![v1694.toNat, v1695.toNat, 0]
def k0_off30 (d0 : Dev nD) : Fin 3 → Nat :=
  let c2_i32_1083 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1786 : BitVec 32 := Scalar.muli c2_i32_1083 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1787 : BitVec 32 := Scalar.addi v1786 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c128_i32_1084 : BitVec 32 := 128#32
  let v1788 : BitVec 32 := Scalar.muli v13 c128_i32_1084
  let c0_i32_1091 : BitVec 32 := 0#32
  ![v1787.toNat, v1788.toNat, 0]
def k0_off31 (d0 : Dev nD) : Fin 3 → Nat :=
  let c2_i32_1096 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v1805 : BitVec 32 := Scalar.muli c2_i32_1096 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1806 : BitVec 32 := Scalar.addi v1805 v5
  let c1_i32_1093 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1801 : BitVec 32 := Scalar.subi c1_i32_1093 v8
  let c128_i32_1097 : BitVec 32 := 128#32
  let v1807 : BitVec 32 := Scalar.muli v1801 c128_i32_1097
  let c0_i32_1104 : BitVec 32 := 0#32
  ![v1806.toNat, v1807.toNat, 0]
def k0_off32 (d0 : Dev nD) : Fin 3 → Nat :=
  let c2_i32_1109 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1824 : BitVec 32 := Scalar.muli c2_i32_1109 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v1825 : BitVec 32 := Scalar.addi v1824 v10
  let c1_i32_1106 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1820 : BitVec 32 := Scalar.subi c1_i32_1106 v8
  let c128_i32_1110 : BitVec 32 := 128#32
  let v1826 : BitVec 32 := Scalar.muli v1820 c128_i32_1110
  let c0_i32_1117 : BitVec 32 := 0#32
  ![v1825.toNat, v1826.toNat, 0]
def k0_off33 (d0 : Dev nD) : Fin 3 → Nat :=
  let c2_i32_1122 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v1843 : BitVec 32 := Scalar.muli c2_i32_1122 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v1844 : BitVec 32 := Scalar.addi v1843 v12
  let c1_i32_1119 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1839 : BitVec 32 := Scalar.subi c1_i32_1119 v8
  let c128_i32_1123 : BitVec 32 := 128#32
  let v1845 : BitVec 32 := Scalar.muli v1839 c128_i32_1123
  let c0_i32_1130 : BitVec 32 := 0#32
  ![v1844.toNat, v1845.toNat, 0]
def k0_off34 (d0 : Dev nD) : Fin 3 → Nat :=
  let c2_i32_1236 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2011 : BitVec 32 := Scalar.muli c2_i32_1236 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2012 : BitVec 32 := Scalar.addi v2011 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c512_i32_1237 : BitVec 32 := 512#32
  let v2013 : BitVec 32 := Scalar.muli v13 c512_i32_1237
  let c0_i32_1244 : BitVec 32 := 0#32
  ![v2012.toNat, v2013.toNat, 0]
def k0_off35 (d0 : Dev nD) : Fin 3 → Nat :=
  let c2_i32_1249 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2030 : BitVec 32 := Scalar.muli c2_i32_1249 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2031 : BitVec 32 := Scalar.addi v2030 v5
  let c1_i32_1246 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2026 : BitVec 32 := Scalar.subi c1_i32_1246 v8
  let c512_i32_1250 : BitVec 32 := 512#32
  let v2032 : BitVec 32 := Scalar.muli v2026 c512_i32_1250
  let c0_i32_1257 : BitVec 32 := 0#32
  ![v2031.toNat, v2032.toNat, 0]
def k0_off36 (d0 : Dev nD) : Fin 3 → Nat :=
  let c2_i32_1262 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2049 : BitVec 32 := Scalar.muli c2_i32_1262 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2050 : BitVec 32 := Scalar.addi v2049 v10
  let c1_i32_1259 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2045 : BitVec 32 := Scalar.subi c1_i32_1259 v8
  let c512_i32_1263 : BitVec 32 := 512#32
  let v2051 : BitVec 32 := Scalar.muli v2045 c512_i32_1263
  let c0_i32_1270 : BitVec 32 := 0#32
  ![v2050.toNat, v2051.toNat, 0]
def k0_off37 (d0 : Dev nD) : Fin 3 → Nat :=
  let c2_i32_1275 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2068 : BitVec 32 := Scalar.muli c2_i32_1275 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2069 : BitVec 32 := Scalar.addi v2068 v12
  let c1_i32_1272 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v2064 : BitVec 32 := Scalar.subi c1_i32_1272 v8
  let c512_i32_1276 : BitVec 32 := 512#32
  let v2070 : BitVec 32 := Scalar.muli v2064 c512_i32_1276
  let c0_i32_1283 : BitVec 32 := 0#32
  ![v2069.toNat, v2070.toNat, 0]
def k0_off38 (d0 : Dev nD) : Fin 3 → Nat :=
  let c2_i32_1336 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v2158 : BitVec 32 := Scalar.muli c2_i32_1336 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v2159 : BitVec 32 := Scalar.addi v2158 v5
  let c0_i32_1343 : BitVec 32 := 0#32
  let c0_i32_1344 : BitVec 32 := 0#32
  ![v2159.toNat, 0, 0]
def k0_off39 (d0 : Dev nD) : Fin 3 → Nat :=
  let c2_i32_1345 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v2170 : BitVec 32 := Scalar.muli c2_i32_1345 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v2171 : BitVec 32 := Scalar.addi v2170 v10
  let c0_i32_1352 : BitVec 32 := 0#32
  let c0_i32_1353 : BitVec 32 := 0#32
  ![v2171.toNat, 0, 0]
def k0_off40 (d0 : Dev nD) : Fin 3 → Nat :=
  let c2_i32_1354 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v2182 : BitVec 32 := Scalar.muli c2_i32_1354 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v2183 : BitVec 32 := Scalar.addi v2182 v12
  let c0_i32_1361 : BitVec 32 := 0#32
  let c0_i32_1362 : BitVec 32 := 0#32
  ![v2183.toNat, 0, 0]
-- ==== GatherReference.lean ====
abbrev S4096x1536 : Shape := ⟨2, ![4096, 1536]⟩
abbrev S1024x256 : Shape := ⟨2, ![1024, 256]⟩
abbrev S1024x1024 : Shape := ⟨2, ![1024, 1024]⟩
abbrev S4096x1024 : Shape := ⟨2, ![4096, 1024]⟩
abbrev S32x384 : Shape := ⟨2, ![32, 384]⟩
abbrev S4x1024x1536 : Shape := ⟨3, ![4, 1024, 1536]⟩
abbrev S4x256x256 : Shape := ⟨3, ![4, 256, 256]⟩
abbrev S4x256x1024 : Shape := ⟨3, ![4, 256, 1024]⟩
abbrev S4x1024x1024 : Shape := ⟨3, ![4, 1024, 1024]⟩
abbrev S4x8x384 : Shape := ⟨3, ![4, 8, 384]⟩

abbrev nBuf : Space → Nat
  | .hbm => 18
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x256, .bf16⟩
  | .hbm, ⟨2, _⟩ => ⟨S1024x256, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S4096x1024, .bf16⟩
  | .hbm, ⟨7, _⟩ => ⟨S4096x1024, .bf16⟩
  | .hbm, ⟨8, _⟩ => ⟨S32x384, .f32⟩
  | .hbm, ⟨9, _⟩ => ⟨S4x1024x1536, .bf16⟩
  | .hbm, ⟨10, _⟩ => ⟨S4x256x256, .bf16⟩
  | .hbm, ⟨11, _⟩ => ⟨S4x256x256, .bf16⟩
  | .hbm, ⟨12, _⟩ => ⟨S4x256x1024, .bf16⟩
  | .hbm, ⟨13, _⟩ => ⟨S4x256x1024, .bf16⟩
  | .hbm, ⟨14, _⟩ => ⟨S4x256x1024, .bf16⟩
  | .hbm, ⟨15, _⟩ => ⟨S4x1024x1024, .bf16⟩
  | .hbm, ⟨16, _⟩ => ⟨S4x1024x1024, .bf16⟩
  | .hbm, ⟨17, _⟩ => ⟨S4x8x384, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== AdamwIn.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInIdeal.lean ====
abbrev S1024x1536 : Shape := ⟨2, ![1024, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInReference.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwInReferenceIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGate.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGateIdeal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwGateReference.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwGateReferenceIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutReference.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwUp.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwUpReference.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SmallFirst.lean ====
abbrev S1x1024 : Shape := ⟨2, ![1, 1024]⟩
abbrev S4x256 : Shape := ⟨2, ![4, 256]⟩
abbrev S4x64 : Shape := ⟨2, ![4, 64]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S4x256, .f32⟩
  | .hbm, ⟨2, _⟩ => ⟨S1x1024, .f32⟩
  | .hbm, ⟨3, _⟩ => ⟨S4x64, .f32⟩
  | .hbm, ⟨4, _⟩ => ⟨S1x1024, .f32⟩
  | .hbm, ⟨5, _⟩ => ⟨S4x256, .f32⟩
  | .hbm, ⟨6, _⟩ => ⟨S1x1024, .f32⟩
  | .hbm, ⟨7, _⟩ => ⟨S4x64, .f32⟩
  | .hbm, ⟨8, _⟩ => ⟨S1x1024, .f32⟩
  | .hbm, ⟨9, _⟩ => ⟨S4x256, .f32⟩
  | .hbm, ⟨10, _⟩ => ⟨S1x1024, .f32⟩
  | .hbm, ⟨11, _⟩ => ⟨S4x64, .f32⟩
  | .hbm, ⟨12, _⟩ => ⟨S1x1024, .f32⟩
  | .hbm, ⟨13, _⟩ => ⟨S4x256, .f32⟩
  | .hbm, ⟨14, _⟩ => ⟨S1x1024, .f32⟩
  | .hbm, ⟨15, _⟩ => ⟨S4x64, .f32⟩
  | .hbm, ⟨16, _⟩ => ⟨S1x1024, .f32⟩
  | .hbm, ⟨17, _⟩ => ⟨S4x256, .f32⟩
  | .hbm, ⟨18, _⟩ => ⟨S1x1024, .f32⟩
  | .hbm, ⟨19, _⟩ => ⟨S4x64, .f32⟩
  | .hbm, ⟨20, _⟩ => ⟨S1x1024, .f32⟩
  | .hbm, ⟨21, _⟩ => ⟨S4x256, .f32⟩
  | .hbm, ⟨22, _⟩ => ⟨S1x1024, .f32⟩
  | .hbm, ⟨23, _⟩ => ⟨S4x64, .f32⟩
  | .hbm, ⟨24, _⟩ => ⟨S1x1024, .f32⟩
  | .hbm, ⟨25, _⟩ => ⟨S4x256, .f32⟩
  | .hbm, ⟨26, _⟩ => ⟨S1x1024, .f32⟩
  | .hbm, ⟨27, _⟩ => ⟨S4x64, .f32⟩
  | .local _ .vmem, ⟨0, _⟩ => ⟨S1x1024, .f32⟩
  | .local _ .vmem, ⟨1, _⟩ => ⟨S4x256, .f32⟩
  | .local _ .vmem, ⟨2, _⟩ => ⟨S1x1024, .f32⟩
  | .local _ .vmem, ⟨3, _⟩ => ⟨S4x64, .f32⟩
  | .local _ .vmem, ⟨4, _⟩ => ⟨S1x1024, .f32⟩
  | .local _ .vmem, ⟨5, _⟩ => ⟨S4x256, .f32⟩
  | .local _ .vmem, ⟨6, _⟩ => ⟨S1x1024, .f32⟩
  | .local _ .vmem, ⟨7, _⟩ => ⟨S4x64, .f32⟩
  | .local _ .vmem, ⟨8, _⟩ => ⟨S1x1024, .f32⟩
  | .local _ .vmem, ⟨9, _⟩ => ⟨S4x256, .f32⟩
  | .local _ .vmem, ⟨10, _⟩ => ⟨S1x1024, .f32⟩
  | .local _ .vmem, ⟨11, _⟩ => ⟨S4x64, .f32⟩
  | .local _ .vmem, ⟨12, _⟩ => ⟨S1x1024, .f32⟩
  | .local _ .vmem, ⟨13, _⟩ => ⟨S4x256, .f32⟩
  | .local _ .vmem, ⟨14, _⟩ => ⟨S1x1024, .f32⟩
  | .local _ .vmem, ⟨15, _⟩ => ⟨S4x64, .f32⟩
  | .local _ .vmem, ⟨16, _⟩ => ⟨S1x1024, .f32⟩
  | .local _ .vmem, ⟨17, _⟩ => ⟨S4x256, .f32⟩
  | .local _ .vmem, ⟨18, _⟩ => ⟨S1x1024, .f32⟩
  | .local _ .vmem, ⟨19, _⟩ => ⟨S4x64, .f32⟩
  | .local _ .vmem, ⟨20, _⟩ => ⟨S1x1024, .f32⟩
  | .local _ .vmem, ⟨21, _⟩ => ⟨S4x256, .f32⟩
  | .local _ .vmem, ⟨22, _⟩ => ⟨S1x1024, .f32⟩
  | .local _ .vmem, ⟨23, _⟩ => ⟨S4x64, .f32⟩
  | .local _ .vmem, ⟨24, _⟩ => ⟨S1x1024, .f32⟩
  | .local _ .vmem, ⟨25, _⟩ => ⟨S4x256, .f32⟩
  | .local _ .vmem, ⟨26, _⟩ => ⟨S1x1024, .f32⟩
  | .local _ .vmem, ⟨27, _⟩ => ⟨S4x64, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallFirstIdeal.lean ====
abbrev S1x1024 : Shape := ⟨2, ![1, 1024]⟩
abbrev S4x256 : Shape := ⟨2, ![4, 256]⟩
abbrev S4x64 : Shape := ⟨2, ![4, 64]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S4x256, .f32⟩
  | .hbm, ⟨2, _⟩ => ⟨S1x1024, .f32⟩
  | .hbm, ⟨3, _⟩ => ⟨S4x64, .f32⟩
  | .hbm, ⟨4, _⟩ => ⟨S1x1024, .f32⟩
  | .hbm, ⟨5, _⟩ => ⟨S4x256, .f32⟩
  | .hbm, ⟨6, _⟩ => ⟨S1x1024, .f32⟩
  | .hbm, ⟨7, _⟩ => ⟨S4x64, .f32⟩
  | .hbm, ⟨8, _⟩ => ⟨S1x1024, .f32⟩
  | .hbm, ⟨9, _⟩ => ⟨S4x256, .f32⟩
  | .hbm, ⟨10, _⟩ => ⟨S1x1024, .f32⟩
  | .hbm, ⟨11, _⟩ => ⟨S4x64, .f32⟩
  | .hbm, ⟨12, _⟩ => ⟨S1x1024, .f32⟩
  | .hbm, ⟨13, _⟩ => ⟨S4x256, .f32⟩
  | .hbm, ⟨14, _⟩ => ⟨S1x1024, .f32⟩
  | .hbm, ⟨15, _⟩ => ⟨S4x64, .f32⟩
  | .hbm, ⟨16, _⟩ => ⟨S1x1024, .f32⟩
  | .hbm, ⟨17, _⟩ => ⟨S4x256, .f32⟩
  | .hbm, ⟨18, _⟩ => ⟨S1x1024, .f32⟩
  | .hbm, ⟨19, _⟩ => ⟨S4x64, .f32⟩
  | .hbm, ⟨20, _⟩ => ⟨S1x1024, .f32⟩
  | .hbm, ⟨21, _⟩ => ⟨S4x256, .f32⟩
  | .hbm, ⟨22, _⟩ => ⟨S1x1024, .f32⟩
  | .hbm, ⟨23, _⟩ => ⟨S4x64, .f32⟩
  | .hbm, ⟨24, _⟩ => ⟨S1x1024, .f32⟩
  | .hbm, ⟨25, _⟩ => ⟨S4x256, .f32⟩
  | .hbm, ⟨26, _⟩ => ⟨S1x1024, .f32⟩
  | .hbm, ⟨27, _⟩ => ⟨S4x64, .f32⟩
  | .local _ .vmem, ⟨0, _⟩ => ⟨S1x1024, .f32⟩
  | .local _ .vmem, ⟨1, _⟩ => ⟨S4x256, .f32⟩
  | .local _ .vmem, ⟨2, _⟩ => ⟨S1x1024, .f32⟩
  | .local _ .vmem, ⟨3, _⟩ => ⟨S4x64, .f32⟩
  | .local _ .vmem, ⟨4, _⟩ => ⟨S1x1024, .f32⟩
  | .local _ .vmem, ⟨5, _⟩ => ⟨S4x256, .f32⟩
  | .local _ .vmem, ⟨6, _⟩ => ⟨S1x1024, .f32⟩
  | .local _ .vmem, ⟨7, _⟩ => ⟨S4x64, .f32⟩
  | .local _ .vmem, ⟨8, _⟩ => ⟨S1x1024, .f32⟩
  | .local _ .vmem, ⟨9, _⟩ => ⟨S4x256, .f32⟩
  | .local _ .vmem, ⟨10, _⟩ => ⟨S1x1024, .f32⟩
  | .local _ .vmem, ⟨11, _⟩ => ⟨S4x64, .f32⟩
  | .local _ .vmem, ⟨12, _⟩ => ⟨S1x1024, .f32⟩
  | .local _ .vmem, ⟨13, _⟩ => ⟨S4x256, .f32⟩
  | .local _ .vmem, ⟨14, _⟩ => ⟨S1x1024, .f32⟩
  | .local _ .vmem, ⟨15, _⟩ => ⟨S4x64, .f32⟩
  | .local _ .vmem, ⟨16, _⟩ => ⟨S1x1024, .f32⟩
  | .local _ .vmem, ⟨17, _⟩ => ⟨S4x256, .f32⟩
  | .local _ .vmem, ⟨18, _⟩ => ⟨S1x1024, .f32⟩
  | .local _ .vmem, ⟨19, _⟩ => ⟨S4x64, .f32⟩
  | .local _ .vmem, ⟨20, _⟩ => ⟨S1x1024, .f32⟩
  | .local _ .vmem, ⟨21, _⟩ => ⟨S4x256, .f32⟩
  | .local _ .vmem, ⟨22, _⟩ => ⟨S1x1024, .f32⟩
  | .local _ .vmem, ⟨23, _⟩ => ⟨S4x64, .f32⟩
  | .local _ .vmem, ⟨24, _⟩ => ⟨S1x1024, .f32⟩
  | .local _ .vmem, ⟨25, _⟩ => ⟨S4x256, .f32⟩
  | .local _ .vmem, ⟨26, _⟩ => ⟨S1x1024, .f32⟩
  | .local _ .vmem, ⟨27, _⟩ => ⟨S4x64, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallFirstReference.lean ====
abbrev S1x1024 : Shape := ⟨2, ![1, 1024]⟩
abbrev S4x256 : Shape := ⟨2, ![4, 256]⟩
abbrev S4x64 : Shape := ⟨2, ![4, 64]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S4x256, .f32⟩
  | 2 => ⟨S1x1024, .f32⟩
  | 3 => ⟨S4x64, .f32⟩
  | 4 => ⟨S1x1024, .f32⟩
  | 5 => ⟨S4x256, .f32⟩
  | 6 => ⟨S1x1024, .f32⟩
  | 7 => ⟨S4x64, .f32⟩
  | 8 => ⟨S1x1024, .f32⟩
  | 9 => ⟨S4x256, .f32⟩
  | 10 => ⟨S1x1024, .f32⟩
  | 11 => ⟨S4x64, .f32⟩
  | 12 => ⟨S1x1024, .f32⟩
  | 13 => ⟨S4x256, .f32⟩
  | 14 => ⟨S1x1024, .f32⟩
  | 15 => ⟨S4x64, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S4x256, .f32⟩
  | 51 => ⟨S4x256, .f32⟩
  | 52 => ⟨S_, .f32⟩
  | 53 => ⟨S4x256, .f32⟩
  | 54 => ⟨S4x256, .f32⟩
  | 55 => ⟨S4x256, .f32⟩
  | 56 => ⟨S_, .f32⟩
  | 57 => ⟨S4x256, .f32⟩
  | 58 => ⟨S4x256, .f32⟩
  | 59 => ⟨S4x256, .f32⟩
  | 60 => ⟨S_, .f32⟩
  | 61 => ⟨S4x256, .f32⟩
  | 62 => ⟨S4x256, .f32⟩
  | 63 => ⟨S4x256, .f32⟩
  | 64 => ⟨S_, .f32⟩
  | 65 => ⟨S4x256, .f32⟩
  | 66 => ⟨S4x256, .f32⟩
  | 67 => ⟨S_, .f32⟩
  | 68 => ⟨S4x256, .f32⟩
  | 69 => ⟨S4x256, .f32⟩
  | 70 => ⟨S4x256, .f32⟩
  | 71 => ⟨S_, .f32⟩
  | 72 => ⟨S4x256, .f32⟩
  | 73 => ⟨S4x256, .f32⟩
  | 74 => ⟨S4x256, .f32⟩
  | 75 => ⟨S_, .f32⟩
  | 76 => ⟨S4x256, .f32⟩
  | 77 => ⟨S4x256, .f32⟩
  | 78 => ⟨S4x256, .f32⟩
  | 79 => ⟨S_, .f32⟩
  | 80 => ⟨S4x256, .f32⟩
  | 81 => ⟨S4x256, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S4x64, .f32⟩
  | 117 => ⟨S4x64, .f32⟩
  | 118 => ⟨S_, .f32⟩
  | 119 => ⟨S4x64, .f32⟩
  | 120 => ⟨S4x64, .f32⟩
  | 121 => ⟨S4x64, .f32⟩
  | 122 => ⟨S_, .f32⟩
  | 123 => ⟨S4x64, .f32⟩
  | 124 => ⟨S4x64, .f32⟩
  | 125 => ⟨S4x64, .f32⟩
  | 126 => ⟨S_, .f32⟩
  | 127 => ⟨S4x64, .f32⟩
  | _ => ⟨S1x1024, .f32⟩

abbrev hbmTy0_1 (i : Nat) : BufTy := match i % 128 with
  | 0 => ⟨S4x64, .f32⟩
  | 1 => ⟨S4x64, .f32⟩
  | 2 => ⟨S_, .f32⟩
  | 3 => ⟨S4x64, .f32⟩
  | 4 => ⟨S4x64, .f32⟩
  | 5 => ⟨S_, .f32⟩
  | 6 => ⟨S4x64, .f32⟩
  | 7 => ⟨S4x64, .f32⟩
  | 8 => ⟨S4x64, .f32⟩
  | 9 => ⟨S_, .f32⟩
  | 10 => ⟨S4x64, .f32⟩
  | 11 => ⟨S4x64, .f32⟩
  | 12 => ⟨S4x64, .f32⟩
  | 13 => ⟨S_, .f32⟩
  | 14 => ⟨S4x64, .f32⟩
  | 15 => ⟨S4x64, .f32⟩
  | 16 => ⟨S4x64, .f32⟩
  | 17 => ⟨S_, .f32⟩
  | 18 => ⟨S4x64, .f32⟩
  | 19 => ⟨S4x64, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== SmallFirstReferenceIdeal.lean ====
abbrev S1x1024 : Shape := ⟨2, ![1, 1024]⟩
abbrev S4x256 : Shape := ⟨2, ![4, 256]⟩
abbrev S4x64 : Shape := ⟨2, ![4, 64]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S4x256, .f32⟩
  | 2 => ⟨S1x1024, .f32⟩
  | 3 => ⟨S4x64, .f32⟩
  | 4 => ⟨S1x1024, .f32⟩
  | 5 => ⟨S4x256, .f32⟩
  | 6 => ⟨S1x1024, .f32⟩
  | 7 => ⟨S4x64, .f32⟩
  | 8 => ⟨S1x1024, .f32⟩
  | 9 => ⟨S4x256, .f32⟩
  | 10 => ⟨S1x1024, .f32⟩
  | 11 => ⟨S4x64, .f32⟩
  | 12 => ⟨S1x1024, .f32⟩
  | 13 => ⟨S4x256, .f32⟩
  | 14 => ⟨S1x1024, .f32⟩
  | 15 => ⟨S4x64, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S4x256, .f32⟩
  | 51 => ⟨S4x256, .f32⟩
  | 52 => ⟨S_, .f32⟩
  | 53 => ⟨S4x256, .f32⟩
  | 54 => ⟨S4x256, .f32⟩
  | 55 => ⟨S4x256, .f32⟩
  | 56 => ⟨S_, .f32⟩
  | 57 => ⟨S4x256, .f32⟩
  | 58 => ⟨S4x256, .f32⟩
  | 59 => ⟨S4x256, .f32⟩
  | 60 => ⟨S_, .f32⟩
  | 61 => ⟨S4x256, .f32⟩
  | 62 => ⟨S4x256, .f32⟩
  | 63 => ⟨S4x256, .f32⟩
  | 64 => ⟨S_, .f32⟩
  | 65 => ⟨S4x256, .f32⟩
  | 66 => ⟨S4x256, .f32⟩
  | 67 => ⟨S_, .f32⟩
  | 68 => ⟨S4x256, .f32⟩
  | 69 => ⟨S4x256, .f32⟩
  | 70 => ⟨S4x256, .f32⟩
  | 71 => ⟨S_, .f32⟩
  | 72 => ⟨S4x256, .f32⟩
  | 73 => ⟨S4x256, .f32⟩
  | 74 => ⟨S4x256, .f32⟩
  | 75 => ⟨S_, .f32⟩
  | 76 => ⟨S4x256, .f32⟩
  | 77 => ⟨S4x256, .f32⟩
  | 78 => ⟨S4x256, .f32⟩
  | 79 => ⟨S_, .f32⟩
  | 80 => ⟨S4x256, .f32⟩
  | 81 => ⟨S4x256, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S4x64, .f32⟩
  | 117 => ⟨S4x64, .f32⟩
  | 118 => ⟨S_, .f32⟩
  | 119 => ⟨S4x64, .f32⟩
  | 120 => ⟨S4x64, .f32⟩
  | 121 => ⟨S4x64, .f32⟩
  | 122 => ⟨S_, .f32⟩
  | 123 => ⟨S4x64, .f32⟩
  | 124 => ⟨S4x64, .f32⟩
  | 125 => ⟨S4x64, .f32⟩
  | 126 => ⟨S_, .f32⟩
  | 127 => ⟨S4x64, .f32⟩
  | _ => ⟨S1x1024, .f32⟩

abbrev hbmTy0_1 (i : Nat) : BufTy := match i % 128 with
  | 0 => ⟨S4x64, .f32⟩
  | 1 => ⟨S4x64, .f32⟩
  | 2 => ⟨S_, .f32⟩
  | 3 => ⟨S4x64, .f32⟩
  | 4 => ⟨S4x64, .f32⟩
  | 5 => ⟨S_, .f32⟩
  | 6 => ⟨S4x64, .f32⟩
  | 7 => ⟨S4x64, .f32⟩
  | 8 => ⟨S4x64, .f32⟩
  | 9 => ⟨S_, .f32⟩
  | 10 => ⟨S4x64, .f32⟩
  | 11 => ⟨S4x64, .f32⟩
  | 12 => ⟨S4x64, .f32⟩
  | 13 => ⟨S_, .f32⟩
  | 14 => ⟨S4x64, .f32⟩
  | 15 => ⟨S4x64, .f32⟩
  | 16 => ⟨S4x64, .f32⟩
  | 17 => ⟨S_, .f32⟩
  | 18 => ⟨S4x64, .f32⟩
  | 19 => ⟨S4x64, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== SmallNext.lean ====
abbrev S4x64 : Shape := ⟨2, ![4, 64]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S4x64, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x64, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x64, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x64, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4x64, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4x64, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4x64, .f32⟩
  | .hbm, ⟨25, _⟩ => ⟨S1x1024, .f32⟩
  | .hbm, ⟨26, _⟩ => ⟨S1x1024, .f32⟩
  | .hbm, ⟨27, _⟩ => ⟨S1x1024, .f32⟩
  | .local _ .vmem, ⟨0, _⟩ => ⟨S4x64, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S4x64, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S4x64, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S4x64, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S4x64, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S4x64, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S4x64, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallNextIdeal.lean ====
abbrev S4x64 : Shape := ⟨2, ![4, 64]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S4x64, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4x64, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x64, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4x64, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4x64, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4x64, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4x64, .f32⟩
  | .hbm, ⟨25, _⟩ => ⟨S1x1024, .f32⟩
  | .hbm, ⟨26, _⟩ => ⟨S1x1024, .f32⟩
  | .hbm, ⟨27, _⟩ => ⟨S1x1024, .f32⟩
  | .local _ .vmem, ⟨0, _⟩ => ⟨S4x64, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S4x64, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S4x64, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S4x64, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S4x64, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S4x64, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S4x64, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallNextReference.lean ====
abbrev S4x64 : Shape := ⟨2, ![4, 64]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S4x64, .f32⟩
  | 1 => ⟨S1x1024, .f32⟩
  | 2 => ⟨S1x1024, .f32⟩
  | 3 => ⟨S1x1024, .f32⟩
  | 4 => ⟨S4x64, .f32⟩
  | 5 => ⟨S1x1024, .f32⟩
  | 6 => ⟨S1x1024, .f32⟩
  | 7 => ⟨S1x1024, .f32⟩
  | 8 => ⟨S4x64, .f32⟩
  | 9 => ⟨S1x1024, .f32⟩
  | 10 => ⟨S1x1024, .f32⟩
  | 11 => ⟨S1x1024, .f32⟩
  | 12 => ⟨S4x64, .f32⟩
  | 13 => ⟨S1x1024, .f32⟩
  | 14 => ⟨S1x1024, .f32⟩
  | 15 => ⟨S1x1024, .f32⟩
  | 16 => ⟨S_, .f32⟩
  | 17 => ⟨S4x64, .f32⟩
  | 18 => ⟨S4x64, .f32⟩
  | 19 => ⟨S_, .f32⟩
  | 20 => ⟨S4x64, .f32⟩
  | 21 => ⟨S4x64, .f32⟩
  | 22 => ⟨S4x64, .f32⟩
  | 23 => ⟨S_, .f32⟩
  | 24 => ⟨S4x64, .f32⟩
  | 25 => ⟨S4x64, .f32⟩
  | 26 => ⟨S4x64, .f32⟩
  | 27 => ⟨S_, .f32⟩
  | 28 => ⟨S4x64, .f32⟩
  | 29 => ⟨S4x64, .f32⟩
  | 30 => ⟨S4x64, .f32⟩
  | 31 => ⟨S_, .f32⟩
  | 32 => ⟨S4x64, .f32⟩
  | 33 => ⟨S4x64, .f32⟩
  | 34 => ⟨S_, .f32⟩
  | 35 => ⟨S4x64, .f32⟩
  | 36 => ⟨S4x64, .f32⟩
  | 37 => ⟨S4x64, .f32⟩
  | 38 => ⟨S_, .f32⟩
  | 39 => ⟨S4x64, .f32⟩
  | 40 => ⟨S4x64, .f32⟩
  | 41 => ⟨S4x64, .f32⟩
  | 42 => ⟨S_, .f32⟩
  | 43 => ⟨S4x64, .f32⟩
  | 44 => ⟨S4x64, .f32⟩
  | 45 => ⟨S4x64, .f32⟩
  | 46 => ⟨S_, .f32⟩
  | 47 => ⟨S4x64, .f32⟩
  | 48 => ⟨S4x64, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S4x64, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S4x64, .f32⟩

abbrev hbmTy (i : Nat) : BufTy := match i / 128 with
  | 0 => hbmTy0_0 i
  | 1 => hbmTy0_1 i
  | _ => ⟨S4x64, .f32⟩

abbrev bufTy : (tb : Table) → Fin (tcTables nBuf tb) → BufTy
  | .hbm, ⟨i, _⟩ => hbmTy i
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== SmallNextReferenceIdeal.lean ====
abbrev S4x64 : Shape := ⟨2, ![4, 64]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S4x64, .f32⟩
  | 1 => ⟨S1x1024, .f32⟩
  | 2 => ⟨S1x1024, .f32⟩
  | 3 => ⟨S1x1024, .f32⟩
  | 4 => ⟨S4x64, .f32⟩
  | 5 => ⟨S1x1024, .f32⟩
  | 6 => ⟨S1x1024, .f32⟩
  | 7 => ⟨S1x1024, .f32⟩
  | 8 => ⟨S4x64, .f32⟩
  | 9 => ⟨S1x1024, .f32⟩
  | 10 => ⟨S1x1024, .f32⟩
  | 11 => ⟨S1x1024, .f32⟩
  | 12 => ⟨S4x64, .f32⟩
  | 13 => ⟨S1x1024, .f32⟩
  | 14 => ⟨S1x1024, .f32⟩
  | 15 => ⟨S1x1024, .f32⟩
  | 16 => ⟨S_, .f32⟩
  | 17 => ⟨S4x64, .f32⟩
  | 18 => ⟨S4x64, .f32⟩
  | 19 => ⟨S_, .f32⟩
  | 20 => ⟨S4x64, .f32⟩
  | 21 => ⟨S4x64, .f32⟩
  | 22 => ⟨S4x64, .f32⟩
  | 23 => ⟨S_, .f32⟩
  | 24 => ⟨S4x64, .f32⟩
  | 25 => ⟨S4x64, .f32⟩
  | 26 => ⟨S4x64, .f32⟩
  | 27 => ⟨S_, .f32⟩
  | 28 => ⟨S4x64, .f32⟩
  | 29 => ⟨S4x64, .f32⟩
  | 30 => ⟨S4x64, .f32⟩
  | 31 => ⟨S_, .f32⟩
  | 32 => ⟨S4x64, .f32⟩
  | 33 => ⟨S4x64, .f32⟩
  | 34 => ⟨S_, .f32⟩
  | 35 => ⟨S4x64, .f32⟩
  | 36 => ⟨S4x64, .f32⟩
  | 37 => ⟨S4x64, .f32⟩
  | 38 => ⟨S_, .f32⟩
  | 39 => ⟨S4x64, .f32⟩
  | 40 => ⟨S4x64, .f32⟩
  | 41 => ⟨S4x64, .f32⟩
  | 42 => ⟨S_, .f32⟩
  | 43 => ⟨S4x64, .f32⟩
  | 44 => ⟨S4x64, .f32⟩
  | 45 => ⟨S4x64, .f32⟩
  | 46 => ⟨S_, .f32⟩
  | 47 => ⟨S4x64, .f32⟩
  | 48 => ⟨S4x64, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S4x64, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S4x64, .f32⟩

abbrev hbmTy (i : Nat) : BufTy := match i / 128 with
  | 0 => hbmTy0_0 i
  | 1 => hbmTy0_1 i
  | _ => ⟨S4x64, .f32⟩

abbrev bufTy : (tb : Table) → Fin (tcTables nBuf tb) → BufTy
  | .hbm, ⟨i, _⟩ => hbmTy i
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== SmallLast.lean ====
abbrev S512x128 : Shape := ⟨2, ![512, 128]⟩
abbrev S4x128 : Shape := ⟨2, ![4, 128]⟩
abbrev S1x1024 : Shape := ⟨2, ![1, 1024]⟩

abbrev nBuf : Space → Nat
  | .hbm => 28
  | .vmem => 28
  | .smem => 0
  | _ => 0

abbrev bufTy : (tb : Table) → Fin (tcTables nBuf tb) → BufTy
  | .hbm, ⟨0, _⟩ => ⟨S512x128, .f32⟩
  | .hbm, ⟨1, _⟩ => ⟨S4x128, .f32⟩
  | .hbm, ⟨2, _⟩ => ⟨S1x1024, .f32⟩
  | .hbm, ⟨3, _⟩ => ⟨S1x1024, .f32⟩
  | .hbm, ⟨4, _⟩ => ⟨S512x128, .f32⟩
  | .hbm, ⟨5, _⟩ => ⟨S4x128, .f32⟩
  | .hbm, ⟨6, _⟩ => ⟨S1x1024, .f32⟩
  | .hbm, ⟨7, _⟩ => ⟨S1x1024, .f32⟩
  | .hbm, ⟨8, _⟩ => ⟨S512x128, .f32⟩
  | .hbm, ⟨9, _⟩ => ⟨S4x128, .f32⟩
  | .hbm, ⟨10, _⟩ => ⟨S1x1024, .f32⟩
  | .hbm, ⟨11, _⟩ => ⟨S1x1024, .f32⟩
  | .hbm, ⟨12, _⟩ => ⟨S512x128, .f32⟩
  | .hbm, ⟨13, _⟩ => ⟨S4x128, .f32⟩
  | .hbm, ⟨14, _⟩ => ⟨S1x1024, .f32⟩
  | .hbm, ⟨15, _⟩ => ⟨S1x1024, .f32⟩
  | .hbm, ⟨16, _⟩ => ⟨S512x128, .f32⟩
  | .hbm, ⟨17, _⟩ => ⟨S4x128, .f32⟩
  | .hbm, ⟨18, _⟩ => ⟨S1x1024, .f32⟩
  | .hbm, ⟨19, _⟩ => ⟨S1x1024, .f32⟩
  | .hbm, ⟨20, _⟩ => ⟨S512x128, .f32⟩
  | .hbm, ⟨21, _⟩ => ⟨S4x128, .f32⟩
  | .hbm, ⟨22, _⟩ => ⟨S1x1024, .f32⟩
  | .hbm, ⟨23, _⟩ => ⟨S1x1024, .f32⟩
  | .hbm, ⟨24, _⟩ => ⟨S512x128, .f32⟩
  | .hbm, ⟨25, _⟩ => ⟨S4x128, .f32⟩
  | .hbm, ⟨26, _⟩ => ⟨S1x1024, .f32⟩
  | .hbm, ⟨27, _⟩ => ⟨S1x1024, .f32⟩
  | .local _ .vmem, ⟨0, _⟩ => ⟨S512x128, .f32⟩
  | .local _ .vmem, ⟨1, _⟩ => ⟨S4x128, .f32⟩
  | .local _ .vmem, ⟨2, _⟩ => ⟨S1x1024, .f32⟩
  | .local _ .vmem, ⟨3, _⟩ => ⟨S1x1024, .f32⟩
  | .local _ .vmem, ⟨4, _⟩ => ⟨S512x128, .f32⟩
  | .local _ .vmem, ⟨5, _⟩ => ⟨S4x128, .f32⟩
  | .local _ .vmem, ⟨6, _⟩ => ⟨S1x1024, .f32⟩
  | .local _ .vmem, ⟨7, _⟩ => ⟨S1x1024, .f32⟩
  | .local _ .vmem, ⟨8, _⟩ => ⟨S512x128, .f32⟩
  | .local _ .vmem, ⟨9, _⟩ => ⟨S4x128, .f32⟩
  | .local _ .vmem, ⟨10, _⟩ => ⟨S1x1024, .f32⟩
  | .local _ .vmem, ⟨11, _⟩ => ⟨S1x1024, .f32⟩
  | .local _ .vmem, ⟨12, _⟩ => ⟨S512x128, .f32⟩
  | .local _ .vmem, ⟨13, _⟩ => ⟨S4x128, .f32⟩
  | .local _ .vmem, ⟨14, _⟩ => ⟨S1x1024, .f32⟩
  | .local _ .vmem, ⟨15, _⟩ => ⟨S1x1024, .f32⟩
  | .local _ .vmem, ⟨16, _⟩ => ⟨S512x128, .f32⟩
  | .local _ .vmem, ⟨17, _⟩ => ⟨S4x128, .f32⟩
  | .local _ .vmem, ⟨18, _⟩ => ⟨S1x1024, .f32⟩
  | .local _ .vmem, ⟨19, _⟩ => ⟨S1x1024, .f32⟩
  | .local _ .vmem, ⟨20, _⟩ => ⟨S512x128, .f32⟩
  | .local _ .vmem, ⟨21, _⟩ => ⟨S4x128, .f32⟩
  | .local _ .vmem, ⟨22, _⟩ => ⟨S1x1024, .f32⟩
  | .local _ .vmem, ⟨23, _⟩ => ⟨S1x1024, .f32⟩
  | .local _ .vmem, ⟨24, _⟩ => ⟨S512x128, .f32⟩
  | .local _ .vmem, ⟨25, _⟩ => ⟨S4x128, .f32⟩
  | .local _ .vmem, ⟨26, _⟩ => ⟨S1x1024, .f32⟩
  | .local _ .vmem, ⟨27, _⟩ => ⟨S1x1024, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S512x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== SmallLastReference.lean ====
abbrev S512x128 : Shape := ⟨2, ![512, 128]⟩
abbrev S4x128 : Shape := ⟨2, ![4, 128]⟩
abbrev S1x1024 : Shape := ⟨2, ![1, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S512x128, .f32⟩
  | 1 => ⟨S4x128, .f32⟩
  | 2 => ⟨S1x1024, .f32⟩
  | 3 => ⟨S1x1024, .f32⟩
  | 4 => ⟨S512x128, .f32⟩
  | 5 => ⟨S4x128, .f32⟩
  | 6 => ⟨S1x1024, .f32⟩
  | 7 => ⟨S1x1024, .f32⟩
  | 8 => ⟨S512x128, .f32⟩
  | 9 => ⟨S4x128, .f32⟩
  | 10 => ⟨S1x1024, .f32⟩
  | 11 => ⟨S1x1024, .f32⟩
  | 12 => ⟨S512x128, .f32⟩
  | 13 => ⟨S4x128, .f32⟩
  | 14 => ⟨S1x1024, .f32⟩
  | 15 => ⟨S1x1024, .f32⟩
  | 16 => ⟨S_, .f32⟩
  | 17 => ⟨S512x128, .f32⟩
  | 18 => ⟨S512x128, .f32⟩
  | 19 => ⟨S_, .f32⟩
  | 20 => ⟨S512x128, .f32⟩
  | 21 => ⟨S512x128, .f32⟩
  | 22 => ⟨S512x128, .f32⟩
  | 23 => ⟨S_, .f32⟩
  | 24 => ⟨S512x128, .f32⟩
  | 25 => ⟨S512x128, .f32⟩
  | 26 => ⟨S512x128, .f32⟩
  | 27 => ⟨S_, .f32⟩
  | 28 => ⟨S512x128, .f32⟩
  | 29 => ⟨S512x128, .f32⟩
  | 30 => ⟨S512x128, .f32⟩
  | 31 => ⟨S_, .f32⟩
  | 32 => ⟨S512x128, .f32⟩
  | 33 => ⟨S512x128, .f32⟩
  | 34 => ⟨S_, .f32⟩
  | 35 => ⟨S512x128, .f32⟩
  | 36 => ⟨S512x128, .f32⟩
  | 37 => ⟨S512x128, .f32⟩
  | 38 => ⟨S_, .f32⟩
  | 39 => ⟨S512x128, .f32⟩
  | 40 => ⟨S512x128, .f32⟩
  | 41 => ⟨S512x128, .f32⟩
  | 42 => ⟨S_, .f32⟩
  | 43 => ⟨S512x128, .f32⟩
  | 44 => ⟨S512x128, .f32⟩
  | 45 => ⟨S512x128, .f32⟩
  | 46 => ⟨S_, .f32⟩
  | 47 => ⟨S512x128, .f32⟩
  | 48 => ⟨S512x128, .f32⟩
  | 49 => ⟨S_, .f32⟩
  | 50 => ⟨S4x128, .f32⟩
  | 51 => ⟨S4x128, .f32⟩
  | 52 => ⟨S_, .f32⟩
  | 53 => ⟨S4x128, .f32⟩
  | 54 => ⟨S4x128, .f32⟩
  | 55 => ⟨S4x128, .f32⟩
  | 56 => ⟨S_, .f32⟩
  | 57 => ⟨S4x128, .f32⟩
  | 58 => ⟨S4x128, .f32⟩
  | 59 => ⟨S4x128, .f32⟩
  | 60 => ⟨S_, .f32⟩
  | 61 => ⟨S4x128, .f32⟩
  | 62 => ⟨S4x128, .f32⟩
  | 63 => ⟨S4x128, .f32⟩
  | 64 => ⟨S_, .f32⟩
  | 65 => ⟨S4x128, .f32⟩
  | 66 => ⟨S4x128, .f32⟩
  | 67 => ⟨S_, .f32⟩
  | 68 => ⟨S4x128, .f32⟩
  | 69 => ⟨S4x128, .f32⟩
  | 70 => ⟨S4x128, .f32⟩
  | 71 => ⟨S_, .f32⟩
  | 72 => ⟨S4x128, .f32⟩
  | 73 => ⟨S4x128, .f32⟩
  | 74 => ⟨S4x128, .f32⟩
  | 75 => ⟨S_, .f32⟩
  | 76 => ⟨S4x128, .f32⟩
  | 77 => ⟨S4x128, .f32⟩
  | 78 => ⟨S4x128, .f32⟩
  | 79 => ⟨S_, .f32⟩
  | 80 => ⟨S4x128, .f32⟩
  | 81 => ⟨S4x128, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S512x128, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S512x128, .f32⟩

abbrev hbmTy (i : Nat) : BufTy := match i / 128 with
  | 0 => hbmTy0_0 i
  | 1 => hbmTy0_1 i
  | _ => ⟨S512x128, .f32⟩

abbrev bufTy : (tb : Table) → Fin (tcTables nBuf tb) → BufTy
  | .hbm, ⟨i, _⟩ => hbmTy i
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== ChipSumIn.lean ====
abbrev S4x512x1536 : Shape := ⟨3, ![4, 512, 1536]⟩
abbrev S512x1536 : Shape := ⟨2, ![512, 1536]⟩
abbrev S4x256x1536 : Shape := ⟨3, ![4, 256, 1536]⟩
abbrev S256x1536 : Shape := ⟨2, ![256, 1536]⟩
abbrev S1x256x1536 : Shape := ⟨3, ![1, 256, 1536]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1536, .bf16⟩
  | .hbm, ⟨1, _⟩ => ⟨S512x1536, .f32⟩
  | .local _ .vmem, ⟨0, _⟩ => ⟨S4x256x1536, .bf16⟩
  | .local _ .vmem, ⟨1, _⟩ => ⟨S4x256x1536, .bf16⟩
  | .local _ .vmem, ⟨2, _⟩ => ⟨S256x1536, .f32⟩
  | .local _ .vmem, ⟨3, _⟩ => ⟨S256x1536, .f32⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumInIdeal.lean ====
abbrev S4x512x1536 : Shape := ⟨3, ![4, 512, 1536]⟩
abbrev S512x1536 : Shape := ⟨2, ![512, 1536]⟩
abbrev S4x256x1536 : Shape := ⟨3, ![4, 256, 1536]⟩
abbrev S256x1536 : Shape := ⟨2, ![256, 1536]⟩
abbrev S1x256x1536 : Shape := ⟨3, ![1, 256, 1536]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1536, .bf16⟩
  | .hbm, ⟨1, _⟩ => ⟨S512x1536, .f32⟩
  | .local _ .vmem, ⟨0, _⟩ => ⟨S4x256x1536, .bf16⟩
  | .local _ .vmem, ⟨1, _⟩ => ⟨S4x256x1536, .bf16⟩
  | .local _ .vmem, ⟨2, _⟩ => ⟨S256x1536, .f32⟩
  | .local _ .vmem, ⟨3, _⟩ => ⟨S256x1536, .f32⟩
  | _, _ => ⟨S4x512x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumInReference.lean ====
abbrev S4x512x1536 : Shape := ⟨3, ![4, 512, 1536]⟩
abbrev S_ : Shape := ⟨0, ![]⟩
abbrev S512x1536 : Shape := ⟨2, ![512, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1536, .bf16⟩
  | .hbm, ⟨1, _⟩ => ⟨S4x512x1536, .f32⟩
  | .hbm, ⟨2, _⟩ => ⟨S_, .f32⟩
  | .hbm, ⟨3, _⟩ => ⟨S512x1536, .f32⟩
  | _, _ => ⟨S4x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipSumInReferenceIdeal.lean ====
abbrev S4x512x1536 : Shape := ⟨3, ![4, 512, 1536]⟩
abbrev S_ : Shape := ⟨0, ![]⟩
abbrev S512x1536 : Shape := ⟨2, ![512, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1536, .bf16⟩
  | .hbm, ⟨1, _⟩ => ⟨S4x512x1536, .f32⟩
  | .hbm, ⟨2, _⟩ => ⟨S_, .f32⟩
  | .hbm, ⟨3, _⟩ => ⟨S512x1536, .f32⟩
  | _, _ => ⟨S4x512x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipSumGate.lean ====
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .local _ .vmem, ⟨0, _⟩ => ⟨S4x128x256, .bf16⟩
  | .local _ .vmem, ⟨1, _⟩ => ⟨S128x256, .f32⟩
  | _, _ => ⟨S4x128x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipSumGateIdeal.lean ====
abbrev S4x128x256 : Shape := ⟨3, ![4, 128, 256]⟩
abbrev S128x256 : Shape := ⟨2, ![128, 256]⟩
abbrev S1x128x256 : Shape := ⟨3, ![1, 128, 256]⟩

abbrev nBuf : Space → Nat
  | .hbm => 2
  | .vmem => 2
  | .smem => 0
  | _ => 0

abbrev bufTy : (tb : Table) → Fin (tcTables nBuf tb) → BufTy
  | .hbm, ⟨0, _⟩ => ⟨S4x128x256, .bf16⟩
  | .hbm, ⟨1, _⟩ => ⟨S128x256, .f32⟩
  | .local _ .vmem, ⟨0, _⟩ => ⟨S4x128x256, .bf16⟩
  | .local _ .vmem, ⟨1, _⟩ => ⟨S128x256, .f32⟩
  | _, _ => ⟨S4x128x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipSumGateReference.lean ====
abbrev S4x128x256 : Shape := ⟨3, ![4, 128, 256]⟩
abbrev S_ : Shape := ⟨0, ![]⟩
abbrev S128x256 : Shape := ⟨2, ![128, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S4x128x256, .f32⟩
  | .hbm, ⟨2, _⟩ => ⟨S_, .f32⟩
  | .hbm, ⟨3, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipSumGateReferenceIdeal.lean ====
abbrev S4x128x256 : Shape := ⟨3, ![4, 128, 256]⟩
abbrev S_ : Shape := ⟨0, ![]⟩
abbrev S128x256 : Shape := ⟨2, ![128, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S4x128x256, .f32⟩
  | .hbm, ⟨2, _⟩ => ⟨S_, .f32⟩
  | .hbm, ⟨3, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipSumOut.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipSumOutIdeal.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ChipSumOutReference.lean ====
abbrev S4x128x1024 : Shape := ⟨3, ![4, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .f32⟩
  | .hbm, ⟨2, _⟩ => ⟨S_, .f32⟩
  | .hbm, ⟨3, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipSumOutReferenceIdeal.lean ====
abbrev S4x128x1024 : Shape := ⟨3, ![4, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .f32⟩
  | .hbm, ⟨2, _⟩ => ⟨S_, .f32⟩
  | .hbm, ⟨3, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ChipSumUp.lean ====
abbrev S4x512x1024 : Shape := ⟨3, ![4, 512, 1024]⟩
abbrev S512x1024 : Shape := ⟨2, ![512, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x512x1024, .bf16⟩
  | .hbm, ⟨1, _⟩ => ⟨S512x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipSumUpReference.lean ====
abbrev S4x512x1024 : Shape := ⟨3, ![4, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .f32⟩
  | .hbm, ⟨2, _⟩ => ⟨S_, .f32⟩
  | .hbm, ⟨3, _⟩ => ⟨S512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradIn.lean ====
abbrev S4096x1024 : Shape := ⟨2, ![4096, 1024]⟩
abbrev S4096x6144 : Shape := ⟨2, ![4096, 6144]⟩
abbrev S4x1024x1536 : Shape := ⟨3, ![4, 1024, 1536]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4x1024x1536, .bf16⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInReference.lean ====
abbrev S4096x1024 : Shape := ⟨2, ![4096, 1024]⟩
abbrev S4096x6144 : Shape := ⟨2, ![4096, 6144]⟩
abbrev S1024x4096 : Shape := ⟨2, ![1024, 4096]⟩
abbrev S1024x6144 : Shape := ⟨2, ![1024, 6144]⟩
abbrev S1024x4x1536 : Shape := ⟨3, ![1024, 4, 1536]⟩
abbrev S4x1024x1536 : Shape := ⟨3, ![4, 1024, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S1024x4096, .bf16⟩
  | .hbm, ⟨3, _⟩ => ⟨S1024x6144, .f32⟩
  | .hbm, ⟨4, _⟩ => ⟨S1024x4x1536, .f32⟩
  | .hbm, ⟨5, _⟩ => ⟨S4x1024x1536, .f32⟩
  | .hbm, ⟨6, _⟩ => ⟨S4x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradOut.lean ====
abbrev S4096x1024 : Shape := ⟨2, ![4096, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradOutReference.lean ====
abbrev S4096x1024 : Shape := ⟨2, ![4096, 1024]⟩
abbrev S1024x4096 : Shape := ⟨2, ![1024, 4096]⟩
abbrev S1024x1024 : Shape := ⟨2, ![1024, 1024]⟩
abbrev S1x1024x1024 : Shape := ⟨3, ![1, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x4096, .bf16⟩
  | .hbm, ⟨3, _⟩ => ⟨S1024x1024, .f32⟩
  | .hbm, ⟨4, _⟩ => ⟨S1x1024x1024, .f32⟩
  | .hbm, ⟨5, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradUp.lean ====
abbrev S4096x1024 : Shape := ⟨2, ![4096, 1024]⟩
abbrev S4096x4096 : Shape := ⟨2, ![4096, 4096]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradUpReference.lean ====
abbrev S4096x1024 : Shape := ⟨2, ![4096, 1024]⟩
abbrev S4096x4096 : Shape := ⟨2, ![4096, 4096]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .hbm, ⟨3, _⟩ => ⟨S1024x4096, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradDown.lean ====
abbrev S4096x4096 : Shape := ⟨2, ![4096, 4096]⟩
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradDownReference.lean ====
abbrev S4096x4096 : Shape := ⟨2, ![4096, 4096]⟩
abbrev S4096x1024 : Shape := ⟨2, ![4096, 1024]⟩
abbrev S4x1024x1024 : Shape := ⟨3, ![4, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4x1024x1024, .f32⟩
  | .hbm, ⟨5, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackIn.lean ====
abbrev S4096x6144 : Shape := ⟨2, ![4096, 6144]⟩
abbrev S4096x1024 : Shape := ⟨2, ![4096, 1024]⟩
abbrev S4x1024x1536 : Shape := ⟨3, ![4, 1024, 1536]⟩
abbrev S1x1024 : Shape := ⟨2, ![1, 1024]⟩
abbrev S256x6144 : Shape := ⟨2, ![256, 6144]⟩
abbrev S256x1024 : Shape := ⟨2, ![256, 1024]⟩
abbrev S256x1536 : Shape := ⟨2, ![256, 1536]⟩
abbrev S1x1024x1536 : Shape := ⟨3, ![1, 1024, 1536]⟩
abbrev S1024x1536 : Shape := ⟨2, ![1024, 1536]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .hbm, ⟨2, _⟩ => ⟨S4096x1024, .f32⟩
  | .hbm, ⟨3, _⟩ => ⟨S4x1024x1536, .bf16⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S256x6144, .bf16⟩
  | .local _ .vmem, ⟨1, _⟩ => ⟨S256x6144, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1536, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BackInReference.lean ====
abbrev S4096x6144 : Shape := ⟨2, ![4096, 6144]⟩
abbrev S4096x1024 : Shape := ⟨2, ![4096, 1024]⟩
abbrev S4x1024x1536 : Shape := ⟨3, ![4, 1024, 1536]⟩
abbrev S1x1024 : Shape := ⟨2, ![1, 1024]⟩
abbrev S1024x4x1536 : Shape := ⟨3, ![1024, 4, 1536]⟩
abbrev S1024x6144 : Shape := ⟨2, ![1024, 6144]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .hbm, ⟨2, _⟩ => ⟨S4096x1024, .f32⟩
  | .hbm, ⟨3, _⟩ => ⟨S4x1024x1536, .bf16⟩
  | .hbm, ⟨4, _⟩ => ⟨S1x1024, .f32⟩
  | .hbm, ⟨5, _⟩ => ⟨S4x1024x1536, .f32⟩
  | .hbm, ⟨6, _⟩ => ⟨S1024x4x1536, .f32⟩
  | .hbm, ⟨7, _⟩ => ⟨S1024x6144, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x6144, .f32⟩
  | .hbm, ⟨30, _⟩ => ⟨S4096x6144, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== ForwardIn.lean ====
abbrev S4096x1024 : Shape := ⟨2, ![4096, 1024]⟩
abbrev S1x1024 : Shape := ⟨2, ![1, 1024]⟩
abbrev S4x1024x1536 : Shape := ⟨3, ![4, 1024, 1536]⟩
abbrev S4096x6144 : Shape := ⟨2, ![4096, 6144]⟩
abbrev S256x1024 : Shape := ⟨2, ![256, 1024]⟩
abbrev S256x6144 : Shape := ⟨2, ![256, 6144]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1536, .bf16⟩
  | .hbm, ⟨3, _⟩ => ⟨S4096x6144, .f32⟩
  | .hbm, ⟨4, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1536, .bf16⟩
  | .local _ .vmem, ⟨4, _⟩ => ⟨S256x6144, .f32⟩
  | .local _ .vmem, ⟨5, _⟩ => ⟨S256x6144, .f32⟩
  | .local _ .vmem, ⟨6, _⟩ => ⟨S256x1024, .bf16⟩
  | .local _ .vmem, ⟨7, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ForwardInReference.lean ====
abbrev S4096x1024 : Shape := ⟨2, ![4096, 1024]⟩
abbrev S1x1024 : Shape := ⟨2, ![1, 1024]⟩
abbrev S4x1024x1536 : Shape := ⟨3, ![4, 1024, 1536]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4x1536 : Shape := ⟨3, ![1024, 4, 1536]⟩
abbrev S1024x6144 : Shape := ⟨2, ![1024, 6144]⟩
abbrev S4096x6144 : Shape := ⟨2, ![4096, 6144]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x1024x1536, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4x1024x1536, .f32⟩
  | .hbm, ⟨21, _⟩ => ⟨S1024x4x1536, .f32⟩
  | .hbm, ⟨22, _⟩ => ⟨S1024x6144, .f32⟩
  | .hbm, ⟨23, _⟩ => ⟨S4096x6144, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Merge.lean ====
abbrev S4096x1024 : Shape := ⟨2, ![4096, 1024]⟩
abbrev S4096x6144 : Shape := ⟨2, ![4096, 6144]⟩
abbrev S1024x1024 : Shape := ⟨2, ![1024, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x6144, .f32⟩
  | .hbm, ⟨3, _⟩ => ⟨S4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReference.lean ====
abbrev S4096x1024 : Shape := ⟨2, ![4096, 1024]⟩
abbrev S4096x6144 : Shape := ⟨2, ![4096, 6144]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x6144, .f32⟩
  | .hbm, ⟨3, _⟩ => ⟨S4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1024x1024, .f32⟩
  | .hbm, ⟨36, _⟩ => ⟨S4096x1024, .f32⟩
  | .hbm, ⟨37, _⟩ => ⟨S4096x1024, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Mlp.lean ====
abbrev S4096x1024 : Shape := ⟨2, ![4096, 1024]⟩
abbrev S4x1024x1024 : Shape := ⟨3, ![4, 1024, 1024]⟩
abbrev S1x1024 : Shape := ⟨2, ![1, 1024]⟩
abbrev S4096x4096 : Shape := ⟨2, ![4096, 4096]⟩
abbrev S8x128 : Shape := ⟨2, ![8, 128]⟩
abbrev S256x1024 : Shape := ⟨2, ![256, 1024]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S4x1024x1024, .bf16⟩
  | .hbm, ⟨4, _⟩ => ⟨S4096x1024, .bf16⟩
  | .hbm, ⟨5, _⟩ => ⟨S1x1024, .f32⟩
  | .hbm, ⟨6, _⟩ => ⟨S4096x4096, .f32⟩
  | .hbm, ⟨7, _⟩ => ⟨S4096x4096, .bf16⟩
  | .hbm, ⟨8, _⟩ => ⟨S4096x1024, .f32⟩
  | .hbm, ⟨9, _⟩ => ⟨S4096x1024, .bf16⟩
  | .hbm, ⟨10, _⟩ => ⟨S8x128, .f32⟩
  | .hbm, ⟨11, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4096x1024, .bf16⟩
  | .local _ .vmem, ⟨8, _⟩ => ⟨S1x1024, .f32⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S8x128, .f32⟩
  | .local _ .vmem, ⟨18, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpReference.lean ====
abbrev S4096x1024 : Shape := ⟨2, ![4096, 1024]⟩
abbrev S4x1024x1024 : Shape := ⟨3, ![4, 1024, 1024]⟩
abbrev S1x1024 : Shape := ⟨2, ![1, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩
abbrev S1024 : Shape := ⟨1, ![1024]⟩
abbrev S4096 : Shape := ⟨1, ![4096]⟩
abbrev S4096x1 : Shape := ⟨2, ![4096, 1]⟩
abbrev S8x128 : Shape := ⟨2, ![8, 128]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S4x1024x1024, .bf16⟩
  | .hbm, ⟨4, _⟩ => ⟨S4096x1024, .bf16⟩
  | .hbm, ⟨5, _⟩ => ⟨S1x1024, .f32⟩
  | .hbm, ⟨6, _⟩ => ⟨S4096x1024, .f32⟩
  | .hbm, ⟨7, _⟩ => ⟨S4x1024x1024, .f32⟩
  | .hbm, ⟨8, _⟩ => ⟨S1024x4x1024, .f32⟩
  | .hbm, ⟨9, _⟩ => ⟨S1024x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x4096, .bf16⟩
  | .hbm, ⟨88, _⟩ => ⟨S4096x1024, .bf16⟩
  | .hbm, ⟨89, _⟩ => ⟨S8x128, .f32⟩
  | .hbm, ⟨90, _⟩ => ⟨S1x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]
-- ==== BackMlp.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024 : Shape := ⟨2, ![1, 1024]⟩
abbrev S256x1024 : Shape := ⟨2, ![256, 1024]⟩
abbrev S256x4096 : Shape := ⟨2, ![256, 4096]⟩
abbrev S1024x1024 : Shape := ⟨2, ![1024, 1024]⟩
abbrev S1x1024x1024 : Shape := ⟨3, ![1, 1024, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S4x1024x1024, .bf16⟩
  | .hbm, ⟨5, _⟩ => ⟨S4096x1024, .bf16⟩
  | .hbm, ⟨6, _⟩ => ⟨S1x1024, .f32⟩
  | .hbm, ⟨7, _⟩ => ⟨S4096x4096, .bf16⟩
  | .hbm, ⟨8, _⟩ => ⟨S4096x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x4096, .f32⟩
  | .local _ .vmem, ⟨5, _⟩ => ⟨S256x4096, .f32⟩
  | .local _ .vmem, ⟨6, _⟩ => ⟨S256x1024, .f32⟩
  | .local _ .vmem, ⟨7, _⟩ => ⟨S256x1024, .f32⟩
  | .local _ .vmem, ⟨8, _⟩ => ⟨S4x1024x1024, .bf16⟩
  | .local _ .vmem, ⟨9, _⟩ => ⟨S4096x1024, .bf16⟩
  | .local _ .vmem, ⟨10, _⟩ => ⟨S1x1024, .f32⟩
  | .local _ .vmem, ⟨11, _⟩ => ⟨S256x4096, .bf16⟩
  | .local _ .vmem, ⟨12, _⟩ => ⟨S256x4096, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BackMlpReference.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024 : Shape := ⟨2, ![1, 1024]⟩
abbrev S1024x4x1024 : Shape := ⟨3, ![1024, 4, 1024]⟩
abbrev S1024x4096 : Shape := ⟨2, ![1024, 4096]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S4x1024x1024, .bf16⟩
  | .hbm, ⟨5, _⟩ => ⟨S4096x1024, .bf16⟩
  | .hbm, ⟨6, _⟩ => ⟨S1x1024, .f32⟩
  | .hbm, ⟨7, _⟩ => ⟨S4x1024x1024, .f32⟩
  | .hbm, ⟨8, _⟩ => ⟨S1024x4x1024, .f32⟩
  | .hbm, ⟨9, _⟩ => ⟨S1024x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .i1⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x4096, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x4096, .bf16⟩
  | .hbm, ⟨79, _⟩ => ⟨S4096x1024, .f32⟩
  | .hbm, ⟨80, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Gating.lean ====
abbrev S4096x6144 : Shape := ⟨2, ![4096, 6144]⟩
abbrev S1x1024 : Shape := ⟨2, ![1, 1024]⟩
abbrev S4x128x128 : Shape := ⟨3, ![4, 128, 128]⟩
abbrev S128x1024 : Shape := ⟨2, ![128, 1024]⟩
abbrev S4096x1024 : Shape := ⟨2, ![4096, 1024]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x6144, .f32⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S128x1024, .f32⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4x128x128, .f32⟩
  | .local _ .vmem, ⟨7, _⟩ => ⟨S128x1024, .f32⟩
  | .local _ .vmem, ⟨8, _⟩ => ⟨S256x1024, .bf16⟩
  | .local _ .vmem, ⟨9, _⟩ => ⟨S256x1024, .bf16⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatingReference.lean ====
abbrev S4096x6144 : Shape := ⟨2, ![4096, 6144]⟩
abbrev S1x1024 : Shape := ⟨2, ![1, 1024]⟩
abbrev S4x128x128 : Shape := ⟨3, ![4, 128, 128]⟩
abbrev S128x1024 : Shape := ⟨2, ![128, 1024]⟩
abbrev S4096x1024 : Shape := ⟨2, ![4096, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S32x128x4x256 : Shape := ⟨4, ![32, 128, 4, 256]⟩
abbrev S128x128 : Shape := ⟨2, ![128, 128]⟩
abbrev S1x128x128 : Shape := ⟨3, ![1, 128, 128]⟩
abbrev S4x32x256x128 : Shape := ⟨4, ![4, 32, 256, 128]⟩
abbrev S128x4x256 : Shape := ⟨3, ![128, 4, 256]⟩
abbrev S1x128x4x256 : Shape := ⟨4, ![1, 128, 4, 256]⟩

abbrev nBuf : Space → Nat
  | .hbm => 96
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S1x1024, .f32⟩
  | .hbm, ⟨2, _⟩ => ⟨S1x1024, .f32⟩
  | .hbm, ⟨3, _⟩ => ⟨S4x128x128, .f32⟩
  | .hbm, ⟨4, _⟩ => ⟨S128x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S32x128x4x256, .f32⟩
  | .hbm, ⟨73, _⟩ => ⟨S_, .f32⟩
  | .hbm, ⟨74, _⟩ => ⟨S128x128, .f32⟩
  | .hbm, ⟨75, _⟩ => ⟨S128x128, .i32⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S_, .f32⟩
  | .hbm, ⟨82, _⟩ => ⟨S128x128, .f32⟩
  | .hbm, ⟨83, _⟩ => ⟨S128x128, .f32⟩
  | .hbm, ⟨84, _⟩ => ⟨S1x128x128, .f32⟩
  | .hbm, ⟨85, _⟩ => ⟨S4x128x128, .f32⟩
  | .hbm, ⟨86, _⟩ => ⟨S4x128x128, .f32⟩
  | .hbm, ⟨87, _⟩ => ⟨S4x32x256x128, .f32⟩
  | .hbm, ⟨88, _⟩ => ⟨S32x128x4x256, .f32⟩
  | .hbm, ⟨89, _⟩ => ⟨S128x4x256, .f32⟩
  | .hbm, ⟨90, _⟩ => ⟨S1x128x4x256, .f32⟩
  | .hbm, ⟨91, _⟩ => ⟨S32x128x4x256, .f32⟩
  | .hbm, ⟨92, _⟩ => ⟨S32x128x4x256, .f32⟩
  | .hbm, ⟨93, _⟩ => ⟨S4096x1024, .f32⟩
  | .hbm, ⟨94, _⟩ => ⟨S4096x1024, .f32⟩
  | .hbm, ⟨95, _⟩ => ⟨S4096x1024, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_cst : Ref sig .tc := ⟨.hbm, 81, rfl⟩
abbrev main_call0_v5 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩

abbrev nD : Nat := 1
abbrev τ : Topo := Topo.v7x

variable {F : FTy → Type} [FloatOps F]
-- ==== Proof.Dealt.lean ====
/-
The launch of a kernel in which devices write straight into each other's result buffers.

The kernel is the one region of `@main`; it has no windows and no grid. Before any device runs, the semaphore
counters, the buffers and the launch credit of ALL devices are regrouped in one step (`hdeal`): the owner of a buffer
may thus be handed nothing of it, and the device that is going to write it all of it. No handshake inside the kernel is
needed for such a transfer.
-/
module

public import Idealize.ShloMosaic.Lib.Pipeline.Launch
public import Idealize.ShloMosaic.Lib.Pipeline.Kit
public import Idealize.ShloMosaic.Lib.Tactic

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {Λ₀ : Labels}

local notation "𝕄" => MT nD τ sig Unit Val ℕ (UR sig nD τ) ℕ

/-- The levels of the TensorCores' cells, assigned once for the whole machine. -/
theorem levels_assigned (L : GSem nD τ sig → Finset Unit) (lv : GSem nD τ sig → Unit → ℕ) (hL : ∀ g : GSem nD τ sig, g.1.2 ≠ .tc → L g = ∅) :
    (bigSep Finset.univ fun c : Dev nD => (levels0 c : sProp 𝕄)) ⊢ |==> levAts L lv := by
  refine (bigSep_mono fun c _ => lev_assign_cells (c.tc : Thread nD τ) L lv).trans ((BI.bigSep_bupd _ _).trans (BI.bupd_mono ?_))
  have hother : (bigSep Finset.univ fun d : Dev nD => bigSep (Finset.univ.erase Proc.tc) fun p => (coreLevAts ((d, p) : Thread nD τ) L lv : sProp 𝕄)) = BI.emp := by
    have h1 (d : Dev nD) (p : Proc τ) (hp : p ∈ Finset.univ.erase Proc.tc) : (coreLevAts ((d, p) : Thread nD τ) L lv : sProp 𝕄) = BI.emp := by
      unfold coreLevAts
      refine (bigSep_congr fun sm _ => ?_).trans (BI.bigSep_emp_const _)
      rw [hL _ (Finset.ne_of_mem_erase hp), BI.bigSep_empty]
    exact (bigSep_congr fun d _ => (bigSep_congr (h1 d)).trans (BI.bigSep_emp_const _)).trans (BI.bigSep_emp_const _)
  have hall : (levAts L lv : sProp 𝕄) = bigSep Finset.univ fun d : Dev nD => coreLevAts (d.tc : Thread nD τ) L lv := by
    have h1 : (levAts L lv : sProp 𝕄) = bigSep Finset.univ fun c : Thread nD τ => coreLevAts c L lv :=
      bigSep_univ_prod fun g : GSem nD τ sig => bigSep (L g) fun ι => levAt g ι (lv g ι)
    rw [h1, bigSep_threads (fun c : Thread nD τ => coreLevAts c L lv), hother]
    exact equiv_iff.mp Idealize.SL.BI.sep_emp
  rw [hall]
  refine bigSep_mono fun c _ => show iprop((bigSep Finset.univ fun sm : SemLoc sig => levels ((c.tc : Thread nD τ), sm) (L ((c.tc : Thread nD τ), sm)))
    ∗ coreLevAts (c.tc : Thread nD τ) L lv) ⊢ coreLevAts (c.tc : Thread nD τ) L lv from ?_
  iintro ⟨-, H⟩
  iexact H

variable (cfgs : Fin 1 → Cfg sig Λ₀) (dats : (p : Fin 1) → (c : Dev nD) → Dat τ Val Unit ℕ (UR sig nD τ) ℕ (cfgs p) c)
  (hinj : Function.Injective (cellOf (nD := nD) (τ := τ) cfgs))
  (E : Emb (URounds (GSem nD τ sig) Unit) (MT nD τ sig Unit Val ℕ (UR sig nD τ) ℕ))
  (hW : IsEmpty (Fin (cfgs 0).W))
  {K : Type} [Fintype K] {osem : K → SemLoc sig} (hw : WinFacts (cfgs 0).spec) (ho : OwnSemFacts (cfgs 0).spec osem)
  (defs₀ : Defs nD τ sig Val Λ₀) (𝒱₀ : Variants)

local notation "𝔻" => Pipeline.defs (fun p => Cfg.toPCfg (Val := Val) (cfgs p)) defs₀
local notation "𝕍" => Variants.lift 𝒱₀

include hinj E hW hw ho in
/-- A kernel without windows, alone in `@main`: if one step at launch turns every device's semaphore counters, buffers
    and credit together into what each device's body starts from (`hdeal`), every body runs (`hbody`), and what a body
    ends with gives back its semaphores at zero and tells `QY` of the final memory, then every execution of `@main`
    ends in a state where `QY` holds on every device and every counter is zero. -/
theorem run_dealt [∀ e, Nonempty (Val e)]
    (m : (ℓ : Loc nD τ sig) → Buf Val ℓ) (ρ : Dev nD → PrngReg)
    (main : Dev nD → Prog (TpuEff nD τ sig Val (Pipeline.Sig Λ₀ (Fin 1) fun p => (Cfg.toPCfg (Val := Val) (cfgs p)).Adm) .tc) PUnit)
    (hmain : ∀ c, main c = .op (.customCall (entry 0) ()) fun _ => .ret ⟨⟩)
    (hrest : ∀ c : Dev nD, (scopedRest (cfgs 0).spec c : sProp 𝕄) = BI.emp)
    (hbody : ∀ c, BodyObligationLoose (dats 0 c) defs₀ 𝒱₀ () Set.univ)
    (O₀ : Dev nD → CellTallies nD τ sig Unit) (howed₀ : ∀ c, (dats 0 c).owed 0 = O₀ c) (howedN : ∀ c, (dats 0 c).owed (Fin.last _) = 0)
    (L : GSem nD τ sig → Finset Unit) (lv : GSem nD τ sig → Unit → ℕ) (hL : ∀ g : GSem nD τ sig, g.1.2 ≠ .tc → L g = ∅)
    (u₀ : UR sig nD τ)
    (hdeal : iprop((bigSep Finset.univ fun c : Dev nD => ownSems0 osem c)
        ∗ (bigSep Finset.univ fun c : Dev nD => unscopedBufs c fun b => m ((c.tc : Thread nD τ).loc b))
        ∗ (bigSep Finset.univ fun c : Dev nD => launchCred O₀ c) ∗ levAts L lv ∗ ownU u₀)
      ⊢ (|={Set.univ}=> bigSep Finset.univ fun c : Dev nD => (dats 0 c).Φ 0 : sProp 𝕄))
    (Y : Dev nD → sProp 𝕄)
    (hout : ∀ c, (dats 0 c).Φ (Fin.last _) ⊢ iprop(Y c ∗ ownSems0 osem c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g : GSem nD τ sig, (g.1.2 ≠ .tc ∨ g.2.isScoped .tc = true) → s.sem g = 0) → Q (⟨⟩, s)) :
    θ_run 𝔻 (onTc main) ⟨m, fun _ => 0, ρ⟩ Q := by
  classical
  haveI := hW
  have hstage : ∀ w s, (((cfgs 0).spec w).stage s).IsWhole := fun w => hW.elim w
  have hsems := fun c : Dev nD => scopedSems0_split cfgs hinj 0 hw.to₀ ho (Ix := Unit) (Val := Val) (Name := ℕ) (U := UR sig nD τ) (Lvl := ℕ) c
  have hbufs := fun c : Dev nD => scopedBufs_split cfgs 0 hw.to₀.stage_scoped hw.to₀.stage_inj hstage c (τ := τ) (Ix := Unit) (Val := Val) (Name := ℕ) (U := UR sig nD τ) (Lvl := ℕ)
  let idle : Dev nD → sProp 𝕄 := fun c => idleSems0 cfgs hinj 0 ho c
  let pre : Dev nD → sProp 𝕄 := fun c => iprop(scopedBufs (c.tc : Thread nD τ) ∗ idle c ∗ owes (c.tc : Thread nD τ) (O₀ c) ∅ ∗ (dats 0 c).Φ 0)
  let fin : Dev nD → sProp 𝕄 := fun c => iprop(Y c ∗ scopedSems0 (c.tc : Thread nD τ))
  have hcells (c : Dev nD) : (cellsSems0 cfgs 0 c : sProp 𝕄) = BI.emp := by
    unfold cellsSems0 PerCore.cellsSems0; rw [Finset.univ_eq_empty, BI.bigSep_empty]
  have hstg (c : Dev nD) : (Dat.staging (cfgs 0) c : sProp 𝕄) = BI.emp := by
    unfold Dat.staging; rw [Finset.univ_eq_empty, BI.bigSep_empty]
  refine (θ_run 𝔻 _ _).mono (Q := fun r => (∀ c : Dev nD, QY c r.2 ∧ ∀ sm : SemLoc sig, sm.isScoped .tc = true → r.2.sem ((c.tc : Thread nD τ), sm) = 0)
      ∧ ∀ g : GSem nD τ sig, g.1.2 ≠ .tc → r.2.sem g = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch
    have hcore (c : Dev nD) :
        coreInit (Ix := Unit) (Name := ℕ) (U := UR sig nD τ) (Lvl := ℕ) (owing O₀) 0 (⟨m, fun _ => 0, ρ⟩ : MemSt nD τ sig Val) (c.tc : Thread nD τ)
          ⊢ iprop((scopedBufs (c.tc : Thread nD τ) ∗ idle c ∗ owes (c.tc : Thread nD τ) (O₀ c) ∅) ∗ ownSems0 osem c
              ∗ unscopedBufs c (fun b => m ((c.tc : Thread nD τ).loc b)) ∗ launchCred O₀ c ∗ levels0 c) := by
      refine (coreInit_boundary_owing O₀ m ρ c).trans ?_
      unfold boundary
      rw [hsems c]
      iintro ⟨⟨Hsc, ⟨⟨-, Hown⟩, Hidle⟩, -⟩, Hub, -, Ho, Hlv, -, Hcr⟩
      isplitl [Hsc Hidle Ho]
      · isplitl [Hsc]; · iexact Hsc
        isplitl [Hidle] <;> iassumption
      isplitl [Hown]; · iexact Hown
      isplitl [Hub]; · iexact Hub
      isplitl [Hcr] <;> iassumption
    have hall : (bigSep Finset.univ fun c : Dev nD =>
        coreInit (Ix := Unit) (Name := ℕ) (U := UR sig nD τ) (Lvl := ℕ) (owing O₀) 0 (⟨m, fun _ => 0, ρ⟩ : MemSt nD τ sig Val) (c.tc : Thread nD τ))
        ⊢ bigSep Finset.univ fun c : Dev nD => iprop((scopedBufs (c.tc : Thread nD τ) ∗ idle c ∗ owes (c.tc : Thread nD τ) (O₀ c) ∅) ∗ ownSems0 osem c
              ∗ unscopedBufs c (fun b => m ((c.tc : Thread nD τ).loc b)) ∗ launchCred O₀ c ∗ levels0 c) := bigSep_mono fun c _ => hcore c
    iintro ⟨Hcores, Hu⟩
    ihave H := hall $$ Hcores
    simp only [bigSep_sep']
    icases H with ⟨⟨Hsc, Hidle, Ho⟩, Hown, Hub, Hcr, Hlv⟩
    imod (levels_assigned L lv hL) $$ Hlv with Hla
    imod hdeal $$ [Hown Hub Hcr Hla Hu] with HΦ
    · isplitl [Hown]; · iexact Hown
      isplitl [Hub]; · iexact Hub
      isplitl [Hcr]; · iexact Hcr
      isplitl [Hla] <;> iassumption
    imodintro
    iexists ()
    isplitr []
    · simp only [pre, bigSep_sep']
      isplitl [Hsc]; · iexact Hsc
      isplitl [Hidle]; · iexact Hidle
      isplitl [Ho] <;> iassumption
    · iempintro
  · -- one device's run
    have hin : iprop((dats 0 c).Φ 0 ∗ prefHeld (Cfg.toPCfg (Val := Val) (cfgs 0)).pre c (fun _ => fullShare) (Cfg.toPCfg_adm (Val := Val) (cfgs 0)).1 ∗ scopedRest (cfgs 0).spec c)
        ⊢ (dats 0 c).Φ 0 := sep_elim_left
    have hfin : iprop((dats 0 c).Φ (Fin.last _) ∗ cellsSems0 cfgs 0 c ∗ Dat.staging (cfgs 0) c ∗ idle c)
        ⊢ iprop(Y c ∗ scopedSems0 (c.tc : Thread nD τ) ∗ scopedBufs (c.tc : Thread nD τ)) := by
      rw [hsems c, hbufs c, hcells c, hstg c, hrest c]
      iintro ⟨HΦ, -, -, Hidle⟩
      ihave H := (hout c) $$ HΦ
      icases H with ⟨HY, Hown⟩
      isplitl [HY]; · iexact HY
      isplitl [Hown Hidle]
      · isplitl [Hown]
        · isplitr [Hown]; · iempintro
          iexact Hown
        · iexact Hidle
      isplitl <;> iempintro
    simp only [pre]
    rw [hmain c]
    iintro ⟨Hsc, Hidle, Ho, HΦ⟩
    iapply (Pipeline.wp_customCall_entry_frame (fun p => Cfg.toPCfg (Val := Val) (cfgs p)) (fun p => Cfg.toPCfg_adm (cfgs p)) dats () E (fun _ => 0) hinj 0 defs₀ 𝒱₀ (fun _ => fullShare) c Set.univ
        (fun w => hW.elim w) (hbody c) (fun w => hW.elim w) none (fun u h => nomatch h) (X := (dats 0 c).Φ 0) (Y := Y c) (R := scopedRest (cfgs 0).spec c) (I := idle c)
        (Entails.of_eq (hbufs c)) hin hfin (k := fun _ => .ret ⟨⟩) (Q := fun _ => post (liftTc fin BI.emp) (c.tc : Thread nD τ))) $$ [Hsc Hidle Ho HΦ]
    · isplitl [Ho]
      · unfold EntryPre PerCore.EntryPre Dat.owesAt owesWithin PerCore.cellsWaits PerCore.cellsInit PerCore.toksInit PerCore.RDat.cellsInit PerCore.RDat.cellsWaits Dat.arrays
        rw [howed₀ c]
        simp only [Finset.univ_eq_empty, BI.bigSep_empty]
        isplitr; · iempintro
        isplitl [Ho]
        · iexists ∅; isplitr; · ipureintro; rw [Finset.coe_empty]; exact Set.empty_subset _
          iexact Ho
        isplitr; · iempintro
        isplitr <;> iempintro
      isplitr
      · unfold prefHeld
        rw [show (Finset.univ : Finset (Fin (Cfg.toPCfg (Val := Val) (cfgs 0)).pre.K)) = ∅ from rfl, BI.bigSep_empty]
        iempintro
      isplitl [HΦ]; · iexact HΦ
      isplitl [Hidle] <;> iassumption
    iintro ⟨Hpost, HY, Hss, -⟩
    rw [wp_ret]; imodintro
    unfold post; simp only [liftTc_tc, fin]
    isplitr [Hpost]
    · isplitl [HY] <;> iassumption
    · unfold EntryPost PerCore.EntryPost Dat.owesAt owesWithin
      rw [howedN c]
      icases Hpost with ⟨-, ⟨%W, -, HW⟩⟩
      iexists W; iexact HW
  · have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr; · ipureintro; exact ⟨hy, hz⟩
      iexact HSI
    iintro ⟨H, -, Hsc⟩ %s' HSI
    ihave %hsc := (scSems_read_zero m ρ s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.Talk

end
-- ==== Proof.Talk.lean ====
/-
A plan of transfers between devices, its schedule, and the steps of a device that carries it out.

Every device issues a list of transfers: near ones, inside its own memory, and far ones, into another device's result
buffer. Each transfer has a semaphore of its own and happens once. Some transfers are relays: the block a far transfer
brought in is sent on. A wait for a landing hands over the block that landed, at its contents; a wait for a departure
hands back the source.
-/
module

public import proofs.«01_k».proof.Proof.Dealt

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

/-- The two ends of a transfer. -/
structure Copy (sig : RefSig) where
  s : Shape
  e : EltTy
  src : Memref sig .tc .hbm s e
  dst : Memref sig .tc .hbm s e
  hsrc : src.view.WordExact
  hdst : dst.view.WordExact
  plain : dst.view.ref.isScScratch = false

/-- The cells of a plan, by name: the landings of its near transfers, those of its far transfers, and the departures of
    its far transfers. -/
abbrev Key (L R : Type) : Type := (L ⊕ R) ⊕ R

/-- The transfers of every device: near ones `L`, far ones `R`, where each far transfer goes — and the like transfer
    of that device comes back —, and the semaphore and units of each cell. -/
structure Plan (nD : ℕ) (sig : RefSig) (L R : Type) where
  near : Dev nD → L → Copy sig
  far : Dev nD → R → Copy sig
  peer : Dev nD → R → Dev nD
  back : ∀ c r, peer (peer c r) r = c
  sem : Key L R → DmaSem sig
  sem_inj : Function.Injective sem
  units : Key L R → ℕ
  units_pos : ∀ k, 0 < units k
  near_units : ∀ c l, (near c l).dst.view.amount (.dma (sem (.inl (.inl l)))) = units (.inl (.inl l))
  far_units : ∀ c r, (far c r).dst.view.amount (.dma (sem (.inl (.inr r)))) = units (.inl (.inr r))
  far_units' : ∀ r, units (.inr r) = units (.inl (.inr r))
  /-- The transfer a wait names. -/
  seen : Dev nD → Key L R → Copy sig
  seen_units : ∀ c k, (seen c k).dst.view.dmaCredit = units k
  /-- How often the block of a far transfer has been sent before. -/
  level : R → ℕ

variable {nD : ℕ} {τ : Topo} {sig : RefSig} {Val : EltTy → Type} {Λ : Labels} {L R : Type}

/-- One step of a device: issuing a transfer, or waiting at a cell. -/
inductive Act (L R : Type) where
  | issue (t : L ⊕ R)
  | wait (k : Key L R)

namespace Plan

variable (P : Plan nD sig L R)

/-- The cell of a name on a device. -/
abbrev cell (τ : Topo) (c : Dev nD) (k : Key L R) : GSem nD τ sig := ((c.tc : Thread nD τ), .dma (P.sem k))

/-- The step as the program issues it. -/
def op (τ : Topo) (Val : EltTy → Type) (Λ : Labels) (c : Dev nD) : Act L R → TpuEff nD τ sig Val Λ .tc PUnit
  | .issue (.inl l) => .enqueueDma (P.near c l).src (.here (P.near c l).dst) (.dma (P.sem (.inl (.inl l)))) (P.near c l).hsrc (P.near c l).hdst ⟨Or.inl rfl, trivial⟩
  | .issue (.inr r) => .enqueueDma (P.far c r).src (.remote (Dev.tc (P.peer c r)) (P.far c r).dst (.dma (P.sem (.inr r))) (P.far c r).plain) (.dma (P.sem (.inl (.inr r))))
      (P.far c r).hsrc (P.far c r).hdst ⟨⟨rfl, Or.inl rfl⟩, trivial⟩
  | .wait k => .waitDma2 (P.sem k) (P.seen c k).src (P.seen c k).dst (P.seen c k).hsrc (P.seen c k).hdst

/-- The program that takes the steps of a list, then goes on. -/
def prog (τ : Topo) (Val : EltTy → Type) (Λ : Labels) (c : Dev nD) (acts : List (Act L R)) (p : Prog (TpuEff nD τ sig Val Λ .tc) PUnit) :
    Prog (TpuEff nD τ sig Val Λ .tc) PUnit :=
  acts.foldr (fun a p => .op (P.op τ Val Λ c a) fun _ => p) p

end Plan

local notation "𝕄" => MT nD τ sig Unit Val ℕ (UR sig nD τ) ℕ
local notation "𝔼" => (emb₁ : Emb (UR sig nD τ) (MT nD τ sig Unit Val ℕ (UR sig nD τ) ℕ))

/-- The elements of a view on a device, at contents `f`. -/
def held {s : Shape} {e : EltTy} (v : Memref sig .tc .hbm s e) (d : Dev nD) (q : PosShare TreeShare) (f : Buf Val (v.view.loc (d.tc : Thread nD τ))) : sProp 𝕄 :=
  v.view.loc (d.tc : Thread nD τ) ↦[v.view.set]{q} f

instance {s : Shape} {e : EltTy} (v : Memref sig .tc .hbm s e) (d : Dev nD) (q : PosShare TreeShare) (f : Buf Val (v.view.loc (d.tc : Thread nD τ))) :
    BI.Storable (upEmb : UEmb _ 𝕄) (held v d q f) := by unfold held; infer_instance

/-- What the transfers move: the memory at the start, the share of its source each takes, and the source contents of
    the far ones (the memory's at the start, but for a relay). -/
structure Load (τ : Topo) (Val : EltTy → Type) (P : Plan nD sig L R) where
  m : (ℓ : Loc nD τ sig) → Buf Val ℓ
  nearShare : L → PosShare TreeShare
  farShare : R → PosShare TreeShare
  farSrc : ∀ c r, Buf Val ((P.far c r).src.view.loc (c.tc : Thread nD τ))

namespace Load

variable {P : Plan nD sig L R} (X : Load τ Val P)

/-- A view on a device at the contents of the start. -/
def room {s : Shape} {e : EltTy} (v : Memref sig .tc .hbm s e) (d : Dev nD) : sProp 𝕄 := held v d fullShare (X.m (v.view.loc (d.tc : Thread nD τ)))

/-- A view on a device filled with `x`. -/
def filled {s : Shape} {e : EltTy} (v : Memref sig .tc .hbm s e) (d : Dev nD) (x : s.Idx → Val e) : sProp 𝕄 :=
  held v d fullShare (v.view.write Val (X.m (v.view.loc (d.tc : Thread nD τ))) x Finset.univ)

/-- The block a near transfer moves. -/
def moved (c : Dev nD) (l : L) : (P.near c l).s.Idx → Val (P.near c l).e := (P.near c l).src.view.read Val (X.m ((P.near c l).src.view.loc (c.tc : Thread nD τ)))
/-- The block a far transfer moves. -/
def sent (c : Dev nD) (r : R) : (P.far c r).s.Idx → Val (P.far c r).e := (P.far c r).src.view.read Val (X.farSrc c r)

/-- The source of a near transfer. -/
def nearGive (c : Dev nD) (l : L) : sProp 𝕄 := held (P.near c l).src c (X.nearShare l) (X.m ((P.near c l).src.view.loc (c.tc : Thread nD τ)))
/-- The source of a far transfer. -/
def farGive (c : Dev nD) (r : R) : sProp 𝕄 := held (P.far c r).src c (X.farShare r) (X.farSrc c r)

/-- What the one round of a cell hands over: a near landing the filled block and the source, a far landing the filled
    block, a departure the source. -/
def pay (c : Dev nD) : Key L R → sProp 𝕄
  | .inl (.inl l) => iprop(X.filled (P.near c l).dst c (X.moved c l) ∗ X.nearGive c l)
  | .inl (.inr r) => X.filled (P.far (P.peer c r) r).dst c (X.sent (P.peer c r) r)
  | .inr r => X.farGive c r

instance (c : Dev nD) (k : Key L R) : BI.Storable (upEmb : UEmb _ 𝕄) (X.pay c k) := by
  rcases k with (l | r) | r <;> unfold pay <;> (try unfold filled) <;> (try unfold nearGive) <;> (try unfold farGive) <;> infer_instance

/-- The name of a semaphore, if it has one. -/
def name (P : Plan nD sig L R) (sm : SemLoc sig) : Option (Key L R) := Function.partialInv (fun k => SemLoc.dma (P.sem k)) sm

theorem name_sem (P : Plan nD sig L R) (k : Key L R) : name P (.dma (P.sem k)) = some k :=
  Function.partialInv_left (fun _ _ h => P.sem_inj (SemLoc.dma.inj h)) k

/-- What a cell hands over, by its semaphore. -/
def payAt (g : GSem nD τ sig) : Option (Key L R) → sProp 𝕄
  | some k => X.pay g.1.1 k
  | none => iprop(emp)

instance (g : GSem nD τ sig) (k : Option (Key L R)) : BI.Storable (upEmb : UEmb _ 𝕄) (X.payAt g k) := by
  cases k <;> unfold payAt <;> infer_instance

/-- The units of a cell, by its semaphore. -/
def unitsAt (P : Plan nD sig L R) : Option (Key L R) → ℕ
  | some k => P.units k
  | none => 1

/-- The schedule: one round at every cell, of one duty. -/
def sched : Schedule (GSem nD τ sig) Unit 𝕄 where
  duties _ r := if r = 0 then {()} else ∅
  amount g _ _ := unitsAt P (name P g.2)
  payload g _ _ := X.payAt g (name P g.2)
  amount_pos g r d h := by
    cases name P g.2 with
    | some k => exact P.units_pos k
    | none => exact Nat.one_pos

instance (g : GSem nD τ sig) (r : ℕ) (d : Unit) : BI.Storable (upEmb : UEmb _ 𝕄) ((X.sched).payload g r d) := by
  unfold sched; dsimp only; infer_instance

theorem duty_mem (g : GSem nD τ sig) : () ∈ (X.sched).duties g 0 := by unfold sched; simp

theorem duties_later (g : GSem nD τ sig) (r : ℕ) (h : 1 ≤ r) : (X.sched).duties g r = ∅ := by
  unfold sched; dsimp only; rw [if_neg (by omega)]

theorem amount_cell (c : Dev nD) (k : Key L R) : (X.sched).amount (P.cell τ c k) 0 () = P.units k := by
  unfold sched; dsimp only; rw [name_sem]; rfl

theorem payload_cell (c : Dev nD) (k : Key L R) : (X.sched).payload (P.cell τ c k) 0 () = X.pay c k := by
  unfold sched; dsimp only; rw [name_sem]; rfl

theorem expect_cell (c : Dev nD) (k : Key L R) : (X.sched).expect (P.cell τ c k) 0 = P.units k := by
  unfold Schedule.expect Schedule.amountOf
  rw [show (X.sched).duties (P.cell τ c k) 0 = {()} from by unfold sched; simp, Finset.sum_singleton, amount_cell]

theorem rest_cell (c : Dev nD) (k : Key L R) :
    bigSep ((X.sched).duties (P.cell τ c k) 0 \ ∅) (fun d => (X.sched).payload (P.cell τ c k) 0 d) = X.pay c k := by
  rw [show (X.sched).duties (P.cell τ c k) 0 = {()} from by unfold sched; simp, Finset.sdiff_empty, bigSep_singleton, payload_cell]

/-! ### What a device holds for its steps -/

/-- Every cell of every device runs the schedule, its one round open. -/
def live [Fintype L] [Fintype R] : sProp 𝕄 :=
  bigSep Finset.univ fun p : Dev nD × Key L R => iprop(∃ κ : ℕ, cellInv 𝔼 X.sched κ (P.cell τ p.1 p.2) ∗ reached 𝔼 (P.cell τ p.1 p.2) 0)

instance [Fintype L] [Fintype R] : BI.Persistent (X.live) := by unfold live; infer_instance

theorem live_elim [Fintype L] [Fintype R] (c : Dev nD) (k : Key L R) :
    X.live ⊢ iprop(∃ κ : ℕ, cellInv 𝔼 X.sched κ (P.cell τ c k) ∗ reached 𝔼 (P.cell τ c k) 0) := by
  classical
  exact BI.bigSep_elim (Φ := fun p : Dev nD × Key L R => iprop(∃ κ : ℕ, cellInv 𝔼 X.sched κ (P.cell τ p.1 p.2) ∗ reached 𝔼 (P.cell τ p.1 p.2) 0)) (Finset.mem_univ (c, k))

/-- The tokens of a transfer and the room it fills. -/
def need (c : Dev nD) : L ⊕ R → sProp 𝕄
  | .inl l => iprop(dutyTok 𝔼 (P.cell τ c (.inl (.inl l))) 0 () ∗ X.room (P.near c l).dst c)
  | .inr r => iprop(dutyTok 𝔼 (P.cell τ c (.inr r)) 0 () ∗ dutyTok 𝔼 (P.cell τ (P.peer c r) (.inl (.inr r))) 0 () ∗ X.room (P.far c r).dst (P.peer c r))

/-- The source of a transfer. -/
def give (c : Dev nD) : L ⊕ R → sProp 𝕄
  | .inl l => X.nearGive c l
  | .inr r => X.farGive c r

/-- The cell of its own device a transfer pays last. -/
def ends : L ⊕ R → Key L R
  | .inl l => .inl (.inl l)
  | .inr r => .inr r

/-- The units due at a cell of a device. -/
def due (P : Plan nD sig L R) (τ : Topo) (c : Dev nD) (k : Key L R) : CellTallies nD τ sig Unit := tallyAt (P.cell τ c k) () (P.units k)

/-- What the issuer of a transfer owes another device. -/
def debt (P : Plan nD sig L R) (τ : Topo) (c : Dev nD) : L ⊕ R → CellTallies nD τ sig Unit
  | .inl _ => 0
  | .inr r => due P τ (P.peer c r) (.inl (.inr r))

variable [Fintype L] [Fintype R] (defs : Defs nD τ sig Val Λ) (𝒱 : Variants)

/-- Issuing a transfer spends its tokens, room and source, pays what is owed for it, and brings the credit for the wait
    at the cell of its own device. -/
theorem wp_issue (c : Dev nD) (t : L ⊕ R) (O : CellTallies nD τ sig Unit) (W : Waits sig Unit) (p : Prog (TpuEff nD τ sig Val Λ .tc) PUnit)
    (Q : PUnit → sProp 𝕄) :
    iprop(X.live ∗ X.need c t ∗ X.give c t ∗ owes (c.tc : Thread nD τ) (O + debt P τ c t) W)
      ⊢ iprop(((cred (due P τ c (ends t)) ∗ owes (c.tc : Thread nD τ) O W) -∗ wp frame (wpE defs 𝒱 (c.tc : Thread nD τ) none) Set.univ p Q)
          -∗ wp frame (wpE defs 𝒱 (c.tc : Thread nD τ) none) Set.univ (.op (P.op τ Val Λ c (.issue t)) fun _ => p) Q) := by
  rcases t with l | r
  · have hpay : iprop(((P.near c l).dst.view.loc (c.tc : Thread nD τ) ↦[(P.near c l).dst.view.set]{fullShare} ((P.near c l).dst.view.write Val (X.m ((P.near c l).dst.view.loc (c.tc : Thread nD τ))) ((P.near c l).src.view.read Val (X.m ((P.near c l).src.view.loc (c.tc : Thread nD τ)))) Finset.univ))
        ∗ ((P.near c l).src.view.loc (c.tc : Thread nD τ) ↦[(P.near c l).src.view.set]{X.nearShare l} (X.m ((P.near c l).src.view.loc (c.tc : Thread nD τ)))))
        ⊢ (X.sched).payload (P.cell τ c (.inl (.inl l))) 0 () := by
      rw [payload_cell]; exact .rfl
    iintro ⟨#Hlive, Hneed, Hgive, HO⟩ Hk
    ihave Hc := (X.live_elim c (.inl (.inl l))) $$ Hlive
    icases Hc with ⟨%κ, #HI, #Hr⟩
    unfold need room held give nearGive held debt
    rw [add_zero]
    icases Hneed with ⟨Ht, Hroom⟩
    iapply (Rounds.wp_copy_pointsTo 𝒱 𝔼 X.sched (c.tc : Thread nD τ) none (κ := κ) (X.duty_mem _) () (P.units (.inl (.inl l))) (P.near_units c l) (X.amount_cell c _) hpay) $$ [Ht Hroom Hgive]
    · isplitr; · iexact HI
      isplitl [Hgive]; · iexact Hgive
      isplitl [Hroom]; · iexact Hroom
      isplitl [Ht]; · iexact Ht
      iexact Hr
    iintro Hc
    iapply Hk
    isplitl [Hc]; · iexact Hc
    iexact HO
  · have hpay₁ : ((P.far c r).src.view.loc (c.tc : Thread nD τ) ↦[(P.far c r).src.view.set]{X.farShare r} (X.farSrc c r))
        ⊢ (X.sched).payload (P.cell τ c (.inr r)) 0 () := by
      rw [payload_cell]; exact .rfl
    have hpay₂ : ((P.far c r).dst.view.loc ((P.peer c r).tc : Thread nD τ) ↦[(P.far c r).dst.view.set]{fullShare} ((P.far c r).dst.view.write Val (X.m ((P.far c r).dst.view.loc ((P.peer c r).tc : Thread nD τ))) ((P.far c r).src.view.read Val (X.farSrc c r)) Finset.univ))
        ⊢ (X.sched).payload (P.cell τ (P.peer c r) (.inl (.inr r))) 0 () := by
      rw [payload_cell]
      show _ ⊢ X.filled (P.far (P.peer (P.peer c r) r) r).dst (P.peer c r) (X.sent (P.peer (P.peer c r) r) r)
      rw [P.back]; exact .rfl
    iintro ⟨#Hlive, Hneed, Hgive, HO⟩ Hk
    ihave Hc := (X.live_elim c (.inr r)) $$ Hlive
    icases Hc with ⟨%κ, #HI, #Hr⟩
    ihave Hc := (X.live_elim (P.peer c r) (.inl (.inr r))) $$ Hlive
    icases Hc with ⟨%κ', #HI', #Hr'⟩
    unfold need room held give farGive held
    icases Hneed with ⟨Ht, Ht', Hroom⟩
    iapply (Rounds.wp_send_pointsTo 𝒱 𝔼 X.sched (c.tc : Thread nD τ) none (κ₁ := κ) (κ₂ := κ') (X.duty_mem _) (X.duty_mem _) () () (P.units (.inl (.inr r))) (P.far_units c r)
      ((X.amount_cell c _).trans (P.far_units' r)) (X.amount_cell _ _) O rfl hpay₁ hpay₂) $$ [Ht Ht' Hroom Hgive HO]
    · isplitr; · iexact HI
      isplitr; · iexact HI'
      isplitl [Hgive]; · iexact Hgive
      isplitl [Hroom]; · iexact Hroom
      isplitl [HO]; · iexact HO
      isplitl [Ht]; · iexact Ht
      isplitr; · iexact Hr
      isplitl [Ht']; · iexact Ht'
      iexact Hr'
    iintro ⟨Hc, HO⟩
    iapply Hk
    isplitl [Hc]
    · unfold due ends; rw [P.far_units' r]; iexact Hc
    iexact HO

/-- Waiting at a cell hands over what its round holds, and closes the cell at zero. -/
theorem wp_wait (c : Dev nD) (k : Key L R) (O : CellTallies nD τ sig Unit) (W : Waits sig Unit)
    (p : Prog (TpuEff nD τ sig Val Λ .tc) PUnit)
    (Q : PUnit → sProp 𝕄) :
    iprop(X.live ∗ cred (due P τ c k) ∗ atPos 𝔼 (P.cell τ c k) 0 ∅ 0 ∗ MayWait (c.tc : Thread nD τ) (.dma (P.sem k)) () O ∗ owes (c.tc : Thread nD τ) O W)
      ⊢ iprop(((owes (c.tc : Thread nD τ) O (insert (.dma (P.sem k), ()) W) ∗ semVal (P.cell τ c k) 0 ∗ X.pay c k)
            -∗ wp frame (wpE defs 𝒱 (c.tc : Thread nD τ) none) Set.univ p Q)
          -∗ wp frame (wpE defs 𝒱 (c.tc : Thread nD τ) none) Set.univ (.op (P.op τ Val Λ c (.wait k)) fun _ => p) Q) := by
  have hw : ∀ K : PUnit → sProp 𝕄, wpE' defs 𝒱 (c.tc : Thread nD τ) none .empty Set.univ (P.op τ Val Λ c (.wait k)) K
      = waitSpec (c.tc : Thread nD τ) Set.univ (.dma (P.sem k)) (P.units k) K := by
    intro K; rw [← P.seen_units c k]; rfl
  iintro ⟨#Hlive, Hcr, Hat, Hmay, HO⟩ Hk
  ihave Hc := (X.live_elim c k) $$ Hlive
  icases Hc with ⟨%κ, #HI, -⟩
  unfold due
  iapply (Rounds.wp_wait_rest_token 𝒱 𝔼 X.sched (c.tc : Thread nD τ) none (κ := κ) hw (Set.mem_univ _) () (O := O) (W := W) (R := 0) (m := 0) (T := ∅)
      (by rw [Nat.zero_add, X.expect_cell])) $$ [Hcr Hat Hmay HO]
  · isplitr; · iexact HI
    isplitl [Hcr]; · iexact Hcr
    isplitl [HO]; · iexact HO
    isplitl [Hmay]; · iexact Hmay
    iexact Hat
  iintro ⟨HO, Hat, -, Hpay⟩
  ihave Hp := (Entails.of_eq (X.rest_cell c k)) $$ Hpay
  imod (Rounds.cell_close 𝔼 X.sched (Set.mem_univ κ) (fun h => h) (R := 0 + 1) (X.duties_later (P.cell τ c k))) $$ [Hat] with Hz
  · isplitr; · iexact HI
    iexact Hat
  iapply Hk
  isplitl [HO]; · iexact HO
  isplitl [Hz] <;> iassumption

end Load

end Cert.Talk

end
-- ==== Proof.Script.lean ====
/-
The run of a device that carries out its list of transfers: issue the first ones, relay, then wait at every cell left.
-/
module

public import proofs.«01_k».proof.Proof.Talk
public import Idealize.ShloMosaic.Lib.Pipeline.BigSepL

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {Λ : Labels} {L R : Type}

local notation "𝕄" => MT nD τ sig Unit Val ℕ (UR sig nD τ) ℕ
local notation "𝔼" => (emb₁ : Emb (UR sig nD τ) (MT nD τ sig Unit Val ℕ (UR sig nD τ) ℕ))

/-- The order of a device's steps: the transfers it issues first; the relays, each waiting for the landing of one far
    transfer and then issuing another; the cells it waits at last. -/
structure Script (L R : Type) where
  ts : List (L ⊕ R)
  rl : List (R × R)
  ks : List (Key L R)

namespace Script

variable (S : Script L R)

/-- The steps of the relays. -/
def relays (rl : List (R × R)) : List (Act L R) := rl.flatMap fun x => [.wait (.inl (.inr x.1)), .issue (.inr x.2)]

/-- The steps in order. -/
def acts : List (Act L R) := S.ts.map .issue ++ (relays S.rl ++ S.ks.map .wait)

/-- All transfers, in the order they are issued. -/
def order : List (L ⊕ R) := S.ts ++ S.rl.map fun x => .inr x.2

/-- All cells waited at. -/
def cells : List (Key L R) := S.ks ++ S.rl.map fun x => .inl (.inr x.1)

end Script

theorem prog_append (P : Plan nD sig L R) (c : Dev nD) (l l' : List (Act L R)) (p : Prog (TpuEff nD τ sig Val Λ .tc) PUnit) :
    P.prog τ Val Λ c (l ++ l') p = P.prog τ Val Λ c l (P.prog τ Val Λ c l' p) := by
  unfold Plan.prog; rw [List.foldr_append]

namespace Load

variable {P : Plan nD sig L R} (X : Load τ Val P)

/-- What the issuer of the transfers of a list owes. -/
def debts (P : Plan nD sig L R) (τ : Topo) (c : Dev nD) (l : List (L ⊕ R)) : CellTallies nD τ sig Unit := (l.map (debt P τ c)).sum

theorem debts_cons (c : Dev nD) (t : L ⊕ R) (l : List (L ⊕ R)) : debts P τ c (t :: l) = debts P τ c l + debt P τ c t := by
  unfold debts; rw [List.map_cons, List.sum_cons, add_comm]

theorem debts_append (c : Dev nD) (l l' : List (L ⊕ R)) : debts P τ c (l ++ l') = debts P τ c l' + debts P τ c l := by
  unfold debts; rw [List.map_append, List.sum_append, add_comm]

/-- A debt of a list lies at the landing of one of its far transfers. -/
theorem debts_pos {c : Dev nD} {l : List (L ⊕ R)} {g : GSem nD τ sig} {u : Unit} (h : 0 < debts P τ c l g u) :
    ∃ r, Sum.inr r ∈ l ∧ g = P.cell τ (P.peer c r) (.inl (.inr r)) := by
  induction l with
  | nil => exact absurd h (Nat.lt_irrefl 0)
  | cons t l ih =>
    rw [debts_cons, Pi.add_apply, Finsupp.add_apply] at h
    by_cases h' : 0 < debts P τ c l g u
    · obtain ⟨r, hr, hg⟩ := ih h'; exact ⟨r, List.mem_cons_of_mem _ hr, hg⟩
    · have ht : 0 < debt P τ c t g u := by omega
      rcases t with l | r
      · exact absurd ht (Nat.lt_irrefl 0)
      · refine ⟨r, List.mem_cons_self, ?_⟩
        unfold debt due at ht
        rw [tallyAt_apply] at ht
        by_contra hne
        rw [if_neg (fun hh => hne hh.1)] at ht
        exact absurd ht (Nat.lt_irrefl 0)

/-- The levels a cell may be waited at: one, on a TensorCore. -/
def idx (nD : ℕ) (τ : Topo) (sig : RefSig) (g : GSem nD τ sig) : Finset Unit := if g.1.2 = .tc then {()} else ∅

/-- The level of a cell: a far landing's, or zero. -/
def lev (P : Plan nD sig L R) (τ : Topo) (g : GSem nD τ sig) (_ : Unit) : ℕ :=
  match name P g.2 with
  | some (.inl (.inr r)) => P.level r
  | _ => 0

theorem lev_recv (c : Dev nD) (r : R) (u : Unit) : lev P τ (P.cell τ c (.inl (.inr r))) u = P.level r := by
  unfold lev; dsimp only; rw [name_sem]

theorem mem_idx (c : Dev nD) (k : Key L R) (u : Unit) : u ∈ idx nD τ sig (P.cell τ c k) := by
  unfold idx; rw [if_pos rfl]; cases u; exact Finset.mem_singleton_self _

/-- A first landing may be waited for while only relays are owed. -/
theorem mayWait_relay (c : Dev nD) (r : R) (h0 : P.level r = 0) (l : List (L ⊕ R)) (h1 : ∀ r, Sum.inr r ∈ l → P.level r = 1) :
    (levAts (idx nD τ sig) (lev P τ) : sProp 𝕄) ⊢ MayWait (c.tc : Thread nD τ) (.dma (P.sem (.inl (.inr r)))) () (debts P τ c l) := by
  refine MayOwe.of_cut 0 ?_ ?_ ?_ ?_
  · intro p hp; obtain rfl := Finset.mem_singleton.mp hp; exact mem_idx c _ _
  · intro g u h; obtain ⟨r', _, rfl⟩ := debts_pos h; exact mem_idx _ _ _
  · intro p hp; obtain rfl := Finset.mem_singleton.mp hp; exact (lev_recv c r ()).trans_le h0.le
  · intro g u h; obtain ⟨r', hr, rfl⟩ := debts_pos h; rw [lev_recv, h1 r' hr]; exact Nat.one_pos

variable [Fintype L] [Fintype R] (defs : Defs nD τ sig Val Λ) (𝒱 : Variants)

/-- Issuing the transfers of a list. -/
theorem wp_issues (c : Dev nD) (l : List (L ⊕ R)) (O : CellTallies nD τ sig Unit) (W : Waits sig Unit) (p : Prog (TpuEff nD τ sig Val Λ .tc) PUnit)
    (Q : PUnit → sProp 𝕄) :
    iprop(X.live ∗ bigSepL l (X.need c) ∗ bigSepL l (X.give c) ∗ owes (c.tc : Thread nD τ) (O + debts P τ c l) W)
      ⊢ iprop(((bigSepL l (fun t => cred (due P τ c (ends t))) ∗ owes (c.tc : Thread nD τ) O W) -∗ wp frame (wpE defs 𝒱 (c.tc : Thread nD τ) none) Set.univ p Q)
          -∗ wp frame (wpE defs 𝒱 (c.tc : Thread nD τ) none) Set.univ (P.prog τ Val Λ c (l.map .issue) p) Q) := by
  induction l generalizing O with
  | nil =>
    iintro ⟨-, -, -, HO⟩ Hk
    iapply Hk
    isplitr
    · rw [bigSepL_nil]; iempintro
    · rw [show O + debts P τ c ([] : List (L ⊕ R)) = O from add_zero O]; iexact HO
  | cons t l ih =>
    rw [bigSepL_cons', bigSepL_cons', bigSepL_cons', debts_cons, ← add_assoc]
    iintro ⟨#Hlive, ⟨Hn, Hns⟩, ⟨Hg, Hgs⟩, HO⟩ Hk
    ihave Hw := (X.wp_issue defs 𝒱 c t (O + debts P τ c l) W (P.prog τ Val Λ c (l.map .issue) p) Q) $$ [Hn Hg HO]
    · isplitr; · iexact Hlive
      isplitl [Hn]; · iexact Hn
      isplitl [Hg]; · iexact Hg
      iexact HO
    iapply Hw
    iintro ⟨Hc, HO⟩
    ihave Hr := (ih O) $$ [Hns Hgs HO]
    · isplitr; · iexact Hlive
      isplitl [Hns]; · iexact Hns
      isplitl [Hgs]; · iexact Hgs
      iexact HO
    iapply Hr
    iintro ⟨Hcs, HO⟩
    iapply Hk
    isplitl [Hc Hcs]
    · isplitl [Hc] <;> iassumption
    iexact HO

/-- What a device holds for a wait. -/
def ticket (P : Plan nD sig L R) (c : Dev nD) (k : Key L R) : sProp 𝕄 := iprop(cred (due P τ c k) ∗ atPos 𝔼 (P.cell τ c k) 0 ∅ 0)

/-- The relays: each landing waited for is the next transfer's source. -/
theorem wp_relays (c : Dev nD) (rl : List (R × R)) (h0 : ∀ x ∈ rl, P.level x.1 = 0) (h1 : ∀ x ∈ rl, P.level x.2 = 1)
    (hrel : ∀ x ∈ rl, X.pay c (.inl (.inr x.1)) ⊢ X.give c (.inr x.2)) (W : Waits sig Unit) (p : Prog (TpuEff nD τ sig Val Λ .tc) PUnit)
    (Q : PUnit → sProp 𝕄) :
    iprop(X.live ∗ levAts (idx nD τ sig) (lev P τ) ∗ bigSepL rl (fun x => ticket P c (.inl (.inr x.1))) ∗ bigSepL rl (fun x => X.need c (.inr x.2))
        ∗ owes (c.tc : Thread nD τ) (debts P τ c (rl.map fun x => .inr x.2)) W)
      ⊢ iprop(((bigSepL rl (fun x => cred (due P τ c (.inr x.2))) ∗ bigSepL rl (fun x => semVal (P.cell τ c (.inl (.inr x.1))) 0) ∗ (∃ W', owes (c.tc : Thread nD τ) 0 W'))
            -∗ wp frame (wpE defs 𝒱 (c.tc : Thread nD τ) none) Set.univ p Q)
          -∗ wp frame (wpE defs 𝒱 (c.tc : Thread nD τ) none) Set.univ (P.prog τ Val Λ c (Script.relays rl) p) Q) := by
  induction rl generalizing W with
  | nil =>
    iintro ⟨-, -, -, -, HO⟩ Hk
    iapply Hk
    rw [bigSepL_nil, bigSepL_nil]
    isplitr; · iempintro
    isplitr; · iempintro
    iexists W; iexact HO
  | cons x rl ih =>
    rw [bigSepL_cons', bigSepL_cons', bigSepL_cons', bigSepL_cons', List.map_cons]
    iintro ⟨#Hlive, #Hlev, ⟨Ht, Hts⟩, ⟨Hn, Hns⟩, HO⟩ Hk
    unfold ticket
    icases Ht with ⟨Hcr, Hat⟩
    ihave Hmay := (mayWait_relay c x.1 (h0 x List.mem_cons_self) (Sum.inr x.2 :: rl.map fun x => (Sum.inr x.2 : L ⊕ R)) (by
      intro r hr
      rcases List.mem_cons.mp hr with h | h
      · rw [Sum.inr.inj h]; exact h1 x List.mem_cons_self
      · obtain ⟨y, hy, hyr⟩ := List.mem_map.mp h
        rw [← Sum.inr.inj hyr]; exact h1 y (List.mem_cons_of_mem _ hy))) $$ Hlev
    ihave Hw := (X.wp_wait defs 𝒱 c (.inl (.inr x.1)) (debts P τ c (.inr x.2 :: rl.map fun x => .inr x.2)) W
      (P.prog τ Val Λ c (.issue (.inr x.2) :: Script.relays rl) p) Q) $$ [Hcr Hat Hmay HO]
    · isplitr; · iexact Hlive
      isplitl [Hcr]; · iexact Hcr
      isplitl [Hat]; · iexact Hat
      isplitl [Hmay]; · iexact Hmay
      iexact HO
    iapply Hw
    iintro ⟨HO, Hz, Hpay⟩
    ihave Hg := (hrel x List.mem_cons_self) $$ Hpay
    rw [debts_cons]
    ihave Hw := (X.wp_issue defs 𝒱 c (.inr x.2) (debts P τ c (rl.map fun x => .inr x.2)) (insert (.dma (P.sem (.inl (.inr x.1))), ()) W) (P.prog τ Val Λ c (Script.relays rl) p) Q) $$ [Hn Hg HO]
    · isplitr; · iexact Hlive
      isplitl [Hn]; · iexact Hn
      isplitl [Hg]; · iexact Hg
      iexact HO
    iapply Hw
    iintro ⟨Hc, HO⟩
    ihave Hr := (ih (fun y hy => h0 y (List.mem_cons_of_mem _ hy)) (fun y hy => h1 y (List.mem_cons_of_mem _ hy)) (fun y hy => hrel y (List.mem_cons_of_mem _ hy))
      (insert (.dma (P.sem (.inl (.inr x.1))), ()) W)) $$ [Hts Hns HO]
    · isplitr; · iexact Hlive
      isplitr; · iexact Hlev
      isplitl [Hts]; · iexact Hts
      isplitl [Hns]; · iexact Hns
      iexact HO
    iapply Hr
    iintro ⟨Hcs, Hzs, HO⟩
    iapply Hk
    isplitl [Hc Hcs]
    · isplitl [Hc]; · iexact Hc
      iexact Hcs
    isplitl [Hz Hzs]
    · isplitl [Hz]; · iexact Hz
      iexact Hzs
    iexact HO

/-- The last waits. -/
theorem wp_collect (c : Dev nD) (ks : List (Key L R)) (W : Waits sig Unit) (p : Prog (TpuEff nD τ sig Val Λ .tc) PUnit) (Q : PUnit → sProp 𝕄) :
    iprop(X.live ∗ bigSepL ks (ticket P c) ∗ owes (c.tc : Thread nD τ) 0 W)
      ⊢ iprop(((bigSepL ks (fun k => semVal (P.cell τ c k) 0) ∗ bigSepL ks (X.pay c) ∗ (∃ W', owes (c.tc : Thread nD τ) 0 W'))
            -∗ wp frame (wpE defs 𝒱 (c.tc : Thread nD τ) none) Set.univ p Q)
          -∗ wp frame (wpE defs 𝒱 (c.tc : Thread nD τ) none) Set.univ (P.prog τ Val Λ c (ks.map .wait) p) Q) := by
  induction ks generalizing W with
  | nil =>
    iintro ⟨-, -, HO⟩ Hk
    iapply Hk
    rw [bigSepL_nil, bigSepL_nil]
    isplitr; · iempintro
    isplitr; · iempintro
    iexists W; iexact HO
  | cons k ks ih =>
    rw [bigSepL_cons', bigSepL_cons', bigSepL_cons']
    iintro ⟨#Hlive, ⟨Ht, Hts⟩, HO⟩ Hk
    unfold ticket
    icases Ht with ⟨Hcr, Hat⟩
    ihave Hw := (X.wp_wait defs 𝒱 c k 0 W (P.prog τ Val Λ c (ks.map .wait) p) Q) $$ [Hcr Hat HO]
    · isplitr; · iexact Hlive
      isplitl [Hcr]; · iexact Hcr
      isplitl [Hat]; · iexact Hat
      isplitr
      · rw [MayWait_zero]; iempintro
      iexact HO
    iapply Hw
    iintro ⟨HO, Hz, Hpay⟩
    ihave Hr := (ih (insert (.dma (P.sem k), ()) W)) $$ [Hts HO]
    · isplitr; · iexact Hlive
      isplitl [Hts]; · iexact Hts
      iexact HO
    iapply Hr
    iintro ⟨Hzs, Hps, HO⟩
    iapply Hk
    isplitl [Hz Hzs]
    · isplitl [Hz] <;> iassumption
    isplitl [Hpay Hps]
    · isplitl [Hpay] <;> iassumption
    iexact HO

end Load

end Cert.Talk

end
-- ==== Proof.Run.lean ====
/-
The run of a plan on all devices: each device carries out its script from what the launch deals it.
-/
module

public import proofs.«01_k».proof.Proof.Script

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {Λ : Labels} {L R : Type}

local notation "𝕄" => MT nD τ sig Unit Val ℕ (UR sig nD τ) ℕ
local notation "𝔼" => (emb₁ : Emb (UR sig nD τ) (MT nD τ sig Unit Val ℕ (UR sig nD τ) ℕ))

/-- What makes a script complete for a plan: every transfer is issued once, every cell waited at once, and a relay waits
    for a first landing. -/
structure Script.Complete (S : Script L R) (P : Plan nD sig L R) : Prop where
  order_nodup : S.order.Nodup
  order_all : ∀ t, t ∈ S.order
  cells_nodup : S.cells.Nodup
  cells_all : ∀ k, k ∈ S.cells
  low : ∀ x ∈ S.rl, P.level x.1 = 0
  high : ∀ x ∈ S.rl, P.level x.2 = 1

/-- Two chains over one list are one chain. -/
theorem bigSepL_zip {I : Type} (l : List I) (Φ Ψ : I → sProp 𝕄) : iprop(bigSepL l Φ ∗ bigSepL l Ψ) ⊢ bigSepL l fun i => iprop(Φ i ∗ Ψ i) := by
  induction l with
  | nil => iintro -; rw [bigSepL_nil]; iempintro
  | cons i l ih =>
    rw [bigSepL_cons', bigSepL_cons', bigSepL_cons']
    iintro ⟨⟨Ha, Has⟩, Hb, Hbs⟩
    isplitl [Ha Hb]
    · isplitl [Ha] <;> iassumption
    · iapply ih
      isplitl [Has] <;> iassumption

/-- A chain over every name is the chain over a list that has each once. -/
theorem bigSep_listed {I : Type} [Fintype I] (l : List I) (hn : l.Nodup) (ha : ∀ i, i ∈ l) (Φ : I → sProp 𝕄) : bigSep Finset.univ Φ = bigSepL l Φ := by
  classical
  exact bigSep_univ_eq_bigSepL l (Finset.ext fun i => ⟨fun _ => List.mem_toFinset.mpr (ha i), fun _ => Finset.mem_univ _⟩) hn Φ

namespace Load

variable {P : Plan nD sig L R} (X : Load τ Val P)

/-- The credit a device has from the start: for its far landings. -/
def early (P : Plan nD sig L R) (c : Dev nD) : Key L R → sProp 𝕄
  | .inl (.inl _) => iprop(emp)
  | .inl (.inr r) => cred (due P τ c (.inl (.inr r)))
  | .inr _ => iprop(emp)

/-- The credit it gets by issuing. -/
def late (P : Plan nD sig L R) (c : Dev nD) : Key L R → sProp 𝕄
  | .inl (.inl l) => cred (due P τ c (.inl (.inl l)))
  | .inl (.inr _) => iprop(emp)
  | .inr r => cred (due P τ c (.inr r))

variable [Fintype L] [Fintype R]

theorem late_all (c : Dev nD) :
    (bigSep Finset.univ fun t : L ⊕ R => cred (due P τ c (ends t))) ⊢ (bigSep Finset.univ (late P c) : sProp 𝕄) := by
  rw [bigSep_univ_sum, bigSep_univ_sum, bigSep_univ_sum]
  have h : (bigSep Finset.univ fun r : R => late P c (.inl (.inr r)) : sProp 𝕄) = BI.emp := BI.bigSep_emp_const _
  rw [h]
  show iprop((bigSep Finset.univ fun l : L => cred (due P τ c (.inl (.inl l)))) ∗ (bigSep Finset.univ fun r : R => cred (due P τ c (.inr r))))
    ⊢ iprop(((bigSep Finset.univ fun l : L => cred (due P τ c (.inl (.inl l)))) ∗ emp) ∗ (bigSep Finset.univ fun r : R => cred (due P τ c (.inr r))))
  iintro ⟨Ha, Hb⟩
  isplitl [Ha]
  · isplitl; · iexact Ha
    iempintro
  iexact Hb

theorem early_all (c : Dev nD) :
    (bigSep Finset.univ fun r : R => cred (due P τ c (.inl (.inr r)))) ⊢ (bigSep Finset.univ (early P c) : sProp 𝕄) := by
  rw [bigSep_univ_sum, bigSep_univ_sum]
  have h : (bigSep Finset.univ fun l : L => early P c (.inl (.inl l)) : sProp 𝕄) = BI.emp := BI.bigSep_emp_const _
  have h' : (bigSep Finset.univ fun r : R => early P c (.inr r) : sProp 𝕄) = BI.emp := BI.bigSep_emp_const _
  rw [h, h']
  show _ ⊢ iprop((emp ∗ (bigSep Finset.univ fun r : R => cred (due P τ c (.inl (.inr r))))) ∗ emp)
  iintro Ha
  isplitl
  · isplitr; · iempintro
    iexact Ha
  iempintro

/-- What a device starts with, memory it only keeps apart. -/
def start (S : Script L R) (c : Dev nD) : sProp 𝕄 :=
  iprop(X.live ∗ levAts (idx nD τ sig) (lev P τ) ∗ bigSep Finset.univ (X.need c) ∗ bigSepL S.ts (X.give c)
    ∗ (bigSep Finset.univ fun r : R => cred (due P τ c (.inl (.inr r)))) ∗ bigSep Finset.univ fun k : Key L R => atPos 𝔼 (P.cell τ c k) 0 ∅ 0)

/-- What it ends with. -/
def done (S : Script L R) (c : Dev nD) : sProp 𝕄 :=
  iprop((bigSep Finset.univ fun k : Key L R => semVal (P.cell τ c k) 0) ∗ bigSepL S.ks (X.pay c))

/-- A device carries out a complete script. -/
theorem wp_script (defs : Defs nD τ sig Val Λ) (𝒱 : Variants) (S : Script L R) (hS : S.Complete P)
    (hrel : ∀ c, ∀ x ∈ S.rl, X.pay c (.inl (.inr x.1)) ⊢ X.give c (.inr x.2)) (c : Dev nD) (W : Waits sig Unit) :
    iprop(X.start S c ∗ owes (c.tc : Thread nD τ) (debts P τ c S.order) W)
      ⊢ wp frame (wpE defs 𝒱 (c.tc : Thread nD τ) none) Set.univ (P.prog τ Val Λ c S.acts (.ret ⟨⟩))
          fun _ => iprop(X.done S c ∗ ∃ W', owes (c.tc : Thread nD τ) 0 W') := by
  unfold start
  rw [bigSep_listed S.order hS.order_nodup hS.order_all (X.need c)]
  have hat : iprop((bigSep Finset.univ fun k : Key L R => atPos 𝔼 (P.cell τ c k) 0 ∅ 0) ∗ bigSep Finset.univ fun r : R => cred (due P τ c (.inl (.inr r))))
      ⊢ (iprop((bigSepL S.ks fun k => iprop(early P c k ∗ atPos 𝔼 (P.cell τ c k) 0 ∅ 0)) ∗ bigSepL S.rl fun x => ticket P c (.inl (.inr x.1))) : sProp 𝕄) := by
    have h : (bigSepL S.cells fun k => iprop(early P c k ∗ atPos 𝔼 (P.cell τ c k) 0 ∅ 0) : sProp 𝕄)
        = iprop((bigSepL S.ks fun k => iprop(early P c k ∗ atPos 𝔼 (P.cell τ c k) 0 ∅ 0)) ∗ bigSepL S.rl fun x => ticket P c (.inl (.inr x.1))) := by
      unfold Script.cells
      rw [bigSepL_append, bigSepL_map]; rfl
    rw [← h, ← bigSep_listed S.cells hS.cells_nodup hS.cells_all, bigSep_sep']
    iintro ⟨Ha, Hc⟩
    isplitl [Hc]
    · iapply (early_all c); iexact Hc
    iexact Ha
  have hlate : iprop((bigSepL S.ks fun k => iprop(early P c k ∗ atPos 𝔼 (P.cell τ c k) 0 ∅ 0)) ∗ bigSepL S.order fun t => cred (due P τ c (ends t)))
      ⊢ (bigSepL S.ks (ticket P c) : sProp 𝕄) := by
    rw [← bigSep_listed S.order hS.order_nodup hS.order_all]
    have hl := late_all (P := P) (τ := τ) (Val := Val) c
    rw [bigSep_listed S.cells hS.cells_nodup hS.cells_all (late P c), Script.cells, bigSepL_append] at hl
    iintro ⟨Ha, Hc⟩
    ihave Hc := hl $$ Hc
    icases Hc with ⟨Hc, -⟩
    ihave H := (bigSepL_zip S.ks _ _) $$ [Ha Hc]
    · isplitl [Ha] <;> iassumption
    iapply (bigSepL_mono (Φ := fun k => iprop((early P c k ∗ atPos 𝔼 (P.cell τ c k) 0 ∅ 0) ∗ late P c k)) ?_) $$ H
    intro k _
    unfold ticket
    rcases k with (l | r) | r
    · show iprop((emp ∗ atPos 𝔼 (P.cell τ c (.inl (.inl l))) 0 ∅ 0) ∗ cred (due P τ c (.inl (.inl l)))) ⊢ iprop(cred (due P τ c (.inl (.inl l))) ∗ atPos 𝔼 (P.cell τ c (.inl (.inl l))) 0 ∅ 0)
      iintro ⟨⟨-, Ha⟩, Hc⟩
      isplitl [Hc]; · iexact Hc
      iexact Ha
    · show iprop((cred (due P τ c (.inl (.inr r))) ∗ atPos 𝔼 (P.cell τ c (.inl (.inr r))) 0 ∅ 0) ∗ emp) ⊢ iprop(cred (due P τ c (.inl (.inr r))) ∗ atPos 𝔼 (P.cell τ c (.inl (.inr r))) 0 ∅ 0)
      iintro ⟨⟨Hc, Ha⟩, -⟩
      isplitl [Hc]; · iexact Hc
      iexact Ha
    · show iprop((emp ∗ atPos 𝔼 (P.cell τ c (.inr r)) 0 ∅ 0) ∗ cred (due P τ c (.inr r))) ⊢ iprop(cred (due P τ c (.inr r)) ∗ atPos 𝔼 (P.cell τ c (.inr r)) 0 ∅ 0)
      iintro ⟨⟨-, Ha⟩, Hc⟩
      isplitl [Hc]; · iexact Hc
      iexact Ha
  unfold Script.acts
  rw [prog_append, prog_append]
  unfold Script.order
  rw [debts_append, bigSepL_append, bigSepL_map]
  iintro ⟨⟨#Hlive, #Hlev, ⟨Hn, Hnr⟩, Hg, Hcr, Hat⟩, HO⟩
  ihave Ht := hat $$ [Hcr Hat]
  · isplitl [Hat] <;> iassumption
  icases Ht with ⟨Htk, Htr⟩
  ihave Hw := (X.wp_issues defs 𝒱 c S.ts (debts P τ c (S.rl.map fun x => .inr x.2)) W
    (P.prog τ Val Λ c (Script.relays S.rl) (P.prog τ Val Λ c (S.ks.map .wait) (.ret ⟨⟩))) (fun _ => iprop(X.done S c ∗ ∃ W', owes (c.tc : Thread nD τ) 0 W'))) $$ [Hn Hg HO]
  · isplitr; · iexact Hlive
    isplitl [Hn]; · iexact Hn
    isplitl [Hg]; · iexact Hg
    iexact HO
  iapply Hw
  iintro ⟨Hc, HO⟩
  ihave Hw := (X.wp_relays defs 𝒱 c S.rl hS.low hS.high (hrel c) W (P.prog τ Val Λ c (S.ks.map .wait) (.ret ⟨⟩))
    (fun _ => iprop(X.done S c ∗ ∃ W', owes (c.tc : Thread nD τ) 0 W'))) $$ [Htr Hnr HO]
  · isplitr; · iexact Hlive
    isplitr; · iexact Hlev
    isplitl [Htr]; · iexact Htr
    isplitl [Hnr]; · iexact Hnr
    iexact HO
  iapply Hw
  iintro ⟨Hc', Hz, %W', HO⟩
  ihave Htk := hlate $$ [Htk Hc Hc']
  · isplitl [Htk]; · iexact Htk
    unfold Script.order
    rw [bigSepL_append, bigSepL_map]
    isplitl [Hc]; · iexact Hc
    iexact Hc'
  ihave Hw := (X.wp_collect defs 𝒱 c S.ks W' (.ret ⟨⟩) (fun _ => iprop(X.done S c ∗ ∃ W', owes (c.tc : Thread nD τ) 0 W'))) $$ [Htk HO]
  · isplitr; · iexact Hlive
    isplitl [Htk]; · iexact Htk
    iexact HO
  iapply Hw
  iintro ⟨Hz', Hp, HO⟩
  rw [wp_ret]
  imodintro
  unfold done
  isplitl [Hz Hz' Hp]
  · isplitl [Hz Hz']
    · rw [bigSep_listed S.cells hS.cells_nodup hS.cells_all]
      unfold Script.cells
      rw [bigSepL_append, bigSepL_map]
      isplitl [Hz']; · iexact Hz'
      iexact Hz
    iexact Hp
  iexact HO

/-! ### The deal at launch -/

/-- What a device owes at the start. -/
def owed (P : Plan nD sig L R) (τ : Topo) (S : Script L R) (c : Dev nD) : CellTallies nD τ sig Unit := debts P τ c S.order

open scoped Classical in
theorem debts_at {c d : Dev nD} {r : R} (l : List (L ⊕ R)) (hn : l.Nodup) :
    debts P τ d l (P.cell τ c (.inl (.inr r))) () = if Sum.inr r ∈ l ∧ d = P.peer c r then P.units (.inl (.inr r)) else 0 := by
  induction l with
  | nil => rw [if_neg (fun h => absurd h.1 List.not_mem_nil)]; rfl
  | cons t l ih =>
    rw [debts_cons, Pi.add_apply, Finsupp.add_apply, ih (List.nodup_cons.mp hn).2]
    have hiff (r' : R) : P.cell τ c (.inl (.inr r)) = P.cell τ (P.peer d r') (.inl (.inr r')) ↔ r' = r ∧ d = P.peer c r := by
      constructor
      · intro h
        have h2 : r' = r := by
          have := P.sem_inj (SemLoc.dma.inj (congrArg Prod.snd h)); exact (Sum.inr.inj (Sum.inl.inj this)).symm
        subst h2
        have h1 : c = P.peer d r' := congrArg (fun g : GSem nD τ sig => g.1.1) h
        exact ⟨rfl, by rw [h1, P.back]⟩
      · rintro ⟨rfl, rfl⟩; rw [P.back]
    rcases t with l' | r'
    · rw [show (debt P τ d (Sum.inl l') (P.cell τ c (.inl (.inr r)))) () = 0 from rfl, Nat.add_zero]
      exact if_congr (and_congr_left fun _ => ⟨List.mem_cons_of_mem _, fun h => (List.mem_cons.mp h).resolve_left (by simp)⟩) rfl rfl
    · rw [show debt P τ d (Sum.inr r') = tallyAt (P.cell τ (P.peer d r') (.inl (.inr r'))) () (P.units (.inl (.inr r'))) from rfl, tallyAt_apply]
      by_cases hr : r' = r
      · subst hr
        rw [if_neg (fun h => (List.nodup_cons.mp hn).1 h.1), Nat.zero_add]
        exact if_congr ⟨fun h => ⟨List.mem_cons_self, ((hiff r').mp h.1).2⟩, fun h => ⟨(hiff r').mpr ⟨rfl, h.2⟩, rfl⟩⟩ rfl rfl
      · rw [if_neg (c := _ ∧ () = ()) (fun h => hr ((hiff r').mp h.1).1), Nat.add_zero]
        exact if_congr (and_congr_left fun _ => ⟨List.mem_cons_of_mem _, fun h => (List.mem_cons.mp h).resolve_left fun h => hr (Sum.inr.inj h).symm⟩) rfl rfl

/-- The launch's credit at a device's far landings is what they wait for. -/
theorem credit (S : Script L R) (hS : S.Complete P) (c : Dev nD) :
    (launchCred (owed P τ S) c : sProp 𝕄) ⊢ bigSep Finset.univ fun r : R => cred (due P τ c (.inl (.inr r))) := by
  classical
  have h1 (r : R) : tallyOn (P.cell τ c (.inl (.inr r))) (launchCredit (owing (owed P τ S)) 0 (P.cell τ c (.inl (.inr r)))) = due P τ c (.inl (.inr r)) := by
    unfold due tallyAt; refine congrArg _ (Finsupp.ext fun u => ?_); cases u
    rw [launchCredit_owing, Finsupp.single_eq_same]
    have h2 (d : Dev nD) : owed P τ S d (P.cell τ c (.inl (.inr r))) () = if d = P.peer c r then P.units (.inl (.inr r)) else 0 := by
      unfold owed
      rw [debts_at _ hS.order_nodup]
      by_cases h : d = P.peer c r
      · rw [if_pos h, if_pos ⟨hS.order_all _, h⟩]
      · rw [if_neg h, if_neg fun h' => h h'.2]
    rw [Finset.sum_congr rfl fun d _ => h2 d, Finset.sum_ite_eq' Finset.univ (P.peer c r) fun _ => P.units (.inl (.inr r)), if_pos (Finset.mem_univ _)]
  have hinj : Function.Injective fun r : R => (SemLoc.dma (P.sem (.inl (.inr r))) : SemLoc sig) := fun a b h =>
    Sum.inr.inj (Sum.inl.inj (P.sem_inj (SemLoc.dma.inj h)))
  unfold launchCred
  refine (BI.bigSep_subset (Finset.subset_univ (Finset.univ.map ⟨_, hinj⟩))).trans ?_
  rw [BI.bigSep_map]
  exact Entails.of_eq (bigSep_congr fun r _ => congrArg cred (h1 r))

/-- A family over devices and far transfers, read at the other end of each. -/
theorem swap (Φ : Dev nD → R → sProp 𝕄) :
    (bigSep Finset.univ fun c : Dev nD => bigSep Finset.univ fun r : R => Φ c r)
      = bigSep Finset.univ fun c : Dev nD => bigSep Finset.univ fun r : R => Φ (P.peer c r) r := by
  rw [← bigSep_univ_prod fun p : Dev nD × R => Φ p.1 p.2, ← bigSep_univ_prod fun p : Dev nD × R => Φ (P.peer p.1 p.2) p.2]
  exact bigSep_univ_equiv ⟨fun p => (P.peer p.1 p.2, p.2), fun p => (P.peer p.1 p.2, p.2), fun p => Prod.ext (P.back p.1 p.2) rfl, fun p => Prod.ext (P.back p.1 p.2) rfl⟩
    fun p : Dev nD × R => Φ p.1 p.2

/-- The cells of a plan, by device and name. -/
def cellEmb (P : Plan nD sig L R) (τ : Topo) : Dev nD × Key L R ↪ GSem nD τ sig :=
  ⟨fun p => P.cell τ p.1 p.2, fun p q h => Prod.ext (congrArg (fun g : GSem nD τ sig => g.1.1) h) (P.sem_inj (SemLoc.dma.inj (congrArg Prod.snd h)))⟩

/-- Their duties. -/
def dutyEmb (P : Plan nD sig L R) (τ : Topo) : Dev nD × Key L R ↪ GSem nD τ sig × ℕ × Unit :=
  ⟨fun p => (P.cell τ p.1 p.2, 0, ()), fun p q h => (cellEmb P τ).injective (congrArg Prod.fst h)⟩

/-- The launch's resource of the schedule. -/
def tokens (P : Plan nD sig L R) (τ : Topo) : UR sig nD τ := initOf (Finset.univ.map (cellEmb P τ)) (Finset.univ.map (dutyEmb P τ))

/-- The tokens a device's own transfers need, from those of every cell. -/
theorem tokens_dealt :
    (bigSep Finset.univ fun p : Dev nD × Key L R => dutyTok 𝔼 (P.cell τ p.1 p.2) 0 () : sProp 𝕄)
      ⊢ bigSep Finset.univ fun c : Dev nD => iprop((bigSep Finset.univ fun l : L => dutyTok 𝔼 (P.cell τ c (.inl (.inl l))) 0 ())
          ∗ (bigSep Finset.univ fun r : R => dutyTok 𝔼 (P.cell τ (P.peer c r) (.inl (.inr r))) 0 ()) ∗ bigSep Finset.univ fun r : R => dutyTok 𝔼 (P.cell τ c (.inr r)) 0 ()) := by
  rw [bigSep_univ_prod, bigSep_sep', bigSep_sep', ← swap (P := P) (Φ := fun c r => dutyTok 𝔼 (P.cell τ c (.inl (.inr r))) 0 ()), ← bigSep_sep', ← bigSep_sep']
  refine bigSep_mono fun c _ => show (bigSep Finset.univ fun k : Key L R => dutyTok 𝔼 (P.cell τ c k) 0 () : sProp 𝕄) ⊢ iprop((bigSep Finset.univ fun l : L => dutyTok 𝔼 (P.cell τ c (.inl (.inl l))) 0 ())
      ∗ (bigSep Finset.univ fun r : R => dutyTok 𝔼 (P.cell τ c (.inl (.inr r))) 0 ()) ∗ bigSep Finset.univ fun r : R => dutyTok 𝔼 (P.cell τ c (.inr r)) 0 ()) from ?_
  rw [bigSep_univ_sum, bigSep_univ_sum]
  show iprop(((bigSep Finset.univ fun l : L => dutyTok 𝔼 (P.cell τ c (.inl (.inl l))) 0 ())
      ∗ (bigSep Finset.univ fun r : R => dutyTok 𝔼 (P.cell τ c (.inl (.inr r))) 0 ())) ∗ bigSep Finset.univ fun r : R => dutyTok 𝔼 (P.cell τ c (.inr r)) 0 ()) ⊢ _
  iintro ⟨⟨H1, H2⟩, H3⟩
  isplitl [H1]; · iexact H1
  isplitl [H2] <;> iassumption

/-- One step at launch deals every device what it starts with. -/
theorem deal (S : Script L R) (hS : S.Complete P) (kept : Dev nD → sProp 𝕄)
    (hmem : ∀ c, (unscopedBufs c fun b => X.m ((c.tc : Thread nD τ).loc b) : sProp 𝕄)
      ⊢ iprop(bigSepL S.ts (X.give c) ∗ (bigSep Finset.univ fun l : L => X.room (P.near c l).dst c)
          ∗ (bigSep Finset.univ fun r : R => X.room (P.far (P.peer c r) r).dst c) ∗ kept c)) :
    iprop((bigSep Finset.univ fun c : Dev nD => ownSems0 (fun k : Key L R => SemLoc.dma (P.sem k)) c)
        ∗ (bigSep Finset.univ fun c : Dev nD => unscopedBufs c fun b => X.m ((c.tc : Thread nD τ).loc b))
        ∗ (bigSep Finset.univ fun c : Dev nD => launchCred (owed P τ S) c) ∗ levAts (idx nD τ sig) (lev P τ) ∗ ownU (tokens P τ))
      ⊢ (|={Set.univ}=> bigSep Finset.univ fun c : Dev nD => iprop(X.start S c ∗ kept c) : sProp 𝕄) := by
  have hcr : (bigSep Finset.univ fun c : Dev nD => launchCred (owed P τ S) c : sProp 𝕄) ⊢ bigSep Finset.univ fun c : Dev nD => bigSep Finset.univ fun r : R => cred (due P τ c (.inl (.inr r))) :=
    bigSep_mono fun c _ => credit (P := P) (τ := τ) (Val := Val) S hS c
  have hm : (bigSep Finset.univ fun c : Dev nD => unscopedBufs c fun b => X.m ((c.tc : Thread nD τ).loc b) : sProp 𝕄)
      ⊢ bigSep Finset.univ fun c : Dev nD => iprop(bigSepL S.ts (X.give c) ∗ (bigSep Finset.univ fun l : L => X.room (P.near c l).dst c)
          ∗ (bigSep Finset.univ fun r : R => X.room (P.far (P.peer c r) r).dst c) ∗ kept c) := bigSep_mono fun c _ => hmem c
  rw [bigSep_sep', bigSep_sep', bigSep_sep'] at hm
  rw [swap (P := P) (Φ := fun c r => X.room (P.far (P.peer c r) r).dst c)] at hm
  have hu : (ownU (tokens P τ) : sProp 𝕄) ⊢ _ := Rounds.fund 𝔼 X.sched (Finset.univ.map (cellEmb P τ)) (Finset.univ.map (dutyEmb P τ))
  rw [BI.bigSep_map, BI.bigSep_map, BI.bigSep_map, BI.bigSep_map] at hu
  have htok : (bigSep Finset.univ fun p : Dev nD × Key L R => dutyTok 𝔼 ((dutyEmb P τ) p).1 ((dutyEmb P τ) p).2.1 ((dutyEmb P τ) p).2.2 : sProp 𝕄) ⊢ _ :=
    tokens_dealt (P := P)
  have hat : (bigSep Finset.univ fun p : Dev nD × Key L R => atPos 𝔼 ((cellEmb P τ) p) 0 ∅ 0 : sProp 𝕄)
      ⊢ bigSep Finset.univ fun c : Dev nD => bigSep Finset.univ fun k : Key L R => atPos 𝔼 (P.cell τ c k) 0 ∅ 0 :=
    Entails.of_eq (bigSep_univ_prod _)
  have hsem : iprop((bigSep Finset.univ fun c : Dev nD => ownSems0 (fun k : Key L R => SemLoc.dma (P.sem k)) c)
        ∗ (bigSep Finset.univ fun p : Dev nD × Key L R => roundState 𝔼 X.sched ((cellEmb P τ) p) 0))
      ⊢ (bigSep Finset.univ fun p : Dev nD × Key L R => iprop(semVal (P.cell τ p.1 p.2) 0 ∗ roundState 𝔼 X.sched (P.cell τ p.1 p.2) 0) : sProp 𝕄) := by
    rw [bigSep_sep', bigSep_univ_prod (fun p : Dev nD × Key L R => semVal (P.cell τ p.1 p.2) 0)]
    exact .rfl
  have hinv : (bigSep Finset.univ fun p : Dev nD × Key L R => iprop(semVal (P.cell τ p.1 p.2) 0 ∗ roundState 𝔼 X.sched (P.cell τ p.1 p.2) 0) : sProp 𝕄)
      ⊢ |={Set.univ}=> bigSep Finset.univ fun p : Dev nD × Key L R => iprop(∃ κ : ℕ, cellInv 𝔼 X.sched κ (P.cell τ p.1 p.2)) :=
    (bigSep_mono fun p _ => (body_intro 𝔼 X.sched (P.cell τ p.1 p.2)).trans inv_alloc).trans (bigSep_fupd _ _)
  have hneed (c : Dev nD) : iprop(((bigSep Finset.univ fun l : L => dutyTok 𝔼 (P.cell τ c (.inl (.inl l))) 0 ())
          ∗ (bigSep Finset.univ fun r : R => dutyTok 𝔼 (P.cell τ (P.peer c r) (.inl (.inr r))) 0 ()) ∗ bigSep Finset.univ fun r : R => dutyTok 𝔼 (P.cell τ c (.inr r)) 0 ())
          ∗ (bigSep Finset.univ fun l : L => X.room (P.near c l).dst c) ∗ (bigSep Finset.univ fun r : R => X.room (P.far c r).dst (P.peer c r)))
        ⊢ bigSep Finset.univ (X.need c) := by
    rw [bigSep_univ_sum]
    show _ ⊢ iprop((bigSep Finset.univ fun l : L => iprop(dutyTok 𝔼 (P.cell τ c (.inl (.inl l))) 0 () ∗ X.room (P.near c l).dst c))
      ∗ (bigSep Finset.univ fun r : R => iprop(dutyTok 𝔼 (P.cell τ c (.inr r)) 0 () ∗ dutyTok 𝔼 (P.cell τ (P.peer c r) (.inl (.inr r))) 0 () ∗ X.room (P.far c r).dst (P.peer c r))))
    rw [bigSep_sep', bigSep_sep', bigSep_sep']
    iintro ⟨⟨H1, H2, H3⟩, H4, H5⟩
    isplitl [H1 H4]
    · isplitl [H1] <;> iassumption
    isplitl [H3]; · iexact H3
    isplitl [H2] <;> iassumption
  iintro ⟨Hsem, Hmem, Hcr, #Hlev, Hu⟩
  ihave Hcr := hcr $$ Hcr
  ihave Hmem := hm $$ Hmem
  icases Hmem with ⟨Hgive, Hrl, Hrr, Hkept⟩
  imod hu $$ Hu with ⟨Hst, #Hre, Hat, Htok⟩
  ihave Htok := htok $$ Htok
  imod hinv $$ [Hsem Hst] with #Hinv
  · iapply hsem
    isplitl [Hsem] <;> iassumption
  ihave #Hlive : X.live $$ []
  · unfold live
    have hj : (bigSep Finset.univ fun p : Dev nD × Key L R => iprop((∃ κ : ℕ, cellInv 𝔼 X.sched κ (P.cell τ p.1 p.2)) ∗ reached 𝔼 (P.cell τ p.1 p.2) 0) : sProp 𝕄)
        ⊢ bigSep Finset.univ fun p : Dev nD × Key L R => iprop(∃ κ : ℕ, cellInv 𝔼 X.sched κ (P.cell τ p.1 p.2) ∗ reached 𝔼 (P.cell τ p.1 p.2) 0) :=
      bigSep_mono fun p _ => show iprop((∃ κ : ℕ, cellInv 𝔼 X.sched κ (P.cell τ p.1 p.2)) ∗ reached 𝔼 (P.cell τ p.1 p.2) 0)
        ⊢ iprop(∃ κ : ℕ, cellInv 𝔼 X.sched κ (P.cell τ p.1 p.2) ∗ reached 𝔼 (P.cell τ p.1 p.2) 0) from by
        iintro ⟨⟨%κ, H⟩, Hr⟩
        iexists κ
        isplitl [H] <;> iassumption
    rw [bigSep_sep'] at hj
    iapply hj
    isplitr; · iexact Hinv
    iexact Hre
  have hsplit : iprop((bigSep Finset.univ fun _ : Dev nD => X.live) ∗ (bigSep Finset.univ fun _ : Dev nD => levAts (idx nD τ sig) (lev P τ))
      ∗ (bigSep Finset.univ fun c : Dev nD => bigSep Finset.univ (X.need c)) ∗ (bigSep Finset.univ fun c : Dev nD => bigSepL S.ts (X.give c))
      ∗ (bigSep Finset.univ fun c : Dev nD => bigSep Finset.univ fun r : R => cred (due P τ c (.inl (.inr r))))
      ∗ (bigSep Finset.univ fun c : Dev nD => bigSep Finset.univ fun k : Key L R => atPos 𝔼 (P.cell τ c k) 0 ∅ 0))
      ⊢ (bigSep Finset.univ fun c : Dev nD => X.start S c : sProp 𝕄) := by
    unfold start
    rw [bigSep_sep', bigSep_sep', bigSep_sep', bigSep_sep', bigSep_sep']
  have hends : iprop((bigSep Finset.univ fun c : Dev nD => X.start S c) ∗ bigSep Finset.univ kept)
      ⊢ (bigSep Finset.univ fun c : Dev nD => iprop(X.start S c ∗ kept c) : sProp 𝕄) := Entails.of_eq (bigSep_sep' _ _ _).symm
  have hnd : iprop((bigSep Finset.univ fun c : Dev nD => iprop((bigSep Finset.univ fun l : L => dutyTok 𝔼 (P.cell τ c (.inl (.inl l))) 0 ())
          ∗ (bigSep Finset.univ fun r : R => dutyTok 𝔼 (P.cell τ (P.peer c r) (.inl (.inr r))) 0 ()) ∗ bigSep Finset.univ fun r : R => dutyTok 𝔼 (P.cell τ c (.inr r)) 0 ()))
        ∗ (bigSep Finset.univ fun c : Dev nD => bigSep Finset.univ fun l : L => X.room (P.near c l).dst c)
        ∗ (bigSep Finset.univ fun c : Dev nD => bigSep Finset.univ fun r : R => X.room (P.far (P.peer (P.peer c r) r) r).dst (P.peer c r)))
      ⊢ (bigSep Finset.univ fun c : Dev nD => bigSep Finset.univ (X.need c) : sProp 𝕄) := by
    have hb : (bigSep Finset.univ fun c : Dev nD => bigSep Finset.univ fun r : R => X.room (P.far (P.peer (P.peer c r) r) r).dst (P.peer c r))
        = bigSep Finset.univ fun c : Dev nD => bigSep Finset.univ fun r : R => X.room (P.far c r).dst (P.peer c r) :=
      bigSep_congr fun c _ => bigSep_congr fun r _ => by rw [P.back]
    rw [hb, ← bigSep_sep', ← bigSep_sep']
    exact bigSep_mono fun c _ => hneed c
  imodintro
  iapply hends
  isplitr [Hkept]
  · iapply hsplit
    isplitr
    · iapply (bigSep_of_persistent (Finset.univ : Finset (Dev nD)) X.live); iexact Hlive
    isplitr
    · iapply (bigSep_of_persistent (Finset.univ : Finset (Dev nD)) (levAts (idx nD τ sig) (lev P τ))); iexact Hlev
    isplitl [Htok Hrl Hrr]
    · iapply hnd
      isplitl [Htok]; · iexact Htok
      isplitl [Hrl]; · iexact Hrl
      iexact Hrr
    isplitl [Hgive]; · iexact Hgive
    isplitl [Hcr]; · iexact Hcr
    iapply hat; iexact Hat
  iexact Hkept

end Load

end Cert.Talk

end
-- ==== Proof.Whole.lean ====
/-
The execution of a plan: what the memory holds when every device has carried out its script.
-/
module

public import proofs.«01_k».proof.Proof.Run

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {Λ₀ : Labels} {L R : Type}

local notation "𝕄" => MT nD τ sig Unit Val ℕ (UR sig nD τ) ℕ
local notation "𝔼" => (emb₁ : Emb (UR sig nD τ) (MT nD τ sig Unit Val ℕ (UR sig nD τ) ℕ))

namespace Load

variable {P : Plan nD sig L R} (X : Load τ Val P)

/-- What the final memory holds by a cell's round: a landing's block is what was moved or sent to it; a departure's
    source is still what was sent. -/
def told (c : Dev nD) (M : (ℓ : Loc nD τ sig) → Buf Val ℓ) : Key L R → Prop
  | .inl (.inl l) => (P.near c l).dst.view.read Val (M ((P.near c l).dst.view.loc (c.tc : Thread nD τ))) = X.moved c l
  | .inl (.inr r) => (P.far (P.peer c r) r).dst.view.read Val (M ((P.far (P.peer c r) r).dst.view.loc (c.tc : Thread nD τ))) = X.sent (P.peer c r) r
  | .inr r => (P.far c r).src.view.read Val (M ((P.far c r).src.view.loc (c.tc : Thread nD τ))) = X.sent c r

theorem held_read {s : Shape} {e : EltTy} (v : Memref sig .tc .hbm s e) (d : Dev nD) (q : PosShare TreeShare) (f : Buf Val (v.view.loc (d.tc : Thread nD τ)))
    (st : Phys nD τ sig Val) :
    iprop(held v d q f ∗ SI st) ⊢ (⌜v.view.read Val (st.mem.mem (v.view.loc (d.tc : Thread nD τ))) = v.view.read Val f⌝ : sProp 𝕄) := by
  unfold held
  iintro ⟨Hp, Hs⟩
  icombine Hs Hp gives %h
  ipureintro
  exact View.read_congr h

theorem pay_told (c : Dev nD) (k : Key L R) (st : Phys nD τ sig Val) :
    iprop(X.pay c k ∗ SI st) ⊢ (⌜X.told c st.mem.mem k⌝ : sProp 𝕄) := by
  rcases k with (l | r) | r
  · show iprop((X.filled (P.near c l).dst c (X.moved c l) ∗ X.nearGive c l) ∗ SI st) ⊢ _
    unfold filled
    iintro ⟨⟨Hf, -⟩, Hs⟩
    ihave %h := (held_read _ _ _ _ st) $$ [Hf Hs]
    · isplitl [Hf] <;> iassumption
    ipureintro
    exact h.trans (View.read_write_univ _ _)
  · show iprop(X.filled (P.far (P.peer c r) r).dst c (X.sent (P.peer c r) r) ∗ SI st) ⊢ _
    unfold filled
    iintro ⟨Hf, Hs⟩
    ihave %h := (held_read _ _ _ _ st) $$ [Hf Hs]
    · isplitl [Hf] <;> iassumption
    ipureintro
    exact h.trans (View.read_write_univ _ _)
  · exact held_read _ _ _ _ st

theorem both {A : sProp 𝕄} {φ ψ : Prop} (h1 : A ⊢ ⌜φ⌝) (h2 : A ⊢ ⌜ψ⌝) : A ⊢ (⌜φ ∧ ψ⌝ : sProp 𝕄) := by
  refine (BI.and_intro h1 h2).trans (show iprop(⌜φ⌝ ∧ ⌜ψ⌝) ⊢ (⌜φ ∧ ψ⌝ : sProp 𝕄) from ?_)
  iintro ⟨%ha, %hb⟩
  ipureintro
  exact ⟨ha, hb⟩

theorem keep {A : sProp 𝕄} {φ : Prop} (h : A ⊢ ⌜φ⌝) : A ⊢ iprop(⌜φ⌝ ∧ A) := BI.and_intro h fun _ ha => ha

theorem listed_told {I : Type} (l : List I) (Φ : I → sProp 𝕄) (φ : I → Prop) (A : sProp 𝕄) (h : ∀ i, iprop(Φ i ∗ A) ⊢ ⌜φ i⌝) :
    iprop(bigSepL l Φ ∗ A) ⊢ (⌜∀ i ∈ l, φ i⌝ : sProp 𝕄) := by
  induction l with
  | nil => iintro -; ipureintro; exact fun _ h => absurd h List.not_mem_nil
  | cons i l ih =>
    have h1 : iprop(bigSepL (i :: l) Φ ∗ A) ⊢ (⌜φ i⌝ : sProp 𝕄) := by
      rw [bigSepL_cons']
      iintro ⟨⟨Hi, -⟩, HA⟩
      iapply (h i)
      isplitl [Hi] <;> iassumption
    have h2 : iprop(bigSepL (i :: l) Φ ∗ A) ⊢ (⌜∀ i ∈ l, φ i⌝ : sProp 𝕄) := by
      rw [bigSepL_cons']
      iintro ⟨⟨-, Hi⟩, HA⟩
      iapply ih
      isplitl [Hi] <;> iassumption
    refine (both h1 h2).trans (show (⌜φ i ∧ ∀ i ∈ l, φ i⌝ : sProp 𝕄) ⊢ ⌜∀ j ∈ i :: l, φ j⌝ from ?_)
    iintro %h
    ipureintro
    exact List.forall_mem_cons.mpr h

end Load

variable (cfgs : Fin 1 → Cfg sig Λ₀) {P : Plan nD sig L R} (X : Load τ Val P) [Fintype L] [Fintype R] (S : Script L R)

/-- The buffers a device only keeps, half of each. -/
def kept (kp : List (Ref sig .tc)) (c : Dev nD) : sProp 𝕄 :=
  bigSepL kp fun b => ((c.tc : Thread nD τ).loc b) ↦{fullShare.left} X.m ((c.tc : Thread nD τ).loc b)

/-- Before the first point the one, after it the other. -/
def pick {α : Type _} (n : ℕ) (a b : α) : α := if n = 0 then a else b
theorem pick_zero {α : Type _} {n : ℕ} (a b : α) (h : n = 0) : pick n a b = a := if_pos h
theorem pick_pos {α : Type _} {n : ℕ} (a b : α) (h : ¬ n = 0) : pick n a b = b := if_neg h

/-- The one point of a plan's kernel: before it a device holds what the deal gave it, after it what its waits handed over. -/
def planDat (kp : List (Ref sig .tc)) (p : Fin 1) (c : Dev nD) (hW : IsEmpty (Fin (cfgs p).W)) : Dat τ Val Unit ℕ (UR sig nD τ) ℕ (cfgs p) c where
  A w := hW.elim w
  after w := hW.elim w
  Φ t := pick t.val iprop(X.start S c ∗ kept X kp c) iprop(X.done S c ∗ kept X kp c)
  q w := hW.elim w
  owed t := pick t.val (Load.owed P τ S c) 0

/-- Every execution of a plan's kernel, alone in `@main`, ends with each landing's block in place, each source and each
    kept buffer as it was, and every counter at zero. -/
theorem run_plan [∀ e, Nonempty (Val e)]
    (hinj : Function.Injective (cellOf (nD := nD) (τ := τ) cfgs)) (hW : ∀ p, IsEmpty (Fin (cfgs p).W))
    (hw : WinFacts (cfgs 0).spec) (hscope : ∀ k, (SemLoc.dma (P.sem k) : SemLoc sig).isScoped .tc = true)
    (defs₀ : Defs nD τ sig Val Λ₀) (ρ : Dev nD → PrngReg)
    (main : Dev nD → Prog (TpuEff nD τ sig Val (Pipeline.Sig Λ₀ (Fin 1) fun p => (Cfg.toPCfg (Val := Val) (cfgs p)).Adm) .tc) PUnit)
    (hmain : ∀ c, main c = .op (.customCall (entry 0) ()) fun _ => .ret ⟨⟩)
    (hrest : ∀ c : Dev nD, (scopedRest (cfgs 0).spec c : sProp 𝕄) = BI.emp)
    (hN : (cfgs 0).N = 1)
    (hbody : ∀ (c : Dev nD) t (A : sProp 𝕄),
      wp frame (wpE defs₀ Variants.none (c.tc : Thread nD τ) none) Set.univ (.op .deviceId fun d => P.prog τ Val Λ₀ d S.acts (.ret ⟨⟩)) (fun _ => A)
        ⊢ wp frame (wpE defs₀ Variants.none (c.tc : Thread nD τ) none) Set.univ (defs₀ .tc (cfgs 0).body ((cfgs 0).bodyArgs t ((cfgs 0).slots t))) (fun _ => A))
    (hS : S.Complete P)
    (hrel : ∀ c, ∀ x ∈ S.rl, X.pay c (.inl (.inr x.1)) ⊢ X.give c (.inr x.2))
    (kp : List (Ref sig .tc))
    (hmem : ∀ c, (unscopedBufs c fun b => X.m ((c.tc : Thread nD τ).loc b) : sProp 𝕄)
      ⊢ iprop(bigSepL S.ts (X.give c) ∗ (bigSep Finset.univ fun l : L => X.room (P.near c l).dst c)
          ∗ (bigSep Finset.univ fun r : R => X.room (P.far (P.peer c r) r).dst c) ∗ kept X kp c))
    {Q : PUnit × MemSt nD τ sig Val → Prop}
    (hQ : ∀ s : MemSt nD τ sig Val, (∀ c, (∀ k ∈ S.ks, X.told c s.mem k) ∧ ∀ b ∈ kp, s.mem ((c.tc : Thread nD τ).loc b) = X.m ((c.tc : Thread nD τ).loc b)) →
      (∀ g : GSem nD τ sig, (g.1.2 ≠ .tc ∨ g.2.isScoped .tc = true) → s.sem g = 0) → Q (⟨⟩, s)) :
    θ_run (Pipeline.defs (fun p => Cfg.toPCfg (Val := Val) (cfgs p)) defs₀) (onTc main) ⟨X.m, fun _ => 0, ρ⟩ Q := by
  have ho : OwnSemFacts (cfgs 0).spec (fun k : Key L R => (SemLoc.dma (P.sem k) : SemLoc sig)) :=
    ⟨hscope, fun a b h => P.sem_inj (SemLoc.dma.inj h), fun k w => (hW 0).elim w⟩
  have o0 (c : Dev nD) : (planDat cfgs X S kp 0 c (hW 0)).owed 0 = Load.owed P τ S c := pick_zero (Load.owed P τ S c) 0 rfl
  have oN (c : Dev nD) : (planDat cfgs X S kp 0 c (hW 0)).owed (Fin.last _) = 0 := pick_pos _ _ (show ¬ (cfgs 0).N = 0 by omega)
  refine run_dealt cfgs (fun p c => planDat cfgs X S kp p c (hW p)) hinj 𝔼 (hW 0) hw ho defs₀ Variants.none X.m ρ main hmain hrest
    ?_ (Load.owed P τ S) o0 oN (Load.idx nD τ sig) (Load.lev P τ)
    (fun g hg => if_neg hg) (Load.tokens P τ) (X.deal S hS (kept X kp) hmem)
    (fun c => iprop(bigSepL S.ks (X.pay c) ∗ kept X kp c)) ?_
    (fun c s => (∀ k ∈ S.ks, X.told c s.mem k) ∧ ∀ b ∈ kp, s.mem ((c.tc : Thread nD τ).loc b) = X.m ((c.tc : Thread nD τ).loc b)) ?_ hQ
  · intro c t
    have ht : t.val = 0 := by have := t.isLt; omega
    have hs : ¬ t.succ.val = 0 := by rw [Fin.val_succ]; omega
    have hc : t.castSucc.val = 0 := ht
    have e1 : (planDat cfgs X S kp 0 c (hW 0)).Φ t.castSucc = iprop(X.start S c ∗ kept X kp c) := pick_zero _ _ hc
    have e2 : (planDat cfgs X S kp 0 c (hW 0)).Φ t.succ = iprop(X.done S c ∗ kept X kp c) := pick_pos (iprop(X.start S c ∗ kept X kp c)) _ hs
    have e3 : (planDat cfgs X S kp 0 c (hW 0)).owed t.castSucc = Load.owed P τ S c := pick_zero _ _ hc
    have e4 : (planDat cfgs X S kp 0 c (hW 0)).owed t.succ = 0 := pick_pos (Load.owed P τ S c) 0 hs
    have hemp (Φ : Fin (cfgs 0).W → sProp 𝕄) : bigSep Finset.univ Φ = BI.emp := by
      rw [Finset.univ_eq_empty, BI.bigSep_empty]
    rw [hemp, hemp, e1, e2]
    refine BIBase.Entails.trans ?_ (hbody c t _)
    unfold Dat.owesAt owesWithin
    rw [e3, e4]
    iintro ⟨⟨Hst, Hk⟩, ⟨%W, -, HO⟩, -⟩
    rw [wp_deviceId]
    ihave Hw := (X.wp_script defs₀ Variants.none S hS hrel c W) $$ [Hst HO]
    · isplitl [Hst]; · iexact Hst
      iexact HO
    iapply (wp_wand) $$ [Hw]
    · iexact Hw
    iintro %_ ⟨Hd, %W', HO⟩
    isplitl [Hd Hk]
    · isplitl [Hd] <;> iassumption
    isplitl [HO]
    · iexists W'
      isplitr
      · ipureintro; exact fun _ _ => Or.inl (Set.mem_univ _)
      · iexact HO
    iempintro
  · intro c
    have e : (planDat cfgs X S kp 0 c (hW 0)).Φ (Fin.last _) = iprop(X.done S c ∗ kept X kp c) := pick_pos (iprop(X.start S c ∗ kept X kp c)) _ (show ¬ (cfgs 0).N = 0 by omega)
    rw [e]
    unfold Load.done ownSems0
    iintro ⟨⟨Hz, Hp⟩, Hk⟩
    isplitl [Hp Hk]
    · isplitl [Hp] <;> iassumption
    iexact Hz
  · intro c s'
    have h1 : iprop(bigSepL S.ks (X.pay c) ∗ SI s') ⊢ (⌜∀ k ∈ S.ks, X.told c s'.mem.mem k⌝ : sProp 𝕄) :=
      Load.listed_told _ _ _ _ fun k => X.pay_told c k s'
    have h2 : iprop(kept X kp c ∗ SI s') ⊢ (⌜∀ b ∈ kp, s'.mem.mem ((c.tc : Thread nD τ).loc b) = X.m ((c.tc : Thread nD τ).loc b)⌝ : sProp 𝕄) :=
      Load.listed_told _ _ _ _ fun b => by
        iintro ⟨Hp, Hs⟩
        icombine Hs Hp gives %h
        ipureintro
        exact funext fun i => h i (Finset.mem_univ i)
    have h3 : iprop((bigSepL S.ks (X.pay c) ∗ kept X kp c) ∗ SI s')
        ⊢ (⌜(∀ k ∈ S.ks, X.told c s'.mem.mem k) ∧ ∀ b ∈ kp, s'.mem.mem ((c.tc : Thread nD τ).loc b) = X.m ((c.tc : Thread nD τ).loc b)⌝ : sProp 𝕄) := by
      have h1' : iprop((bigSepL S.ks (X.pay c) ∗ kept X kp c) ∗ SI s') ⊢ (⌜∀ k ∈ S.ks, X.told c s'.mem.mem k⌝ : sProp 𝕄) := by
        iintro ⟨⟨Hp, -⟩, Hs⟩
        iapply h1
        isplitl [Hp] <;> iassumption
      have h2' : iprop((bigSepL S.ks (X.pay c) ∗ kept X kp c) ∗ SI s')
          ⊢ (⌜∀ b ∈ kp, s'.mem.mem ((c.tc : Thread nD τ).loc b) = X.m ((c.tc : Thread nD τ).loc b)⌝ : sProp 𝕄) := by
        iintro ⟨⟨-, Hp⟩, Hs⟩
        iapply h2
        isplitl [Hp] <;> iassumption
      exact Load.both h1' h2'
    refine (Load.keep h3).trans (show iprop(⌜(∀ k ∈ S.ks, X.told c s'.mem.mem k) ∧ ∀ b ∈ kp, s'.mem.mem ((c.tc : Thread nD τ).loc b) = X.m ((c.tc : Thread nD τ).loc b)⌝
      ∧ ((bigSepL S.ks (X.pay c) ∗ kept X kp c) ∗ SI s')) ⊢ _ from ?_)
    iintro ⟨%h, -, Hs⟩
    imodintro
    isplitr
    · ipureintro; exact h
    iexact Hs

end Cert.Talk

end
-- ==== Proof.Blocks.lean ====
/-
Blocks of an array in place: which elements a slice of a memref is, that slices apart from one another divide it, and
how a share of an array is lent out to several readers.
-/
module

public import proofs.«01_k».proof.Proof.Whole

@[expose] public section

noncomputable section

namespace Cert.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {Λ : Labels} {L R : Type}

local notation "𝕄" => MT nD τ sig Unit Val ℕ (UR sig nD τ) ℕ

/-! ### Slices -/

section Slices

variable {κ : Kind} {sp : Space} {e : EltTy}

/-- An element of a slice is an element of the memref whose place lies in the slice's rectangle. -/
theorem slice_set {s : Shape} (M : Memref sig κ sp s e) (r : Rect s) (hr : ∀ a, r.stride a = 1) :
    (M.slice r hr).view.set = r.set.map M.view.emb := View.set_slice M.view r

theorem slice_sub {s : Shape} (M : Memref sig κ sp s e) (r : Rect s) (hr : ∀ a, r.stride a = 1) :
    (M.slice r hr).view.set ⊆ M.view.set := View.set_slice_subset M.view r

/-- A block of rows of one plane of an array of three axes, as an array of two. -/
abbrev slab {n h C r : ℕ} (M : Memref sig κ sp ⟨3, ![n, h, C]⟩ e) (off : Fin 3 → ℕ)
    (inb : ∀ a, off a + (⟨3, ![1, r, C]⟩ : Shape).size a ≤ (⟨3, ![n, h, C]⟩ : Shape).size a)
    (sq : (⟨3, ![1, r, C]⟩ : Shape).Squeezes ⟨2, ![r, C]⟩) : Memref sig κ sp ⟨2, ![r, C]⟩ e :=
  (M.slice (Rect.unit (s := ⟨3, ![n, h, C]⟩) off (⟨3, ![1, r, C]⟩ : Shape).size inb) (fun _ => rfl)).squeeze ⟨2, ![r, C]⟩ sq

variable {n h C r : ℕ} (M : Memref sig κ sp ⟨3, ![n, h, C]⟩ e)

theorem slab_set (off : Fin 3 → ℕ) (inb) (sq : (⟨3, ![1, r, C]⟩ : Shape).Squeezes ⟨2, ![r, C]⟩) :
    (slab M off inb sq).view.set = (Rect.unit (s := ⟨3, ![n, h, C]⟩) off (⟨3, ![1, r, C]⟩ : Shape).size inb).set.map M.view.emb :=
  (View.set_reshape _ _).trans (View.set_slice M.view _)

theorem slab_sub (off : Fin 3 → ℕ) (inb) (sq : (⟨3, ![1, r, C]⟩ : Shape).Squeezes ⟨2, ![r, C]⟩) : (slab M off inb sq).view.set ⊆ M.view.set := by
  rw [slab_set]; exact (View.set_slice M.view _).symm.subset.trans (View.set_slice_subset M.view _)

/-- Two blocks of rows apart on an axis share no element. -/
theorem slab_disjoint {off off' : Fin 3 → ℕ} {inb inb'} (sq sq' : (⟨3, ![1, r, C]⟩ : Shape).Squeezes ⟨2, ![r, C]⟩) (a : Fin 3)
    (hd : off a + (![1, r, C] : Fin 3 → ℕ) a ≤ off' a ∨ off' a + (![1, r, C] : Fin 3 → ℕ) a ≤ off a) :
    Disjoint (slab M off inb sq).view.set (slab M off' inb' sq').view.set := by
  rw [slab_set, slab_set, Finset.disjoint_map]
  refine Finset.disjoint_left.mpr fun i hi hi' => ?_
  have h₁ := Rect.mem_set_unit.mp hi a
  have h₂ := Rect.mem_set_unit.mp hi' a
  have e₁ : (⟨3, ![1, r, C]⟩ : Shape).size a = (![1, r, C] : Fin 3 → ℕ) a := rfl
  rw [e₁] at h₁ h₂
  omega

/-- The place of an element of a block of rows. -/
def place (off : Fin 3 → ℕ) (inb : ∀ a, off a + (⟨3, ![1, r, C]⟩ : Shape).size a ≤ (⟨3, ![n, h, C]⟩ : Shape).size a) (x : (⟨2, ![r, C]⟩ : Shape).Idx) :
    (⟨3, ![n, h, C]⟩ : Shape).Idx :=
  (Rect.unit (s := ⟨3, ![n, h, C]⟩) off (⟨3, ![1, r, C]⟩ : Shape).size inb).emb (Fin.cons ⟨0, Nat.one_pos⟩ x)

theorem place_zero (off : Fin 3 → ℕ) (inb) (x : (⟨2, ![r, C]⟩ : Shape).Idx) : (place (n := n) (h := h) off inb x 0).val = off 0 := by
  show off 0 + 1 * 0 = off 0; omega
theorem place_one (off : Fin 3 → ℕ) (inb) (x : (⟨2, ![r, C]⟩ : Shape).Idx) : (place (n := n) (h := h) off inb x 1).val = off 1 + (x 0).val := by
  show off 1 + 1 * (x 0).val = _; omega
theorem place_two (off : Fin 3 → ℕ) (inb) (x : (⟨2, ![r, C]⟩ : Shape).Idx) : (place (n := n) (h := h) off inb x 2).val = off 2 + (x 1).val := by
  show off 2 + 1 * (x 1).val = _; omega

/-- Reading a block of rows is reading the array at its elements' places. -/
theorem slab_read (off : Fin 3 → ℕ) (inb) (sq : (⟨3, ![1, r, C]⟩ : Shape).Squeezes ⟨2, ![r, C]⟩) (g : M.view.ty.Contents Val) (x : (⟨2, ![r, C]⟩ : Shape).Idx) :
    (slab M off inb sq).view.read Val g x = M.view.read Val g (place off inb x) := by
  have e : Shape.reshapeEquiv sq.numel_eq x = Fin.cons ⟨0, Nat.one_pos⟩ x := Shape.reshapeEquiv_cons_one sq.numel_eq x
  show M.view.read Val g ((Rect.unit (s := ⟨3, ![n, h, C]⟩) off (⟨3, ![1, r, C]⟩ : Shape).size inb).emb (Shape.reshapeEquiv sq.numel_eq x)) = _
  rw [e]; rfl

/-- An element of an array read through the block of rows it lies in: the block's `(y, z)` is the array's
    `(off 0, off 1 + y, off 2 + z)`. -/
theorem slab_at (off : Fin 3 → ℕ) (inb) (sq : (⟨3, ![1, r, C]⟩ : Shape).Squeezes ⟨2, ![r, C]⟩) (g : M.view.ty.Contents Val)
    (i : (⟨3, ![n, h, C]⟩ : Shape).Idx) (x : (⟨2, ![r, C]⟩ : Shape).Idx)
    (h0 : (i 0).val = off 0) (h1 : (i 1).val = off 1 + (x 0).val) (h2 : (i 2).val = off 2 + (x 1).val) :
    M.view.read Val g i = (slab M off inb sq).view.read Val g x := by
  rw [slab_read]
  congr 1
  funext a
  refine Fin.ext ?_
  match a with
  | 0 => exact h0.trans (place_zero off inb x).symm
  | 1 => exact h1.trans (place_one off inb x).symm
  | 2 => exact h2.trans (place_two off inb x).symm

end Slices

/-! ### Dividing what is held -/

/-- Elements held divide into sets of them apart from one another. -/
theorem carve {ι : Type} {ℓ : Loc nD τ sig} {q : PosShare TreeShare} {f : Buf Val ℓ} (K : ι → Finset (Idx ℓ)) (l : List ι) (hd : l.Pairwise fun i j => Disjoint (K i) (K j)) :
    ∀ S : Finset (Idx ℓ), (∀ i ∈ l, K i ⊆ S) → ((ℓ ↦[S]{q} f : sProp 𝕄) ⊢ bigSepL l fun i => ℓ ↦[K i]{q} f) := by
  induction l with
  | nil => intro S _; rw [bigSepL_nil]; iintro -; iempintro
  | cons i l ih =>
    intro S hS
    rw [List.pairwise_cons] at hd
    rw [bigSepL_cons']
    have h₁ : (ℓ ↦[S]{q} f : sProp 𝕄) ⊢ iprop((ℓ ↦[K i]{q} f) ∗ ℓ ↦[S \ K i]{q} f) := (pointsTo_split_subset (hS i (List.mem_cons_self ..))).1
    have h₂ : (ℓ ↦[S \ K i]{q} f : sProp 𝕄) ⊢ bigSepL l fun i => ℓ ↦[K i]{q} f :=
      ih hd.2 (S \ K i) fun j hj => Finset.subset_sdiff.mpr ⟨hS j (List.mem_cons_of_mem _ hj), (hd.1 j hj).symm⟩
    iintro H
    ihave H := h₁ $$ H
    icases H with ⟨H, H'⟩
    isplitl [H]; · iexact H
    iapply h₂ $$ H'

/-- Fewer elements of those held. -/
theorem fewer {ℓ : Loc nD τ sig} {q : PosShare TreeShare} {f : Buf Val ℓ} {K S : Finset (Idx ℓ)} (h : K ⊆ S) :
    (ℓ ↦[S]{q} f : sProp 𝕄) ⊢ ℓ ↦[K]{q} f := by
  have h₁ : (ℓ ↦[S]{q} f : sProp 𝕄) ⊢ iprop((ℓ ↦[K]{q} f) ∗ ℓ ↦[S \ K]{q} f) := (pointsTo_split_subset h).1
  iintro H
  ihave H := h₁ $$ H
  icases H with ⟨H, -⟩
  iexact H

/-- The `k`-th piece of a share cut in two again and again. -/
def cut (q : PosShare TreeShare) : ℕ → PosShare TreeShare
  | 0 => q.left
  | k + 1 => cut q.right k

/-- The first pieces of a share. -/
def cuts (q : PosShare TreeShare) : ℕ → List (PosShare TreeShare)
  | 0 => []
  | k + 1 => q.left :: cuts q.right k

/-- Elements held are lent to several readers, each at a piece of the share. -/
theorem lend {ι : Type} {ℓ : Loc nD τ sig} {f : Buf Val ℓ} {S : Finset (Idx ℓ)} (K : ι → Finset (Idx ℓ)) (sh : ι → PosShare TreeShare) (l : List ι) :
    ∀ q : PosShare TreeShare, l.map sh = cuts q l.length → (∀ i ∈ l, K i ⊆ S) → ((ℓ ↦[S]{q} f : sProp 𝕄) ⊢ bigSepL l fun i => ℓ ↦[K i]{sh i} f) := by
  induction l with
  | nil => intro q _ _; rw [bigSepL_nil]; iintro -; iempintro
  | cons i l ih =>
    intro q hq hS
    simp only [List.map_cons, List.length_cons, cuts, List.cons.injEq] at hq
    rw [bigSepL_cons']
    have h₁ : (ℓ ↦[S]{q} f : sProp 𝕄) ⊢ iprop((ℓ ↦[S]{q.left} f) ∗ ℓ ↦[S]{q.right} f) := (pointsTo_share (PosShare.mem_left_op_right q)).1
    have h₂ : (ℓ ↦[S]{q.left} f : sProp 𝕄) ⊢ ℓ ↦[K i]{sh i} f := by rw [hq.1]; exact fewer (hS i (List.mem_cons_self ..))
    have h₃ := ih q.right hq.2 fun j hj => hS j (List.mem_cons_of_mem _ hj)
    iintro H
    ihave H := h₁ $$ H
    icases H with ⟨H, H'⟩
    isplitl [H]; · iapply h₂ $$ H
    iapply h₃ $$ H'

/-- Half is kept, half lent. -/
theorem keep_and_lend {ι : Type} {ℓ : Loc nD τ sig} {f : Buf Val ℓ} {S : Finset (Idx ℓ)} (K : ι → Finset (Idx ℓ)) (sh : ι → PosShare TreeShare) (l : List ι)
    (hq : l.map sh = cuts fullShare.right l.length) (hS : ∀ i ∈ l, K i ⊆ S) :
    (ℓ ↦[S]{fullShare} f : sProp 𝕄) ⊢ iprop((ℓ ↦[S]{fullShare.left} f) ∗ bigSepL l fun i => ℓ ↦[K i]{sh i} f) := by
  have h₁ : (ℓ ↦[S]{fullShare} f : sProp 𝕄) ⊢ iprop((ℓ ↦[S]{fullShare.left} f) ∗ ℓ ↦[S]{fullShare.right} f) := (pointsTo_share (PosShare.mem_left_op_right fullShare)).1
  have h₂ := lend (Val := Val) (nD := nD) (τ := τ) (sig := sig) (f := f) K sh l fullShare.right hq hS
  iintro H
  ihave H := h₁ $$ H
  icases H with ⟨H, H'⟩
  isplitl [H]; · iexact H
  iapply h₂ $$ H'

/-! ### Dividing a device's memory among the transfers -/

theorem bigSepL_flatMap {M : Type} [URA M] {I J : Type} (g : I → List J) (l : List I) (Φ : J → sProp M) :
    bigSepL (l.flatMap g) Φ = bigSepL l fun i => bigSepL (g i) Φ := by
  induction l with
  | nil => rfl
  | cons i l ih => rw [List.flatMap_cons, bigSepL_append, ih, bigSepL_cons']

theorem bigSepL_sep {M : Type} [URA M] {I : Type} (l : List I) (Φ Ψ : I → sProp M) :
    (bigSepL l fun i => iprop(Φ i ∗ Ψ i)) ⊢ iprop(bigSepL l Φ ∗ bigSepL l Ψ) := by
  induction l with
  | nil => rw [bigSepL_nil, bigSepL_nil, bigSepL_nil]; iintro -; isplitl [] <;> iempintro
  | cons i l ih =>
    rw [bigSepL_cons', bigSepL_cons', bigSepL_cons']
    iintro ⟨⟨H₁, H₂⟩, H⟩
    ihave H := ih $$ H
    icases H with ⟨H₃, H₄⟩
    isplitl [H₁ H₃]
    · isplitl [H₁] <;> iassumption
    · isplitl [H₂] <;> iassumption

/-- The arrays of @main, listed: the arguments, then the results. -/
theorem bufs_listed (c : Dev nD) (V : (b : Ref sig .tc) → Buf Val ((c.tc : Thread nD τ).loc b)) {W : Type} (ws : List W) (ain aout : W → Ref sig .tc)
    (hall : (Finset.univ.filter fun b : Ref sig .tc => ¬ b.isScoped) = (ws.map ain ++ ws.map aout).toFinset) (hn : (ws.map ain ++ ws.map aout).Nodup) :
    (unscopedBufs c V : sProp 𝕄) ⊢ iprop((bigSepL ws fun w => ((c.tc : Thread nD τ).loc (ain w)) ↦{fullShare} V (ain w)) ∗ (bigSepL ws fun w => ((c.tc : Thread nD τ).loc (aout w)) ↦{fullShare} V (aout w))) := by
  unfold unscopedBufs
  rw [BI.bigSep_eq_bigSepL_of_eq _ hall hn, bigSepL_append, bigSepL_map, bigSepL_map]

/-- The room on a device of the landing of a transfer: of its own near one, or of a far one of the peer's. -/
def Load.space {P : Plan nD sig L R} (X : Load τ Val P) (c : Dev nD) : L ⊕ R → sProp 𝕄
  | .inl l => X.room (P.near c l).dst c
  | .inr r => X.room (P.far (P.peer c r) r).dst c

/-- A device's arrays, each whole, make up what `run_plan` asks: the sources of the transfers issued first, the room of
    every landing, and half of each argument kept. -/
theorem Load.split_memory {P : Plan nD sig L R} (X : Load τ Val P) [Fintype L] [Fintype R] (S : Script L R) (c : Dev nD)
    {W : Type} (ws : List W) (ain aout : W → Ref sig .tc) (T D : W → List (L ⊕ R))
    (hT : S.ts = ws.flatMap T) (hD : (ws.flatMap D).Nodup) (hD' : ∀ t, t ∈ ws.flatMap D)
    (hbufs : unscopedBufs c (fun b => X.m (c.tc.loc b)) ⊢ iprop((bigSepL ws fun w => (c.tc.loc (ain w)) ↦{fullShare} X.m (c.tc.loc (ain w)))
      ∗ (bigSepL ws fun w => (c.tc.loc (aout w)) ↦{fullShare} X.m (c.tc.loc (aout w))) : sProp 𝕄))
    (hin : ∀ w, ((c.tc.loc (ain w)) ↦{fullShare} X.m (c.tc.loc (ain w)) : sProp 𝕄) ⊢ iprop(((c.tc.loc (ain w)) ↦{fullShare.left} X.m (c.tc.loc (ain w))) ∗ bigSepL (T w) (X.give c)))
    (hout : ∀ w, ((c.tc.loc (aout w)) ↦{fullShare} X.m (c.tc.loc (aout w)) : sProp 𝕄) ⊢ bigSepL (D w) (X.space c)) :
    unscopedBufs c (fun b => X.m (c.tc.loc b)) ⊢ iprop(bigSepL S.ts (X.give c) ∗ (bigSep Finset.univ fun l => X.room (P.near c l).dst c)
        ∗ (bigSep Finset.univ fun r => X.room (P.far (P.peer c r) r).dst c) ∗ kept X (ws.map ain) c : sProp 𝕄) := by
  classical
  have h₁ : (bigSepL ws fun w => (c.tc.loc (ain w)) ↦{fullShare} X.m (c.tc.loc (ain w)) : sProp 𝕄) ⊢ iprop(kept X (ws.map ain) c ∗ bigSepL S.ts (X.give c)) := by
    unfold kept
    rw [hT, bigSepL_flatMap, bigSepL_map]
    exact (bigSepL_mono fun w _ => hin w).trans (bigSepL_sep ws _ _)
  have h₂ : (bigSepL ws fun w => (c.tc.loc (aout w)) ↦{fullShare} X.m (c.tc.loc (aout w)) : sProp 𝕄)
      ⊢ iprop((bigSep Finset.univ fun l => X.room (P.near c l).dst c) ∗ (bigSep Finset.univ fun r => X.room (P.far (P.peer c r) r).dst c)) := by
    refine (bigSepL_mono fun w _ => hout w).trans ?_
    rw [← bigSepL_flatMap]
    have e : (bigSep Finset.univ fun t => X.space c t) = bigSepL (ws.flatMap D) (X.space c) :=
      bigSep_listed _ hD hD' _
    rw [← e, bigSep_univ_sum]
    exact fun _ h => h
  iintro H
  ihave H := hbufs $$ H
  icases H with ⟨H₁, H₂⟩
  ihave H₁ := h₁ $$ H₁
  ihave H₂ := h₂ $$ H₂
  icases H₁ with ⟨Hk, Ht⟩
  icases H₂ with ⟨Hl, Hr⟩
  isplitl [Ht]; · iexact Ht
  isplitl [Hl]; · iexact Hl
  isplitl [Hr]; · iexact Hr
  iexact Hk

end Cert.Talk

end
-- ==== Proof.ShareTalk.lean ====
/-
The run of the exchange of halves between the two cores of a chip: each device copies its half of every array into its
own block of the result and sends it to its sibling's.
-/
module

public import proofs.«01_k».proof.Proof.Blocks
public import proofs.«01_k».proof.Proof.Gen.ShareIdeal
public import proofs.«01_k».proof.Proof.Gen.ShareIdeal.Launch
public import proofs.«01_k».proof.Proof.Gen.ShareIdeal.Points
public import proofs.«01_k».proof.Proof.Gen.ShareIdeal.Skeleton

@[expose] public section

noncomputable section

namespace Cert.ShareTalk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Talk Cert.ShareIdeal Cert.ShareIdeal.Gen

variable {F : FTy → Type} [FloatOps F]

local notation "𝕄" => MT nD τ sig Unit (Elt F) ℕ (UR sig nD τ) ℕ

/-! ### The arrays, by number -/

/-- The rows of a device's half of an array. -/
def hs : Fin 8 → ℕ := ![512, 128, 128, 128, 128, 128, 512, 512]
/-- The columns of an array. -/
def cs : Fin 8 → ℕ := ![1536, 256, 256, 1024, 1024, 1024, 1024, 1024]

abbrev Sin (w : Fin 8) : Shape := ⟨2, ![hs w, cs w]⟩
abbrev Sblk (w : Fin 8) : Shape := ⟨3, ![1, hs w, cs w]⟩
abbrev Sout (w : Fin 8) : Shape := ⟨3, ![2, hs w, cs w]⟩

def inM : (w : Fin 8) → Memref sig .tc .hbm (Sin w) .f32
  | 0 => (Memref.whole main_arg0 : Memref sig .tc .hbm _ .f32)
  | 1 => (Memref.whole main_arg1 : Memref sig .tc .hbm _ .f32)
  | 2 => (Memref.whole main_arg2 : Memref sig .tc .hbm _ .f32)
  | 3 => (Memref.whole main_arg3 : Memref sig .tc .hbm _ .f32)
  | 4 => (Memref.whole main_arg4 : Memref sig .tc .hbm _ .f32)
  | 5 => (Memref.whole main_arg5 : Memref sig .tc .hbm _ .f32)
  | 6 => (Memref.whole main_arg6 : Memref sig .tc .hbm _ .f32)
  | 7 => (Memref.whole main_arg7 : Memref sig .tc .hbm _ .f32)

def outM : (w : Fin 8) → Memref sig .tc .hbm (Sout w) .f32
  | 0 => (Memref.whole main_v1_0 : Memref sig .tc .hbm _ .f32)
  | 1 => (Memref.whole main_v1_1 : Memref sig .tc .hbm _ .f32)
  | 2 => (Memref.whole main_v1_2 : Memref sig .tc .hbm _ .f32)
  | 3 => (Memref.whole main_v1_3 : Memref sig .tc .hbm _ .f32)
  | 4 => (Memref.whole main_v1_4 : Memref sig .tc .hbm _ .f32)
  | 5 => (Memref.whole main_v1_5 : Memref sig .tc .hbm _ .f32)
  | 6 => (Memref.whole main_v1_6 : Memref sig .tc .hbm _ .f32)
  | 7 => (Memref.whole main_v1_7 : Memref sig .tc .hbm _ .f32)

/-- Where a device's own block of a result starts. -/
def off : Fin 8 → Dev nD → Fin 3 → ℕ
  | 0 => k0_off1
  | 1 => k0_off2
  | 2 => k0_off2
  | 3 => k0_off3
  | 4 => k0_off3
  | 5 => k0_off3
  | 6 => k0_off4
  | 7 => k0_off4

/-- Where its sibling's block starts. -/
def off' : Fin 8 → Dev nD → Fin 3 → ℕ
  | 0 => k0_off5
  | 1 => k0_off6
  | 2 => k0_off6
  | 3 => k0_off7
  | 4 => k0_off7
  | 5 => k0_off7
  | 6 => k0_off8
  | 7 => k0_off8

theorem off_eq (w : Fin 8) (c : Dev nD) : off w c = ![c.val % 2, 0, 0] := by
  revert c
  match w with
  | 0 => exact k0_off1_eq
  | 1 => exact k0_off2_eq
  | 2 => exact k0_off2_eq
  | 3 => exact k0_off3_eq
  | 4 => exact k0_off3_eq
  | 5 => exact k0_off3_eq
  | 6 => exact k0_off4_eq
  | 7 => exact k0_off4_eq

theorem off'_eq (w : Fin 8) (c : Dev nD) : off' w c = ![1 - c.val % 2, 0, 0] := by
  revert c
  match w with
  | 0 => exact k0_off5_eq
  | 1 => exact k0_off6_eq
  | 2 => exact k0_off6_eq
  | 3 => exact k0_off7_eq
  | 4 => exact k0_off7_eq
  | 5 => exact k0_off7_eq
  | 6 => exact k0_off8_eq
  | 7 => exact k0_off8_eq

theorem inb_at (w : Fin 8) (k : ℕ) (hk : k ≤ 1) : ∀ a, (![k, 0, 0] : Fin 3 → ℕ) a + (Sblk w).size a ≤ (Sout w).size a := by
  intro a
  match a with
  | 0 => show k + 1 ≤ 2; omega
  | 1 => show 0 + hs w ≤ hs w; omega
  | 2 => show 0 + cs w ≤ cs w; omega

theorem inb (w : Fin 8) (c : Dev nD) : ∀ a, off w c a + (Sblk w).size a ≤ (Sout w).size a := by
  rw [off_eq]; exact inb_at w _ (by omega)
theorem inb' (w : Fin 8) (c : Dev nD) : ∀ a, off' w c a + (Sblk w).size a ≤ (Sout w).size a := by
  rw [off'_eq]; exact inb_at w _ (by omega)
theorem sq (w : Fin 8) : (Sblk w).Squeezes (Sin w) := by
  match w with
  | 0 => decide
  | 1 => decide
  | 2 => decide
  | 3 => decide
  | 4 => decide
  | 5 => decide
  | 6 => decide
  | 7 => decide

/-- The sibling of a device: the other core of its chip. -/
def peer (c : Dev nD) : Fin 8 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩

theorem peer_val (c : Dev nD) (w : Fin 8) : (peer c w).val = (4 * (c.val / 4) + 2 * ((c.val / 2) % 2) + 1) - c.val % 2 := by
  match w with
  | 0 => exact k0_dev1_eq c
  | 1 => exact k0_dev2_eq c
  | 2 => exact k0_dev3_eq c
  | 3 => exact k0_dev4_eq c
  | 4 => exact k0_dev5_eq c
  | 5 => exact k0_dev6_eq c
  | 6 => exact k0_dev7_eq c
  | 7 => exact k0_dev8_eq c

theorem peer_back (c : Dev nD) (w : Fin 8) : peer (peer c w) w = c := by
  refine Fin.ext ?_
  rw [peer_val, peer_val]
  have := c.isLt
  have : nD = 8 := rfl
  omega

/-! ### The plan -/

theorem in_word (w : Fin 8) : (inM w).view.WordExact := View.wordExact_bits rfl
/-- A device's block of a result. -/
abbrev blk (w : Fin 8) (c : Dev nD) : Memref sig .tc .hbm (Sin w) .f32 := slab (outM w) (off w c) (inb w c) (sq w)
/-- Its sibling's. -/
abbrev blk' (w : Fin 8) (c : Dev nD) : Memref sig .tc .hbm (Sin w) .f32 := slab (outM w) (off' w c) (inb' w c) (sq w)
theorem blk_word (w : Fin 8) (c : Dev nD) : (blk w c).view.WordExact := (View.wordExact_bits rfl).reshape _ _
theorem blk'_word (w : Fin 8) (c : Dev nD) : (blk' w c).view.WordExact := (View.wordExact_bits rfl).reshape _ _
theorem out_plain (w : Fin 8) : (outM w).view.ref.isScScratch = false := by
  match w with
  | 0 => rfl
  | 1 => rfl
  | 2 => rfl
  | 3 => rfl
  | 4 => rfl
  | 5 => rfl
  | 6 => rfl
  | 7 => rfl

/-- A device's half of an array into its block of a result, its own or its sibling's. -/
abbrev copy (c : Dev nD) (w : Fin 8) : Copy sig := ⟨Sin w, .f32, inM w, blk w c, in_word w, blk_word w c, out_plain w⟩

abbrev K := Key (Fin 8) (Fin 8)

/-- Departures count on the first pool of semaphores, far landings on the second, near ones on the third. -/
def sem : K → DmaSem sig
  | .inr w => ((cc0_scratch0.slice (Rect.unit (s := S8) ![w.val] S1.size (by intro a; match a with | 0 => exact w.isLt)) : DmaSems sig S1).squeeze S_ squeezes_S1_S_).sem
  | .inl (.inr w) => ((cc0_scratch1.slice (Rect.unit (s := S8) ![w.val] S1.size (by intro a; match a with | 0 => exact w.isLt)) : DmaSems sig S1).squeeze S_ squeezes_S1_S_).sem
  | .inl (.inl w) => ((cc0_scratch2.slice (Rect.unit (s := S8) ![w.val] S1.size (by intro a; match a with | 0 => exact w.isLt)) : DmaSems sig S1).squeeze S_ squeezes_S1_S_).sem

def units (w : Fin 8) : ℕ := sig.dmaCredit .tc (Kind.table .tc .hbm) (outM w).view.buf (Sin w) .f32

theorem sin_pos (w : Fin 8) : 0 < (Sin w).numel := by
  match w with
  | 0 => decide
  | 1 => decide
  | 2 => decide
  | 3 => decide
  | 4 => decide
  | 5 => decide
  | 6 => decide
  | 7 => decide

theorem in_units (w : Fin 8) : (inM w).view.dmaCredit = units w := by
  match w with
  | 0 => rfl
  | 1 => rfl
  | 2 => rfl
  | 3 => rfl
  | 4 => rfl
  | 5 => rfl
  | 6 => rfl
  | 7 => rfl

def plan : Plan nD sig (Fin 8) (Fin 8) where
  near := copy
  far := copy
  peer := peer
  back := peer_back
  sem := sem
  sem_inj := by decide +kernel
  units k := match k with | .inl (.inl w) => units w | .inl (.inr w) => units w | .inr w => units w
  units_pos k := match k with
    | .inl (.inl w) => (blk w 0).view.dmaCredit_pos (sin_pos w) | .inl (.inr w) => (blk w 0).view.dmaCredit_pos (sin_pos w) | .inr w => (blk w 0).view.dmaCredit_pos (sin_pos w)
  near_units _ _ := rfl
  far_units _ _ := rfl
  far_units' _ := rfl
  seen c k := match k with
    | .inl (.inl w) => copy c w
    | .inl (.inr w) => ⟨Sin w, .f32, inM w, blk' w c, in_word w, blk'_word w c, out_plain w⟩
    | .inr w => ⟨Sin w, .f32, blk w c, inM w, blk_word w c, in_word w, by match w with | 0 => rfl | 1 => rfl | 2 => rfl | 3 => rfl | 4 => rfl | 5 => rfl | 6 => rfl | 7 => rfl⟩
  seen_units c k := match k with
    | .inl (.inl w) => rfl
    | .inl (.inr w) => rfl
    | .inr w => in_units w
  level _ := 0

def ws : List (Fin 8) := [0, 1, 2, 3, 4, 5, 6, 7]

def script : Script (Fin 8) (Fin 8) where
  ts := ws.flatMap fun w => [.inl w, .inr w]
  rl := []
  ks := ws.map (fun w => .inl (.inr w)) ++ ws.map .inr ++ ws.map (fun w => .inl (.inl w))

/-- What a device runs is its script. -/
theorem body_eq :
    (cc0_share_with_sibling (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) cc0_scratch0 cc0_scratch1 cc0_scratch2
      : Prog (TpuEff nD τ sig (Elt F) Λ₀ .tc) PUnit)
      = .op .deviceId fun d => plan.prog τ (Elt F) Λ₀ d script.acts (.ret ⟨⟩) := rfl

/-! ### What is moved -/

/-- Every transfer takes its source from the memory at the start; of the half of an argument that is lent, the near one
    takes the first piece and the far one the next. -/
def load (m : (ℓ : Loc nD τ sig) → Buf (Elt F) ℓ) : Load τ (Elt F) plan where
  m := m
  nearShare _ := cut fullShare.right 0
  farShare _ := cut fullShare.right 1
  farSrc c w := m ((inM w).view.loc (c.tc : Thread nD τ))

abbrev ain (w : Fin 8) : Ref sig .tc := (inM w).view.ref
abbrev aout (w : Fin 8) : Ref sig .tc := (outM w).view.ref

theorem mem_ws (w : Fin 8) : w ∈ ws := by revert w; decide

theorem mem_ts (t : Fin 8 ⊕ Fin 8) : t ∈ ws.flatMap fun w => ([.inl w, .inr w] : List (Fin 8 ⊕ Fin 8)) := by
  rcases t with w | w
  · exact List.mem_flatMap.mpr ⟨w, mem_ws w, List.mem_cons_self ..⟩
  · exact List.mem_flatMap.mpr ⟨w, mem_ws w, List.mem_cons_of_mem _ (List.mem_cons_self ..)⟩

theorem mem_ks (k : K) : k ∈ script.ks := by
  rcases k with (w | w) | w
  · exact List.mem_append_right _ (List.mem_map_of_mem (mem_ws w))
  · exact List.mem_append_left _ (List.mem_append_left _ (List.mem_map_of_mem (mem_ws w)))
  · exact List.mem_append_left _ (List.mem_append_right _ (List.mem_map_of_mem (mem_ws w)))

theorem complete : script.Complete plan where
  order_nodup := by decide
  order_all t := List.mem_append_left _ (mem_ts t)
  cells_nodup := by decide +kernel
  cells_all k := List.mem_append_left _ (mem_ks k)
  low := by intro x hx; cases hx
  high := by intro x hx; cases hx

theorem lent (m : (ℓ : Loc nD τ sig) → Buf (Elt F) ℓ) (c : Dev nD) (w : Fin 8) :
    (((c.tc : Thread nD τ).loc (ain w)) ↦{fullShare} m ((c.tc : Thread nD τ).loc (ain w)) : sProp 𝕄)
      ⊢ iprop((((c.tc : Thread nD τ).loc (ain w)) ↦{fullShare.left} m ((c.tc : Thread nD τ).loc (ain w))) ∗ bigSepL [.inl w, .inr w] ((load m).give c)) := by
  refine (keep_and_lend (fun _ => (inM w).view.set) (Sum.elim (fun _ : Fin 8 => cut fullShare.right 0) fun _ : Fin 8 => cut fullShare.right 1) [.inl w, .inr w] rfl fun _ _ => Finset.subset_univ _).trans ?_
  refine sep_mono_r (bigSepL_mono fun t ht => ?_)
  rcases List.mem_cons.mp ht with rfl | ht
  · exact fun _ h => h
  · rcases List.mem_singleton.mp ht with rfl
    exact fun _ h => h

theorem apart (w : Fin 8) (c d : Dev nD) (h : c.val % 2 ≠ d.val % 2) : Disjoint (blk w c).view.set (blk w d).view.set := by
  refine slab_disjoint _ _ _ 0 ?_
  rw [off_eq, off_eq]
  show c.val % 2 + 1 ≤ d.val % 2 ∨ d.val % 2 + 1 ≤ c.val % 2
  omega

theorem peer_par (c : Dev nD) (w : Fin 8) : (peer c w).val % 2 ≠ c.val % 2 := by
  rw [peer_val]; omega

theorem carved (m : (ℓ : Loc nD τ sig) → Buf (Elt F) ℓ) (c : Dev nD) (w : Fin 8) :
    (((c.tc : Thread nD τ).loc (aout w)) ↦{fullShare} m ((c.tc : Thread nD τ).loc (aout w)) : sProp 𝕄) ⊢ bigSepL [.inl w, .inr w] ((load m).space c) := by
  refine (carve (Sum.elim (fun _ : Fin 8 => (blk w c).view.set) fun _ : Fin 8 => (blk w (peer c w)).view.set) [.inl w, .inr w] ?_ _ fun _ _ => Finset.subset_univ _).trans (bigSepL_mono fun t ht => ?_)
  · simp only [List.pairwise_cons, List.mem_singleton, forall_eq, List.not_mem_nil, false_imp_iff, implies_true, and_true, List.Pairwise.nil]
    exact apart w c _ (peer_par c w).symm
  · rcases List.mem_cons.mp ht with rfl | ht
    · exact fun _ h => h
    · rcases List.mem_singleton.mp ht with rfl
      exact fun _ h => h

theorem memory (m : (ℓ : Loc nD τ sig) → Buf (Elt F) ℓ) (c : Dev nD) :
    unscopedBufs c (fun b => m ((c.tc : Thread nD τ).loc b)) ⊢ iprop(bigSepL script.ts ((load m).give c) ∗ (bigSep Finset.univ fun l => (load m).room (plan.near c l).dst c)
        ∗ (bigSep Finset.univ fun r => (load m).room (plan.far (plan.peer c r) r).dst c) ∗ kept (load m) (ws.map ain) c : sProp 𝕄) :=
  (load m).split_memory script c ws ain aout (fun w => [.inl w, .inr w]) (fun w => [.inl w, .inr w]) rfl (by decide) mem_ts
    (bufs_listed c _ ws ain aout (by decide) (by decide)) (lent m c) (carved m c)

/-- The exchange, run: every argument is unchanged, a device's block `b` of each result is the argument of the device at
    place `b` of its chip, and every semaphore is back at zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (c : Dev nD) (w : Fin 8), r.2.mem ((c.tc : Thread nD τ).loc (ain w)) = m ((c.tc : Thread nD τ).loc (ain w)))
      ∧ (∀ (c d : Dev nD) (w : Fin 8) (i : (Sout w).Idx) (x : (Sin w).Idx), d.val = 2 * (c.val / 2) + (i 0).val → (x 0).val = (i 1).val → (x 1).val = (i 2).val →
          (outM w).view.read (Elt F) (r.2.mem ((c.tc : Thread nD τ).loc (aout w))) i = (inM w).view.read (Elt F) (m ((d.tc : Thread nD τ).loc (ain w))) x)
      ∧ r.2.sem = fun _ => 0 := by
  refine run_plan cfgs (load m) script cellOf_inj (fun p => by match p with | 0 => exact Fin.isEmpty) winFacts0 (by decide +kernel) defs₀ ρ main (fun c => rfl)
    (fun c => scopedRest0_eq c) N_0 (fun c t A => by rw [← body_eq]; exact fun _ h => h) complete (fun c x hx => by cases hx) (ws.map ain) (memory m) ?_
  intro s h hs
  refine ⟨fun c w => (h c).2 (ain w) (List.mem_map_of_mem (mem_ws w)), ?_, sem_eq_zero_of_scoped (by decide) hs⟩
  intro c d w i x hd h1 h2
  have hi : (i 0).val < 2 := (i 0).isLt
  have hc := c.isLt
  have hn : nD = 8 := rfl
  by_cases e : (i 0).val = c.val % 2
  · have hdc : d = c := Fin.ext (by omega)
    subst hdc
    have ht := (h d).1 _ (mem_ks (.inl (.inl w)))
    refine (slab_at (outM w) (off w d) (inb w d) (sq w) _ i x ?_ ?_ ?_).trans (congrFun ht x) <;> rw [off_eq]
    · exact e
    · exact h1.symm.trans (Nat.zero_add _).symm
    · exact h2.symm.trans (Nat.zero_add _).symm
  · have hdc : d = peer c w := Fin.ext (by rw [peer_val]; omega)
    subst hdc
    have ht := (h c).1 _ (mem_ks (.inl (.inr w)))
    refine (slab_at (outM w) (off w (peer c w)) (inb w (peer c w)) (sq w) _ i x ?_ ?_ ?_).trans (congrFun ht x) <;> rw [off_eq]
    · show (i 0).val = (peer c w).val % 2
      rw [peer_val]; omega
    · exact h1.symm.trans (Nat.zero_add _).symm
    · exact h2.symm.trans (Nat.zero_add _).symm

end Cert.ShareTalk

end
-- ==== Proof.Layouts.lean ====
/-
Blocks of a whole array and reshapes of it: what a device's block of a reference's result is, read from the blocks of
the reference's argument.
-/
module

public import Idealize.ShloMosaic.Lib.Layout
public import Idealize.ShloMosaic.Lib.Pointwise.Reshape
public import Idealize.ShloMosaic.Lib.Pipeline.Value

@[expose] public section

namespace Cert.Talk

open Idealize.ShloMosaic

/-- The mesh coordinate pair (chip row, chip column) of a device, as a number. -/
theorem chip_lin (c : ℕ) : Layout.meshLin [2, 2, 2] c [0, 1] = (c / 4 % 2) * 2 + c / 2 % 2 := by
  simp [Layout.meshLin, Layout.meshCoord, Layout.cutSize]

/-- A chip's pair of blocks of an array of eight blocks, cut from the array's rows: block `b` of the pair is the part of
    the rows the device at place `b` of the chip holds. -/
theorem pair_blocks {α : Type} {h C N : ℕ} (hN : N = 8 * h) (v : (⟨2, ![N, C]⟩ : Shape).Idx → α) (hc : (⟨2, ![N, C]⟩ : Shape).ShapeCasts ⟨3, ![8, h, C]⟩)
    (c : Fin 8) (M : (⟨3, ![2, h, C]⟩ : Shape).Idx → α) (A : Fin 8 → (⟨2, ![h, C]⟩ : Shape).Idx → α)
    {hb : Layout.Tiles ⟨2, ![h, C]⟩ ⟨2, ![N, C]⟩ 0 8} (hA : ∀ d, A d = Layout.block ⟨2, ![h, C]⟩ ⟨2, ![N, C]⟩ 0 8 d v hb)
    (hM : ∀ (d : Fin 8) (i : (⟨3, ![2, h, C]⟩ : Shape).Idx) (x : (⟨2, ![h, C]⟩ : Shape).Idx), d.val = 2 * (c.val / 2) + (i 0).val → (x 0).val = (i 1).val → (x 1).val = (i 2).val → M i = A d x)
    {hl} {hb' : Layout.TilesN ⟨3, ![2, h, C]⟩ ⟨3, ![8, h, C]⟩ fun b => Layout.cutSize [2, 2, 2] ((![[0, 1], [], []] : Fin 3 → List ℕ) b)} :
    M = Layout.blockN ⟨3, ![2, h, C]⟩ ⟨3, ![8, h, C]⟩ (Layout.meshBlock [2, 2, 2] ![[0, 1], [], []] c hl) (shapeCast ⟨3, ![8, h, C]⟩ v hc) hb' := by
  funext i
  have hc8 := c.isLt
  have hi0 : (i 0).val < 2 := (i 0).isLt
  have hd : 2 * (c.val / 2) + (i 0).val < 8 := by omega
  rw [hM ⟨2 * (c.val / 2) + (i 0).val, hd⟩ i (fun a => match a with | 0 => ⟨(i 1).val, (i 1).isLt⟩ | 1 => ⟨(i 2).val, (i 2).isLt⟩) rfl rfl rfl, hA]
  show v _ = v _
  refine congrArg v (Eq.symm (Shape.reshapeEquiv_eq_of_rowMajor hc ?_))
  rw [rowMajor_val2 _ C rfl, rowMajor_val3 _ (h * C) C rfl rfl]
  simp only [Layout.TilesN.idx_val, Layout.Tiles.idx_val]
  show ((2 * (c.val / 2) + (i 0).val) * h + (i 1).val) * C + (i 2).val
    = (Layout.meshLin [2, 2, 2] c.val [0, 1] * 2 + (i 0).val) * (h * C) + (0 * h + (i 1).val) * C + (0 * C + (i 2).val)
  rw [chip_lin]
  have e : (c.val / 4 % 2 * 2 + c.val / 2 % 2) * 2 = 2 * (c.val / 2) := by omega
  rw [e]
  simp only [Nat.add_mul, Nat.mul_assoc, Nat.zero_mul, Nat.zero_add, Nat.add_assoc]

/-- An index of three axes, of five and of six by its coordinates. -/
def at3 {a b c : ℕ} (x : Fin a) (y : Fin b) (z : Fin c) : (⟨3, ![a, b, c]⟩ : Shape).Idx := fun k => match k with | 0 => x | 1 => y | 2 => z
def at4 {a b c d : ℕ} (x : Fin a) (y : Fin b) (z : Fin c) (u : Fin d) : (⟨4, ![a, b, c, d]⟩ : Shape).Idx := fun k => match k with | 0 => x | 1 => y | 2 => z | 3 => u
def at5 {a b c d e : ℕ} (x : Fin a) (y : Fin b) (z : Fin c) (u : Fin d) (v : Fin e) : (⟨5, ![a, b, c, d, e]⟩ : Shape).Idx := fun k => match k with | 0 => x | 1 => y | 2 => z | 3 => u | 4 => v
def at6 {a b c d e f : ℕ} (x : Fin a) (y : Fin b) (z : Fin c) (u : Fin d) (v : Fin e) (w : Fin f) : (⟨6, ![a, b, c, d, e, f]⟩ : Shape).Idx :=
  fun k => match k with | 0 => x | 1 => y | 2 => z | 3 => u | 4 => v | 5 => w

/-- A place of an array of 32 planes, its plane numbered by chip, core and block. -/
theorem split_planes {h C : ℕ} (hc : (⟨5, ![4, 2, 4, h, C]⟩ : Shape).ShapeCasts ⟨3, ![32, h, C]⟩) (j : (⟨3, ![32, h, C]⟩ : Shape).Idx) (q : Fin 4) (k : Fin 2) (p : Fin 4) (y : Fin h) (z : Fin C)
    (hj : (j 0).val = (2 * q.val + k.val) * 4 + p.val) (hy : (j 1).val = y.val) (hz : (j 2).val = z.val) : Shape.reshapeEquiv hc j = at5 q k p y z := by
  refine Shape.reshapeEquiv_eq_of_rowMajor hc ?_
  rw [rowMajor_val5 _ (8 * (h * C)) (4 * (h * C)) (h * C) C (by show 2 * (4 * (h * C)) = 8 * (h * C); omega) rfl rfl rfl, rowMajor_val3 _ (h * C) C rfl rfl, hj, hy, hz]
  show q.val * (8 * (h * C)) + k.val * (4 * (h * C)) + p.val * (h * C) + y.val * C + z.val = ((2 * q.val + k.val) * 4 + p.val) * (h * C) + y.val * C + z.val
  generalize h * C = B
  simp only [Nat.add_mul, Nat.mul_assoc, Nat.mul_left_comm _ 8, Nat.mul_left_comm _ 4]
  omega

/-- The like the other way. -/
theorem join_planes {h C : ℕ} (hc : (⟨3, ![32, h, C]⟩ : Shape).ShapeCasts ⟨5, ![4, 2, 4, h, C]⟩) (j : (⟨3, ![32, h, C]⟩ : Shape).Idx) (q : Fin 4) (k : Fin 2) (p : Fin 4) (y : Fin h) (z : Fin C)
    (hj : (j 0).val = (2 * q.val + k.val) * 4 + p.val) (hy : (j 1).val = y.val) (hz : (j 2).val = z.val) : Shape.reshapeEquiv hc (at5 q k p y z) = j := by
  refine Shape.reshapeEquiv_eq_of_rowMajor hc ?_
  rw [rowMajor_val5 _ (8 * (h * C)) (4 * (h * C)) (h * C) C (by show 2 * (4 * (h * C)) = 8 * (h * C); omega) rfl rfl rfl, rowMajor_val3 _ (h * C) C rfl rfl, hj, hy, hz]
  show ((2 * q.val + k.val) * 4 + p.val) * (h * C) + y.val * C + z.val = q.val * (8 * (h * C)) + k.val * (4 * (h * C)) + p.val * (h * C) + y.val * C + z.val
  generalize h * C = B
  simp only [Nat.add_mul, Nat.mul_assoc, Nat.mul_left_comm _ 8, Nat.mul_left_comm _ 4]
  omega

/-- A device's block of an array of four planes for each device, whose chip axis and block axis are exchanged: its plane
    `b` is the plane of its own chip of the like core of chip `b`. -/
theorem crossed_blocks {α : Type} {h C : ℕ} (v : (⟨3, ![32, h, C]⟩ : Shape).Idx → α) (hc : (⟨3, ![32, h, C]⟩ : Shape).ShapeCasts ⟨5, ![4, 2, 4, h, C]⟩)
    (ht : (⟨5, ![4, 2, 4, h, C]⟩ : Shape).Transposes [2, 1, 0, 3, 4] ⟨5, ![4, 2, 4, h, C]⟩) (hc' : (⟨5, ![4, 2, 4, h, C]⟩ : Shape).ShapeCasts ⟨3, ![32, h, C]⟩)
    (c : Fin 8) (M : (⟨3, ![4, h, C]⟩ : Shape).Idx → α) (A : Fin 8 → (⟨3, ![4, h, C]⟩ : Shape).Idx → α)
    {hb : Layout.Tiles ⟨3, ![4, h, C]⟩ ⟨3, ![32, h, C]⟩ 0 8} (hA : ∀ d, A d = Layout.block ⟨3, ![4, h, C]⟩ ⟨3, ![32, h, C]⟩ 0 8 d v hb)
    (hM : ∀ (d : Fin 8) (i x : (⟨3, ![4, h, C]⟩ : Shape).Idx), d.val = 2 * (i 0).val + c.val % 2 → (x 0).val = c.val / 2 → (x 1).val = (i 1).val → (x 2).val = (i 2).val → M i = A d x)
    {hb' : Layout.Tiles ⟨3, ![4, h, C]⟩ ⟨3, ![32, h, C]⟩ 0 8} :
    M = Layout.block ⟨3, ![4, h, C]⟩ ⟨3, ![32, h, C]⟩ 0 8 c (shapeCast ⟨3, ![32, h, C]⟩ (transpose ⟨5, ![4, 2, 4, h, C]⟩ [2, 1, 0, 3, 4] (shapeCast ⟨5, ![4, 2, 4, h, C]⟩ v hc) ht) hc') hb' := by
  funext i
  have hc8 := c.isLt
  have hi0 : (i 0).val < 4 := (i 0).isLt
  have hd : 2 * (i 0).val + c.val % 2 < 8 := by omega
  rw [hM ⟨2 * (i 0).val + c.val % 2, hd⟩ i (at3 ⟨c.val / 2, by omega⟩ ⟨(i 1).val, (i 1).isLt⟩ ⟨(i 2).val, (i 2).isLt⟩) rfl rfl rfl rfl, hA]
  show v (hb.idx _ _) = transpose _ _ _ ht (Shape.reshapeEquiv hc' (hb'.idx c i))
  rw [split_planes hc' (hb'.idx c i) ⟨c.val / 2, by omega⟩ ⟨c.val % 2, by omega⟩ ⟨(i 0).val, hi0⟩ ⟨(i 1).val, (i 1).isLt⟩ ⟨(i 2).val, (i 2).isLt⟩
    (by rw [Layout.Tiles.idx_val]; show c.val * 4 + (i 0).val = _; dsimp only; omega) (by rw [Layout.Tiles.idx_val]; rfl) (by rw [Layout.Tiles.idx_val]; rfl)]
  rw [transpose_apply _ _ ht _ (at5 ⟨(i 0).val, hi0⟩ ⟨c.val % 2, by omega⟩ ⟨c.val / 2, by omega⟩ ⟨(i 1).val, (i 1).isLt⟩ ⟨(i 2).val, (i 2).isLt⟩)
    (fun b => by match b with | 0 => rfl | 1 => rfl | 2 => rfl | 3 => rfl | 4 => rfl)]
  show v _ = v (Shape.reshapeEquiv hc _)
  refine congrArg v (Eq.symm ?_)
  exact join_planes hc (hb.idx ⟨2 * (i 0).val + c.val % 2, hd⟩ (at3 ⟨c.val / 2, by omega⟩ ⟨(i 1).val, (i 1).isLt⟩ ⟨(i 2).val, (i 2).isLt⟩)) ⟨(i 0).val, hi0⟩ ⟨c.val % 2, by omega⟩ ⟨c.val / 2, by omega⟩
    _ _ (by rw [Layout.Tiles.idx_val]; rfl) (by rw [Layout.Tiles.idx_val]; rfl) (by rw [Layout.Tiles.idx_val]; rfl)

/-- One core's planes of an array of eight planes for each chip, of each plane the rows of one half. -/
theorem half_piece {α : Type} {h C r : ℕ} (hr : r = 2 * h) (a b : ℕ) (v : (⟨3, ![32, r, C]⟩ : Shape).Idx → α) (hc : (⟨3, ![32, r, C]⟩ : Shape).ShapeCasts ⟨6, ![4, 2, 4, 2, h, C]⟩)
    (hs : (⟨6, ![4, 2, 4, 2, h, C]⟩ : Shape).Slices ![0, a, 0, b, 0, 0] ⟨6, ![4, 1, 4, 1, h, C]⟩) (hc' : (⟨6, ![4, 1, 4, 1, h, C]⟩ : Shape).ShapeCasts ⟨4, ![4, 4, h, C]⟩)
    (hbc : (⟨4, ![4, 4, h, C]⟩ : Shape).BroadcastsInDim ⟨5, ![4, 1, 4, h, C]⟩ ![0, 2, 3, 4]) (q : Fin 4) (p : Fin 4) (y : Fin h) (z : Fin C)
    (t : (⟨3, ![32, r, C]⟩ : Shape).Idx) (ht0 : (t 0).val = (2 * q.val + a) * 4 + p.val) (ht1 : (t 1).val = b * h + y.val) (ht2 : (t 2).val = z.val) :
    broadcastInDim ⟨5, ![4, 1, 4, h, C]⟩ ![0, 2, 3, 4] hbc (shapeCast ⟨4, ![4, 4, h, C]⟩ (extractStridedSlice ⟨6, ![4, 1, 4, 1, h, C]⟩ ![0, a, 0, b, 0, 0] (shapeCast ⟨6, ![4, 2, 4, 2, h, C]⟩ v hc) hs) hc') (at5 q 0 p y z) = v t := by
  have ha : a < 2 := hs.2 1
  have hb : b < 2 := hs.2 3
  have hy := y.isLt
  have hz := z.isLt
  rw [broadcastInDim_apply _ hbc _ _ (at4 q p y z) (fun k => by
    match k with
    | 0 => rfl
    | 1 => rfl
    | 2 => show y.val = if h = 1 then 0 else y.val; split <;> omega
    | 3 => show z.val = if C = 1 then 0 else z.val; split <;> omega)]
  show extractStridedSlice _ _ _ hs (Shape.reshapeEquiv hc' (at4 q p y z)) = _
  have e : Shape.reshapeEquiv hc' (at4 q p y z) = at6 q 0 p 0 y z := by
    refine Shape.reshapeEquiv_eq_of_rowMajor hc' ?_
    rw [rowMajor_val6 _ (4 * (h * C)) (4 * (h * C)) (h * C) (h * C) C (by show 1 * (4 * (1 * (h * C))) = 4 * (h * C); omega) (by show 4 * (1 * (h * C)) = 4 * (h * C); omega)
      (by show 1 * (h * C) = h * C; omega) rfl rfl, rowMajor_val4 _ (4 * (h * C)) (h * C) C rfl rfl rfl]
    show q.val * (4 * (h * C)) + 0 * (4 * (h * C)) + p.val * (h * C) + 0 * (h * C) + y.val * C + z.val = q.val * (4 * (h * C)) + p.val * (h * C) + y.val * C + z.val
    omega
  rw [e, extractStridedSlice_apply _ _ hs _ (at6 q ⟨a, ha⟩ p ⟨b, hb⟩ y z) (fun k => by
    match k with
    | 0 => exact (Nat.zero_add _).symm
    | 1 => rfl
    | 2 => exact (Nat.zero_add _).symm
    | 3 => rfl
    | 4 => exact (Nat.zero_add _).symm
    | 5 => exact (Nat.zero_add _).symm)]
  show v (Shape.reshapeEquiv hc _) = v t
  refine congrArg v (Shape.reshapeEquiv_eq_of_rowMajor hc ?_)
  subst hr
  have e₂ : 2 * h * C = 2 * (h * C) := Nat.mul_assoc ..
  rw [rowMajor_val6 _ (16 * (h * C)) (8 * (h * C)) (2 * (h * C)) (h * C) C (by show 2 * (4 * (2 * (h * C))) = 16 * (h * C); omega) (by show 4 * (2 * (h * C)) = 8 * (h * C); omega)
    rfl rfl rfl, rowMajor_val3 _ (2 * (h * C)) C e₂ rfl, ht0, ht1, ht2]
  show ((2 * q.val + a) * 4 + p.val) * (2 * (h * C)) + (b * h + y.val) * C + z.val
    = q.val * (16 * (h * C)) + a * (8 * (h * C)) + p.val * (2 * (h * C)) + b * (h * C) + y.val * C + z.val
  rw [Nat.add_mul (b * h), Nat.mul_assoc b h C]
  generalize h * C = B
  generalize q.val = q'
  generalize p.val = p'
  simp only [Nat.add_mul, Nat.mul_assoc, Nat.mul_left_comm q', Nat.mul_left_comm a, Nat.mul_left_comm p']
  omega

/-- A device's block of the cores' planes exchanged, of each plane one half kept: the first core's is the first half of the
    second core's planes, the second core's the second half of the first's. -/
theorem sibling_blocks {α : Type} {h C r : ℕ} (hr : r = 2 * h) (v : (⟨3, ![32, r, C]⟩ : Shape).Idx → α) (hc : (⟨3, ![32, r, C]⟩ : Shape).ShapeCasts ⟨6, ![4, 2, 4, 2, h, C]⟩)
    (hs : (⟨6, ![4, 2, 4, 2, h, C]⟩ : Shape).Slices ![0, 1, 0, 0, 0, 0] ⟨6, ![4, 1, 4, 1, h, C]⟩) (hs' : (⟨6, ![4, 2, 4, 2, h, C]⟩ : Shape).Slices ![0, 0, 0, 1, 0, 0] ⟨6, ![4, 1, 4, 1, h, C]⟩)
    (hq : (⟨6, ![4, 1, 4, 1, h, C]⟩ : Shape).ShapeCasts ⟨4, ![4, 4, h, C]⟩)
    (hbc : (⟨4, ![4, 4, h, C]⟩ : Shape).BroadcastsInDim ⟨5, ![4, 1, 4, h, C]⟩ ![0, 2, 3, 4])
    (hcat : Shape.Concatenates [(⟨5, ![4, 1, 4, h, C]⟩ : Shape), (⟨5, ![4, 1, 4, h, C]⟩ : Shape)] ⟨5, ![4, 2, 4, h, C]⟩ 1)
    (hc' : (⟨5, ![4, 2, 4, h, C]⟩ : Shape).ShapeCasts ⟨3, ![32, h, C]⟩)
    (c : Fin 8) (M : (⟨3, ![4, h, C]⟩ : Shape).Idx → α) (A : Fin 8 → (⟨3, ![4, r, C]⟩ : Shape).Idx → α)
    {hb : Layout.Tiles ⟨3, ![4, r, C]⟩ ⟨3, ![32, r, C]⟩ 0 8} (hA : ∀ d, A d = Layout.block ⟨3, ![4, r, C]⟩ ⟨3, ![32, r, C]⟩ 0 8 d v hb)
    (hM : ∀ (d : Fin 8) (i : (⟨3, ![4, h, C]⟩ : Shape).Idx) (x : (⟨3, ![4, r, C]⟩ : Shape).Idx), d.val = 2 * (c.val / 2) + (1 - c.val % 2) → (x 0).val = (i 0).val → (x 1).val = (c.val % 2) * h + (i 1).val → (x 2).val = (i 2).val → M i = A d x)
    {hb' : Layout.Tiles ⟨3, ![4, h, C]⟩ ⟨3, ![32, h, C]⟩ 0 8} :
    M = Layout.block ⟨3, ![4, h, C]⟩ ⟨3, ![32, h, C]⟩ 0 8 c (shapeCast ⟨3, ![32, h, C]⟩ (concatenate ⟨5, ![4, 2, 4, h, C]⟩ 1
      [⟨⟨5, ![4, 1, 4, h, C]⟩, broadcastInDim ⟨5, ![4, 1, 4, h, C]⟩ ![0, 2, 3, 4] hbc (shapeCast ⟨4, ![4, 4, h, C]⟩ (extractStridedSlice ⟨6, ![4, 1, 4, 1, h, C]⟩ ![0, 1, 0, 0, 0, 0] (shapeCast ⟨6, ![4, 2, 4, 2, h, C]⟩ v hc) hs) hq)⟩,
       ⟨⟨5, ![4, 1, 4, h, C]⟩, broadcastInDim ⟨5, ![4, 1, 4, h, C]⟩ ![0, 2, 3, 4] hbc (shapeCast ⟨4, ![4, 4, h, C]⟩ (extractStridedSlice ⟨6, ![4, 1, 4, 1, h, C]⟩ ![0, 0, 0, 1, 0, 0] (shapeCast ⟨6, ![4, 2, 4, 2, h, C]⟩ v hc) hs') hq)⟩] hcat) hc') hb' := by
  funext i
  have hc8 := c.isLt
  have hi0 : (i 0).val < 4 := (i 0).isLt
  have hi1 : (i 1).val < h := (i 1).isLt
  have hd : 2 * (c.val / 2) + (1 - c.val % 2) < 8 := by omega
  show M i = concatenate (α := α) ⟨5, ![4, 2, 4, h, C]⟩ 1 [⟨_, _⟩, ⟨_, _⟩] hcat (Shape.reshapeEquiv hc' (hb'.idx c i))
  rw [split_planes hc' (hb'.idx c i) ⟨c.val / 2, by omega⟩ ⟨c.val % 2, by omega⟩ ⟨(i 0).val, hi0⟩ ⟨(i 1).val, (i 1).isLt⟩ ⟨(i 2).val, (i 2).isLt⟩
    (by rw [Layout.Tiles.idx_val]; show c.val * 4 + (i 0).val = _; dsimp only; omega) (by rw [Layout.Tiles.idx_val]; rfl) (by rw [Layout.Tiles.idx_val]; rfl)]
  rcases Nat.mod_two_eq_zero_or_one c.val with hk | hk
  · rw [hM ⟨2 * (c.val / 2) + (1 - c.val % 2), hd⟩ i (at3 ⟨(i 0).val, hi0⟩ ⟨(i 1).val, by omega⟩ ⟨(i 2).val, (i 2).isLt⟩) rfl rfl (by rw [hk, Nat.zero_mul, Nat.zero_add]; rfl) rfl, hA]
    refine Eq.symm ((concatenate_pair_apply_left _ _ _ hcat _ rfl (at5 ⟨c.val / 2, by omega⟩ 0 ⟨(i 0).val, hi0⟩ ⟨(i 1).val, (i 1).isLt⟩ ⟨(i 2).val, (i 2).isLt⟩) (fun b => by
      match b with | 0 => rfl | 1 => exact hk.symm | 2 => rfl | 3 => rfl | 4 => rfl)).trans ?_)
    refine half_piece hr 1 0 v hc hs hq hbc _ _ ⟨(i 1).val, (i 1).isLt⟩ ⟨(i 2).val, (i 2).isLt⟩ _ ?_ ?_ ?_
    · rw [Layout.Tiles.idx_val]; show (2 * (c.val / 2) + (1 - c.val % 2)) * 4 + (i 0).val = _; rw [hk]
    · rw [Layout.Tiles.idx_val, Nat.zero_mul, Nat.zero_add]; rfl
    · rw [Layout.Tiles.idx_val]; rfl
  · rw [hM ⟨2 * (c.val / 2) + (1 - c.val % 2), hd⟩ i (at3 ⟨(i 0).val, hi0⟩ ⟨h + (i 1).val, by omega⟩ ⟨(i 2).val, (i 2).isLt⟩) rfl rfl (by rw [hk, Nat.one_mul]; rfl) rfl, hA]
    refine Eq.symm ((concatenate_pair_apply_right _ _ _ hcat _ rfl rfl (at5 ⟨c.val / 2, by omega⟩ 0 ⟨(i 0).val, hi0⟩ ⟨(i 1).val, (i 1).isLt⟩ ⟨(i 2).val, (i 2).isLt⟩) (fun b hne => by
      match b with | 0 => rfl | 1 => exact absurd rfl hne | 2 => rfl | 3 => rfl | 4 => rfl) (by show 0 + 1 = c.val % 2; omega)).trans ?_)
    refine half_piece hr 0 1 v hc hs' hq hbc _ _ ⟨(i 1).val, (i 1).isLt⟩ ⟨(i 2).val, (i 2).isLt⟩ _ ?_ ?_ ?_
    · rw [Layout.Tiles.idx_val]; show (2 * (c.val / 2) + (1 - c.val % 2)) * 4 + (i 0).val = _; rw [hk]
    · rw [Layout.Tiles.idx_val, Nat.one_mul]; rfl
    · rw [Layout.Tiles.idx_val]; rfl

/-- A whole array cut into the chips' blocks of rows, stacked: element by element, block `b` is what some device of
    chip `b` holds. -/
theorem stacked {α : Type} {r C N : ℕ} (hN : N = 4 * r) (v : (⟨2, ![N, C]⟩ : Shape).Idx → α) (hc : (⟨2, ![N, C]⟩ : Shape).ShapeCasts ⟨3, ![4, r, C]⟩)
    (M : (⟨3, ![4, r, C]⟩ : Shape).Idx → α) (A : Fin 8 → (⟨2, ![r, C]⟩ : Shape).Idx → α)
    {hl : ∀ d : Fin 8, _} {hb : Layout.TilesN ⟨2, ![r, C]⟩ ⟨2, ![N, C]⟩ fun b => Layout.cutSize [2, 2, 2] ((![[0, 1], []] : Fin 2 → List ℕ) b)}
    (hA : ∀ d, A d = Layout.blockN ⟨2, ![r, C]⟩ ⟨2, ![N, C]⟩ (Layout.meshBlock [2, 2, 2] ![[0, 1], []] d (hl d)) v hb)
    (hM : ∀ i : (⟨3, ![4, r, C]⟩ : Shape).Idx, ∃ d : Fin 8, d.val / 2 = (i 0).val ∧ ∀ x : (⟨2, ![r, C]⟩ : Shape).Idx, (x 0).val = (i 1).val → (x 1).val = (i 2).val → M i = A d x) :
    M = shapeCast ⟨3, ![4, r, C]⟩ v hc := by
  funext i
  have hi0 : (i 0).val < 4 := (i 0).isLt
  obtain ⟨d, hd, hx⟩ := hM i
  rw [hx (fun a => match a with | 0 => ⟨(i 1).val, (i 1).isLt⟩ | 1 => ⟨(i 2).val, (i 2).isLt⟩) rfl rfl, hA]
  show v _ = v _
  refine congrArg v (Eq.symm (Shape.reshapeEquiv_eq_of_rowMajor hc ?_))
  rw [rowMajor_val2 _ C rfl, rowMajor_val3 _ (r * C) C rfl rfl]
  simp only [Layout.TilesN.idx_val]
  show (Layout.meshLin [2, 2, 2] d.val [0, 1] * r + (i 1).val) * C + (0 * C + (i 2).val) = (i 0).val * (r * C) + (i 1).val * C + (i 2).val
  rw [chip_lin]
  have e : d.val / 4 % 2 * 2 + d.val / 2 % 2 = (i 0).val := by omega
  rw [e]
  simp only [Nat.add_mul, Nat.mul_assoc, Nat.zero_mul, Nat.zero_add, Nat.add_assoc]

end Cert.Talk
-- ==== Proof.ShareValue.lean ====
/-
What the exchange of halves between the cores of a chip computes, against the whole arrays cut into the chips' pairs.
-/
module

public import proofs.«01_k».proof.Defs
public import proofs.«01_k».proof.Proof.ShareTalk
public import proofs.«01_k».proof.Proof.Layouts
public import proofs.«01_k».proof.Proof.Gen.Share
public import proofs.«01_k».proof.Proof.Gen.ShareReference
public import proofs.«01_k».proof.Proof.Gen.ShareReferenceIdeal
public import proofs.«01_k».proof.Proof.Gen.ShareReferenceIdeal.Run

@[expose] public section

noncomputable section

namespace Cert.ShareTalk

open Idealize.ShloMosaic Idealize.ShloMosaic.TcCoe Idealize.SL.Sem
open Cert.Talk

/-- For any float values: the devices' results are their blocks of the reference's. -/
theorem value (F : FTy → Type) [FloatOps F] :
  ∀ (m : (ℓ : Loc Cert.ShareIdeal.nD Cert.ShareIdeal.τ Cert.ShareIdeal.sig) → Buf (Elt F) ℓ) (g : Dev Cert.ShareIdeal.nD → PrngReg)
    (m' : (ℓ : Loc Cert.ShareReferenceIdeal.nD Cert.ShareReferenceIdeal.τ Cert.ShareReferenceIdeal.sig) → Buf (Elt F) ℓ) (g' : Dev Cert.ShareReferenceIdeal.nD → PrngReg),
    (∀ c : Dev Cert.ShareIdeal.nD,
      m ((c.tc : Thread Cert.ShareIdeal.nD Cert.ShareIdeal.τ).loc Cert.ShareIdeal.main_arg0) = Layout.block ⟨2, ![512, 1536]⟩ ⟨2, ![4096, 1536]⟩ 0 8 c (m' (((0 : Dev Cert.ShareReferenceIdeal.nD).tc : Thread Cert.ShareReferenceIdeal.nD Cert.ShareReferenceIdeal.τ).loc Cert.ShareReferenceIdeal.main_arg0))
      ∧ m ((c.tc : Thread Cert.ShareIdeal.nD Cert.ShareIdeal.τ).loc Cert.ShareIdeal.main_arg1) = Layout.block ⟨2, ![128, 256]⟩ ⟨2, ![1024, 256]⟩ 0 8 c (m' (((0 : Dev Cert.ShareReferenceIdeal.nD).tc : Thread Cert.ShareReferenceIdeal.nD Cert.ShareReferenceIdeal.τ).loc Cert.ShareReferenceIdeal.main_arg1))
      ∧ m ((c.tc : Thread Cert.ShareIdeal.nD Cert.ShareIdeal.τ).loc Cert.ShareIdeal.main_arg2) = Layout.block ⟨2, ![128, 256]⟩ ⟨2, ![1024, 256]⟩ 0 8 c (m' (((0 : Dev Cert.ShareReferenceIdeal.nD).tc : Thread Cert.ShareReferenceIdeal.nD Cert.ShareReferenceIdeal.τ).loc Cert.ShareReferenceIdeal.main_arg2))
      ∧ m ((c.tc : Thread Cert.ShareIdeal.nD Cert.ShareIdeal.τ).loc Cert.ShareIdeal.main_arg3) = Layout.block ⟨2, ![128, 1024]⟩ ⟨2, ![1024, 1024]⟩ 0 8 c (m' (((0 : Dev Cert.ShareReferenceIdeal.nD).tc : Thread Cert.ShareReferenceIdeal.nD Cert.ShareReferenceIdeal.τ).loc Cert.ShareReferenceIdeal.main_arg3))
      ∧ m ((c.tc : Thread Cert.ShareIdeal.nD Cert.ShareIdeal.τ).loc Cert.ShareIdeal.main_arg4) = Layout.block ⟨2, ![128, 1024]⟩ ⟨2, ![1024, 1024]⟩ 0 8 c (m' (((0 : Dev Cert.ShareReferenceIdeal.nD).tc : Thread Cert.ShareReferenceIdeal.nD Cert.ShareReferenceIdeal.τ).loc Cert.ShareReferenceIdeal.main_arg4))
      ∧ m ((c.tc : Thread Cert.ShareIdeal.nD Cert.ShareIdeal.τ).loc Cert.ShareIdeal.main_arg5) = Layout.block ⟨2, ![128, 1024]⟩ ⟨2, ![1024, 1024]⟩ 0 8 c (m' (((0 : Dev Cert.ShareReferenceIdeal.nD).tc : Thread Cert.ShareReferenceIdeal.nD Cert.ShareReferenceIdeal.τ).loc Cert.ShareReferenceIdeal.main_arg5))
      ∧ m ((c.tc : Thread Cert.ShareIdeal.nD Cert.ShareIdeal.τ).loc Cert.ShareIdeal.main_arg6) = Layout.block ⟨2, ![512, 1024]⟩ ⟨2, ![4096, 1024]⟩ 0 8 c (m' (((0 : Dev Cert.ShareReferenceIdeal.nD).tc : Thread Cert.ShareReferenceIdeal.nD Cert.ShareReferenceIdeal.τ).loc Cert.ShareReferenceIdeal.main_arg6))
      ∧ m ((c.tc : Thread Cert.ShareIdeal.nD Cert.ShareIdeal.τ).loc Cert.ShareIdeal.main_arg7) = Layout.block ⟨2, ![512, 1024]⟩ ⟨2, ![4096, 1024]⟩ 0 8 c (m' (((0 : Dev Cert.ShareReferenceIdeal.nD).tc : Thread Cert.ShareReferenceIdeal.nD Cert.ShareReferenceIdeal.τ).loc Cert.ShareReferenceIdeal.main_arg7))) →
    ∃ (v0 : Buf (Elt F) (((0 : Dev Cert.ShareReferenceIdeal.nD).tc : Thread Cert.ShareReferenceIdeal.nD Cert.ShareReferenceIdeal.τ).loc Cert.ShareReferenceIdeal.main_v0)) (v1 : Buf (Elt F) (((0 : Dev Cert.ShareReferenceIdeal.nD).tc : Thread Cert.ShareReferenceIdeal.nD Cert.ShareReferenceIdeal.τ).loc Cert.ShareReferenceIdeal.main_v1)) (v2 : Buf (Elt F) (((0 : Dev Cert.ShareReferenceIdeal.nD).tc : Thread Cert.ShareReferenceIdeal.nD Cert.ShareReferenceIdeal.τ).loc Cert.ShareReferenceIdeal.main_v2)) (v3 : Buf (Elt F) (((0 : Dev Cert.ShareReferenceIdeal.nD).tc : Thread Cert.ShareReferenceIdeal.nD Cert.ShareReferenceIdeal.τ).loc Cert.ShareReferenceIdeal.main_v3)) (v4 : Buf (Elt F) (((0 : Dev Cert.ShareReferenceIdeal.nD).tc : Thread Cert.ShareReferenceIdeal.nD Cert.ShareReferenceIdeal.τ).loc Cert.ShareReferenceIdeal.main_v4)) (v5 : Buf (Elt F) (((0 : Dev Cert.ShareReferenceIdeal.nD).tc : Thread Cert.ShareReferenceIdeal.nD Cert.ShareReferenceIdeal.τ).loc Cert.ShareReferenceIdeal.main_v5)) (v6 : Buf (Elt F) (((0 : Dev Cert.ShareReferenceIdeal.nD).tc : Thread Cert.ShareReferenceIdeal.nD Cert.ShareReferenceIdeal.τ).loc Cert.ShareReferenceIdeal.main_v6)) (v7 : Buf (Elt F) (((0 : Dev Cert.ShareReferenceIdeal.nD).tc : Thread Cert.ShareReferenceIdeal.nD Cert.ShareReferenceIdeal.τ).loc Cert.ShareReferenceIdeal.main_v7)),
      θ_run (Cert.ShareIdeal.defs (F := F)) (onTc (τ := Cert.ShareIdeal.τ) (Cert.ShareIdeal.main (F := F))) ⟨m, fun _ => 0, g⟩ (fun r => ∀ c : Dev Cert.ShareIdeal.nD,
          r.2.mem ((c.tc : Thread Cert.ShareIdeal.nD Cert.ShareIdeal.τ).loc Cert.ShareIdeal.main_v1_0) = Layout.blockN ⟨3, ![2, 512, 1536]⟩ ⟨3, ![8, 512, 1536]⟩ (Layout.meshBlock [2, 2, 2] ![[0, 1], [], []] c) v0
          ∧ r.2.mem ((c.tc : Thread Cert.ShareIdeal.nD Cert.ShareIdeal.τ).loc Cert.ShareIdeal.main_v1_1) = Layout.blockN ⟨3, ![2, 128, 256]⟩ ⟨3, ![8, 128, 256]⟩ (Layout.meshBlock [2, 2, 2] ![[0, 1], [], []] c) v1
          ∧ r.2.mem ((c.tc : Thread Cert.ShareIdeal.nD Cert.ShareIdeal.τ).loc Cert.ShareIdeal.main_v1_2) = Layout.blockN ⟨3, ![2, 128, 256]⟩ ⟨3, ![8, 128, 256]⟩ (Layout.meshBlock [2, 2, 2] ![[0, 1], [], []] c) v2
          ∧ r.2.mem ((c.tc : Thread Cert.ShareIdeal.nD Cert.ShareIdeal.τ).loc Cert.ShareIdeal.main_v1_3) = Layout.blockN ⟨3, ![2, 128, 1024]⟩ ⟨3, ![8, 128, 1024]⟩ (Layout.meshBlock [2, 2, 2] ![[0, 1], [], []] c) v3
          ∧ r.2.mem ((c.tc : Thread Cert.ShareIdeal.nD Cert.ShareIdeal.τ).loc Cert.ShareIdeal.main_v1_4) = Layout.blockN ⟨3, ![2, 128, 1024]⟩ ⟨3, ![8, 128, 1024]⟩ (Layout.meshBlock [2, 2, 2] ![[0, 1], [], []] c) v4
          ∧ r.2.mem ((c.tc : Thread Cert.ShareIdeal.nD Cert.ShareIdeal.τ).loc Cert.ShareIdeal.main_v1_5) = Layout.blockN ⟨3, ![2, 128, 1024]⟩ ⟨3, ![8, 128, 1024]⟩ (Layout.meshBlock [2, 2, 2] ![[0, 1], [], []] c) v5
          ∧ r.2.mem ((c.tc : Thread Cert.ShareIdeal.nD Cert.ShareIdeal.τ).loc Cert.ShareIdeal.main_v1_6) = Layout.blockN ⟨3, ![2, 512, 1024]⟩ ⟨3, ![8, 512, 1024]⟩ (Layout.meshBlock [2, 2, 2] ![[0, 1], [], []] c) v6
          ∧ r.2.mem ((c.tc : Thread Cert.ShareIdeal.nD Cert.ShareIdeal.τ).loc Cert.ShareIdeal.main_v1_7) = Layout.blockN ⟨3, ![2, 512, 1024]⟩ ⟨3, ![8, 512, 1024]⟩ (Layout.meshBlock [2, 2, 2] ![[0, 1], [], []] c) v7
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
          ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1)
          ∧ r.2.mem ((c.tc : Thread Cert.ShareIdeal.nD Cert.ShareIdeal.τ).loc Cert.ShareIdeal.main_arg2) = m ((c.tc : Thread Cert.ShareIdeal.nD Cert.ShareIdeal.τ).loc Cert.ShareIdeal.main_arg2)
          ∧ r.2.mem ((c.tc : Thread Cert.ShareIdeal.nD Cert.ShareIdeal.τ).loc Cert.ShareIdeal.main_arg3) = m ((c.tc : Thread Cert.ShareIdeal.nD Cert.ShareIdeal.τ).loc Cert.ShareIdeal.main_arg3)
          ∧ r.2.mem ((c.tc : Thread Cert.ShareIdeal.nD Cert.ShareIdeal.τ).loc Cert.ShareIdeal.main_arg4) = m ((c.tc : Thread Cert.ShareIdeal.nD Cert.ShareIdeal.τ).loc Cert.ShareIdeal.main_arg4)
          ∧ r.2.mem ((c.tc : Thread Cert.ShareIdeal.nD Cert.ShareIdeal.τ).loc Cert.ShareIdeal.main_arg5) = m ((c.tc : Thread Cert.ShareIdeal.nD Cert.ShareIdeal.τ).loc Cert.ShareIdeal.main_arg5)
          ∧ r.2.mem ((c.tc : Thread Cert.ShareIdeal.nD Cert.ShareIdeal.τ).loc Cert.ShareIdeal.main_arg6) = m ((c.tc : Thread Cert.ShareIdeal.nD Cert.ShareIdeal.τ).loc Cert.ShareIdeal.main_arg6)
          ∧ r.2.mem ((c.tc : Thread Cert.ShareIdeal.nD Cert.ShareIdeal.τ).loc Cert.ShareIdeal.main_arg7) = m ((c.tc : Thread Cert.ShareIdeal.nD Cert.ShareIdeal.τ).loc Cert.ShareIdeal.main_arg7))
      ∧ θ_run (Cert.ShareReferenceIdeal.defs (F := F)) (onTc (τ := Cert.ShareReferenceIdeal.τ) (Cert.ShareReferenceIdeal.main (F := F))) ⟨m', fun _ => 0, g'⟩ (fun r =>
          r.2.mem (((0 : Dev Cert.ShareReferenceIdeal.nD).tc : Thread Cert.ShareReferenceIdeal.nD Cert.ShareReferenceIdeal.τ).loc Cert.ShareReferenceIdeal.main_v0) = v0
          ∧ r.2.mem (((0 : Dev Cert.ShareReferenceIdeal.nD).tc : Thread Cert.ShareReferenceIdeal.nD Cert.ShareReferenceIdeal.τ).loc Cert.ShareReferenceIdeal.main_v1) = v1
          ∧ r.2.mem (((0 : Dev Cert.ShareReferenceIdeal.nD).tc : Thread Cert.ShareReferenceIdeal.nD Cert.ShareReferenceIdeal.τ).loc Cert.ShareReferenceIdeal.main_v2) = v2
          ∧ r.2.mem (((0 : Dev Cert.ShareReferenceIdeal.nD).tc : Thread Cert.ShareReferenceIdeal.nD Cert.ShareReferenceIdeal.τ).loc Cert.ShareReferenceIdeal.main_v3) = v3
          ∧ r.2.mem (((0 : Dev Cert.ShareReferenceIdeal.nD).tc : Thread Cert.ShareReferenceIdeal.nD Cert.ShareReferenceIdeal.τ).loc Cert.ShareReferenceIdeal.main_v4) = v4
          ∧ r.2.mem (((0 : Dev Cert.ShareReferenceIdeal.nD).tc : Thread Cert.ShareReferenceIdeal.nD Cert.ShareReferenceIdeal.τ).loc Cert.ShareReferenceIdeal.main_v5) = v5
          ∧ r.2.mem (((0 : Dev Cert.ShareReferenceIdeal.nD).tc : Thread Cert.ShareReferenceIdeal.nD Cert.ShareReferenceIdeal.τ).loc Cert.ShareReferenceIdeal.main_v6) = v6
          ∧ r.2.mem (((0 : Dev Cert.ShareReferenceIdeal.nD).tc : Thread Cert.ShareReferenceIdeal.nD Cert.ShareReferenceIdeal.τ).loc Cert.ShareReferenceIdeal.main_v7) = v7
          ∧ r.2.mem (((0 : Dev Cert.ShareReferenceIdeal.nD).tc : Thread Cert.ShareReferenceIdeal.nD Cert.ShareReferenceIdeal.τ).loc Cert.ShareReferenceIdeal.main_arg0) = m' (((0 : Dev Cert.ShareReferenceIdeal.nD).tc : Thread Cert.ShareReferenceIdeal.nD Cert.ShareReferenceIdeal.τ).loc Cert.ShareReferenceIdeal.main_arg0)
          ∧ r.2.mem (((0 : Dev Cert.ShareReferenceIdeal.nD).tc : Thread Cert.ShareReferenceIdeal.nD Cert.ShareReferenceIdeal.τ).loc Cert.ShareReferenceIdeal.main_arg1) = m' (((0 : Dev Cert.ShareReferenceIdeal.nD).tc : Thread Cert.ShareReferenceIdeal.nD Cert.ShareReferenceIdeal.τ).loc Cert.ShareReferenceIdeal.main_arg1)
          ∧ r.2.mem (((0 : Dev Cert.ShareReferenceIdeal.nD).tc : Thread Cert.ShareReferenceIdeal.nD Cert.ShareReferenceIdeal.τ).loc Cert.ShareReferenceIdeal.main_arg2) = m' (((0 : Dev Cert.ShareReferenceIdeal.nD).tc : Thread Cert.ShareReferenceIdeal.nD Cert.ShareReferenceIdeal.τ).loc Cert.ShareReferenceIdeal.main_arg2)
          ∧ r.2.mem (((0 : Dev Cert.ShareReferenceIdeal.nD).tc : Thread Cert.ShareReferenceIdeal.nD Cert.ShareReferenceIdeal.τ).loc Cert.ShareReferenceIdeal.main_arg3) = m' (((0 : Dev Cert.ShareReferenceIdeal.nD).tc : Thread Cert.ShareReferenceIdeal.nD Cert.ShareReferenceIdeal.τ).loc Cert.ShareReferenceIdeal.main_arg3)
          ∧ r.2.mem (((0 : Dev Cert.ShareReferenceIdeal.nD).tc : Thread Cert.ShareReferenceIdeal.nD Cert.ShareReferenceIdeal.τ).loc Cert.ShareReferenceIdeal.main_arg4) = m' (((0 : Dev Cert.ShareReferenceIdeal.nD).tc : Thread Cert.ShareReferenceIdeal.nD Cert.ShareReferenceIdeal.τ).loc Cert.ShareReferenceIdeal.main_arg4)
          ∧ r.2.mem (((0 : Dev Cert.ShareReferenceIdeal.nD).tc : Thread Cert.ShareReferenceIdeal.nD Cert.ShareReferenceIdeal.τ).loc Cert.ShareReferenceIdeal.main_arg5) = m' (((0 : Dev Cert.ShareReferenceIdeal.nD).tc : Thread Cert.ShareReferenceIdeal.nD Cert.ShareReferenceIdeal.τ).loc Cert.ShareReferenceIdeal.main_arg5)
          ∧ r.2.mem (((0 : Dev Cert.ShareReferenceIdeal.nD).tc : Thread Cert.ShareReferenceIdeal.nD Cert.ShareReferenceIdeal.τ).loc Cert.ShareReferenceIdeal.main_arg6) = m' (((0 : Dev Cert.ShareReferenceIdeal.nD).tc : Thread Cert.ShareReferenceIdeal.nD Cert.ShareReferenceIdeal.τ).loc Cert.ShareReferenceIdeal.main_arg6)
          ∧ r.2.mem (((0 : Dev Cert.ShareReferenceIdeal.nD).tc : Thread Cert.ShareReferenceIdeal.nD Cert.ShareReferenceIdeal.τ).loc Cert.ShareReferenceIdeal.main_arg7) = m' (((0 : Dev Cert.ShareReferenceIdeal.nD).tc : Thread Cert.ShareReferenceIdeal.nD Cert.ShareReferenceIdeal.τ).loc Cert.ShareReferenceIdeal.main_arg7)) := by
  intro m g m' g' hin
  refine ⟨_, _, _, _, _, _, _, _, (θ_run Cert.ShareIdeal.defs _ _).mono (fun r h c => ?_) (run (F := F) m g),
    (θ_run Cert.ShareReferenceIdeal.defs _ _).mono (fun r h => h 0) (Cert.ShareReferenceIdeal.Value.run (F := F) m' g')⟩
  exact ⟨
    pair_blocks rfl _ _ c _ (fun d : Dev Cert.ShareIdeal.nD => m ((d.tc : Thread Cert.ShareIdeal.nD Cert.ShareIdeal.τ).loc Cert.ShareIdeal.main_arg0)) (fun d => (hin d).1) (fun d i x => h.2.1 c d 0 i x),
    pair_blocks rfl _ _ c _ (fun d : Dev Cert.ShareIdeal.nD => m ((d.tc : Thread Cert.ShareIdeal.nD Cert.ShareIdeal.τ).loc Cert.ShareIdeal.main_arg1)) (fun d => (hin d).2.1) (fun d i x => h.2.1 c d 1 i x),
    pair_blocks rfl _ _ c _ (fun d : Dev Cert.ShareIdeal.nD => m ((d.tc : Thread Cert.ShareIdeal.nD Cert.ShareIdeal.τ).loc Cert.ShareIdeal.main_arg2)) (fun d => (hin d).2.2.1) (fun d i x => h.2.1 c d 2 i x),
    pair_blocks rfl _ _ c _ (fun d : Dev Cert.ShareIdeal.nD => m ((d.tc : Thread Cert.ShareIdeal.nD Cert.ShareIdeal.τ).loc Cert.ShareIdeal.main_arg3)) (fun d => (hin d).2.2.2.1) (fun d i x => h.2.1 c d 3 i x),
    pair_blocks rfl _ _ c _ (fun d : Dev Cert.ShareIdeal.nD => m ((d.tc : Thread Cert.ShareIdeal.nD Cert.ShareIdeal.τ).loc Cert.ShareIdeal.main_arg4)) (fun d => (hin d).2.2.2.2.1) (fun d i x => h.2.1 c d 4 i x),
    pair_blocks rfl _ _ c _ (fun d : Dev Cert.ShareIdeal.nD => m ((d.tc : Thread Cert.ShareIdeal.nD Cert.ShareIdeal.τ).loc Cert.ShareIdeal.main_arg5)) (fun d => (hin d).2.2.2.2.2.1) (fun d i x => h.2.1 c d 5 i x),
    pair_blocks rfl _ _ c _ (fun d : Dev Cert.ShareIdeal.nD => m ((d.tc : Thread Cert.ShareIdeal.nD Cert.ShareIdeal.τ).loc Cert.ShareIdeal.main_arg6)) (fun d => (hin d).2.2.2.2.2.2.1) (fun d i x => h.2.1 c d 6 i x),
    pair_blocks rfl _ _ c _ (fun d : Dev Cert.ShareIdeal.nD => m ((d.tc : Thread Cert.ShareIdeal.nD Cert.ShareIdeal.τ).loc Cert.ShareIdeal.main_arg7)) (fun d => (hin d).2.2.2.2.2.2.2) (fun d i x => h.2.1 c d 7 i x),
    h.1 c 0, h.1 c 1, h.1 c 2, h.1 c 3, h.1 c 4, h.1 c 5, h.1 c 6, h.1 c 7⟩

theorem algebraic : Cert.algebraic_ShareIdeal_ShareReferenceIdeal := fun m g m' g' _ => value Ideal m g m' g'

theorem bitexact : Cert.bitexact_Share_ShareReference := fun m g m' g' _ => value Bits m g m' g'

theorem frame_ideal : Cert.quiescent_ShareIdeal := fun m g _ =>
  (θ_run Cert.ShareIdeal.defs _ _).mono (fun r h => ⟨fun c => ⟨h.1 c 0, h.1 c 1, h.1 c 2, h.1 c 3, h.1 c 4, h.1 c 5, h.1 c 6, h.1 c 7⟩, h.2.2⟩) (run (F := Ideal) m g)

theorem frame : Cert.quiescent_Share := fun m g _ =>
  (θ_run Cert.ShareIdeal.defs _ _).mono (fun r h => ⟨fun c => ⟨h.1 c 0, h.1 c 1, h.1 c 2, h.1 c 3, h.1 c 4, h.1 c 5, h.1 c 6, h.1 c 7⟩, h.2.2⟩) (run (F := Bits) m g)

theorem frame_reference_ideal : Cert.quiescent_ShareReferenceIdeal := fun m g _ =>
  (θ_run Cert.ShareReferenceIdeal.defs _ _).mono (fun r h => ⟨fun c => (h c).2.2.2.2.2.2.2.2, sem_eq_zero_of_no_sems (by decide) r.2⟩)
    (Cert.ShareReferenceIdeal.Value.run (F := Ideal) m g)

theorem frame_reference : Cert.quiescent_ShareReference := fun m g _ =>
  (θ_run Cert.ShareReferenceIdeal.defs _ _).mono (fun r h => ⟨fun c => (h c).2.2.2.2.2.2.2.2, sem_eq_zero_of_no_sems (by decide) r.2⟩)
    (Cert.ShareReferenceIdeal.Value.run (F := Bits) m g)

end Cert.ShareTalk

end
-- ==== Proof.ExchangeTalk.lean ====
/-
The run of the exchange of the cores' sums between the chips: each device copies the block meant for its own chip into
the result, and sends the block meant for another chip to the like core of that chip.
-/
module

public import proofs.«01_k».proof.Proof.Blocks
public import proofs.«01_k».proof.Proof.Gen.ExchangeIdeal
public import proofs.«01_k».proof.Proof.Gen.ExchangeIdeal.Launch
public import proofs.«01_k».proof.Proof.Gen.ExchangeIdeal.Points
public import proofs.«01_k».proof.Proof.Gen.ExchangeIdeal.Skeleton

@[expose] public section

noncomputable section

namespace Cert.ExchangeTalk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Talk Cert.ExchangeIdeal Cert.ExchangeIdeal.Gen

variable {F : FTy → Type} [FloatOps F]

local notation "𝕄" => MT nD τ sig Unit (Elt F) ℕ (UR sig nD τ) ℕ

/-! ### The arrays, by number -/

/-- The rows of a core's half of a chip's part of an array. -/
def hs : Fin 8 → ℕ := ![512, 128, 128, 128, 128, 128, 512, 512]
/-- The columns of an array. -/
def cs : Fin 8 → ℕ := ![1536, 256, 256, 1024, 1024, 1024, 1024, 1024]

abbrev Sin (w : Fin 8) : Shape := ⟨2, ![hs w, cs w]⟩
abbrev Sblk (w : Fin 8) : Shape := ⟨3, ![1, hs w, cs w]⟩
abbrev Sout (w : Fin 8) : Shape := ⟨3, ![4, hs w, cs w]⟩

def inM : (w : Fin 8) → Memref sig .tc .hbm (Sout w) .bf16
  | 0 => (Memref.whole main_arg0 : Memref sig .tc .hbm _ .bf16)
  | 1 => (Memref.whole main_arg1 : Memref sig .tc .hbm _ .bf16)
  | 2 => (Memref.whole main_arg2 : Memref sig .tc .hbm _ .bf16)
  | 3 => (Memref.whole main_arg3 : Memref sig .tc .hbm _ .bf16)
  | 4 => (Memref.whole main_arg4 : Memref sig .tc .hbm _ .bf16)
  | 5 => (Memref.whole main_arg5 : Memref sig .tc .hbm _ .bf16)
  | 6 => (Memref.whole main_arg6 : Memref sig .tc .hbm _ .bf16)
  | 7 => (Memref.whole main_arg7 : Memref sig .tc .hbm _ .bf16)

def outM : (w : Fin 8) → Memref sig .tc .hbm (Sout w) .bf16
  | 0 => (Memref.whole main_v1_0 : Memref sig .tc .hbm _ .bf16)
  | 1 => (Memref.whole main_v1_1 : Memref sig .tc .hbm _ .bf16)
  | 2 => (Memref.whole main_v1_2 : Memref sig .tc .hbm _ .bf16)
  | 3 => (Memref.whole main_v1_3 : Memref sig .tc .hbm _ .bf16)
  | 4 => (Memref.whole main_v1_4 : Memref sig .tc .hbm _ .bf16)
  | 5 => (Memref.whole main_v1_5 : Memref sig .tc .hbm _ .bf16)
  | 6 => (Memref.whole main_v1_6 : Memref sig .tc .hbm _ .bf16)
  | 7 => (Memref.whole main_v1_7 : Memref sig .tc .hbm _ .bf16)

theorem in_whole (w : Fin 8) : (inM w).IsWhole := by
  match w with
  | 0 => exact Memref.isWhole_whole _
  | 1 => exact Memref.isWhole_whole _
  | 2 => exact Memref.isWhole_whole _
  | 3 => exact Memref.isWhole_whole _
  | 4 => exact Memref.isWhole_whole _
  | 5 => exact Memref.isWhole_whole _
  | 6 => exact Memref.isWhole_whole _
  | 7 => exact Memref.isWhole_whole _

theorem out_whole (w : Fin 8) : (outM w).IsWhole := by
  match w with
  | 0 => exact Memref.isWhole_whole _
  | 1 => exact Memref.isWhole_whole _
  | 2 => exact Memref.isWhole_whole _
  | 3 => exact Memref.isWhole_whole _
  | 4 => exact Memref.isWhole_whole _
  | 5 => exact Memref.isWhole_whole _
  | 6 => exact Memref.isWhole_whole _
  | 7 => exact Memref.isWhole_whole _

/-- The chip of a device, then the three others: the other row, the other column, both. -/
def chip (c : Dev nD) : Fin 4 → ℕ
  | 0 => 2 * (c.val / 4) + ((c.val / 2) % 2)
  | 1 => (((c.val / 2) % 2) + 2) - 2 * (c.val / 4)
  | 2 => (2 * (c.val / 4) + 1) - ((c.val / 2) % 2)
  | 3 => 3 - (2 * (c.val / 4) + ((c.val / 2) % 2))

/-- Where the block of a chip starts. -/
def off : Fin 8 → Fin 4 → Dev nD → Fin 3 → ℕ
  | 0, 0 => k0_off1
  | 0, 1 => k0_off2
  | 0, 2 => k0_off3
  | 0, 3 => k0_off4
  | 1, 0 => k0_off5
  | 1, 1 => k0_off6
  | 1, 2 => k0_off7
  | 1, 3 => k0_off8
  | 2, 0 => k0_off5
  | 2, 1 => k0_off6
  | 2, 2 => k0_off7
  | 2, 3 => k0_off8
  | 3, 0 => k0_off9
  | 3, 1 => k0_off10
  | 3, 2 => k0_off11
  | 3, 3 => k0_off12
  | 4, 0 => k0_off9
  | 4, 1 => k0_off10
  | 4, 2 => k0_off11
  | 4, 3 => k0_off12
  | 5, 0 => k0_off9
  | 5, 1 => k0_off10
  | 5, 2 => k0_off11
  | 5, 3 => k0_off12
  | 6, 0 => k0_off13
  | 6, 1 => k0_off14
  | 6, 2 => k0_off15
  | 6, 3 => k0_off16
  | 7, 0 => k0_off13
  | 7, 1 => k0_off14
  | 7, 2 => k0_off15
  | 7, 3 => k0_off16

theorem off_eq (w : Fin 8) (j : Fin 4) (c : Dev nD) : off w j c = ![chip c j, 0, 0] := by
  match w, j with
  | 0, 0 => exact k0_off1_eq c
  | 0, 1 => exact k0_off2_eq c
  | 0, 2 => exact k0_off3_eq c
  | 0, 3 => exact k0_off4_eq c
  | 1, 0 => exact k0_off5_eq c
  | 1, 1 => exact k0_off6_eq c
  | 1, 2 => exact k0_off7_eq c
  | 1, 3 => exact k0_off8_eq c
  | 2, 0 => exact k0_off5_eq c
  | 2, 1 => exact k0_off6_eq c
  | 2, 2 => exact k0_off7_eq c
  | 2, 3 => exact k0_off8_eq c
  | 3, 0 => exact k0_off9_eq c
  | 3, 1 => exact k0_off10_eq c
  | 3, 2 => exact k0_off11_eq c
  | 3, 3 => exact k0_off12_eq c
  | 4, 0 => exact k0_off9_eq c
  | 4, 1 => exact k0_off10_eq c
  | 4, 2 => exact k0_off11_eq c
  | 4, 3 => exact k0_off12_eq c
  | 5, 0 => exact k0_off9_eq c
  | 5, 1 => exact k0_off10_eq c
  | 5, 2 => exact k0_off11_eq c
  | 5, 3 => exact k0_off12_eq c
  | 6, 0 => exact k0_off13_eq c
  | 6, 1 => exact k0_off14_eq c
  | 6, 2 => exact k0_off15_eq c
  | 6, 3 => exact k0_off16_eq c
  | 7, 0 => exact k0_off13_eq c
  | 7, 1 => exact k0_off14_eq c
  | 7, 2 => exact k0_off15_eq c
  | 7, 3 => exact k0_off16_eq c

theorem inb (w : Fin 8) (j : Fin 4) (c : Dev nD) : ∀ a, off w j c a + (Sblk w).size a ≤ (Sout w).size a := by
  match w, j with
  | 0, 0 => exact k0_off1_inb c
  | 0, 1 => exact k0_off2_inb c
  | 0, 2 => exact k0_off3_inb c
  | 0, 3 => exact k0_off4_inb c
  | 1, 0 => exact k0_off5_inb c
  | 1, 1 => exact k0_off6_inb c
  | 1, 2 => exact k0_off7_inb c
  | 1, 3 => exact k0_off8_inb c
  | 2, 0 => exact k0_off5_inb c
  | 2, 1 => exact k0_off6_inb c
  | 2, 2 => exact k0_off7_inb c
  | 2, 3 => exact k0_off8_inb c
  | 3, 0 => exact k0_off9_inb c
  | 3, 1 => exact k0_off10_inb c
  | 3, 2 => exact k0_off11_inb c
  | 3, 3 => exact k0_off12_inb c
  | 4, 0 => exact k0_off9_inb c
  | 4, 1 => exact k0_off10_inb c
  | 4, 2 => exact k0_off11_inb c
  | 4, 3 => exact k0_off12_inb c
  | 5, 0 => exact k0_off9_inb c
  | 5, 1 => exact k0_off10_inb c
  | 5, 2 => exact k0_off11_inb c
  | 5, 3 => exact k0_off12_inb c
  | 6, 0 => exact k0_off13_inb c
  | 6, 1 => exact k0_off14_inb c
  | 6, 2 => exact k0_off15_inb c
  | 6, 3 => exact k0_off16_inb c
  | 7, 0 => exact k0_off13_inb c
  | 7, 1 => exact k0_off14_inb c
  | 7, 2 => exact k0_off15_inb c
  | 7, 3 => exact k0_off16_inb c

theorem words (w : Fin 8) (j : Fin 4) (c : Dev nD) : (Rect.unit (s := Sout w) (off w j c) (Sblk w).size (inb w j c)).WholeWords (EltTy.packing .bf16) := by
  match w, j with
  | 0, 0 => exact k0_off1_wordsbf16 c
  | 0, 1 => exact k0_off2_wordsbf16 c
  | 0, 2 => exact k0_off3_wordsbf16 c
  | 0, 3 => exact k0_off4_wordsbf16 c
  | 1, 0 => exact k0_off5_wordsbf16 c
  | 1, 1 => exact k0_off6_wordsbf16 c
  | 1, 2 => exact k0_off7_wordsbf16 c
  | 1, 3 => exact k0_off8_wordsbf16 c
  | 2, 0 => exact k0_off5_wordsbf16 c
  | 2, 1 => exact k0_off6_wordsbf16 c
  | 2, 2 => exact k0_off7_wordsbf16 c
  | 2, 3 => exact k0_off8_wordsbf16 c
  | 3, 0 => exact k0_off9_wordsbf16 c
  | 3, 1 => exact k0_off10_wordsbf16 c
  | 3, 2 => exact k0_off11_wordsbf16 c
  | 3, 3 => exact k0_off12_wordsbf16 c
  | 4, 0 => exact k0_off9_wordsbf16 c
  | 4, 1 => exact k0_off10_wordsbf16 c
  | 4, 2 => exact k0_off11_wordsbf16 c
  | 4, 3 => exact k0_off12_wordsbf16 c
  | 5, 0 => exact k0_off9_wordsbf16 c
  | 5, 1 => exact k0_off10_wordsbf16 c
  | 5, 2 => exact k0_off11_wordsbf16 c
  | 5, 3 => exact k0_off12_wordsbf16 c
  | 6, 0 => exact k0_off13_wordsbf16 c
  | 6, 1 => exact k0_off14_wordsbf16 c
  | 6, 2 => exact k0_off15_wordsbf16 c
  | 6, 3 => exact k0_off16_wordsbf16 c
  | 7, 0 => exact k0_off13_wordsbf16 c
  | 7, 1 => exact k0_off14_wordsbf16 c
  | 7, 2 => exact k0_off15_wordsbf16 c
  | 7, 3 => exact k0_off16_wordsbf16 c

theorem sq (w : Fin 8) : (Sblk w).Squeezes (Sin w) := by
  match w with
  | 0 => decide
  | 1 => decide
  | 2 => decide
  | 3 => decide
  | 4 => decide
  | 5 => decide
  | 6 => decide
  | 7 => decide

/-- The device of the same core on another chip. -/
def peer (c : Dev nD) : Fin 8 × Fin 3 → Dev nD
  | (0, 0) => ⟨k0_dev1 c, k0_dev1_lt c⟩
  | (0, 1) => ⟨k0_dev2 c, k0_dev2_lt c⟩
  | (0, 2) => ⟨k0_dev3 c, k0_dev3_lt c⟩
  | (1, 0) => ⟨k0_dev4 c, k0_dev4_lt c⟩
  | (1, 1) => ⟨k0_dev5 c, k0_dev5_lt c⟩
  | (1, 2) => ⟨k0_dev6 c, k0_dev6_lt c⟩
  | (2, 0) => ⟨k0_dev7 c, k0_dev7_lt c⟩
  | (2, 1) => ⟨k0_dev8 c, k0_dev8_lt c⟩
  | (2, 2) => ⟨k0_dev9 c, k0_dev9_lt c⟩
  | (3, 0) => ⟨k0_dev10 c, k0_dev10_lt c⟩
  | (3, 1) => ⟨k0_dev11 c, k0_dev11_lt c⟩
  | (3, 2) => ⟨k0_dev12 c, k0_dev12_lt c⟩
  | (4, 0) => ⟨k0_dev13 c, k0_dev13_lt c⟩
  | (4, 1) => ⟨k0_dev14 c, k0_dev14_lt c⟩
  | (4, 2) => ⟨k0_dev15 c, k0_dev15_lt c⟩
  | (5, 0) => ⟨k0_dev16 c, k0_dev16_lt c⟩
  | (5, 1) => ⟨k0_dev17 c, k0_dev17_lt c⟩
  | (5, 2) => ⟨k0_dev18 c, k0_dev18_lt c⟩
  | (6, 0) => ⟨k0_dev19 c, k0_dev19_lt c⟩
  | (6, 1) => ⟨k0_dev20 c, k0_dev20_lt c⟩
  | (6, 2) => ⟨k0_dev21 c, k0_dev21_lt c⟩
  | (7, 0) => ⟨k0_dev22 c, k0_dev22_lt c⟩
  | (7, 1) => ⟨k0_dev23 c, k0_dev23_lt c⟩
  | (7, 2) => ⟨k0_dev24 c, k0_dev24_lt c⟩

theorem peer_val (c : Dev nD) (r : Fin 8 × Fin 3) : (peer c r).val = 2 * chip c r.2.succ + c.val % 2 := by
  have hc := c.isLt
  have hn : nD = 8 := rfl
  match r with
  | (0, 0) => refine (k0_dev1_eq c).trans ?_; show _ = 2 * ((((c.val / 2) % 2) + 2) - 2 * (c.val / 4)) + c.val % 2; omega
  | (0, 1) => refine (k0_dev2_eq c).trans ?_; show _ = 2 * ((2 * (c.val / 4) + 1) - ((c.val / 2) % 2)) + c.val % 2; omega
  | (0, 2) => refine (k0_dev3_eq c).trans ?_; show _ = 2 * (3 - (2 * (c.val / 4) + ((c.val / 2) % 2))) + c.val % 2; omega
  | (1, 0) => refine (k0_dev4_eq c).trans ?_; show _ = 2 * ((((c.val / 2) % 2) + 2) - 2 * (c.val / 4)) + c.val % 2; omega
  | (1, 1) => refine (k0_dev5_eq c).trans ?_; show _ = 2 * ((2 * (c.val / 4) + 1) - ((c.val / 2) % 2)) + c.val % 2; omega
  | (1, 2) => refine (k0_dev6_eq c).trans ?_; show _ = 2 * (3 - (2 * (c.val / 4) + ((c.val / 2) % 2))) + c.val % 2; omega
  | (2, 0) => refine (k0_dev7_eq c).trans ?_; show _ = 2 * ((((c.val / 2) % 2) + 2) - 2 * (c.val / 4)) + c.val % 2; omega
  | (2, 1) => refine (k0_dev8_eq c).trans ?_; show _ = 2 * ((2 * (c.val / 4) + 1) - ((c.val / 2) % 2)) + c.val % 2; omega
  | (2, 2) => refine (k0_dev9_eq c).trans ?_; show _ = 2 * (3 - (2 * (c.val / 4) + ((c.val / 2) % 2))) + c.val % 2; omega
  | (3, 0) => refine (k0_dev10_eq c).trans ?_; show _ = 2 * ((((c.val / 2) % 2) + 2) - 2 * (c.val / 4)) + c.val % 2; omega
  | (3, 1) => refine (k0_dev11_eq c).trans ?_; show _ = 2 * ((2 * (c.val / 4) + 1) - ((c.val / 2) % 2)) + c.val % 2; omega
  | (3, 2) => refine (k0_dev12_eq c).trans ?_; show _ = 2 * (3 - (2 * (c.val / 4) + ((c.val / 2) % 2))) + c.val % 2; omega
  | (4, 0) => refine (k0_dev13_eq c).trans ?_; show _ = 2 * ((((c.val / 2) % 2) + 2) - 2 * (c.val / 4)) + c.val % 2; omega
  | (4, 1) => refine (k0_dev14_eq c).trans ?_; show _ = 2 * ((2 * (c.val / 4) + 1) - ((c.val / 2) % 2)) + c.val % 2; omega
  | (4, 2) => refine (k0_dev15_eq c).trans ?_; show _ = 2 * (3 - (2 * (c.val / 4) + ((c.val / 2) % 2))) + c.val % 2; omega
  | (5, 0) => refine (k0_dev16_eq c).trans ?_; show _ = 2 * ((((c.val / 2) % 2) + 2) - 2 * (c.val / 4)) + c.val % 2; omega
  | (5, 1) => refine (k0_dev17_eq c).trans ?_; show _ = 2 * ((2 * (c.val / 4) + 1) - ((c.val / 2) % 2)) + c.val % 2; omega
  | (5, 2) => refine (k0_dev18_eq c).trans ?_; show _ = 2 * (3 - (2 * (c.val / 4) + ((c.val / 2) % 2))) + c.val % 2; omega
  | (6, 0) => refine (k0_dev19_eq c).trans ?_; show _ = 2 * ((((c.val / 2) % 2) + 2) - 2 * (c.val / 4)) + c.val % 2; omega
  | (6, 1) => refine (k0_dev20_eq c).trans ?_; show _ = 2 * ((2 * (c.val / 4) + 1) - ((c.val / 2) % 2)) + c.val % 2; omega
  | (6, 2) => refine (k0_dev21_eq c).trans ?_; show _ = 2 * (3 - (2 * (c.val / 4) + ((c.val / 2) % 2))) + c.val % 2; omega
  | (7, 0) => refine (k0_dev22_eq c).trans ?_; show _ = 2 * ((((c.val / 2) % 2) + 2) - 2 * (c.val / 4)) + c.val % 2; omega
  | (7, 1) => refine (k0_dev23_eq c).trans ?_; show _ = 2 * ((2 * (c.val / 4) + 1) - ((c.val / 2) % 2)) + c.val % 2; omega
  | (7, 2) => refine (k0_dev24_eq c).trans ?_; show _ = 2 * (3 - (2 * (c.val / 4) + ((c.val / 2) % 2))) + c.val % 2; omega

theorem chip_zero (c : Dev nD) : chip c 0 = c.val / 2 := by
  have hc := c.isLt
  have hn : nD = 8 := rfl
  show 2 * (c.val / 4) + ((c.val / 2) % 2) = c.val / 2
  omega

/-- A peer's own chip is the chip it was addressed by. -/
theorem peer_chip (c : Dev nD) (r : Fin 8 × Fin 3) : chip (peer c r) 0 = chip c r.2.succ := by
  rw [chip_zero, peer_val]; omega

/-- The block a peer sends is the one meant for this device's chip. -/
theorem peer_sends (c : Dev nD) (r : Fin 8 × Fin 3) : chip (peer c r) r.2.succ = chip c 0 := by
  obtain ⟨w, j⟩ := r
  have hc := c.isLt
  have hn : nD = 8 := rfl
  have hp := peer_val c (w, j)
  match j with
  | 0 =>
    change (peer c (w, 0)).val = 2 * ((((c.val / 2) % 2) + 2) - 2 * (c.val / 4)) + c.val % 2 at hp
    show ((((peer c (w, 0)).val / 2) % 2) + 2) - 2 * ((peer c (w, 0)).val / 4) = 2 * (c.val / 4) + ((c.val / 2) % 2)
    omega
  | 1 =>
    change (peer c (w, 1)).val = 2 * ((2 * (c.val / 4) + 1) - ((c.val / 2) % 2)) + c.val % 2 at hp
    show (2 * ((peer c (w, 1)).val / 4) + 1) - (((peer c (w, 1)).val / 2) % 2) = 2 * (c.val / 4) + ((c.val / 2) % 2)
    omega
  | 2 =>
    change (peer c (w, 2)).val = 2 * (3 - (2 * (c.val / 4) + ((c.val / 2) % 2))) + c.val % 2 at hp
    show 3 - (2 * ((peer c (w, 2)).val / 4) + (((peer c (w, 2)).val / 2) % 2)) = 2 * (c.val / 4) + ((c.val / 2) % 2)
    omega

theorem peer_back (c : Dev nD) (r : Fin 8 × Fin 3) : peer (peer c r) r = c := by
  refine Fin.ext ?_
  have hp := peer_val c r
  rw [peer_val, peer_sends, chip_zero]
  omega

/-- The four chips are four. -/
theorem chip_inj (c : Dev nD) : ∀ j j' : Fin 4, j ≠ j' → chip c j ≠ chip c j' := by
  revert c; decide

/-- Every chip is one of them. -/
theorem chip_surj (c : Dev nD) : ∀ b : Fin 4, ∃ j, chip c j = b.val := by
  revert c; decide

/-! ### The plan -/

/-- The block of a chip in an argument. -/
abbrev bin (w : Fin 8) (j : Fin 4) (c : Dev nD) : Memref sig .tc .hbm (Sin w) .bf16 := slab (inM w) (off w j c) (inb w j c) (sq w)
/-- The block of a chip in a result. -/
abbrev bout (w : Fin 8) (j : Fin 4) (c : Dev nD) : Memref sig .tc .hbm (Sin w) .bf16 := slab (outM w) (off w j c) (inb w j c) (sq w)
theorem bin_word (w : Fin 8) (j : Fin 4) (c : Dev nD) : (bin w j c).view.WordExact := ((in_whole w).wordExact_slice rfl _ (words w j c)).reshape _ _
theorem bout_word (w : Fin 8) (j : Fin 4) (c : Dev nD) : (bout w j c).view.WordExact := ((out_whole w).wordExact_slice rfl _ (words w j c)).reshape _ _
theorem in_plain (w : Fin 8) : (inM w).view.ref.isScScratch = false := by
  match w with
  | 0 => rfl
  | 1 => rfl
  | 2 => rfl
  | 3 => rfl
  | 4 => rfl
  | 5 => rfl
  | 6 => rfl
  | 7 => rfl
theorem out_plain (w : Fin 8) : (outM w).view.ref.isScScratch = false := by
  match w with
  | 0 => rfl
  | 1 => rfl
  | 2 => rfl
  | 3 => rfl
  | 4 => rfl
  | 5 => rfl
  | 6 => rfl
  | 7 => rfl

/-- The block of a chip in an argument into the sender's block of a result. -/
abbrev copy (c : Dev nD) (w : Fin 8) (j : Fin 4) : Copy sig := ⟨Sin w, .bf16, bin w j c, bout w 0 c, bin_word w j c, bout_word w 0 c, out_plain w⟩

abbrev Rs := Fin 8 × Fin 3
abbrev K := Key (Fin 8) Rs

/-- The number of a transfer to another chip. -/
abbrev num (r : Rs) : ℕ := 3 * r.1.val + r.2.val
theorem num_lt (r : Rs) : ∀ a, (![num r] : Fin 1 → ℕ) a + S1.size a ≤ S24.size a := by
  intro a
  have h₁ := r.1.isLt
  have h₂ := r.2.isLt
  match a with
  | 0 => show 3 * r.1.val + r.2.val + 1 ≤ 24; omega

/-- Departures count on the first pool of semaphores, far landings on the second, near ones on the third. -/
def sem : K → DmaSem sig
  | .inr r => ((cc0_scratch0.slice (Rect.unit (s := S24) ![num r] S1.size (num_lt r)) : DmaSems sig S1).squeeze S_ squeezes_S1_S_).sem
  | .inl (.inr r) => ((cc0_scratch1.slice (Rect.unit (s := S24) ![num r] S1.size (num_lt r)) : DmaSems sig S1).squeeze S_ squeezes_S1_S_).sem
  | .inl (.inl w) => ((cc0_scratch2.slice (Rect.unit (s := S8) ![w.val] S1.size (by intro a; match a with | 0 => exact w.isLt)) : DmaSems sig S1).squeeze S_ squeezes_S1_S_).sem

def units (w : Fin 8) : ℕ := sig.dmaCredit .tc (Kind.table .tc .hbm) (outM w).view.buf (Sin w) .bf16

theorem sin_pos (w : Fin 8) : 0 < (Sin w).numel := by
  match w with
  | 0 => decide
  | 1 => decide
  | 2 => decide
  | 3 => decide
  | 4 => decide
  | 5 => decide
  | 6 => decide
  | 7 => decide

theorem in_units (w : Fin 8) (j : Fin 4) (c : Dev nD) : (bin w j c).view.dmaCredit = units w := by
  match w with
  | 0 => rfl
  | 1 => rfl
  | 2 => rfl
  | 3 => rfl
  | 4 => rfl
  | 5 => rfl
  | 6 => rfl
  | 7 => rfl

def plan : Plan nD sig (Fin 8) Rs where
  near c w := copy c w 0
  far c r := copy c r.1 r.2.succ
  peer := peer
  back := peer_back
  sem := sem
  sem_inj := by decide +kernel
  units k := match k with | .inl (.inl w) => units w | .inl (.inr r) => units r.1 | .inr r => units r.1
  units_pos k := match k with
    | .inl (.inl w) => (bout w 0 0).view.dmaCredit_pos (sin_pos w) | .inl (.inr r) => (bout r.1 0 0).view.dmaCredit_pos (sin_pos r.1) | .inr r => (bout r.1 0 0).view.dmaCredit_pos (sin_pos r.1)
  near_units _ _ := rfl
  far_units _ _ := rfl
  far_units' _ := rfl
  seen c k := match k with
    | .inl (.inl w) => copy c w 0
    | .inl (.inr r) => ⟨Sin r.1, .bf16, bin r.1 0 c, bout r.1 r.2.succ c, bin_word r.1 0 c, bout_word r.1 r.2.succ c, out_plain r.1⟩
    | .inr r => ⟨Sin r.1, .bf16, bout r.1 0 c, bin r.1 r.2.succ c, bout_word r.1 0 c, bin_word r.1 r.2.succ c, in_plain r.1⟩
  seen_units c k := match k with
    | .inl (.inl w) => rfl
    | .inl (.inr r) => rfl
    | .inr r => in_units r.1 r.2.succ c
  level _ := 0

def ws : List (Fin 8) := [0, 1, 2, 3, 4, 5, 6, 7]
def rs : List Rs := ws.flatMap fun w => [(w, 0), (w, 1), (w, 2)]
/-- The transfers of one array. -/
abbrev each (w : Fin 8) : List (Fin 8 ⊕ Rs) := [.inl w, .inr (w, 0), .inr (w, 1), .inr (w, 2)]

def script : Script (Fin 8) Rs where
  ts := ws.flatMap each
  rl := []
  ks := rs.map (fun r => .inl (.inr r)) ++ rs.map .inr ++ ws.map (fun w => .inl (.inl w))

/-- What a device runs is its script. -/
theorem body_eq :
    (cc0_exchange_chip_sums (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) cc0_scratch0 cc0_scratch1 cc0_scratch2
      : Prog (TpuEff nD τ sig (Elt F) Λ₀ .tc) PUnit)
      = .op .deviceId fun d => plan.prog τ (Elt F) Λ₀ d script.acts (.ret ⟨⟩) := rfl

/-! ### What is moved -/

/-- Every transfer takes its source from the memory at the start; of the half of an argument that is lent, the near one
    takes the first piece and the far ones the next. -/
def load (m : (ℓ : Loc nD τ sig) → Buf (Elt F) ℓ) : Load τ (Elt F) plan where
  m := m
  nearShare _ := cut fullShare.right 0
  farShare r := cut fullShare.right (r.2.val + 1)
  farSrc c r := m ((bin r.1 r.2.succ c).view.loc (c.tc : Thread nD τ))

abbrev ain (w : Fin 8) : Ref sig .tc := (inM w).view.ref
abbrev aout (w : Fin 8) : Ref sig .tc := (outM w).view.ref

theorem mem_ws (w : Fin 8) : w ∈ ws := by revert w; decide

theorem mem_rs (r : Rs) : r ∈ rs := by
  obtain ⟨w, j⟩ := r
  refine List.mem_flatMap.mpr ⟨w, mem_ws w, ?_⟩
  match j with
  | 0 => exact List.mem_cons_self ..
  | 1 => exact List.mem_cons_of_mem _ (List.mem_cons_self ..)
  | 2 => exact List.mem_cons_of_mem _ (List.mem_cons_of_mem _ (List.mem_cons_self ..))

theorem mem_ts (t : Fin 8 ⊕ Rs) : t ∈ ws.flatMap each := by
  rcases t with w | ⟨w, j⟩
  · exact List.mem_flatMap.mpr ⟨w, mem_ws w, List.mem_cons_self ..⟩
  · refine List.mem_flatMap.mpr ⟨w, mem_ws w, List.mem_cons_of_mem _ ?_⟩
    match j with
    | 0 => exact List.mem_cons_self ..
    | 1 => exact List.mem_cons_of_mem _ (List.mem_cons_self ..)
    | 2 => exact List.mem_cons_of_mem _ (List.mem_cons_of_mem _ (List.mem_cons_self ..))

theorem mem_ks (k : K) : k ∈ script.ks := by
  rcases k with (w | r) | r
  · exact List.mem_append_right _ (List.mem_map_of_mem (mem_ws w))
  · exact List.mem_append_left _ (List.mem_append_left _ (List.mem_map_of_mem (mem_rs r)))
  · exact List.mem_append_left _ (List.mem_append_right _ (List.mem_map_of_mem (mem_rs r)))

theorem complete : script.Complete plan where
  order_nodup := by decide +kernel
  order_all t := List.mem_append_left _ (mem_ts t)
  cells_nodup := by decide +kernel
  cells_all k := List.mem_append_left _ (mem_ks k)
  low := by intro x hx; cases hx
  high := by intro x hx; cases hx

theorem lent (m : (ℓ : Loc nD τ sig) → Buf (Elt F) ℓ) (c : Dev nD) (w : Fin 8) :
    (((c.tc : Thread nD τ).loc (ain w)) ↦{fullShare} m ((c.tc : Thread nD τ).loc (ain w)) : sProp 𝕄)
      ⊢ iprop((((c.tc : Thread nD τ).loc (ain w)) ↦{fullShare.left} m ((c.tc : Thread nD τ).loc (ain w))) ∗ bigSepL (each w) ((load m).give c)) := by
  refine (keep_and_lend (Sum.elim (fun _ : Fin 8 => (bin w 0 c).view.set) fun r : Rs => (bin w r.2.succ c).view.set) (Sum.elim (fun _ : Fin 8 => cut fullShare.right 0) fun r : Rs => cut fullShare.right (r.2.val + 1))
    (each w) rfl fun _ _ => Finset.subset_univ _).trans ?_
  refine sep_mono_r (bigSepL_mono fun t ht => ?_)
  rcases List.mem_cons.mp ht with rfl | ht
  · exact fun _ h => h
  rcases List.mem_cons.mp ht with rfl | ht
  · exact fun _ h => h
  rcases List.mem_cons.mp ht with rfl | ht
  · exact fun _ h => h
  rcases List.mem_singleton.mp ht with rfl
  exact fun _ h => h

theorem apart (w : Fin 8) (c d : Dev nD) (h : chip c 0 ≠ chip d 0) : Disjoint (bout w 0 c).view.set (bout w 0 d).view.set := by
  refine slab_disjoint _ _ _ 0 ?_
  rw [off_eq, off_eq]
  show chip c 0 + 1 ≤ chip d 0 ∨ chip d 0 + 1 ≤ chip c 0
  omega

theorem carved (m : (ℓ : Loc nD τ sig) → Buf (Elt F) ℓ) (c : Dev nD) (w : Fin 8) :
    (((c.tc : Thread nD τ).loc (aout w)) ↦{fullShare} m ((c.tc : Thread nD τ).loc (aout w)) : sProp 𝕄) ⊢ bigSepL (each w) ((load m).space c) := by
  refine (carve (Sum.elim (fun _ : Fin 8 => (bout w 0 c).view.set) fun r : Rs => (bout w 0 (peer c r)).view.set) (each w) ?_ _ fun _ _ => Finset.subset_univ _).trans (bigSepL_mono fun t ht => ?_)
  · have h₁ (j : Fin 3) : chip c 0 ≠ chip (peer c (w, j)) 0 := by
      rw [peer_chip]; exact chip_inj c _ _ (Fin.succ_ne_zero j).symm
    have h₂ (i j : Fin 3) (h : i ≠ j) : chip (peer c (w, i)) 0 ≠ chip (peer c (w, j)) 0 := by
      rw [peer_chip, peer_chip]; exact chip_inj c _ _ fun e => h (Fin.succ_injective _ e)
    simp only [List.pairwise_cons, List.mem_cons, List.mem_singleton, forall_eq_or_imp, forall_eq, List.not_mem_nil, false_imp_iff, implies_true, and_true, List.Pairwise.nil]
    exact ⟨⟨apart w _ _ (h₁ 0), apart w _ _ (h₁ 1), apart w _ _ (h₁ 2)⟩, ⟨apart w _ _ (h₂ 0 1 (by decide)), apart w _ _ (h₂ 0 2 (by decide))⟩, apart w _ _ (h₂ 1 2 (by decide))⟩
  · rcases List.mem_cons.mp ht with rfl | ht
    · exact fun _ h => h
    rcases List.mem_cons.mp ht with rfl | ht
    · exact fun _ h => h
    rcases List.mem_cons.mp ht with rfl | ht
    · exact fun _ h => h
    rcases List.mem_singleton.mp ht with rfl
    exact fun _ h => h

theorem memory (m : (ℓ : Loc nD τ sig) → Buf (Elt F) ℓ) (c : Dev nD) :
    unscopedBufs c (fun b => m ((c.tc : Thread nD τ).loc b)) ⊢ iprop(bigSepL script.ts ((load m).give c) ∗ (bigSep Finset.univ fun l => (load m).room (plan.near c l).dst c)
        ∗ (bigSep Finset.univ fun r => (load m).room (plan.far (plan.peer c r) r).dst c) ∗ kept (load m) (ws.map ain) c : sProp 𝕄) :=
  (load m).split_memory script c ws ain aout each each rfl (by decide +kernel) mem_ts
    (bufs_listed c _ ws ain aout (by decide) (by decide)) (lent m c) (carved m c)

set_option maxRecDepth 20000 in
/-- The exchange, run: every argument is unchanged, a device's block `b` of each result is the block meant for its chip
    of the argument of the like core on chip `b`, and every semaphore is back at zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (c : Dev nD) (w : Fin 8), r.2.mem ((c.tc : Thread nD τ).loc (ain w)) = m ((c.tc : Thread nD τ).loc (ain w)))
      ∧ (∀ (c d : Dev nD) (w : Fin 8) (i x : (Sout w).Idx), d.val = 2 * (i 0).val + c.val % 2 → (x 0).val = c.val / 2 → (x 1).val = (i 1).val → (x 2).val = (i 2).val →
          (outM w).view.read (Elt F) (r.2.mem ((c.tc : Thread nD τ).loc (aout w))) i = (inM w).view.read (Elt F) (m ((d.tc : Thread nD τ).loc (ain w))) x)
      ∧ r.2.sem = fun _ => 0 := by
  refine run_plan cfgs (load m) script cellOf_inj (fun p => by match p with | 0 => exact Fin.isEmpty) winFacts0 (by decide +kernel) defs₀ ρ main (fun c => rfl)
    (fun c => scopedRest0_eq c) N_0 (fun c t A => by rw [← body_eq]; exact fun _ h => h) complete (fun c x hx => by cases hx) (ws.map ain) (memory m) ?_
  intro s h hs
  refine ⟨fun c w => (h c).2 (ain w) (List.mem_map_of_mem (mem_ws w)), ?_, sem_eq_zero_of_scoped (by decide) hs⟩
  intro c d w i x hd h0 h1 h2
  let y : (Sin w).Idx := fun a => match a with | 0 => ⟨(i 1).val, (i 1).isLt⟩ | 1 => ⟨(i 2).val, (i 2).isLt⟩
  obtain ⟨j, hj⟩ := chip_surj c ⟨(i 0).val, (i 0).isLt⟩
  have hj : chip c j = (i 0).val := hj
  rcases Fin.eq_zero_or_eq_succ j with rfl | ⟨j, rfl⟩
  · have hdc : d = c := Fin.ext (by have := chip_zero c; omega)
    subst hdc
    refine (slab_at (outM w) (off w 0 d) (inb w 0 d) (sq w) _ i y ?_ ?_ ?_).trans ((congrFun ((h d).1 _ (mem_ks (.inl (.inl w)))) y).trans (slab_at (inM w) (off w 0 d) (inb w 0 d) (sq w) _ x y ?_ ?_ ?_).symm) <;> rw [off_eq]
    · exact hj.symm
    · exact (Nat.zero_add _).symm
    · exact (Nat.zero_add _).symm
    · exact h0.trans (chip_zero d).symm
    · exact h1.trans (Nat.zero_add _).symm
    · exact h2.trans (Nat.zero_add _).symm
  · have hdc : d = peer c (w, j) := Fin.ext (by rw [peer_val, hj]; exact hd)
    subst hdc
    refine (slab_at (outM w) (off w 0 (peer c (w, j))) (inb w 0 (peer c (w, j))) (sq w) _ i y ?_ ?_ ?_).trans ((congrFun ((h c).1 _ (mem_ks (.inl (.inr (w, j))))) y).trans
      (slab_at (inM w) (off w j.succ (peer c (w, j))) (inb w j.succ (peer c (w, j))) (sq w) _ x y ?_ ?_ ?_).symm) <;> rw [off_eq]
    · exact (hj.symm.trans (peer_chip c (w, j)).symm)
    · exact (Nat.zero_add _).symm
    · exact (Nat.zero_add _).symm
    · exact h0.trans ((chip_zero c).symm.trans (peer_sends c (w, j)).symm)
    · exact h1.trans (Nat.zero_add _).symm
    · exact h2.trans (Nat.zero_add _).symm

end Cert.ExchangeTalk

end
-- ==== Proof.ExchangeValue.lean ====
/-
What the exchange of sums between the chips computes, against the whole arrays with chip axis and block axis exchanged.
-/
module

public import proofs.«01_k».proof.Defs
public import proofs.«01_k».proof.Proof.ExchangeTalk
public import proofs.«01_k».proof.Proof.Layouts
public import proofs.«01_k».proof.Proof.Gen.Exchange
public import proofs.«01_k».proof.Proof.Gen.ExchangeReference
public import proofs.«01_k».proof.Proof.Gen.ExchangeReferenceIdeal
public import proofs.«01_k».proof.Proof.Gen.ExchangeReferenceIdeal.Run

@[expose] public section

noncomputable section

namespace Cert.ExchangeTalk

open Idealize.ShloMosaic Idealize.ShloMosaic.TcCoe Idealize.SL.Sem
open Cert.Talk

set_option maxRecDepth 20000 in
/-- For any float values: the devices' results are their blocks of the reference's. -/
theorem value (F : FTy → Type) [FloatOps F] :
  ∀ (m : (ℓ : Loc Cert.ExchangeIdeal.nD Cert.ExchangeIdeal.τ Cert.ExchangeIdeal.sig) → Buf (Elt F) ℓ) (g : Dev Cert.ExchangeIdeal.nD → PrngReg)
    (m' : (ℓ : Loc Cert.ExchangeReferenceIdeal.nD Cert.ExchangeReferenceIdeal.τ Cert.ExchangeReferenceIdeal.sig) → Buf (Elt F) ℓ) (g' : Dev Cert.ExchangeReferenceIdeal.nD → PrngReg),
    (∀ c : Dev Cert.ExchangeIdeal.nD,
      m ((c.tc : Thread Cert.ExchangeIdeal.nD Cert.ExchangeIdeal.τ).loc Cert.ExchangeIdeal.main_arg0) = Layout.block ⟨3, ![4, 512, 1536]⟩ ⟨3, ![32, 512, 1536]⟩ 0 8 c (m' (((0 : Dev Cert.ExchangeReferenceIdeal.nD).tc : Thread Cert.ExchangeReferenceIdeal.nD Cert.ExchangeReferenceIdeal.τ).loc Cert.ExchangeReferenceIdeal.main_arg0))
      ∧ m ((c.tc : Thread Cert.ExchangeIdeal.nD Cert.ExchangeIdeal.τ).loc Cert.ExchangeIdeal.main_arg1) = Layout.block ⟨3, ![4, 128, 256]⟩ ⟨3, ![32, 128, 256]⟩ 0 8 c (m' (((0 : Dev Cert.ExchangeReferenceIdeal.nD).tc : Thread Cert.ExchangeReferenceIdeal.nD Cert.ExchangeReferenceIdeal.τ).loc Cert.ExchangeReferenceIdeal.main_arg1))
      ∧ m ((c.tc : Thread Cert.ExchangeIdeal.nD Cert.ExchangeIdeal.τ).loc Cert.ExchangeIdeal.main_arg2) = Layout.block ⟨3, ![4, 128, 256]⟩ ⟨3, ![32, 128, 256]⟩ 0 8 c (m' (((0 : Dev Cert.ExchangeReferenceIdeal.nD).tc : Thread Cert.ExchangeReferenceIdeal.nD Cert.ExchangeReferenceIdeal.τ).loc Cert.ExchangeReferenceIdeal.main_arg2))
      ∧ m ((c.tc : Thread Cert.ExchangeIdeal.nD Cert.ExchangeIdeal.τ).loc Cert.ExchangeIdeal.main_arg3) = Layout.block ⟨3, ![4, 128, 1024]⟩ ⟨3, ![32, 128, 1024]⟩ 0 8 c (m' (((0 : Dev Cert.ExchangeReferenceIdeal.nD).tc : Thread Cert.ExchangeReferenceIdeal.nD Cert.ExchangeReferenceIdeal.τ).loc Cert.ExchangeReferenceIdeal.main_arg3))
      ∧ m ((c.tc : Thread Cert.ExchangeIdeal.nD Cert.ExchangeIdeal.τ).loc Cert.ExchangeIdeal.main_arg4) = Layout.block ⟨3, ![4, 128, 1024]⟩ ⟨3, ![32, 128, 1024]⟩ 0 8 c (m' (((0 : Dev Cert.ExchangeReferenceIdeal.nD).tc : Thread Cert.ExchangeReferenceIdeal.nD Cert.ExchangeReferenceIdeal.τ).loc Cert.ExchangeReferenceIdeal.main_arg4))
      ∧ m ((c.tc : Thread Cert.ExchangeIdeal.nD Cert.ExchangeIdeal.τ).loc Cert.ExchangeIdeal.main_arg5) = Layout.block ⟨3, ![4, 128, 1024]⟩ ⟨3, ![32, 128, 1024]⟩ 0 8 c (m' (((0 : Dev Cert.ExchangeReferenceIdeal.nD).tc : Thread Cert.ExchangeReferenceIdeal.nD Cert.ExchangeReferenceIdeal.τ).loc Cert.ExchangeReferenceIdeal.main_arg5))
      ∧ m ((c.tc : Thread Cert.ExchangeIdeal.nD Cert.ExchangeIdeal.τ).loc Cert.ExchangeIdeal.main_arg6) = Layout.block ⟨3, ![4, 512, 1024]⟩ ⟨3, ![32, 512, 1024]⟩ 0 8 c (m' (((0 : Dev Cert.ExchangeReferenceIdeal.nD).tc : Thread Cert.ExchangeReferenceIdeal.nD Cert.ExchangeReferenceIdeal.τ).loc Cert.ExchangeReferenceIdeal.main_arg6))
      ∧ m ((c.tc : Thread Cert.ExchangeIdeal.nD Cert.ExchangeIdeal.τ).loc Cert.ExchangeIdeal.main_arg7) = Layout.block ⟨3, ![4, 512, 1024]⟩ ⟨3, ![32, 512, 1024]⟩ 0 8 c (m' (((0 : Dev Cert.ExchangeReferenceIdeal.nD).tc : Thread Cert.ExchangeReferenceIdeal.nD Cert.ExchangeReferenceIdeal.τ).loc Cert.ExchangeReferenceIdeal.main_arg7))) →
    ∃ (v0 : Buf (Elt F) (((0 : Dev Cert.ExchangeReferenceIdeal.nD).tc : Thread Cert.ExchangeReferenceIdeal.nD Cert.ExchangeReferenceIdeal.τ).loc Cert.ExchangeReferenceIdeal.main_v2)) (v1 : Buf (Elt F) (((0 : Dev Cert.ExchangeReferenceIdeal.nD).tc : Thread Cert.ExchangeReferenceIdeal.nD Cert.ExchangeReferenceIdeal.τ).loc Cert.ExchangeReferenceIdeal.main_v5)) (v2 : Buf (Elt F) (((0 : Dev Cert.ExchangeReferenceIdeal.nD).tc : Thread Cert.ExchangeReferenceIdeal.nD Cert.ExchangeReferenceIdeal.τ).loc Cert.ExchangeReferenceIdeal.main_v8)) (v3 : Buf (Elt F) (((0 : Dev Cert.ExchangeReferenceIdeal.nD).tc : Thread Cert.ExchangeReferenceIdeal.nD Cert.ExchangeReferenceIdeal.τ).loc Cert.ExchangeReferenceIdeal.main_v11)) (v4 : Buf (Elt F) (((0 : Dev Cert.ExchangeReferenceIdeal.nD).tc : Thread Cert.ExchangeReferenceIdeal.nD Cert.ExchangeReferenceIdeal.τ).loc Cert.ExchangeReferenceIdeal.main_v14)) (v5 : Buf (Elt F) (((0 : Dev Cert.ExchangeReferenceIdeal.nD).tc : Thread Cert.ExchangeReferenceIdeal.nD Cert.ExchangeReferenceIdeal.τ).loc Cert.ExchangeReferenceIdeal.main_v17)) (v6 : Buf (Elt F) (((0 : Dev Cert.ExchangeReferenceIdeal.nD).tc : Thread Cert.ExchangeReferenceIdeal.nD Cert.ExchangeReferenceIdeal.τ).loc Cert.ExchangeReferenceIdeal.main_v20)) (v7 : Buf (Elt F) (((0 : Dev Cert.ExchangeReferenceIdeal.nD).tc : Thread Cert.ExchangeReferenceIdeal.nD Cert.ExchangeReferenceIdeal.τ).loc Cert.ExchangeReferenceIdeal.main_v23)),
      θ_run (Cert.ExchangeIdeal.defs (F := F)) (onTc (τ := Cert.ExchangeIdeal.τ) (Cert.ExchangeIdeal.main (F := F))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨3, ![4, 512, 1536]⟩ ⟨3, ![32, 512, 1536]⟩ 0 8 c v0
          ∧ r.2.mem ((c.tc : Thread Cert.ExchangeIdeal.nD Cert.ExchangeIdeal.τ).loc Cert.ExchangeIdeal.main_v1_1) = Layout.block ⟨3, ![4, 128, 256]⟩ ⟨3, ![32, 128, 256]⟩ 0 8 c v1
          ∧ r.2.mem ((c.tc : Thread Cert.ExchangeIdeal.nD Cert.ExchangeIdeal.τ).loc Cert.ExchangeIdeal.main_v1_2) = Layout.block ⟨3, ![4, 128, 256]⟩ ⟨3, ![32, 128, 256]⟩ 0 8 c v2
          ∧ r.2.mem ((c.tc : Thread Cert.ExchangeIdeal.nD Cert.ExchangeIdeal.τ).loc Cert.ExchangeIdeal.main_v1_3) = Layout.block ⟨3, ![4, 128, 1024]⟩ ⟨3, ![32, 128, 1024]⟩ 0 8 c v3
          ∧ r.2.mem ((c.tc : Thread Cert.ExchangeIdeal.nD Cert.ExchangeIdeal.τ).loc Cert.ExchangeIdeal.main_v1_4) = Layout.block ⟨3, ![4, 128, 1024]⟩ ⟨3, ![32, 128, 1024]⟩ 0 8 c v4
          ∧ r.2.mem ((c.tc : Thread Cert.ExchangeIdeal.nD Cert.ExchangeIdeal.τ).loc Cert.ExchangeIdeal.main_v1_5) = Layout.block ⟨3, ![4, 128, 1024]⟩ ⟨3, ![32, 128, 1024]⟩ 0 8 c v5
          ∧ r.2.mem ((c.tc : Thread Cert.ExchangeIdeal.nD Cert.ExchangeIdeal.τ).loc Cert.ExchangeIdeal.main_v1_6) = Layout.block ⟨3, ![4, 512, 1024]⟩ ⟨3, ![32, 512, 1024]⟩ 0 8 c v6
          ∧ r.2.mem ((c.tc : Thread Cert.ExchangeIdeal.nD Cert.ExchangeIdeal.τ).loc Cert.ExchangeIdeal.main_v1_7) = Layout.block ⟨3, ![4, 512, 1024]⟩ ⟨3, ![32, 512, 1024]⟩ 0 8 c v7
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1)
          ∧ r.2.mem ((c.tc : Thread Cert.ExchangeIdeal.nD Cert.ExchangeIdeal.τ).loc Cert.ExchangeIdeal.main_arg2) = m ((c.tc : Thread Cert.ExchangeIdeal.nD Cert.ExchangeIdeal.τ).loc Cert.ExchangeIdeal.main_arg2)
          ∧ r.2.mem ((c.tc : Thread Cert.ExchangeIdeal.nD Cert.ExchangeIdeal.τ).loc Cert.ExchangeIdeal.main_arg3) = m ((c.tc : Thread Cert.ExchangeIdeal.nD Cert.ExchangeIdeal.τ).loc Cert.ExchangeIdeal.main_arg3)
          ∧ r.2.mem ((c.tc : Thread Cert.ExchangeIdeal.nD Cert.ExchangeIdeal.τ).loc Cert.ExchangeIdeal.main_arg4) = m ((c.tc : Thread Cert.ExchangeIdeal.nD Cert.ExchangeIdeal.τ).loc Cert.ExchangeIdeal.main_arg4)
          ∧ r.2.mem ((c.tc : Thread Cert.ExchangeIdeal.nD Cert.ExchangeIdeal.τ).loc Cert.ExchangeIdeal.main_arg5) = m ((c.tc : Thread Cert.ExchangeIdeal.nD Cert.ExchangeIdeal.τ).loc Cert.ExchangeIdeal.main_arg5)
          ∧ r.2.mem ((c.tc : Thread Cert.ExchangeIdeal.nD Cert.ExchangeIdeal.τ).loc Cert.ExchangeIdeal.main_arg6) = m ((c.tc : Thread Cert.ExchangeIdeal.nD Cert.ExchangeIdeal.τ).loc Cert.ExchangeIdeal.main_arg6)
          ∧ r.2.mem ((c.tc : Thread Cert.ExchangeIdeal.nD Cert.ExchangeIdeal.τ).loc Cert.ExchangeIdeal.main_arg7) = m ((c.tc : Thread Cert.ExchangeIdeal.nD Cert.ExchangeIdeal.τ).loc Cert.ExchangeIdeal.main_arg7))
      ∧ θ_run (Cert.ExchangeReferenceIdeal.defs (F := F)) (onTc (τ := Cert.ExchangeReferenceIdeal.τ) (Cert.ExchangeReferenceIdeal.main (F := F))) ⟨m', fun _ => 0, g'⟩ (fun r =>
          r.2.mem (((0 : Dev Cert.ExchangeReferenceIdeal.nD).tc : Thread Cert.ExchangeReferenceIdeal.nD Cert.ExchangeReferenceIdeal.τ).loc Cert.ExchangeReferenceIdeal.main_v2) = v0
          ∧ r.2.mem (((0 : Dev Cert.ExchangeReferenceIdeal.nD).tc : Thread Cert.ExchangeReferenceIdeal.nD Cert.ExchangeReferenceIdeal.τ).loc Cert.ExchangeReferenceIdeal.main_v5) = v1
          ∧ r.2.mem (((0 : Dev Cert.ExchangeReferenceIdeal.nD).tc : Thread Cert.ExchangeReferenceIdeal.nD Cert.ExchangeReferenceIdeal.τ).loc Cert.ExchangeReferenceIdeal.main_v8) = v2
          ∧ r.2.mem (((0 : Dev Cert.ExchangeReferenceIdeal.nD).tc : Thread Cert.ExchangeReferenceIdeal.nD Cert.ExchangeReferenceIdeal.τ).loc Cert.ExchangeReferenceIdeal.main_v11) = v3
          ∧ r.2.mem (((0 : Dev Cert.ExchangeReferenceIdeal.nD).tc : Thread Cert.ExchangeReferenceIdeal.nD Cert.ExchangeReferenceIdeal.τ).loc Cert.ExchangeReferenceIdeal.main_v14) = v4
          ∧ r.2.mem (((0 : Dev Cert.ExchangeReferenceIdeal.nD).tc : Thread Cert.ExchangeReferenceIdeal.nD Cert.ExchangeReferenceIdeal.τ).loc Cert.ExchangeReferenceIdeal.main_v17) = v5
          ∧ r.2.mem (((0 : Dev Cert.ExchangeReferenceIdeal.nD).tc : Thread Cert.ExchangeReferenceIdeal.nD Cert.ExchangeReferenceIdeal.τ).loc Cert.ExchangeReferenceIdeal.main_v20) = v6
          ∧ r.2.mem (((0 : Dev Cert.ExchangeReferenceIdeal.nD).tc : Thread Cert.ExchangeReferenceIdeal.nD Cert.ExchangeReferenceIdeal.τ).loc Cert.ExchangeReferenceIdeal.main_v23) = v7
          ∧ r.2.mem (((0 : Dev Cert.ExchangeReferenceIdeal.nD).tc : Thread Cert.ExchangeReferenceIdeal.nD Cert.ExchangeReferenceIdeal.τ).loc Cert.ExchangeReferenceIdeal.main_arg0) = m' (((0 : Dev Cert.ExchangeReferenceIdeal.nD).tc : Thread Cert.ExchangeReferenceIdeal.nD Cert.ExchangeReferenceIdeal.τ).loc Cert.ExchangeReferenceIdeal.main_arg0)
          ∧ r.2.mem (((0 : Dev Cert.ExchangeReferenceIdeal.nD).tc : Thread Cert.ExchangeReferenceIdeal.nD Cert.ExchangeReferenceIdeal.τ).loc Cert.ExchangeReferenceIdeal.main_arg1) = m' (((0 : Dev Cert.ExchangeReferenceIdeal.nD).tc : Thread Cert.ExchangeReferenceIdeal.nD Cert.ExchangeReferenceIdeal.τ).loc Cert.ExchangeReferenceIdeal.main_arg1)
          ∧ r.2.mem (((0 : Dev Cert.ExchangeReferenceIdeal.nD).tc : Thread Cert.ExchangeReferenceIdeal.nD Cert.ExchangeReferenceIdeal.τ).loc Cert.ExchangeReferenceIdeal.main_arg2) = m' (((0 : Dev Cert.ExchangeReferenceIdeal.nD).tc : Thread Cert.ExchangeReferenceIdeal.nD Cert.ExchangeReferenceIdeal.τ).loc Cert.ExchangeReferenceIdeal.main_arg2)
          ∧ r.2.mem (((0 : Dev Cert.ExchangeReferenceIdeal.nD).tc : Thread Cert.ExchangeReferenceIdeal.nD Cert.ExchangeReferenceIdeal.τ).loc Cert.ExchangeReferenceIdeal.main_arg3) = m' (((0 : Dev Cert.ExchangeReferenceIdeal.nD).tc : Thread Cert.ExchangeReferenceIdeal.nD Cert.ExchangeReferenceIdeal.τ).loc Cert.ExchangeReferenceIdeal.main_arg3)
          ∧ r.2.mem (((0 : Dev Cert.ExchangeReferenceIdeal.nD).tc : Thread Cert.ExchangeReferenceIdeal.nD Cert.ExchangeReferenceIdeal.τ).loc Cert.ExchangeReferenceIdeal.main_arg4) = m' (((0 : Dev Cert.ExchangeReferenceIdeal.nD).tc : Thread Cert.ExchangeReferenceIdeal.nD Cert.ExchangeReferenceIdeal.τ).loc Cert.ExchangeReferenceIdeal.main_arg4)
          ∧ r.2.mem (((0 : Dev Cert.ExchangeReferenceIdeal.nD).tc : Thread Cert.ExchangeReferenceIdeal.nD Cert.ExchangeReferenceIdeal.τ).loc Cert.ExchangeReferenceIdeal.main_arg5) = m' (((0 : Dev Cert.ExchangeReferenceIdeal.nD).tc : Thread Cert.ExchangeReferenceIdeal.nD Cert.ExchangeReferenceIdeal.τ).loc Cert.ExchangeReferenceIdeal.main_arg5)
          ∧ r.2.mem (((0 : Dev Cert.ExchangeReferenceIdeal.nD).tc : Thread Cert.ExchangeReferenceIdeal.nD Cert.ExchangeReferenceIdeal.τ).loc Cert.ExchangeReferenceIdeal.main_arg6) = m' (((0 : Dev Cert.ExchangeReferenceIdeal.nD).tc : Thread Cert.ExchangeReferenceIdeal.nD Cert.ExchangeReferenceIdeal.τ).loc Cert.ExchangeReferenceIdeal.main_arg6)
          ∧ r.2.mem (((0 : Dev Cert.ExchangeReferenceIdeal.nD).tc : Thread Cert.ExchangeReferenceIdeal.nD Cert.ExchangeReferenceIdeal.τ).loc Cert.ExchangeReferenceIdeal.main_arg7) = m' (((0 : Dev Cert.ExchangeReferenceIdeal.nD).tc : Thread Cert.ExchangeReferenceIdeal.nD Cert.ExchangeReferenceIdeal.τ).loc Cert.ExchangeReferenceIdeal.main_arg7)) := by
  intro m g m' g' hin
  refine ⟨_, _, _, _, _, _, _, _, (θ_run Cert.ExchangeIdeal.defs _ _).mono (fun r h c => ?_) (run (F := F) m g),
    (θ_run Cert.ExchangeReferenceIdeal.defs _ _).mono (fun r h => h 0) (Cert.ExchangeReferenceIdeal.Value.run (F := F) m' g')⟩
  exact ⟨
    crossed_blocks _ _ _ _ c _ (fun d : Dev Cert.ExchangeIdeal.nD => m ((d.tc : Thread Cert.ExchangeIdeal.nD Cert.ExchangeIdeal.τ).loc Cert.ExchangeIdeal.main_arg0)) (fun d => (hin d).1) (fun d i x => h.2.1 c d 0 i x),
    crossed_blocks _ _ _ _ c _ (fun d : Dev Cert.ExchangeIdeal.nD => m ((d.tc : Thread Cert.ExchangeIdeal.nD Cert.ExchangeIdeal.τ).loc Cert.ExchangeIdeal.main_arg1)) (fun d => (hin d).2.1) (fun d i x => h.2.1 c d 1 i x),
    crossed_blocks _ _ _ _ c _ (fun d : Dev Cert.ExchangeIdeal.nD => m ((d.tc : Thread Cert.ExchangeIdeal.nD Cert.ExchangeIdeal.τ).loc Cert.ExchangeIdeal.main_arg2)) (fun d => (hin d).2.2.1) (fun d i x => h.2.1 c d 2 i x),
    crossed_blocks _ _ _ _ c _ (fun d : Dev Cert.ExchangeIdeal.nD => m ((d.tc : Thread Cert.ExchangeIdeal.nD Cert.ExchangeIdeal.τ).loc Cert.ExchangeIdeal.main_arg3)) (fun d => (hin d).2.2.2.1) (fun d i x => h.2.1 c d 3 i x),
    crossed_blocks _ _ _ _ c _ (fun d : Dev Cert.ExchangeIdeal.nD => m ((d.tc : Thread Cert.ExchangeIdeal.nD Cert.ExchangeIdeal.τ).loc Cert.ExchangeIdeal.main_arg4)) (fun d => (hin d).2.2.2.2.1) (fun d i x => h.2.1 c d 4 i x),
    crossed_blocks _ _ _ _ c _ (fun d : Dev Cert.ExchangeIdeal.nD => m ((d.tc : Thread Cert.ExchangeIdeal.nD Cert.ExchangeIdeal.τ).loc Cert.ExchangeIdeal.main_arg5)) (fun d => (hin d).2.2.2.2.2.1) (fun d i x => h.2.1 c d 5 i x),
    crossed_blocks _ _ _ _ c _ (fun d : Dev Cert.ExchangeIdeal.nD => m ((d.tc : Thread Cert.ExchangeIdeal.nD Cert.ExchangeIdeal.τ).loc Cert.ExchangeIdeal.main_arg6)) (fun d => (hin d).2.2.2.2.2.2.1) (fun d i x => h.2.1 c d 6 i x),
    crossed_blocks _ _ _ _ c _ (fun d : Dev Cert.ExchangeIdeal.nD => m ((d.tc : Thread Cert.ExchangeIdeal.nD Cert.ExchangeIdeal.τ).loc Cert.ExchangeIdeal.main_arg7)) (fun d => (hin d).2.2.2.2.2.2.2) (fun d i x => h.2.1 c d 7 i x),
    h.1 c 0, h.1 c 1, h.1 c 2, h.1 c 3, h.1 c 4, h.1 c 5, h.1 c 6, h.1 c 7⟩

theorem algebraic : Cert.algebraic_ExchangeIdeal_ExchangeReferenceIdeal := fun m g m' g' _ => value Ideal m g m' g'

theorem bitexact : Cert.bitexact_Exchange_ExchangeReference := fun m g m' g' _ => value Bits m g m' g'

theorem frame_ideal : Cert.quiescent_ExchangeIdeal := fun m g _ =>
  (θ_run Cert.ExchangeIdeal.defs _ _).mono (fun r h => ⟨fun c => ⟨h.1 c 0, h.1 c 1, h.1 c 2, h.1 c 3, h.1 c 4, h.1 c 5, h.1 c 6, h.1 c 7⟩, h.2.2⟩) (run (F := Ideal) m g)

theorem frame : Cert.quiescent_Exchange := fun m g _ =>
  (θ_run Cert.ExchangeIdeal.defs _ _).mono (fun r h => ⟨fun c => ⟨h.1 c 0, h.1 c 1, h.1 c 2, h.1 c 3, h.1 c 4, h.1 c 5, h.1 c 6, h.1 c 7⟩, h.2.2⟩) (run (F := Bits) m g)

theorem frame_reference_ideal : Cert.quiescent_ExchangeReferenceIdeal := fun m g _ =>
  (θ_run Cert.ExchangeReferenceIdeal.defs _ _).mono (fun r h => ⟨fun c => (h c).2.2.2.2.2.2.2.2, sem_eq_zero_of_no_sems (by decide) r.2⟩)
    (Cert.ExchangeReferenceIdeal.Value.run (F := Ideal) m g)

theorem frame_reference : Cert.quiescent_ExchangeReference := fun m g _ =>
  (θ_run Cert.ExchangeReferenceIdeal.defs _ _).mono (fun r h => ⟨fun c => (h c).2.2.2.2.2.2.2.2, sem_eq_zero_of_no_sems (by decide) r.2⟩)
    (Cert.ExchangeReferenceIdeal.Value.run (F := Bits) m g)

end Cert.ExchangeTalk

end
-- ==== Proof.HalvesTalk.lean ====
/-
The run of the exchange of gradients between the two cores of a chip: each device sends its sibling the half of every
array that the sibling sums.
-/
module

public import proofs.«01_k».proof.Proof.Blocks
public import proofs.«01_k».proof.Proof.Gen.HalvesIdeal
public import proofs.«01_k».proof.Proof.Gen.HalvesIdeal.Launch
public import proofs.«01_k».proof.Proof.Gen.HalvesIdeal.Points
public import proofs.«01_k».proof.Proof.Gen.HalvesIdeal.Skeleton

@[expose] public section

noncomputable section

namespace Cert.HalvesTalk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Talk Cert.HalvesIdeal Cert.HalvesIdeal.Gen

variable {F : FTy → Type} [FloatOps F]

local notation "𝕄" => MT nD τ sig Unit (Elt F) ℕ (UR sig nD τ) ℕ

/-! ### The arrays, by number -/

/-- The rows of a chip's part of an array. -/
def rows : Fin 8 → ℕ := ![1024, 256, 256, 256, 256, 256, 1024, 1024]
/-- The rows of a core's half of it. -/
def hs : Fin 8 → ℕ := ![512, 128, 128, 128, 128, 128, 512, 512]
/-- The columns of an array. -/
def cs : Fin 8 → ℕ := ![1536, 256, 256, 1024, 1024, 1024, 1024, 1024]

abbrev Sin (w : Fin 8) : Shape := ⟨3, ![4, rows w, cs w]⟩
abbrev Sout (w : Fin 8) : Shape := ⟨3, ![4, hs w, cs w]⟩

def inM : (w : Fin 8) → Memref sig .tc .hbm (Sin w) .bf16
  | 0 => (Memref.whole main_arg0 : Memref sig .tc .hbm _ .bf16)
  | 1 => (Memref.whole main_arg1 : Memref sig .tc .hbm _ .bf16)
  | 2 => (Memref.whole main_arg2 : Memref sig .tc .hbm _ .bf16)
  | 3 => (Memref.whole main_arg3 : Memref sig .tc .hbm _ .bf16)
  | 4 => (Memref.whole main_arg4 : Memref sig .tc .hbm _ .bf16)
  | 5 => (Memref.whole main_arg5 : Memref sig .tc .hbm _ .bf16)
  | 6 => (Memref.whole main_arg6 : Memref sig .tc .hbm _ .bf16)
  | 7 => (Memref.whole main_arg7 : Memref sig .tc .hbm _ .bf16)

def outM : (w : Fin 8) → Memref sig .tc .hbm (Sout w) .bf16
  | 0 => (Memref.whole main_v1_0 : Memref sig .tc .hbm _ .bf16)
  | 1 => (Memref.whole main_v1_1 : Memref sig .tc .hbm _ .bf16)
  | 2 => (Memref.whole main_v1_2 : Memref sig .tc .hbm _ .bf16)
  | 3 => (Memref.whole main_v1_3 : Memref sig .tc .hbm _ .bf16)
  | 4 => (Memref.whole main_v1_4 : Memref sig .tc .hbm _ .bf16)
  | 5 => (Memref.whole main_v1_5 : Memref sig .tc .hbm _ .bf16)
  | 6 => (Memref.whole main_v1_6 : Memref sig .tc .hbm _ .bf16)
  | 7 => (Memref.whole main_v1_7 : Memref sig .tc .hbm _ .bf16)

theorem in_whole (w : Fin 8) : (inM w).IsWhole := by
  match w with
  | 0 => exact Memref.isWhole_whole _
  | 1 => exact Memref.isWhole_whole _
  | 2 => exact Memref.isWhole_whole _
  | 3 => exact Memref.isWhole_whole _
  | 4 => exact Memref.isWhole_whole _
  | 5 => exact Memref.isWhole_whole _
  | 6 => exact Memref.isWhole_whole _
  | 7 => exact Memref.isWhole_whole _

theorem out_whole (w : Fin 8) : (outM w).IsWhole := by
  match w with
  | 0 => exact Memref.isWhole_whole _
  | 1 => exact Memref.isWhole_whole _
  | 2 => exact Memref.isWhole_whole _
  | 3 => exact Memref.isWhole_whole _
  | 4 => exact Memref.isWhole_whole _
  | 5 => exact Memref.isWhole_whole _
  | 6 => exact Memref.isWhole_whole _
  | 7 => exact Memref.isWhole_whole _

/-- Where the sibling's half starts. -/
def off : Fin 8 → Dev nD → Fin 3 → ℕ
  | 0 => k0_off1
  | 1 => k0_off2
  | 2 => k0_off2
  | 3 => k0_off3
  | 4 => k0_off3
  | 5 => k0_off3
  | 6 => k0_off4
  | 7 => k0_off4

theorem off_eq (w : Fin 8) (c : Dev nD) : off w c = ![0, hs w - hs w * (c.val % 2), 0] := by
  match w with
  | 0 => exact k0_off1_eq c
  | 1 => exact k0_off2_eq c
  | 2 => exact k0_off2_eq c
  | 3 => exact k0_off3_eq c
  | 4 => exact k0_off3_eq c
  | 5 => exact k0_off3_eq c
  | 6 => exact k0_off4_eq c
  | 7 => exact k0_off4_eq c

theorem inb (w : Fin 8) (c : Dev nD) : ∀ a, off w c a + (Sout w).size a ≤ (Sin w).size a := by
  match w with
  | 0 => exact k0_off1_inb c
  | 1 => exact k0_off2_inb c
  | 2 => exact k0_off2_inb c
  | 3 => exact k0_off3_inb c
  | 4 => exact k0_off3_inb c
  | 5 => exact k0_off3_inb c
  | 6 => exact k0_off4_inb c
  | 7 => exact k0_off4_inb c

theorem words (w : Fin 8) (c : Dev nD) : (Rect.unit (s := Sin w) (off w c) (Sout w).size (inb w c)).WholeWords (EltTy.packing .bf16) := by
  match w with
  | 0 => exact k0_off1_wordsbf16 c
  | 1 => exact k0_off2_wordsbf16 c
  | 2 => exact k0_off2_wordsbf16 c
  | 3 => exact k0_off3_wordsbf16 c
  | 4 => exact k0_off3_wordsbf16 c
  | 5 => exact k0_off3_wordsbf16 c
  | 6 => exact k0_off4_wordsbf16 c
  | 7 => exact k0_off4_wordsbf16 c

/-- The sibling of a device: the other core of its chip. -/
def peer (c : Dev nD) : Fin 8 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩

theorem peer_val (c : Dev nD) (w : Fin 8) : (peer c w).val = (4 * (c.val / 4) + 2 * ((c.val / 2) % 2) + 1) - c.val % 2 := by
  match w with
  | 0 => exact k0_dev1_eq c
  | 1 => exact k0_dev2_eq c
  | 2 => exact k0_dev3_eq c
  | 3 => exact k0_dev4_eq c
  | 4 => exact k0_dev5_eq c
  | 5 => exact k0_dev6_eq c
  | 6 => exact k0_dev7_eq c
  | 7 => exact k0_dev8_eq c

theorem peer_back (c : Dev nD) (w : Fin 8) : peer (peer c w) w = c := by
  refine Fin.ext ?_
  rw [peer_val, peer_val]
  have := c.isLt
  have : nD = 8 := rfl
  omega

/-! ### The plan -/

/-- The sibling's half of an argument. -/
abbrev half (w : Fin 8) (c : Dev nD) : Memref sig .tc .hbm (Sout w) .bf16 := (inM w).slice (Rect.unit (s := Sin w) (off w c) (Sout w).size (inb w c)) (fun _ => rfl)
theorem half_word (w : Fin 8) (c : Dev nD) : (half w c).view.WordExact := (in_whole w).wordExact_slice rfl _ (words w c)
theorem out_word (w : Fin 8) : (outM w).view.WordExact := (out_whole w).wordExact
theorem in_plain (w : Fin 8) : (inM w).view.ref.isScScratch = false := by
  match w with
  | 0 => rfl
  | 1 => rfl
  | 2 => rfl
  | 3 => rfl
  | 4 => rfl
  | 5 => rfl
  | 6 => rfl
  | 7 => rfl
theorem out_plain (w : Fin 8) : (outM w).view.ref.isScScratch = false := by
  match w with
  | 0 => rfl
  | 1 => rfl
  | 2 => rfl
  | 3 => rfl
  | 4 => rfl
  | 5 => rfl
  | 6 => rfl
  | 7 => rfl

/-- The sibling's half of an argument into a result. -/
abbrev copy (c : Dev nD) (w : Fin 8) : Copy sig := ⟨Sout w, .bf16, half w c, outM w, half_word w c, out_word w, out_plain w⟩

abbrev K := Key (Fin 0) (Fin 8)

theorem num_lt (w : Fin 8) : ∀ a, (![w.val] : Fin 1 → ℕ) a + S1.size a ≤ S8.size a := by
  intro a; match a with | 0 => exact w.isLt

/-- Departures count on the first pool of semaphores, landings on the second. -/
def sem : K → DmaSem sig
  | .inr w => ((cc0_scratch0.slice (Rect.unit (s := S8) ![w.val] S1.size (num_lt w)) : DmaSems sig S1).squeeze S_ squeezes_S1_S_).sem
  | .inl (.inr w) => ((cc0_scratch1.slice (Rect.unit (s := S8) ![w.val] S1.size (num_lt w)) : DmaSems sig S1).squeeze S_ squeezes_S1_S_).sem
  | .inl (.inl w) => w.elim0

def units (w : Fin 8) : ℕ := sig.dmaCredit .tc (Kind.table .tc .hbm) (outM w).view.buf (Sout w) .bf16

theorem out_pos (w : Fin 8) : 0 < (Sout w).numel := by
  match w with
  | 0 => decide
  | 1 => decide
  | 2 => decide
  | 3 => decide
  | 4 => decide
  | 5 => decide
  | 6 => decide
  | 7 => decide

theorem in_units (w : Fin 8) (c : Dev nD) : (half w c).view.dmaCredit = units w := by
  match w with
  | 0 => rfl
  | 1 => rfl
  | 2 => rfl
  | 3 => rfl
  | 4 => rfl
  | 5 => rfl
  | 6 => rfl
  | 7 => rfl

def plan : Plan nD sig (Fin 0) (Fin 8) where
  near _ w := w.elim0
  far := copy
  peer := peer
  back := peer_back
  sem := sem
  sem_inj := by decide +kernel
  units k := match k with | .inl (.inl w) => w.elim0 | .inl (.inr w) => units w | .inr w => units w
  units_pos k := match k with
    | .inl (.inl w) => w.elim0 | .inl (.inr w) => (outM w).view.dmaCredit_pos (out_pos w) | .inr w => (outM w).view.dmaCredit_pos (out_pos w)
  near_units _ w := w.elim0
  far_units _ _ := rfl
  far_units' _ := rfl
  seen c k := match k with
    | .inl (.inl w) => w.elim0
    | .inl (.inr w) => copy c w
    | .inr w => ⟨Sout w, .bf16, outM w, half w c, out_word w, half_word w c, in_plain w⟩
  seen_units c k := match k with
    | .inl (.inl w) => w.elim0
    | .inl (.inr w) => rfl
    | .inr w => in_units w c
  level _ := 0

def ws : List (Fin 8) := [0, 1, 2, 3, 4, 5, 6, 7]

/-- The transfer of one array. -/
abbrev each (w : Fin 8) : List (Fin 0 ⊕ Fin 8) := [.inr w]

def script : Script (Fin 0) (Fin 8) where
  ts := ws.flatMap each
  rl := []
  ks := ws.map (fun w => .inl (.inr w)) ++ ws.map .inr

/-- What a device runs is its script. -/
theorem body_eq :
    (cc0_send_sibling_halves (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) cc0_scratch0 cc0_scratch1
      : Prog (TpuEff nD τ sig (Elt F) Λ₀ .tc) PUnit)
      = .op .deviceId fun d => plan.prog τ (Elt F) Λ₀ d script.acts (.ret ⟨⟩) := rfl

/-! ### What is moved -/

/-- Every transfer takes its source from the memory at the start, at the first piece of the half that is lent. -/
def load (m : (ℓ : Loc nD τ sig) → Buf (Elt F) ℓ) : Load τ (Elt F) plan where
  m := m
  nearShare w := w.elim0
  farShare _ := cut fullShare.right 0
  farSrc c w := m ((half w c).view.loc (c.tc : Thread nD τ))

abbrev ain (w : Fin 8) : Ref sig .tc := (inM w).view.ref
abbrev aout (w : Fin 8) : Ref sig .tc := (outM w).view.ref

theorem mem_ws (w : Fin 8) : w ∈ ws := by revert w; decide

theorem mem_ts (t : Fin 0 ⊕ Fin 8) : t ∈ ws.flatMap each := by
  rcases t with w | w
  · exact w.elim0
  · exact List.mem_flatMap.mpr ⟨w, mem_ws w, List.mem_cons_self ..⟩

theorem mem_ks (k : K) : k ∈ script.ks := by
  rcases k with (w | w) | w
  · exact w.elim0
  · exact List.mem_append_left _ (List.mem_map_of_mem (mem_ws w))
  · exact List.mem_append_right _ (List.mem_map_of_mem (mem_ws w))

theorem complete : script.Complete plan where
  order_nodup := by decide +kernel
  order_all t := List.mem_append_left _ (mem_ts t)
  cells_nodup := by decide +kernel
  cells_all k := List.mem_append_left _ (mem_ks k)
  low := by intro x hx; cases hx
  high := by intro x hx; cases hx

theorem lent (m : (ℓ : Loc nD τ sig) → Buf (Elt F) ℓ) (c : Dev nD) (w : Fin 8) :
    (((c.tc : Thread nD τ).loc (ain w)) ↦{fullShare} m ((c.tc : Thread nD τ).loc (ain w)) : sProp 𝕄)
      ⊢ iprop((((c.tc : Thread nD τ).loc (ain w)) ↦{fullShare.left} m ((c.tc : Thread nD τ).loc (ain w))) ∗ bigSepL (each w) ((load m).give c)) := by
  refine (keep_and_lend (fun _ => (half w c).view.set) (fun _ => cut fullShare.right 0) (each w) rfl fun _ _ => Finset.subset_univ _).trans ?_
  refine sep_mono_r (bigSepL_mono fun t ht => ?_)
  rcases List.mem_singleton.mp ht with rfl
  exact fun _ h => h

theorem carved (m : (ℓ : Loc nD τ sig) → Buf (Elt F) ℓ) (c : Dev nD) (w : Fin 8) :
    (((c.tc : Thread nD τ).loc (aout w)) ↦{fullShare} m ((c.tc : Thread nD τ).loc (aout w)) : sProp 𝕄) ⊢ bigSepL (each w) ((load m).space c) := by
  refine (carve (fun _ => (outM w).view.set) (each w) (List.pairwise_singleton _ _) _ fun _ _ => Finset.subset_univ _).trans (bigSepL_mono fun t ht => ?_)
  rcases List.mem_singleton.mp ht with rfl
  exact fun _ h => h

theorem memory (m : (ℓ : Loc nD τ sig) → Buf (Elt F) ℓ) (c : Dev nD) :
    unscopedBufs c (fun b => m ((c.tc : Thread nD τ).loc b)) ⊢ iprop(bigSepL script.ts ((load m).give c) ∗ (bigSep Finset.univ fun l => (load m).room (plan.near c l).dst c)
        ∗ (bigSep Finset.univ fun r => (load m).room (plan.far (plan.peer c r) r).dst c) ∗ kept (load m) (ws.map ain) c : sProp 𝕄) :=
  (load m).split_memory script c ws ain aout each each rfl (by decide +kernel) mem_ts
    (bufs_listed c _ ws ain aout (by decide) (by decide)) (lent m c) (carved m c)

set_option maxRecDepth 20000 in
/-- The exchange, run: every argument is unchanged, a device's result is its own half of its sibling's argument, and every
    semaphore is back at zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (c : Dev nD) (w : Fin 8), r.2.mem ((c.tc : Thread nD τ).loc (ain w)) = m ((c.tc : Thread nD τ).loc (ain w)))
      ∧ (∀ (c d : Dev nD) (w : Fin 8) (i : (Sout w).Idx) (x : (Sin w).Idx), d.val = 2 * (c.val / 2) + (1 - c.val % 2) → (x 0).val = (i 0).val → (x 1).val = (c.val % 2) * hs w + (i 1).val → (x 2).val = (i 2).val →
          (outM w).view.read (Elt F) (r.2.mem ((c.tc : Thread nD τ).loc (aout w))) i = (inM w).view.read (Elt F) (m ((d.tc : Thread nD τ).loc (ain w))) x)
      ∧ r.2.sem = fun _ => 0 := by
  refine run_plan cfgs (load m) script cellOf_inj (fun p => by match p with | 0 => exact Fin.isEmpty) winFacts0 (by decide +kernel) defs₀ ρ main (fun c => rfl)
    (fun c => scopedRest0_eq c) N_0 (fun c t A => by rw [← body_eq]; exact fun _ h => h) complete (fun c x hx => by cases hx) (ws.map ain) (memory m) ?_
  intro s h hs'
  refine ⟨fun c w => (h c).2 (ain w) (List.mem_map_of_mem (mem_ws w)), ?_, sem_eq_zero_of_scoped (by decide) hs'⟩
  intro c d w i x hd h0 h1 h2
  have hc := c.isLt
  have hn : nD = 8 := rfl
  have hdc : d = peer c w := Fin.ext (by rw [peer_val]; omega)
  subst hdc
  refine (congrFun ((h c).1 _ (mem_ks (.inl (.inr w)))) i).trans ?_
  show (inM w).view.read (Elt F) _ ((Rect.unit (s := Sin w) (off w (peer c w)) (Sout w).size (inb w (peer c w))).emb i) = _
  congr 1
  funext a
  refine Fin.ext ?_
  rw [Rect.emb_apply]
  show off w (peer c w) a + 1 * (i a).val = (x a).val
  rw [off_eq]
  match a with
  | 0 => show 0 + 1 * (i 0).val = (x 0).val; omega
  | 1 =>
    show hs w - hs w * ((peer c w).val % 2) + 1 * (i 1).val = (x 1).val
    rw [h1]
    rcases Nat.mod_two_eq_zero_or_one c.val with hk | hk
    · have : (peer c w).val % 2 = 1 := by rw [peer_val]; omega
      rw [this, hk]; omega
    · have : (peer c w).val % 2 = 0 := by rw [peer_val]; omega
      rw [this, hk]; omega
  | 2 => show 0 + 1 * (i 2).val = (x 2).val; omega

end Cert.HalvesTalk

end
-- ==== Proof.HalvesValue.lean ====
/-
What the exchange of gradients between the cores of a chip computes, against the whole arrays' halves, each core's taken from the other's planes.
-/
module

public import proofs.«01_k».proof.Defs
public import proofs.«01_k».proof.Proof.HalvesTalk
public import proofs.«01_k».proof.Proof.Layouts
public import proofs.«01_k».proof.Proof.Gen.Halves
public import proofs.«01_k».proof.Proof.Gen.HalvesReference
public import proofs.«01_k».proof.Proof.Gen.HalvesReferenceIdeal
public import proofs.«01_k».proof.Proof.Gen.HalvesReferenceIdeal.Run

@[expose] public section

noncomputable section

namespace Cert.HalvesTalk

open Idealize.ShloMosaic Idealize.ShloMosaic.TcCoe Idealize.SL.Sem
open Cert.Talk

set_option maxRecDepth 20000 in
/-- For any float values: the devices' results are their blocks of the reference's. -/
theorem value (F : FTy → Type) [FloatOps F] :
  ∀ (m : (ℓ : Loc Cert.HalvesIdeal.nD Cert.HalvesIdeal.τ Cert.HalvesIdeal.sig) → Buf (Elt F) ℓ) (g : Dev Cert.HalvesIdeal.nD → PrngReg)
    (m' : (ℓ : Loc Cert.HalvesReferenceIdeal.nD Cert.HalvesReferenceIdeal.τ Cert.HalvesReferenceIdeal.sig) → Buf (Elt F) ℓ) (g' : Dev Cert.HalvesReferenceIdeal.nD → PrngReg),
    (∀ c : Dev Cert.HalvesIdeal.nD,
      m ((c.tc : Thread Cert.HalvesIdeal.nD Cert.HalvesIdeal.τ).loc Cert.HalvesIdeal.main_arg0) = Layout.block ⟨3, ![4, 1024, 1536]⟩ ⟨3, ![32, 1024, 1536]⟩ 0 8 c (m' (((0 : Dev Cert.HalvesReferenceIdeal.nD).tc : Thread Cert.HalvesReferenceIdeal.nD Cert.HalvesReferenceIdeal.τ).loc Cert.HalvesReferenceIdeal.main_arg0))
      ∧ m ((c.tc : Thread Cert.HalvesIdeal.nD Cert.HalvesIdeal.τ).loc Cert.HalvesIdeal.main_arg1) = Layout.block ⟨3, ![4, 256, 256]⟩ ⟨3, ![32, 256, 256]⟩ 0 8 c (m' (((0 : Dev Cert.HalvesReferenceIdeal.nD).tc : Thread Cert.HalvesReferenceIdeal.nD Cert.HalvesReferenceIdeal.τ).loc Cert.HalvesReferenceIdeal.main_arg1))
      ∧ m ((c.tc : Thread Cert.HalvesIdeal.nD Cert.HalvesIdeal.τ).loc Cert.HalvesIdeal.main_arg2) = Layout.block ⟨3, ![4, 256, 256]⟩ ⟨3, ![32, 256, 256]⟩ 0 8 c (m' (((0 : Dev Cert.HalvesReferenceIdeal.nD).tc : Thread Cert.HalvesReferenceIdeal.nD Cert.HalvesReferenceIdeal.τ).loc Cert.HalvesReferenceIdeal.main_arg2))
      ∧ m ((c.tc : Thread Cert.HalvesIdeal.nD Cert.HalvesIdeal.τ).loc Cert.HalvesIdeal.main_arg3) = Layout.block ⟨3, ![4, 256, 1024]⟩ ⟨3, ![32, 256, 1024]⟩ 0 8 c (m' (((0 : Dev Cert.HalvesReferenceIdeal.nD).tc : Thread Cert.HalvesReferenceIdeal.nD Cert.HalvesReferenceIdeal.τ).loc Cert.HalvesReferenceIdeal.main_arg3))
      ∧ m ((c.tc : Thread Cert.HalvesIdeal.nD Cert.HalvesIdeal.τ).loc Cert.HalvesIdeal.main_arg4) = Layout.block ⟨3, ![4, 256, 1024]⟩ ⟨3, ![32, 256, 1024]⟩ 0 8 c (m' (((0 : Dev Cert.HalvesReferenceIdeal.nD).tc : Thread Cert.HalvesReferenceIdeal.nD Cert.HalvesReferenceIdeal.τ).loc Cert.HalvesReferenceIdeal.main_arg4))
      ∧ m ((c.tc : Thread Cert.HalvesIdeal.nD Cert.HalvesIdeal.τ).loc Cert.HalvesIdeal.main_arg5) = Layout.block ⟨3, ![4, 256, 1024]⟩ ⟨3, ![32, 256, 1024]⟩ 0 8 c (m' (((0 : Dev Cert.HalvesReferenceIdeal.nD).tc : Thread Cert.HalvesReferenceIdeal.nD Cert.HalvesReferenceIdeal.τ).loc Cert.HalvesReferenceIdeal.main_arg5))
      ∧ m ((c.tc : Thread Cert.HalvesIdeal.nD Cert.HalvesIdeal.τ).loc Cert.HalvesIdeal.main_arg6) = Layout.block ⟨3, ![4, 1024, 1024]⟩ ⟨3, ![32, 1024, 1024]⟩ 0 8 c (m' (((0 : Dev Cert.HalvesReferenceIdeal.nD).tc : Thread Cert.HalvesReferenceIdeal.nD Cert.HalvesReferenceIdeal.τ).loc Cert.HalvesReferenceIdeal.main_arg6))
      ∧ m ((c.tc : Thread Cert.HalvesIdeal.nD Cert.HalvesIdeal.τ).loc Cert.HalvesIdeal.main_arg7) = Layout.block ⟨3, ![4, 1024, 1024]⟩ ⟨3, ![32, 1024, 1024]⟩ 0 8 c (m' (((0 : Dev Cert.HalvesReferenceIdeal.nD).tc : Thread Cert.HalvesReferenceIdeal.nD Cert.HalvesReferenceIdeal.τ).loc Cert.HalvesReferenceIdeal.main_arg7))) →
    ∃ (v0 : Buf (Elt F) (((0 : Dev Cert.HalvesReferenceIdeal.nD).tc : Thread Cert.HalvesReferenceIdeal.nD Cert.HalvesReferenceIdeal.τ).loc Cert.HalvesReferenceIdeal.main_v8)) (v1 : Buf (Elt F) (((0 : Dev Cert.HalvesReferenceIdeal.nD).tc : Thread Cert.HalvesReferenceIdeal.nD Cert.HalvesReferenceIdeal.τ).loc Cert.HalvesReferenceIdeal.main_v17)) (v2 : Buf (Elt F) (((0 : Dev Cert.HalvesReferenceIdeal.nD).tc : Thread Cert.HalvesReferenceIdeal.nD Cert.HalvesReferenceIdeal.τ).loc Cert.HalvesReferenceIdeal.main_v26)) (v3 : Buf (Elt F) (((0 : Dev Cert.HalvesReferenceIdeal.nD).tc : Thread Cert.HalvesReferenceIdeal.nD Cert.HalvesReferenceIdeal.τ).loc Cert.HalvesReferenceIdeal.main_v35)) (v4 : Buf (Elt F) (((0 : Dev Cert.HalvesReferenceIdeal.nD).tc : Thread Cert.HalvesReferenceIdeal.nD Cert.HalvesReferenceIdeal.τ).loc Cert.HalvesReferenceIdeal.main_v44)) (v5 : Buf (Elt F) (((0 : Dev Cert.HalvesReferenceIdeal.nD).tc : Thread Cert.HalvesReferenceIdeal.nD Cert.HalvesReferenceIdeal.τ).loc Cert.HalvesReferenceIdeal.main_v53)) (v6 : Buf (Elt F) (((0 : Dev Cert.HalvesReferenceIdeal.nD).tc : Thread Cert.HalvesReferenceIdeal.nD Cert.HalvesReferenceIdeal.τ).loc Cert.HalvesReferenceIdeal.main_v62)) (v7 : Buf (Elt F) (((0 : Dev Cert.HalvesReferenceIdeal.nD).tc : Thread Cert.HalvesReferenceIdeal.nD Cert.HalvesReferenceIdeal.τ).loc Cert.HalvesReferenceIdeal.main_v71)),
      θ_run (Cert.HalvesIdeal.defs (F := F)) (onTc (τ := Cert.HalvesIdeal.τ) (Cert.HalvesIdeal.main (F := F))) ⟨m, fun _ => 0, g⟩ (fun r => ∀ c : Dev Cert.HalvesIdeal.nD,
          r.2.mem ((c.tc : Thread Cert.HalvesIdeal.nD Cert.HalvesIdeal.τ).loc Cert.HalvesIdeal.main_v1_0) = Layout.block ⟨3, ![4, 512, 1536]⟩ ⟨3, ![32, 512, 1536]⟩ 0 8 c v0
          ∧ r.2.mem ((c.tc : Thread Cert.HalvesIdeal.nD Cert.HalvesIdeal.τ).loc Cert.HalvesIdeal.main_v1_1) = Layout.block ⟨3, ![4, 128, 256]⟩ ⟨3, ![32, 128, 256]⟩ 0 8 c v1
          ∧ r.2.mem ((c.tc : Thread Cert.HalvesIdeal.nD Cert.HalvesIdeal.τ).loc Cert.HalvesIdeal.main_v1_2) = Layout.block ⟨3, ![4, 128, 256]⟩ ⟨3, ![32, 128, 256]⟩ 0 8 c v2
          ∧ r.2.mem ((c.tc : Thread Cert.HalvesIdeal.nD Cert.HalvesIdeal.τ).loc Cert.HalvesIdeal.main_v1_3) = Layout.block ⟨3, ![4, 128, 1024]⟩ ⟨3, ![32, 128, 1024]⟩ 0 8 c v3
          ∧ r.2.mem ((c.tc : Thread Cert.HalvesIdeal.nD Cert.HalvesIdeal.τ).loc Cert.HalvesIdeal.main_v1_4) = Layout.block ⟨3, ![4, 128, 1024]⟩ ⟨3, ![32, 128, 1024]⟩ 0 8 c v4
          ∧ r.2.mem ((c.tc : Thread Cert.HalvesIdeal.nD Cert.HalvesIdeal.τ).loc Cert.HalvesIdeal.main_v1_5) = Layout.block ⟨3, ![4, 128, 1024]⟩ ⟨3, ![32, 128, 1024]⟩ 0 8 c v5
          ∧ r.2.mem ((c.tc : Thread Cert.HalvesIdeal.nD Cert.HalvesIdeal.τ).loc Cert.HalvesIdeal.main_v1_6) = Layout.block ⟨3, ![4, 512, 1024]⟩ ⟨3, ![32, 512, 1024]⟩ 0 8 c v6
          ∧ r.2.mem ((c.tc : Thread Cert.HalvesIdeal.nD Cert.HalvesIdeal.τ).loc Cert.HalvesIdeal.main_v1_7) = Layout.block ⟨3, ![4, 512, 1024]⟩ ⟨3, ![32, 512, 1024]⟩ 0 8 c v7
          ∧ r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0)
          ∧ r.2.mem ((c.tc : Thread Cert.HalvesIdeal.nD Cert.HalvesIdeal.τ).loc Cert.HalvesIdeal.main_arg1) = m ((c.tc : Thread Cert.HalvesIdeal.nD Cert.HalvesIdeal.τ).loc Cert.HalvesIdeal.main_arg1)
          ∧ r.2.mem ((c.tc : Thread Cert.HalvesIdeal.nD Cert.HalvesIdeal.τ).loc Cert.HalvesIdeal.main_arg2) = m ((c.tc : Thread Cert.HalvesIdeal.nD Cert.HalvesIdeal.τ).loc Cert.HalvesIdeal.main_arg2)
          ∧ r.2.mem ((c.tc : Thread Cert.HalvesIdeal.nD Cert.HalvesIdeal.τ).loc Cert.HalvesIdeal.main_arg3) = m ((c.tc : Thread Cert.HalvesIdeal.nD Cert.HalvesIdeal.τ).loc Cert.HalvesIdeal.main_arg3)
          ∧ r.2.mem ((c.tc : Thread Cert.HalvesIdeal.nD Cert.HalvesIdeal.τ).loc Cert.HalvesIdeal.main_arg4) = m ((c.tc : Thread Cert.HalvesIdeal.nD Cert.HalvesIdeal.τ).loc Cert.HalvesIdeal.main_arg4)
          ∧ r.2.mem ((c.tc : Thread Cert.HalvesIdeal.nD Cert.HalvesIdeal.τ).loc Cert.HalvesIdeal.main_arg5) = m ((c.tc : Thread Cert.HalvesIdeal.nD Cert.HalvesIdeal.τ).loc Cert.HalvesIdeal.main_arg5)
          ∧ r.2.mem ((c.tc : Thread Cert.HalvesIdeal.nD Cert.HalvesIdeal.τ).loc Cert.HalvesIdeal.main_arg6) = m ((c.tc : Thread Cert.HalvesIdeal.nD Cert.HalvesIdeal.τ).loc Cert.HalvesIdeal.main_arg6)
          ∧ r.2.mem ((c.tc : Thread Cert.HalvesIdeal.nD Cert.HalvesIdeal.τ).loc Cert.HalvesIdeal.main_arg7) = m ((c.tc : Thread Cert.HalvesIdeal.nD Cert.HalvesIdeal.τ).loc Cert.HalvesIdeal.main_arg7))
      ∧ θ_run (Cert.HalvesReferenceIdeal.defs (F := F)) (onTc (τ := Cert.HalvesReferenceIdeal.τ) (Cert.HalvesReferenceIdeal.main (F := F))) ⟨m', fun _ => 0, g'⟩ (fun r =>
          r.2.mem (((0 : Dev Cert.HalvesReferenceIdeal.nD).tc : Thread Cert.HalvesReferenceIdeal.nD Cert.HalvesReferenceIdeal.τ).loc Cert.HalvesReferenceIdeal.main_v8) = v0
          ∧ r.2.mem (((0 : Dev Cert.HalvesReferenceIdeal.nD).tc : Thread Cert.HalvesReferenceIdeal.nD Cert.HalvesReferenceIdeal.τ).loc Cert.HalvesReferenceIdeal.main_v17) = v1
          ∧ r.2.mem (((0 : Dev Cert.HalvesReferenceIdeal.nD).tc : Thread Cert.HalvesReferenceIdeal.nD Cert.HalvesReferenceIdeal.τ).loc Cert.HalvesReferenceIdeal.main_v26) = v2
          ∧ r.2.mem (((0 : Dev Cert.HalvesReferenceIdeal.nD).tc : Thread Cert.HalvesReferenceIdeal.nD Cert.HalvesReferenceIdeal.τ).loc Cert.HalvesReferenceIdeal.main_v35) = v3
          ∧ r.2.mem (((0 : Dev Cert.HalvesReferenceIdeal.nD).tc : Thread Cert.HalvesReferenceIdeal.nD Cert.HalvesReferenceIdeal.τ).loc Cert.HalvesReferenceIdeal.main_v44) = v4
          ∧ r.2.mem (((0 : Dev Cert.HalvesReferenceIdeal.nD).tc : Thread Cert.HalvesReferenceIdeal.nD Cert.HalvesReferenceIdeal.τ).loc Cert.HalvesReferenceIdeal.main_v53) = v5
          ∧ r.2.mem (((0 : Dev Cert.HalvesReferenceIdeal.nD).tc : Thread Cert.HalvesReferenceIdeal.nD Cert.HalvesReferenceIdeal.τ).loc Cert.HalvesReferenceIdeal.main_v62) = v6
          ∧ r.2.mem (((0 : Dev Cert.HalvesReferenceIdeal.nD).tc : Thread Cert.HalvesReferenceIdeal.nD Cert.HalvesReferenceIdeal.τ).loc Cert.HalvesReferenceIdeal.main_v71) = v7
          ∧ r.2.mem (((0 : Dev Cert.HalvesReferenceIdeal.nD).tc : Thread Cert.HalvesReferenceIdeal.nD Cert.HalvesReferenceIdeal.τ).loc Cert.HalvesReferenceIdeal.main_arg0) = m' (((0 : Dev Cert.HalvesReferenceIdeal.nD).tc : Thread Cert.HalvesReferenceIdeal.nD Cert.HalvesReferenceIdeal.τ).loc Cert.HalvesReferenceIdeal.main_arg0)
          ∧ r.2.mem (((0 : Dev Cert.HalvesReferenceIdeal.nD).tc : Thread Cert.HalvesReferenceIdeal.nD Cert.HalvesReferenceIdeal.τ).loc Cert.HalvesReferenceIdeal.main_arg1) = m' (((0 : Dev Cert.HalvesReferenceIdeal.nD).tc : Thread Cert.HalvesReferenceIdeal.nD Cert.HalvesReferenceIdeal.τ).loc Cert.HalvesReferenceIdeal.main_arg1)
          ∧ r.2.mem (((0 : Dev Cert.HalvesReferenceIdeal.nD).tc : Thread Cert.HalvesReferenceIdeal.nD Cert.HalvesReferenceIdeal.τ).loc Cert.HalvesReferenceIdeal.main_arg2) = m' (((0 : Dev Cert.HalvesReferenceIdeal.nD).tc : Thread Cert.HalvesReferenceIdeal.nD Cert.HalvesReferenceIdeal.τ).loc Cert.HalvesReferenceIdeal.main_arg2)
          ∧ r.2.mem (((0 : Dev Cert.HalvesReferenceIdeal.nD).tc : Thread Cert.HalvesReferenceIdeal.nD Cert.HalvesReferenceIdeal.τ).loc Cert.HalvesReferenceIdeal.main_arg3) = m' (((0 : Dev Cert.HalvesReferenceIdeal.nD).tc : Thread Cert.HalvesReferenceIdeal.nD Cert.HalvesReferenceIdeal.τ).loc Cert.HalvesReferenceIdeal.main_arg3)
          ∧ r.2.mem (((0 : Dev Cert.HalvesReferenceIdeal.nD).tc : Thread Cert.HalvesReferenceIdeal.nD Cert.HalvesReferenceIdeal.τ).loc Cert.HalvesReferenceIdeal.main_arg4) = m' (((0 : Dev Cert.HalvesReferenceIdeal.nD).tc : Thread Cert.HalvesReferenceIdeal.nD Cert.HalvesReferenceIdeal.τ).loc Cert.HalvesReferenceIdeal.main_arg4)
          ∧ r.2.mem (((0 : Dev Cert.HalvesReferenceIdeal.nD).tc : Thread Cert.HalvesReferenceIdeal.nD Cert.HalvesReferenceIdeal.τ).loc Cert.HalvesReferenceIdeal.main_arg5) = m' (((0 : Dev Cert.HalvesReferenceIdeal.nD).tc : Thread Cert.HalvesReferenceIdeal.nD Cert.HalvesReferenceIdeal.τ).loc Cert.HalvesReferenceIdeal.main_arg5)
          ∧ r.2.mem (((0 : Dev Cert.HalvesReferenceIdeal.nD).tc : Thread Cert.HalvesReferenceIdeal.nD Cert.HalvesReferenceIdeal.τ).loc Cert.HalvesReferenceIdeal.main_arg6) = m' (((0 : Dev Cert.HalvesReferenceIdeal.nD).tc : Thread Cert.HalvesReferenceIdeal.nD Cert.HalvesReferenceIdeal.τ).loc Cert.HalvesReferenceIdeal.main_arg6)
          ∧ r.2.mem (((0 : Dev Cert.HalvesReferenceIdeal.nD).tc : Thread Cert.HalvesReferenceIdeal.nD Cert.HalvesReferenceIdeal.τ).loc Cert.HalvesReferenceIdeal.main_arg7) = m' (((0 : Dev Cert.HalvesReferenceIdeal.nD).tc : Thread Cert.HalvesReferenceIdeal.nD Cert.HalvesReferenceIdeal.τ).loc Cert.HalvesReferenceIdeal.main_arg7)) := by
  intro m g m' g' hin
  refine ⟨_, _, _, _, _, _, _, _, (θ_run Cert.HalvesIdeal.defs _ _).mono (fun r h c => ?_) (run (F := F) m g),
    (θ_run Cert.HalvesReferenceIdeal.defs _ _).mono (fun r h => h 0) (Cert.HalvesReferenceIdeal.Value.run (F := F) m' g')⟩
  exact ⟨
    sibling_blocks rfl _ _ _ _ _ _ _ _ c _ (fun d : Dev Cert.HalvesIdeal.nD => m ((d.tc : Thread Cert.HalvesIdeal.nD Cert.HalvesIdeal.τ).loc Cert.HalvesIdeal.main_arg0)) (fun d => (hin d).1) (fun d i x => h.2.1 c d 0 i x),
    sibling_blocks rfl _ _ _ _ _ _ _ _ c _ (fun d : Dev Cert.HalvesIdeal.nD => m ((d.tc : Thread Cert.HalvesIdeal.nD Cert.HalvesIdeal.τ).loc Cert.HalvesIdeal.main_arg1)) (fun d => (hin d).2.1) (fun d i x => h.2.1 c d 1 i x),
    sibling_blocks rfl _ _ _ _ _ _ _ _ c _ (fun d : Dev Cert.HalvesIdeal.nD => m ((d.tc : Thread Cert.HalvesIdeal.nD Cert.HalvesIdeal.τ).loc Cert.HalvesIdeal.main_arg2)) (fun d => (hin d).2.2.1) (fun d i x => h.2.1 c d 2 i x),
    sibling_blocks rfl _ _ _ _ _ _ _ _ c _ (fun d : Dev Cert.HalvesIdeal.nD => m ((d.tc : Thread Cert.HalvesIdeal.nD Cert.HalvesIdeal.τ).loc Cert.HalvesIdeal.main_arg3)) (fun d => (hin d).2.2.2.1) (fun d i x => h.2.1 c d 3 i x),
    sibling_blocks rfl _ _ _ _ _ _ _ _ c _ (fun d : Dev Cert.HalvesIdeal.nD => m ((d.tc : Thread Cert.HalvesIdeal.nD Cert.HalvesIdeal.τ).loc Cert.HalvesIdeal.main_arg4)) (fun d => (hin d).2.2.2.2.1) (fun d i x => h.2.1 c d 4 i x),
    sibling_blocks rfl _ _ _ _ _ _ _ _ c _ (fun d : Dev Cert.HalvesIdeal.nD => m ((d.tc : Thread Cert.HalvesIdeal.nD Cert.HalvesIdeal.τ).loc Cert.HalvesIdeal.main_arg5)) (fun d => (hin d).2.2.2.2.2.1) (fun d i x => h.2.1 c d 5 i x),
    sibling_blocks rfl _ _ _ _ _ _ _ _ c _ (fun d : Dev Cert.HalvesIdeal.nD => m ((d.tc : Thread Cert.HalvesIdeal.nD Cert.HalvesIdeal.τ).loc Cert.HalvesIdeal.main_arg6)) (fun d => (hin d).2.2.2.2.2.2.1) (fun d i x => h.2.1 c d 6 i x),
    sibling_blocks rfl _ _ _ _ _ _ _ _ c _ (fun d : Dev Cert.HalvesIdeal.nD => m ((d.tc : Thread Cert.HalvesIdeal.nD Cert.HalvesIdeal.τ).loc Cert.HalvesIdeal.main_arg7)) (fun d => (hin d).2.2.2.2.2.2.2) (fun d i x => h.2.1 c d 7 i x),
    h.1 c 0, h.1 c 1, h.1 c 2, h.1 c 3, h.1 c 4, h.1 c 5, h.1 c 6, h.1 c 7⟩

theorem algebraic : Cert.algebraic_HalvesIdeal_HalvesReferenceIdeal := fun m g m' g' _ => value Ideal m g m' g'

theorem bitexact : Cert.bitexact_Halves_HalvesReference := fun m g m' g' _ => value Bits m g m' g'

theorem frame_ideal : Cert.quiescent_HalvesIdeal := fun m g _ =>
  (θ_run Cert.HalvesIdeal.defs _ _).mono (fun r h => ⟨fun c => ⟨h.1 c 0, h.1 c 1, h.1 c 2, h.1 c 3, h.1 c 4, h.1 c 5, h.1 c 6, h.1 c 7⟩, h.2.2⟩) (run (F := Ideal) m g)

theorem frame : Cert.quiescent_Halves := fun m g _ =>
  (θ_run Cert.HalvesIdeal.defs _ _).mono (fun r h => ⟨fun c => ⟨h.1 c 0, h.1 c 1, h.1 c 2, h.1 c 3, h.1 c 4, h.1 c 5, h.1 c 6, h.1 c 7⟩, h.2.2⟩) (run (F := Bits) m g)

theorem frame_reference_ideal : Cert.quiescent_HalvesReferenceIdeal := fun m g _ =>
  (θ_run Cert.HalvesReferenceIdeal.defs _ _).mono (fun r h => ⟨fun c => (h c).2.2.2.2.2.2.2.2, sem_eq_zero_of_no_sems (by decide) r.2⟩)
    (Cert.HalvesReferenceIdeal.Value.run (F := Ideal) m g)

theorem frame_reference : Cert.quiescent_HalvesReference := fun m g _ =>
  (θ_run Cert.HalvesReferenceIdeal.defs _ _).mono (fun r h => ⟨fun c => (h c).2.2.2.2.2.2.2.2, sem_eq_zero_of_no_sems (by decide) r.2⟩)
    (Cert.HalvesReferenceIdeal.Value.run (F := Bits) m g)

end Cert.HalvesTalk

end
-- ==== Proof.GatherTalk.lean ====
/-
The run of the gather of the weights: each device copies its own half of every array of its chip into its result and
sends it to its sibling and to the like cores of the other chips; a half that arrives from another chip is sent on to the
sibling. The small array is sent whole between the like cores.
-/
module

public import proofs.«01_k».proof.Proof.Blocks
public import proofs.«01_k».proof.Proof.Gen.GatherIdeal
public import proofs.«01_k».proof.Proof.Gen.GatherIdeal.Launch
public import proofs.«01_k».proof.Proof.Gen.GatherIdeal.Points
public import proofs.«01_k».proof.Proof.Gen.GatherIdeal.Skeleton

@[expose] public section

noncomputable section

namespace Cert.GatherTalk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Talk Cert.GatherIdeal Cert.GatherIdeal.Gen

variable {F : FTy → Type} [FloatOps F]

local notation "𝕄" => MT nD τ sig Unit (Elt F) ℕ (UR sig nD τ) ℕ

/-! ### The arrays, by number -/

/-- The rows of half of a chip's part of an array. -/
def hs : Fin 8 → ℕ := ![512, 128, 128, 128, 128, 128, 512, 512]
/-- The rows of a chip's part of an array. -/
def ts : Fin 8 → ℕ := ![1024, 256, 256, 256, 256, 256, 1024, 1024]
/-- The columns of an array. -/
def cs : Fin 8 → ℕ := ![1536, 256, 256, 1024, 1024, 1024, 1024, 1024]

theorem two_halves (w : Fin 8) : ts w = hs w + hs w := by revert w; decide
theorem hs_pos (w : Fin 8) : 0 < hs w := by revert w; decide

abbrev Sin (w : Fin 8) : Shape := ⟨2, ![ts w, cs w]⟩
abbrev Shalf (w : Fin 8) : Shape := ⟨2, ![hs w, cs w]⟩
abbrev Sblk (w : Fin 8) : Shape := ⟨3, ![1, hs w, cs w]⟩
abbrev Sout (w : Fin 8) : Shape := ⟨3, ![4, ts w, cs w]⟩
abbrev Tin : Shape := ⟨2, ![8, 384]⟩
abbrev Tblk : Shape := ⟨3, ![1, 8, 384]⟩
abbrev Tout : Shape := ⟨3, ![4, 8, 384]⟩

def inM : (w : Fin 8) → Memref sig .tc .hbm (Sin w) .bf16
  | 0 => (Memref.whole main_arg0 : Memref sig .tc .hbm _ .bf16)
  | 1 => (Memref.whole main_arg1 : Memref sig .tc .hbm _ .bf16)
  | 2 => (Memref.whole main_arg2 : Memref sig .tc .hbm _ .bf16)
  | 3 => (Memref.whole main_arg3 : Memref sig .tc .hbm _ .bf16)
  | 4 => (Memref.whole main_arg4 : Memref sig .tc .hbm _ .bf16)
  | 5 => (Memref.whole main_arg5 : Memref sig .tc .hbm _ .bf16)
  | 6 => (Memref.whole main_arg6 : Memref sig .tc .hbm _ .bf16)
  | 7 => (Memref.whole main_arg7 : Memref sig .tc .hbm _ .bf16)

def outM : (w : Fin 8) → Memref sig .tc .hbm (Sout w) .bf16
  | 0 => (Memref.whole main_v1_0 : Memref sig .tc .hbm _ .bf16)
  | 1 => (Memref.whole main_v1_1 : Memref sig .tc .hbm _ .bf16)
  | 2 => (Memref.whole main_v1_2 : Memref sig .tc .hbm _ .bf16)
  | 3 => (Memref.whole main_v1_3 : Memref sig .tc .hbm _ .bf16)
  | 4 => (Memref.whole main_v1_4 : Memref sig .tc .hbm _ .bf16)
  | 5 => (Memref.whole main_v1_5 : Memref sig .tc .hbm _ .bf16)
  | 6 => (Memref.whole main_v1_6 : Memref sig .tc .hbm _ .bf16)
  | 7 => (Memref.whole main_v1_7 : Memref sig .tc .hbm _ .bf16)

/-- The small array, and its result. -/
abbrev tin : Memref sig .tc .hbm Tin .f32 := Memref.whole main_arg8
abbrev toutM : Memref sig .tc .hbm Tout .f32 := Memref.whole main_v1_8

theorem in_whole (w : Fin 8) : (inM w).IsWhole := by
  match w with
  | 0 => exact Memref.isWhole_whole _
  | 1 => exact Memref.isWhole_whole _
  | 2 => exact Memref.isWhole_whole _
  | 3 => exact Memref.isWhole_whole _
  | 4 => exact Memref.isWhole_whole _
  | 5 => exact Memref.isWhole_whole _
  | 6 => exact Memref.isWhole_whole _
  | 7 => exact Memref.isWhole_whole _

theorem out_whole (w : Fin 8) : (outM w).IsWhole := by
  match w with
  | 0 => exact Memref.isWhole_whole _
  | 1 => exact Memref.isWhole_whole _
  | 2 => exact Memref.isWhole_whole _
  | 3 => exact Memref.isWhole_whole _
  | 4 => exact Memref.isWhole_whole _
  | 5 => exact Memref.isWhole_whole _
  | 6 => exact Memref.isWhole_whole _
  | 7 => exact Memref.isWhole_whole _

/-- The chip of a device, then the three others: the other row, the other column, both. -/
def chip (c : Dev nD) : Fin 4 → ℕ
  | 0 => 2 * (c.val / 4) + ((c.val / 2) % 2)
  | 1 => (((c.val / 2) % 2) + 2) - 2 * (c.val / 4)
  | 2 => (2 * (c.val / 4) + 1) - ((c.val / 2) % 2)
  | 3 => 3 - (2 * (c.val / 4) + ((c.val / 2) % 2))

/-- The core of a device, then the other. -/
def core (c : Dev nD) : Fin 2 → ℕ
  | 0 => c.val % 2
  | 1 => 1 - c.val % 2

/-- Where a device's own half of an argument starts. -/
def inOff : Fin 8 → Dev nD → Fin 2 → ℕ
  | 0 => k0_off2
  | 1 => k0_off4
  | 2 => k0_off4
  | 3 => k0_off6
  | 4 => k0_off6
  | 5 => k0_off6
  | 6 => k0_off8
  | 7 => k0_off8

theorem inOff_eq (w : Fin 8) (c : Dev nD) : inOff w c = ![hs w * (c.val % 2), 0] := by
  match w with
  | 0 => exact k0_off2_eq c
  | 1 => exact k0_off4_eq c
  | 2 => exact k0_off4_eq c
  | 3 => exact k0_off6_eq c
  | 4 => exact k0_off6_eq c
  | 5 => exact k0_off6_eq c
  | 6 => exact k0_off8_eq c
  | 7 => exact k0_off8_eq c

theorem in_inb (w : Fin 8) (c : Dev nD) : ∀ a, inOff w c a + (Shalf w).size a ≤ (Sin w).size a := by
  match w with
  | 0 => exact k0_off2_inb c
  | 1 => exact k0_off4_inb c
  | 2 => exact k0_off4_inb c
  | 3 => exact k0_off6_inb c
  | 4 => exact k0_off6_inb c
  | 5 => exact k0_off6_inb c
  | 6 => exact k0_off8_inb c
  | 7 => exact k0_off8_inb c

theorem in_words (w : Fin 8) (c : Dev nD) : (Rect.unit (s := Sin w) (inOff w c) (Shalf w).size (in_inb w c)).WholeWords (EltTy.packing .bf16) := by
  match w with
  | 0 => exact k0_off2_wordsbf16 c
  | 1 => exact k0_off4_wordsbf16 c
  | 2 => exact k0_off4_wordsbf16 c
  | 3 => exact k0_off6_wordsbf16 c
  | 4 => exact k0_off6_wordsbf16 c
  | 5 => exact k0_off6_wordsbf16 c
  | 6 => exact k0_off8_wordsbf16 c
  | 7 => exact k0_off8_wordsbf16 c

/-- Where a half of a chip's plane of a result starts: the device's own half, then the other. -/
def off : Fin 8 → Fin 2 → Fin 4 → Dev nD → Fin 3 → ℕ
  | 0, 0, 0 => k0_off1
  | 0, 0, 1 => k0_off10
  | 0, 0, 2 => k0_off11
  | 0, 0, 3 => k0_off12
  | 0, 1, 0 => k0_off22
  | 0, 1, 1 => k0_off23
  | 0, 1, 2 => k0_off24
  | 0, 1, 3 => k0_off25
  | 1, 0, 0 => k0_off3
  | 1, 0, 1 => k0_off13
  | 1, 0, 2 => k0_off14
  | 1, 0, 3 => k0_off15
  | 1, 1, 0 => k0_off26
  | 1, 1, 1 => k0_off27
  | 1, 1, 2 => k0_off28
  | 1, 1, 3 => k0_off29
  | 2, 0, 0 => k0_off3
  | 2, 0, 1 => k0_off13
  | 2, 0, 2 => k0_off14
  | 2, 0, 3 => k0_off15
  | 2, 1, 0 => k0_off26
  | 2, 1, 1 => k0_off27
  | 2, 1, 2 => k0_off28
  | 2, 1, 3 => k0_off29
  | 3, 0, 0 => k0_off5
  | 3, 0, 1 => k0_off16
  | 3, 0, 2 => k0_off17
  | 3, 0, 3 => k0_off18
  | 3, 1, 0 => k0_off30
  | 3, 1, 1 => k0_off31
  | 3, 1, 2 => k0_off32
  | 3, 1, 3 => k0_off33
  | 4, 0, 0 => k0_off5
  | 4, 0, 1 => k0_off16
  | 4, 0, 2 => k0_off17
  | 4, 0, 3 => k0_off18
  | 4, 1, 0 => k0_off30
  | 4, 1, 1 => k0_off31
  | 4, 1, 2 => k0_off32
  | 4, 1, 3 => k0_off33
  | 5, 0, 0 => k0_off5
  | 5, 0, 1 => k0_off16
  | 5, 0, 2 => k0_off17
  | 5, 0, 3 => k0_off18
  | 5, 1, 0 => k0_off30
  | 5, 1, 1 => k0_off31
  | 5, 1, 2 => k0_off32
  | 5, 1, 3 => k0_off33
  | 6, 0, 0 => k0_off7
  | 6, 0, 1 => k0_off19
  | 6, 0, 2 => k0_off20
  | 6, 0, 3 => k0_off21
  | 6, 1, 0 => k0_off34
  | 6, 1, 1 => k0_off35
  | 6, 1, 2 => k0_off36
  | 6, 1, 3 => k0_off37
  | 7, 0, 0 => k0_off7
  | 7, 0, 1 => k0_off19
  | 7, 0, 2 => k0_off20
  | 7, 0, 3 => k0_off21
  | 7, 1, 0 => k0_off34
  | 7, 1, 1 => k0_off35
  | 7, 1, 2 => k0_off36
  | 7, 1, 3 => k0_off37

theorem over (k : ℕ) (c : Dev nD) : (![k - k * (c.val % 2)] : Fin 1 → ℕ) = ![k * (1 - c.val % 2)] := by
  rw [Nat.mul_sub, Nat.mul_one]

theorem third {a b b' z : ℕ} (h : (![b] : Fin 1 → ℕ) = ![b']) : (![a, b, z] : Fin 3 → ℕ) = ![a, b', z] := by
  have h : b = b' := congrFun h 0
  rw [h]

theorem off_eq (w : Fin 8) (h : Fin 2) (j : Fin 4) (c : Dev nD) : off w h j c = ![chip c j, hs w * core c h, 0] := by
  match w, h, j with
  | 0, 0, 0 => exact k0_off1_eq c
  | 0, 0, 1 => exact k0_off10_eq c
  | 0, 0, 2 => exact k0_off11_eq c
  | 0, 0, 3 => exact k0_off12_eq c
  | 0, 1, 0 => exact (k0_off22_eq c).trans (third (over 512 c))
  | 0, 1, 1 => exact (k0_off23_eq c).trans (third (over 512 c))
  | 0, 1, 2 => exact (k0_off24_eq c).trans (third (over 512 c))
  | 0, 1, 3 => exact (k0_off25_eq c).trans (third (over 512 c))
  | 1, 0, 0 => exact k0_off3_eq c
  | 1, 0, 1 => exact k0_off13_eq c
  | 1, 0, 2 => exact k0_off14_eq c
  | 1, 0, 3 => exact k0_off15_eq c
  | 1, 1, 0 => exact (k0_off26_eq c).trans (third (over 128 c))
  | 1, 1, 1 => exact (k0_off27_eq c).trans (third (over 128 c))
  | 1, 1, 2 => exact (k0_off28_eq c).trans (third (over 128 c))
  | 1, 1, 3 => exact (k0_off29_eq c).trans (third (over 128 c))
  | 2, 0, 0 => exact k0_off3_eq c
  | 2, 0, 1 => exact k0_off13_eq c
  | 2, 0, 2 => exact k0_off14_eq c
  | 2, 0, 3 => exact k0_off15_eq c
  | 2, 1, 0 => exact (k0_off26_eq c).trans (third (over 128 c))
  | 2, 1, 1 => exact (k0_off27_eq c).trans (third (over 128 c))
  | 2, 1, 2 => exact (k0_off28_eq c).trans (third (over 128 c))
  | 2, 1, 3 => exact (k0_off29_eq c).trans (third (over 128 c))
  | 3, 0, 0 => exact k0_off5_eq c
  | 3, 0, 1 => exact k0_off16_eq c
  | 3, 0, 2 => exact k0_off17_eq c
  | 3, 0, 3 => exact k0_off18_eq c
  | 3, 1, 0 => exact (k0_off30_eq c).trans (third (over 128 c))
  | 3, 1, 1 => exact (k0_off31_eq c).trans (third (over 128 c))
  | 3, 1, 2 => exact (k0_off32_eq c).trans (third (over 128 c))
  | 3, 1, 3 => exact (k0_off33_eq c).trans (third (over 128 c))
  | 4, 0, 0 => exact k0_off5_eq c
  | 4, 0, 1 => exact k0_off16_eq c
  | 4, 0, 2 => exact k0_off17_eq c
  | 4, 0, 3 => exact k0_off18_eq c
  | 4, 1, 0 => exact (k0_off30_eq c).trans (third (over 128 c))
  | 4, 1, 1 => exact (k0_off31_eq c).trans (third (over 128 c))
  | 4, 1, 2 => exact (k0_off32_eq c).trans (third (over 128 c))
  | 4, 1, 3 => exact (k0_off33_eq c).trans (third (over 128 c))
  | 5, 0, 0 => exact k0_off5_eq c
  | 5, 0, 1 => exact k0_off16_eq c
  | 5, 0, 2 => exact k0_off17_eq c
  | 5, 0, 3 => exact k0_off18_eq c
  | 5, 1, 0 => exact (k0_off30_eq c).trans (third (over 128 c))
  | 5, 1, 1 => exact (k0_off31_eq c).trans (third (over 128 c))
  | 5, 1, 2 => exact (k0_off32_eq c).trans (third (over 128 c))
  | 5, 1, 3 => exact (k0_off33_eq c).trans (third (over 128 c))
  | 6, 0, 0 => exact k0_off7_eq c
  | 6, 0, 1 => exact k0_off19_eq c
  | 6, 0, 2 => exact k0_off20_eq c
  | 6, 0, 3 => exact k0_off21_eq c
  | 6, 1, 0 => exact (k0_off34_eq c).trans (third (over 512 c))
  | 6, 1, 1 => exact (k0_off35_eq c).trans (third (over 512 c))
  | 6, 1, 2 => exact (k0_off36_eq c).trans (third (over 512 c))
  | 6, 1, 3 => exact (k0_off37_eq c).trans (third (over 512 c))
  | 7, 0, 0 => exact k0_off7_eq c
  | 7, 0, 1 => exact k0_off19_eq c
  | 7, 0, 2 => exact k0_off20_eq c
  | 7, 0, 3 => exact k0_off21_eq c
  | 7, 1, 0 => exact (k0_off34_eq c).trans (third (over 512 c))
  | 7, 1, 1 => exact (k0_off35_eq c).trans (third (over 512 c))
  | 7, 1, 2 => exact (k0_off36_eq c).trans (third (over 512 c))
  | 7, 1, 3 => exact (k0_off37_eq c).trans (third (over 512 c))

theorem inb (w : Fin 8) (h : Fin 2) (j : Fin 4) (c : Dev nD) : ∀ a, off w h j c a + (Sblk w).size a ≤ (Sout w).size a := by
  match w, h, j with
  | 0, 0, 0 => exact k0_off1_inb c
  | 0, 0, 1 => exact k0_off10_inb c
  | 0, 0, 2 => exact k0_off11_inb c
  | 0, 0, 3 => exact k0_off12_inb c
  | 0, 1, 0 => exact k0_off22_inb c
  | 0, 1, 1 => exact k0_off23_inb c
  | 0, 1, 2 => exact k0_off24_inb c
  | 0, 1, 3 => exact k0_off25_inb c
  | 1, 0, 0 => exact k0_off3_inb c
  | 1, 0, 1 => exact k0_off13_inb c
  | 1, 0, 2 => exact k0_off14_inb c
  | 1, 0, 3 => exact k0_off15_inb c
  | 1, 1, 0 => exact k0_off26_inb c
  | 1, 1, 1 => exact k0_off27_inb c
  | 1, 1, 2 => exact k0_off28_inb c
  | 1, 1, 3 => exact k0_off29_inb c
  | 2, 0, 0 => exact k0_off3_inb c
  | 2, 0, 1 => exact k0_off13_inb c
  | 2, 0, 2 => exact k0_off14_inb c
  | 2, 0, 3 => exact k0_off15_inb c
  | 2, 1, 0 => exact k0_off26_inb c
  | 2, 1, 1 => exact k0_off27_inb c
  | 2, 1, 2 => exact k0_off28_inb c
  | 2, 1, 3 => exact k0_off29_inb c
  | 3, 0, 0 => exact k0_off5_inb c
  | 3, 0, 1 => exact k0_off16_inb c
  | 3, 0, 2 => exact k0_off17_inb c
  | 3, 0, 3 => exact k0_off18_inb c
  | 3, 1, 0 => exact k0_off30_inb c
  | 3, 1, 1 => exact k0_off31_inb c
  | 3, 1, 2 => exact k0_off32_inb c
  | 3, 1, 3 => exact k0_off33_inb c
  | 4, 0, 0 => exact k0_off5_inb c
  | 4, 0, 1 => exact k0_off16_inb c
  | 4, 0, 2 => exact k0_off17_inb c
  | 4, 0, 3 => exact k0_off18_inb c
  | 4, 1, 0 => exact k0_off30_inb c
  | 4, 1, 1 => exact k0_off31_inb c
  | 4, 1, 2 => exact k0_off32_inb c
  | 4, 1, 3 => exact k0_off33_inb c
  | 5, 0, 0 => exact k0_off5_inb c
  | 5, 0, 1 => exact k0_off16_inb c
  | 5, 0, 2 => exact k0_off17_inb c
  | 5, 0, 3 => exact k0_off18_inb c
  | 5, 1, 0 => exact k0_off30_inb c
  | 5, 1, 1 => exact k0_off31_inb c
  | 5, 1, 2 => exact k0_off32_inb c
  | 5, 1, 3 => exact k0_off33_inb c
  | 6, 0, 0 => exact k0_off7_inb c
  | 6, 0, 1 => exact k0_off19_inb c
  | 6, 0, 2 => exact k0_off20_inb c
  | 6, 0, 3 => exact k0_off21_inb c
  | 6, 1, 0 => exact k0_off34_inb c
  | 6, 1, 1 => exact k0_off35_inb c
  | 6, 1, 2 => exact k0_off36_inb c
  | 6, 1, 3 => exact k0_off37_inb c
  | 7, 0, 0 => exact k0_off7_inb c
  | 7, 0, 1 => exact k0_off19_inb c
  | 7, 0, 2 => exact k0_off20_inb c
  | 7, 0, 3 => exact k0_off21_inb c
  | 7, 1, 0 => exact k0_off34_inb c
  | 7, 1, 1 => exact k0_off35_inb c
  | 7, 1, 2 => exact k0_off36_inb c
  | 7, 1, 3 => exact k0_off37_inb c

theorem words (w : Fin 8) (h : Fin 2) (j : Fin 4) (c : Dev nD) : (Rect.unit (s := Sout w) (off w h j c) (Sblk w).size (inb w h j c)).WholeWords (EltTy.packing .bf16) := by
  match w, h, j with
  | 0, 0, 0 => exact k0_off1_wordsbf16 c
  | 0, 0, 1 => exact k0_off10_wordsbf16 c
  | 0, 0, 2 => exact k0_off11_wordsbf16 c
  | 0, 0, 3 => exact k0_off12_wordsbf16 c
  | 0, 1, 0 => exact k0_off22_wordsbf16 c
  | 0, 1, 1 => exact k0_off23_wordsbf16 c
  | 0, 1, 2 => exact k0_off24_wordsbf16 c
  | 0, 1, 3 => exact k0_off25_wordsbf16 c
  | 1, 0, 0 => exact k0_off3_wordsbf16 c
  | 1, 0, 1 => exact k0_off13_wordsbf16 c
  | 1, 0, 2 => exact k0_off14_wordsbf16 c
  | 1, 0, 3 => exact k0_off15_wordsbf16 c
  | 1, 1, 0 => exact k0_off26_wordsbf16 c
  | 1, 1, 1 => exact k0_off27_wordsbf16 c
  | 1, 1, 2 => exact k0_off28_wordsbf16 c
  | 1, 1, 3 => exact k0_off29_wordsbf16 c
  | 2, 0, 0 => exact k0_off3_wordsbf16 c
  | 2, 0, 1 => exact k0_off13_wordsbf16 c
  | 2, 0, 2 => exact k0_off14_wordsbf16 c
  | 2, 0, 3 => exact k0_off15_wordsbf16 c
  | 2, 1, 0 => exact k0_off26_wordsbf16 c
  | 2, 1, 1 => exact k0_off27_wordsbf16 c
  | 2, 1, 2 => exact k0_off28_wordsbf16 c
  | 2, 1, 3 => exact k0_off29_wordsbf16 c
  | 3, 0, 0 => exact k0_off5_wordsbf16 c
  | 3, 0, 1 => exact k0_off16_wordsbf16 c
  | 3, 0, 2 => exact k0_off17_wordsbf16 c
  | 3, 0, 3 => exact k0_off18_wordsbf16 c
  | 3, 1, 0 => exact k0_off30_wordsbf16 c
  | 3, 1, 1 => exact k0_off31_wordsbf16 c
  | 3, 1, 2 => exact k0_off32_wordsbf16 c
  | 3, 1, 3 => exact k0_off33_wordsbf16 c
  | 4, 0, 0 => exact k0_off5_wordsbf16 c
  | 4, 0, 1 => exact k0_off16_wordsbf16 c
  | 4, 0, 2 => exact k0_off17_wordsbf16 c
  | 4, 0, 3 => exact k0_off18_wordsbf16 c
  | 4, 1, 0 => exact k0_off30_wordsbf16 c
  | 4, 1, 1 => exact k0_off31_wordsbf16 c
  | 4, 1, 2 => exact k0_off32_wordsbf16 c
  | 4, 1, 3 => exact k0_off33_wordsbf16 c
  | 5, 0, 0 => exact k0_off5_wordsbf16 c
  | 5, 0, 1 => exact k0_off16_wordsbf16 c
  | 5, 0, 2 => exact k0_off17_wordsbf16 c
  | 5, 0, 3 => exact k0_off18_wordsbf16 c
  | 5, 1, 0 => exact k0_off30_wordsbf16 c
  | 5, 1, 1 => exact k0_off31_wordsbf16 c
  | 5, 1, 2 => exact k0_off32_wordsbf16 c
  | 5, 1, 3 => exact k0_off33_wordsbf16 c
  | 6, 0, 0 => exact k0_off7_wordsbf16 c
  | 6, 0, 1 => exact k0_off19_wordsbf16 c
  | 6, 0, 2 => exact k0_off20_wordsbf16 c
  | 6, 0, 3 => exact k0_off21_wordsbf16 c
  | 6, 1, 0 => exact k0_off34_wordsbf16 c
  | 6, 1, 1 => exact k0_off35_wordsbf16 c
  | 6, 1, 2 => exact k0_off36_wordsbf16 c
  | 6, 1, 3 => exact k0_off37_wordsbf16 c
  | 7, 0, 0 => exact k0_off7_wordsbf16 c
  | 7, 0, 1 => exact k0_off19_wordsbf16 c
  | 7, 0, 2 => exact k0_off20_wordsbf16 c
  | 7, 0, 3 => exact k0_off21_wordsbf16 c
  | 7, 1, 0 => exact k0_off34_wordsbf16 c
  | 7, 1, 1 => exact k0_off35_wordsbf16 c
  | 7, 1, 2 => exact k0_off36_wordsbf16 c
  | 7, 1, 3 => exact k0_off37_wordsbf16 c

theorem sq (w : Fin 8) : (Sblk w).Squeezes (Shalf w) := by
  match w with
  | 0 => decide
  | 1 => decide
  | 2 => decide
  | 3 => decide
  | 4 => decide
  | 5 => decide
  | 6 => decide
  | 7 => decide

/-- Where a chip's plane of the small result starts. -/
def toff : Fin 4 → Dev nD → Fin 3 → ℕ
  | 0 => k0_off9
  | 1 => k0_off38
  | 2 => k0_off39
  | 3 => k0_off40

theorem toff_eq (j : Fin 4) (c : Dev nD) : toff j c = ![chip c j, 0, 0] := by
  match j with
  | 0 => exact k0_off9_eq c
  | 1 => exact k0_off38_eq c
  | 2 => exact k0_off39_eq c
  | 3 => exact k0_off40_eq c

theorem tinb (j : Fin 4) (c : Dev nD) : ∀ a, toff j c a + Tblk.size a ≤ Tout.size a := by
  match j with
  | 0 => exact k0_off9_inb c
  | 1 => exact k0_off38_inb c
  | 2 => exact k0_off39_inb c
  | 3 => exact k0_off40_inb c

theorem tsq : Tblk.Squeezes Tin := by decide

/-- The transfers to other devices: a half sent first, to the sibling and to the three other chips; a half sent on to the
    sibling; the small array, to the three other chips. -/
abbrev Rs := (Fin 8 × Fin 4) ⊕ (Fin 8 × Fin 3) ⊕ Fin 3
/-- The transfers within a device: a half of each array, and the small one. -/
abbrev Ls := Fin 8 ⊕ Fin 1
abbrev K := Key Ls Rs

/-- Where a transfer goes. -/
def peer (c : Dev nD) : Rs → Dev nD
  | .inl (0, 0) => ⟨k0_dev1 c, k0_dev1_lt c⟩
  | .inl (0, 1) => ⟨k0_dev2 c, k0_dev2_lt c⟩
  | .inl (0, 2) => ⟨k0_dev3 c, k0_dev3_lt c⟩
  | .inl (0, 3) => ⟨k0_dev4 c, k0_dev4_lt c⟩
  | .inl (1, 0) => ⟨k0_dev5 c, k0_dev5_lt c⟩
  | .inl (1, 1) => ⟨k0_dev6 c, k0_dev6_lt c⟩
  | .inl (1, 2) => ⟨k0_dev7 c, k0_dev7_lt c⟩
  | .inl (1, 3) => ⟨k0_dev8 c, k0_dev8_lt c⟩
  | .inl (2, 0) => ⟨k0_dev9 c, k0_dev9_lt c⟩
  | .inl (2, 1) => ⟨k0_dev10 c, k0_dev10_lt c⟩
  | .inl (2, 2) => ⟨k0_dev11 c, k0_dev11_lt c⟩
  | .inl (2, 3) => ⟨k0_dev12 c, k0_dev12_lt c⟩
  | .inl (3, 0) => ⟨k0_dev13 c, k0_dev13_lt c⟩
  | .inl (3, 1) => ⟨k0_dev14 c, k0_dev14_lt c⟩
  | .inl (3, 2) => ⟨k0_dev15 c, k0_dev15_lt c⟩
  | .inl (3, 3) => ⟨k0_dev16 c, k0_dev16_lt c⟩
  | .inl (4, 0) => ⟨k0_dev17 c, k0_dev17_lt c⟩
  | .inl (4, 1) => ⟨k0_dev18 c, k0_dev18_lt c⟩
  | .inl (4, 2) => ⟨k0_dev19 c, k0_dev19_lt c⟩
  | .inl (4, 3) => ⟨k0_dev20 c, k0_dev20_lt c⟩
  | .inl (5, 0) => ⟨k0_dev21 c, k0_dev21_lt c⟩
  | .inl (5, 1) => ⟨k0_dev22 c, k0_dev22_lt c⟩
  | .inl (5, 2) => ⟨k0_dev23 c, k0_dev23_lt c⟩
  | .inl (5, 3) => ⟨k0_dev24 c, k0_dev24_lt c⟩
  | .inl (6, 0) => ⟨k0_dev25 c, k0_dev25_lt c⟩
  | .inl (6, 1) => ⟨k0_dev26 c, k0_dev26_lt c⟩
  | .inl (6, 2) => ⟨k0_dev27 c, k0_dev27_lt c⟩
  | .inl (6, 3) => ⟨k0_dev28 c, k0_dev28_lt c⟩
  | .inl (7, 0) => ⟨k0_dev29 c, k0_dev29_lt c⟩
  | .inl (7, 1) => ⟨k0_dev30 c, k0_dev30_lt c⟩
  | .inl (7, 2) => ⟨k0_dev31 c, k0_dev31_lt c⟩
  | .inl (7, 3) => ⟨k0_dev32 c, k0_dev32_lt c⟩
  | .inr (.inl (0, 0)) => ⟨k0_dev36 c, k0_dev36_lt c⟩
  | .inr (.inl (0, 1)) => ⟨k0_dev37 c, k0_dev37_lt c⟩
  | .inr (.inl (0, 2)) => ⟨k0_dev38 c, k0_dev38_lt c⟩
  | .inr (.inl (1, 0)) => ⟨k0_dev39 c, k0_dev39_lt c⟩
  | .inr (.inl (1, 1)) => ⟨k0_dev40 c, k0_dev40_lt c⟩
  | .inr (.inl (1, 2)) => ⟨k0_dev41 c, k0_dev41_lt c⟩
  | .inr (.inl (2, 0)) => ⟨k0_dev42 c, k0_dev42_lt c⟩
  | .inr (.inl (2, 1)) => ⟨k0_dev43 c, k0_dev43_lt c⟩
  | .inr (.inl (2, 2)) => ⟨k0_dev44 c, k0_dev44_lt c⟩
  | .inr (.inl (3, 0)) => ⟨k0_dev45 c, k0_dev45_lt c⟩
  | .inr (.inl (3, 1)) => ⟨k0_dev46 c, k0_dev46_lt c⟩
  | .inr (.inl (3, 2)) => ⟨k0_dev47 c, k0_dev47_lt c⟩
  | .inr (.inl (4, 0)) => ⟨k0_dev48 c, k0_dev48_lt c⟩
  | .inr (.inl (4, 1)) => ⟨k0_dev49 c, k0_dev49_lt c⟩
  | .inr (.inl (4, 2)) => ⟨k0_dev50 c, k0_dev50_lt c⟩
  | .inr (.inl (5, 0)) => ⟨k0_dev51 c, k0_dev51_lt c⟩
  | .inr (.inl (5, 1)) => ⟨k0_dev52 c, k0_dev52_lt c⟩
  | .inr (.inl (5, 2)) => ⟨k0_dev53 c, k0_dev53_lt c⟩
  | .inr (.inl (6, 0)) => ⟨k0_dev54 c, k0_dev54_lt c⟩
  | .inr (.inl (6, 1)) => ⟨k0_dev55 c, k0_dev55_lt c⟩
  | .inr (.inl (6, 2)) => ⟨k0_dev56 c, k0_dev56_lt c⟩
  | .inr (.inl (7, 0)) => ⟨k0_dev57 c, k0_dev57_lt c⟩
  | .inr (.inl (7, 1)) => ⟨k0_dev58 c, k0_dev58_lt c⟩
  | .inr (.inl (7, 2)) => ⟨k0_dev59 c, k0_dev59_lt c⟩
  | .inr (.inr 0) => ⟨k0_dev33 c, k0_dev33_lt c⟩
  | .inr (.inr 1) => ⟨k0_dev34 c, k0_dev34_lt c⟩
  | .inr (.inr 2) => ⟨k0_dev35 c, k0_dev35_lt c⟩

/-- The sibling's number. -/
def sib (c : Dev nD) : ℕ := (4 * (c.val / 4) + 2 * ((c.val / 2) % 2) + 1) - (c.val % 2)
/-- The number of the like core of another chip. -/
def like (c : Dev nD) (j : Fin 3) : ℕ := 2 * chip c j.succ + c.val % 2

theorem like_eq (c : Dev nD) : like c 0 = (2 * ((c.val / 2) % 2) + (c.val % 2) + 4) - 4 * (c.val / 4)
    ∧ like c 1 = (4 * (c.val / 4) + (c.val % 2) + 2) - 2 * ((c.val / 2) % 2) ∧ like c 2 = ((c.val % 2) + 6) - (4 * (c.val / 4) + 2 * ((c.val / 2) % 2)) := by
  revert c; decide

theorem peer_sibling (c : Dev nD) (w : Fin 8) : (peer c (.inl (w, 0))).val = sib c := by
  match w with
  | 0 => exact k0_dev1_eq c
  | 1 => exact k0_dev5_eq c
  | 2 => exact k0_dev9_eq c
  | 3 => exact k0_dev13_eq c
  | 4 => exact k0_dev17_eq c
  | 5 => exact k0_dev21_eq c
  | 6 => exact k0_dev25_eq c
  | 7 => exact k0_dev29_eq c

theorem peer_like (c : Dev nD) (w : Fin 8) (j : Fin 3) : (peer c (.inl (w, j.succ))).val = like c j := by
  match w, j with
  | 0, 0 => exact (k0_dev2_eq c).trans (like_eq c).1.symm
  | 0, 1 => exact (k0_dev3_eq c).trans (like_eq c).2.1.symm
  | 0, 2 => exact (k0_dev4_eq c).trans (like_eq c).2.2.symm
  | 1, 0 => exact (k0_dev6_eq c).trans (like_eq c).1.symm
  | 1, 1 => exact (k0_dev7_eq c).trans (like_eq c).2.1.symm
  | 1, 2 => exact (k0_dev8_eq c).trans (like_eq c).2.2.symm
  | 2, 0 => exact (k0_dev10_eq c).trans (like_eq c).1.symm
  | 2, 1 => exact (k0_dev11_eq c).trans (like_eq c).2.1.symm
  | 2, 2 => exact (k0_dev12_eq c).trans (like_eq c).2.2.symm
  | 3, 0 => exact (k0_dev14_eq c).trans (like_eq c).1.symm
  | 3, 1 => exact (k0_dev15_eq c).trans (like_eq c).2.1.symm
  | 3, 2 => exact (k0_dev16_eq c).trans (like_eq c).2.2.symm
  | 4, 0 => exact (k0_dev18_eq c).trans (like_eq c).1.symm
  | 4, 1 => exact (k0_dev19_eq c).trans (like_eq c).2.1.symm
  | 4, 2 => exact (k0_dev20_eq c).trans (like_eq c).2.2.symm
  | 5, 0 => exact (k0_dev22_eq c).trans (like_eq c).1.symm
  | 5, 1 => exact (k0_dev23_eq c).trans (like_eq c).2.1.symm
  | 5, 2 => exact (k0_dev24_eq c).trans (like_eq c).2.2.symm
  | 6, 0 => exact (k0_dev26_eq c).trans (like_eq c).1.symm
  | 6, 1 => exact (k0_dev27_eq c).trans (like_eq c).2.1.symm
  | 6, 2 => exact (k0_dev28_eq c).trans (like_eq c).2.2.symm
  | 7, 0 => exact (k0_dev30_eq c).trans (like_eq c).1.symm
  | 7, 1 => exact (k0_dev31_eq c).trans (like_eq c).2.1.symm
  | 7, 2 => exact (k0_dev32_eq c).trans (like_eq c).2.2.symm

theorem peer_relay (c : Dev nD) (x : Fin 8 × Fin 3) : (peer c (.inr (.inl x))).val = sib c := by
  match x with
  | (0, 0) => exact k0_dev36_eq c
  | (0, 1) => exact k0_dev37_eq c
  | (0, 2) => exact k0_dev38_eq c
  | (1, 0) => exact k0_dev39_eq c
  | (1, 1) => exact k0_dev40_eq c
  | (1, 2) => exact k0_dev41_eq c
  | (2, 0) => exact k0_dev42_eq c
  | (2, 1) => exact k0_dev43_eq c
  | (2, 2) => exact k0_dev44_eq c
  | (3, 0) => exact k0_dev45_eq c
  | (3, 1) => exact k0_dev46_eq c
  | (3, 2) => exact k0_dev47_eq c
  | (4, 0) => exact k0_dev48_eq c
  | (4, 1) => exact k0_dev49_eq c
  | (4, 2) => exact k0_dev50_eq c
  | (5, 0) => exact k0_dev51_eq c
  | (5, 1) => exact k0_dev52_eq c
  | (5, 2) => exact k0_dev53_eq c
  | (6, 0) => exact k0_dev54_eq c
  | (6, 1) => exact k0_dev55_eq c
  | (6, 2) => exact k0_dev56_eq c
  | (7, 0) => exact k0_dev57_eq c
  | (7, 1) => exact k0_dev58_eq c
  | (7, 2) => exact k0_dev59_eq c

theorem peer_small (c : Dev nD) (j : Fin 3) : (peer c (.inr (.inr j))).val = like c j := by
  match j with
  | 0 => exact (k0_dev33_eq c).trans (like_eq c).1.symm
  | 1 => exact (k0_dev34_eq c).trans (like_eq c).2.1.symm
  | 2 => exact (k0_dev35_eq c).trans (like_eq c).2.2.symm

theorem at_sibling : ∀ c d : Dev nD, d.val = sib c → sib d = c.val ∧ d.val % 2 = core c 1 ∧ core d 0 = core c 1 ∧ ∀ j, chip d j = chip c j := by decide

theorem at_like : ∀ (c d : Dev nD) (j : Fin 3), d.val = like c j → like d j = c.val ∧ d.val % 2 = c.val % 2 ∧ core d 0 = core c 0 ∧ chip d 0 = chip c j.succ := by decide

theorem peer_back (c : Dev nD) (r : Rs) : peer (peer c r) r = c := by
  rcases r with ⟨w, k⟩ | x | j
  · rcases Fin.eq_zero_or_eq_succ k with rfl | ⟨j, rfl⟩
    · exact Fin.ext ((peer_sibling _ w).trans (at_sibling c _ (peer_sibling c w)).1)
    · exact Fin.ext ((peer_like _ w j).trans (at_like c _ j (peer_like c w j)).1)
  · exact Fin.ext ((peer_relay _ x).trans (at_sibling c _ (peer_relay c x)).1)
  · exact Fin.ext ((peer_small _ j).trans (at_like c _ j (peer_small c j)).1)

/-- The four chips are four. -/
theorem chip_inj (c : Dev nD) : ∀ j j' : Fin 4, j ≠ j' → chip c j ≠ chip c j' := by
  revert c; decide

/-- Every chip is one of them. -/
theorem chip_surj (c : Dev nD) : ∀ b : Fin 4, ∃ j, chip c j = b.val := by
  revert c; decide

theorem chip_half (c : Dev nD) : chip c 0 = c.val / 2 := by
  revert c; decide

/-- The half the sibling sends first is the other half of this chip's plane. -/
theorem off_sibling (c : Dev nD) (w : Fin 8) : off w 0 0 (peer c (.inl (w, 0))) = off w 1 0 c := by
  have h := at_sibling c _ (peer_sibling c w)
  rw [off_eq, off_eq, h.2.2.1, h.2.2.2]

/-- The half a like core sends first is this core's half of its chip's plane. -/
theorem off_like (c : Dev nD) (w : Fin 8) (j : Fin 3) : off w 0 0 (peer c (.inl (w, j.succ))) = off w 0 j.succ c := by
  have h := at_like c _ j (peer_like c w j)
  rw [off_eq, off_eq, h.2.2.1, h.2.2.2]

/-- The half the sibling sends on is the other half of a chip's plane. -/
theorem off_relay (c : Dev nD) (w : Fin 8) (j : Fin 3) : off w 0 j.succ (peer c (.inr (.inl (w, j)))) = off w 1 j.succ c := by
  have h := at_sibling c _ (peer_relay c (w, j))
  rw [off_eq, off_eq, h.2.2.1, h.2.2.2]

theorem toff_like (c : Dev nD) (j : Fin 3) : toff 0 (peer c (.inr (.inr j))) = toff j.succ c := by
  have h := at_like c _ j (peer_small c j)
  rw [toff_eq, toff_eq, h.2.2.2]

/-! ### The plan -/

/-- A device's own half of an argument. -/
abbrev bin (w : Fin 8) (c : Dev nD) : Memref sig .tc .hbm (Shalf w) .bf16 :=
  (inM w).slice (Rect.unit (s := Sin w) (inOff w c) (Shalf w).size (in_inb w c)) (fun _ => rfl)
/-- A half of a chip's plane of a result. -/
abbrev bout (w : Fin 8) (h : Fin 2) (j : Fin 4) (c : Dev nD) : Memref sig .tc .hbm (Shalf w) .bf16 := slab (outM w) (off w h j c) (inb w h j c) (sq w)
/-- A chip's plane of the small result. -/
abbrev tout (j : Fin 4) (c : Dev nD) : Memref sig .tc .hbm Tin .f32 := slab toutM (toff j c) (tinb j c) tsq

theorem bin_word (w : Fin 8) (c : Dev nD) : (bin w c).view.WordExact := (in_whole w).wordExact_slice rfl _ (in_words w c)
theorem bout_word (w : Fin 8) (h : Fin 2) (j : Fin 4) (c : Dev nD) : (bout w h j c).view.WordExact := ((out_whole w).wordExact_slice rfl _ (words w h j c)).reshape _ _
theorem tin_word : tin.view.WordExact := (Memref.isWhole_whole main_arg8).wordExact
theorem tout_word (j : Fin 4) (c : Dev nD) : (tout j c).view.WordExact := (View.wordExact_bits rfl).reshape _ _
theorem in_plain (w : Fin 8) : (inM w).view.ref.isScScratch = false := by
  match w with
  | 0 => rfl
  | 1 => rfl
  | 2 => rfl
  | 3 => rfl
  | 4 => rfl
  | 5 => rfl
  | 6 => rfl
  | 7 => rfl
theorem out_plain (w : Fin 8) : (outM w).view.ref.isScScratch = false := by
  match w with
  | 0 => rfl
  | 1 => rfl
  | 2 => rfl
  | 3 => rfl
  | 4 => rfl
  | 5 => rfl
  | 6 => rfl
  | 7 => rfl

/-- A device's own half into its place in the result. -/
abbrev copy (c : Dev nD) (w : Fin 8) : Copy sig := ⟨Shalf w, .bf16, bin w c, bout w 0 0 c, bin_word w c, bout_word w 0 0 c, out_plain w⟩
/-- A half of a plane of a result, into the same place. -/
abbrev again (c : Dev nD) (w : Fin 8) (h : Fin 2) (j : Fin 4) : Copy sig := ⟨Shalf w, .bf16, bout w h j c, bout w h j c, bout_word w h j c, bout_word w h j c, out_plain w⟩
/-- The small array into a plane of its result. -/
abbrev tcopy (c : Dev nD) (j : Fin 4) : Copy sig := ⟨Tin, .f32, tin, tout j c, tin_word, tout_word j c, rfl⟩

/-- The numbers of the transfers of halves. -/
abbrev fnum (x : Fin 8 × Fin 4) : ℕ := 7 * x.1.val + x.2.val
abbrev pnum (x : Fin 8 × Fin 3) : ℕ := 7 * x.1.val + (4 + x.2.val)
theorem fnum_lt (x : Fin 8 × Fin 4) : ∀ a, (![fnum x] : Fin 1 → ℕ) a + S1.size a ≤ S56.size a := by
  intro a
  have h₁ := x.1.isLt
  have h₂ := x.2.isLt
  match a with
  | 0 => show 7 * x.1.val + x.2.val + 1 ≤ 56; omega
theorem pnum_lt (x : Fin 8 × Fin 3) : ∀ a, (![pnum x] : Fin 1 → ℕ) a + S1.size a ≤ S56.size a := by
  intro a
  have h₁ := x.1.isLt
  have h₂ := x.2.isLt
  match a with
  | 0 => show 7 * x.1.val + (4 + x.2.val) + 1 ≤ 56; omega
theorem tnum_lt (j : Fin 3) : ∀ a, (![j.val] : Fin 1 → ℕ) a + S1.size a ≤ S3.size a := by
  intro a; match a with | 0 => exact j.isLt

/-- Departures count on the first pool of semaphores, far landings on the second, near ones on the third; those of the
    small array on the fourth and fifth. -/
def sem : K → DmaSem sig
  | .inr (.inl x) => ((cc0_scratch0.slice (Rect.unit (s := S56) ![fnum x] S1.size (fnum_lt x)) : DmaSems sig S1).squeeze S_ squeezes_S1_S_).sem
  | .inr (.inr (.inl x)) => ((cc0_scratch0.slice (Rect.unit (s := S56) ![pnum x] S1.size (pnum_lt x)) : DmaSems sig S1).squeeze S_ squeezes_S1_S_).sem
  | .inr (.inr (.inr j)) => ((cc0_scratch3.slice (Rect.unit (s := S3) ![j.val] S1.size (tnum_lt j)) : DmaSems sig S1).squeeze S_ squeezes_S1_S_).sem
  | .inl (.inr (.inl x)) => ((cc0_scratch1.slice (Rect.unit (s := S56) ![fnum x] S1.size (fnum_lt x)) : DmaSems sig S1).squeeze S_ squeezes_S1_S_).sem
  | .inl (.inr (.inr (.inl x))) => ((cc0_scratch1.slice (Rect.unit (s := S56) ![pnum x] S1.size (pnum_lt x)) : DmaSems sig S1).squeeze S_ squeezes_S1_S_).sem
  | .inl (.inr (.inr (.inr j))) => ((cc0_scratch4.slice (Rect.unit (s := S3) ![j.val] S1.size (tnum_lt j)) : DmaSems sig S1).squeeze S_ squeezes_S1_S_).sem
  | .inl (.inl (.inl w)) => ((cc0_scratch2.slice (Rect.unit (s := S9) ![w.val] S1.size (by intro a; match a with | 0 => exact Nat.succ_le_succ (Nat.le_of_lt w.isLt))) : DmaSems sig S1).squeeze S_ squeezes_S1_S_).sem
  | .inl (.inl (.inr _)) => ((cc0_scratch2.slice (Rect.unit (s := S9) ![8] S1.size (by decide)) : DmaSems sig S1).squeeze S_ squeezes_S1_S_).sem

def units (w : Fin 8) : ℕ := sig.dmaCredit .tc (Kind.table .tc .hbm) (outM w).view.buf (Shalf w) .bf16
def tunits : ℕ := sig.dmaCredit .tc (Kind.table .tc .hbm) toutM.view.buf Tin .f32

def farUnits : Rs → ℕ
  | .inl x => units x.1
  | .inr (.inl x) => units x.1
  | .inr (.inr _) => tunits

theorem half_pos (w : Fin 8) : 0 < (Shalf w).numel := by
  match w with
  | 0 => decide
  | 1 => decide
  | 2 => decide
  | 3 => decide
  | 4 => decide
  | 5 => decide
  | 6 => decide
  | 7 => decide

theorem units_pos (w : Fin 8) : 0 < units w := (bout w 0 0 0).view.dmaCredit_pos (half_pos w)
theorem tunits_pos : 0 < tunits := (tout 0 0).view.dmaCredit_pos (by decide)
theorem farUnits_pos (r : Rs) : 0 < farUnits r := by
  rcases r with x | x | j
  · exact units_pos x.1
  · exact units_pos x.1
  · exact tunits_pos

theorem in_units (w : Fin 8) (c : Dev nD) : (bin w c).view.dmaCredit = units w := by
  match w with
  | 0 => rfl
  | 1 => rfl
  | 2 => rfl
  | 3 => rfl
  | 4 => rfl
  | 5 => rfl
  | 6 => rfl
  | 7 => rfl

def plan : Plan nD sig Ls Rs where
  near c l := match l with
    | .inl w => copy c w
    | .inr _ => tcopy c 0
  far c r := match r with
    | .inl x => copy c x.1
    | .inr (.inl x) => again c x.1 0 x.2.succ
    | .inr (.inr _) => tcopy c 0
  peer := peer
  back := peer_back
  sem := sem
  sem_inj := by decide +kernel
  units k := match k with
    | .inl (.inl (.inl w)) => units w
    | .inl (.inl (.inr _)) => tunits
    | .inl (.inr r) => farUnits r
    | .inr r => farUnits r
  units_pos k := match k with
    | .inl (.inl (.inl w)) => units_pos w
    | .inl (.inl (.inr _)) => tunits_pos
    | .inl (.inr r) => farUnits_pos r
    | .inr r => farUnits_pos r
  near_units c l := match l with
    | .inl _ => rfl
    | .inr _ => rfl
  far_units c r := match r with
    | .inl _ => rfl
    | .inr (.inl _) => rfl
    | .inr (.inr _) => rfl
  far_units' _ := rfl
  seen c k := match k with
    | .inl (.inl (.inl w)) => copy c w
    | .inl (.inl (.inr _)) => tcopy c 0
    | .inl (.inr (.inl (w, 0))) => again c w 1 0
    | .inl (.inr (.inl (w, 1))) => again c w 0 1
    | .inl (.inr (.inl (w, 2))) => again c w 0 2
    | .inl (.inr (.inl (w, 3))) => again c w 0 3
    | .inl (.inr (.inr (.inl x))) => again c x.1 1 x.2.succ
    | .inl (.inr (.inr (.inr j))) => tcopy c j.succ
    | .inr (.inl x) => ⟨Shalf x.1, .bf16, bout x.1 0 0 c, bin x.1 c, bout_word x.1 0 0 c, bin_word x.1 c, in_plain x.1⟩
    | .inr (.inr (.inl x)) => again c x.1 0 x.2.succ
    | .inr (.inr (.inr _)) => ⟨Tin, .f32, tout 0 c, tin, tout_word 0 c, tin_word, rfl⟩
  seen_units c k := match k with
    | .inl (.inl (.inl w)) => rfl
    | .inl (.inl (.inr _)) => rfl
    | .inl (.inr (.inl (w, 0))) => rfl
    | .inl (.inr (.inl (w, 1))) => rfl
    | .inl (.inr (.inl (w, 2))) => rfl
    | .inl (.inr (.inl (w, 3))) => rfl
    | .inl (.inr (.inr (.inl x))) => rfl
    | .inl (.inr (.inr (.inr j))) => rfl
    | .inr (.inl x) => in_units x.1 c
    | .inr (.inr (.inl x)) => rfl
    | .inr (.inr (.inr _)) => rfl
  level r := match r with
    | .inl _ => 0
    | .inr (.inl _) => 1
    | .inr (.inr _) => 0

def ws : List (Fin 8) := [0, 1, 2, 3, 4, 5, 6, 7]
def all : List Ls := ws.map .inl ++ [.inr 0]
def firsts : List Rs := ws.flatMap fun w => [.inl (w, 0), .inl (w, 1), .inl (w, 2), .inl (w, 3)]
def onward : List Rs := ws.flatMap fun w => [.inr (.inl (w, 0)), .inr (.inl (w, 1)), .inr (.inl (w, 2))]
def smalls : List Rs := [.inr (.inr 0), .inr (.inr 1), .inr (.inr 2)]
/-- The transfers of one array that are issued first. -/
def each : Ls → List (Ls ⊕ Rs)
  | .inl w => [.inl (.inl w), .inr (.inl (w, 0)), .inr (.inl (w, 1)), .inr (.inl (w, 2)), .inr (.inl (w, 3))]
  | .inr _ => [.inl (.inr 0), .inr (.inr (.inr 0)), .inr (.inr (.inr 1)), .inr (.inr (.inr 2))]

def script : Script Ls Rs where
  ts := all.flatMap each
  rl := ws.flatMap fun w => [(.inl (w, 1), .inr (.inl (w, 0))), (.inl (w, 2), .inr (.inl (w, 1))), (.inl (w, 3), .inr (.inl (w, 2)))]
  ks := (ws.flatMap fun w => [.inl (.inr (.inl (w, 0))), .inl (.inr (.inr (.inl (w, 0)))), .inl (.inr (.inr (.inl (w, 1)))), .inl (.inr (.inr (.inl (w, 2))))])
    ++ smalls.map (fun r => .inl (.inr r)) ++ (firsts ++ onward ++ smalls).map .inr ++ all.map fun l => .inl (.inl l)

set_option maxRecDepth 20000 in
/-- What a device runs is its script. -/
theorem body_eq :
    (cc0_gather_weights (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole main_v1_5) (Memref.isWhole_whole _) (Memref.whole main_v1_6) (Memref.isWhole_whole _) (Memref.whole main_v1_7) (Memref.isWhole_whole _) (Memref.whole main_v1_8) (Memref.isWhole_whole _) cc0_scratch0 cc0_scratch1 cc0_scratch2 cc0_scratch3 cc0_scratch4
      : Prog (TpuEff nD τ sig (Elt F) Λ₀ .tc) PUnit)
      = .op .deviceId fun d => plan.prog τ (Elt F) Λ₀ d script.acts (.ret ⟨⟩) := rfl

/-! ### What is moved -/

/-- A device's half of an argument, at the start. -/
def first (m : (ℓ : Loc nD τ sig) → Buf (Elt F) ℓ) (c : Dev nD) (w : Fin 8) : (Shalf w).Idx → Elt F .bf16 :=
  (bin w c).view.read (Elt F) (m ((bin w c).view.loc (c.tc : Thread nD τ)))

/-- A transfer that is no relay takes its source from the memory at the start, at a piece of the half of the argument
    that is lent; a relay takes the half that came in. -/
def load (m : (ℓ : Loc nD τ sig) → Buf (Elt F) ℓ) : Load τ (Elt F) plan where
  m := m
  nearShare _ := cut fullShare.right 0
  farShare r := match r with
    | .inl x => cut fullShare.right (x.2.val + 1)
    | .inr (.inl _) => fullShare
    | .inr (.inr j) => cut fullShare.right (j.val + 1)
  farSrc c r := match r with
    | .inl x => m ((bin x.1 c).view.loc (c.tc : Thread nD τ))
    | .inr (.inl x) => (bout x.1 0 x.2.succ c).view.write (Elt F) (m ((bout x.1 0 x.2.succ c).view.loc (c.tc : Thread nD τ))) (first m (peer c (.inl (x.1, x.2.succ))) x.1) Finset.univ
    | .inr (.inr j) => m (tin.view.loc (c.tc : Thread nD τ))

def ain : Ls → Ref sig .tc
  | .inl w => (inM w).view.ref
  | .inr _ => main_arg8
def aout : Ls → Ref sig .tc
  | .inl w => (outM w).view.ref
  | .inr _ => main_v1_8

theorem mem_ws (w : Fin 8) : w ∈ ws := by revert w; decide

theorem mem_all (l : Ls) : l ∈ all := by
  rcases l with w | u
  · exact List.mem_append_left _ (List.mem_map_of_mem (mem_ws w))
  · rw [Subsingleton.elim u 0]; exact List.mem_append_right _ (List.mem_cons_self ..)

theorem mem_small (j : Fin 3) : (.inr (.inr j) : Rs) ∈ smalls := by
  match j with
  | 0 => exact List.mem_cons_self ..
  | 1 => exact List.mem_cons_of_mem _ (List.mem_cons_self ..)
  | 2 => exact List.mem_cons_of_mem _ (List.mem_cons_of_mem _ (List.mem_cons_self ..))

theorem mem_first (x : Fin 8 × Fin 4) : (.inl x : Rs) ∈ firsts := by
  obtain ⟨w, k⟩ := x
  refine List.mem_flatMap.mpr ⟨w, mem_ws w, ?_⟩
  match k with
  | 0 => exact List.mem_cons_self ..
  | 1 => exact List.mem_cons_of_mem _ (List.mem_cons_self ..)
  | 2 => exact List.mem_cons_of_mem _ (List.mem_cons_of_mem _ (List.mem_cons_self ..))
  | 3 => exact List.mem_cons_of_mem _ (List.mem_cons_of_mem _ (List.mem_cons_of_mem _ (List.mem_cons_self ..)))

theorem mem_onward (x : Fin 8 × Fin 3) : (.inr (.inl x) : Rs) ∈ onward := by
  obtain ⟨w, j⟩ := x
  refine List.mem_flatMap.mpr ⟨w, mem_ws w, ?_⟩
  match j with
  | 0 => exact List.mem_cons_self ..
  | 1 => exact List.mem_cons_of_mem _ (List.mem_cons_self ..)
  | 2 => exact List.mem_cons_of_mem _ (List.mem_cons_of_mem _ (List.mem_cons_self ..))

theorem mem_relay (w : Fin 8) (j : Fin 3) : ((.inl (w, j.succ), .inr (.inl (w, j))) : Rs × Rs) ∈ script.rl := by
  refine List.mem_flatMap.mpr ⟨w, mem_ws w, ?_⟩
  match j with
  | 0 => exact List.mem_cons_self ..
  | 1 => exact List.mem_cons_of_mem _ (List.mem_cons_self ..)
  | 2 => exact List.mem_cons_of_mem _ (List.mem_cons_of_mem _ (List.mem_cons_self ..))

/-- Every relay sends on the half that a like core sent. -/
theorem relays_are (x : Rs × Rs) (hx : x ∈ script.rl) : ∃ w j, x = ((.inl (w, j.succ), .inr (.inl (w, j))) : Rs × Rs) := by
  obtain ⟨w, -, hx⟩ := List.mem_flatMap.mp hx
  rcases List.mem_cons.mp hx with rfl | hx
  · exact ⟨w, 0, rfl⟩
  rcases List.mem_cons.mp hx with rfl | hx
  · exact ⟨w, 1, rfl⟩
  rcases List.mem_singleton.mp hx with rfl
  exact ⟨w, 2, rfl⟩

theorem mem_issued (t : Ls ⊕ Rs) : t ∈ script.order := by
  rcases t with l | x | x | j
  · refine List.mem_append_left _ (List.mem_flatMap.mpr ⟨l, mem_all l, ?_⟩)
    rcases l with w | u
    · exact List.mem_cons_self ..
    · rw [Subsingleton.elim u 0]; exact List.mem_cons_self ..
  · obtain ⟨w, k⟩ := x
    refine List.mem_append_left _ (List.mem_flatMap.mpr ⟨.inl w, mem_all _, List.mem_cons_of_mem _ ?_⟩)
    match k with
    | 0 => exact List.mem_cons_self ..
    | 1 => exact List.mem_cons_of_mem _ (List.mem_cons_self ..)
    | 2 => exact List.mem_cons_of_mem _ (List.mem_cons_of_mem _ (List.mem_cons_self ..))
    | 3 => exact List.mem_cons_of_mem _ (List.mem_cons_of_mem _ (List.mem_cons_of_mem _ (List.mem_cons_self ..)))
  · exact List.mem_append_right _ (List.mem_map.mpr ⟨_, mem_relay x.1 x.2, rfl⟩)
  · refine List.mem_append_left _ (List.mem_flatMap.mpr ⟨.inr 0, mem_all _, List.mem_cons_of_mem _ ?_⟩)
    match j with
    | 0 => exact List.mem_cons_self ..
    | 1 => exact List.mem_cons_of_mem _ (List.mem_cons_self ..)
    | 2 => exact List.mem_cons_of_mem _ (List.mem_cons_of_mem _ (List.mem_cons_self ..))

theorem wait_near (l : Ls) : (.inl (.inl l) : K) ∈ script.ks := List.mem_append_right _ (List.mem_map_of_mem (mem_all l))

theorem wait_departure (r : Rs) : (.inr r : K) ∈ script.ks := by
  refine List.mem_append_left _ (List.mem_append_right _ (List.mem_map_of_mem ?_))
  rcases r with x | x | j
  · exact List.mem_append_left _ (List.mem_append_left _ (mem_first x))
  · exact List.mem_append_left _ (List.mem_append_right _ (mem_onward x))
  · exact List.mem_append_right _ (mem_small j)

theorem wait_sibling (w : Fin 8) : (.inl (.inr (.inl (w, 0))) : K) ∈ script.ks :=
  List.mem_append_left _ (List.mem_append_left _ (List.mem_append_left _ (List.mem_flatMap.mpr ⟨w, mem_ws w, List.mem_cons_self ..⟩)))

theorem wait_onward (w : Fin 8) (j : Fin 3) : (.inl (.inr (.inr (.inl (w, j)))) : K) ∈ script.ks := by
  refine List.mem_append_left _ (List.mem_append_left _ (List.mem_append_left _ (List.mem_flatMap.mpr ⟨w, mem_ws w, List.mem_cons_of_mem _ ?_⟩)))
  match j with
  | 0 => exact List.mem_cons_self ..
  | 1 => exact List.mem_cons_of_mem _ (List.mem_cons_self ..)
  | 2 => exact List.mem_cons_of_mem _ (List.mem_cons_of_mem _ (List.mem_cons_self ..))

theorem wait_small (j : Fin 3) : (.inl (.inr (.inr (.inr j))) : K) ∈ script.ks :=
  List.mem_append_left _ (List.mem_append_left _ (List.mem_append_right _ (List.mem_map_of_mem (mem_small j))))

theorem mem_cells (k : K) : k ∈ script.cells := by
  rcases k with (l | (x | x | j)) | r
  · exact List.mem_append_left _ (wait_near l)
  · obtain ⟨w, k⟩ := x
    rcases Fin.eq_zero_or_eq_succ k with rfl | ⟨j, rfl⟩
    · exact List.mem_append_left _ (wait_sibling w)
    · exact List.mem_append_right _ (List.mem_map.mpr ⟨_, mem_relay w j, rfl⟩)
  · exact List.mem_append_left _ (wait_onward x.1 x.2)
  · exact List.mem_append_left _ (wait_small j)
  · exact List.mem_append_left _ (wait_departure r)

instance : DecidableEq (Ls ⊕ Rs) := instDecidableEqSum
instance : DecidableEq K := instDecidableEqSum

theorem complete : script.Complete plan where
  order_nodup := by decide +kernel
  order_all := mem_issued
  cells_nodup := by decide +kernel
  cells_all := mem_cells
  low := by
    intro x hx
    obtain ⟨w, j, rfl⟩ := relays_are x hx
    rfl
  high := by
    intro x hx
    obtain ⟨w, j, rfl⟩ := relays_are x hx
    rfl

/-! ### Blocks at the same place -/

section Same

variable {sp : Space} {e : EltTy} {n h C r : ℕ}

theorem same_room (X : Load τ (Elt F) plan) (M : Memref sig .tc .hbm ⟨3, ![n, h, C]⟩ e) {o o' : Fin 3 → ℕ} (ho : o = o') (inb inb') (sq : (⟨3, ![1, r, C]⟩ : Shape).Squeezes ⟨2, ![r, C]⟩) (c : Dev nD) :
    X.room (slab M o inb sq) c = X.room (slab M o' inb' sq) c := by subst ho; rfl

theorem same_filled (X : Load τ (Elt F) plan) (M : Memref sig .tc .hbm ⟨3, ![n, h, C]⟩ e) {o o' : Fin 3 → ℕ} (ho : o = o') (inb inb') (sq : (⟨3, ![1, r, C]⟩ : Shape).Squeezes ⟨2, ![r, C]⟩) (c : Dev nD)
    (x : (⟨2, ![r, C]⟩ : Shape).Idx → Elt F e) : X.filled (slab M o inb sq) c x = X.filled (slab M o' inb' sq) c x := by subst ho; rfl

theorem same_read (M : Memref sig .tc .hbm ⟨3, ![n, h, C]⟩ e) {o o' : Fin 3 → ℕ} (ho : o = o') (inb inb') (sq : (⟨3, ![1, r, C]⟩ : Shape).Squeezes ⟨2, ![r, C]⟩) (g : M.view.ty.Contents (Elt F)) :
    (slab M o inb sq).view.read (Elt F) g = (slab M o' inb' sq).view.read (Elt F) g := by subst ho; rfl

end Same

/-- A relay's source is what its landing brought. -/
theorem relayed (m : (ℓ : Loc nD τ sig) → Buf (Elt F) ℓ) (c : Dev nD) (x : Rs × Rs) (hx : x ∈ script.rl) :
    (load m).pay c (.inl (.inr x.1)) ⊢ (load m).give c (.inr x.2) := by
  obtain ⟨w, j, rfl⟩ := relays_are x hx
  show (load m).filled (bout w 0 0 (peer c (.inl (w, j.succ)))) c (first m (peer c (.inl (w, j.succ))) w) ⊢ (load m).filled (bout w 0 j.succ c) c (first m (peer c (.inl (w, j.succ))) w)
  rw [same_filled (load m) (outM w) (off_like c w j) _ (inb w 0 j.succ c)]

/-! ### Dividing the memory -/

theorem lent (m : (ℓ : Loc nD τ sig) → Buf (Elt F) ℓ) (c : Dev nD) (l : Ls) :
    (((c.tc : Thread nD τ).loc (ain l)) ↦{fullShare} m ((c.tc : Thread nD τ).loc (ain l)) : sProp 𝕄)
      ⊢ iprop((((c.tc : Thread nD τ).loc (ain l)) ↦{fullShare.left} m ((c.tc : Thread nD τ).loc (ain l))) ∗ bigSepL (each l) ((load m).give c)) := by
  rcases l with w | u
  · refine (keep_and_lend (fun _ : Ls ⊕ Rs => (bin w c).view.set) (Sum.elim (fun _ => cut fullShare.right 0) (load m).farShare)
      (each (.inl w)) rfl fun _ _ => Finset.subset_univ _).trans ?_
    refine sep_mono_r (bigSepL_mono fun t ht => ?_)
    rcases List.mem_cons.mp ht with rfl | ht
    · exact fun _ h => h
    rcases List.mem_cons.mp ht with rfl | ht
    · exact fun _ h => h
    rcases List.mem_cons.mp ht with rfl | ht
    · exact fun _ h => h
    rcases List.mem_cons.mp ht with rfl | ht
    · exact fun _ h => h
    rcases List.mem_singleton.mp ht with rfl
    exact fun _ h => h
  · refine (keep_and_lend (fun _ : Ls ⊕ Rs => tin.view.set) (Sum.elim (fun _ => cut fullShare.right 0) (load m).farShare)
      (each (.inr u)) rfl fun _ _ => Finset.subset_univ _).trans ?_
    refine sep_mono_r (bigSepL_mono fun t ht => ?_)
    rcases List.mem_cons.mp ht with rfl | ht
    · exact fun _ h => h
    rcases List.mem_cons.mp ht with rfl | ht
    · exact fun _ h => h
    rcases List.mem_cons.mp ht with rfl | ht
    · exact fun _ h => h
    rcases List.mem_singleton.mp ht with rfl
    exact fun _ h => h

/-- The halves of the planes of a result, and the transfer that fills each. -/
def halves : List (Fin 2 × Fin 4) := [(0, 0), (1, 0), (0, 1), (0, 2), (0, 3), (1, 1), (1, 2), (1, 3)]
def filler (w : Fin 8) : Fin 2 × Fin 4 → Ls ⊕ Rs
  | (0, 0) => .inl (.inl w)
  | (0, 1) => .inr (.inl (w, 1))
  | (0, 2) => .inr (.inl (w, 2))
  | (0, 3) => .inr (.inl (w, 3))
  | (1, 0) => .inr (.inl (w, 0))
  | (1, 1) => .inr (.inr (.inl (w, 0)))
  | (1, 2) => .inr (.inr (.inl (w, 1)))
  | (1, 3) => .inr (.inr (.inl (w, 2)))
def tplanes : List (Fin 4) := [0, 1, 2, 3]
def tfiller : Fin 4 → Ls ⊕ Rs
  | 0 => .inl (.inr 0)
  | 1 => .inr (.inr (.inr 0))
  | 2 => .inr (.inr (.inr 1))
  | 3 => .inr (.inr (.inr 2))
/-- The transfers whose blocks make up a result. -/
def landings : Ls → List (Ls ⊕ Rs)
  | .inl w => halves.map (filler w)
  | .inr _ => tplanes.map tfiller

theorem mem_landings (t : Ls ⊕ Rs) : t ∈ all.flatMap landings := by
  rcases t with (w | u) | ⟨w, k⟩ | ⟨w, j⟩ | j
  · exact List.mem_flatMap.mpr ⟨.inl w, mem_all _, List.mem_map.mpr ⟨(0, 0), by decide, rfl⟩⟩
  · rw [Subsingleton.elim u 0]
    exact List.mem_flatMap.mpr ⟨.inr 0, mem_all _, List.mem_map.mpr ⟨0, by decide, rfl⟩⟩
  · refine List.mem_flatMap.mpr ⟨.inl w, mem_all _, ?_⟩
    match k with
    | 0 => exact List.mem_map.mpr ⟨(1, 0), by decide, rfl⟩
    | 1 => exact List.mem_map.mpr ⟨(0, 1), by decide, rfl⟩
    | 2 => exact List.mem_map.mpr ⟨(0, 2), by decide, rfl⟩
    | 3 => exact List.mem_map.mpr ⟨(0, 3), by decide, rfl⟩
  · refine List.mem_flatMap.mpr ⟨.inl w, mem_all _, ?_⟩
    match j with
    | 0 => exact List.mem_map.mpr ⟨(1, 1), by decide, rfl⟩
    | 1 => exact List.mem_map.mpr ⟨(1, 2), by decide, rfl⟩
    | 2 => exact List.mem_map.mpr ⟨(1, 3), by decide, rfl⟩
  · refine List.mem_flatMap.mpr ⟨.inr 0, mem_all _, ?_⟩
    match j with
    | 0 => exact List.mem_map.mpr ⟨1, by decide, rfl⟩
    | 1 => exact List.mem_map.mpr ⟨2, by decide, rfl⟩
    | 2 => exact List.mem_map.mpr ⟨3, by decide, rfl⟩

theorem core_other (c : Dev nD) : ∀ h h' : Fin 2, h ≠ h' → core c h + 1 ≤ core c h' ∨ core c h' + 1 ≤ core c h := by
  revert c; decide

theorem apart (w : Fin 8) (c : Dev nD) (x y : Fin 2 × Fin 4) (hxy : x ≠ y) : Disjoint (bout w x.1 x.2 c).view.set (bout w y.1 y.2 c).view.set := by
  by_cases hj : x.2 = y.2
  · refine slab_disjoint _ _ _ 1 ?_
    rw [off_eq, off_eq]
    show hs w * core c x.1 + hs w ≤ hs w * core c y.1 ∨ hs w * core c y.1 + hs w ≤ hs w * core c x.1
    rcases core_other c x.1 y.1 fun h => hxy (Prod.ext h hj) with h | h
    · exact .inl (Nat.mul_le_mul_left (hs w) h)
    · exact .inr (Nat.mul_le_mul_left (hs w) h)
  · refine slab_disjoint _ _ _ 0 ?_
    rw [off_eq, off_eq]
    have h := chip_inj c _ _ hj
    show chip c x.2 + 1 ≤ chip c y.2 ∨ chip c y.2 + 1 ≤ chip c x.2
    omega

theorem tapart (c : Dev nD) (x y : Fin 4) (hxy : x ≠ y) : Disjoint (tout x c).view.set (tout y c).view.set := by
  refine slab_disjoint _ _ _ 0 ?_
  rw [toff_eq, toff_eq]
  have h := chip_inj c _ _ hxy
  show chip c x + 1 ≤ chip c y ∨ chip c y + 1 ≤ chip c x
  omega

/-- The room of the transfer that fills a half is that half. -/
theorem filler_space (X : Load τ (Elt F) plan) (c : Dev nD) (w : Fin 8) (x : Fin 2 × Fin 4) : X.space c (filler w x) = X.room (bout w x.1 x.2 c) c := by
  match x with
  | (0, 0) => rfl
  | (0, 1) => exact same_room X (outM w) (off_like c w 0) _ _ (sq w) c
  | (0, 2) => exact same_room X (outM w) (off_like c w 1) _ _ (sq w) c
  | (0, 3) => exact same_room X (outM w) (off_like c w 2) _ _ (sq w) c
  | (1, 0) => exact same_room X (outM w) (off_sibling c w) _ _ (sq w) c
  | (1, 1) => exact same_room X (outM w) (off_relay c w 0) _ _ (sq w) c
  | (1, 2) => exact same_room X (outM w) (off_relay c w 1) _ _ (sq w) c
  | (1, 3) => exact same_room X (outM w) (off_relay c w 2) _ _ (sq w) c

theorem tfiller_space (X : Load τ (Elt F) plan) (c : Dev nD) (x : Fin 4) : X.space c (tfiller x) = X.room (tout x c) c := by
  match x with
  | 0 => rfl
  | 1 => exact same_room X toutM (toff_like c 0) _ _ tsq c
  | 2 => exact same_room X toutM (toff_like c 1) _ _ tsq c
  | 3 => exact same_room X toutM (toff_like c 2) _ _ tsq c

theorem carved (m : (ℓ : Loc nD τ sig) → Buf (Elt F) ℓ) (c : Dev nD) (l : Ls) :
    (((c.tc : Thread nD τ).loc (aout l)) ↦{fullShare} m ((c.tc : Thread nD τ).loc (aout l)) : sProp 𝕄) ⊢ bigSepL (landings l) ((load m).space c) := by
  rcases l with w | u
  · show _ ⊢ bigSepL (halves.map (filler w)) ((load m).space c)
    rw [bigSepL_map]
    refine (carve (fun x : Fin 2 × Fin 4 => (bout w x.1 x.2 c).view.set) halves (List.Pairwise.imp (apart w c _ _) (by decide : halves.Nodup)) _ fun _ _ => Finset.subset_univ _).trans (bigSepL_mono fun x _ => ?_)
    rw [filler_space]
    exact fun _ h => h
  · show _ ⊢ bigSepL (tplanes.map tfiller) ((load m).space c)
    rw [bigSepL_map]
    refine (carve (fun x : Fin 4 => (tout x c).view.set) tplanes (List.Pairwise.imp (tapart c _ _) (by decide : tplanes.Nodup)) _ fun _ _ => Finset.subset_univ _).trans (bigSepL_mono fun x _ => ?_)
    rw [tfiller_space]
    exact fun _ h => h

theorem memory (m : (ℓ : Loc nD τ sig) → Buf (Elt F) ℓ) (c : Dev nD) :
    unscopedBufs c (fun b => m ((c.tc : Thread nD τ).loc b)) ⊢ iprop(bigSepL script.ts ((load m).give c) ∗ (bigSep Finset.univ fun l => (load m).room (plan.near c l).dst c)
        ∗ (bigSep Finset.univ fun r => (load m).room (plan.far (plan.peer c r) r).dst c) ∗ kept (load m) (all.map ain) c : sProp 𝕄) :=
  (load m).split_memory script c all ain aout each landings rfl (by decide +kernel) mem_landings
    (bufs_listed c _ all ain aout (by decide) (by decide)) (lent m c) (carved m c)

/-! ### The execution -/

/-- An element of a result read through the half it lies in, filled with a device's half of the argument. -/
theorem result_at (m : (ℓ : Loc nD τ sig) → Buf (Elt F) ℓ) (c d : Dev nD) (w : Fin 8) (h : Fin 2) (j : Fin 4) (g : (outM w).view.ty.Contents (Elt F))
    (hg : (bout w h j c).view.read (Elt F) g = first m d w) (hd : d.val % 2 = core c h) (i : (Sout w).Idx) (x : (Sin w).Idx)
    (h0 : (i 0).val = chip c j) (h1 : (i 1).val / hs w = core c h) (hx0 : (x 0).val = (i 1).val) (hx1 : (x 1).val = (i 2).val) :
    (outM w).view.read (Elt F) g i = (inM w).view.read (Elt F) (m ((d.tc : Thread nD τ).loc (ain (.inl w)))) x := by
  have hdiv := Nat.div_add_mod (i 1).val (hs w)
  rw [h1] at hdiv
  let y : (Shalf w).Idx := fun a => match a with | 0 => ⟨(i 1).val % hs w, Nat.mod_lt _ (hs_pos w)⟩ | 1 => ⟨(i 2).val, (i 2).isLt⟩
  refine (slab_at (outM w) (off w h j c) (inb w h j c) (sq w) g i y ?_ ?_ ?_).trans ((congrFun hg y).trans ?_)
  · rw [off_eq]; exact h0
  · rw [off_eq]; exact hdiv.symm
  · rw [off_eq]; exact (Nat.zero_add _).symm
  · show (inM w).view.read (Elt F) (m ((d.tc : Thread nD τ).loc (ain (.inl w)))) ((Rect.unit (s := Sin w) (inOff w d) (Shalf w).size (in_inb w d)).emb y) = _
    congr 1
    funext a
    refine Fin.ext ?_
    rw [Rect.emb_apply]
    match a with
    | 0 =>
      show inOff w d 0 + 1 * ((i 1).val % hs w) = (x 0).val
      rw [inOff_eq, hd, hx0, Nat.one_mul]
      exact hdiv
    | 1 =>
      show inOff w d 1 + 1 * (i 2).val = (x 1).val
      rw [inOff_eq, hx1, Nat.one_mul]
      exact Nat.zero_add _

set_option maxRecDepth 20000 in
/-- The gather, run: every argument is unchanged, on every device plane `b` of each result is the argument of a device of
    chip `b`, row by row, and every semaphore is back at zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ (c : Dev nD) (l : Ls), r.2.mem ((c.tc : Thread nD τ).loc (ain l)) = m ((c.tc : Thread nD τ).loc (ain l)))
      ∧ (∀ (c : Dev nD) (w : Fin 8) (i : (Sout w).Idx), ∃ d : Dev nD, d.val / 2 = (i 0).val ∧ ∀ x : (Sin w).Idx, (x 0).val = (i 1).val → (x 1).val = (i 2).val →
          (outM w).view.read (Elt F) (r.2.mem ((c.tc : Thread nD τ).loc (aout (.inl w)))) i = (inM w).view.read (Elt F) (m ((d.tc : Thread nD τ).loc (ain (.inl w)))) x)
      ∧ (∀ (c : Dev nD) (i : Tout.Idx), ∃ d : Dev nD, d.val / 2 = (i 0).val ∧ ∀ x : Tin.Idx, (x 0).val = (i 1).val → (x 1).val = (i 2).val →
          toutM.view.read (Elt F) (r.2.mem ((c.tc : Thread nD τ).loc (aout (.inr 0)))) i = tin.view.read (Elt F) (m ((d.tc : Thread nD τ).loc (ain (.inr 0)))) x)
      ∧ r.2.sem = fun _ => 0 := by
  refine run_plan cfgs (load m) script cellOf_inj (fun p => by match p with | 0 => exact Fin.isEmpty) winFacts0 (by decide +kernel) defs₀ ρ main (fun c => rfl)
    (fun c => scopedRest0_eq c) N_0 (fun c t A => by rw [← body_eq]; exact fun _ h => h) complete (relayed m) (all.map ain) (memory m) ?_
  intro s h hs'
  refine ⟨fun c l => (h c).2 (ain l) (List.mem_map_of_mem (mem_all l)), ?_, ?_, sem_eq_zero_of_scoped (by decide) hs'⟩
  · intro c w i
    obtain ⟨j, hj⟩ := chip_surj c ⟨(i 0).val, (i 0).isLt⟩
    have hj : chip c j = (i 0).val := hj
    have hq : (i 1).val / hs w < 2 := by
      have h1 : (i 1).val < ts w := (i 1).isLt
      rw [two_halves] at h1
      exact (Nat.div_lt_iff_lt_mul (hs_pos w)).mpr (by omega)
    by_cases hc : (i 1).val / hs w = core c 0
    · rcases Fin.eq_zero_or_eq_succ j with rfl | ⟨j, rfl⟩
      · exact ⟨c, (chip_half c).symm.trans hj, fun x h0 h1 => result_at m c c w 0 0 _ ((h c).1 _ (wait_near (.inl w))) rfl i x hj.symm hc h0 h1⟩
      · have hp := at_like c _ j (peer_like c w j)
        refine ⟨peer c (.inl (w, j.succ)), (chip_half _).symm.trans (hp.2.2.2.trans hj), fun x h0 h1 => result_at m c _ w 0 j.succ _ ?_ hp.2.1 i x hj.symm hc h0 h1⟩
        exact ((h c).1 _ (wait_departure (.inr (.inl (w, j))))).trans (View.read_write_univ _ _)
    · have hc' : (i 1).val / hs w = core c 1 := by
        revert hc hq
        generalize (i 1).val / hs w = q
        intro hq hc
        change ¬ q = c.val % 2 at hc
        show q = 1 - c.val % 2
        omega
      rcases Fin.eq_zero_or_eq_succ j with rfl | ⟨j, rfl⟩
      · have hp := at_sibling c _ (peer_sibling c w)
        refine ⟨peer c (.inl (w, 0)), (chip_half _).symm.trans ((hp.2.2.2 0).trans hj), fun x h0 h1 => result_at m c _ w 1 0 _ ?_ hp.2.1 i x hj.symm hc' h0 h1⟩
        exact (same_read (outM w) (off_sibling c w).symm _ _ (sq w) _).trans ((h c).1 _ (wait_sibling w))
      · have hp := at_sibling c _ (peer_relay c (w, j))
        have hp' := at_like _ _ j (peer_like (peer c (.inr (.inl (w, j)))) w j)
        refine ⟨peer (peer c (.inr (.inl (w, j)))) (.inl (w, j.succ)), (chip_half _).symm.trans (hp'.2.2.2.trans ((hp.2.2.2 _).trans hj)),
          fun x h0 h1 => result_at m c _ w 1 j.succ _ ?_ (hp'.2.1.trans hp.2.1) i x hj.symm hc' h0 h1⟩
        exact (same_read (outM w) (off_relay c w j).symm _ _ (sq w) _).trans (((h c).1 _ (wait_onward w j)).trans (View.read_write_univ _ _))
  · intro c i
    obtain ⟨j, hj⟩ := chip_surj c ⟨(i 0).val, (i 0).isLt⟩
    have hj : chip c j = (i 0).val := hj
    let y : Tin.Idx := fun a => match a with | 0 => ⟨(i 1).val, (i 1).isLt⟩ | 1 => ⟨(i 2).val, (i 2).isLt⟩
    have hy (x : Tin.Idx) (h0 : (x 0).val = (i 1).val) (h1 : (x 1).val = (i 2).val) : y = x := by
      funext a
      refine Fin.ext ?_
      match a with
      | 0 => exact h0.symm
      | 1 => exact h1.symm
    rcases Fin.eq_zero_or_eq_succ j with rfl | ⟨j, rfl⟩
    · refine ⟨c, (chip_half c).symm.trans hj, fun x h0 h1 => ?_⟩
      refine (slab_at toutM (toff 0 c) (tinb 0 c) tsq _ i y ?_ ?_ ?_).trans ((congrFun ((h c).1 _ (wait_near (.inr 0))) y).trans (congrArg _ (hy x h0 h1)))
      · rw [toff_eq]; exact hj.symm
      · rw [toff_eq]; exact (Nat.zero_add _).symm
      · rw [toff_eq]; exact (Nat.zero_add _).symm
    · have hp := at_like c _ j (peer_small c j)
      refine ⟨peer c (.inr (.inr j)), (chip_half _).symm.trans (hp.2.2.2.trans hj), fun x h0 h1 => ?_⟩
      refine (slab_at toutM (toff 0 (peer c (.inr (.inr j)))) (tinb 0 _) tsq _ i y ?_ ?_ ?_).trans ((congrFun ((h c).1 _ (wait_small j)) y).trans (congrArg _ (hy x h0 h1)))
      · rw [toff_eq]; exact hj.symm.trans hp.2.2.2.symm
      · rw [toff_eq]; exact (Nat.zero_add _).symm
      · rw [toff_eq]; exact (Nat.zero_add _).symm

end Cert.GatherTalk

end
-- ==== Proof.GatherValue.lean ====
/-
What the gather of the weights computes, against the whole arrays.
-/
module

public import proofs.«01_k».proof.Defs
public import proofs.«01_k».proof.Proof.GatherTalk
public import proofs.«01_k».proof.Proof.Layouts
public import proofs.«01_k».proof.Proof.Gen.Gather
public import proofs.«01_k».proof.Proof.Gen.GatherReference
public import proofs.«01_k».proof.Proof.Gen.GatherReferenceIdeal
public import proofs.«01_k».proof.Proof.Gen.GatherReferenceIdeal.Run

@[expose] public section

noncomputable section

namespace Cert.GatherTalk

open Idealize.ShloMosaic Idealize.ShloMosaic.TcCoe Idealize.SL.Sem
open Cert.Talk

set_option maxRecDepth 20000 in
/-- For any float values: the devices' results are their blocks of the reference's. -/
theorem value (F : FTy → Type) [FloatOps F] :
  ∀ (m : (ℓ : Loc Cert.GatherIdeal.nD Cert.GatherIdeal.τ Cert.GatherIdeal.sig) → Buf (Elt F) ℓ) (g : Dev Cert.GatherIdeal.nD → PrngReg)
    (m' : (ℓ : Loc Cert.GatherReferenceIdeal.nD Cert.GatherReferenceIdeal.τ Cert.GatherReferenceIdeal.sig) → Buf (Elt F) ℓ) (g' : Dev Cert.GatherReferenceIdeal.nD → PrngReg),
    (∀ c : Dev Cert.GatherIdeal.nD,
      m ((c.tc : Thread Cert.GatherIdeal.nD Cert.GatherIdeal.τ).loc Cert.GatherIdeal.main_arg0) = Layout.blockN ⟨2, ![1024, 1536]⟩ ⟨2, ![4096, 1536]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.blockN ⟨2, ![256, 256]⟩ ⟨2, ![1024, 256]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg1))
      ∧ m ((c.tc : Thread Cert.GatherIdeal.nD Cert.GatherIdeal.τ).loc Cert.GatherIdeal.main_arg2) = Layout.blockN ⟨2, ![256, 256]⟩ ⟨2, ![1024, 256]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg2))
      ∧ m ((c.tc : Thread Cert.GatherIdeal.nD Cert.GatherIdeal.τ).loc Cert.GatherIdeal.main_arg3) = Layout.blockN ⟨2, ![256, 1024]⟩ ⟨2, ![1024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg3))
      ∧ m ((c.tc : Thread Cert.GatherIdeal.nD Cert.GatherIdeal.τ).loc Cert.GatherIdeal.main_arg4) = Layout.blockN ⟨2, ![256, 1024]⟩ ⟨2, ![1024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg4))
      ∧ m ((c.tc : Thread Cert.GatherIdeal.nD Cert.GatherIdeal.τ).loc Cert.GatherIdeal.main_arg5) = Layout.blockN ⟨2, ![256, 1024]⟩ ⟨2, ![1024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg5))
      ∧ m ((c.tc : Thread Cert.GatherIdeal.nD Cert.GatherIdeal.τ).loc Cert.GatherIdeal.main_arg6) = Layout.blockN ⟨2, ![1024, 1024]⟩ ⟨2, ![4096, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg6))
      ∧ m ((c.tc : Thread Cert.GatherIdeal.nD Cert.GatherIdeal.τ).loc Cert.GatherIdeal.main_arg7) = Layout.blockN ⟨2, ![1024, 1024]⟩ ⟨2, ![4096, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg7))
      ∧ m ((c.tc : Thread Cert.GatherIdeal.nD Cert.GatherIdeal.τ).loc Cert.GatherIdeal.main_arg8) = Layout.blockN ⟨2, ![8, 384]⟩ ⟨2, ![32, 384]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg8))) →
    ∃ (v0 : Buf (Elt F) (((0 : Dev Cert.GatherReferenceIdeal.nD).tc : Thread Cert.GatherReferenceIdeal.nD Cert.GatherReferenceIdeal.τ).loc Cert.GatherReferenceIdeal.main_v0)) (v1 : Buf (Elt F) (((0 : Dev Cert.GatherReferenceIdeal.nD).tc : Thread Cert.GatherReferenceIdeal.nD Cert.GatherReferenceIdeal.τ).loc Cert.GatherReferenceIdeal.main_v1)) (v2 : Buf (Elt F) (((0 : Dev Cert.GatherReferenceIdeal.nD).tc : Thread Cert.GatherReferenceIdeal.nD Cert.GatherReferenceIdeal.τ).loc Cert.GatherReferenceIdeal.main_v2)) (v3 : Buf (Elt F) (((0 : Dev Cert.GatherReferenceIdeal.nD).tc : Thread Cert.GatherReferenceIdeal.nD Cert.GatherReferenceIdeal.τ).loc Cert.GatherReferenceIdeal.main_v3)) (v4 : Buf (Elt F) (((0 : Dev Cert.GatherReferenceIdeal.nD).tc : Thread Cert.GatherReferenceIdeal.nD Cert.GatherReferenceIdeal.τ).loc Cert.GatherReferenceIdeal.main_v4)) (v5 : Buf (Elt F) (((0 : Dev Cert.GatherReferenceIdeal.nD).tc : Thread Cert.GatherReferenceIdeal.nD Cert.GatherReferenceIdeal.τ).loc Cert.GatherReferenceIdeal.main_v5)) (v6 : Buf (Elt F) (((0 : Dev Cert.GatherReferenceIdeal.nD).tc : Thread Cert.GatherReferenceIdeal.nD Cert.GatherReferenceIdeal.τ).loc Cert.GatherReferenceIdeal.main_v6)) (v7 : Buf (Elt F) (((0 : Dev Cert.GatherReferenceIdeal.nD).tc : Thread Cert.GatherReferenceIdeal.nD Cert.GatherReferenceIdeal.τ).loc Cert.GatherReferenceIdeal.main_v7)) (v8 : Buf (Elt F) (((0 : Dev Cert.GatherReferenceIdeal.nD).tc : Thread Cert.GatherReferenceIdeal.nD Cert.GatherReferenceIdeal.τ).loc Cert.GatherReferenceIdeal.main_v8)),
      θ_run (Cert.GatherIdeal.defs (F := F)) (onTc (τ := Cert.GatherIdeal.τ) (Cert.GatherIdeal.main (F := F))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_v1_4) = v4
          ∧ r.2.mem ((c.tc : Thread Cert.GatherIdeal.nD Cert.GatherIdeal.τ).loc Cert.GatherIdeal.main_v1_5) = v5
          ∧ r.2.mem ((c.tc : Thread Cert.GatherIdeal.nD Cert.GatherIdeal.τ).loc Cert.GatherIdeal.main_v1_6) = v6
          ∧ r.2.mem ((c.tc : Thread Cert.GatherIdeal.nD Cert.GatherIdeal.τ).loc Cert.GatherIdeal.main_v1_7) = v7
          ∧ r.2.mem ((c.tc : Thread Cert.GatherIdeal.nD Cert.GatherIdeal.τ).loc Cert.GatherIdeal.main_v1_8) = v8
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3)
          ∧ r.2.mem ((c.tc : Thread Cert.GatherIdeal.nD Cert.GatherIdeal.τ).loc Cert.GatherIdeal.main_arg4) = m ((c.tc : Thread Cert.GatherIdeal.nD Cert.GatherIdeal.τ).loc Cert.GatherIdeal.main_arg4)
          ∧ r.2.mem ((c.tc : Thread Cert.GatherIdeal.nD Cert.GatherIdeal.τ).loc Cert.GatherIdeal.main_arg5) = m ((c.tc : Thread Cert.GatherIdeal.nD Cert.GatherIdeal.τ).loc Cert.GatherIdeal.main_arg5)
          ∧ r.2.mem ((c.tc : Thread Cert.GatherIdeal.nD Cert.GatherIdeal.τ).loc Cert.GatherIdeal.main_arg6) = m ((c.tc : Thread Cert.GatherIdeal.nD Cert.GatherIdeal.τ).loc Cert.GatherIdeal.main_arg6)
          ∧ r.2.mem ((c.tc : Thread Cert.GatherIdeal.nD Cert.GatherIdeal.τ).loc Cert.GatherIdeal.main_arg7) = m ((c.tc : Thread Cert.GatherIdeal.nD Cert.GatherIdeal.τ).loc Cert.GatherIdeal.main_arg7)
          ∧ r.2.mem ((c.tc : Thread Cert.GatherIdeal.nD Cert.GatherIdeal.τ).loc Cert.GatherIdeal.main_arg8) = m ((c.tc : Thread Cert.GatherIdeal.nD Cert.GatherIdeal.τ).loc Cert.GatherIdeal.main_arg8))
      ∧ θ_run (Cert.GatherReferenceIdeal.defs (F := F)) (onTc (τ := Cert.GatherReferenceIdeal.τ) (Cert.GatherReferenceIdeal.main (F := F))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_v1) = v1
          ∧ r.2.mem (((0 : Dev Cert.GatherReferenceIdeal.nD).tc : Thread Cert.GatherReferenceIdeal.nD Cert.GatherReferenceIdeal.τ).loc Cert.GatherReferenceIdeal.main_v2) = v2
          ∧ r.2.mem (((0 : Dev Cert.GatherReferenceIdeal.nD).tc : Thread Cert.GatherReferenceIdeal.nD Cert.GatherReferenceIdeal.τ).loc Cert.GatherReferenceIdeal.main_v3) = v3
          ∧ r.2.mem (((0 : Dev Cert.GatherReferenceIdeal.nD).tc : Thread Cert.GatherReferenceIdeal.nD Cert.GatherReferenceIdeal.τ).loc Cert.GatherReferenceIdeal.main_v4) = v4
          ∧ r.2.mem (((0 : Dev Cert.GatherReferenceIdeal.nD).tc : Thread Cert.GatherReferenceIdeal.nD Cert.GatherReferenceIdeal.τ).loc Cert.GatherReferenceIdeal.main_v5) = v5
          ∧ r.2.mem (((0 : Dev Cert.GatherReferenceIdeal.nD).tc : Thread Cert.GatherReferenceIdeal.nD Cert.GatherReferenceIdeal.τ).loc Cert.GatherReferenceIdeal.main_v6) = v6
          ∧ r.2.mem (((0 : Dev Cert.GatherReferenceIdeal.nD).tc : Thread Cert.GatherReferenceIdeal.nD Cert.GatherReferenceIdeal.τ).loc Cert.GatherReferenceIdeal.main_v7) = v7
          ∧ r.2.mem (((0 : Dev Cert.GatherReferenceIdeal.nD).tc : Thread Cert.GatherReferenceIdeal.nD Cert.GatherReferenceIdeal.τ).loc Cert.GatherReferenceIdeal.main_v8) = v8
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1)
          ∧ r.2.mem (((0 : Dev Cert.GatherReferenceIdeal.nD).tc : Thread Cert.GatherReferenceIdeal.nD Cert.GatherReferenceIdeal.τ).loc Cert.GatherReferenceIdeal.main_arg2) = m' (((0 : Dev Cert.GatherReferenceIdeal.nD).tc : Thread Cert.GatherReferenceIdeal.nD Cert.GatherReferenceIdeal.τ).loc Cert.GatherReferenceIdeal.main_arg2)
          ∧ r.2.mem (((0 : Dev Cert.GatherReferenceIdeal.nD).tc : Thread Cert.GatherReferenceIdeal.nD Cert.GatherReferenceIdeal.τ).loc Cert.GatherReferenceIdeal.main_arg3) = m' (((0 : Dev Cert.GatherReferenceIdeal.nD).tc : Thread Cert.GatherReferenceIdeal.nD Cert.GatherReferenceIdeal.τ).loc Cert.GatherReferenceIdeal.main_arg3)
          ∧ r.2.mem (((0 : Dev Cert.GatherReferenceIdeal.nD).tc : Thread Cert.GatherReferenceIdeal.nD Cert.GatherReferenceIdeal.τ).loc Cert.GatherReferenceIdeal.main_arg4) = m' (((0 : Dev Cert.GatherReferenceIdeal.nD).tc : Thread Cert.GatherReferenceIdeal.nD Cert.GatherReferenceIdeal.τ).loc Cert.GatherReferenceIdeal.main_arg4)
          ∧ r.2.mem (((0 : Dev Cert.GatherReferenceIdeal.nD).tc : Thread Cert.GatherReferenceIdeal.nD Cert.GatherReferenceIdeal.τ).loc Cert.GatherReferenceIdeal.main_arg5) = m' (((0 : Dev Cert.GatherReferenceIdeal.nD).tc : Thread Cert.GatherReferenceIdeal.nD Cert.GatherReferenceIdeal.τ).loc Cert.GatherReferenceIdeal.main_arg5)
          ∧ r.2.mem (((0 : Dev Cert.GatherReferenceIdeal.nD).tc : Thread Cert.GatherReferenceIdeal.nD Cert.GatherReferenceIdeal.τ).loc Cert.GatherReferenceIdeal.main_arg6) = m' (((0 : Dev Cert.GatherReferenceIdeal.nD).tc : Thread Cert.GatherReferenceIdeal.nD Cert.GatherReferenceIdeal.τ).loc Cert.GatherReferenceIdeal.main_arg6)
          ∧ r.2.mem (((0 : Dev Cert.GatherReferenceIdeal.nD).tc : Thread Cert.GatherReferenceIdeal.nD Cert.GatherReferenceIdeal.τ).loc Cert.GatherReferenceIdeal.main_arg7) = m' (((0 : Dev Cert.GatherReferenceIdeal.nD).tc : Thread Cert.GatherReferenceIdeal.nD Cert.GatherReferenceIdeal.τ).loc Cert.GatherReferenceIdeal.main_arg7)
          ∧ r.2.mem (((0 : Dev Cert.GatherReferenceIdeal.nD).tc : Thread Cert.GatherReferenceIdeal.nD Cert.GatherReferenceIdeal.τ).loc Cert.GatherReferenceIdeal.main_arg8) = m' (((0 : Dev Cert.GatherReferenceIdeal.nD).tc : Thread Cert.GatherReferenceIdeal.nD Cert.GatherReferenceIdeal.τ).loc Cert.GatherReferenceIdeal.main_arg8)) := by
  intro m g m' g' hin
  refine ⟨_, _, _, _, _, _, _, _, _, (θ_run Cert.GatherIdeal.defs _ _).mono (fun r h c => ?_) (run (F := F) m g),
    (θ_run Cert.GatherReferenceIdeal.defs _ _).mono (fun r h => h 0) (Cert.GatherReferenceIdeal.Value.run (F := F) m' g')⟩
  exact ⟨
    stacked rfl _ _ _ (fun d : Dev Cert.GatherIdeal.nD => m ((d.tc : Thread Cert.GatherIdeal.nD Cert.GatherIdeal.τ).loc Cert.GatherIdeal.main_arg0)) (fun d => (hin d).1) (h.2.1 c 0),
    stacked rfl _ _ _ (fun d : Dev Cert.GatherIdeal.nD => m ((d.tc : Thread Cert.GatherIdeal.nD Cert.GatherIdeal.τ).loc Cert.GatherIdeal.main_arg1)) (fun d => (hin d).2.1) (h.2.1 c 1),
    stacked rfl _ _ _ (fun d : Dev Cert.GatherIdeal.nD => m ((d.tc : Thread Cert.GatherIdeal.nD Cert.GatherIdeal.τ).loc Cert.GatherIdeal.main_arg2)) (fun d => (hin d).2.2.1) (h.2.1 c 2),
    stacked rfl _ _ _ (fun d : Dev Cert.GatherIdeal.nD => m ((d.tc : Thread Cert.GatherIdeal.nD Cert.GatherIdeal.τ).loc Cert.GatherIdeal.main_arg3)) (fun d => (hin d).2.2.2.1) (h.2.1 c 3),
    stacked rfl _ _ _ (fun d : Dev Cert.GatherIdeal.nD => m ((d.tc : Thread Cert.GatherIdeal.nD Cert.GatherIdeal.τ).loc Cert.GatherIdeal.main_arg4)) (fun d => (hin d).2.2.2.2.1) (h.2.1 c 4),
    stacked rfl _ _ _ (fun d : Dev Cert.GatherIdeal.nD => m ((d.tc : Thread Cert.GatherIdeal.nD Cert.GatherIdeal.τ).loc Cert.GatherIdeal.main_arg5)) (fun d => (hin d).2.2.2.2.2.1) (h.2.1 c 5),
    stacked rfl _ _ _ (fun d : Dev Cert.GatherIdeal.nD => m ((d.tc : Thread Cert.GatherIdeal.nD Cert.GatherIdeal.τ).loc Cert.GatherIdeal.main_arg6)) (fun d => (hin d).2.2.2.2.2.2.1) (h.2.1 c 6),
    stacked rfl _ _ _ (fun d : Dev Cert.GatherIdeal.nD => m ((d.tc : Thread Cert.GatherIdeal.nD Cert.GatherIdeal.τ).loc Cert.GatherIdeal.main_arg7)) (fun d => (hin d).2.2.2.2.2.2.2.1) (h.2.1 c 7),
    stacked rfl _ _ _ (fun d : Dev Cert.GatherIdeal.nD => m ((d.tc : Thread Cert.GatherIdeal.nD Cert.GatherIdeal.τ).loc Cert.GatherIdeal.main_arg8)) (fun d => (hin d).2.2.2.2.2.2.2.2) (h.2.2.1 c),
    h.1 c (.inl 0), h.1 c (.inl 1), h.1 c (.inl 2), h.1 c (.inl 3), h.1 c (.inl 4), h.1 c (.inl 5), h.1 c (.inl 6), h.1 c (.inl 7), h.1 c (.inr 0)⟩

theorem algebraic : Cert.algebraic_GatherIdeal_GatherReferenceIdeal := fun m g m' g' _ => value Ideal m g m' g'

theorem bitexact : Cert.bitexact_Gather_GatherReference := fun m g m' g' _ => value Bits m g m' g'

theorem frame_ideal : Cert.quiescent_GatherIdeal := fun m g _ =>
  (θ_run Cert.GatherIdeal.defs _ _).mono (fun r h => ⟨fun c => ⟨h.1 c (.inl 0), h.1 c (.inl 1), h.1 c (.inl 2), h.1 c (.inl 3), h.1 c (.inl 4), h.1 c (.inl 5), h.1 c (.inl 6), h.1 c (.inl 7), h.1 c (.inr 0)⟩, h.2.2.2⟩) (run (F := Ideal) m g)

theorem frame : Cert.quiescent_Gather := fun m g _ =>
  (θ_run Cert.GatherIdeal.defs _ _).mono (fun r h => ⟨fun c => ⟨h.1 c (.inl 0), h.1 c (.inl 1), h.1 c (.inl 2), h.1 c (.inl 3), h.1 c (.inl 4), h.1 c (.inl 5), h.1 c (.inl 6), h.1 c (.inl 7), h.1 c (.inr 0)⟩, h.2.2.2⟩) (run (F := Bits) m g)

theorem frame_reference_ideal : Cert.quiescent_GatherReferenceIdeal := fun m g _ =>
  (θ_run Cert.GatherReferenceIdeal.defs _ _).mono (fun r h => ⟨fun c => (h c).2.2.2.2.2.2.2.2.2, sem_eq_zero_of_no_sems (by decide) r.2⟩)
    (Cert.GatherReferenceIdeal.Value.run (F := Ideal) m g)

theorem frame_reference : Cert.quiescent_GatherReference := fun m g _ =>
  (θ_run Cert.GatherReferenceIdeal.defs _ _).mono (fun r h => ⟨fun c => (h c).2.2.2.2.2.2.2.2.2, sem_eq_zero_of_no_sems (by decide) r.2⟩)
    (Cert.GatherReferenceIdeal.Value.run (F := Bits) m g)

end Cert.GatherTalk

end
-- ==== Proof.AdamwStep.lean ====
/-
One AdamW step, at every shape at which the step is taken: over the extended reals the host's quotient and square root
are the kernel's, so the kernel's step and the reference's, both of them taken element by element, are the same function.
-/
module

public import Idealize.ShloMosaic.Lib.IdealHost
public import Idealize.ShloMosaic.Lib.StableHlo
@[expose] public section

noncomputable section

namespace Cert.AdamwTalk

open Idealize.ShloMosaic Idealize.ShloMosaic.TcCoe Idealize.ShloMosaic.StableHlo
open Idealize.SL Idealize.SL.Sem

/-- The new first moment, element by element: `0.9 m + 0.1 g`. -/
def first {s : Shape} (g m : FVec Ideal s .f32) : FVec Ideal s .f32 := fun i =>
  FloatOps.addf (FloatOps.mulf (Scalar.ofBits .f32 0x3F666666#32) (m i)) (FloatOps.mulf (Scalar.ofBits .f32 0x3DCCCCCD#32) (g i))

/-- The new second moment, element by element: `0.999 v + 0.001 g²`. -/
def second {s : Shape} (g v : FVec Ideal s .f32) : FVec Ideal s .f32 := fun i =>
  FloatOps.addf (FloatOps.mulf (Scalar.ofBits .f32 0x3F7FBE77#32) (v i))
    (FloatOps.mulf (Scalar.ofBits .f32 0x3A83126F#32) (FloatOps.mulf (g i) (g i)))

/-- The change of the weight, element by element: the two moments over their bias corrections, the first over the root
of the second, and the decay of the weight, all times minus the rate. -/
def delta {s : Shape} (g w m v : FVec Ideal s .f32) : FVec Ideal s .f32 := fun i =>
  FloatOps.mulf (Scalar.ofBits .f32 0xBA83126F#32) (FloatOps.addf
    (FloatOps.divf (FloatOps.divf (first g m i) (Scalar.ofBits .f32 0x3F26BD02#32))
      (FloatOps.addf (FloatOps.sqrt (FloatOps.divf (second g v i) (Scalar.ofBits .f32 0x3C231ACC#32))) (Scalar.ofBits .f32 0x322BCC77#32)))
    (FloatOps.mulf (Scalar.ofBits .f32 0x3C23D70A#32) (w i)))

section agree
variable {z s : Shape} (p : Fin z.rank → Fin s.rank) (h : z.BroadcastsInDim s p) {g w m v g' w' m' v' : FVec Ideal s .f32}

/-- The reference's first moment of equal arrays. -/
theorem first_of (eg : g' = g) (em : m' = m) : addf (mulf (broadcastInDim s p h (constant z .f32 0x3F666666#32)) m')
    (mulf (broadcastInDim s p h (constant z .f32 0x3DCCCCCD#32)) g') = first g m := by
  subst eg em; rfl

/-- The reference's second moment of equal arrays. -/
theorem second_of (eg : g' = g) (ev : v' = v) : addf (mulf (broadcastInDim s p h (constant z .f32 0x3F7FBE77#32)) v')
    (mulf (broadcastInDim s p h (constant z .f32 0x3A83126F#32)) (mulf g' g')) = second g v := by
  subst eg ev; rfl

/-- The reference's change of the weight, of equal arrays: the host divides and takes roots as the kernel does. -/
theorem delta_of (eg : g' = g) (ew : w' = w) (em : m' = m) (ev : v' = v) :
    mulf (broadcastInDim s p h (constant z .f32 0xBA83126F#32)) (addf
      (Host.divf (Host.divf (addf (mulf (broadcastInDim s p h (constant z .f32 0x3F666666#32)) m')
          (mulf (broadcastInDim s p h (constant z .f32 0x3DCCCCCD#32)) g')) (broadcastInDim s p h (constant z .f32 0x3F26BD02#32)))
        (addf (Host.sqrt (Host.divf (addf (mulf (broadcastInDim s p h (constant z .f32 0x3F7FBE77#32)) v')
          (mulf (broadcastInDim s p h (constant z .f32 0x3A83126F#32)) (mulf g' g'))) (broadcastInDim s p h (constant z .f32 0x3C231ACC#32))))
          (broadcastInDim s p h (constant z .f32 0x322BCC77#32))))
      (mulf (broadcastInDim s p h (constant z .f32 0x3C23D70A#32)) w')) = delta g w m v := by
  subst eg ew em ev; rfl

end agree

end Cert.AdamwTalk

end
-- ==== Proof.AdamwValue.lean ====
/-
The large weights' AdamW calls: each, at its shape, computes the reference's step.
-/
module

public import proofs.«01_k».proof.Defs
public import proofs.«01_k».proof.Proof.Gen.AdamwIn.Frame
public import proofs.«01_k».proof.Proof.Gen.AdamwInIdeal.Value
public import proofs.«01_k».proof.Proof.Gen.AdamwInReference
public import proofs.«01_k».proof.Proof.Gen.AdamwInReferenceIdeal.Run
public import proofs.«01_k».proof.Proof.Gen.AdamwGate.Frame
public import proofs.«01_k».proof.Proof.Gen.AdamwGateIdeal.Value
public import proofs.«01_k».proof.Proof.Gen.AdamwGateReference
public import proofs.«01_k».proof.Proof.Gen.AdamwGateReferenceIdeal.Run
public import proofs.«01_k».proof.Proof.Gen.AdamwOut.Frame
public import proofs.«01_k».proof.Proof.Gen.AdamwOutIdeal.Value
public import proofs.«01_k».proof.Proof.Gen.AdamwOutReference
public import proofs.«01_k».proof.Proof.Gen.AdamwOutReferenceIdeal.Run
public import proofs.«01_k».proof.Proof.Gen.AdamwUp.Frame
public import proofs.«01_k».proof.Proof.Gen.AdamwUpIdeal.Value
public import proofs.«01_k».proof.Proof.Gen.AdamwUpReference
public import proofs.«01_k».proof.Proof.Gen.AdamwUpReferenceIdeal.Run
public import proofs.«01_k».proof.Proof.AdamwStep

@[expose] public section

noncomputable section

namespace Cert.AdamwTalk

open Idealize.ShloMosaic Idealize.ShloMosaic.TcCoe Idealize.ShloMosaic.StableHlo
open Idealize.SL Idealize.SL.Sem

/-- `w_in`: the kernel's three results are the reference's. -/
theorem algebraic_AdamwIn : Cert.algebraic_AdamwInIdeal_AdamwInReferenceIdeal := fun m g m' g' _ hin =>
  ⟨fun c => delta (m ((c.tc : Thread Cert.AdamwInIdeal.nD Cert.AdamwInIdeal.τ).loc Cert.AdamwInIdeal.main_arg0)) (m ((c.tc : Thread Cert.AdamwInIdeal.nD Cert.AdamwInIdeal.τ).loc Cert.AdamwInIdeal.main_arg1))
      (m ((c.tc : Thread Cert.AdamwInIdeal.nD Cert.AdamwInIdeal.τ).loc Cert.AdamwInIdeal.main_arg2)) (m ((c.tc : Thread Cert.AdamwInIdeal.nD Cert.AdamwInIdeal.τ).loc Cert.AdamwInIdeal.main_arg3)),
    fun c => first (m ((c.tc : Thread Cert.AdamwInIdeal.nD Cert.AdamwInIdeal.τ).loc Cert.AdamwInIdeal.main_arg0)) (m ((c.tc : Thread Cert.AdamwInIdeal.nD Cert.AdamwInIdeal.τ).loc Cert.AdamwInIdeal.main_arg2)),
    fun c => second (m ((c.tc : Thread Cert.AdamwInIdeal.nD Cert.AdamwInIdeal.τ).loc Cert.AdamwInIdeal.main_arg0)) (m ((c.tc : Thread Cert.AdamwInIdeal.nD Cert.AdamwInIdeal.τ).loc Cert.AdamwInIdeal.main_arg3)),
    Cert.AdamwInIdeal.Value.run (F := Ideal) m g,
    (θ_run Cert.AdamwInReferenceIdeal.defs _ _).mono (fun r h c =>
      ⟨(h c).1.trans (delta_of _ _ (hin c).1 (hin c).2.1 (hin c).2.2.1 (hin c).2.2.2),
        (h c).2.1.trans (first_of _ _ (hin c).1 (hin c).2.2.1),
        (h c).2.2.1.trans (second_of _ _ (hin c).1 (hin c).2.2.2), (h c).2.2.2⟩) (Cert.AdamwInReferenceIdeal.Value.run (F := Ideal) m' g')⟩

theorem frame_AdamwIn_ideal : Cert.quiescent_AdamwInIdeal := fun m g _ => Cert.AdamwInIdeal.Gen.frame (F := Ideal) m g

theorem frame_AdamwIn : Cert.quiescent_AdamwIn := fun m g _ => Cert.AdamwIn.Gen.frame m g

theorem frame_AdamwIn_reference_ideal : Cert.quiescent_AdamwInReferenceIdeal := fun m g _ =>
  (θ_run Cert.AdamwInReferenceIdeal.defs _ _).mono (fun r h => ⟨fun c => (h c).2.2.2, sem_eq_zero_of_no_sems (by decide) r.2⟩)
    (Cert.AdamwInReferenceIdeal.Value.run (F := Ideal) m g)

theorem frame_AdamwIn_reference : Cert.quiescent_AdamwInReference := fun m g _ =>
  (θ_run Cert.AdamwInReferenceIdeal.defs _ _).mono (fun r h => ⟨fun c => (h c).2.2.2, sem_eq_zero_of_no_sems (by decide) r.2⟩)
    (Cert.AdamwInReferenceIdeal.Value.run (F := Bits) m g)

/-- `w_rgate` and `w_igate`: the kernel's three results are the reference's. -/
theorem algebraic_AdamwGate : Cert.algebraic_AdamwGateIdeal_AdamwGateReferenceIdeal := fun m g m' g' _ hin =>
  ⟨fun c => delta (m ((c.tc : Thread Cert.AdamwGateIdeal.nD Cert.AdamwGateIdeal.τ).loc Cert.AdamwGateIdeal.main_arg0)) (m ((c.tc : Thread Cert.AdamwGateIdeal.nD Cert.AdamwGateIdeal.τ).loc Cert.AdamwGateIdeal.main_arg1))
      (m ((c.tc : Thread Cert.AdamwGateIdeal.nD Cert.AdamwGateIdeal.τ).loc Cert.AdamwGateIdeal.main_arg2)) (m ((c.tc : Thread Cert.AdamwGateIdeal.nD Cert.AdamwGateIdeal.τ).loc Cert.AdamwGateIdeal.main_arg3)),
    fun c => first (m ((c.tc : Thread Cert.AdamwGateIdeal.nD Cert.AdamwGateIdeal.τ).loc Cert.AdamwGateIdeal.main_arg0)) (m ((c.tc : Thread Cert.AdamwGateIdeal.nD Cert.AdamwGateIdeal.τ).loc Cert.AdamwGateIdeal.main_arg2)),
    fun c => second (m ((c.tc : Thread Cert.AdamwGateIdeal.nD Cert.AdamwGateIdeal.τ).loc Cert.AdamwGateIdeal.main_arg0)) (m ((c.tc : Thread Cert.AdamwGateIdeal.nD Cert.AdamwGateIdeal.τ).loc Cert.AdamwGateIdeal.main_arg3)),
    Cert.AdamwGateIdeal.Value.run (F := Ideal) m g,
    (θ_run Cert.AdamwGateReferenceIdeal.defs _ _).mono (fun r h c =>
      ⟨(h c).1.trans (delta_of _ _ (hin c).1 (hin c).2.1 (hin c).2.2.1 (hin c).2.2.2),
        (h c).2.1.trans (first_of _ _ (hin c).1 (hin c).2.2.1),
        (h c).2.2.1.trans (second_of _ _ (hin c).1 (hin c).2.2.2), (h c).2.2.2⟩) (Cert.AdamwGateReferenceIdeal.Value.run (F := Ideal) m' g')⟩

theorem frame_AdamwGate_ideal : Cert.quiescent_AdamwGateIdeal := fun m g _ => Cert.AdamwGateIdeal.Gen.frame (F := Ideal) m g

theorem frame_AdamwGate : Cert.quiescent_AdamwGate := fun m g _ => Cert.AdamwGate.Gen.frame m g

theorem frame_AdamwGate_reference_ideal : Cert.quiescent_AdamwGateReferenceIdeal := fun m g _ =>
  (θ_run Cert.AdamwGateReferenceIdeal.defs _ _).mono (fun r h => ⟨fun c => (h c).2.2.2, sem_eq_zero_of_no_sems (by decide) r.2⟩)
    (Cert.AdamwGateReferenceIdeal.Value.run (F := Ideal) m g)

theorem frame_AdamwGate_reference : Cert.quiescent_AdamwGateReference := fun m g _ =>
  (θ_run Cert.AdamwGateReferenceIdeal.defs _ _).mono (fun r h => ⟨fun c => (h c).2.2.2, sem_eq_zero_of_no_sems (by decide) r.2⟩)
    (Cert.AdamwGateReferenceIdeal.Value.run (F := Bits) m g)

/-- `w_out_a`, `w_out_b` and `w_out`: the kernel's three results are the reference's. -/
theorem algebraic_AdamwOut : Cert.algebraic_AdamwOutIdeal_AdamwOutReferenceIdeal := fun m g m' g' _ hin =>
  ⟨fun c => delta (m ((c.tc : Thread Cert.AdamwOutIdeal.nD Cert.AdamwOutIdeal.τ).loc Cert.AdamwOutIdeal.main_arg0)) (m ((c.tc : Thread Cert.AdamwOutIdeal.nD Cert.AdamwOutIdeal.τ).loc Cert.AdamwOutIdeal.main_arg1))
      (m ((c.tc : Thread Cert.AdamwOutIdeal.nD Cert.AdamwOutIdeal.τ).loc Cert.AdamwOutIdeal.main_arg2)) (m ((c.tc : Thread Cert.AdamwOutIdeal.nD Cert.AdamwOutIdeal.τ).loc Cert.AdamwOutIdeal.main_arg3)),
    fun c => first (m ((c.tc : Thread Cert.AdamwOutIdeal.nD Cert.AdamwOutIdeal.τ).loc Cert.AdamwOutIdeal.main_arg0)) (m ((c.tc : Thread Cert.AdamwOutIdeal.nD Cert.AdamwOutIdeal.τ).loc Cert.AdamwOutIdeal.main_arg2)),
    fun c => second (m ((c.tc : Thread Cert.AdamwOutIdeal.nD Cert.AdamwOutIdeal.τ).loc Cert.AdamwOutIdeal.main_arg0)) (m ((c.tc : Thread Cert.AdamwOutIdeal.nD Cert.AdamwOutIdeal.τ).loc Cert.AdamwOutIdeal.main_arg3)),
    Cert.AdamwOutIdeal.Value.run (F := Ideal) m g,
    (θ_run Cert.AdamwOutReferenceIdeal.defs _ _).mono (fun r h c =>
      ⟨(h c).1.trans (delta_of _ _ (hin c).1 (hin c).2.1 (hin c).2.2.1 (hin c).2.2.2),
        (h c).2.1.trans (first_of _ _ (hin c).1 (hin c).2.2.1),
        (h c).2.2.1.trans (second_of _ _ (hin c).1 (hin c).2.2.2), (h c).2.2.2⟩) (Cert.AdamwOutReferenceIdeal.Value.run (F := Ideal) m' g')⟩

theorem frame_AdamwOut_ideal : Cert.quiescent_AdamwOutIdeal := fun m g _ => Cert.AdamwOutIdeal.Gen.frame (F := Ideal) m g

theorem frame_AdamwOut : Cert.quiescent_AdamwOut := fun m g _ => Cert.AdamwOut.Gen.frame m g

theorem frame_AdamwOut_reference_ideal : Cert.quiescent_AdamwOutReferenceIdeal := fun m g _ =>
  (θ_run Cert.AdamwOutReferenceIdeal.defs _ _).mono (fun r h => ⟨fun c => (h c).2.2.2, sem_eq_zero_of_no_sems (by decide) r.2⟩)
    (Cert.AdamwOutReferenceIdeal.Value.run (F := Ideal) m g)

theorem frame_AdamwOut_reference : Cert.quiescent_AdamwOutReference := fun m g _ =>
  (θ_run Cert.AdamwOutReferenceIdeal.defs _ _).mono (fun r h => ⟨fun c => (h c).2.2.2, sem_eq_zero_of_no_sems (by decide) r.2⟩)
    (Cert.AdamwOutReferenceIdeal.Value.run (F := Bits) m g)

/-- `w_up` and `w_down`: the kernel's three results are the reference's. -/
theorem algebraic_AdamwUp : Cert.algebraic_AdamwUpIdeal_AdamwUpReferenceIdeal := fun m g m' g' _ hin =>
  ⟨fun c => delta (m ((c.tc : Thread Cert.AdamwUpIdeal.nD Cert.AdamwUpIdeal.τ).loc Cert.AdamwUpIdeal.main_arg0)) (m ((c.tc : Thread Cert.AdamwUpIdeal.nD Cert.AdamwUpIdeal.τ).loc Cert.AdamwUpIdeal.main_arg1))
      (m ((c.tc : Thread Cert.AdamwUpIdeal.nD Cert.AdamwUpIdeal.τ).loc Cert.AdamwUpIdeal.main_arg2)) (m ((c.tc : Thread Cert.AdamwUpIdeal.nD Cert.AdamwUpIdeal.τ).loc Cert.AdamwUpIdeal.main_arg3)),
    fun c => first (m ((c.tc : Thread Cert.AdamwUpIdeal.nD Cert.AdamwUpIdeal.τ).loc Cert.AdamwUpIdeal.main_arg0)) (m ((c.tc : Thread Cert.AdamwUpIdeal.nD Cert.AdamwUpIdeal.τ).loc Cert.AdamwUpIdeal.main_arg2)),
    fun c => second (m ((c.tc : Thread Cert.AdamwUpIdeal.nD Cert.AdamwUpIdeal.τ).loc Cert.AdamwUpIdeal.main_arg0)) (m ((c.tc : Thread Cert.AdamwUpIdeal.nD Cert.AdamwUpIdeal.τ).loc Cert.AdamwUpIdeal.main_arg3)),
    Cert.AdamwUpIdeal.Value.run (F := Ideal) m g,
    (θ_run Cert.AdamwUpReferenceIdeal.defs _ _).mono (fun r h c =>
      ⟨(h c).1.trans (delta_of _ _ (hin c).1 (hin c).2.1 (hin c).2.2.1 (hin c).2.2.2),
        (h c).2.1.trans (first_of _ _ (hin c).1 (hin c).2.2.1),
        (h c).2.2.1.trans (second_of _ _ (hin c).1 (hin c).2.2.2), (h c).2.2.2⟩) (Cert.AdamwUpReferenceIdeal.Value.run (F := Ideal) m' g')⟩

theorem frame_AdamwUp_ideal : Cert.quiescent_AdamwUpIdeal := fun m g _ => Cert.AdamwUpIdeal.Gen.frame (F := Ideal) m g

theorem frame_AdamwUp : Cert.quiescent_AdamwUp := fun m g _ => Cert.AdamwUp.Gen.frame m g

theorem frame_AdamwUp_reference_ideal : Cert.quiescent_AdamwUpReferenceIdeal := fun m g _ =>
  (θ_run Cert.AdamwUpReferenceIdeal.defs _ _).mono (fun r h => ⟨fun c => (h c).2.2.2, sem_eq_zero_of_no_sems (by decide) r.2⟩)
    (Cert.AdamwUpReferenceIdeal.Value.run (F := Ideal) m g)

theorem frame_AdamwUp_reference : Cert.quiescent_AdamwUpReference := fun m g _ =>
  (θ_run Cert.AdamwUpReferenceIdeal.defs _ _).mono (fun r h => ⟨fun c => (h c).2.2.2, sem_eq_zero_of_no_sems (by decide) r.2⟩)
    (Cert.AdamwUpReferenceIdeal.Value.run (F := Bits) m g)

end Cert.AdamwTalk

end
-- ==== Proof.SmallValue.lean ====
/-
The small weights' AdamW call, on four weights at a time: of each weight it computes the reference's step.
-/
module

public import proofs.«01_k».proof.Defs
public import proofs.«01_k».proof.Proof.Gen.SmallFirst.Frame
public import proofs.«01_k».proof.Proof.Gen.SmallFirstIdeal.Value
public import proofs.«01_k».proof.Proof.Gen.SmallFirstReference
public import proofs.«01_k».proof.Proof.Gen.SmallFirstReferenceIdeal.Run
public import proofs.«01_k».proof.Proof.Gen.SmallNext.Frame
public import proofs.«01_k».proof.Proof.Gen.SmallNextIdeal.Value
public import proofs.«01_k».proof.Proof.Gen.SmallNextReference
public import proofs.«01_k».proof.Proof.Gen.SmallNextReferenceIdeal.Run
public import proofs.«01_k».proof.Proof.Gen.SmallLast.Frame
public import proofs.«01_k».proof.Proof.Gen.SmallLastIdeal.Value
public import proofs.«01_k».proof.Proof.Gen.SmallLastReference
public import proofs.«01_k».proof.Proof.Gen.SmallLastReferenceIdeal.Run
public import proofs.«01_k».proof.Proof.AdamwStep

@[expose] public section

noncomputable section

namespace Cert.AdamwTalk

open Idealize.ShloMosaic Idealize.ShloMosaic.TcCoe Idealize.ShloMosaic.StableHlo
open Idealize.SL Idealize.SL.Sem

/-- The first four of the small weights: their changes and both their moments are the reference's. -/
theorem algebraic_SmallFirst : Cert.algebraic_SmallFirstIdeal_SmallFirstReferenceIdeal := fun m g m' g' _ hin => by
  refine ⟨_, _, _, _, _, _, _, _, _, _, _, _, Cert.SmallFirstIdeal.Value.run (F := Ideal) m g,
    (θ_run Cert.SmallFirstReferenceIdeal.defs _ _).mono (fun r h c => ?_) (Cert.SmallFirstReferenceIdeal.Value.run (F := Ideal) m' g')⟩
  obtain ⟨e0, e1, e2, e3, e4, e5, e6, e7, e8, e9, e10, e11, e12, e13, e14, e15⟩ := hin c
  obtain ⟨h0, h1, h2, h3, h4, h5, h6, h7, h8, h9, h10, h11, kept⟩ := h c
  exact ⟨h0.trans (delta_of _ _ e0 e4 e8 e12),
    h1.trans (delta_of _ _ e1 e5 e9 e13),
    h2.trans (delta_of _ _ e2 e6 e10 e14),
    h3.trans (delta_of _ _ e3 e7 e11 e15),
    h4.trans (first_of _ _ e0 e8),
    h5.trans (first_of _ _ e1 e9),
    h6.trans (first_of _ _ e2 e10),
    h7.trans (first_of _ _ e3 e11),
    h8.trans (second_of _ _ e0 e12),
    h9.trans (second_of _ _ e1 e13),
    h10.trans (second_of _ _ e2 e14),
    h11.trans (second_of _ _ e3 e15), kept⟩

theorem frame_SmallFirst_ideal : Cert.quiescent_SmallFirstIdeal := fun m g _ => Cert.SmallFirstIdeal.Gen.frame (F := Ideal) m g

theorem frame_SmallFirst : Cert.quiescent_SmallFirst := fun m g _ => Cert.SmallFirst.Gen.frame m g

theorem frame_SmallFirst_reference_ideal : Cert.quiescent_SmallFirstReferenceIdeal := fun m g _ =>
  (θ_run Cert.SmallFirstReferenceIdeal.defs _ _).mono (fun r h => ⟨fun c => (h c).2.2.2.2.2.2.2.2.2.2.2.2, sem_eq_zero_of_no_sems (by decide) r.2⟩)
    (Cert.SmallFirstReferenceIdeal.Value.run (F := Ideal) m g)

theorem frame_SmallFirst_reference : Cert.quiescent_SmallFirstReference := fun m g _ =>
  (θ_run Cert.SmallFirstReferenceIdeal.defs _ _).mono (fun r h => ⟨fun c => (h c).2.2.2.2.2.2.2.2.2.2.2.2, sem_eq_zero_of_no_sems (by decide) r.2⟩)
    (Cert.SmallFirstReferenceIdeal.Value.run (F := Bits) m g)

/-- The next four of the small weights: their changes and both their moments are the reference's. -/
theorem algebraic_SmallNext : Cert.algebraic_SmallNextIdeal_SmallNextReferenceIdeal := fun m g m' g' _ hin => by
  refine ⟨_, _, _, _, _, _, _, _, _, _, _, _, Cert.SmallNextIdeal.Value.run (F := Ideal) m g,
    (θ_run Cert.SmallNextReferenceIdeal.defs _ _).mono (fun r h c => ?_) (Cert.SmallNextReferenceIdeal.Value.run (F := Ideal) m' g')⟩
  obtain ⟨e0, e1, e2, e3, e4, e5, e6, e7, e8, e9, e10, e11, e12, e13, e14, e15⟩ := hin c
  obtain ⟨h0, h1, h2, h3, h4, h5, h6, h7, h8, h9, h10, h11, kept⟩ := h c
  exact ⟨h0.trans (delta_of _ _ e0 e4 e8 e12),
    h1.trans (delta_of _ _ e1 e5 e9 e13),
    h2.trans (delta_of _ _ e2 e6 e10 e14),
    h3.trans (delta_of _ _ e3 e7 e11 e15),
    h4.trans (first_of _ _ e0 e8),
    h5.trans (first_of _ _ e1 e9),
    h6.trans (first_of _ _ e2 e10),
    h7.trans (first_of _ _ e3 e11),
    h8.trans (second_of _ _ e0 e12),
    h9.trans (second_of _ _ e1 e13),
    h10.trans (second_of _ _ e2 e14),
    h11.trans (second_of _ _ e3 e15), kept⟩

theorem frame_SmallNext_ideal : Cert.quiescent_SmallNextIdeal := fun m g _ => Cert.SmallNextIdeal.Gen.frame (F := Ideal) m g

theorem frame_SmallNext : Cert.quiescent_SmallNext := fun m g _ => Cert.SmallNext.Gen.frame m g

theorem frame_SmallNext_reference_ideal : Cert.quiescent_SmallNextReferenceIdeal := fun m g _ =>
  (θ_run Cert.SmallNextReferenceIdeal.defs _ _).mono (fun r h => ⟨fun c => (h c).2.2.2.2.2.2.2.2.2.2.2.2, sem_eq_zero_of_no_sems (by decide) r.2⟩)
    (Cert.SmallNextReferenceIdeal.Value.run (F := Ideal) m g)

theorem frame_SmallNext_reference : Cert.quiescent_SmallNextReference := fun m g _ =>
  (θ_run Cert.SmallNextReferenceIdeal.defs _ _).mono (fun r h => ⟨fun c => (h c).2.2.2.2.2.2.2.2.2.2.2.2, sem_eq_zero_of_no_sems (by decide) r.2⟩)
    (Cert.SmallNextReferenceIdeal.Value.run (F := Bits) m g)

/-- The last four of the small weights: their changes and both their moments are the reference's. -/
theorem algebraic_SmallLast : Cert.algebraic_SmallLastIdeal_SmallLastReferenceIdeal := fun m g m' g' _ hin => by
  refine ⟨_, _, _, _, _, _, _, _, _, _, _, _, Cert.SmallLastIdeal.Value.run (F := Ideal) m g,
    (θ_run Cert.SmallLastReferenceIdeal.defs _ _).mono (fun r h c => ?_) (Cert.SmallLastReferenceIdeal.Value.run (F := Ideal) m' g')⟩
  obtain ⟨e0, e1, e2, e3, e4, e5, e6, e7, e8, e9, e10, e11, e12, e13, e14, e15⟩ := hin c
  obtain ⟨h0, h1, h2, h3, h4, h5, h6, h7, h8, h9, h10, h11, kept⟩ := h c
  exact ⟨h0.trans (delta_of _ _ e0 e4 e8 e12),
    h1.trans (delta_of _ _ e1 e5 e9 e13),
    h2.trans (delta_of _ _ e2 e6 e10 e14),
    h3.trans (delta_of _ _ e3 e7 e11 e15),
    h4.trans (first_of _ _ e0 e8),
    h5.trans (first_of _ _ e1 e9),
    h6.trans (first_of _ _ e2 e10),
    h7.trans (first_of _ _ e3 e11),
    h8.trans (second_of _ _ e0 e12),
    h9.trans (second_of _ _ e1 e13),
    h10.trans (second_of _ _ e2 e14),
    h11.trans (second_of _ _ e3 e15), kept⟩

theorem frame_SmallLast_ideal : Cert.quiescent_SmallLastIdeal := fun m g _ => Cert.SmallLastIdeal.Gen.frame (F := Ideal) m g

theorem frame_SmallLast : Cert.quiescent_SmallLast := fun m g _ => Cert.SmallLast.Gen.frame m g

theorem frame_SmallLast_reference_ideal : Cert.quiescent_SmallLastReferenceIdeal := fun m g _ =>
  (θ_run Cert.SmallLastReferenceIdeal.defs _ _).mono (fun r h => ⟨fun c => (h c).2.2.2.2.2.2.2.2.2.2.2.2, sem_eq_zero_of_no_sems (by decide) r.2⟩)
    (Cert.SmallLastReferenceIdeal.Value.run (F := Ideal) m g)

theorem frame_SmallLast_reference : Cert.quiescent_SmallLastReference := fun m g _ =>
  (θ_run Cert.SmallLastReferenceIdeal.defs _ _).mono (fun r h => ⟨fun c => (h c).2.2.2.2.2.2.2.2.2.2.2.2, sem_eq_zero_of_no_sems (by decide) r.2⟩)
    (Cert.SmallLastReferenceIdeal.Value.run (F := Bits) m g)

end Cert.AdamwTalk

end
-- ==== Proof.ChipSumValue.lean ====
/-
The sum of the four chips' parts: at each shape the call computes, index by index, the sum of the reference.
-/
module

public import proofs.«01_k».proof.Defs
public import proofs.«01_k».proof.Proof.Gen.ChipSumIn.Frame
public import proofs.«01_k».proof.Proof.Gen.ChipSumInIdeal.Value
public import proofs.«01_k».proof.Proof.Gen.ChipSumInReference
public import proofs.«01_k».proof.Proof.Gen.ChipSumInReferenceIdeal.Run
public import proofs.«01_k».proof.Proof.Gen.ChipSumGate.Frame
public import proofs.«01_k».proof.Proof.Gen.ChipSumGateIdeal.Value
public import proofs.«01_k».proof.Proof.Gen.ChipSumGateReference
public import proofs.«01_k».proof.Proof.Gen.ChipSumGateReferenceIdeal.Run
public import proofs.«01_k».proof.Proof.Gen.ChipSumOut.Frame
public import proofs.«01_k».proof.Proof.Gen.ChipSumOutIdeal.Value
public import proofs.«01_k».proof.Proof.Gen.ChipSumOutReference
public import proofs.«01_k».proof.Proof.Gen.ChipSumOutReferenceIdeal.Run
public import proofs.«01_k».proof.Proof.Gen.ChipSumUp.Frame
public import proofs.«01_k».proof.Proof.Gen.ChipSumUpIdeal.Value
public import proofs.«01_k».proof.Proof.Gen.ChipSumUpReference
public import proofs.«01_k».proof.Proof.Gen.ChipSumUpReferenceIdeal.Run
public import Idealize.ShloMosaic.Lib.Pointwise.Reduce
public import Idealize.ShloMosaic.Lib.IdealHost

@[expose] public section

noncomputable section

namespace Cert.SumTalk

open Idealize.ShloMosaic Idealize.ShloMosaic.TcCoe Idealize.ShloMosaic.StableHlo
open Idealize.SL Idealize.SL.Sem

/-- The four parts added, one after the other. -/
def four {F : FTy → Type} [FloatOps F] {h c : Nat} (p : (⟨3, ![4, h, c]⟩ : Shape).Idx → F .bf16) : (⟨2, ![h, c]⟩ : Shape).Idx → F .f32 := fun i =>
  FloatOps.addf (FloatOps.addf (FloatOps.addf (FloatOps.extf .f32 (by decide) (p (ix3 0 (i 0) (i 1)))) (FloatOps.extf .f32 (by decide) (p (ix3 1 (i 0) (i 1)))))
    (FloatOps.extf .f32 (by decide) (p (ix3 2 (i 0) (i 1))))) (FloatOps.extf .f32 (by decide) (p (ix3 3 (i 0) (i 1))))

/-- Over the extended reals that is the host's sum over the parts. -/
theorem sum_eq_four {h c : Nat} (p q : (⟨3, ![4, h, c]⟩ : Shape).Idx → Ideal .bf16) (hb : FTy.bits .bf16 < FTy.bits .f32)
    (hr : (⟨3, ![4, h, c]⟩ : Shape).ReducesTo [0] ⟨2, ![h, c]⟩) (hu : 0 < (⟨0, ![]⟩ : Shape).numel) (e : q = p) :
    Host.reduceAdd (extf .f32 q hb) (constant ⟨0, ![]⟩ .f32 0x00000000#32) hr hu = four p := by
  subst e
  funext i
  show Ideal.hostReduceAdd hr (fun j => q j) (Scalar.ofBits (F := Ideal) .f32 0x00000000#32) i = _
  rw [Ideal.hostReduceAdd_r3_a0, Fin.sum_univ_four, show (Scalar.ofBits (F := Ideal) .f32 0x00000000#32 : EReal) = 0 from Ideal.ofBits_zero_f32, zero_add]
  rfl

section ChipSumInCase
open Cert.ChipSumInIdeal Cert.ChipSumInIdeal.Gen Cert.ChipSumInIdeal.Value
variable {F : FTy → Type} [FloatOps F] (m : (ℓ : Loc nD τ sig) → Buf (Elt F) ℓ)

/-- The block a point reads and the block it writes: both the point's rows, of all four parts and of the sum. -/
theorem index_ChipSumIn : ∀ t : Fin cfg0.N, (win0_0.index t (0 : Fin 3) = 0 ∧ win0_0.index t (1 : Fin 3) = t.val ∧ win0_0.index t (2 : Fin 3) = 0)
    ∧ win0_1.index t (0 : Fin 2) = t.val ∧ win0_1.index t (1 : Fin 2) = 0 :=
  by show ∀ t : Fin grid0.N, _; decide +kernel

/-- What a point writes back is its block of the sum of the parts. -/
theorem flushed_ChipSumIn (c : Dev nD) (t : Fin cfg0.N) :
    (dats m 0 c).flushed 1 t = ((cfg0.win 1).blk t).view.read (Elt F) (four (V m c main_arg0)) := by
  rw [flushed1]
  obtain ⟨⟨e0, e1, e2⟩, e3, e4⟩ := index_ChipSumIn t
  funext j
  show out0_1 (iblk m c 0 t) j = _
  have at_ (k : Nat) (hk : k < 4) (x : S4x256x1536.Idx) (h0 : (x 0).val = k) (h1 : (x 1).val = 0 + 1 * (j 0).val) (h2 : (x 2).val = 0 + 1 * (j 1).val) :
      iblk m c 0 t x = V m c main_arg0 (ix3 (⟨k, hk⟩ : Fin 4) (((cfg0.win 1).blk t).view.emb j 0) (((cfg0.win 1).blk t).view.emb j 1)) := by
    show V m c main_arg0 (((cfg0.win 0).blk t).view.emb x) = _
    refine congrArg _ (funext fun a => Fin.ext ?_)
    match a with
    | ⟨0, _⟩ => show win0_0.index t (0 : Fin 3) * 4 + 1 * (x 0).val = k; omega
    | ⟨1, _⟩ => show win0_0.index t (1 : Fin 3) * 256 + 1 * (x 1).val = win0_1.index t (0 : Fin 2) * 256 + 1 * (j 0).val; omega
    | ⟨2, _⟩ => show win0_0.index t (2 : Fin 3) * 1536 + 1 * (x 2).val = win0_1.index t (1 : Fin 2) * 1536 + 1 * (j 1).val; omega
  refine (canon1_eq _ _ _ _ j).trans ?_
  show FloatOps.addf (FloatOps.addf (FloatOps.addf (FloatOps.extf .f32 _ (iblk m c 0 t (r0_0.idx (ix1_0 j)))) (FloatOps.extf .f32 _ (iblk m c 0 t (r0_1.idx (ix1_1 j)))))
    (FloatOps.extf .f32 _ (iblk m c 0 t (r0_2.idx (ix1_2 j))))) (FloatOps.extf .f32 _ (iblk m c 0 t (r0_3.idx (ix1_3 j)))) = _
  rw [at_ 0 (by decide) (r0_0.idx (ix1_0 j)) rfl rfl rfl, at_ 1 (by decide) (r0_1.idx (ix1_1 j)) rfl rfl rfl,
    at_ 2 (by decide) (r0_2.idx (ix1_2 j)) rfl rfl rfl, at_ 3 (by decide) (r0_3.idx (ix1_3 j)) rfl rfl rfl]
  rfl

/-- Every row is in the block of one point. -/
theorem covered_ChipSumIn (i : S512x1536.Idx) : ∃ t : Fin cfg0.N, (cfg0.win 1).flush t = true ∧ i ∈ ((cfg0.win 1).blk t).view.set := by
  have hi : (i 0).val < 512 := (i 0).isLt
  have hj : (i 1).val < 1536 := (i 1).isLt
  have hN : cfg0.N = 512 / 256 := by decide
  obtain ⟨t, ht⟩ : ∃ t : Fin cfg0.N, t.val = (i 0).val / 256 := ⟨⟨(i 0).val / 256, by omega⟩, rfl⟩
  obtain ⟨-, e0, e1⟩ := index_ChipSumIn t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1536 ≤ (i 1).val ∧ (i 1).val < win0_1.index t (1 : Fin 2) * 1536 + 1536; omega

/-- `w_in`: the call's result is the reference's sum. -/
theorem algebraic_ChipSumIn : Cert.algebraic_ChipSumInIdeal_ChipSumInReferenceIdeal := fun m g m' g' _ hin =>
  ⟨fun c => four (F := Ideal) (h := 512) (c := 1536) (m ((c.tc : Thread nD τ).loc main_arg0)),
    (θ_run defs _ _).mono (fun r h c => ⟨(h c).1.trans ((dats m 0 c).arrAt_eq_of_cover 1 _ (fun t _ => flushed_ChipSumIn m c t) covered_ChipSumIn), (h c).2⟩)
      (run_blocks (F := Ideal) m g),
    (θ_run Cert.ChipSumInReferenceIdeal.defs _ _).mono (fun r h c => ⟨(h c).1.trans (sum_eq_four _ _ _ _ _ (hin c)), (h c).2⟩)
      (Cert.ChipSumInReferenceIdeal.Value.run (F := Ideal) m' g')⟩

end ChipSumInCase

theorem frame_ChipSumIn_ideal : Cert.quiescent_ChipSumInIdeal := fun m g _ => Cert.ChipSumInIdeal.Gen.frame (F := Ideal) m g

theorem frame_ChipSumIn : Cert.quiescent_ChipSumIn := fun m g _ => Cert.ChipSumIn.Gen.frame m g

theorem frame_ChipSumIn_reference_ideal : Cert.quiescent_ChipSumInReferenceIdeal := fun m g _ =>
  (θ_run Cert.ChipSumInReferenceIdeal.defs _ _).mono (fun r h => ⟨fun c => (h c).2, sem_eq_zero_of_no_sems (by decide) r.2⟩)
    (Cert.ChipSumInReferenceIdeal.Value.run (F := Ideal) m g)

theorem frame_ChipSumIn_reference : Cert.quiescent_ChipSumInReference := fun m g _ =>
  (θ_run Cert.ChipSumInReferenceIdeal.defs _ _).mono (fun r h => ⟨fun c => (h c).2, sem_eq_zero_of_no_sems (by decide) r.2⟩)
    (Cert.ChipSumInReferenceIdeal.Value.run (F := Bits) m g)

section ChipSumGateCase
open Cert.ChipSumGateIdeal Cert.ChipSumGateIdeal.Gen Cert.ChipSumGateIdeal.Value
variable {F : FTy → Type} [FloatOps F] (m : (ℓ : Loc nD τ sig) → Buf (Elt F) ℓ)

/-- The block a point reads and the block it writes: both the point's rows, of all four parts and of the sum. -/
theorem index_ChipSumGate : ∀ t : Fin cfg0.N, (win0_0.index t (0 : Fin 3) = 0 ∧ win0_0.index t (1 : Fin 3) = t.val ∧ win0_0.index t (2 : Fin 3) = 0)
    ∧ win0_1.index t (0 : Fin 2) = t.val ∧ win0_1.index t (1 : Fin 2) = 0 :=
  by show ∀ t : Fin grid0.N, _; decide +kernel

/-- What a point writes back is its block of the sum of the parts. -/
theorem flushed_ChipSumGate (c : Dev nD) (t : Fin cfg0.N) :
    (dats m 0 c).flushed 1 t = ((cfg0.win 1).blk t).view.read (Elt F) (four (V m c main_arg0)) := by
  rw [flushed1]
  obtain ⟨⟨e0, e1, e2⟩, e3, e4⟩ := index_ChipSumGate t
  funext j
  show out0_1 (iblk m c 0 t) j = _
  have at_ (k : Nat) (hk : k < 4) (x : S4x128x256.Idx) (h0 : (x 0).val = k) (h1 : (x 1).val = 0 + 1 * (j 0).val) (h2 : (x 2).val = 0 + 1 * (j 1).val) :
      iblk m c 0 t x = V m c main_arg0 (ix3 (⟨k, hk⟩ : Fin 4) (((cfg0.win 1).blk t).view.emb j 0) (((cfg0.win 1).blk t).view.emb j 1)) := by
    show V m c main_arg0 (((cfg0.win 0).blk t).view.emb x) = _
    refine congrArg _ (funext fun a => Fin.ext ?_)
    match a with
    | ⟨0, _⟩ => show win0_0.index t (0 : Fin 3) * 4 + 1 * (x 0).val = k; omega
    | ⟨1, _⟩ => show win0_0.index t (1 : Fin 3) * 128 + 1 * (x 1).val = win0_1.index t (0 : Fin 2) * 128 + 1 * (j 0).val; omega
    | ⟨2, _⟩ => show win0_0.index t (2 : Fin 3) * 256 + 1 * (x 2).val = win0_1.index t (1 : Fin 2) * 256 + 1 * (j 1).val; omega
  refine (canon1_eq _ _ _ _ j).trans ?_
  show FloatOps.addf (FloatOps.addf (FloatOps.addf (FloatOps.extf .f32 _ (iblk m c 0 t (r0_0.idx (ix1_0 j)))) (FloatOps.extf .f32 _ (iblk m c 0 t (r0_1.idx (ix1_1 j)))))
    (FloatOps.extf .f32 _ (iblk m c 0 t (r0_2.idx (ix1_2 j))))) (FloatOps.extf .f32 _ (iblk m c 0 t (r0_3.idx (ix1_3 j)))) = _
  rw [at_ 0 (by decide) (r0_0.idx (ix1_0 j)) rfl rfl rfl, at_ 1 (by decide) (r0_1.idx (ix1_1 j)) rfl rfl rfl,
    at_ 2 (by decide) (r0_2.idx (ix1_2 j)) rfl rfl rfl, at_ 3 (by decide) (r0_3.idx (ix1_3 j)) rfl rfl rfl]
  rfl

/-- Every row is in the block of one point. -/
theorem covered_ChipSumGate (i : S128x256.Idx) : ∃ t : Fin cfg0.N, (cfg0.win 1).flush t = true ∧ i ∈ ((cfg0.win 1).blk t).view.set := by
  have hi : (i 0).val < 128 := (i 0).isLt
  have hj : (i 1).val < 256 := (i 1).isLt
  have hN : cfg0.N = 128 / 128 := by decide
  obtain ⟨t, ht⟩ : ∃ t : Fin cfg0.N, t.val = (i 0).val / 128 := ⟨⟨(i 0).val / 128, by omega⟩, rfl⟩
  obtain ⟨-, e0, e1⟩ := index_ChipSumGate t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 256 ≤ (i 1).val ∧ (i 1).val < win0_1.index t (1 : Fin 2) * 256 + 256; omega

/-- `w_rgate` and `w_igate`: the call's result is the reference's sum. -/
theorem algebraic_ChipSumGate : Cert.algebraic_ChipSumGateIdeal_ChipSumGateReferenceIdeal := fun m g m' g' _ hin =>
  ⟨fun c => four (F := Ideal) (h := 128) (c := 256) (m ((c.tc : Thread nD τ).loc main_arg0)),
    (θ_run defs _ _).mono (fun r h c => ⟨(h c).1.trans ((dats m 0 c).arrAt_eq_of_cover 1 _ (fun t _ => flushed_ChipSumGate m c t) covered_ChipSumGate), (h c).2⟩)
      (run_blocks (F := Ideal) m g),
    (θ_run Cert.ChipSumGateReferenceIdeal.defs _ _).mono (fun r h c => ⟨(h c).1.trans (sum_eq_four _ _ _ _ _ (hin c)), (h c).2⟩)
      (Cert.ChipSumGateReferenceIdeal.Value.run (F := Ideal) m' g')⟩

end ChipSumGateCase

theorem frame_ChipSumGate_ideal : Cert.quiescent_ChipSumGateIdeal := fun m g _ => Cert.ChipSumGateIdeal.Gen.frame (F := Ideal) m g

theorem frame_ChipSumGate : Cert.quiescent_ChipSumGate := fun m g _ => Cert.ChipSumGate.Gen.frame m g

theorem frame_ChipSumGate_reference_ideal : Cert.quiescent_ChipSumGateReferenceIdeal := fun m g _ =>
  (θ_run Cert.ChipSumGateReferenceIdeal.defs _ _).mono (fun r h => ⟨fun c => (h c).2, sem_eq_zero_of_no_sems (by decide) r.2⟩)
    (Cert.ChipSumGateReferenceIdeal.Value.run (F := Ideal) m g)

theorem frame_ChipSumGate_reference : Cert.quiescent_ChipSumGateReference := fun m g _ =>
  (θ_run Cert.ChipSumGateReferenceIdeal.defs _ _).mono (fun r h => ⟨fun c => (h c).2, sem_eq_zero_of_no_sems (by decide) r.2⟩)
    (Cert.ChipSumGateReferenceIdeal.Value.run (F := Bits) m g)

section ChipSumOutCase
open Cert.ChipSumOutIdeal Cert.ChipSumOutIdeal.Gen Cert.ChipSumOutIdeal.Value
variable {F : FTy → Type} [FloatOps F] (m : (ℓ : Loc nD τ sig) → Buf (Elt F) ℓ)

/-- The block a point reads and the block it writes: both the point's rows, of all four parts and of the sum. -/
theorem index_ChipSumOut : ∀ t : Fin cfg0.N, (win0_0.index t (0 : Fin 3) = 0 ∧ win0_0.index t (1 : Fin 3) = t.val ∧ win0_0.index t (2 : Fin 3) = 0)
    ∧ win0_1.index t (0 : Fin 2) = t.val ∧ win0_1.index t (1 : Fin 2) = 0 :=
  by show ∀ t : Fin grid0.N, _; decide +kernel

/-- What a point writes back is its block of the sum of the parts. -/
theorem flushed_ChipSumOut (c : Dev nD) (t : Fin cfg0.N) :
    (dats m 0 c).flushed 1 t = ((cfg0.win 1).blk t).view.read (Elt F) (four (V m c main_arg0)) := by
  rw [flushed1]
  obtain ⟨⟨e0, e1, e2⟩, e3, e4⟩ := index_ChipSumOut t
  funext j
  show out0_1 (iblk m c 0 t) j = _
  have at_ (k : Nat) (hk : k < 4) (x : S4x128x1024.Idx) (h0 : (x 0).val = k) (h1 : (x 1).val = 0 + 1 * (j 0).val) (h2 : (x 2).val = 0 + 1 * (j 1).val) :
      iblk m c 0 t x = V m c main_arg0 (ix3 (⟨k, hk⟩ : Fin 4) (((cfg0.win 1).blk t).view.emb j 0) (((cfg0.win 1).blk t).view.emb j 1)) := by
    show V m c main_arg0 (((cfg0.win 0).blk t).view.emb x) = _
    refine congrArg _ (funext fun a => Fin.ext ?_)
    match a with
    | ⟨0, _⟩ => show win0_0.index t (0 : Fin 3) * 4 + 1 * (x 0).val = k; omega
    | ⟨1, _⟩ => show win0_0.index t (1 : Fin 3) * 128 + 1 * (x 1).val = win0_1.index t (0 : Fin 2) * 128 + 1 * (j 0).val; omega
    | ⟨2, _⟩ => show win0_0.index t (2 : Fin 3) * 1024 + 1 * (x 2).val = win0_1.index t (1 : Fin 2) * 1024 + 1 * (j 1).val; omega
  refine (canon1_eq _ _ _ _ j).trans ?_
  show FloatOps.addf (FloatOps.addf (FloatOps.addf (FloatOps.extf .f32 _ (iblk m c 0 t (r0_0.idx (ix1_0 j)))) (FloatOps.extf .f32 _ (iblk m c 0 t (r0_1.idx (ix1_1 j)))))
    (FloatOps.extf .f32 _ (iblk m c 0 t (r0_2.idx (ix1_2 j))))) (FloatOps.extf .f32 _ (iblk m c 0 t (r0_3.idx (ix1_3 j)))) = _
  rw [at_ 0 (by decide) (r0_0.idx (ix1_0 j)) rfl rfl rfl, at_ 1 (by decide) (r0_1.idx (ix1_1 j)) rfl rfl rfl,
    at_ 2 (by decide) (r0_2.idx (ix1_2 j)) rfl rfl rfl, at_ 3 (by decide) (r0_3.idx (ix1_3 j)) rfl rfl rfl]
  rfl

/-- Every row is in the block of one point. -/
theorem covered_ChipSumOut (i : S128x1024.Idx) : ∃ t : Fin cfg0.N, (cfg0.win 1).flush t = true ∧ i ∈ ((cfg0.win 1).blk t).view.set := by
  have hi : (i 0).val < 128 := (i 0).isLt
  have hj : (i 1).val < 1024 := (i 1).isLt
  have hN : cfg0.N = 128 / 128 := by decide
  obtain ⟨t, ht⟩ : ∃ t : Fin cfg0.N, t.val = (i 0).val / 128 := ⟨⟨(i 0).val / 128, by omega⟩, rfl⟩
  obtain ⟨-, e0, e1⟩ := index_ChipSumOut t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 1024 ≤ (i 1).val ∧ (i 1).val < win0_1.index t (1 : Fin 2) * 1024 + 1024; omega

/-- `w_out_a`, `w_out_b` and `w_out`: the call's result is the reference's sum. -/
theorem algebraic_ChipSumOut : Cert.algebraic_ChipSumOutIdeal_ChipSumOutReferenceIdeal := fun m g m' g' _ hin =>
  ⟨fun c => four (F := Ideal) (h := 128) (c := 1024) (m ((c.tc : Thread nD τ).loc main_arg0)),
    (θ_run defs _ _).mono (fun r h c => ⟨(h c).1.trans ((dats m 0 c).arrAt_eq_of_cover 1 _ (fun t _ => flushed_ChipSumOut m c t) covered_ChipSumOut), (h c).2⟩)
      (run_blocks (F := Ideal) m g),
    (θ_run Cert.ChipSumOutReferenceIdeal.defs _ _).mono (fun r h c => ⟨(h c).1.trans (sum_eq_four _ _ _ _ _ (hin c)), (h c).2⟩)
      (Cert.ChipSumOutReferenceIdeal.Value.run (F := Ideal) m' g')⟩

end ChipSumOutCase

theorem frame_ChipSumOut_ideal : Cert.quiescent_ChipSumOutIdeal := fun m g _ => Cert.ChipSumOutIdeal.Gen.frame (F := Ideal) m g

theorem frame_ChipSumOut : Cert.quiescent_ChipSumOut := fun m g _ => Cert.ChipSumOut.Gen.frame m g

theorem frame_ChipSumOut_reference_ideal : Cert.quiescent_ChipSumOutReferenceIdeal := fun m g _ =>
  (θ_run Cert.ChipSumOutReferenceIdeal.defs _ _).mono (fun r h => ⟨fun c => (h c).2, sem_eq_zero_of_no_sems (by decide) r.2⟩)
    (Cert.ChipSumOutReferenceIdeal.Value.run (F := Ideal) m g)

theorem frame_ChipSumOut_reference : Cert.quiescent_ChipSumOutReference := fun m g _ =>
  (θ_run Cert.ChipSumOutReferenceIdeal.defs _ _).mono (fun r h => ⟨fun c => (h c).2, sem_eq_zero_of_no_sems (by decide) r.2⟩)
    (Cert.ChipSumOutReferenceIdeal.Value.run (F := Bits) m g)

section ChipSumUpCase
open Cert.ChipSumUpIdeal Cert.ChipSumUpIdeal.Gen Cert.ChipSumUpIdeal.Value
variable {F : FTy → Type} [FloatOps F] (m : (ℓ : Loc nD τ sig) → Buf (Elt F) ℓ)

/-- The block a point reads and the block it writes: both the point's rows, of all four parts and of the sum. -/
theorem index_ChipSumUp : ∀ t : Fin cfg0.N, (win0_0.index t (0 : Fin 3) = 0 ∧ win0_0.index t (1 : Fin 3) = t.val ∧ win0_0.index t (2 : Fin 3) = 0)
    ∧ win0_1.index t (0 : Fin 2) = t.val ∧ win0_1.index t (1 : Fin 2) = 0 :=
  by show ∀ t : Fin grid0.N, _; decide +kernel

/-- What a point writes back is its block of the sum of the parts. -/
theorem flushed_ChipSumUp (c : Dev nD) (t : Fin cfg0.N) :
    (dats m 0 c).flushed 1 t = ((cfg0.win 1).blk t).view.read (Elt F) (four (V m c main_arg0)) := by
  rw [flushed1]
  obtain ⟨⟨e0, e1, e2⟩, e3, e4⟩ := index_ChipSumUp t
  funext j
  show out0_1 (iblk m c 0 t) j = _
  have at_ (k : Nat) (hk : k < 4) (x : S4x256x1024.Idx) (h0 : (x 0).val = k) (h1 : (x 1).val = 0 + 1 * (j 0).val) (h2 : (x 2).val = 0 + 1 * (j 1).val) :
      iblk m c 0 t x = V m c main_arg0 (ix3 (⟨k, hk⟩ : Fin 4) (((cfg0.win 1).blk t).view.emb j 0) (((cfg0.win 1).blk t).view.emb j 1)) := by
    show V m c main_arg0 (((cfg0.win 0).blk t).view.emb x) = _
    refine congrArg _ (funext fun a => Fin.ext ?_)
    match a with
    | ⟨0, _⟩ => show win0_0.index t (0 : Fin 3) * 4 + 1 * (x 0).val = k; omega
    | ⟨1, _⟩ => show win0_0.index t (1 : Fin 3) * 256 + 1 * (x 1).val = win0_1.index t (0 : Fin 2) * 256 + 1 * (j 0).val; omega
    | ⟨2, _⟩ => show win0_0.index t (2 : Fin 3) * 1024 + 1 * (x 2).val = win0_1.index t (1 : Fin 2) * 1024 + 1 * (j 1).val; omega
  refine (canon1_eq _ _ _ _ j).trans ?_
  show FloatOps.addf (FloatOps.addf (FloatOps.addf (FloatOps.extf .f32 _ (iblk m c 0 t (r0_0.idx (ix1_0 j)))) (FloatOps.extf .f32 _ (iblk m c 0 t (r0_1.idx (ix1_1 j)))))
    (FloatOps.extf .f32 _ (iblk m c 0 t (r0_2.idx (ix1_2 j))))) (FloatOps.extf .f32 _ (iblk m c 0 t (r0_3.idx (ix1_3 j)))) = _
  rw [at_ 0 (by decide) (r0_0.idx (ix1_0 j)) rfl rfl rfl, at_ 1 (by decide) (r0_1.idx (ix1_1 j)) rfl rfl rfl,
    at_ 2 (by decide) (r0_2.idx (ix1_2 j)) rfl rfl rfl, at_ 3 (by decide) (r0_3.idx (ix1_3 j)) rfl rfl rfl]
  rfl

/-- Every row is in the block of one point. -/
theorem covered_ChipSumUp (i : S512x1024.Idx) : ∃ t : Fin cfg0.N, (cfg0.win 1).flush t = true ∧ i ∈ ((cfg0.win 1).blk t).view.set := by
  have hi : (i 0).val < 512 := (i 0).isLt
  have hj : (i 1).val < 1024 := (i 1).isLt
  have hN : cfg0.N = 512 / 256 := by decide
  obtain ⟨t, ht⟩ : ∃ t : Fin cfg0.N, t.val = (i 0).val / 256 := ⟨⟨(i 0).val / 256, by omega⟩, rfl⟩
  obtain ⟨-, e0, e1⟩ := index_ChipSumUp t
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1024 ≤ (i 1).val ∧ (i 1).val < win0_1.index t (1 : Fin 2) * 1024 + 1024; omega

/-- `w_up` and `w_down`: the call's result is the reference's sum. -/
theorem algebraic_ChipSumUp : Cert.algebraic_ChipSumUpIdeal_ChipSumUpReferenceIdeal := fun m g m' g' _ hin =>
  ⟨fun c => four (F := Ideal) (h := 512) (c := 1024) (m ((c.tc : Thread nD τ).loc main_arg0)),
    (θ_run defs _ _).mono (fun r h c => ⟨(h c).1.trans ((dats m 0 c).arrAt_eq_of_cover 1 _ (fun t _ => flushed_ChipSumUp m c t) covered_ChipSumUp), (h c).2⟩)
      (run_blocks (F := Ideal) m g),
    (θ_run Cert.ChipSumUpReferenceIdeal.defs _ _).mono (fun r h c => ⟨(h c).1.trans (sum_eq_four _ _ _ _ _ (hin c)), (h c).2⟩)
      (Cert.ChipSumUpReferenceIdeal.Value.run (F := Ideal) m' g')⟩

end ChipSumUpCase

theorem frame_ChipSumUp_ideal : Cert.quiescent_ChipSumUpIdeal := fun m g _ => Cert.ChipSumUpIdeal.Gen.frame (F := Ideal) m g

theorem frame_ChipSumUp : Cert.quiescent_ChipSumUp := fun m g _ => Cert.ChipSumUp.Gen.frame m g

theorem frame_ChipSumUp_reference_ideal : Cert.quiescent_ChipSumUpReferenceIdeal := fun m g _ =>
  (θ_run Cert.ChipSumUpReferenceIdeal.defs _ _).mono (fun r h => ⟨fun c => (h c).2, sem_eq_zero_of_no_sems (by decide) r.2⟩)
    (Cert.ChipSumUpReferenceIdeal.Value.run (F := Ideal) m g)

theorem frame_ChipSumUp_reference : Cert.quiescent_ChipSumUpReference := fun m g _ =>
  (θ_run Cert.ChipSumUpReferenceIdeal.defs _ _).mono (fun r h => ⟨fun c => (h c).2, sem_eq_zero_of_no_sems (by decide) r.2⟩)
    (Cert.ChipSumUpReferenceIdeal.Value.run (F := Bits) m g)

end Cert.SumTalk

end
-- ==== Proof.TileSum.lean ====
/-
Sums taken tile by tile: a running sum that starts anew at every `P`-th point, and a sum over rows taken in tiles of
rows, is the sum over all the rows.
-/
module

public import Mathlib.Algebra.BigOperators.Fin
public import Mathlib.Algebra.BigOperators.Intervals

@[expose] public section

namespace Cert.TileSum

open Finset

/-- A running sum that starts anew at the points divisible by `P` holds, after a point, the addends since then. -/
theorem running {ι β : Type*} [AddCommMonoid β] {N : Nat} (P : Nat) (S : (n : Nat) → n < N → ι → β) (M : Nat → ι → β)
    (start : ∀ (n : Nat) (h : n < N), n % P = 0 → ∀ i, S n h i = M n i)
    (step : ∀ (n : Nat) (h : n + 1 < N), (n + 1) % P ≠ 0 → ∀ i, S (n + 1) h i = S n (Nat.lt_of_succ_lt h) i + M (n + 1) i) :
    ∀ (n : Nat) (h : n < N) (i : ι), S n h i = ∑ s ∈ range (n % P + 1), M (n - n % P + s) i
  | 0, h, i => by rw [start 0 h (Nat.zero_mod P), Nat.zero_mod, sum_range_one]
  | n + 1, h, i => by
    by_cases hz : (n + 1) % P = 0
    · rw [start _ h hz, hz, sum_range_one]; rfl
    · have hd : (n + 1) / P = n / P := Nat.succ_div_of_not_dvd fun hd => hz (Nat.mod_eq_zero_of_dvd hd)
      have e1 := Nat.div_add_mod (n + 1) P
      have e2 := Nat.div_add_mod n P
      rw [hd] at e1
      have e : (n + 1) % P = n % P + 1 := by omega
      rw [step n h hz, running P S M start step n _ i, e, sum_range_succ _ (n % P + 1), show n + 1 - (n % P + 1) = n - n % P by omega,
        show n - n % P + (n % P + 1) = n + 1 by omega]

/-- A sum over tiles of the sums over each tile is the sum over all. -/
theorem tiles {β : Type*} [AddCommMonoid β] (w : Nat) (f : Nat → β) : ∀ n, ∑ s ∈ range n, ∑ k ∈ range w, f (s * w + k) = ∑ k ∈ range (n * w), f k
  | 0 => by rw [Nat.zero_mul, sum_range_zero, sum_range_zero]
  | n + 1 => by rw [sum_range_succ, tiles w f n, Nat.succ_mul, sum_range_add]

/-- The same over a tile's own rows: `T` rows in `n` tiles of `w`. -/
theorem rows {β : Type*} [AddCommMonoid β] {n w T : Nat} (hT : n * w = T) (f : Nat → β) :
    ∑ s ∈ range n, ∑ k : Fin w, f (s * w + k.val) = ∑ k : Fin T, f k.val := by
  subst hT
  rw [Fin.sum_univ_eq_sum_range f, ← tiles w f n]
  exact sum_congr rfl fun s _ => Fin.sum_univ_eq_sum_range (fun k => f (s * w + k)) w

end Cert.TileSum

end
-- ==== Proof.GradValue.lean ====
/-
A device's own part of the gradient of each large weight: the product, over the device's tokens, of what went into the
weight with what flows back out of it. The kernel adds tile after tile of the tokens into an accumulator; over the
extended reals that is the sum over all the tokens, which is the reference's product.
-/
module

public import proofs.«01_k».proof.Defs
public import proofs.«01_k».proof.Proof.TileSum
public import proofs.«01_k».proof.Proof.Gen.GradIn.Frame
public import proofs.«01_k».proof.Proof.Gen.GradInIdeal.Value
public import proofs.«01_k».proof.Proof.Gen.GradInReference
public import proofs.«01_k».proof.Proof.Gen.GradInReferenceIdeal.Read
public import proofs.«01_k».proof.Proof.Gen.GradUp.Frame
public import proofs.«01_k».proof.Proof.Gen.GradUpIdeal.Value
public import proofs.«01_k».proof.Proof.Gen.GradUpReference
public import proofs.«01_k».proof.Proof.Gen.GradUpReferenceIdeal.Read
public import proofs.«01_k».proof.Proof.Gen.GradOut.Frame
public import proofs.«01_k».proof.Proof.Gen.GradOutIdeal.Value
public import proofs.«01_k».proof.Proof.Gen.GradOutReference
public import proofs.«01_k».proof.Proof.Gen.GradOutReferenceIdeal.Read
public import proofs.«01_k».proof.Proof.Gen.GradDown.Frame
public import proofs.«01_k».proof.Proof.Gen.GradDownIdeal.Value
public import proofs.«01_k».proof.Proof.Gen.GradDownReference
public import proofs.«01_k».proof.Proof.Gen.GradDownReferenceIdeal.Read
public import Idealize.ShloMosaic.Lib.Pointwise
public import Idealize.ShloMosaic.Lib.Pointwise.Reduce
public import Idealize.ShloMosaic.Lib.IdealHost

@[expose] public section

noncomputable section

namespace Cert.GradTalk

open Idealize.ShloMosaic Idealize.ShloMosaic.TcCoe Idealize.ShloMosaic.StableHlo
open Idealize.SL Idealize.SL.Sem

/-- The entry of a matrix at two numbers; nothing outside the matrix. -/
def cell {r c : Nat} (a : (⟨2, ![r, c]⟩ : Shape).Idx → EReal) (p q : Nat) : EReal :=
  if h : p < r ∧ q < c then a (ix2 ⟨p, h.1⟩ ⟨q, h.2⟩) else 0

theorem cell_eq {r c : Nat} (a : (⟨2, ![r, c]⟩ : Shape).Idx → EReal) (j : (⟨2, ![r, c]⟩ : Shape).Idx) (p q : Nat) (hp : (j 0).val = p) (hq : (j 1).val = q) :
    a j = cell a p q := by
  subst hp hq
  unfold cell
  rw [dif_pos ⟨(j 0).isLt, (j 1).isLt⟩]
  exact congrArg a (eq_ix2 j)

/-- The product of the first matrix, turned over, with the second: the sum over the rows they share. -/
def cross {t r c : Nat} (a : (⟨2, ![t, r]⟩ : Shape).Idx → EReal) (b : (⟨2, ![t, c]⟩ : Shape).Idx → EReal) (p q : Nat) : EReal :=
  ∑ k : Fin t, cell a k.val p * cell b k.val q

/-- What a tile of rows adds to it: the rows from `o` on. -/
def part {t r c : Nat} (w : Nat) (a : (⟨2, ![t, r]⟩ : Shape).Idx → EReal) (b : (⟨2, ![t, c]⟩ : Shape).Idx → EReal) (p q o : Nat) : EReal :=
  ∑ k : Fin w, cell a (o + k.val) p * cell b (o + k.val) q

/-- Sums whose factors are these entries. -/
theorem part_of {t r c w : Nat} (acc : EReal) (a : (⟨2, ![t, r]⟩ : Shape).Idx → EReal) (b : (⟨2, ![t, c]⟩ : Shape).Idx → EReal) {p q o : Nat} {x y : Fin w → EReal}
    (hx : ∀ k, x k = cell a (o + k.val) p) (hy : ∀ k, y k = cell b (o + k.val) q) : acc + ∑ k, x k * y k = acc + part w a b p q o := by
  rw [funext hx, funext hy, part]

theorem cross_of {t r c : Nat} (a : (⟨2, ![t, r]⟩ : Shape).Idx → EReal) (b : (⟨2, ![t, c]⟩ : Shape).Idx → EReal) {p q : Nat} {x y : Fin t → EReal}
    (hx : ∀ k, x k = cell a k.val p) (hy : ∀ k, y k = cell b k.val q) : ∑ k, x k * y k = cross a b p q := by
  rw [funext hx, funext hy, cross]

/-- The tiles' parts add up to the product. -/
theorem parts {t r c n w : Nat} (h : n * w = t) (a : (⟨2, ![t, r]⟩ : Shape).Idx → EReal) (b : (⟨2, ![t, c]⟩ : Shape).Idx → EReal) (p q : Nat) :
    ∑ s ∈ Finset.range n, part w a b p q (s * w) = cross a b p q :=
  TileSum.rows h fun k => cell a k p * cell b k q

section GradInCase
open Cert.GradInIdeal Cert.GradInIdeal.Gen Cert.GradInIdeal.Value
variable (m : (ℓ : Loc nD τ sig) → Buf (Elt Ideal) ℓ)

/-- The blocks a point reads and the block it adds to: the eighth of the tokens it has come to, and the chip's block. -/
theorem index_GradIn : ∀ t : Fin cfg0.N, (win0_0.index t (0 : Fin 2) = t.val % 8 ∧ win0_0.index t (1 : Fin 2) = 0)
    ∧ (win0_1.index t (0 : Fin 2) = t.val % 8 ∧ win0_1.index t (1 : Fin 2) = t.val / 8)
    ∧ win0_2.index t (0 : Fin 3) = t.val / 8 ∧ win0_2.index t (1 : Fin 3) = 0 ∧ win0_2.index t (2 : Fin 3) = 0 :=
  by show ∀ t : Fin grid0.N, _; decide +kernel

theorem zero2_GradIn : (![0, 0] : Fin 2 → Nat) = fun _ => 0 := funext fun a => by fin_cases a <;> rfl
theorem zero3_GradIn : (![0, 0, 0] : Fin 3 → Nat) = fun _ => 0 := funext fun a => by fin_cases a <;> rfl

/-- The accumulator after the first tile of a block. -/
theorem first_GradIn (c : Dev nD) (t : Fin cfg0.N) (h0 : t.val % 8 = 0) (h1 : ¬t.val % 8 = 7) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1024x1536) zero2_GradIn, View.readCov_unit_zero (S := S1024x1536) _ zero2_GradIn]
  simp only [View.readAt_eq_ld, (hs0_0 t).read_unread, (hs0_1 t).read_unread, View.ld_unit_zero (S := S512x1024) zero2_GradIn, View.ld_unit_zero (S := S512x1536) zero2_GradIn]

/-- The accumulator after a later tile, before the last. -/
theorem later_GradIn (c : Dev nD) (t : Fin cfg0.N) (h0 : ¬t.val % 8 = 0) (h1 : ¬t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero zero2_GradIn]
  simp only [View.readAt_eq_ld, (hs0_0 t).read_unread, (hs0_1 t).read_unread, (Memref.isWhole_whole cc0_scratch0).read_unread,
    View.ld_unit_zero (S := S512x1024) zero2_GradIn, View.ld_unit_zero (S := S512x1536) zero2_GradIn, View.ld_unit_zero (S := S1024x1536) zero2_GradIn]

/-- The accumulator after the last tile. -/
theorem last_GradIn (c : Dev nD) (t : Fin cfg0.N) (h0 : ¬t.val % 8 = 0) (h1 : t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  unfold sout0_C_0
  rw [View.read_writes_eq_canon _ _ _ (fun _ => scover0_C_0 ..)]
  unfold kernelRun0_C
  dsimp only
  sl_unfold_words
  rw [View.canon_unit_zero zero2_GradIn]
  simp only [View.readAt_eq_ld, (hs0_0 t).read_unread, (hs0_1 t).read_unread, (Memref.isWhole_whole cc0_scratch0).read_unread,
    View.ld_unit_zero (S := S512x1024) zero2_GradIn, View.ld_unit_zero (S := S512x1536) zero2_GradIn, View.ld_unit_zero (S := S1024x1536) zero2_GradIn]

/-- What is stored after the last tile: the accumulator, rounded. -/
theorem stored_GradIn (c : Dev nD) (t : Fin cfg0.N) (h0 : ¬t.val % 8 = 0) (h1 : t.val % 8 = 7) :
    (outsAt0 m c t.val t.isLt).1 = k0_pay3 (outsAt0 m c t.val t.isLt).2 := by
  rw [last_GradIn m c t h0 h1, outsAt0_C m c t h0 h1]
  dsimp only
  unfold out0_C_2
  rw [View.read_writes_eq_canon _ _ _ (fun _ => cover0_C_2 ..)]
  unfold kernelRun0_C
  dsimp only
  sl_unfold_words
  rw [View.canon_unit_zero zero3_GradIn, View.readCov_unit_zero (S := S1024x1536) _ zero2_GradIn]
  simp only [View.readAt_eq_ld, (hs0_0 t).read_unread, (hs0_1 t).read_unread, (Memref.isWhole_whole cc0_scratch0).read_unread,
    View.ld_unit_zero (S := S512x1024) zero2_GradIn, View.ld_unit_zero (S := S512x1536) zero2_GradIn, View.ld_unit_zero (S := S1024x1536) zero2_GradIn]

/-- The entries of what is added to the accumulator, of what it starts from, and of what is stored. -/
theorem plus_GradIn (acc : Vec Ideal S1024x1536 .f32) (a : Vec Ideal S512x1024 .bf16) (b : Vec Ideal S512x1536 .bf16) (i : S1024x1536.Idx) :
    k0_pay2 acc a b i = acc i + ∑ k : Fin 512, a (ix2 k (i 0)) * b (ix2 k (i 1)) := by
  pointwise [k0_pay2]

theorem zero_GradIn (i : S1024x1536.Idx) : (k0_pay1 (F := Ideal) i : EReal) = 0 := by
  pointwise [k0_pay1]

theorem store_GradIn (acc : Vec Ideal S1024x1536 .f32) (j : S1x1024x1536.Idx) : (k0_pay3 acc j : EReal) = acc (ix2 (j 1) (j 2)) := by
  pointwise [k0_pay3]

/-- What a point adds to an entry of its block: its tile's part of the product. -/
def adds_GradIn (c : Dev nD) (n : Nat) (i : S1024x1536.Idx) : EReal :=
  part 512 (V m c main_arg0 : S4096x1024.Idx → EReal) (V m c main_arg1 : S4096x6144.Idx → EReal) (0 * 1024 + (i 0).val) (n / 8 * 1536 + (i 1).val) (n % 8 * 512)

theorem adds_eq_GradIn (c : Dev nD) (t : Fin cfg0.N) (acc : Vec Ideal S1024x1536 .f32) (i : S1024x1536.Idx) :
    k0_pay2 acc (iblk m c 0 t) (iblk m c 1 t) i = acc i + adds_GradIn m c t.val i := by
  obtain ⟨⟨a0, a1⟩, ⟨b0, b1⟩, -⟩ := index_GradIn t
  refine (plus_GradIn _ _ _ i).trans (part_of (acc i) _ _ (fun k => ?_) fun k => ?_)
  · refine cell_eq (V m c main_arg0 : S4096x1024.Idx → EReal) (((cfg0.win 0).blk t).view.emb (ix2 k (i 0))) _ _ ?_ ?_
    · show win0_0.index t (0 : Fin 2) * 512 + 1 * k.val = _; omega
    · show win0_0.index t (1 : Fin 2) * 1024 + 1 * (i 0).val = _; omega
  · refine cell_eq (V m c main_arg1 : S4096x6144.Idx → EReal) (((cfg0.win 1).blk t).view.emb (ix2 k (i 1))) _ _ ?_ ?_
    · show win0_1.index t (0 : Fin 2) * 512 + 1 * k.val = _; omega
    · show win0_1.index t (1 : Fin 2) * 1536 + 1 * (i 1).val = _; omega

/-- After its last tile the accumulator holds its block of the product. -/
theorem total_GradIn (c : Dev nD) (n : Nat) (h : n < cfg0.N) (h7 : n % 8 = 7) (i : S1024x1536.Idx) :
    (outsAt0 m c n h).2 i = cross (V m c main_arg0 : S4096x1024.Idx → EReal) (V m c main_arg1 : S4096x6144.Idx → EReal) (0 * 1024 + (i 0).val) (n / 8 * 1536 + (i 1).val) := by
  rw [TileSum.running 8 (fun n h i => (outsAt0 m c n h).2 i) (adds_GradIn m c)
    (fun n h h0 i => (congrFun (first_GradIn m c ⟨n, h⟩ h0 (by show ¬n % 8 = 7; omega)) i).trans ((adds_eq_GradIn m c ⟨n, h⟩ _ i).trans (by rw [zero_GradIn]; exact zero_add _)))
    (fun n h h0 i => by
      refine (congrFun (?_ : (outsAt0 m c (n + 1) h).2 = _) i).trans (adds_eq_GradIn m c ⟨n + 1, h⟩ _ i)
      by_cases h7 : (n + 1) % 8 = 7
      · exact last_GradIn m c ⟨n + 1, h⟩ h0 h7
      · exact later_GradIn m c ⟨n + 1, h⟩ h0 h7) n h i, h7]
  refine (Finset.sum_congr rfl fun s hs => ?_).trans (parts (show 8 * 512 = 4096 from rfl) _ _ _ _)
  have hs := Finset.mem_range.1 hs
  unfold adds_GradIn
  rw [show (n - 7 + s) % 8 = s by omega, show (n - 7 + s) / 8 = n / 8 by omega]

/-- The call's result, entry by entry. -/
def value_GradIn (a : S4096x1024.Idx → EReal) (b : S4096x6144.Idx → EReal) (i : S4x1024x1536.Idx) : EReal :=
  cross a b ((i 1).val) ((i 0).val * 1536 + (i 2).val)

theorem result_GradIn (c : Dev nD) : (G2 m c : S4x1024x1536.Idx → EReal) = value_GradIn (V m c main_arg0) (V m c main_arg1) := by
  funext i
  have h0 : (i 0).val < 4 := (i 0).isLt
  have h1 : (i 1).val < 1024 := (i 1).isLt
  have h2 : (i 2).val < 1536 := (i 2).isLt
  have hN : cfg0.N = 8 * 4 := N_0
  have hp : pt2Of i = 8 * (i 0).val + 7 := by
    show 8 * (1 * ((i 0).val / 1 - 0) + 1 * ((i 1).val / 1024 - 0) + 1 * ((i 2).val / 1536 - 0)) + 7 = _; omega
  have hl : pt2Of i < cfg0.N := by omega
  have h7 : pt2Of i % 8 = 7 := by omega
  show G2 m c i = _
  unfold G2
  rw [dif_pos hl, ← outsAt0_sweep m c (pt2Of i) hl]
  rw [show (outsAt0 m c (pt2Of i) hl).1 = k0_pay3 (outsAt0 m c (pt2Of i) hl).2 from stored_GradIn m c ⟨pt2Of i, hl⟩ (fun h => absurd (h7.symm.trans h) (by decide)) h7]
  refine (store_GradIn _ (loc2Of i)).trans ((total_GradIn m c (pt2Of i) hl h7 _).trans ?_)
  unfold value_GradIn
  refine congrArg₂ _ ?_ ?_
  · show 0 * 1024 + (i 1).val % 1024 = _; omega
  · show pt2Of i / 8 * 1536 + (i 2).val % 1536 = _; omega

open Cert.GradInReferenceIdeal.Read in
/-- The reference's result is the same sum. -/
theorem reference_GradIn (a : S4096x1024.Idx → EReal) (b : S4096x6144.Idx → EReal) : val_main_v4 (F := Ideal) a b = value_GradIn a b := by
  funext i
  have h0 : (i 0).val < 4 := (i 0).isLt
  have h1 : (i 1).val < 1024 := (i 1).isLt
  have h2 : (i 2).val < 1536 := (i 2).isLt
  rw [val_main_v4_apply]
  show val_main_v3 (F := Ideal) a b i = _
  rw [val_main_v3_apply, val_main_v2_apply, val_main_v1_apply]
  refine cross_of a b (fun k => ?_) fun k => ?_
  · refine (val_main_v0_apply _ _).trans (cell_eq a _ _ _ rfl ?_)
    show (((i 1).val * 4 + (i 0).val) * 1536 + (i 2).val) / 6144 = _; omega
  · refine cell_eq b _ _ _ rfl ?_
    show (((i 1).val * 4 + (i 0).val) * 1536 + (i 2).val) % 6144 = _; omega

/-- The call's result is the reference's product. -/
theorem algebraic_GradIn : Cert.algebraic_GradInIdeal_GradInReferenceIdeal := fun m g m' g' _ hin =>
  ⟨fun c => value_GradIn (m ((c.tc : Thread nD τ).loc main_arg0)) (m ((c.tc : Thread nD τ).loc main_arg1)),
    (θ_run defs _ _).mono (fun r h c => ⟨(h c).1.trans (result_GradIn m c), (h c).2⟩) (run (F := Ideal) m g),
    (θ_run Cert.GradInReferenceIdeal.defs _ _).mono
      (fun r h c => ⟨(h c).1.trans ((Cert.GradInReferenceIdeal.Read.val_main_v4_eq _ _).trans ((reference_GradIn _ _).trans (congrArg₂ value_GradIn (hin c).1 (hin c).2))), (h c).2⟩)
      (Cert.GradInReferenceIdeal.Value.run (F := Ideal) m' g')⟩

end GradInCase

theorem frame_GradIn_ideal : Cert.quiescent_GradInIdeal := fun m g _ => Cert.GradInIdeal.Gen.frame (F := Ideal) m g

theorem frame_GradIn : Cert.quiescent_GradIn := fun m g _ => Cert.GradIn.Gen.frame m g

theorem frame_GradIn_reference_ideal : Cert.quiescent_GradInReferenceIdeal := fun m g _ =>
  (θ_run Cert.GradInReferenceIdeal.defs _ _).mono (fun r h => ⟨fun c => (h c).2, sem_eq_zero_of_no_sems (by decide) r.2⟩)
    (Cert.GradInReferenceIdeal.Value.run (F := Ideal) m g)

theorem frame_GradIn_reference : Cert.quiescent_GradInReference := fun m g _ =>
  (θ_run Cert.GradInReferenceIdeal.defs _ _).mono (fun r h => ⟨fun c => (h c).2, sem_eq_zero_of_no_sems (by decide) r.2⟩)
    (Cert.GradInReferenceIdeal.Value.run (F := Bits) m g)

section GradUpCase
open Cert.GradUpIdeal Cert.GradUpIdeal.Gen Cert.GradUpIdeal.Value
variable (m : (ℓ : Loc nD τ sig) → Buf (Elt Ideal) ℓ)

/-- The blocks a point reads and the block it adds to: the eighth of the tokens it has come to, and the chip's block. -/
theorem index_GradUp : ∀ t : Fin cfg0.N, (win0_0.index t (0 : Fin 2) = t.val % 8 ∧ win0_0.index t (1 : Fin 2) = 0)
    ∧ (win0_1.index t (0 : Fin 2) = t.val % 8 ∧ win0_1.index t (1 : Fin 2) = t.val / 8)
    ∧ win0_2.index t (0 : Fin 3) = t.val / 8 ∧ win0_2.index t (1 : Fin 3) = 0 ∧ win0_2.index t (2 : Fin 3) = 0 :=
  by show ∀ t : Fin grid0.N, _; decide +kernel

theorem zero2_GradUp : (![0, 0] : Fin 2 → Nat) = fun _ => 0 := funext fun a => by fin_cases a <;> rfl
theorem zero3_GradUp : (![0, 0, 0] : Fin 3 → Nat) = fun _ => 0 := funext fun a => by fin_cases a <;> rfl

/-- The accumulator after the first tile of a block. -/
theorem first_GradUp (c : Dev nD) (t : Fin cfg0.N) (h0 : t.val % 8 = 0) (h1 : ¬t.val % 8 = 7) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1024x1024) zero2_GradUp, View.readCov_unit_zero (S := S1024x1024) _ zero2_GradUp]
  simp only [View.readAt_eq_ld, (hs0_0 t).read_unread, (hs0_1 t).read_unread, View.ld_unit_zero (S := S512x1024) zero2_GradUp]

/-- The accumulator after a later tile, before the last. -/
theorem later_GradUp (c : Dev nD) (t : Fin cfg0.N) (h0 : ¬t.val % 8 = 0) (h1 : ¬t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero zero2_GradUp]
  simp only [View.readAt_eq_ld, (hs0_0 t).read_unread, (hs0_1 t).read_unread, (Memref.isWhole_whole cc0_scratch0).read_unread,
    View.ld_unit_zero (S := S512x1024) zero2_GradUp, View.ld_unit_zero (S := S1024x1024) zero2_GradUp]

/-- The accumulator after the last tile. -/
theorem last_GradUp (c : Dev nD) (t : Fin cfg0.N) (h0 : ¬t.val % 8 = 0) (h1 : t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  unfold sout0_C_0
  rw [View.read_writes_eq_canon _ _ _ (fun _ => scover0_C_0 ..)]
  unfold kernelRun0_C
  dsimp only
  sl_unfold_words
  rw [View.canon_unit_zero zero2_GradUp]
  simp only [View.readAt_eq_ld, (hs0_0 t).read_unread, (hs0_1 t).read_unread, (Memref.isWhole_whole cc0_scratch0).read_unread,
    View.ld_unit_zero (S := S512x1024) zero2_GradUp, View.ld_unit_zero (S := S1024x1024) zero2_GradUp]

/-- What is stored after the last tile: the accumulator, rounded. -/
theorem stored_GradUp (c : Dev nD) (t : Fin cfg0.N) (h0 : ¬t.val % 8 = 0) (h1 : t.val % 8 = 7) :
    (outsAt0 m c t.val t.isLt).1 = k0_pay3 (outsAt0 m c t.val t.isLt).2 := by
  rw [last_GradUp m c t h0 h1, outsAt0_C m c t h0 h1]
  dsimp only
  unfold out0_C_2
  rw [View.read_writes_eq_canon _ _ _ (fun _ => cover0_C_2 ..)]
  unfold kernelRun0_C
  dsimp only
  sl_unfold_words
  rw [View.canon_unit_zero zero3_GradUp, View.readCov_unit_zero (S := S1024x1024) _ zero2_GradUp]
  simp only [View.readAt_eq_ld, (hs0_0 t).read_unread, (hs0_1 t).read_unread, (Memref.isWhole_whole cc0_scratch0).read_unread,
    View.ld_unit_zero (S := S512x1024) zero2_GradUp, View.ld_unit_zero (S := S1024x1024) zero2_GradUp]

/-- The entries of what is added to the accumulator, of what it starts from, and of what is stored. -/
theorem plus_GradUp (acc : Vec Ideal S1024x1024 .f32) (a : Vec Ideal S512x1024 .bf16) (b : Vec Ideal S512x1024 .bf16) (i : S1024x1024.Idx) :
    k0_pay2 acc a b i = acc i + ∑ k : Fin 512, a (ix2 k (i 0)) * b (ix2 k (i 1)) := by
  pointwise [k0_pay2]

theorem zero_GradUp (i : S1024x1024.Idx) : (k0_pay1 (F := Ideal) i : EReal) = 0 := by
  pointwise [k0_pay1]

theorem store_GradUp (acc : Vec Ideal S1024x1024 .f32) (j : S1x1024x1024.Idx) : (k0_pay3 acc j : EReal) = acc (ix2 (j 1) (j 2)) := by
  pointwise [k0_pay3]

/-- What a point adds to an entry of its block: its tile's part of the product. -/
def adds_GradUp (c : Dev nD) (n : Nat) (i : S1024x1024.Idx) : EReal :=
  part 512 (V m c main_arg0 : S4096x1024.Idx → EReal) (V m c main_arg1 : S4096x4096.Idx → EReal) (0 * 1024 + (i 0).val) (n / 8 * 1024 + (i 1).val) (n % 8 * 512)

theorem adds_eq_GradUp (c : Dev nD) (t : Fin cfg0.N) (acc : Vec Ideal S1024x1024 .f32) (i : S1024x1024.Idx) :
    k0_pay2 acc (iblk m c 0 t) (iblk m c 1 t) i = acc i + adds_GradUp m c t.val i := by
  obtain ⟨⟨a0, a1⟩, ⟨b0, b1⟩, -⟩ := index_GradUp t
  refine (plus_GradUp _ _ _ i).trans (part_of (acc i) _ _ (fun k => ?_) fun k => ?_)
  · refine cell_eq (V m c main_arg0 : S4096x1024.Idx → EReal) (((cfg0.win 0).blk t).view.emb (ix2 k (i 0))) _ _ ?_ ?_
    · show win0_0.index t (0 : Fin 2) * 512 + 1 * k.val = _; omega
    · show win0_0.index t (1 : Fin 2) * 1024 + 1 * (i 0).val = _; omega
  · refine cell_eq (V m c main_arg1 : S4096x4096.Idx → EReal) (((cfg0.win 1).blk t).view.emb (ix2 k (i 1))) _ _ ?_ ?_
    · show win0_1.index t (0 : Fin 2) * 512 + 1 * k.val = _; omega
    · show win0_1.index t (1 : Fin 2) * 1024 + 1 * (i 1).val = _; omega

/-- After its last tile the accumulator holds its block of the product. -/
theorem total_GradUp (c : Dev nD) (n : Nat) (h : n < cfg0.N) (h7 : n % 8 = 7) (i : S1024x1024.Idx) :
    (outsAt0 m c n h).2 i = cross (V m c main_arg0 : S4096x1024.Idx → EReal) (V m c main_arg1 : S4096x4096.Idx → EReal) (0 * 1024 + (i 0).val) (n / 8 * 1024 + (i 1).val) := by
  rw [TileSum.running 8 (fun n h i => (outsAt0 m c n h).2 i) (adds_GradUp m c)
    (fun n h h0 i => (congrFun (first_GradUp m c ⟨n, h⟩ h0 (by show ¬n % 8 = 7; omega)) i).trans ((adds_eq_GradUp m c ⟨n, h⟩ _ i).trans (by rw [zero_GradUp]; exact zero_add _)))
    (fun n h h0 i => by
      refine (congrFun (?_ : (outsAt0 m c (n + 1) h).2 = _) i).trans (adds_eq_GradUp m c ⟨n + 1, h⟩ _ i)
      by_cases h7 : (n + 1) % 8 = 7
      · exact last_GradUp m c ⟨n + 1, h⟩ h0 h7
      · exact later_GradUp m c ⟨n + 1, h⟩ h0 h7) n h i, h7]
  refine (Finset.sum_congr rfl fun s hs => ?_).trans (parts (show 8 * 512 = 4096 from rfl) _ _ _ _)
  have hs := Finset.mem_range.1 hs
  unfold adds_GradUp
  rw [show (n - 7 + s) % 8 = s by omega, show (n - 7 + s) / 8 = n / 8 by omega]

/-- The call's result, entry by entry. -/
def value_GradUp (a : S4096x1024.Idx → EReal) (b : S4096x4096.Idx → EReal) (i : S4x1024x1024.Idx) : EReal :=
  cross a b ((i 1).val) ((i 0).val * 1024 + (i 2).val)

theorem result_GradUp (c : Dev nD) : (G2 m c : S4x1024x1024.Idx → EReal) = value_GradUp (V m c main_arg0) (V m c main_arg1) := by
  funext i
  have h0 : (i 0).val < 4 := (i 0).isLt
  have h1 : (i 1).val < 1024 := (i 1).isLt
  have h2 : (i 2).val < 1024 := (i 2).isLt
  have hN : cfg0.N = 8 * 4 := N_0
  have hp : pt2Of i = 8 * (i 0).val + 7 := by
    show 8 * (1 * ((i 0).val / 1 - 0) + 1 * ((i 1).val / 1024 - 0) + 1 * ((i 2).val / 1024 - 0)) + 7 = _; omega
  have hl : pt2Of i < cfg0.N := by omega
  have h7 : pt2Of i % 8 = 7 := by omega
  show G2 m c i = _
  unfold G2
  rw [dif_pos hl, ← outsAt0_sweep m c (pt2Of i) hl]
  rw [show (outsAt0 m c (pt2Of i) hl).1 = k0_pay3 (outsAt0 m c (pt2Of i) hl).2 from stored_GradUp m c ⟨pt2Of i, hl⟩ (fun h => absurd (h7.symm.trans h) (by decide)) h7]
  refine (store_GradUp _ (loc2Of i)).trans ((total_GradUp m c (pt2Of i) hl h7 _).trans ?_)
  unfold value_GradUp
  refine congrArg₂ _ ?_ ?_
  · show 0 * 1024 + (i 1).val % 1024 = _; omega
  · show pt2Of i / 8 * 1024 + (i 2).val % 1024 = _; omega

open Cert.GradUpReferenceIdeal.Read in
/-- The reference's result is the same sum. -/
theorem reference_GradUp (a : S4096x1024.Idx → EReal) (b : S4096x4096.Idx → EReal) : val_main_v4 (F := Ideal) a b = value_GradUp a b := by
  funext i
  have h0 : (i 0).val < 4 := (i 0).isLt
  have h1 : (i 1).val < 1024 := (i 1).isLt
  have h2 : (i 2).val < 1024 := (i 2).isLt
  rw [val_main_v4_apply]
  show val_main_v3 (F := Ideal) a b i = _
  rw [val_main_v3_apply, val_main_v2_apply, val_main_v1_apply]
  refine cross_of a b (fun k => ?_) fun k => ?_
  · refine (val_main_v0_apply _ _).trans (cell_eq a _ _ _ rfl ?_)
    show (((i 1).val * 4 + (i 0).val) * 1024 + (i 2).val) / 4096 = _; omega
  · refine cell_eq b _ _ _ rfl ?_
    show (((i 1).val * 4 + (i 0).val) * 1024 + (i 2).val) % 4096 = _; omega

/-- The call's result is the reference's product. -/
theorem algebraic_GradUp : Cert.algebraic_GradUpIdeal_GradUpReferenceIdeal := fun m g m' g' _ hin =>
  ⟨fun c => value_GradUp (m ((c.tc : Thread nD τ).loc main_arg0)) (m ((c.tc : Thread nD τ).loc main_arg1)),
    (θ_run defs _ _).mono (fun r h c => ⟨(h c).1.trans (result_GradUp m c), (h c).2⟩) (run (F := Ideal) m g),
    (θ_run Cert.GradUpReferenceIdeal.defs _ _).mono
      (fun r h c => ⟨(h c).1.trans ((Cert.GradUpReferenceIdeal.Read.val_main_v4_eq _ _).trans ((reference_GradUp _ _).trans (congrArg₂ value_GradUp (hin c).1 (hin c).2))), (h c).2⟩)
      (Cert.GradUpReferenceIdeal.Value.run (F := Ideal) m' g')⟩

end GradUpCase

theorem frame_GradUp_ideal : Cert.quiescent_GradUpIdeal := fun m g _ => Cert.GradUpIdeal.Gen.frame (F := Ideal) m g

theorem frame_GradUp : Cert.quiescent_GradUp := fun m g _ => Cert.GradUp.Gen.frame m g

theorem frame_GradUp_reference_ideal : Cert.quiescent_GradUpReferenceIdeal := fun m g _ =>
  (θ_run Cert.GradUpReferenceIdeal.defs _ _).mono (fun r h => ⟨fun c => (h c).2, sem_eq_zero_of_no_sems (by decide) r.2⟩)
    (Cert.GradUpReferenceIdeal.Value.run (F := Ideal) m g)

theorem frame_GradUp_reference : Cert.quiescent_GradUpReference := fun m g _ =>
  (θ_run Cert.GradUpReferenceIdeal.defs _ _).mono (fun r h => ⟨fun c => (h c).2, sem_eq_zero_of_no_sems (by decide) r.2⟩)
    (Cert.GradUpReferenceIdeal.Value.run (F := Bits) m g)

section GradOutCase
open Cert.GradOutIdeal Cert.GradOutIdeal.Gen Cert.GradOutIdeal.Value
variable (m : (ℓ : Loc nD τ sig) → Buf (Elt Ideal) ℓ)

/-- The blocks a point reads and the block it adds to: the eighth of the tokens it has come to, and the chip's block. -/
theorem index_GradOut : ∀ t : Fin cfg0.N, (win0_0.index t (0 : Fin 2) = t.val % 8 ∧ win0_0.index t (1 : Fin 2) = 0)
    ∧ (win0_1.index t (0 : Fin 2) = t.val % 8 ∧ win0_1.index t (1 : Fin 2) = 0)
    ∧ win0_2.index t (0 : Fin 3) = t.val / 8 ∧ win0_2.index t (1 : Fin 3) = 0 ∧ win0_2.index t (2 : Fin 3) = 0 :=
  by show ∀ t : Fin grid0.N, _; decide +kernel

theorem zero2_GradOut : (![0, 0] : Fin 2 → Nat) = fun _ => 0 := funext fun a => by fin_cases a <;> rfl
theorem zero3_GradOut : (![0, 0, 0] : Fin 3 → Nat) = fun _ => 0 := funext fun a => by fin_cases a <;> rfl

/-- The accumulator after the first tile of a block. -/
theorem first_GradOut (c : Dev nD) (t : Fin cfg0.N) (h0 : t.val % 8 = 0) (h1 : ¬t.val % 8 = 7) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1024x1024) zero2_GradOut, View.readCov_unit_zero (S := S1024x1024) _ zero2_GradOut]
  simp only [View.readAt_eq_ld, (hs0_0 t).read_unread, (hs0_1 t).read_unread, View.ld_unit_zero (S := S512x1024) zero2_GradOut]

/-- The accumulator after a later tile, before the last. -/
theorem later_GradOut (c : Dev nD) (t : Fin cfg0.N) (h0 : ¬t.val % 8 = 0) (h1 : ¬t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero zero2_GradOut]
  simp only [View.readAt_eq_ld, (hs0_0 t).read_unread, (hs0_1 t).read_unread, (Memref.isWhole_whole cc0_scratch0).read_unread,
    View.ld_unit_zero (S := S512x1024) zero2_GradOut, View.ld_unit_zero (S := S1024x1024) zero2_GradOut]

/-- The accumulator after the last tile. -/
theorem last_GradOut (c : Dev nD) (t : Fin cfg0.N) (h0 : ¬t.val % 8 = 0) (h1 : t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  unfold sout0_C_0
  rw [View.read_writes_eq_canon _ _ _ (fun _ => scover0_C_0 ..)]
  unfold kernelRun0_C
  dsimp only
  sl_unfold_words
  rw [View.canon_unit_zero zero2_GradOut]
  simp only [View.readAt_eq_ld, (hs0_0 t).read_unread, (hs0_1 t).read_unread, (Memref.isWhole_whole cc0_scratch0).read_unread,
    View.ld_unit_zero (S := S512x1024) zero2_GradOut, View.ld_unit_zero (S := S1024x1024) zero2_GradOut]

/-- What is stored after the last tile: the accumulator, rounded. -/
theorem stored_GradOut (c : Dev nD) (t : Fin cfg0.N) (h0 : ¬t.val % 8 = 0) (h1 : t.val % 8 = 7) :
    (outsAt0 m c t.val t.isLt).1 = k0_pay3 (outsAt0 m c t.val t.isLt).2 := by
  rw [last_GradOut m c t h0 h1, outsAt0_C m c t h0 h1]
  dsimp only
  unfold out0_C_2
  rw [View.read_writes_eq_canon _ _ _ (fun _ => cover0_C_2 ..)]
  unfold kernelRun0_C
  dsimp only
  sl_unfold_words
  rw [View.canon_unit_zero zero3_GradOut, View.readCov_unit_zero (S := S1024x1024) _ zero2_GradOut]
  simp only [View.readAt_eq_ld, (hs0_0 t).read_unread, (hs0_1 t).read_unread, (Memref.isWhole_whole cc0_scratch0).read_unread,
    View.ld_unit_zero (S := S512x1024) zero2_GradOut, View.ld_unit_zero (S := S1024x1024) zero2_GradOut]

/-- The entries of what is added to the accumulator, of what it starts from, and of what is stored. -/
theorem plus_GradOut (acc : Vec Ideal S1024x1024 .f32) (a : Vec Ideal S512x1024 .bf16) (b : Vec Ideal S512x1024 .bf16) (i : S1024x1024.Idx) :
    k0_pay2 acc a b i = acc i + ∑ k : Fin 512, a (ix2 k (i 0)) * b (ix2 k (i 1)) := by
  pointwise [k0_pay2]

theorem zero_GradOut (i : S1024x1024.Idx) : (k0_pay1 (F := Ideal) i : EReal) = 0 := by
  pointwise [k0_pay1]

theorem store_GradOut (acc : Vec Ideal S1024x1024 .f32) (j : S1x1024x1024.Idx) : (k0_pay3 acc j : EReal) = acc (ix2 (j 1) (j 2)) := by
  pointwise [k0_pay3]

/-- What a point adds to an entry of its block: its tile's part of the product. -/
def adds_GradOut (c : Dev nD) (n : Nat) (i : S1024x1024.Idx) : EReal :=
  part 512 (V m c main_arg0 : S4096x1024.Idx → EReal) (V m c main_arg1 : S4096x1024.Idx → EReal) (0 * 1024 + (i 0).val) (0 * 1024 + (i 1).val) (n % 8 * 512)

theorem adds_eq_GradOut (c : Dev nD) (t : Fin cfg0.N) (acc : Vec Ideal S1024x1024 .f32) (i : S1024x1024.Idx) :
    k0_pay2 acc (iblk m c 0 t) (iblk m c 1 t) i = acc i + adds_GradOut m c t.val i := by
  obtain ⟨⟨a0, a1⟩, ⟨b0, b1⟩, -⟩ := index_GradOut t
  refine (plus_GradOut _ _ _ i).trans (part_of (acc i) _ _ (fun k => ?_) fun k => ?_)
  · refine cell_eq (V m c main_arg0 : S4096x1024.Idx → EReal) (((cfg0.win 0).blk t).view.emb (ix2 k (i 0))) _ _ ?_ ?_
    · show win0_0.index t (0 : Fin 2) * 512 + 1 * k.val = _; omega
    · show win0_0.index t (1 : Fin 2) * 1024 + 1 * (i 0).val = _; omega
  · refine cell_eq (V m c main_arg1 : S4096x1024.Idx → EReal) (((cfg0.win 1).blk t).view.emb (ix2 k (i 1))) _ _ ?_ ?_
    · show win0_1.index t (0 : Fin 2) * 512 + 1 * k.val = _; omega
    · show win0_1.index t (1 : Fin 2) * 1024 + 1 * (i 1).val = _; omega

/-- After its last tile the accumulator holds its block of the product. -/
theorem total_GradOut (c : Dev nD) (n : Nat) (h : n < cfg0.N) (h7 : n % 8 = 7) (i : S1024x1024.Idx) :
    (outsAt0 m c n h).2 i = cross (V m c main_arg0 : S4096x1024.Idx → EReal) (V m c main_arg1 : S4096x1024.Idx → EReal) (0 * 1024 + (i 0).val) (0 * 1024 + (i 1).val) := by
  rw [TileSum.running 8 (fun n h i => (outsAt0 m c n h).2 i) (adds_GradOut m c)
    (fun n h h0 i => (congrFun (first_GradOut m c ⟨n, h⟩ h0 (by show ¬n % 8 = 7; omega)) i).trans ((adds_eq_GradOut m c ⟨n, h⟩ _ i).trans (by rw [zero_GradOut]; exact zero_add _)))
    (fun n h h0 i => by
      refine (congrFun (?_ : (outsAt0 m c (n + 1) h).2 = _) i).trans (adds_eq_GradOut m c ⟨n + 1, h⟩ _ i)
      by_cases h7 : (n + 1) % 8 = 7
      · exact last_GradOut m c ⟨n + 1, h⟩ h0 h7
      · exact later_GradOut m c ⟨n + 1, h⟩ h0 h7) n h i, h7]
  refine (Finset.sum_congr rfl fun s hs => ?_).trans (parts (show 8 * 512 = 4096 from rfl) _ _ _ _)
  have hs := Finset.mem_range.1 hs
  unfold adds_GradOut
  rw [show (n - 7 + s) % 8 = s by omega]

/-- The call's result, entry by entry. -/
def value_GradOut (a : S4096x1024.Idx → EReal) (b : S4096x1024.Idx → EReal) (i : S1x1024x1024.Idx) : EReal :=
  cross a b ((i 1).val) ((i 2).val)

theorem result_GradOut (c : Dev nD) : (G2 m c : S1x1024x1024.Idx → EReal) = value_GradOut (V m c main_arg0) (V m c main_arg1) := by
  funext i
  have h0 : (i 0).val < 1 := (i 0).isLt
  have h1 : (i 1).val < 1024 := (i 1).isLt
  have h2 : (i 2).val < 1024 := (i 2).isLt
  have hN : cfg0.N = 8 * 1 := N_0
  have hp : pt2Of i = 8 * (i 0).val + 7 := by
    show 8 * (1 * ((i 0).val / 1 - 0) + 1 * ((i 1).val / 1024 - 0) + 1 * ((i 2).val / 1024 - 0)) + 7 = _; omega
  have hl : pt2Of i < cfg0.N := by omega
  have h7 : pt2Of i % 8 = 7 := by omega
  show G2 m c i = _
  unfold G2
  rw [dif_pos hl, ← outsAt0_sweep m c (pt2Of i) hl]
  rw [show (outsAt0 m c (pt2Of i) hl).1 = k0_pay3 (outsAt0 m c (pt2Of i) hl).2 from stored_GradOut m c ⟨pt2Of i, hl⟩ (fun h => absurd (h7.symm.trans h) (by decide)) h7]
  refine (store_GradOut _ (loc2Of i)).trans ((total_GradOut m c (pt2Of i) hl h7 _).trans ?_)
  unfold value_GradOut
  refine congrArg₂ _ ?_ ?_
  · show 0 * 1024 + (i 1).val % 1024 = _; omega
  · show 0 * 1024 + (i 2).val % 1024 = _; omega

open Cert.GradOutReferenceIdeal.Read in
/-- The reference's result is the same sum. -/
theorem reference_GradOut (a : S4096x1024.Idx → EReal) (b : S4096x1024.Idx → EReal) : val_main_v3 (F := Ideal) a b = value_GradOut a b := by
  funext i
  have h0 : (i 0).val < 1 := (i 0).isLt
  have h1 : (i 1).val < 1024 := (i 1).isLt
  have h2 : (i 2).val < 1024 := (i 2).isLt
  rw [val_main_v3_apply]
  show val_main_v2 (F := Ideal) a b i = _
  rw [val_main_v2_apply, val_main_v1_apply]
  refine cross_of a b (fun k => ?_) fun k => ?_
  · refine (val_main_v0_apply _ _).trans (cell_eq a _ _ _ rfl ?_)
    show (i 1).val = _; omega
  · refine cell_eq b _ _ _ rfl ?_
    show (i 2).val = _; omega

/-- The call's result is the reference's product. -/
theorem algebraic_GradOut : Cert.algebraic_GradOutIdeal_GradOutReferenceIdeal := fun m g m' g' _ hin =>
  ⟨fun c => value_GradOut (m ((c.tc : Thread nD τ).loc main_arg0)) (m ((c.tc : Thread nD τ).loc main_arg1)),
    (θ_run defs _ _).mono (fun r h c => ⟨(h c).1.trans (result_GradOut m c), (h c).2⟩) (run (F := Ideal) m g),
    (θ_run Cert.GradOutReferenceIdeal.defs _ _).mono
      (fun r h c => ⟨(h c).1.trans ((Cert.GradOutReferenceIdeal.Read.val_main_v3_eq _ _).trans ((reference_GradOut _ _).trans (congrArg₂ value_GradOut (hin c).1 (hin c).2))), (h c).2⟩)
      (Cert.GradOutReferenceIdeal.Value.run (F := Ideal) m' g')⟩

end GradOutCase

theorem frame_GradOut_ideal : Cert.quiescent_GradOutIdeal := fun m g _ => Cert.GradOutIdeal.Gen.frame (F := Ideal) m g

theorem frame_GradOut : Cert.quiescent_GradOut := fun m g _ => Cert.GradOut.Gen.frame m g

theorem frame_GradOut_reference_ideal : Cert.quiescent_GradOutReferenceIdeal := fun m g _ =>
  (θ_run Cert.GradOutReferenceIdeal.defs _ _).mono (fun r h => ⟨fun c => (h c).2, sem_eq_zero_of_no_sems (by decide) r.2⟩)
    (Cert.GradOutReferenceIdeal.Value.run (F := Ideal) m g)

theorem frame_GradOut_reference : Cert.quiescent_GradOutReference := fun m g _ =>
  (θ_run Cert.GradOutReferenceIdeal.defs _ _).mono (fun r h => ⟨fun c => (h c).2, sem_eq_zero_of_no_sems (by decide) r.2⟩)
    (Cert.GradOutReferenceIdeal.Value.run (F := Bits) m g)

section GradDownCase
open Cert.GradDownIdeal Cert.GradDownIdeal.Gen Cert.GradDownIdeal.Value
variable (m : (ℓ : Loc nD τ sig) → Buf (Elt Ideal) ℓ)

/-- The blocks a point reads and the block it adds to: the eighth of the tokens it has come to, and the chip's block. -/
theorem index_GradDown : ∀ t : Fin cfg0.N, (win0_0.index t (0 : Fin 2) = t.val % 8 ∧ win0_0.index t (1 : Fin 2) = t.val / 8)
    ∧ (win0_1.index t (0 : Fin 2) = t.val % 8 ∧ win0_1.index t (1 : Fin 2) = 0)
    ∧ win0_2.index t (0 : Fin 3) = t.val / 8 ∧ win0_2.index t (1 : Fin 3) = 0 ∧ win0_2.index t (2 : Fin 3) = 0 :=
  by show ∀ t : Fin grid0.N, _; decide +kernel

theorem zero2_GradDown : (![0, 0] : Fin 2 → Nat) = fun _ => 0 := funext fun a => by fin_cases a <;> rfl
theorem zero3_GradDown : (![0, 0, 0] : Fin 3 → Nat) = fun _ => 0 := funext fun a => by fin_cases a <;> rfl

/-- The accumulator after the first tile of a block. -/
theorem first_GradDown (c : Dev nD) (t : Fin cfg0.N) (h0 : t.val % 8 = 0) (h1 : ¬t.val % 8 = 7) :
    (outsAt0 m c t.val t.isLt).2 = k0_pay2 k0_pay1 (iblk m c 0 t) (iblk m c 1 t) := by
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S1024x1024) zero2_GradDown, View.readCov_unit_zero (S := S1024x1024) _ zero2_GradDown]
  simp only [View.readAt_eq_ld, (hs0_0 t).read_unread, (hs0_1 t).read_unread, View.ld_unit_zero (S := S512x1024) zero2_GradDown]

/-- The accumulator after a later tile, before the last. -/
theorem later_GradDown (c : Dev nD) (t : Fin cfg0.N) (h0 : ¬t.val % 8 = 0) (h1 : ¬t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B
  dsimp only
  sl_unfold_words
  rw [View.canon_unit_zero zero2_GradDown]
  simp only [View.readAt_eq_ld, (hs0_0 t).read_unread, (hs0_1 t).read_unread, (Memref.isWhole_whole cc0_scratch0).read_unread,
    View.ld_unit_zero (S := S512x1024) zero2_GradDown, View.ld_unit_zero (S := S1024x1024) zero2_GradDown]

/-- The accumulator after the last tile. -/
theorem last_GradDown (c : Dev nD) (t : Fin cfg0.N) (h0 : ¬t.val % 8 = 0) (h1 : t.val % 8 = 7) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t h0 h1]
  dsimp only
  unfold sout0_C_0
  rw [View.read_writes_eq_canon _ _ _ (fun _ => scover0_C_0 ..)]
  unfold kernelRun0_C
  dsimp only
  sl_unfold_words
  rw [View.canon_unit_zero zero2_GradDown]
  simp only [View.readAt_eq_ld, (hs0_0 t).read_unread, (hs0_1 t).read_unread, (Memref.isWhole_whole cc0_scratch0).read_unread,
    View.ld_unit_zero (S := S512x1024) zero2_GradDown, View.ld_unit_zero (S := S1024x1024) zero2_GradDown]

/-- What is stored after the last tile: the accumulator, rounded. -/
theorem stored_GradDown (c : Dev nD) (t : Fin cfg0.N) (h0 : ¬t.val % 8 = 0) (h1 : t.val % 8 = 7) :
    (outsAt0 m c t.val t.isLt).1 = k0_pay3 (outsAt0 m c t.val t.isLt).2 := by
  rw [last_GradDown m c t h0 h1, outsAt0_C m c t h0 h1]
  dsimp only
  unfold out0_C_2
  rw [View.read_writes_eq_canon _ _ _ (fun _ => cover0_C_2 ..)]
  unfold kernelRun0_C
  dsimp only
  sl_unfold_words
  rw [View.canon_unit_zero zero3_GradDown, View.readCov_unit_zero (S := S1024x1024) _ zero2_GradDown]
  simp only [View.readAt_eq_ld, (hs0_0 t).read_unread, (hs0_1 t).read_unread, (Memref.isWhole_whole cc0_scratch0).read_unread,
    View.ld_unit_zero (S := S512x1024) zero2_GradDown, View.ld_unit_zero (S := S1024x1024) zero2_GradDown]

/-- The entries of what is added to the accumulator, of what it starts from, and of what is stored. -/
theorem plus_GradDown (acc : Vec Ideal S1024x1024 .f32) (a : Vec Ideal S512x1024 .bf16) (b : Vec Ideal S512x1024 .bf16) (i : S1024x1024.Idx) :
    k0_pay2 acc a b i = acc i + ∑ k : Fin 512, a (ix2 k (i 0)) * b (ix2 k (i 1)) := by
  pointwise [k0_pay2]

theorem zero_GradDown (i : S1024x1024.Idx) : (k0_pay1 (F := Ideal) i : EReal) = 0 := by
  pointwise [k0_pay1]

theorem store_GradDown (acc : Vec Ideal S1024x1024 .f32) (j : S1x1024x1024.Idx) : (k0_pay3 acc j : EReal) = acc (ix2 (j 1) (j 2)) := by
  pointwise [k0_pay3]

/-- What a point adds to an entry of its block: its tile's part of the product. -/
def adds_GradDown (c : Dev nD) (n : Nat) (i : S1024x1024.Idx) : EReal :=
  part 512 (V m c main_arg0 : S4096x4096.Idx → EReal) (V m c main_arg1 : S4096x1024.Idx → EReal) (n / 8 * 1024 + (i 0).val) (0 * 1024 + (i 1).val) (n % 8 * 512)

theorem adds_eq_GradDown (c : Dev nD) (t : Fin cfg0.N) (acc : Vec Ideal S1024x1024 .f32) (i : S1024x1024.Idx) :
    k0_pay2 acc (iblk m c 0 t) (iblk m c 1 t) i = acc i + adds_GradDown m c t.val i := by
  obtain ⟨⟨a0, a1⟩, ⟨b0, b1⟩, -⟩ := index_GradDown t
  refine (plus_GradDown _ _ _ i).trans (part_of (acc i) _ _ (fun k => ?_) fun k => ?_)
  · refine cell_eq (V m c main_arg0 : S4096x4096.Idx → EReal) (((cfg0.win 0).blk t).view.emb (ix2 k (i 0))) _ _ ?_ ?_
    · show win0_0.index t (0 : Fin 2) * 512 + 1 * k.val = _; omega
    · show win0_0.index t (1 : Fin 2) * 1024 + 1 * (i 0).val = _; omega
  · refine cell_eq (V m c main_arg1 : S4096x1024.Idx → EReal) (((cfg0.win 1).blk t).view.emb (ix2 k (i 1))) _ _ ?_ ?_
    · show win0_1.index t (0 : Fin 2) * 512 + 1 * k.val = _; omega
    · show win0_1.index t (1 : Fin 2) * 1024 + 1 * (i 1).val = _; omega

/-- After its last tile the accumulator holds its block of the product. -/
theorem total_GradDown (c : Dev nD) (n : Nat) (h : n < cfg0.N) (h7 : n % 8 = 7) (i : S1024x1024.Idx) :
    (outsAt0 m c n h).2 i = cross (V m c main_arg0 : S4096x4096.Idx → EReal) (V m c main_arg1 : S4096x1024.Idx → EReal) (n / 8 * 1024 + (i 0).val) (0 * 1024 + (i 1).val) := by
  rw [TileSum.running 8 (fun n h i => (outsAt0 m c n h).2 i) (adds_GradDown m c)
    (fun n h h0 i => (congrFun (first_GradDown m c ⟨n, h⟩ h0 (by show ¬n % 8 = 7; omega)) i).trans ((adds_eq_GradDown m c ⟨n, h⟩ _ i).trans (by rw [zero_GradDown]; exact zero_add _)))
    (fun n h h0 i => by
      refine (congrFun (?_ : (outsAt0 m c (n + 1) h).2 = _) i).trans (adds_eq_GradDown m c ⟨n + 1, h⟩ _ i)
      by_cases h7 : (n + 1) % 8 = 7
      · exact last_GradDown m c ⟨n + 1, h⟩ h0 h7
      · exact later_GradDown m c ⟨n + 1, h⟩ h0 h7) n h i, h7]
  refine (Finset.sum_congr rfl fun s hs => ?_).trans (parts (show 8 * 512 = 4096 from rfl) _ _ _ _)
  have hs := Finset.mem_range.1 hs
  unfold adds_GradDown
  rw [show (n - 7 + s) % 8 = s by omega, show (n - 7 + s) / 8 = n / 8 by omega]

/-- The call's result, entry by entry. -/
def value_GradDown (a : S4096x4096.Idx → EReal) (b : S4096x1024.Idx → EReal) (i : S4x1024x1024.Idx) : EReal :=
  cross a b ((i 0).val * 1024 + (i 1).val) ((i 2).val)

theorem result_GradDown (c : Dev nD) : (G2 m c : S4x1024x1024.Idx → EReal) = value_GradDown (V m c main_arg0) (V m c main_arg1) := by
  funext i
  have h0 : (i 0).val < 4 := (i 0).isLt
  have h1 : (i 1).val < 1024 := (i 1).isLt
  have h2 : (i 2).val < 1024 := (i 2).isLt
  have hN : cfg0.N = 8 * 4 := N_0
  have hp : pt2Of i = 8 * (i 0).val + 7 := by
    show 8 * (1 * ((i 0).val / 1 - 0) + 1 * ((i 1).val / 1024 - 0) + 1 * ((i 2).val / 1024 - 0)) + 7 = _; omega
  have hl : pt2Of i < cfg0.N := by omega
  have h7 : pt2Of i % 8 = 7 := by omega
  show G2 m c i = _
  unfold G2
  rw [dif_pos hl, ← outsAt0_sweep m c (pt2Of i) hl]
  rw [show (outsAt0 m c (pt2Of i) hl).1 = k0_pay3 (outsAt0 m c (pt2Of i) hl).2 from stored_GradDown m c ⟨pt2Of i, hl⟩ (fun h => absurd (h7.symm.trans h) (by decide)) h7]
  refine (store_GradDown _ (loc2Of i)).trans ((total_GradDown m c (pt2Of i) hl h7 _).trans ?_)
  unfold value_GradDown
  refine congrArg₂ _ ?_ ?_
  · show pt2Of i / 8 * 1024 + (i 1).val % 1024 = _; omega
  · show 0 * 1024 + (i 2).val % 1024 = _; omega

open Cert.GradDownReferenceIdeal.Read in
/-- The reference's result is the same sum. -/
theorem reference_GradDown (a : S4096x4096.Idx → EReal) (b : S4096x1024.Idx → EReal) : val_main_v3 (F := Ideal) a b = value_GradDown a b := by
  funext i
  have h0 : (i 0).val < 4 := (i 0).isLt
  have h1 : (i 1).val < 1024 := (i 1).isLt
  have h2 : (i 2).val < 1024 := (i 2).isLt
  rw [val_main_v3_apply]
  show val_main_v2 (F := Ideal) a b i = _
  rw [val_main_v2_apply, val_main_v1_apply]
  refine cross_of a b (fun k => ?_) fun k => ?_
  · refine (val_main_v0_apply _ _).trans (cell_eq a _ _ _ rfl ?_)
    show (((i 0).val * 1024 + (i 1).val) * 1024 + (i 2).val) / 1024 = _; omega
  · refine cell_eq b _ _ _ rfl ?_
    show (((i 0).val * 1024 + (i 1).val) * 1024 + (i 2).val) % 1024 = _; omega

/-- The call's result is the reference's product. -/
theorem algebraic_GradDown : Cert.algebraic_GradDownIdeal_GradDownReferenceIdeal := fun m g m' g' _ hin =>
  ⟨fun c => value_GradDown (m ((c.tc : Thread nD τ).loc main_arg0)) (m ((c.tc : Thread nD τ).loc main_arg1)),
    (θ_run defs _ _).mono (fun r h c => ⟨(h c).1.trans (result_GradDown m c), (h c).2⟩) (run (F := Ideal) m g),
    (θ_run Cert.GradDownReferenceIdeal.defs _ _).mono
      (fun r h c => ⟨(h c).1.trans ((Cert.GradDownReferenceIdeal.Read.val_main_v3_eq _ _).trans ((reference_GradDown _ _).trans (congrArg₂ value_GradDown (hin c).1 (hin c).2))), (h c).2⟩)
      (Cert.GradDownReferenceIdeal.Value.run (F := Ideal) m' g')⟩

end GradDownCase

theorem frame_GradDown_ideal : Cert.quiescent_GradDownIdeal := fun m g _ => Cert.GradDownIdeal.Gen.frame (F := Ideal) m g

theorem frame_GradDown : Cert.quiescent_GradDown := fun m g _ => Cert.GradDown.Gen.frame m g

theorem frame_GradDown_reference_ideal : Cert.quiescent_GradDownReferenceIdeal := fun m g _ =>
  (θ_run Cert.GradDownReferenceIdeal.defs _ _).mono (fun r h => ⟨fun c => (h c).2, sem_eq_zero_of_no_sems (by decide) r.2⟩)
    (Cert.GradDownReferenceIdeal.Value.run (F := Ideal) m g)

theorem frame_GradDown_reference : Cert.quiescent_GradDownReference := fun m g _ =>
  (θ_run Cert.GradDownReferenceIdeal.defs _ _).mono (fun r h => ⟨fun c => (h c).2, sem_eq_zero_of_no_sems (by decide) r.2⟩)
    (Cert.GradDownReferenceIdeal.Value.run (F := Bits) m g)

end Cert.GradTalk

end
-- ==== Proof.RmsStep.lean ====
/-
The way back through the normalization of a row, over the extended reals: the kernel's form and the form that comes of
differentiating the normalization are the same number.
-/
module

public import Idealize.ShloMosaic.Lib.IdealHost

@[expose] public section

noncomputable section

namespace Cert.BackTalk

open Idealize.ShloMosaic

/-- The row's length, a half with its sign, and the small number added to the mean square. -/
def width : EReal := Ideal.ofBits .f32 0x44800000#32
def half : EReal := Ideal.ofBits .f32 0xBF000000#32
def small : EReal := Ideal.ofBits .f32 0x358637BD#32

theorem width_eq : width = ((1024 : ℝ) : EReal) := by
  simp [width, Ideal.ofBits, Ideal.ieee, -EReal.coe_mul]; norm_num

theorem half_eq : half = ((-(1 / 2) : ℝ) : EReal) := by
  simp [half, Ideal.ofBits, Ideal.ieee, -EReal.coe_mul]; norm_num

theorem small_pos : 0 < small := by
  simp [small, Ideal.ofBits, Ideal.ieee, -EReal.coe_mul]

/-- The inverse root of a positive number is a real number, infinity's being zero; over the number again it is its cube. -/
theorem root {u : EReal} (hu : 0 < u) : ∃ r : ℝ, 0 ≤ r ∧ Ideal.rsqrt u = (r : EReal) ∧ Ideal.div (Ideal.rsqrt u) u = ((r ^ 3 : ℝ) : EReal) := by
  induction u using EReal.rec with
  | bot => exact absurd hu (not_lt_bot)
  | top => exact ⟨0, le_refl 0, by simp, by simp [Ideal.div]⟩
  | coe v =>
    have hv : 0 < v := EReal.coe_pos.1 hu
    have hs : Ideal.rsqrt (v : EReal) = (((Real.sqrt v)⁻¹ : ℝ) : EReal) := by
      rw [Ideal.rsqrt_coe, if_neg hv.le.not_gt, if_neg hv.ne']
    refine ⟨(Real.sqrt v)⁻¹, by positivity, hs, ?_⟩
    rw [hs, Ideal.div_coe hv.ne', ← EReal.coe_mul]
    congr 1
    have h2 : Real.sqrt v ^ 2 = v := Real.sq_sqrt hv.le
    have h0 : Real.sqrt v ≠ 0 := (Real.sqrt_pos.2 hv).ne'
    rw [show 1 / v = ((Real.sqrt v)⁻¹) ^ 2 by rw [inv_pow, h2, one_div]]
    ring

/-- A real factor that is not negative goes into a sum. -/
theorem sum_scale {n : Nat} (f : Fin n → EReal) {r : ℝ} (hr : 0 ≤ r) : ∑ k, f k * (r : EReal) = (∑ k, f k) * (r : EReal) := by
  induction n with
  | zero => simp
  | succ n ih =>
    rw [Fin.sum_univ_castSucc, Fin.sum_univ_castSucc, ih, EReal.right_distrib_of_nonneg_of_ne_top (EReal.coe_nonneg.2 hr) (EReal.coe_ne_top r)]

/-- What is added to itself, doubled. -/
theorem twice (a : EReal) {c d : ℝ} (h : d = 2 * c) : a * (c : EReal) + a * (c : EReal) = a * (d : EReal) := by
  subst h
  have h1 : (0 : EReal) ≤ ((1 : ℝ) : EReal) := EReal.coe_nonneg.2 zero_le_one
  have h2 := EReal.right_distrib_of_nonneg (c := a * (c : EReal)) h1 h1
  rw [← EReal.coe_add, EReal.coe_one, one_mul] at h2
  rw [← h2, one_add_one_eq_two, EReal.coe_mul]
  ac_rfl

/-- A row's mean square, with the small number. -/
def square {n : Nat} (x : Fin n → EReal) : EReal := Ideal.div (∑ k, x k * x k) width + small

theorem square_pos {n : Nat} (x : Fin n → EReal) : 0 < square x := by
  have hs : (0 : EReal) ≤ ∑ k, x k * x k := Finset.sum_nonneg fun k _ => by
    rcases le_total 0 (x k) with h | h
    · exact mul_nonneg h h
    · rw [← neg_mul_neg]; exact mul_nonneg (EReal.neg_nonneg.2 h) (EReal.neg_nonneg.2 h)
  unfold square
  rw [width_eq, Ideal.div_coe (by norm_num)]
  exact lt_of_lt_of_le small_pos (le_add_of_nonneg_left (mul_nonneg hs (EReal.coe_nonneg.2 (by norm_num))))

/-- The row's inverse root mean square. -/
def scale {n : Nat} (x : Fin n → EReal) : EReal := Ideal.rsqrt (square x)

/-- The kernel's form: what flows back, less its part along the normalized row, scaled. -/
def along {n : Nat} (x y : Fin n → EReal) (d : Fin n) : EReal :=
  scale x * (y d - x d * scale x * Ideal.div (∑ k, y k * (x k * scale x)) width)

/-- The form of the derivative: through the factor, and twice through the mean square. -/
def through {n : Nat} (x y : Fin n → EReal) (d : Fin n) : EReal :=
  y d * scale x + x d * Ideal.div ((∑ k, x k * y k) * (half * Ideal.div (scale x) (square x))) width
    + Ideal.div ((∑ k, x k * y k) * (half * Ideal.div (scale x) (square x))) width * x d

/-- The two forms agree at every extended real: the scale is a nonnegative real, whatever the row. -/
theorem along_eq_through {n : Nat} (x y : Fin n → EReal) (d : Fin n) : along x y d = through x y d := by
  obtain ⟨r, hr, e, e3⟩ := root (square_pos x)
  unfold along through
  rw [show scale x = (r : EReal) from e, show Ideal.div (r : EReal) (square x) = ((r ^ 3 : ℝ) : EReal) by rw [← e]; exact e3, width_eq, half_eq,
    Ideal.div_coe (by norm_num), Ideal.div_coe (by norm_num), ← EReal.coe_mul]
  have hs : ∑ k, y k * (x k * (r : EReal)) = (∑ k, x k * y k) * (r : EReal) := by
    rw [← sum_scale _ hr]; exact Finset.sum_congr rfl fun k _ => by rw [← mul_assoc, mul_comm (y k)]
  rw [hs]
  generalize ∑ k, x k * y k = T
  have hl : x d * (r : EReal) * (T * (r : EReal) * ((1 / 1024 : ℝ) : EReal)) = x d * T * ((r ^ 2 * (1 / 1024) : ℝ) : EReal) := by
    rw [show (r ^ 2 * (1 / 1024) : ℝ) = r * r * (1 / 1024) by ring, EReal.coe_mul, EReal.coe_mul]; ac_rfl
  have hd : x d * (T * ((-(1 / 2) * r ^ 3 : ℝ) : EReal) * ((1 / 1024 : ℝ) : EReal)) = x d * T * ((-(1 / 2) * r ^ 3 * (1 / 1024) : ℝ) : EReal) := by
    rw [EReal.coe_mul (-(1 / 2) * r ^ 3)]; ac_rfl
  rw [mul_comm _ (x d), hd, hl, add_assoc, twice _ (show (-(r ^ 3 * (1 / 1024)) : ℝ) = 2 * (-(1 / 2) * r ^ 3 * (1 / 1024)) by ring), sub_eq_add_neg,
    EReal.left_distrib_of_nonneg_of_ne_top (EReal.coe_nonneg.2 hr) (EReal.coe_ne_top r), mul_comm (y d), EReal.coe_neg, mul_neg, mul_neg]
  congr 2
  rw [show (r ^ 3 * (1 / 1024) : ℝ) = r * (r ^ 2 * (1 / 1024)) by ring, EReal.coe_mul r]
  ac_rfl

end Cert.BackTalk

end
-- ==== Proof.BackReference.lean ====
/-
The backward pass of a norm and the projection after it, as the reference computes it: what flows back through the
projection, what that makes of the norm's argument, and what it makes of the norm's gain.
-/
module

public import proofs.«01_k».proof.Proof.TileSum
public import proofs.«01_k».proof.Proof.RmsStep
public import proofs.«01_k».proof.Proof.Gen.BackInReferenceIdeal.Read
public import Idealize.ShloMosaic.Lib.Pointwise
public import Idealize.ShloMosaic.Lib.Pointwise.Reduce
public import Idealize.ShloMosaic.Lib.IdealHost

@[expose] public section

noncomputable section

namespace Cert.BackTalk

open Idealize.ShloMosaic Idealize.ShloMosaic.TcCoe Idealize.ShloMosaic.StableHlo
open Idealize.SL Idealize.SL.Sem
open Cert.BackInReferenceIdeal Cert.BackInReferenceIdeal.Read

/-- What flows back through the projection: token `n`'s share of feature `d`, a sum over the weight's columns. The weight
    lies in four parts, one of a chip each, of 1536 columns. -/
def flow (dz : S4096x6144.Idx → EReal) (w : S4x1024x1536.Idx → EReal) (n : Fin 4096) (d : Fin 1024) : EReal :=
  ∑ k : Fin 6144, dz (ix2 n k) * w (ix3 ⟨k.val / 1536, by omega⟩ d ⟨k.val % 1536, by omega⟩)

/-- The part of it that comes from one chip's columns. -/
def share (dz : S4096x6144.Idx → EReal) (w : S4x1024x1536.Idx → EReal) (n : Fin 4096) (d : Fin 1024) (s : Fin 4) : EReal :=
  ∑ k : Fin 1536, dz (ix2 n ⟨s.val * 1536 + k.val, by omega⟩) * w (ix3 s d k)

/-- The four parts are the whole. -/
theorem flow_eq (dz : S4096x6144.Idx → EReal) (w : S4x1024x1536.Idx → EReal) (n : Fin 4096) (d : Fin 1024) :
    flow dz w n d = share dz w n d 0 + share dz w n d 1 + share dz w n d 2 + share dz w n d 3 := by
  let f : Nat → EReal := fun k => if h : k < 6144 then dz (ix2 n ⟨k, h⟩) * w (ix3 ⟨k / 1536, by omega⟩ d ⟨k % 1536, by omega⟩) else 0
  have hf : flow dz w n d = ∑ k : Fin 6144, f k.val := Finset.sum_congr rfl fun k _ => by
    show _ = (if h : k.val < 6144 then _ else _)
    rw [dif_pos k.isLt]
  have hs (s : Fin 4) : ∑ k : Fin 1536, f (s.val * 1536 + k.val) = share dz w n d s := by
    refine Finset.sum_congr rfl fun k _ => ?_
    have hk : s.val * 1536 + k.val < 6144 := by omega
    show (if h : s.val * 1536 + k.val < 6144 then _ else _) = _
    rw [dif_pos hk]
    have e1 : (⟨(s.val * 1536 + k.val) / 1536, by omega⟩ : Fin 4) = s := Fin.ext (by show (s.val * 1536 + k.val) / 1536 = s.val; omega)
    have e2 : (⟨(s.val * 1536 + k.val) % 1536, by omega⟩ : Fin 1536) = k := Fin.ext (by show (s.val * 1536 + k.val) % 1536 = k.val; omega)
    rw [e1, e2]
  rw [hf, ← TileSum.rows (show 4 * 1536 = 6144 from rfl) f, Finset.sum_range_succ, Finset.sum_range_succ, Finset.sum_range_succ, Finset.sum_range_one]
  exact congrArg₂ _ (congrArg₂ _ (congrArg₂ _ (hs 0) (hs 1)) (hs 2)) (hs 3)

/-- The row of a token. -/
def row (x : S4096x1024.Idx → EReal) (n : Fin 4096) : Fin 1024 → EReal := fun k => x (ix2 n k)

/-- What flows back out of the norm's argument, on top of what reaches it around the norm. -/
def back (dz : S4096x6144.Idx → EReal) (x h : S4096x1024.Idx → EReal) (w : S4x1024x1536.Idx → EReal) (g : S1x1024.Idx → EReal) : S4096x1024.Idx → EReal :=
  fun i => h (ix2 (i 0) (i 1)) + along (row x (i 0)) (fun k => flow dz w (i 0) k * g (ix2 0 k)) (i 1)

/-- What token `n` adds to the gain's gradient. -/
def gainOf (dz : S4096x6144.Idx → EReal) (x : S4096x1024.Idx → EReal) (w : S4x1024x1536.Idx → EReal) (n : Fin 4096) (d : Fin 1024) : EReal :=
  flow dz w n d * (x (ix2 n d) * scale (row x n))

/-- The gain's gradient. -/
def gain (dz : S4096x6144.Idx → EReal) (x : S4096x1024.Idx → EReal) (w : S4x1024x1536.Idx → EReal) : S1x1024.Idx → EReal :=
  fun i => ∑ n : Fin 4096, gainOf dz x w n (i 1)

/-- The reference's product with the weight turned over is that sum. -/
theorem flow_reference (x0 : S4096x6144.Idx → EReal) (x3 : S4x1024x1536.Idx → EReal) (n : Fin 4096) (d : Fin 1024) :
    val_main_v22 (F := Ideal) x0 x3 (ix2 n d) = flow x0 x3 n d := by
  pointwise [val_main_v22, val_main_v21, val_main_v2, val_main_v1, val_main_v0]
  rfl

theorem back_reference_at (x0 : S4096x6144.Idx → EReal) (x1 x2 : S4096x1024.Idx → EReal) (x3 : S4x1024x1536.Idx → EReal) (x4 : S1x1024.Idx → EReal) (n : Fin 4096) (d : Fin 1024) :
    val_main_v43 (F := Ideal) x0 x1 x2 x3 x4 (ix2 n d) = x2 (ix2 n d) + along (row x1 n) (fun k => flow x0 x3 n k * x4 (ix2 0 k)) d := by
  rw [funext fun k => congrArg (· * x4 (ix2 0 k)) (flow_reference x0 x3 n k).symm, along_eq_through]
  unfold val_main_v43 val_main_v42 val_main_v41 val_main_v40 val_main_v39 val_main_v38 val_main_v37 val_main_v36 val_main_v35 val_main_v34 val_main_v33 val_main_v32 val_main_v31 val_main_v30 val_main_v29 val_main_v27 val_main_v26 val_main_v17 val_main_v14 val_main_v13 val_main_v12 val_main_v11 val_main_v10 val_main_v9 val_main_v8 val_main_v7 val_main_v6 val_main_v5 val_main_v4 val_main_v3
  generalize val_main_v22 (F := Ideal) x0 x3 = z
  pointwise [val_main_cst_6, val_main_cst_0, val_main_cst_1, val_main_cst_2, val_main_cst, val_main_cst_5, val_main_cst_7]
  simp only [Fin.sum_univ_one]
  unfold through scale square width small half row
  rfl

/-- The reference's first result. -/
theorem back_reference (x0 : S4096x6144.Idx → EReal) (x1 x2 : S4096x1024.Idx → EReal) (x3 : S4x1024x1536.Idx → EReal) (x4 : S1x1024.Idx → EReal) :
    val_main_v43 (F := Ideal) x0 x1 x2 x3 x4 = back x0 x1 x2 x3 x4 :=
  funext fun i => (congrArg _ (eq_ix2 i)).trans (back_reference_at x0 x1 x2 x3 x4 (i 0) (i 1))

theorem gain_reference_at (x0 : S4096x6144.Idx → EReal) (x1 : S4096x1024.Idx → EReal) (x3 : S4x1024x1536.Idx → EReal) (d : Fin 1024) :
    val_main_v44 (F := Ideal) x0 x1 x3 (ix2 0 d) = ∑ n : Fin 4096, gainOf x0 x1 x3 n d := by
  have e : ∑ n : Fin 4096, gainOf x0 x1 x3 n d = ∑ n : Fin 4096, x1 (ix2 n d) * scale (row x1 n) * val_main_v22 (F := Ideal) x0 x3 (ix2 n d) :=
    Finset.sum_congr rfl fun n _ => (mul_comm _ _).trans (congrArg _ (flow_reference x0 x3 n d).symm)
  rw [e]
  unfold val_main_v44 val_main_v28 val_main_v25 val_main_v24 val_main_v23 val_main_v16 val_main_v15 val_main_v11 val_main_v10 val_main_v9 val_main_v8 val_main_v7 val_main_v6 val_main_v5 val_main_v4
  generalize val_main_v22 (F := Ideal) x0 x3 = z
  pointwise [val_main_cst_6, val_main_cst_0, val_main_cst_1, val_main_cst_2, val_main_cst, val_main_cst_5, val_main_cst_7, val_main_cst_3, val_main_cst_4]
  simp only [Fin.sum_univ_one]
  unfold scale square width small row
  rfl

/-- The reference's second result. -/
theorem gain_reference (x0 : S4096x6144.Idx → EReal) (x1 : S4096x1024.Idx → EReal) (x3 : S4x1024x1536.Idx → EReal) :
    val_main_v44 (F := Ideal) x0 x1 x3 = gain x0 x1 x3 :=
  funext fun i => (congrArg _ ((eq_ix2 i).trans (congrArg (ix2 · (i 1)) (Subsingleton.elim (α := Fin 1) _ _)))).trans (gain_reference_at x0 x1 x3 (i 1))

end Cert.BackTalk

end
-- ==== Proof.BackValue.lean ====
/-
The backward pass of a norm and the projection after it: the kernel takes 256 tokens at a time, forms what flows back
through the four parts of the weight, and from it the rows of the first result; of the second result it keeps a running
sum over the blocks of tokens. Over the extended reals both are what the reference computes.
-/
module

public import proofs.«01_k».proof.Defs
public import proofs.«01_k».proof.Proof.BackReference
public import proofs.«01_k».proof.Proof.Gen.BackIn.Frame
public import proofs.«01_k».proof.Proof.Gen.BackInIdeal.Value
public import proofs.«01_k».proof.Proof.Gen.BackInReference

@[expose] public section

noncomputable section

namespace Cert.BackTalk

open Idealize.ShloMosaic Idealize.ShloMosaic.TcCoe Idealize.ShloMosaic.StableHlo
open Idealize.SL Idealize.SL.Sem
open Cert.BackInIdeal Cert.BackInIdeal.Gen Cert.BackInIdeal.Value

/-- The rows the body writes, from the rows it reads and what flows back. -/
theorem rows_at (v23 v24 v42 : Vec Ideal S256x1024 .f32) (v43 : Vec Ideal S1x1024 .f32) (p : Fin 256) (d : Fin 1024) :
    k0_pay4 v23 v24 (k0_pay7 v24) v42 v43 (ix2 p d)
      = v42 (ix2 p d) + along (fun k : Fin 1024 => v24 (ix2 p k)) (fun k => v23 (ix2 p k) * v43 (ix2 0 k)) d := by
  pointwise [k0_pay4, k0_pay2, k0_pay1, k0_pay7]
  unfold along scale square width small
  rfl

/-- What the body adds to the running sum. -/
theorem gain_at (v23 v24 : Vec Ideal S256x1024 .f32) (v35 : Vec Ideal S1x1024 .f32) (d : Fin 1024) :
    k0_pay3 v23 v24 (k0_pay7 v24) v35 (ix2 0 d)
      = v35 (ix2 0 d) + ∑ p : Fin 256, v23 (ix2 p d) * (v24 (ix2 p d) * scale (fun k : Fin 1024 => v24 (ix2 p k))) := by
  pointwise [k0_pay3, k0_pay2, k0_pay1, k0_pay7]
  unfold scale square width small
  rfl

/-- What flows back, from the four slices of the incoming rows and the four parts of the weight. -/
theorem flow_at (d0 d1 d2 d3 : Vec Ideal S256x1536 .bf16) (w0 w1 w2 w3 : Vec Ideal S1x1024x1536 .bf16) (p : Fin 256) (d : Fin 1024) :
    k0_pay6 d0 w0 d1 w1 d2 w2 d3 w3 (ix2 p d) = (∑ k : Fin 1536, d0 (ix2 p k) * w0 (ix3 0 d k)) + (∑ k : Fin 1536, d1 (ix2 p k) * w1 (ix3 0 d k))
      + (∑ k : Fin 1536, d2 (ix2 p k) * w2 (ix3 0 d k)) + ∑ k : Fin 1536, d3 (ix2 p k) * w3 (ix3 0 d k) := by
  pointwise [k0_pay6]

/-- The running sum starts at nothing. -/
theorem start_at (i : S1x1024.Idx) : k0_pay5 (F := Ideal) i = 0 := by
  pointwise [k0_pay5]

/-- The blocks of a point: its rows of the three arrays of tokens and of the first result, and the whole of the rest. -/
theorem index : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0) ∧ (win0_5.index t (0 : Fin 2) = t.val ∧ win0_5.index t (1 : Fin 2) = 0)
    ∧ win0_6.index t (0 : Fin 2) = 0 ∧ win0_6.index t (1 : Fin 2) = 0 :=
  by show ∀ t : Fin grid0.N, _; decide +kernel

theorem points : cfg0.N = 16 := N_0

/-- The token of a row of a point's block. -/
def token (t : Fin cfg0.N) (p : Fin 256) : Fin 4096 := ⟨t.val * 256 + p.val, by have := t.isLt; have := points; omega⟩

variable (m : (ℓ : Loc nD τ sig) → Buf (Elt Ideal) ℓ)

/-- A device's arguments: what flows in, the tokens, what reaches them around the norm, the weight and the gain. -/
abbrev dz (c : Dev nD) : S4096x6144.Idx → EReal := m ((c.tc : Thread nD τ).loc main_arg0)
abbrev xs (c : Dev nD) : S4096x1024.Idx → EReal := m ((c.tc : Thread nD τ).loc main_arg1)
abbrev hs (c : Dev nD) : S4096x1024.Idx → EReal := m ((c.tc : Thread nD τ).loc main_arg2)
abbrev ws (c : Dev nD) : S4x1024x1536.Idx → EReal := m ((c.tc : Thread nD τ).loc main_arg3)
abbrev gs (c : Dev nD) : S1x1024.Idx → EReal := m ((c.tc : Thread nD τ).loc main_arg4)

theorem dz_at (c : Dev nD) (t : Fin cfg0.N) (p : Fin 256) (k : Fin 6144) : iblk m c 0 t (ix2 p k) = dz m c (ix2 (token t p) k) := by
  obtain ⟨⟨e0, e1⟩, -⟩ := index t
  show V m c main_arg0 (((cfg0.win 0).blk t).view.emb (ix2 p k)) = _
  refine congrArg (dz m c) (funext fun a => Fin.ext ?_)
  match a with
  | ⟨0, _⟩ => show win0_0.index t (0 : Fin 2) * 256 + 1 * p.val = t.val * 256 + p.val; omega
  | ⟨1, _⟩ => show win0_0.index t (1 : Fin 2) * 6144 + 1 * k.val = k.val; omega

theorem xs_at (c : Dev nD) (t : Fin cfg0.N) (p : Fin 256) (k : Fin 1024) : iblk m c 1 t (ix2 p k) = xs m c (ix2 (token t p) k) := by
  obtain ⟨-, ⟨e0, e1⟩, -⟩ := index t
  show V m c main_arg1 (((cfg0.win 1).blk t).view.emb (ix2 p k)) = _
  refine congrArg (xs m c) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem hs_at (c : Dev nD) (t : Fin cfg0.N) (p : Fin 256) (k : Fin 1024) : iblk m c 2 t (ix2 p k) = hs m c (ix2 (token t p) k) := by
  obtain ⟨-, -, ⟨e0, e1⟩, -⟩ := index t
  show V m c main_arg2 (((cfg0.win 2).blk t).view.emb (ix2 p k)) = _
  refine congrArg (hs m c) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

theorem ws_at (c : Dev nD) (t : Fin cfg0.N) (s : Fin 4) (d : Fin 1024) (k : Fin 1536) : iblk m c 3 t (ix3 s d k) = ws m c (ix3 s d k) := by
  obtain ⟨-, -, -, ⟨e0, e1, e2⟩, -⟩ := index t
  show V m c main_arg3 (((cfg0.win 3).blk t).view.emb (ix3 s d k)) = _
  refine congrArg (ws m c) (funext fun a => Fin.ext ?_)
  match a with
  | ⟨0, _⟩ => show win0_3.index t (0 : Fin 3) * 4 + 1 * s.val = s.val; omega
  | ⟨1, _⟩ => show win0_3.index t (1 : Fin 3) * 1024 + 1 * d.val = d.val; omega
  | ⟨2, _⟩ => show win0_3.index t (2 : Fin 3) * 1536 + 1 * k.val = k.val; omega

theorem gs_at (c : Dev nD) (t : Fin cfg0.N) (k : Fin 1024) : iblk m c 4 t (ix2 0 k) = gs m c (ix2 0 k) := by
  obtain ⟨-, -, -, -, ⟨e0, e1⟩, -⟩ := index t
  show V m c main_arg4 (((cfg0.win 4).blk t).view.emb (ix2 0 k)) = _
  refine congrArg (gs m c) (funext fun a => Fin.ext ?_)
  match a with
  | ⟨0, _⟩ => show win0_4.index t (0 : Fin 2) * 1 + 1 * 0 = 0; omega
  | ⟨1, _⟩ => show win0_4.index t (1 : Fin 2) * 1024 + 1 * k.val = k.val; omega

/-- What flows back to the rows of a point's block, as the body forms it. -/
def flows (c : Dev nD) (t : Fin cfg0.N) : Vec Ideal S256x1024 .f32 :=
  k0_pay6 (View.ld (iblk m c 0 t) (Rect.unit ![0, 0] S256x1536.size inb_S256x6144_S256x1536_0_0)) (View.ld (iblk m c 3 t) (Rect.unit ![0, 0, 0] S1x1024x1536.size inb_S4x1024x1536_S1x1024x1536_0_0_0))
    (View.ld (iblk m c 0 t) (Rect.unit ![0, 1536] S256x1536.size inb_S256x6144_S256x1536_0_1536)) (View.ld (iblk m c 3 t) (Rect.unit ![1, 0, 0] S1x1024x1536.size inb_S4x1024x1536_S1x1024x1536_1_0_0))
    (View.ld (iblk m c 0 t) (Rect.unit ![0, 3072] S256x1536.size inb_S256x6144_S256x1536_0_3072)) (View.ld (iblk m c 3 t) (Rect.unit ![2, 0, 0] S1x1024x1536.size inb_S4x1024x1536_S1x1024x1536_2_0_0))
    (View.ld (iblk m c 0 t) (Rect.unit ![0, 4608] S256x1536.size inb_S256x6144_S256x1536_0_4608)) (View.ld (iblk m c 3 t) (Rect.unit ![3, 0, 0] S1x1024x1536.size inb_S4x1024x1536_S1x1024x1536_3_0_0))

/-- One of its four sums, over one chip's columns. -/
theorem share_at (c : Dev nD) (t : Fin cfg0.N) (p : Fin 256) (d : Fin 1024) (s : Fin 4) (a : Vec Ideal S256x1536 .bf16) (b : Vec Ideal S1x1024x1536 .bf16)
    (ha : ∀ k : Fin 1536, a (ix2 p k) = iblk m c 0 t (ix2 p (⟨s.val * 1536 + k.val, by omega⟩ : Fin 6144)))
    (hb : ∀ k : Fin 1536, b (ix3 0 d k) = iblk m c 3 t (ix3 s d k)) :
    ∑ k : Fin 1536, a (ix2 p k) * b (ix3 0 d k) = share (dz m c) (ws m c) (token t p) d s :=
  Finset.sum_congr rfl fun k _ => congrArg₂ (fun u v : EReal => u * v) ((ha k).trans (dz_at m c t p _)) ((hb k).trans (ws_at m c t s d k))

/-- A slice of the incoming rows, read at an index. -/
theorem columns_at (c : Dev nD) (t : Fin cfg0.N) (p : Fin 256) (s : Fin 4) (o : Nat) (ho : o = s.val * 1536)
    (h : ∀ a, (![0, o] : Fin 2 → Nat) a + S256x1536.size a ≤ S256x6144.size a) (k : Fin 1536) :
    View.ld (iblk m c 0 t) (Rect.unit ![0, o] S256x1536.size h) (ix2 p k) = iblk m c 0 t (ix2 p (⟨s.val * 1536 + k.val, by omega⟩ : Fin 6144)) := by
  refine congrArg (iblk m c 0 t) (funext fun a => Fin.ext ?_)
  match a with
  | ⟨0, _⟩ => show 0 + 1 * p.val = p.val; omega
  | ⟨1, _⟩ => show o + 1 * k.val = s.val * 1536 + k.val; omega

/-- A part of the weight, read at an index. -/
theorem chip_at (c : Dev nD) (t : Fin cfg0.N) (d : Fin 1024) (s : Fin 4) (o : Nat) (ho : o = s.val)
    (h : ∀ a, (![o, 0, 0] : Fin 3 → Nat) a + S1x1024x1536.size a ≤ S4x1024x1536.size a) (k : Fin 1536) :
    View.ld (iblk m c 3 t) (Rect.unit ![o, 0, 0] S1x1024x1536.size h) (ix3 0 d k) = iblk m c 3 t (ix3 s d k) := by
  refine congrArg (iblk m c 3 t) (funext fun a => Fin.ext ?_)
  match a with
  | ⟨0, _⟩ => show o + 1 * 0 = s.val; omega
  | ⟨1, _⟩ => show 0 + 1 * d.val = d.val; omega
  | ⟨2, _⟩ => show 0 + 1 * k.val = k.val; omega

theorem flows_at (c : Dev nD) (t : Fin cfg0.N) (p : Fin 256) (d : Fin 1024) : flows m c t (ix2 p d) = flow (dz m c) (ws m c) (token t p) d := by
  unfold flows
  rw [flow_at, flow_eq]
  exact congrArg₂ _ (congrArg₂ _ (congrArg₂ _ (share_at m c t p d 0 _ _ (columns_at m c t p 0 _ rfl _) (chip_at m c t d 0 _ rfl _)) (share_at m c t p d 1 _ _ (columns_at m c t p 1 _ rfl _) (chip_at m c t d 1 _ rfl _))) (share_at m c t p d 2 _ _ (columns_at m c t p 2 _ rfl _) (chip_at m c t d 2 _ rfl _)))
    (share_at m c t p d 3 _ _ (columns_at m c t p 3 _ rfl _) (chip_at m c t d 3 _ rfl _))

theorem zero2 : (![0, 0] : Fin 2 → Nat) = fun _ => 0 := funext fun a => by fin_cases a <;> rfl

/-- The rows a point leaves in its block of the first result. -/
theorem left_rows (c : Dev nD) (t : Fin cfg0.N) :
    (outsAt0 m c t.val t.isLt).1 = k0_pay4 (flows m c t) (iblk m c 1 t) (k0_pay7 (iblk m c 1 t)) (iblk m c 2 t) (iblk m c 4 t) := by
  by_cases h0 : t.val % 16 = 0
  on_goal 1 =>
    rw [outsAt0_A m c t h0]
    dsimp only
    unfold out0_A_5
    rw [View.read_writes_eq_canon _ _ _ (fun _ => cover0_A_5 ..)]
    unfold kernelRun0_A
  on_goal 2 =>
    rw [outsAt0_B m c t h0]
    dsimp only
    unfold out0_B_5
    rw [View.read_writes_eq_canon _ _ _ (fun _ => cover0_B_5 ..)]
    unfold kernelRun0_B
  all_goals
    dsimp only
    sl_unfold_words
    rw [View.canon_unit_zero zero2]
    simp only [View.readAt_eq_ld, (hs0_0 t).read_unread, (hs0_1 t).read_unread, (hs0_2 t).read_unread, (hs0_3 t).read_unread, (hs0_4 t).read_unread,
      View.ld_unit_zero (S := S256x1024) zero2, View.ld_unit_zero (S := S1x1024) zero2]
    rfl

/-- The running sum after the first point. -/
theorem left_first (c : Dev nD) (t : Fin cfg0.N) (h0 : t.val % 16 = 0) :
    (outsAt0 m c t.val t.isLt).2 = k0_pay3 (flows m c t) (iblk m c 1 t) (k0_pay7 (iblk m c 1 t)) (k0_pay5 (F := Ideal)) := by
  rw [outsAt0_A m c t h0]
  dsimp only
  unfold out0_A_6
  rw [View.read_writes_eq_canon _ _ _ (fun _ => cover0_A_6 ..)]
  unfold kernelRun0_A
  dsimp only
  sl_unfold_words
  rw [View.canon_cons_unit_zero (S := S1x1024) zero2, View.readCov_unit_zero (S := S1x1024) _ zero2]
  simp only [View.readAt_eq_ld, (hs0_0 t).read_unread, (hs0_1 t).read_unread, (hs0_2 t).read_unread, (hs0_3 t).read_unread, (hs0_4 t).read_unread,
    View.ld_unit_zero (S := S256x1024) zero2, View.ld_unit_zero (S := S1x1024) zero2]
  rfl

/-- The running sum after a later point. -/
theorem left_later (c : Dev nD) (t : Fin cfg0.N) (h0 : ¬t.val % 16 = 0) :
    (outsAt0 m c t.val t.isLt).2 = k0_pay3 (flows m c t) (iblk m c 1 t) (k0_pay7 (iblk m c 1 t)) (outsAt0 m c (t.val - 1) (Nat.lt_of_le_of_lt (Nat.sub_le _ _) t.isLt)).2 := by
  rw [outsAt0_B m c t h0]
  dsimp only
  unfold out0_B_6
  rw [View.read_writes_eq_canon _ _ _ (fun _ => cover0_B_6 ..)]
  unfold kernelRun0_B
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_6 t).read_unread,
    View.ld_unit_zero (S := S256x1024) zero2, View.ld_unit_zero (S := S1x1024) zero2]
  rfl

/-- What a token, given by its number, adds to the gain's gradient; nothing past the last. -/
def adds (c : Dev nD) (k : Nat) (d : Fin 1024) : EReal := if h : k < 4096 then gainOf (dz m c) (xs m c) (ws m c) ⟨k, h⟩ d else 0

theorem adds_eq (c : Dev nD) (n : Fin 4096) (d : Fin 1024) : gainOf (dz m c) (xs m c) (ws m c) n d = adds m c n.val d := by
  unfold adds
  rw [dif_pos n.isLt]

theorem step_at (c : Dev nD) (t : Fin cfg0.N) (v : Vec Ideal S1x1024 .f32) (d : Fin 1024) :
    k0_pay3 (flows m c t) (iblk m c 1 t) (k0_pay7 (iblk m c 1 t)) v (ix2 0 d) = v (ix2 0 d) + ∑ p : Fin 256, adds m c (t.val * 256 + p.val) d := by
  refine (gain_at _ _ _ d).trans (congrArg _ (Finset.sum_congr rfl fun p _ => ?_))
  rw [flows_at, xs_at, funext fun k : Fin 1024 => xs_at m c t p k]
  exact adds_eq m c (token t p) d

/-- The running sum after point `n`: the tokens up to it. -/
theorem sum_at (c : Dev nD) (n : Nat) (h : n < cfg0.N) (d : Fin 1024) :
    (outsAt0 m c n h).2 (ix2 0 d) = ∑ s ∈ Finset.range (n % 16 + 1), ∑ p : Fin 256, adds m c ((n - n % 16 + s) * 256 + p.val) d :=
  TileSum.running 16 (fun n h d => (outsAt0 m c n h).2 (ix2 0 d)) (fun n d => ∑ p : Fin 256, adds m c (n * 256 + p.val) d)
    (fun n h hz d => by
      refine (congrFun (left_first m c ⟨n, h⟩ hz) _).trans ?_
      rw [step_at, start_at, zero_add])
    (fun n h hz d => by
      refine (congrFun (left_later m c ⟨n + 1, h⟩ hz) _).trans ?_
      rw [step_at]
      rfl)
    n h d

/-- What a point writes back of the first result: its rows. -/
theorem flushed_rows (c : Dev nD) (t : Fin cfg0.N) :
    (dats m 0 c).flushed 5 t = ((cfg0.win 5).blk t).view.read (Elt Ideal) (back (dz m c) (xs m c) (hs m c) (ws m c) (gs m c)) := by
  rw [flushed5, left_rows]
  obtain ⟨-, -, -, -, -, ⟨e0, e1⟩, -⟩ := index t
  funext j
  obtain ⟨p, d, rfl⟩ : ∃ (p : Fin 256) (d : Fin 1024), j = ix2 p d := ⟨j 0, j 1, eq_ix2 j⟩
  have e : ((cfg0.win 5).blk t).view.emb (ix2 p d) = ix2 (token t p) d := funext fun a => Fin.ext (match a with
    | ⟨0, _⟩ => by show win0_5.index t (0 : Fin 2) * 256 + 1 * p.val = t.val * 256 + p.val; omega
    | ⟨1, _⟩ => by show win0_5.index t (1 : Fin 2) * 1024 + 1 * d.val = d.val; omega)
  refine Eq.trans ?_ (congrArg (back (dz m c) (xs m c) (hs m c) (ws m c) (gs m c)) e).symm
  refine (rows_at _ _ _ _ p d).trans ?_
  rw [hs_at, funext fun k : Fin 1024 => xs_at m c t p k, funext fun k : Fin 1024 => congrArg₂ (· * ·) (flows_at m c t p k) (gs_at m c t k)]
  rfl

/-- Every row is in the block of one point. -/
theorem covered_rows (i : S4096x1024.Idx) : ∃ t : Fin cfg0.N, (cfg0.win 5).flush t = true ∧ i ∈ ((cfg0.win 5).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨-, -, -, -, -, ⟨e0, e1⟩, -⟩ := index t
  refine ⟨t, flush0_5 t, ?_⟩
  show i ∈ ((View.whole main_v0_0).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- What the last point writes back of the second result: the sum over all the tokens. -/
theorem flushed_gain (c : Dev nD) (t : Fin cfg0.N) (hf : (cfg0.win 6).flush t = true) :
    (dats m 0 c).flushed 6 t = ((cfg0.win 6).blk t).view.read (Elt Ideal) (gain (dz m c) (xs m c) (ws m c)) := by
  have hN := points
  have ht := t.isLt
  have h15 : t.val = 15 := by have := (flush0_6 t).mp hf; omega
  rw [flushed6]
  obtain ⟨-, -, -, -, -, -, e0, e1⟩ := index t
  funext j
  obtain ⟨q, d, rfl⟩ : ∃ (q : Fin 1) (d : Fin 1024), j = ix2 q d := ⟨j 0, j 1, eq_ix2 j⟩
  obtain rfl : q = 0 := Subsingleton.elim _ _
  have e : ((cfg0.win 6).blk t).view.emb (ix2 0 d) = ix2 0 d := funext fun a => Fin.ext (match a with
    | ⟨0, _⟩ => by show win0_6.index t (0 : Fin 2) * 1 + 1 * 0 = 0; omega
    | ⟨1, _⟩ => by show win0_6.index t (1 : Fin 2) * 1024 + 1 * d.val = d.val; omega)
  refine Eq.trans ?_ (congrArg (gain (dz m c) (xs m c) (ws m c)) e).symm
  refine (sum_at m c t.val t.isLt d).trans ?_
  rw [h15]
  show ∑ s ∈ Finset.range 16, ∑ p : Fin 256, adds m c ((0 + s) * 256 + p.val) d = ∑ n : Fin 4096, gainOf (dz m c) (xs m c) (ws m c) n d
  simp only [Nat.zero_add, adds_eq]
  exact TileSum.rows (show 16 * 256 = 4096 from rfl) (fun k => adds m c k d)

/-- The last point writes back the whole of it. -/
theorem covered_gain (i : S1x1024.Idx) : ∃ t : Fin cfg0.N, (cfg0.win 6).flush t = true ∧ i ∈ ((cfg0.win 6).blk t).view.set := by
  have hi : (i 0).val < 1 := (i 0).isLt
  have hj : (i 1).val < 1024 := (i 1).isLt
  have hN := points
  obtain ⟨t, ht⟩ : ∃ t : Fin cfg0.N, t.val = 15 := ⟨⟨15, by omega⟩, rfl⟩
  obtain ⟨-, -, -, -, -, -, e0, e1⟩ := index t
  refine ⟨t, (flush0_6 t).mpr (by omega), ?_⟩
  show i ∈ ((View.whole main_v0_1).slice (win0_6.rect t)).set
  rw [View.set_slice_whole, Rect.mem_set_unit]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 1024 ≤ (i 1).val ∧ (i 1).val < win0_6.index t (1 : Fin 2) * 1024 + 1024; omega

/-- The call's two results are the reference's. -/
theorem algebraic_BackIn : Cert.algebraic_BackInIdeal_BackInReferenceIdeal := fun m g m' g' _ hin =>
  ⟨fun c => back (dz m c) (xs m c) (hs m c) (ws m c) (gs m c), fun c => gain (dz m c) (xs m c) (ws m c),
    (θ_run defs _ _).mono (fun r h c => ⟨(h c).1.trans ((dats m 0 c).arrAt_eq_of_cover 5 _ (fun t _ => flushed_rows m c t) covered_rows),
        (h c).2.1.trans ((dats m 0 c).arrAt_eq_of_cover 6 _ (flushed_gain m c) covered_gain), (h c).2.2⟩)
      (run_blocks (F := Ideal) m g),
    (θ_run Cert.BackInReferenceIdeal.defs _ _).mono (fun r h c => by
        obtain ⟨h0, h1, h2, h3, h4⟩ := hin c
        refine ⟨(h c).1.trans ((Cert.BackInReferenceIdeal.Read.val_main_v43_eq m' c).trans ((back_reference _ _ _ _ _).trans ?_)),
          (h c).2.1.trans ((Cert.BackInReferenceIdeal.Read.val_main_v44_eq _ _ _).trans ((gain_reference _ _ _).trans ?_)), (h c).2.2⟩
        · show back _ _ _ _ _ = back (dz m c) (xs m c) (hs m c) (ws m c) (gs m c)
          exact congr (congr (congr (congr (congrArg back h0) h1) h2) h3) h4
        · show gain _ _ _ = gain (dz m c) (xs m c) (ws m c)
          exact congr (congr (congrArg gain h0) h1) h3)
      (Cert.BackInReferenceIdeal.Value.run (F := Ideal) m' g')⟩

theorem frame_BackIn_ideal : Cert.quiescent_BackInIdeal := fun m g _ => Cert.BackInIdeal.Gen.frame (F := Ideal) m g

theorem frame_BackIn : Cert.quiescent_BackIn := fun m g _ => Cert.BackIn.Gen.frame m g

theorem frame_BackIn_reference_ideal : Cert.quiescent_BackInReferenceIdeal := fun m g _ =>
  (θ_run Cert.BackInReferenceIdeal.defs _ _).mono (fun r h => ⟨fun c => (h c).2.2, sem_eq_zero_of_no_sems (by decide) r.2⟩)
    (Cert.BackInReferenceIdeal.Value.run (F := Ideal) m g)

theorem frame_BackIn_reference : Cert.quiescent_BackInReference := fun m g _ =>
  (θ_run Cert.BackInReferenceIdeal.defs _ _).mono (fun r h => ⟨fun c => (h c).2.2, sem_eq_zero_of_no_sems (by decide) r.2⟩)
    (Cert.BackInReferenceIdeal.Value.run (F := Bits) m g)

end Cert.BackTalk

end
-- ==== Proof.Chips.lean ====
/-
Arrays that lie in four parts, one of a chip each: a sum over all the columns is the sum over the chips' columns, a slice
of an array is read at an index, and a block that is stored in four slices reads as one array.
-/
module

public import proofs.«01_k».proof.Proof.TileSum
public import Idealize.ShloMosaic.Lib.Pipeline.FrameBody
public import Idealize.ShloMosaic.Lib.Pipeline.CanonAppend
public import Idealize.ShloMosaic.Lib.IdealHost
public import Idealize.ShloMosaic.Lib.Pointwise
public import Idealize.ShloMosaic.Lib.Pointwise.Reduce

@[expose] public section

noncomputable section

namespace Cert.Chips

open Idealize.ShloMosaic

/-- A sum over four parts of `w` columns each, part by part. -/
theorem four {β : Type*} [AddCommMonoid β] {w T : Nat} (hT : 4 * w = T) (f : Fin T → β) (g : Fin 4 → Fin w → β)
    (hg : ∀ (s : Fin 4) (k : Fin w) (h : s.val * w + k.val < T), f ⟨s.val * w + k.val, h⟩ = g s k) :
    ∑ k, f k = ∑ k, g 0 k + ∑ k, g 1 k + ∑ k, g 2 k + ∑ k, g 3 k := by
  let F : Nat → β := fun k => if h : k < T then f ⟨k, h⟩ else 0
  have hf : ∑ k, f k = ∑ k : Fin T, F k.val := Finset.sum_congr rfl fun k _ => by
    show _ = (if h : k.val < T then _ else _)
    rw [dif_pos k.isLt]
  have hs (s : Fin 4) : ∑ k : Fin w, F (s.val * w + k.val) = ∑ k, g s k := by
    refine Finset.sum_congr rfl fun k _ => ?_
    have hk : s.val * w + k.val < T := by
      have := k.isLt
      have h3 : s.val * w ≤ 3 * w := Nat.mul_le_mul_right w (by omega)
      omega
    show (if h : s.val * w + k.val < T then _ else _) = _
    rw [dif_pos hk, hg]
  rw [hf, ← TileSum.rows hT F, Finset.sum_range_succ, Finset.sum_range_succ, Finset.sum_range_succ, Finset.sum_range_one]
  exact congrArg₂ _ (congrArg₂ _ (congrArg₂ _ (hs 0) (hs 1)) (hs 2)) (hs 3)

variable {Val : EltTy → Type} {e : EltTy}

/-- A slice of columns, read at an index. -/
theorem ld_columns {R W w : Nat} (X : (⟨2, ![R, W]⟩ : Shape).Idx → Val e) (o : Nat)
    (h : ∀ a, (![0, o] : Fin 2 → Nat) a + (⟨2, ![R, w]⟩ : Shape).size a ≤ (⟨2, ![R, W]⟩ : Shape).size a) (p : Fin R) (k : Fin w) (hk : o + k.val < W) :
    View.ld X (Rect.unit ![0, o] (⟨2, ![R, w]⟩ : Shape).size h) (ix2 p k) = X (ix2 p ⟨o + k.val, hk⟩) := by
  refine congrArg X (funext fun a => Fin.ext ?_)
  match a with
  | ⟨0, _⟩ => show 0 + 1 * p.val = p.val; omega
  | ⟨1, _⟩ => show o + 1 * k.val = o + k.val; omega

/-- A slice of rows, read at an index. -/
theorem ld_rows {R W r : Nat} (X : (⟨2, ![R, W]⟩ : Shape).Idx → Val e) (o : Nat)
    (h : ∀ a, (![o, 0] : Fin 2 → Nat) a + (⟨2, ![r, W]⟩ : Shape).size a ≤ (⟨2, ![R, W]⟩ : Shape).size a) (p : Fin r) (k : Fin W) (hp : o + p.val < R) :
    View.ld X (Rect.unit ![o, 0] (⟨2, ![r, W]⟩ : Shape).size h) (ix2 p k) = X (ix2 ⟨o + p.val, hp⟩ k) := by
  refine congrArg X (funext fun a => Fin.ext ?_)
  match a with
  | ⟨0, _⟩ => show o + 1 * p.val = o + p.val; omega
  | ⟨1, _⟩ => show 0 + 1 * k.val = k.val; omega

/-- One chip's part, read at an index. -/
theorem ld_chip {N R W : Nat} (X : (⟨3, ![N, R, W]⟩ : Shape).Idx → Val e) (o : Nat)
    (h : ∀ a, (![o, 0, 0] : Fin 3 → Nat) a + (⟨3, ![1, R, W]⟩ : Shape).size a ≤ (⟨3, ![N, R, W]⟩ : Shape).size a) (p : Fin R) (k : Fin W) (ho : o < N) :
    View.ld X (Rect.unit ![o, 0, 0] (⟨3, ![1, R, W]⟩ : Shape).size h) (ix3 0 p k) = X (ix3 ⟨o, ho⟩ p k) := by
  refine congrArg X (funext fun a => Fin.ext ?_)
  match a with
  | ⟨0, _⟩ => show o + 1 * 0 = o; omega
  | ⟨1, _⟩ => show 0 + 1 * p.val = p.val; omega
  | ⟨2, _⟩ => show 0 + 1 * k.val = k.val; omega

/-- A block stored in four slices of columns, each what one array has there, reads as that array. -/
theorem canon_four [∀ e, Nonempty (Val e)] {R W w : Nat} (hw : 4 * w = W) (G : (⟨2, ![R, W]⟩ : Shape).Idx → Val e)
    (P0 P1 P2 P3 : (⟨2, ![R, w]⟩ : Shape).Idx → Val e) (o0 o1 o2 o3 : Nat) (e0 : o0 = 0) (e1 : o1 = w) (e2 : o2 = 2 * w) (e3 : o3 = 3 * w)
    (h0 : ∀ a, (![0, o0] : Fin 2 → Nat) a + (⟨2, ![R, w]⟩ : Shape).size a ≤ (⟨2, ![R, W]⟩ : Shape).size a)
    (h1 : ∀ a, (![0, o1] : Fin 2 → Nat) a + (⟨2, ![R, w]⟩ : Shape).size a ≤ (⟨2, ![R, W]⟩ : Shape).size a)
    (h2 : ∀ a, (![0, o2] : Fin 2 → Nat) a + (⟨2, ![R, w]⟩ : Shape).size a ≤ (⟨2, ![R, W]⟩ : Shape).size a)
    (h3 : ∀ a, (![0, o3] : Fin 2 → Nat) a + (⟨2, ![R, w]⟩ : Shape).size a ≤ (⟨2, ![R, W]⟩ : Shape).size a)
    (g0 : ∀ (p : Fin R) (k : Fin w) (h : 0 * w + k.val < W), P0 (ix2 p k) = G (ix2 p ⟨0 * w + k.val, h⟩))
    (g1 : ∀ (p : Fin R) (k : Fin w) (h : 1 * w + k.val < W), P1 (ix2 p k) = G (ix2 p ⟨1 * w + k.val, h⟩))
    (g2 : ∀ (p : Fin R) (k : Fin w) (h : 2 * w + k.val < W), P2 (ix2 p k) = G (ix2 p ⟨2 * w + k.val, h⟩))
    (g3 : ∀ (p : Fin R) (k : Fin w) (h : 3 * w + k.val < W), P3 (ix2 p k) = G (ix2 p ⟨3 * w + k.val, h⟩)) :
    View.canon (Val := Val) (e := e) (s := (⟨2, ![R, W]⟩ : Shape)) [⟨Rect.unit ![0, o3] (⟨2, ![R, w]⟩ : Shape).size h3, P3⟩, ⟨Rect.unit ![0, o2] (⟨2, ![R, w]⟩ : Shape).size h2, P2⟩,
      ⟨Rect.unit ![0, o1] (⟨2, ![R, w]⟩ : Shape).size h1, P1⟩, ⟨Rect.unit ![0, o0] (⟨2, ![R, w]⟩ : Shape).size h0, P0⟩] = G := by
  have piece (o n : Nat) (en : o = n * w) (hn : n ≤ 3) (h : ∀ a, (![0, o] : Fin 2 → Nat) a + (⟨2, ![R, w]⟩ : Shape).size a ≤ (⟨2, ![R, W]⟩ : Shape).size a)
      (P : (⟨2, ![R, w]⟩ : Shape).Idx → Val e) (g : ∀ (p : Fin R) (k : Fin w) (h : n * w + k.val < W), P (ix2 p k) = G (ix2 p ⟨n * w + k.val, h⟩))
      (x : (⟨2, ![R, w]⟩ : Shape).Idx) : P x = G ((Rect.unit (s := (⟨2, ![R, W]⟩ : Shape)) ![0, o] (⟨2, ![R, w]⟩ : Shape).size h).emb x) := by
    obtain ⟨p, k, rfl⟩ : ∃ (p : Fin R) (k : Fin w), x = ix2 p k := ⟨x 0, x 1, eq_ix2 x⟩
    have hk : n * w + k.val < W := by
      have := k.isLt
      have h3 : n * w ≤ 3 * w := Nat.mul_le_mul_right w hn
      omega
    refine (g p k hk).trans (congrArg G (funext fun a => Fin.ext ?_))
    match a with
    | ⟨0, _⟩ => show p.val = 0 + 1 * p.val; omega
    | ⟨1, _⟩ => show n * w + k.val = o + 1 * k.val; omega
  funext y
  refine (congrFun (congrArg View.canon (List.append_nil _).symm) y).trans (View.canon_append_of_pieces G [] _ ?_ y ?_)
  · intro q hq
    simp only [List.mem_cons, List.not_mem_nil, or_false] at hq
    rcases hq with rfl | rfl | rfl | rfl
    · exact piece o3 3 e3 (by omega) h3 P3 g3
    · exact piece o2 2 e2 (by omega) h2 P2 g2
    · exact piece o1 1 (by omega) (by omega) h1 P1 g1
    · exact piece o0 0 (by omega) (by omega) h0 P0 g0
  · have y0 : (y 0).val < R := (y 0).isLt
    have y1 : (y 1).val < W := (y 1).isLt
    have mem (o : Nat) (h : ∀ a, (![0, o] : Fin 2 → Nat) a + (⟨2, ![R, w]⟩ : Shape).size a ≤ (⟨2, ![R, W]⟩ : Shape).size a) (ha : o ≤ (y 1).val) (hb : (y 1).val < o + w) :
        y ∈ (Rect.unit (s := (⟨2, ![R, W]⟩ : Shape)) ![0, o] (⟨2, ![R, w]⟩ : Shape).size h).set := by
      rw [Rect.mem_set_unit]
      intro a
      match a with
      | ⟨0, _⟩ => show 0 ≤ (y 0).val ∧ (y 0).val < 0 + R; omega
      | ⟨1, _⟩ => show o ≤ (y 1).val ∧ (y 1).val < o + w; omega
    by_cases c1 : (y 1).val < w
    · exact ⟨⟨Rect.unit ![0, o0] (⟨2, ![R, w]⟩ : Shape).size h0, P0⟩, by simp, mem o0 h0 (by omega) (by omega)⟩
    by_cases c2 : (y 1).val < 2 * w
    · exact ⟨⟨Rect.unit ![0, o1] (⟨2, ![R, w]⟩ : Shape).size h1, P1⟩, by simp, mem o1 h1 (by omega) (by omega)⟩
    by_cases c3 : (y 1).val < 3 * w
    · exact ⟨⟨Rect.unit ![0, o2] (⟨2, ![R, w]⟩ : Shape).size h2, P2⟩, by simp, mem o2 h2 (by omega) (by omega)⟩
    · exact ⟨⟨Rect.unit ![0, o3] (⟨2, ![R, w]⟩ : Shape).size h3, P3⟩, by simp, mem o3 h3 (by omega) (by omega)⟩

end Cert.Chips

end
-- ==== Proof.ForwardReference.lean ====
/-
The first norm and the projection behind it, as the reference computes them.
-/
module

public import proofs.«01_k».proof.Proof.Chips
public import proofs.«01_k».proof.Proof.RmsStep
public import proofs.«01_k».proof.Proof.Gen.ForwardInReferenceIdeal.Read
public import Idealize.ShloMosaic.Lib.Pointwise
public import Idealize.ShloMosaic.Lib.Pointwise.Reduce
public import Idealize.ShloMosaic.Lib.IdealHost

@[expose] public section

noncomputable section

namespace Cert.ForwardTalk

open Idealize.ShloMosaic Idealize.ShloMosaic.TcCoe Idealize.ShloMosaic.StableHlo
open Idealize.SL Idealize.SL.Sem
open Cert.BackTalk (scale square width small)
open Cert.ForwardInReferenceIdeal Cert.ForwardInReferenceIdeal.Read

/-- A row over its root mean square, times the gain. -/
def norm (x : S4096x1024.Idx → EReal) (g : S1x1024.Idx → EReal) (n : Fin 4096) (d : Fin 1024) : EReal :=
  x (ix2 n d) * scale (fun k => x (ix2 n k)) * g (ix2 0 d)

def norms (x : S4096x1024.Idx → EReal) (g : S1x1024.Idx → EReal) : S4096x1024.Idx → EReal := fun i => norm x g (i 0) (i 1)

/-- The projection: the weight lies in four parts, one of a chip each, of 1536 columns. -/
def proj (x : S4096x1024.Idx → EReal) (g : S1x1024.Idx → EReal) (w : S4x1024x1536.Idx → EReal) (n : Fin 4096) (k : Fin 6144) : EReal :=
  ∑ j : Fin 1024, norm x g n j * w (ix3 ⟨k.val / 1536, by omega⟩ j ⟨k.val % 1536, by omega⟩)

def projs (x : S4096x1024.Idx → EReal) (g : S1x1024.Idx → EReal) (w : S4x1024x1536.Idx → EReal) : S4096x6144.Idx → EReal := fun i => proj x g w (i 0) (i 1)

theorem norm_at (x0 : S4096x1024.Idx → EReal) (x1 : S1x1024.Idx → EReal) (n : Fin 4096) (d : Fin 1024) :
    val_main_v13 (F := Ideal) x0 x1 (ix2 n d) = norm x0 x1 n d := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's second result. -/
theorem norm_reference (x0 : S4096x1024.Idx → EReal) (x1 : S1x1024.Idx → EReal) : val_main_v18 (F := Ideal) x0 x1 = norms x0 x1 :=
  funext fun i => (congrArg (val_main_v13 (F := Ideal) x0 x1) (eq_ix2 i)).trans (norm_at x0 x1 (i 0) (i 1))

theorem proj_at (x0 : S4096x1024.Idx → EReal) (x1 : S1x1024.Idx → EReal) (x2 : S4x1024x1536.Idx → EReal) (n : Fin 4096) (k : Fin 6144) :
    val_main_v17 (F := Ideal) x0 x1 x2 (ix2 n k) = proj x0 x1 x2 n k := by
  unfold proj
  rw [Finset.sum_congr rfl fun j _ => congrArg (· * x2 (ix3 ⟨k.val / 1536, by omega⟩ j ⟨k.val % 1536, by omega⟩)) (norm_at x0 x1 n j).symm]
  unfold val_main_v17
  generalize val_main_v13 (F := Ideal) x0 x1 = z
  pointwise [val_main_v16, val_main_v15, val_main_v14]

/-- The reference's first result. -/
theorem proj_reference (x0 : S4096x1024.Idx → EReal) (x1 : S1x1024.Idx → EReal) (x2 : S4x1024x1536.Idx → EReal) : val_main_v17 (F := Ideal) x0 x1 x2 = projs x0 x1 x2 :=
  funext fun i => (congrArg _ (eq_ix2 i)).trans (proj_at x0 x1 x2 (i 0) (i 1))

end Cert.ForwardTalk

end
-- ==== Proof.ForwardValue.lean ====
/-
The first norm and the projection behind it: the kernel takes 256 tokens at a time, and the columns of one chip after another.
Over the extended reals its results are the reference's.
-/
module

public import proofs.«01_k».proof.Defs
public import proofs.«01_k».proof.Proof.ForwardReference
public import proofs.«01_k».proof.Proof.Gen.ForwardIn.Frame
public import proofs.«01_k».proof.Proof.Gen.ForwardInIdeal.Value
public import proofs.«01_k».proof.Proof.Gen.ForwardInReference

@[expose] public section

noncomputable section

namespace Cert.ForwardTalk

open Idealize.ShloMosaic Idealize.ShloMosaic.TcCoe Idealize.ShloMosaic.StableHlo
open Idealize.SL Idealize.SL.Sem
open Cert.BackTalk (scale square width small)
open Cert.ForwardInIdeal Cert.ForwardInIdeal.Gen Cert.ForwardInIdeal.Value

/-- A row over its root mean square, times the gain. -/
theorem norm_block (v0 : Vec Ideal S256x1024 .f32) (v11 : Vec Ideal S1x1024 .f32) (p : Fin 256) (d : Fin 1024) :
    k0_pay2 v0 v11 (ix2 p d) = v0 (ix2 p d) * scale (fun k : Fin 1024 => v0 (ix2 p k)) * v11 (ix2 0 d) := by
  pointwise [k0_pay2]
  rfl

/-- One chip's columns of the projection. -/
theorem proj_block (z : Vec Ideal S256x1024 .bf16) (v : Vec Ideal S1x1024x1536 .bf16) (p : Fin 256) (k : Fin 1536) :
    k0_pay1 z v (ix2 p k) = ∑ j : Fin 1024, z (ix2 p j) * v (ix3 0 j k) := by
  pointwise [k0_pay1]

/-- The blocks of a point: its rows of the arrays of tokens, and the whole of the rest. -/
theorem index : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0) :=
  by show ∀ t : Fin grid0.N, _; decide +kernel

/-- The same of the results. -/
theorem indexOut : ∀ t : Fin cfg0.N, (win0_3.index t (0 : Fin 2) = t.val ∧ win0_3.index t (1 : Fin 2) = 0)
    ∧ (win0_4.index t (0 : Fin 2) = t.val ∧ win0_4.index t (1 : Fin 2) = 0) :=
  by show ∀ t : Fin grid0.N, _; decide +kernel

theorem points : cfg0.N = 16 := N_0

/-- The token of a row of a point's block. -/
def token (t : Fin cfg0.N) (p : Fin 256) : Fin 4096 := ⟨t.val * 256 + p.val, by have := t.isLt; have := points; omega⟩

variable (m : (ℓ : Loc nD τ sig) → Buf (Elt Ideal) ℓ)

/-- A device's arguments: its tokens, the gain, and the weight. -/
abbrev xs (c : Dev nD) : S4096x1024.Idx → EReal := m ((c.tc : Thread nD τ).loc main_arg0)
abbrev gs (c : Dev nD) : S1x1024.Idx → EReal := m ((c.tc : Thread nD τ).loc main_arg1)
abbrev ws (c : Dev nD) : S4x1024x1536.Idx → EReal := m ((c.tc : Thread nD τ).loc main_arg2)

theorem xs_at (c : Dev nD) (t : Fin cfg0.N) (p : Fin 256) (k : Fin 1024) : iblk m c 0 t (ix2 p k) = xs m c (ix2 (token t p) k) := by
  obtain ⟨⟨e0, e1⟩, -⟩ := index t
  show V m c main_arg0 (((cfg0.win 0).blk t).view.emb (ix2 p k)) = _
  refine congrArg (xs m c) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem gs_at (c : Dev nD) (t : Fin cfg0.N) (p : Fin 1) (k : Fin 1024) : iblk m c 1 t (ix2 p k) = gs m c (ix2 p k) := by
  obtain ⟨-, ⟨e0, e1⟩, -⟩ := index t
  show V m c main_arg1 (((cfg0.win 1).blk t).view.emb (ix2 p k)) = _
  refine congrArg (gs m c) (funext fun a => Fin.ext ?_)
  match a with
  | ⟨0, _⟩ => show win0_1.index t (0 : Fin 2) * 1 + 1 * p.val = p.val; omega
  | ⟨1, _⟩ => show win0_1.index t (1 : Fin 2) * 1024 + 1 * k.val = k.val; omega

theorem ws_at (c : Dev nD) (t : Fin cfg0.N) (s : Fin 4) (d : Fin 1024) (k : Fin 1536) : iblk m c 2 t (ix3 s d k) = ws m c (ix3 s d k) := by
  obtain ⟨-, -, e0, e1, e2⟩ := index t
  show V m c main_arg2 (((cfg0.win 2).blk t).view.emb (ix3 s d k)) = _
  refine congrArg (ws m c) (funext fun a => Fin.ext ?_)
  match a with
  | ⟨0, _⟩ => show win0_2.index t (0 : Fin 3) * 4 + 1 * s.val = s.val; omega
  | ⟨1, _⟩ => show win0_2.index t (1 : Fin 3) * 1024 + 1 * d.val = d.val; omega
  | ⟨2, _⟩ => show win0_2.index t (2 : Fin 3) * 1536 + 1 * k.val = k.val; omega

theorem zero2 : (![0, 0] : Fin 2 → Nat) = fun _ => 0 := funext fun a => by fin_cases a <;> rfl

theorem chip_at (c : Dev nD) (t : Fin cfg0.N) (s : Fin 4) (o : Nat) (ho : o = s.val)
    (h : ∀ a, (![o, 0, 0] : Fin 3 → Nat) a + S1x1024x1536.size a ≤ S4x1024x1536.size a) (j : Fin 1024) (k : Fin 1536) :
    View.ld (iblk m c 2 t) (Rect.unit ![o, 0, 0] S1x1024x1536.size h) (ix3 0 j k) = ws m c (ix3 s j k) := by
  subst ho
  exact (Chips.ld_chip (iblk m c 2 t) s.val h j k s.isLt).trans (ws_at m c t s j k)

/-- A block's rows of the second result. -/
theorem row_at (c : Dev nD) (t : Fin cfg0.N) (p : Fin 256) (d : Fin 1024) :
    k0_pay2 (iblk m c 0 t) (iblk m c 1 t) (ix2 p d) = norm (xs m c) (gs m c) (token t p) d := by
  refine (norm_block _ _ p d).trans ?_
  rw [xs_at, gs_at, funext fun k : Fin 1024 => xs_at m c t p k]
  rfl

/-- One chip's columns of the first result. -/
theorem piece_at (c : Dev nD) (t : Fin cfg0.N) (s : Fin 4) (v : Vec Ideal S1x1024x1536 .bf16)
    (hv : ∀ (j : Fin 1024) (k : Fin 1536), v (ix3 0 j k) = ws m c (ix3 s j k)) (p : Fin 256) (k : Fin 1536) (h : s.val * 1536 + k.val < 6144) :
    k0_pay1 (k0_pay2 (iblk m c 0 t) (iblk m c 1 t)) v (ix2 p k) = proj (xs m c) (gs m c) (ws m c) (token t p) ⟨s.val * 1536 + k.val, h⟩ := by
  refine (proj_block _ _ p k).trans ?_
  have e1 : (⟨(s.val * 1536 + k.val) / 1536, by omega⟩ : Fin 4) = s := Fin.ext (by show (s.val * 1536 + k.val) / 1536 = s.val; omega)
  have e2 : (⟨(s.val * 1536 + k.val) % 1536, by omega⟩ : Fin 1536) = k := Fin.ext (by show (s.val * 1536 + k.val) % 1536 = k.val; omega)
  show _ = ∑ j : Fin 1024, norm (xs m c) (gs m c) (token t p) j * ws m c (ix3 (⟨(s.val * 1536 + k.val) / 1536, by omega⟩ : Fin 4) j (⟨(s.val * 1536 + k.val) % 1536, by omega⟩ : Fin 1536))
  rw [e1, e2]
  exact Finset.sum_congr rfl fun j _ => congrArg₂ (fun a b : EReal => a * b) (row_at m c t p j) (hv j k)

/-- A point's block of the first result, put together from the four chips' columns. -/
theorem left_proj (c : Dev nD) (t : Fin cfg0.N) :
    out0_3 (iblk m c 0 t) (iblk m c 1 t) (iblk m c 2 t) = fun j : S256x6144.Idx => proj (xs m c) (gs m c) (ws m c) (token t (j 0)) (j 1) := by
  unfold out0_3
  simp only [View.ld_unit_zero (S := S256x1024) zero2, View.ld_unit_zero (S := S1x1024) zero2]
  refine Chips.canon_four (Val := Elt Ideal) (e := .f32) (R := 256) (w := 1536) (W := 6144) rfl (fun j => proj (xs m c) (gs m c) (ws m c) (token t (j 0)) (j 1)) _ _ _ _ _ _ _ _ rfl rfl rfl rfl _ _ _ _ ?_ ?_ ?_ ?_
  · exact piece_at m c t 0 _ (chip_at m c t 0 0 rfl _)
  · exact piece_at m c t 1 _ (chip_at m c t 1 1 rfl _)
  · exact piece_at m c t 2 _ (chip_at m c t 2 2 rfl _)
  · exact piece_at m c t 3 _ (chip_at m c t 3 3 rfl _)

/-- A point's block of the second. -/
theorem left_norm (c : Dev nD) (t : Fin cfg0.N) :
    out0_4 (iblk m c 0 t) (iblk m c 1 t) (iblk m c 2 t) = k0_pay2 (iblk m c 0 t) (iblk m c 1 t) := by
  unfold out0_4
  rw [View.canon_unit_zero zero2]
  simp only [View.ld_unit_zero (S := S256x1024) zero2, View.ld_unit_zero (S := S1x1024) zero2]

/-- What a point writes back of each result: its rows. -/
theorem flushed_proj (c : Dev nD) (t : Fin cfg0.N) :
    (dats m 0 c).flushed 3 t = ((cfg0.win 3).blk t).view.read (Elt Ideal) (projs (xs m c) (gs m c) (ws m c)) := by
  rw [flushed3, left_proj]
  obtain ⟨⟨e0, e1⟩, -⟩ := indexOut t
  funext j
  obtain ⟨p, d, rfl⟩ : ∃ (p : Fin 256) (d : Fin 6144), j = ix2 p d := ⟨j 0, j 1, eq_ix2 j⟩
  have e : ((cfg0.win 3).blk t).view.emb (ix2 p d) = ix2 (token t p) d := funext fun a => Fin.ext (match a with
    | ⟨0, _⟩ => by show win0_3.index t (0 : Fin 2) * 256 + 1 * p.val = t.val * 256 + p.val; omega
    | ⟨1, _⟩ => by show win0_3.index t (1 : Fin 2) * 6144 + 1 * d.val = d.val; omega)
  refine Eq.trans ?_ (congrArg (projs (xs m c) (gs m c) (ws m c)) e).symm
  rfl

theorem flushed_norm (c : Dev nD) (t : Fin cfg0.N) :
    (dats m 0 c).flushed 4 t = ((cfg0.win 4).blk t).view.read (Elt Ideal) (norms (xs m c) (gs m c)) := by
  rw [flushed4, left_norm]
  obtain ⟨-, e0, e1⟩ := indexOut t
  funext j
  obtain ⟨p, d, rfl⟩ : ∃ (p : Fin 256) (d : Fin 1024), j = ix2 p d := ⟨j 0, j 1, eq_ix2 j⟩
  have e : ((cfg0.win 4).blk t).view.emb (ix2 p d) = ix2 (token t p) d := funext fun a => Fin.ext (match a with
    | ⟨0, _⟩ => by show win0_4.index t (0 : Fin 2) * 256 + 1 * p.val = t.val * 256 + p.val; omega
    | ⟨1, _⟩ => by show win0_4.index t (1 : Fin 2) * 1024 + 1 * d.val = d.val; omega)
  refine Eq.trans ?_ (congrArg (norms (xs m c) (gs m c)) e).symm
  exact row_at m c t p d

/-- Every row of a result is in the block of one point. -/
theorem covered_proj (i : S4096x6144.Idx) : ∃ t : Fin cfg0.N, (cfg0.win 3).flush t = true ∧ i ∈ ((cfg0.win 3).blk t).view.set := by
  have hi : (i 0).val < 4096 := (i 0).isLt
  have hj : (i 1).val < 6144 := (i 1).isLt
  have hN := points
  obtain ⟨t, ht⟩ : ∃ t : Fin cfg0.N, t.val = (i 0).val / 256 := ⟨⟨(i 0).val / 256, by omega⟩, rfl⟩
  obtain ⟨⟨e0, e1⟩, -⟩ := indexOut t
  refine ⟨t, flush0_3 t, ?_⟩
  show i ∈ ((View.whole main_v0_0).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 6144 ≤ (i 1).val ∧ (i 1).val < win0_3.index t (1 : Fin 2) * 6144 + 6144; omega

theorem covered_norm (i : S4096x1024.Idx) : ∃ t : Fin cfg0.N, (cfg0.win 4).flush t = true ∧ i ∈ ((cfg0.win 4).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨-, e0, e1⟩ := indexOut t
  refine ⟨t, flush0_4 t, ?_⟩
  show i ∈ ((View.whole main_v0_1).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

/-- The call's results are the reference's. -/
theorem algebraic_ForwardIn : Cert.algebraic_ForwardInIdeal_ForwardInReferenceIdeal := fun m g m' g' _ hin =>
  ⟨fun c => projs (xs m c) (gs m c) (ws m c), fun c => norms (xs m c) (gs m c),
    (θ_run defs _ _).mono (fun r h c => by
        obtain ⟨h0, h1, hk⟩ := h c
        exact ⟨h0.trans ((dats m 0 c).arrAt_eq_of_cover 3 _ (fun t _ => flushed_proj m c t) covered_proj), h1.trans ((dats m 0 c).arrAt_eq_of_cover 4 _ (fun t _ => flushed_norm m c t) covered_norm), hk⟩)
      (run_blocks (F := Ideal) m g),
    (θ_run Cert.ForwardInReferenceIdeal.defs _ _).mono (fun r h c => by
        obtain ⟨h0, h1, h2⟩ := hin c
        obtain ⟨r0, r1, hk⟩ := h c
        exact ⟨r0.trans ((Cert.ForwardInReferenceIdeal.Read.val_main_v17_eq _ _ _).trans ((proj_reference _ _ _).trans (congr (congr (congrArg projs h0) h1) h2))),
          r1.trans ((Cert.ForwardInReferenceIdeal.Read.val_main_v18_eq _ _).trans ((norm_reference _ _).trans (congr (congrArg norms h0) h1))), hk⟩)
      (Cert.ForwardInReferenceIdeal.Value.run (F := Ideal) m' g')⟩

theorem frame_ForwardIn_ideal : Cert.quiescent_ForwardInIdeal := fun m g _ => Cert.ForwardInIdeal.Gen.frame (F := Ideal) m g

theorem frame_ForwardIn : Cert.quiescent_ForwardIn := fun m g _ => Cert.ForwardIn.Gen.frame m g

theorem frame_ForwardIn_reference_ideal : Cert.quiescent_ForwardInReferenceIdeal := fun m g _ =>
  (θ_run Cert.ForwardInReferenceIdeal.defs _ _).mono (fun r h => ⟨fun c => (h c).2.2, sem_eq_zero_of_no_sems (by decide) r.2⟩)
    (Cert.ForwardInReferenceIdeal.Value.run (F := Ideal) m g)

theorem frame_ForwardIn_reference : Cert.quiescent_ForwardInReference := fun m g _ =>
  (θ_run Cert.ForwardInReferenceIdeal.defs _ _).mono (fun r h => ⟨fun c => (h c).2.2, sem_eq_zero_of_no_sems (by decide) r.2⟩)
    (Cert.ForwardInReferenceIdeal.Value.run (F := Bits) m g)

end Cert.ForwardTalk

end
-- ==== Proof.MergeReference.lean ====
/-
The two branches joined and the norm before the layers, as the reference computes them.
-/
module

public import proofs.«01_k».proof.Proof.Chips
public import proofs.«01_k».proof.Proof.RmsStep
public import proofs.«01_k».proof.Proof.Gen.MergeReferenceIdeal.Read
public import Idealize.ShloMosaic.Lib.Pointwise
public import Idealize.ShloMosaic.Lib.Pointwise.Reduce
public import Idealize.ShloMosaic.Lib.IdealHost

@[expose] public section

noncomputable section

namespace Cert.MergeTalk

open Idealize.ShloMosaic Idealize.ShloMosaic.TcCoe Idealize.ShloMosaic.StableHlo
open Idealize.SL Idealize.SL.Sem
open Cert.BackTalk (scale square width small)
open Cert.MergeReferenceIdeal Cert.MergeReferenceIdeal.Read

/-- A branch's result, projected. -/
def proj (y : S4096x1024.Idx → EReal) (v : S1024x1024.Idx → EReal) (n : Fin 4096) (d : Fin 1024) : EReal := ∑ k : Fin 1024, y (ix2 n k) * v (ix2 k d)

def projs (y : S4096x1024.Idx → EReal) (v : S1024x1024.Idx → EReal) : S4096x1024.Idx → EReal := fun i => proj y v (i 0) (i 1)

/-- The two branches, each through its gate, which is a column of the first projection. -/
def mix (a b : S4096x1024.Idx → EReal) (z : S4096x6144.Idx → EReal) (v w : S1024x1024.Idx → EReal) (n : Fin 4096) (d : Fin 1024) : EReal :=
  Ideal.logistic (z (ix2 n ⟨4096 + d.val, by omega⟩)) * proj a v n d + Ideal.logistic (z (ix2 n ⟨5120 + d.val, by omega⟩)) * proj b w n d

/-- The mixture projected, on top of what passes the branches by. -/
def join (a b : S4096x1024.Idx → EReal) (z : S4096x6144.Idx → EReal) (x : S4096x1024.Idx → EReal) (v w o : S1024x1024.Idx → EReal) (n : Fin 4096) (d : Fin 1024) : EReal :=
  x (ix2 n d) + ∑ k : Fin 1024, mix a b z v w n k * o (ix2 k d)

def joins (a b : S4096x1024.Idx → EReal) (z : S4096x6144.Idx → EReal) (x : S4096x1024.Idx → EReal) (v w o : S1024x1024.Idx → EReal) : S4096x1024.Idx → EReal :=
  fun i => join a b z x v w o (i 0) (i 1)

/-- That over its root mean square, times the gain. -/
def norms (a b : S4096x1024.Idx → EReal) (z : S4096x6144.Idx → EReal) (x : S4096x1024.Idx → EReal) (v w o : S1024x1024.Idx → EReal) (g : S1x1024.Idx → EReal) : S4096x1024.Idx → EReal :=
  fun i => join a b z x v w o (i 0) (i 1) * scale (join a b z x v w o (i 0)) * g (ix2 0 (i 1))

theorem first_at (x0 : S4096x1024.Idx → EReal) (x4 : S1024x1024.Idx → EReal) (n : Fin 4096) (d : Fin 1024) :
    val_main_v4 (F := Ideal) x0 x4 (ix2 n d) = proj x0 x4 n d := by
  pointwise [val_main_v4, val_main_v3, val_main_v2]
  rfl

/-- The reference's first result, and its second. -/
theorem first_reference (x0 : S4096x1024.Idx → EReal) (x4 : S1024x1024.Idx → EReal) : val_main_v4 (F := Ideal) x0 x4 = projs x0 x4 :=
  funext fun i => (congrArg _ (eq_ix2 i)).trans (first_at x0 x4 (i 0) (i 1))

theorem second_at (x1 : S4096x1024.Idx → EReal) (x5 : S1024x1024.Idx → EReal) (n : Fin 4096) (d : Fin 1024) :
    val_main_v7 (F := Ideal) x1 x5 (ix2 n d) = proj x1 x5 n d := by
  pointwise [val_main_v7, val_main_v6, val_main_v5]
  rfl

theorem second_reference (x1 : S4096x1024.Idx → EReal) (x5 : S1024x1024.Idx → EReal) : val_main_v7 (F := Ideal) x1 x5 = projs x1 x5 :=
  funext fun i => (congrArg _ (eq_ix2 i)).trans (second_at x1 x5 (i 0) (i 1))

theorem mix_at (x0 x1 : S4096x1024.Idx → EReal) (x2 : S4096x6144.Idx → EReal) (x4 x5 : S1024x1024.Idx → EReal) (n : Fin 4096) (d : Fin 1024) :
    val_main_v22 (F := Ideal) x0 x1 x2 x4 x5 (ix2 n d) = mix x0 x1 x2 x4 x5 n d := by
  unfold mix
  rw [← first_at, ← second_at]
  unfold val_main_v22 val_main_v14 val_main_v21
  generalize val_main_v4 (F := Ideal) x0 x4 = z
  generalize val_main_v7 (F := Ideal) x1 x5 = z'
  pointwise [val_main_v20, val_main_v19, val_main_v18, val_main_v17, val_main_v16, val_main_v15, val_main_v13, val_main_v12, val_main_v11, val_main_v10, val_main_v9, val_main_v8, val_main_v1, val_main_v0, val_main_cst, val_main_cst_0, val_main_cst_1, val_main_cst_2]
  rfl

theorem join_at (x0 x1 : S4096x1024.Idx → EReal) (x2 : S4096x6144.Idx → EReal) (x3 : S4096x1024.Idx → EReal) (x4 x5 x6 : S1024x1024.Idx → EReal) (n : Fin 4096) (d : Fin 1024) :
    val_main_v25 (F := Ideal) x0 x1 x2 x3 x4 x5 x6 (ix2 n d) = join x0 x1 x2 x3 x4 x5 x6 n d := by
  unfold join
  rw [Finset.sum_congr rfl fun k _ => congrArg (· * x6 (ix2 k d)) (mix_at x0 x1 x2 x4 x5 n k).symm]
  unfold val_main_v25 val_main_v24
  generalize val_main_v22 (F := Ideal) x0 x1 x2 x4 x5 = z
  pointwise [val_main_v23]

/-- The reference's third result. -/
theorem join_reference (x0 x1 : S4096x1024.Idx → EReal) (x2 : S4096x6144.Idx → EReal) (x3 : S4096x1024.Idx → EReal) (x4 x5 x6 : S1024x1024.Idx → EReal) :
    val_main_v25 (F := Ideal) x0 x1 x2 x3 x4 x5 x6 = joins x0 x1 x2 x3 x4 x5 x6 :=
  funext fun i => (congrArg _ (eq_ix2 i)).trans (join_at x0 x1 x2 x3 x4 x5 x6 (i 0) (i 1))

theorem norm_at (x0 x1 : S4096x1024.Idx → EReal) (x2 : S4096x6144.Idx → EReal) (x3 : S4096x1024.Idx → EReal) (x4 x5 x6 : S1024x1024.Idx → EReal) (x7 : S1x1024.Idx → EReal) (n : Fin 4096) (d : Fin 1024) :
    val_main_v39 (F := Ideal) x0 x1 x2 x3 x4 x5 x6 x7 (ix2 n d) = norms x0 x1 x2 x3 x4 x5 x6 x7 (ix2 n d) := by
  show _ = join x0 x1 x2 x3 x4 x5 x6 n d * scale (fun k => join x0 x1 x2 x3 x4 x5 x6 n k) * x7 (ix2 0 d)
  simp only [← join_at]
  unfold val_main_v39 val_main_v36 val_main_v35 val_main_v34 val_main_v33 val_main_v31 val_main_v29 val_main_v28 val_main_v27
  generalize val_main_v25 (F := Ideal) x0 x1 x2 x3 x4 x5 x6 = z
  pointwise [val_main_v38, val_main_v37, val_main_v26, val_main_v32, val_main_v30, val_main_cst_3, val_main_cst_4, val_main_cst_5]
  rfl

/-- The reference's fourth result. -/
theorem norm_reference (x0 x1 : S4096x1024.Idx → EReal) (x2 : S4096x6144.Idx → EReal) (x3 : S4096x1024.Idx → EReal) (x4 x5 x6 : S1024x1024.Idx → EReal) (x7 : S1x1024.Idx → EReal) :
    val_main_v40 (F := Ideal) x0 x1 x2 x3 x4 x5 x6 x7 = norms x0 x1 x2 x3 x4 x5 x6 x7 :=
  funext fun i => (congrArg (val_main_v39 (F := Ideal) x0 x1 x2 x3 x4 x5 x6 x7) (eq_ix2 i)).trans ((norm_at x0 x1 x2 x3 x4 x5 x6 x7 (i 0) (i 1)).trans (congrArg (norms x0 x1 x2 x3 x4 x5 x6 x7) (eq_ix2 i).symm))

end Cert.MergeTalk

end
-- ==== Proof.MergeValue.lean ====
/-
The two branches joined and the norm before the layers: the kernel takes 256 tokens at a time. Over the extended reals its results
are the reference's.
-/
module

public import proofs.«01_k».proof.Defs
public import proofs.«01_k».proof.Proof.MergeReference
public import proofs.«01_k».proof.Proof.Gen.Merge.Frame
public import proofs.«01_k».proof.Proof.Gen.MergeIdeal.Value
public import proofs.«01_k».proof.Proof.Gen.MergeReference

@[expose] public section

noncomputable section

namespace Cert.MergeTalk

open Idealize.ShloMosaic Idealize.ShloMosaic.TcCoe Idealize.ShloMosaic.StableHlo
open Idealize.SL Idealize.SL.Sem
open Cert.BackTalk (scale square width small)
open Cert.MergeIdeal Cert.MergeIdeal.Gen Cert.MergeIdeal.Value

/-- A branch's result, projected. -/
theorem first_block (v0 : Vec Ideal S256x1024 .bf16) (v1 : Vec Ideal S1024x1024 .bf16) (p : Fin 256) (d : Fin 1024) :
    k0_pay2 v0 v1 (ix2 p d) = ∑ k : Fin 1024, v0 (ix2 p k) * v1 (ix2 k d) := by
  pointwise [k0_pay2]

theorem second_block (v0 : Vec Ideal S256x1024 .bf16) (v1 : Vec Ideal S1024x1024 .bf16) (p : Fin 256) (d : Fin 1024) :
    k0_pay3 v0 v1 (ix2 p d) = ∑ k : Fin 1024, v0 (ix2 p k) * v1 (ix2 k d) := by
  pointwise [k0_pay3]

/-- The two branches, each through its gate, projected, on top of what passes them by. -/
theorem join_block (v0 : Vec Ideal S256x1024 .bf16) (v1 : Vec Ideal S1024x1024 .bf16) (v3 : Vec Ideal S256x1024 .bf16) (v4 : Vec Ideal S1024x1024 .bf16)
    (v8 v11 v15 : Vec Ideal S256x1024 .f32) (v17 : Vec Ideal S1024x1024 .bf16) (p : Fin 256) (d : Fin 1024) :
    k0_pay4 v0 v1 v3 v4 v8 v11 v15 v17 (ix2 p d)
      = v15 (ix2 p d) + ∑ k : Fin 1024, (Ideal.logistic (v8 (ix2 p k)) * k0_pay2 v0 v1 (ix2 p k) + Ideal.logistic (v11 (ix2 p k)) * k0_pay3 v3 v4 (ix2 p k)) * v17 (ix2 k d) := by
  unfold k0_pay4
  generalize k0_pay2 v0 v1 = z
  generalize k0_pay3 v3 v4 = z'
  pointwise []

/-- A row over its root mean square, times the gain. -/
theorem norm_block (v0 : Vec Ideal S256x1024 .bf16) (v1 : Vec Ideal S1024x1024 .bf16) (v3 : Vec Ideal S256x1024 .bf16) (v4 : Vec Ideal S1024x1024 .bf16)
    (v8 v11 v15 : Vec Ideal S256x1024 .f32) (v17 : Vec Ideal S1024x1024 .bf16) (g : Vec Ideal S1x1024 .f32) (p : Fin 256) (d : Fin 1024) :
    k0_pay1 (k0_pay4 v0 v1 v3 v4 v8 v11 v15 v17) (k0_pay5 v0 v1 v3 v4 v8 v11 v15 v17) g (ix2 p d)
      = k0_pay4 v0 v1 v3 v4 v8 v11 v15 v17 (ix2 p d) * scale (fun k : Fin 1024 => k0_pay4 v0 v1 v3 v4 v8 v11 v15 v17 (ix2 p k)) * g (ix2 0 d) := by
  unfold k0_pay1 k0_pay5
  generalize k0_pay4 v0 v1 v3 v4 v8 v11 v15 v17 = z
  pointwise []
  rfl

/-- The blocks of a point: its rows of the arrays of tokens, and the whole of the rest. -/
theorem index : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 2)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  by show ∀ t : Fin grid0.N, _; decide +kernel

/-- The same of the results. -/
theorem indexOut : ∀ t : Fin cfg0.N, (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  by show ∀ t : Fin grid0.N, _; decide +kernel

theorem points : cfg0.N = 16 := N_0

/-- The token of a row of a point's block. -/
def token (t : Fin cfg0.N) (p : Fin 256) : Fin 4096 := ⟨t.val * 256 + p.val, by have := t.isLt; have := points; omega⟩

variable (m : (ℓ : Loc nD τ sig) → Buf (Elt Ideal) ℓ)

/-- A device's arguments: the two branches, the first projection, its tokens, the three weights, and the gain. -/
abbrev ys (c : Dev nD) : S4096x1024.Idx → EReal := m ((c.tc : Thread nD τ).loc main_arg0)
abbrev bs (c : Dev nD) : S4096x1024.Idx → EReal := m ((c.tc : Thread nD τ).loc main_arg1)
abbrev zs (c : Dev nD) : S4096x6144.Idx → EReal := m ((c.tc : Thread nD τ).loc main_arg2)
abbrev xs (c : Dev nD) : S4096x1024.Idx → EReal := m ((c.tc : Thread nD τ).loc main_arg3)
abbrev vs (c : Dev nD) : S1024x1024.Idx → EReal := m ((c.tc : Thread nD τ).loc main_arg4)
abbrev ws (c : Dev nD) : S1024x1024.Idx → EReal := m ((c.tc : Thread nD τ).loc main_arg5)
abbrev os (c : Dev nD) : S1024x1024.Idx → EReal := m ((c.tc : Thread nD τ).loc main_arg6)
abbrev gs (c : Dev nD) : S1x1024.Idx → EReal := m ((c.tc : Thread nD τ).loc main_arg7)

theorem ys_at (c : Dev nD) (t : Fin cfg0.N) (p : Fin 256) (k : Fin 1024) : iblk m c 0 t (ix2 p k) = ys m c (ix2 (token t p) k) := by
  obtain ⟨⟨e0, e1⟩, -⟩ := index t
  show V m c main_arg0 (((cfg0.win 0).blk t).view.emb (ix2 p k)) = _
  refine congrArg (ys m c) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem bs_at (c : Dev nD) (t : Fin cfg0.N) (p : Fin 256) (k : Fin 1024) : iblk m c 1 t (ix2 p k) = bs m c (ix2 (token t p) k) := by
  obtain ⟨-, ⟨e0, e1⟩, -⟩ := index t
  show V m c main_arg1 (((cfg0.win 1).blk t).view.emb (ix2 p k)) = _
  refine congrArg (bs m c) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem zs_at (c : Dev nD) (t : Fin cfg0.N) (p : Fin 256) (k : Fin 2048) : iblk m c 2 t (ix2 p k) = zs m c (ix2 (token t p) ⟨4096 + k.val, by omega⟩) := by
  obtain ⟨-, -, ⟨e0, e1⟩, -⟩ := index t
  show V m c main_arg2 (((cfg0.win 2).blk t).view.emb (ix2 p k)) = _
  refine congrArg (zs m c) (funext fun a => Fin.ext ?_)
  match a with
  | ⟨0, _⟩ => show win0_2.index t (0 : Fin 2) * 256 + 1 * p.val = t.val * 256 + p.val; omega
  | ⟨1, _⟩ => show win0_2.index t (1 : Fin 2) * 2048 + 1 * k.val = 4096 + k.val; omega

theorem xs_at (c : Dev nD) (t : Fin cfg0.N) (p : Fin 256) (k : Fin 1024) : iblk m c 3 t (ix2 p k) = xs m c (ix2 (token t p) k) := by
  obtain ⟨-, -, -, ⟨e0, e1⟩, -⟩ := index t
  show V m c main_arg3 (((cfg0.win 3).blk t).view.emb (ix2 p k)) = _
  refine congrArg (xs m c) (funext fun a => Fin.ext ?_)
  match a with
  | ⟨0, _⟩ => show win0_3.index t (0 : Fin 2) * 256 + 1 * p.val = t.val * 256 + p.val; omega
  | ⟨1, _⟩ => show win0_3.index t (1 : Fin 2) * 1024 + 1 * k.val = k.val; omega

theorem vs_at (c : Dev nD) (t : Fin cfg0.N) (p : Fin 1024) (k : Fin 1024) : iblk m c 4 t (ix2 p k) = vs m c (ix2 p k) := by
  obtain ⟨-, -, -, -, ⟨e0, e1⟩, -⟩ := index t
  show V m c main_arg4 (((cfg0.win 4).blk t).view.emb (ix2 p k)) = _
  refine congrArg (vs m c) (funext fun a => Fin.ext ?_)
  match a with
  | ⟨0, _⟩ => show win0_4.index t (0 : Fin 2) * 1024 + 1 * p.val = p.val; omega
  | ⟨1, _⟩ => show win0_4.index t (1 : Fin 2) * 1024 + 1 * k.val = k.val; omega

theorem ws_at (c : Dev nD) (t : Fin cfg0.N) (p : Fin 1024) (k : Fin 1024) : iblk m c 5 t (ix2 p k) = ws m c (ix2 p k) := by
  obtain ⟨-, -, -, -, -, ⟨e0, e1⟩, -⟩ := index t
  show V m c main_arg5 (((cfg0.win 5).blk t).view.emb (ix2 p k)) = _
  refine congrArg (ws m c) (funext fun a => Fin.ext ?_)
  match a with
  | ⟨0, _⟩ => show win0_5.index t (0 : Fin 2) * 1024 + 1 * p.val = p.val; omega
  | ⟨1, _⟩ => show win0_5.index t (1 : Fin 2) * 1024 + 1 * k.val = k.val; omega

theorem os_at (c : Dev nD) (t : Fin cfg0.N) (p : Fin 1024) (k : Fin 1024) : iblk m c 6 t (ix2 p k) = os m c (ix2 p k) := by
  obtain ⟨-, -, -, -, -, -, ⟨e0, e1⟩, -⟩ := index t
  show V m c main_arg6 (((cfg0.win 6).blk t).view.emb (ix2 p k)) = _
  refine congrArg (os m c) (funext fun a => Fin.ext ?_)
  match a with
  | ⟨0, _⟩ => show win0_6.index t (0 : Fin 2) * 1024 + 1 * p.val = p.val; omega
  | ⟨1, _⟩ => show win0_6.index t (1 : Fin 2) * 1024 + 1 * k.val = k.val; omega

theorem gs_at (c : Dev nD) (t : Fin cfg0.N) (p : Fin 1) (k : Fin 1024) : iblk m c 7 t (ix2 p k) = gs m c (ix2 p k) := by
  obtain ⟨-, -, -, -, -, -, -, e0, e1⟩ := index t
  show V m c main_arg7 (((cfg0.win 7).blk t).view.emb (ix2 p k)) = _
  refine congrArg (gs m c) (funext fun a => Fin.ext ?_)
  match a with
  | ⟨0, _⟩ => show win0_7.index t (0 : Fin 2) * 1 + 1 * p.val = p.val; omega
  | ⟨1, _⟩ => show win0_7.index t (1 : Fin 2) * 1024 + 1 * k.val = k.val; omega

theorem zero2 : (![0, 0] : Fin 2 → Nat) = fun _ => 0 := funext fun a => by fin_cases a <;> rfl

/-- What the body reads of the two gates: the halves of its block of the first projection. -/
abbrev g0 (c : Dev nD) (t : Fin cfg0.N) : Vec Ideal S256x1024 .f32 := View.ld (iblk m c 2 t) (Rect.unit ![0, 0] S256x1024.size inb_S256x2048_S256x1024_0_0)
abbrev g1 (c : Dev nD) (t : Fin cfg0.N) : Vec Ideal S256x1024 .f32 := View.ld (iblk m c 2 t) (Rect.unit ![0, 1024] S256x1024.size inb_S256x2048_S256x1024_0_1024)

theorem g0_at (c : Dev nD) (t : Fin cfg0.N) (p : Fin 256) (k : Fin 1024) : g0 m c t (ix2 p k) = zs m c (ix2 (token t p) ⟨4096 + k.val, by omega⟩) :=
  (Chips.ld_columns (iblk m c 2 t) 0 inb_S256x2048_S256x1024_0_0 p k (by omega)).trans
    ((zs_at m c t p ⟨0 + k.val, by omega⟩).trans (congrArg (fun i => zs m c (ix2 (token t p) i)) (Fin.ext (by show 4096 + (0 + k.val) = 4096 + k.val; omega))))

theorem g1_at (c : Dev nD) (t : Fin cfg0.N) (p : Fin 256) (k : Fin 1024) : g1 m c t (ix2 p k) = zs m c (ix2 (token t p) ⟨5120 + k.val, by omega⟩) :=
  (Chips.ld_columns (iblk m c 2 t) 1024 inb_S256x2048_S256x1024_0_1024 p k (by omega)).trans
    ((zs_at m c t p ⟨1024 + k.val, by omega⟩).trans (congrArg (fun i => zs m c (ix2 (token t p) i)) (Fin.ext (by show 4096 + (1024 + k.val) = 5120 + k.val; omega))))

/-- A block's rows of the results. -/
theorem first_row (c : Dev nD) (t : Fin cfg0.N) (p : Fin 256) (d : Fin 1024) : k0_pay2 (iblk m c 0 t) (iblk m c 4 t) (ix2 p d) = proj (ys m c) (vs m c) (token t p) d :=
  (first_block _ _ p d).trans (Finset.sum_congr rfl fun k _ => congrArg₂ (fun a b : EReal => a * b) (ys_at m c t p k) (vs_at m c t k d))

theorem second_row (c : Dev nD) (t : Fin cfg0.N) (p : Fin 256) (d : Fin 1024) : k0_pay3 (iblk m c 1 t) (iblk m c 5 t) (ix2 p d) = proj (bs m c) (ws m c) (token t p) d :=
  (second_block _ _ p d).trans (Finset.sum_congr rfl fun k _ => congrArg₂ (fun a b : EReal => a * b) (bs_at m c t p k) (ws_at m c t k d))

theorem join_row (c : Dev nD) (t : Fin cfg0.N) (p : Fin 256) (d : Fin 1024) :
    k0_pay4 (iblk m c 0 t) (iblk m c 4 t) (iblk m c 1 t) (iblk m c 5 t) (g0 m c t) (g1 m c t) (iblk m c 3 t) (iblk m c 6 t) (ix2 p d) = join (ys m c) (bs m c) (zs m c) (xs m c) (vs m c) (ws m c) (os m c) (token t p) d :=
  (join_block _ _ _ _ _ _ _ _ p d).trans (congrArg₂ (fun a b : EReal => a + b) (xs_at m c t p d) (Finset.sum_congr rfl fun k _ =>
    congrArg₂ (fun a b : EReal => a * b) (congrArg₂ (fun a b : EReal => a + b)
      (congrArg₂ (fun a b : EReal => Ideal.logistic a * b) (g0_at m c t p k) (first_row m c t p k))
      (congrArg₂ (fun a b : EReal => Ideal.logistic a * b) (g1_at m c t p k) (second_row m c t p k))) (os_at m c t k d)))

theorem norm_row (c : Dev nD) (t : Fin cfg0.N) (p : Fin 256) (d : Fin 1024) :
    k0_pay1 (k0_pay4 (iblk m c 0 t) (iblk m c 4 t) (iblk m c 1 t) (iblk m c 5 t) (g0 m c t) (g1 m c t) (iblk m c 3 t) (iblk m c 6 t)) (k0_pay5 (iblk m c 0 t) (iblk m c 4 t) (iblk m c 1 t) (iblk m c 5 t) (g0 m c t) (g1 m c t) (iblk m c 3 t) (iblk m c 6 t)) (iblk m c 7 t) (ix2 p d)
      = norms (ys m c) (bs m c) (zs m c) (xs m c) (vs m c) (ws m c) (os m c) (gs m c) (ix2 (token t p) d) := by
  refine (norm_block _ _ _ _ _ _ _ _ _ p d).trans ?_
  rw [funext fun k : Fin 1024 => join_row m c t p k, join_row, gs_at]
  rfl

/-- A point's block of each result. -/
theorem left_first (c : Dev nD) (t : Fin cfg0.N) : out0_8 (iblk m c 0 t) (iblk m c 1 t) (iblk m c 2 t) (iblk m c 3 t) (iblk m c 4 t) (iblk m c 5 t) (iblk m c 6 t) (iblk m c 7 t) = k0_pay2 (iblk m c 0 t) (iblk m c 4 t) := by
  unfold out0_8
  rw [View.canon_unit_zero zero2]
  simp only [View.ld_unit_zero (S := S256x1024) zero2, View.ld_unit_zero (S := S1024x1024) zero2]

theorem left_second (c : Dev nD) (t : Fin cfg0.N) : out0_9 (iblk m c 0 t) (iblk m c 1 t) (iblk m c 2 t) (iblk m c 3 t) (iblk m c 4 t) (iblk m c 5 t) (iblk m c 6 t) (iblk m c 7 t) = k0_pay3 (iblk m c 1 t) (iblk m c 5 t) := by
  unfold out0_9
  rw [View.canon_unit_zero zero2]
  simp only [View.ld_unit_zero (S := S256x1024) zero2, View.ld_unit_zero (S := S1024x1024) zero2]

theorem left_join (c : Dev nD) (t : Fin cfg0.N) : out0_10 (iblk m c 0 t) (iblk m c 1 t) (iblk m c 2 t) (iblk m c 3 t) (iblk m c 4 t) (iblk m c 5 t) (iblk m c 6 t) (iblk m c 7 t) = k0_pay4 (iblk m c 0 t) (iblk m c 4 t) (iblk m c 1 t) (iblk m c 5 t) (g0 m c t) (g1 m c t) (iblk m c 3 t) (iblk m c 6 t) := by
  unfold out0_10
  rw [View.canon_unit_zero zero2]
  simp only [View.ld_unit_zero (S := S256x1024) zero2, View.ld_unit_zero (S := S1024x1024) zero2]
  rfl

theorem left_norm (c : Dev nD) (t : Fin cfg0.N) :
    out0_11 (iblk m c 0 t) (iblk m c 1 t) (iblk m c 2 t) (iblk m c 3 t) (iblk m c 4 t) (iblk m c 5 t) (iblk m c 6 t) (iblk m c 7 t) = k0_pay1 (k0_pay4 (iblk m c 0 t) (iblk m c 4 t) (iblk m c 1 t) (iblk m c 5 t) (g0 m c t) (g1 m c t) (iblk m c 3 t) (iblk m c 6 t)) (k0_pay5 (iblk m c 0 t) (iblk m c 4 t) (iblk m c 1 t) (iblk m c 5 t) (g0 m c t) (g1 m c t) (iblk m c 3 t) (iblk m c 6 t)) (iblk m c 7 t) := by
  unfold out0_11
  rw [View.canon_unit_zero zero2]
  simp only [View.ld_unit_zero (S := S256x1024) zero2, View.ld_unit_zero (S := S1024x1024) zero2, View.ld_unit_zero (S := S1x1024) zero2]
  rfl

/-- What a point writes back of each result: its rows. -/
theorem flushed_first (c : Dev nD) (t : Fin cfg0.N) :
    (dats m 0 c).flushed 8 t = ((cfg0.win 8).blk t).view.read (Elt Ideal) (projs (ys m c) (vs m c)) := by
  rw [flushed8, left_first]
  obtain ⟨⟨e0, e1⟩, -⟩ := indexOut t
  funext j
  obtain ⟨p, d, rfl⟩ : ∃ (p : Fin 256) (d : Fin 1024), j = ix2 p d := ⟨j 0, j 1, eq_ix2 j⟩
  have e : ((cfg0.win 8).blk t).view.emb (ix2 p d) = ix2 (token t p) d := funext fun a => Fin.ext (match a with
    | ⟨0, _⟩ => by show win0_8.index t (0 : Fin 2) * 256 + 1 * p.val = t.val * 256 + p.val; omega
    | ⟨1, _⟩ => by show win0_8.index t (1 : Fin 2) * 1024 + 1 * d.val = d.val; omega)
  refine Eq.trans ?_ (congrArg (projs (ys m c) (vs m c)) e).symm
  exact first_row m c t p d

theorem flushed_second (c : Dev nD) (t : Fin cfg0.N) :
    (dats m 0 c).flushed 9 t = ((cfg0.win 9).blk t).view.read (Elt Ideal) (projs (bs m c) (ws m c)) := by
  rw [flushed9, left_second]
  obtain ⟨-, ⟨e0, e1⟩, -⟩ := indexOut t
  funext j
  obtain ⟨p, d, rfl⟩ : ∃ (p : Fin 256) (d : Fin 1024), j = ix2 p d := ⟨j 0, j 1, eq_ix2 j⟩
  have e : ((cfg0.win 9).blk t).view.emb (ix2 p d) = ix2 (token t p) d := funext fun a => Fin.ext (match a with
    | ⟨0, _⟩ => by show win0_9.index t (0 : Fin 2) * 256 + 1 * p.val = t.val * 256 + p.val; omega
    | ⟨1, _⟩ => by show win0_9.index t (1 : Fin 2) * 1024 + 1 * d.val = d.val; omega)
  refine Eq.trans ?_ (congrArg (projs (bs m c) (ws m c)) e).symm
  exact second_row m c t p d

theorem flushed_join (c : Dev nD) (t : Fin cfg0.N) :
    (dats m 0 c).flushed 10 t = ((cfg0.win 10).blk t).view.read (Elt Ideal) (joins (ys m c) (bs m c) (zs m c) (xs m c) (vs m c) (ws m c) (os m c)) := by
  rw [flushed10, left_join]
  obtain ⟨-, -, ⟨e0, e1⟩, -⟩ := indexOut t
  funext j
  obtain ⟨p, d, rfl⟩ : ∃ (p : Fin 256) (d : Fin 1024), j = ix2 p d := ⟨j 0, j 1, eq_ix2 j⟩
  have e : ((cfg0.win 10).blk t).view.emb (ix2 p d) = ix2 (token t p) d := funext fun a => Fin.ext (match a with
    | ⟨0, _⟩ => by show win0_10.index t (0 : Fin 2) * 256 + 1 * p.val = t.val * 256 + p.val; omega
    | ⟨1, _⟩ => by show win0_10.index t (1 : Fin 2) * 1024 + 1 * d.val = d.val; omega)
  refine Eq.trans ?_ (congrArg (joins (ys m c) (bs m c) (zs m c) (xs m c) (vs m c) (ws m c) (os m c)) e).symm
  exact join_row m c t p d

theorem flushed_norm (c : Dev nD) (t : Fin cfg0.N) :
    (dats m 0 c).flushed 11 t = ((cfg0.win 11).blk t).view.read (Elt Ideal) (norms (ys m c) (bs m c) (zs m c) (xs m c) (vs m c) (ws m c) (os m c) (gs m c)) := by
  rw [flushed11, left_norm]
  obtain ⟨-, -, -, e0, e1⟩ := indexOut t
  funext j
  obtain ⟨p, d, rfl⟩ : ∃ (p : Fin 256) (d : Fin 1024), j = ix2 p d := ⟨j 0, j 1, eq_ix2 j⟩
  have e : ((cfg0.win 11).blk t).view.emb (ix2 p d) = ix2 (token t p) d := funext fun a => Fin.ext (match a with
    | ⟨0, _⟩ => by show win0_11.index t (0 : Fin 2) * 256 + 1 * p.val = t.val * 256 + p.val; omega
    | ⟨1, _⟩ => by show win0_11.index t (1 : Fin 2) * 1024 + 1 * d.val = d.val; omega)
  refine Eq.trans ?_ (congrArg (norms (ys m c) (bs m c) (zs m c) (xs m c) (vs m c) (ws m c) (os m c) (gs m c)) e).symm
  exact norm_row m c t p d

/-- Every row of a result is in the block of one point. -/
theorem covered_first (i : S4096x1024.Idx) : ∃ t : Fin cfg0.N, (cfg0.win 8).flush t = true ∧ i ∈ ((cfg0.win 8).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨⟨e0, e1⟩, -⟩ := indexOut t
  refine ⟨t, flush0_8 t, ?_⟩
  show i ∈ ((View.whole main_v0_0).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

theorem covered_second (i : S4096x1024.Idx) : ∃ t : Fin cfg0.N, (cfg0.win 9).flush t = true ∧ i ∈ ((cfg0.win 9).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨-, ⟨e0, e1⟩, -⟩ := indexOut t
  refine ⟨t, flush0_9 t, ?_⟩
  show i ∈ ((View.whole main_v0_1).slice (win0_9.rect t)).set
  rw [View.set_slice_whole, Rect.mem_set_unit]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

theorem covered_join (i : S4096x1024.Idx) : ∃ t : Fin cfg0.N, (cfg0.win 10).flush t = true ∧ i ∈ ((cfg0.win 10).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨-, -, ⟨e0, e1⟩, -⟩ := indexOut t
  refine ⟨t, flush0_10 t, ?_⟩
  show i ∈ ((View.whole main_v0_2).slice (win0_10.rect t)).set
  rw [View.set_slice_whole, Rect.mem_set_unit]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

theorem covered_norm (i : S4096x1024.Idx) : ∃ t : Fin cfg0.N, (cfg0.win 11).flush t = true ∧ i ∈ ((cfg0.win 11).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨-, -, -, e0, e1⟩ := indexOut t
  refine ⟨t, flush0_11 t, ?_⟩
  show i ∈ ((View.whole main_v0_3).slice (win0_11.rect t)).set
  rw [View.set_slice_whole, Rect.mem_set_unit]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- The call's results are the reference's. -/
theorem algebraic_Merge : Cert.algebraic_MergeIdeal_MergeReferenceIdeal := fun m g m' g' _ hin =>
  ⟨fun c => projs (ys m c) (vs m c), fun c => projs (bs m c) (ws m c), fun c => joins (ys m c) (bs m c) (zs m c) (xs m c) (vs m c) (ws m c) (os m c), fun c => norms (ys m c) (bs m c) (zs m c) (xs m c) (vs m c) (ws m c) (os m c) (gs m c),
    (θ_run defs _ _).mono (fun r h c => by
        obtain ⟨h0, h1, h2, h3, hk⟩ := h c
        exact ⟨h0.trans ((dats m 0 c).arrAt_eq_of_cover 8 _ (fun t _ => flushed_first m c t) covered_first), h1.trans ((dats m 0 c).arrAt_eq_of_cover 9 _ (fun t _ => flushed_second m c t) covered_second), h2.trans ((dats m 0 c).arrAt_eq_of_cover 10 _ (fun t _ => flushed_join m c t) covered_join), h3.trans ((dats m 0 c).arrAt_eq_of_cover 11 _ (fun t _ => flushed_norm m c t) covered_norm), hk⟩)
      (run_blocks (F := Ideal) m g),
    (θ_run Cert.MergeReferenceIdeal.defs _ _).mono (fun r h c => by
        obtain ⟨h0, h1, h2, h3, h4, h5, h6, h7⟩ := hin c
        obtain ⟨r0, r1, r2, r3, hk⟩ := h c
        refine ⟨r0.trans ((Cert.MergeReferenceIdeal.Read.val_main_v4_eq _ _).trans ((first_reference _ _).trans (congr (congrArg projs h0) h4))),
          r1.trans ((Cert.MergeReferenceIdeal.Read.val_main_v7_eq _ _).trans ((second_reference _ _).trans (congr (congrArg projs h1) h5))),
          r2.trans ((Cert.MergeReferenceIdeal.Read.val_main_v25_eq _ _ _ _ _ _ _).trans ((join_reference _ _ _ _ _ _ _).trans ?_)),
          r3.trans ((Cert.MergeReferenceIdeal.Read.val_main_v40_eq m' c).trans ((norm_reference _ _ _ _ _ _ _ _).trans ?_)), hk⟩
        · show joins _ _ _ _ _ _ _ = joins (ys m c) (bs m c) (zs m c) (xs m c) (vs m c) (ws m c) (os m c)
          exact congr (congr (congr (congr (congr (congr (congrArg joins h0) h1) h2) h3) h4) h5) h6
        · show norms _ _ _ _ _ _ _ _ = norms (ys m c) (bs m c) (zs m c) (xs m c) (vs m c) (ws m c) (os m c) (gs m c)
          exact congr (congr (congr (congr (congr (congr (congr (congrArg norms h0) h1) h2) h3) h4) h5) h6) h7)
      (Cert.MergeReferenceIdeal.Value.run (F := Ideal) m' g')⟩

theorem frame_Merge_ideal : Cert.quiescent_MergeIdeal := fun m g _ => Cert.MergeIdeal.Gen.frame (F := Ideal) m g

theorem frame_Merge : Cert.quiescent_Merge := fun m g _ => Cert.Merge.Gen.frame m g

theorem frame_Merge_reference_ideal : Cert.quiescent_MergeReferenceIdeal := fun m g _ =>
  (θ_run Cert.MergeReferenceIdeal.defs _ _).mono (fun r h => ⟨fun c => (h c).2.2.2.2, sem_eq_zero_of_no_sems (by decide) r.2⟩)
    (Cert.MergeReferenceIdeal.Value.run (F := Ideal) m g)

theorem frame_Merge_reference : Cert.quiescent_MergeReference := fun m g _ =>
  (θ_run Cert.MergeReferenceIdeal.defs _ _).mono (fun r h => ⟨fun c => (h c).2.2.2.2, sem_eq_zero_of_no_sems (by decide) r.2⟩)
    (Cert.MergeReferenceIdeal.Value.run (F := Bits) m g)

end Cert.MergeTalk

end
-- ==== Proof.HeadStep.lean ====
/-
The last step forward, a row at a time, over the extended reals: the normalized row times the gain, less the target; the
loss, half the mean of its squares; and the loss's slope. The kernel multiplies by constants where the reference, and its
derivative, multiply and divide by others: the numbers are the same.
-/
module

public import proofs.«01_k».proof.Proof.RmsStep

@[expose] public section

noncomputable section

namespace Cert.MlpTalk

open Idealize.ShloMosaic Cert.BackTalk

/-- The kernel's constants: one over the row's length, and half of it. -/
def part : EReal := Ideal.ofBits .f32 0x3A800000#32
def halfPart : EReal := Ideal.ofBits .f32 0x3A000000#32

theorem part_eq : part = ((1 / 1024 : ℝ) : EReal) := by
  simp [part, Ideal.ofBits, Ideal.ieee, -EReal.coe_mul]; norm_num

theorem halfPart_eq : halfPart = ((1 / 2048 : ℝ) : EReal) := by
  simp [halfPart, Ideal.ofBits, Ideal.ieee, -EReal.coe_mul]; norm_num

/-- By how much a row, normalized, misses its target. -/
def miss {n : Nat} (y g t : Fin n → EReal) (d : Fin n) : EReal := y d * scale y * g d - t d

/-- The slope of the loss along the normalized row. -/
def slope {n : Nat} (y g t : Fin n → EReal) (d : Fin n) : EReal := miss y g t d * part

/-- What a row adds to the loss. -/
def cost {n : Nat} (y g t : Fin n → EReal) : EReal := halfPart * ∑ d, miss y g t d * miss y g t d

/-- The reference's constants: a half and two. -/
def oneHalf : EReal := Ideal.ofBits .f32 0x3F000000#32
def two : EReal := Ideal.ofBits .f32 0x40000000#32

theorem oneHalf_eq : oneHalf = ((1 / 2 : ℝ) : EReal) := by
  simp [oneHalf, Ideal.ofBits, Ideal.ieee, -EReal.coe_mul]; norm_num

theorem two_eq : two = ((2 : ℝ) : EReal) := by
  simp [two, Ideal.ofBits, Ideal.ieee, -EReal.coe_mul]; norm_num

/-- The slope, as differentiating the mean of the squares gives it. -/
theorem slope_eq {n : Nat} (y g t : Fin n → EReal) (d : Fin n) : Ideal.div oneHalf width * (two * miss y g t d) = slope y g t d := by
  unfold slope
  rw [oneHalf_eq, two_eq, part_eq, width_eq, Ideal.div_coe (by norm_num), ← EReal.coe_mul, ← mul_assoc, ← EReal.coe_mul, mul_comm]
  norm_num

/-- The loss as the reference adds it up: half the sum of the rows' means. -/
theorem cost_eq {n N : Nat} (y t : Fin N → Fin n → EReal) (g : Fin n → EReal) :
    oneHalf * ∑ r, Ideal.div (∑ d, miss (y r) g (t r) d * miss (y r) g (t r) d) width = ∑ r, cost (y r) g (t r) := by
  rw [mul_comm, oneHalf_eq, ← sum_scale _ (by norm_num)]
  refine Finset.sum_congr rfl fun r _ => ?_
  unfold cost
  rw [width_eq, halfPart_eq, Ideal.div_coe (by norm_num), mul_assoc, ← EReal.coe_mul, mul_comm]
  norm_num

/-- The constant goes into a sum over rows. -/
theorem cost_sum {n N : Nat} (y t : Fin N → Fin n → EReal) (g : Fin n → EReal) :
    halfPart * ∑ r, ∑ d, miss (y r) g (t r) d * miss (y r) g (t r) d = ∑ r, cost (y r) g (t r) := by
  unfold cost
  rw [halfPart_eq, mul_comm, ← sum_scale _ (by norm_num)]
  exact Finset.sum_congr rfl fun r _ => mul_comm _ _

end Cert.MlpTalk

end
-- ==== Proof.MlpReference.lean ====
/-
The two layers after the last norm but one, the last norm, the loss, and what flows back out of the loss, as the reference
computes them.
-/
module

public import proofs.«01_k».proof.Proof.Chips
public import proofs.«01_k».proof.Proof.HeadStep
public import proofs.«01_k».proof.Proof.Gen.MlpReferenceIdeal.Read
public import Idealize.ShloMosaic.Lib.Pointwise
public import Idealize.ShloMosaic.Lib.Pointwise.Reduce
public import Idealize.ShloMosaic.Lib.IdealHost

@[expose] public section

noncomputable section

namespace Cert.MlpTalk

open Idealize.ShloMosaic Idealize.ShloMosaic.TcCoe Idealize.ShloMosaic.StableHlo
open Idealize.SL Idealize.SL.Sem
open Cert.BackTalk (scale along through along_eq_through square width small half)
open Cert.MlpReferenceIdeal Cert.MlpReferenceIdeal.Read

/-- The first layer: token `n`'s hidden unit `k`. The weight lies in four parts, one of a chip each, of 1024 columns. -/
def rise (x : S4096x1024.Idx → EReal) (w : S4x1024x1024.Idx → EReal) (n k : Fin 4096) : EReal :=
  ∑ j : Fin 1024, x (ix2 n j) * w (ix3 ⟨k.val / 1024, by omega⟩ j ⟨k.val % 1024, by omega⟩)

def up (x : S4096x1024.Idx → EReal) (w : S4x1024x1024.Idx → EReal) : S4096x4096.Idx → EReal := fun i => rise x w (i 0) (i 1)

/-- The square of what is positive. -/
def fire (u : EReal) : EReal := max u 0 * max u 0

def act (x : S4096x1024.Idx → EReal) (w : S4x1024x1024.Idx → EReal) : S4096x4096.Idx → EReal := fun i => fire (rise x w (i 0) (i 1))

/-- A token's row after the second layer, on top of what passes it by. -/
def out (x h : S4096x1024.Idx → EReal) (w : S4x1024x1024.Idx → EReal) (v : S4096x1024.Idx → EReal) (n : Fin 4096) (d : Fin 1024) : EReal :=
  h (ix2 n d) + ∑ k : Fin 4096, fire (rise x w n k) * v (ix2 k d)

/-- The row of a token; the only row of a gain. -/
def rowOf (x : S4096x1024.Idx → EReal) (n : Fin 4096) : Fin 1024 → EReal := fun k => x (ix2 n k)
def gainRow (g : S1x1024.Idx → EReal) : Fin 1024 → EReal := fun k => g (ix2 0 k)

/-- What flows back to the second layer's result, through the last norm. -/
def back (x h t : S4096x1024.Idx → EReal) (w : S4x1024x1024.Idx → EReal) (v : S4096x1024.Idx → EReal) (g : S1x1024.Idx → EReal) : S4096x1024.Idx → EReal :=
  fun i => along (out x h w v (i 0)) (fun k => slope (out x h w v (i 0)) (gainRow g) (rowOf t (i 0)) k * gainRow g k) (i 1)

/-- The loss of all the tokens. -/
def loss (x h t : S4096x1024.Idx → EReal) (w : S4x1024x1024.Idx → EReal) (v : S4096x1024.Idx → EReal) (g : S1x1024.Idx → EReal) : S8x128.Idx → EReal :=
  fun _ => ∑ n : Fin 4096, cost (out x h w v n) (gainRow g) (rowOf t n)

/-- What a token adds to the gradient of the gain. -/
def gainOf (x h t : S4096x1024.Idx → EReal) (w : S4x1024x1024.Idx → EReal) (v : S4096x1024.Idx → EReal) (g : S1x1024.Idx → EReal) (n : Fin 4096) (d : Fin 1024) : EReal :=
  slope (out x h w v n) (gainRow g) (rowOf t n) d * (out x h w v n d * scale (out x h w v n))

/-- The gradient of the gain. -/
def gain (x h t : S4096x1024.Idx → EReal) (w : S4x1024x1024.Idx → EReal) (v : S4096x1024.Idx → EReal) (g : S1x1024.Idx → EReal) : S1x1024.Idx → EReal :=
  fun i => ∑ n : Fin 4096, gainOf x h t w v g n (i 1)

theorem up_at (x0 : S4096x1024.Idx → EReal) (x3 : S4x1024x1024.Idx → EReal) (n k : Fin 4096) :
    val_main_v4 (F := Ideal) x0 x3 (ix2 n k) = rise x0 x3 n k := by
  pointwise [val_main_v4, val_main_v3, val_main_v2, val_main_v1, val_main_v0]
  rfl

/-- The reference's first result. -/
theorem up_reference (x0 : S4096x1024.Idx → EReal) (x3 : S4x1024x1024.Idx → EReal) : val_main_v4 (F := Ideal) x0 x3 = up x0 x3 :=
  funext fun i => (congrArg _ (eq_ix2 i)).trans (up_at x0 x3 (i 0) (i 1))

theorem act_at (x0 : S4096x1024.Idx → EReal) (x3 : S4x1024x1024.Idx → EReal) (n k : Fin 4096) :
    val_main_v6 (F := Ideal) x0 x3 (ix2 n k) = fire (rise x0 x3 n k) := by
  rw [← up_at]
  unfold val_main_v6 val_main_v5
  generalize val_main_v4 (F := Ideal) x0 x3 = z
  pointwise [val_main_call0_v0, val_main_call0_cst]
  rfl

/-- The reference's second result. -/
theorem act_reference (x0 : S4096x1024.Idx → EReal) (x3 : S4x1024x1024.Idx → EReal) : val_main_v62 (F := Ideal) x0 x3 = act x0 x3 :=
  funext fun i => (congrArg (val_main_v6 (F := Ideal) x0 x3) (eq_ix2 i)).trans (act_at x0 x3 (i 0) (i 1))

theorem out_at (x0 x1 : S4096x1024.Idx → EReal) (x3 : S4x1024x1024.Idx → EReal) (x4 : S4096x1024.Idx → EReal) (n : Fin 4096) (d : Fin 1024) :
    val_main_v9 (F := Ideal) x0 x1 x3 x4 (ix2 n d) = out x0 x1 x3 x4 n d := by
  unfold out
  rw [Finset.sum_congr rfl fun k _ => congrArg (· * x4 (ix2 k d)) (act_at x0 x3 n k).symm]
  unfold val_main_v9 val_main_v8
  generalize val_main_v6 (F := Ideal) x0 x3 = z
  pointwise [val_main_v7]

theorem slope_at (x0 x1 x2 : S4096x1024.Idx → EReal) (x3 : S4x1024x1024.Idx → EReal) (x4 : S4096x1024.Idx → EReal) (x5 : S1x1024.Idx → EReal) (n : Fin 4096) (d : Fin 1024) :
    val_main_v41 (F := Ideal) x0 x1 x2 x3 x4 x5 (ix2 n d) = slope (out x0 x1 x3 x4 n) (gainRow x5) (rowOf x2 n) d := by
  rw [← slope_eq, show out x0 x1 x3 x4 n = _ from funext fun d => (out_at x0 x1 x3 x4 n d).symm]
  unfold val_main_v41 val_main_v30 val_main_v27 val_main_v26 val_main_v23 val_main_v22 val_main_v18 val_main_v17 val_main_v15 val_main_v13 val_main_v12 val_main_v11
  generalize val_main_v9 (F := Ideal) x0 x1 x3 x4 = z
  pointwise [val_main_v40, val_main_v39, val_main_v38, val_main_v37, val_main_v36, val_main_v29, val_main_v25, val_main_v24, val_main_v10, val_main_v14, val_main_v16, val_main_cst, val_main_cst_0, val_main_cst_1, val_main_cst_3, val_main_cst_8, val_main_cst_9, val_main_cst_10]
  unfold miss scale square width small oneHalf two gainRow rowOf
  rfl

theorem miss_at (x0 x1 x2 : S4096x1024.Idx → EReal) (x3 : S4x1024x1024.Idx → EReal) (x4 : S4096x1024.Idx → EReal) (x5 : S1x1024.Idx → EReal) (n : Fin 4096) (d : Fin 1024) :
    val_main_v27 (F := Ideal) x0 x1 x2 x3 x4 x5 (ix2 n d) = miss (out x0 x1 x3 x4 n) (gainRow x5) (rowOf x2 n) d := by
  rw [show out x0 x1 x3 x4 n = _ from funext fun d => (out_at x0 x1 x3 x4 n d).symm]
  unfold val_main_v27 val_main_v26 val_main_v23 val_main_v22 val_main_v18 val_main_v17 val_main_v15 val_main_v13 val_main_v12 val_main_v11
  generalize val_main_v9 (F := Ideal) x0 x1 x3 x4 = z
  pointwise [val_main_v25, val_main_v24, val_main_v10, val_main_v14, val_main_v16, val_main_cst, val_main_cst_0, val_main_cst_1]
  unfold miss scale square width small gainRow rowOf
  rfl

theorem back_at (x0 x1 x2 : S4096x1024.Idx → EReal) (x3 : S4x1024x1024.Idx → EReal) (x4 : S4096x1024.Idx → EReal) (x5 : S1x1024.Idx → EReal) (n : Fin 4096) (d : Fin 1024) :
    val_main_v61 (F := Ideal) x0 x1 x2 x3 x4 x5 (ix2 n d)
      = along (out x0 x1 x3 x4 n) (fun k => slope (out x0 x1 x3 x4 n) (gainRow x5) (rowOf x2 n) k * gainRow x5 k) d := by
  rw [along_eq_through, funext fun k => congrArg (· * gainRow x5 k) (slope_at x0 x1 x2 x3 x4 x5 n k).symm, show out x0 x1 x3 x4 n = _ from funext fun d => (out_at x0 x1 x3 x4 n d).symm]
  unfold val_main_v61 val_main_v60 val_main_v59 val_main_v58 val_main_v57 val_main_v56 val_main_v55 val_main_v53 val_main_v52 val_main_v51 val_main_v50 val_main_v49 val_main_v48 val_main_v46 val_main_v21 val_main_v19 val_main_v18 val_main_v17 val_main_v15 val_main_v13 val_main_v12 val_main_v11
  generalize val_main_v41 (F := Ideal) x0 x1 x2 x3 x4 x5 = s
  generalize val_main_v9 (F := Ideal) x0 x1 x3 x4 = z
  pointwise [val_main_v54, val_main_v45, val_main_v24, val_main_v20, val_main_v16, val_main_v14, val_main_v10, val_main_cst, val_main_cst_0, val_main_cst_1, val_main_cst_2, val_main_cst_13, val_main_cst_14, val_main_cst_15]
  simp only [Fin.sum_univ_one]
  unfold through scale square width small half gainRow
  rfl

/-- The reference's third result, and the fourth. -/
theorem back_reference (x0 x1 x2 : S4096x1024.Idx → EReal) (x3 : S4x1024x1024.Idx → EReal) (x4 : S4096x1024.Idx → EReal) (x5 : S1x1024.Idx → EReal) :
    val_main_v61 (F := Ideal) x0 x1 x2 x3 x4 x5 = back x0 x1 x2 x3 x4 x5 :=
  funext fun i => (congrArg _ (eq_ix2 i)).trans (back_at x0 x1 x2 x3 x4 x5 (i 0) (i 1))

theorem loss_at (x0 x1 x2 : S4096x1024.Idx → EReal) (x3 : S4x1024x1024.Idx → EReal) (x4 : S4096x1024.Idx → EReal) (x5 : S1x1024.Idx → EReal) (a : Fin 8) (b : Fin 128) :
    val_main_v64 (F := Ideal) x0 x1 x2 x3 x4 x5 (ix2 a b) = ∑ n : Fin 4096, cost (out x0 x1 x3 x4 n) (gainRow x5) (rowOf x2 n) := by
  rw [← cost_eq (fun n => out x0 x1 x3 x4 n) (fun n => rowOf x2 n) (gainRow x5)]
  simp only [← miss_at]
  unfold val_main_v64 val_main_v35 val_main_v34 val_main_v33 val_main_v31 val_main_v28
  generalize val_main_v27 (F := Ideal) x0 x1 x2 x3 x4 x5 = z
  pointwise [val_main_v32, val_main_cst_4, val_main_cst_5, val_main_cst_6, val_main_cst_7]
  unfold oneHalf width
  rfl

/-- The reference's fifth result. -/
theorem loss_reference (x0 x1 x2 : S4096x1024.Idx → EReal) (x3 : S4x1024x1024.Idx → EReal) (x4 : S4096x1024.Idx → EReal) (x5 : S1x1024.Idx → EReal) :
    val_main_v64 (F := Ideal) x0 x1 x2 x3 x4 x5 = loss x0 x1 x2 x3 x4 x5 :=
  funext fun i => (congrArg _ (eq_ix2 i)).trans (loss_at x0 x1 x2 x3 x4 x5 (i 0) (i 1))

theorem gain_at (x0 x1 x2 : S4096x1024.Idx → EReal) (x3 : S4x1024x1024.Idx → EReal) (x4 : S4096x1024.Idx → EReal) (x5 : S1x1024.Idx → EReal) (d : Fin 1024) :
    val_main_v65 (F := Ideal) x0 x1 x2 x3 x4 x5 (ix2 0 d) = ∑ n : Fin 4096, gainOf x0 x1 x2 x3 x4 x5 n d := by
  have e : ∑ n : Fin 4096, gainOf x0 x1 x2 x3 x4 x5 n d
      = ∑ n : Fin 4096, val_main_v9 (F := Ideal) x0 x1 x3 x4 (ix2 n d) * scale (fun k => val_main_v9 (F := Ideal) x0 x1 x3 x4 (ix2 n k)) * val_main_v41 (F := Ideal) x0 x1 x2 x3 x4 x5 (ix2 n d) :=
    Finset.sum_congr rfl fun n _ => by
      rw [slope_at, out_at, funext fun k => out_at x0 x1 x3 x4 n k]
      exact mul_comm _ _
  rw [e]
  unfold val_main_v65 val_main_v47 val_main_v44 val_main_v43 val_main_v42 val_main_v23 val_main_v22 val_main_v18 val_main_v17 val_main_v15 val_main_v13 val_main_v12 val_main_v11
  generalize val_main_v41 (F := Ideal) x0 x1 x2 x3 x4 x5 = s
  generalize val_main_v9 (F := Ideal) x0 x1 x3 x4 = z
  pointwise [val_main_v14, val_main_v16, val_main_cst, val_main_cst_0, val_main_cst_1, val_main_cst_11, val_main_cst_12]
  simp only [Fin.sum_univ_one]
  unfold scale square width small
  rfl

/-- The reference's last result. -/
theorem gain_reference (x0 x1 x2 : S4096x1024.Idx → EReal) (x3 : S4x1024x1024.Idx → EReal) (x4 : S4096x1024.Idx → EReal) (x5 : S1x1024.Idx → EReal) :
    val_main_v65 (F := Ideal) x0 x1 x2 x3 x4 x5 = gain x0 x1 x2 x3 x4 x5 :=
  funext fun i => (congrArg _ ((eq_ix2 i).trans (congrArg (ix2 · (i 1)) (Subsingleton.elim (α := Fin 1) _ _)))).trans (gain_at x0 x1 x2 x3 x4 x5 (i 1))

end Cert.MlpTalk

end
-- ==== Proof.MlpValue.lean ====
/-
The two layers, the last norm and the loss: the kernel takes 256 tokens at a time, and the hidden units of one chip after
another; the loss and the gradient of the gain it adds up over the blocks of tokens. Over the extended reals its results
are the reference's.
-/
module

public import proofs.«01_k».proof.Defs
public import proofs.«01_k».proof.Proof.MlpReference
public import proofs.«01_k».proof.Proof.Gen.Mlp.Frame
public import proofs.«01_k».proof.Proof.Gen.MlpIdeal.Value
public import proofs.«01_k».proof.Proof.Gen.MlpReference

@[expose] public section

noncomputable section

namespace Cert.MlpTalk

open Idealize.ShloMosaic Idealize.ShloMosaic.TcCoe Idealize.ShloMosaic.StableHlo
open Idealize.SL Idealize.SL.Sem
open Cert.BackTalk (scale along square width small)
open Cert.MlpIdeal Cert.MlpIdeal.Gen Cert.MlpIdeal.Value

/-- One chip's hidden units, before and after. -/
theorem rise_at (v3 : Vec Ideal S256x1024 .bf16) (v5 : Vec Ideal S1x1024x1024 .bf16) (p : Fin 256) (k : Fin 1024) :
    k0_pay5 v3 v5 (ix2 p k) = ∑ j : Fin 1024, v3 (ix2 p j) * v5 (ix3 0 j k) := by
  pointwise [k0_pay5]

theorem fire_at (v3 : Vec Ideal S256x1024 .bf16) (v5 : Vec Ideal S1x1024x1024 .bf16) (p : Fin 256) (k : Fin 1024) :
    k0_pay6 v3 v5 (ix2 p k) = fire (k0_pay5 v3 v5 (ix2 p k)) := by
  unfold k0_pay6
  generalize k0_pay5 v3 v5 = z
  pointwise []
  rfl

/-- The rows after the second layer, chip by chip. -/
theorem first_at (v3 : Vec Ideal S256x1024 .bf16) (v4 : Vec Ideal S256x1024 .f32) (v5 : Vec Ideal S1x1024x1024 .bf16) (v14 : Vec Ideal S1024x1024 .bf16) (p : Fin 256) (d : Fin 1024) :
    k0_pay7 v3 v4 v5 v14 (ix2 p d) = v4 (ix2 p d) + ∑ k : Fin 1024, k0_pay6 v3 v5 (ix2 p k) * v14 (ix2 k d) := by
  unfold k0_pay7
  generalize k0_pay6 v3 v5 = z
  pointwise []

theorem rest_at (v3 : Vec Ideal S256x1024 .bf16) (v16 : Vec Ideal S256x1024 .f32) (v24 : Vec Ideal S256x1024 .bf16) (v26 : Vec Ideal S1024x1024 .bf16) (v29 : Vec Ideal S1x1024x1024 .bf16) (v38 : Vec Ideal S1024x1024 .bf16) (v41 : Vec Ideal S1x1024x1024 .bf16) (v50 : Vec Ideal S1024x1024 .bf16) (p : Fin 256) (d : Fin 1024) :
    k0_pay14 v3 v16 v24 v26 v29 v38 v41 v50 (ix2 p d) = v16 (ix2 p d) + ∑ k : Fin 1024, v24 (ix2 p k) * v26 (ix2 k d)
      + ∑ k : Fin 1024, k0_pay6 v3 v29 (ix2 p k) * v38 (ix2 k d) + ∑ k : Fin 1024, k0_pay6 v3 v41 (ix2 p k) * v50 (ix2 k d) := by
  rw [show k0_pay6 v3 v29 = k0_pay11 v3 v29 from rfl, show k0_pay6 v3 v41 = k0_pay13 v3 v41 from rfl]
  unfold k0_pay14
  generalize k0_pay11 v3 v29 = z
  generalize k0_pay13 v3 v41 = z'
  pointwise []

theorem squares_at (v3 : Vec Ideal S256x1024 .bf16) (v16 : Vec Ideal S256x1024 .f32) (v24 : Vec Ideal S256x1024 .bf16) (v26 : Vec Ideal S1024x1024 .bf16) (v29 : Vec Ideal S1x1024x1024 .bf16) (v38 : Vec Ideal S1024x1024 .bf16) (v41 : Vec Ideal S1x1024x1024 .bf16) (v50 : Vec Ideal S1024x1024 .bf16) (p : Fin 256) :
    k0_pay15 v3 v16 v24 v26 v29 v38 v41 v50 (ix1 p)
      = ∑ k : Fin 1024, k0_pay14 v3 v16 v24 v26 v29 v38 v41 v50 (ix2 p k) * k0_pay14 v3 v16 v24 v26 v29 v38 v41 v50 (ix2 p k) := by
  unfold k0_pay15
  generalize k0_pay14 v3 v16 v24 v26 v29 v38 v41 v50 = z
  pointwise []

section
variable (y : Vec Ideal S256x1024 .f32) (q : Vec Ideal S256 .f32) (hq : ∀ p : Fin 256, q (ix1 p) = ∑ k : Fin 1024, y (ix2 p k) * y (ix2 p k))
  (g : Vec Ideal S1x1024 .f32) (t : Vec Ideal S256x1024 .f32)
include hq

/-- By how much the rows miss, from the rows and their squares. -/
theorem misses_at (p : Fin 256) (d : Fin 1024) : k0_pay18 y q g t (ix2 p d) = miss (fun k : Fin 1024 => y (ix2 p k)) (fun k => g (ix2 0 k)) (fun k => t (ix2 p k)) d := by
  pointwise [k0_pay18, k0_pay17, k0_pay16]
  rw [hq]
  rfl

/-- What flows back to the rows. -/
theorem rows_at (p : Fin 256) (d : Fin 1024) : k0_pay1 (k0_pay16 q) (k0_pay17 y q) (k0_pay22 y q g t g) (ix2 p d)
    = along (fun k : Fin 1024 => y (ix2 p k)) (fun k => slope (fun k : Fin 1024 => y (ix2 p k)) (fun k => g (ix2 0 k)) (fun k => t (ix2 p k)) k * g (ix2 0 k)) d := by
  unfold slope
  simp only [← misses_at y q hq g t]
  unfold k0_pay22 k0_pay20
  generalize k0_pay18 y q g t = z
  pointwise [k0_pay1, k0_pay17, k0_pay16]
  rw [hq]
  rfl

/-- What a block adds to the loss. -/
theorem costs_at (v : Vec Ideal S8x128 .f32) (a : Fin 8) (b : Fin 128) : k0_pay19 y q g t v (ix2 a b)
    = v (ix2 a b) + ∑ p : Fin 256, cost (fun k : Fin 1024 => y (ix2 p k)) (fun k => g (ix2 0 k)) (fun k => t (ix2 p k)) := by
  rw [← cost_sum (fun (p : Fin 256) (k : Fin 1024) => y (ix2 p k)) (fun p k => t (ix2 p k)) (fun k => g (ix2 0 k))]
  simp only [← misses_at y q hq g t]
  unfold k0_pay19
  generalize k0_pay18 y q g t = z
  pointwise []
  rfl

/-- What a block adds to the gradient of the gain. -/
theorem gains_at (v : Vec Ideal S1x1024 .f32) (d : Fin 1024) : k0_pay21 y q g t v (ix2 0 d)
    = v (ix2 0 d) + ∑ p : Fin 256, slope (fun k : Fin 1024 => y (ix2 p k)) (fun k => g (ix2 0 k)) (fun k => t (ix2 p k)) d * (y (ix2 p d) * scale (fun k : Fin 1024 => y (ix2 p k))) := by
  unfold slope
  simp only [← misses_at y q hq g t]
  unfold k0_pay21 k0_pay20
  generalize k0_pay18 y q g t = z
  pointwise [k0_pay17, k0_pay16]
  simp only [hq]
  rfl

end

theorem start_loss (i : S8x128.Idx) : k0_pay3 (F := Ideal) i = 0 := by
  pointwise [k0_pay3]

theorem start_gain (i : S1x1024.Idx) : k0_pay4 (F := Ideal) i = 0 := by
  pointwise [k0_pay4]

/-- The blocks of a point: its rows of the arrays of tokens, and the whole of the rest. -/
theorem index : ∀ t : Fin cfg0.N, (win0_0.index t (0 : Fin 2) = t.val ∧ win0_0.index t (1 : Fin 2) = 0)
    ∧ (win0_1.index t (0 : Fin 2) = t.val ∧ win0_1.index t (1 : Fin 2) = 0) ∧ (win0_2.index t (0 : Fin 2) = t.val ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0) ∧ (win0_5.index t (0 : Fin 2) = 0 ∧ win0_5.index t (1 : Fin 2) = 0) :=
  by show ∀ t : Fin grid0.N, _; decide +kernel

/-- The same of the results: rows of the first four, the whole of the last two. -/
theorem indexOut : ∀ t : Fin cfg0.N, (win0_6.index t (0 : Fin 2) = t.val ∧ win0_6.index t (1 : Fin 2) = 0)
    ∧ (win0_7.index t (0 : Fin 2) = t.val ∧ win0_7.index t (1 : Fin 2) = 0) ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0) :=
  by show ∀ t : Fin grid0.N, _; decide +kernel

theorem points : cfg0.N = 16 := N_0

/-- The token of a row of a point's block. -/
def token (t : Fin cfg0.N) (p : Fin 256) : Fin 4096 := ⟨t.val * 256 + p.val, by have := t.isLt; have := points; omega⟩

variable (m : (ℓ : Loc nD τ sig) → Buf (Elt Ideal) ℓ)

/-- A device's arguments: the normalized tokens, what passes the layers by, the targets, the two weights, and the gain. -/
abbrev ns (c : Dev nD) : S4096x1024.Idx → EReal := m ((c.tc : Thread nD τ).loc main_arg0)
abbrev hs (c : Dev nD) : S4096x1024.Idx → EReal := m ((c.tc : Thread nD τ).loc main_arg1)
abbrev ts (c : Dev nD) : S4096x1024.Idx → EReal := m ((c.tc : Thread nD τ).loc main_arg2)
abbrev ws (c : Dev nD) : S4x1024x1024.Idx → EReal := m ((c.tc : Thread nD τ).loc main_arg3)
abbrev vs (c : Dev nD) : S4096x1024.Idx → EReal := m ((c.tc : Thread nD τ).loc main_arg4)
abbrev gs (c : Dev nD) : S1x1024.Idx → EReal := m ((c.tc : Thread nD τ).loc main_arg5)

theorem ns_at (c : Dev nD) (t : Fin cfg0.N) (p : Fin 256) (k : Fin 1024) : iblk m c 0 t (ix2 p k) = ns m c (ix2 (token t p) k) := by
  obtain ⟨⟨e0, e1⟩, -⟩ := index t
  show V m c main_arg0 (((cfg0.win 0).blk t).view.emb (ix2 p k)) = _
  refine congrArg (ns m c) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem hs_at (c : Dev nD) (t : Fin cfg0.N) (p : Fin 256) (k : Fin 1024) : iblk m c 1 t (ix2 p k) = hs m c (ix2 (token t p) k) := by
  obtain ⟨-, ⟨e0, e1⟩, -⟩ := index t
  show V m c main_arg1 (((cfg0.win 1).blk t).view.emb (ix2 p k)) = _
  refine congrArg (hs m c) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem ts_at (c : Dev nD) (t : Fin cfg0.N) (p : Fin 256) (k : Fin 1024) : iblk m c 2 t (ix2 p k) = ts m c (ix2 (token t p) k) := by
  obtain ⟨-, -, ⟨e0, e1⟩, -⟩ := index t
  show V m c main_arg2 (((cfg0.win 2).blk t).view.emb (ix2 p k)) = _
  refine congrArg (ts m c) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

theorem ws_at (c : Dev nD) (t : Fin cfg0.N) (s : Fin 4) (d k : Fin 1024) : iblk m c 3 t (ix3 s d k) = ws m c (ix3 s d k) := by
  obtain ⟨-, -, -, ⟨e0, e1, e2⟩, -⟩ := index t
  show V m c main_arg3 (((cfg0.win 3).blk t).view.emb (ix3 s d k)) = _
  refine congrArg (ws m c) (funext fun a => Fin.ext ?_)
  match a with
  | ⟨0, _⟩ => show win0_3.index t (0 : Fin 3) * 4 + 1 * s.val = s.val; omega
  | ⟨1, _⟩ => show win0_3.index t (1 : Fin 3) * 1024 + 1 * d.val = d.val; omega
  | ⟨2, _⟩ => show win0_3.index t (2 : Fin 3) * 1024 + 1 * k.val = k.val; omega

theorem vs_at (c : Dev nD) (t : Fin cfg0.N) (p : Fin 4096) (k : Fin 1024) : iblk m c 4 t (ix2 p k) = vs m c (ix2 p k) := by
  obtain ⟨-, -, -, -, ⟨e0, e1⟩, -⟩ := index t
  show V m c main_arg4 (((cfg0.win 4).blk t).view.emb (ix2 p k)) = _
  refine congrArg (vs m c) (funext fun a => Fin.ext ?_)
  match a with
  | ⟨0, _⟩ => show win0_4.index t (0 : Fin 2) * 4096 + 1 * p.val = p.val; omega
  | ⟨1, _⟩ => show win0_4.index t (1 : Fin 2) * 1024 + 1 * k.val = k.val; omega

theorem gs_at (c : Dev nD) (t : Fin cfg0.N) (k : Fin 1024) : iblk m c 5 t (ix2 0 k) = gs m c (ix2 0 k) := by
  obtain ⟨-, -, -, -, -, e0, e1⟩ := index t
  show V m c main_arg5 (((cfg0.win 5).blk t).view.emb (ix2 0 k)) = _
  refine congrArg (gs m c) (funext fun a => Fin.ext ?_)
  match a with
  | ⟨0, _⟩ => show win0_5.index t (0 : Fin 2) * 1 + 1 * 0 = 0; omega
  | ⟨1, _⟩ => show win0_5.index t (1 : Fin 2) * 1024 + 1 * k.val = k.val; omega

/-- The parts of the weights that the body reads, one chip's each. -/
abbrev w0 (c : Dev nD) (t : Fin cfg0.N) : Vec Ideal S1x1024x1024 .bf16 := View.ld (iblk m c 3 t) (Rect.unit ![0, 0, 0] S1x1024x1024.size inb_S4x1024x1024_S1x1024x1024_0_0_0)
abbrev w1 (c : Dev nD) (t : Fin cfg0.N) : Vec Ideal S1x1024x1024 .bf16 := View.ld (iblk m c 3 t) (Rect.unit ![1, 0, 0] S1x1024x1024.size inb_S4x1024x1024_S1x1024x1024_1_0_0)
abbrev w2 (c : Dev nD) (t : Fin cfg0.N) : Vec Ideal S1x1024x1024 .bf16 := View.ld (iblk m c 3 t) (Rect.unit ![2, 0, 0] S1x1024x1024.size inb_S4x1024x1024_S1x1024x1024_2_0_0)
abbrev w3 (c : Dev nD) (t : Fin cfg0.N) : Vec Ideal S1x1024x1024 .bf16 := View.ld (iblk m c 3 t) (Rect.unit ![3, 0, 0] S1x1024x1024.size inb_S4x1024x1024_S1x1024x1024_3_0_0)
abbrev v0 (c : Dev nD) (t : Fin cfg0.N) : Vec Ideal S1024x1024 .bf16 := View.ld (iblk m c 4 t) (Rect.unit ![0, 0] S1024x1024.size inb_S4096x1024_S1024x1024_0_0)
abbrev v1 (c : Dev nD) (t : Fin cfg0.N) : Vec Ideal S1024x1024 .bf16 := View.ld (iblk m c 4 t) (Rect.unit ![1024, 0] S1024x1024.size inb_S4096x1024_S1024x1024_1024_0)
abbrev v2 (c : Dev nD) (t : Fin cfg0.N) : Vec Ideal S1024x1024 .bf16 := View.ld (iblk m c 4 t) (Rect.unit ![2048, 0] S1024x1024.size inb_S4096x1024_S1024x1024_2048_0)
abbrev v3 (c : Dev nD) (t : Fin cfg0.N) : Vec Ideal S1024x1024 .bf16 := View.ld (iblk m c 4 t) (Rect.unit ![3072, 0] S1024x1024.size inb_S4096x1024_S1024x1024_3072_0)

theorem chip_at (c : Dev nD) (t : Fin cfg0.N) (s : Fin 4) (o : Nat) (ho : o = s.val)
    (h : ∀ a, (![o, 0, 0] : Fin 3 → Nat) a + S1x1024x1024.size a ≤ S4x1024x1024.size a) (j k : Fin 1024) :
    View.ld (iblk m c 3 t) (Rect.unit ![o, 0, 0] S1x1024x1024.size h) (ix3 0 j k) = ws m c (ix3 s j k) := by
  subst ho
  exact (Chips.ld_chip (iblk m c 3 t) s.val h j k s.isLt).trans (ws_at m c t s j k)

theorem units_at (c : Dev nD) (t : Fin cfg0.N) (s : Fin 4) (o : Nat) (ho : o = s.val * 1024)
    (h : ∀ a, (![o, 0] : Fin 2 → Nat) a + S1024x1024.size a ≤ S4096x1024.size a) (k d : Fin 1024) :
    View.ld (iblk m c 4 t) (Rect.unit ![o, 0] S1024x1024.size h) (ix2 k d) = vs m c (ix2 ⟨s.val * 1024 + k.val, by omega⟩ d) := by
  subst ho
  exact (Chips.ld_rows (iblk m c 4 t) (s.val * 1024) h k d (by omega)).trans (vs_at m c t _ d)

/-- One chip's hidden units are the reference's. -/
theorem piece_at (c : Dev nD) (t : Fin cfg0.N) (s : Fin 4) (w : Vec Ideal S1x1024x1024 .bf16) (hw : ∀ j k : Fin 1024, w (ix3 0 j k) = ws m c (ix3 s j k))
    (p : Fin 256) (k : Fin 1024) (h : s.val * 1024 + k.val < 4096) :
    k0_pay5 (iblk m c 0 t) w (ix2 p k) = rise (ns m c) (ws m c) (token t p) ⟨s.val * 1024 + k.val, h⟩ := by
  refine (rise_at _ _ p k).trans (Finset.sum_congr rfl fun j _ => congrArg₂ (fun u v : EReal => u * v) (ns_at m c t p j) ((hw j k).trans (congrArg (ws m c) ?_)))
  have e1 : (⟨(s.val * 1024 + k.val) / 1024, by omega⟩ : Fin 4) = s := Fin.ext (by show (s.val * 1024 + k.val) / 1024 = s.val; omega)
  have e2 : (⟨(s.val * 1024 + k.val) % 1024, by omega⟩ : Fin 1024) = k := Fin.ext (by show (s.val * 1024 + k.val) % 1024 = k.val; omega)
  show ix3 s j k = ix3 (⟨(s.val * 1024 + k.val) / 1024, by omega⟩ : Fin 4) j (⟨(s.val * 1024 + k.val) % 1024, by omega⟩ : Fin 1024)
  rw [e1, e2]

theorem fires_at (c : Dev nD) (t : Fin cfg0.N) (s : Fin 4) (w : Vec Ideal S1x1024x1024 .bf16) (hw : ∀ j k : Fin 1024, w (ix3 0 j k) = ws m c (ix3 s j k))
    (p : Fin 256) (k : Fin 1024) (h : s.val * 1024 + k.val < 4096) :
    k0_pay6 (iblk m c 0 t) w (ix2 p k) = fire (rise (ns m c) (ws m c) (token t p) ⟨s.val * 1024 + k.val, h⟩) :=
  (fire_at _ _ p k).trans (congrArg fire (piece_at m c t s w hw p k h))

/-- One chip's part of the second layer. -/
def portion (c : Dev nD) (t : Fin cfg0.N) (p : Fin 256) (d : Fin 1024) (s : Fin 4) (k : Fin 1024) : EReal :=
  fire (rise (ns m c) (ws m c) (token t p) ⟨s.val * 1024 + k.val, by omega⟩) * vs m c (ix2 ⟨s.val * 1024 + k.val, by omega⟩ d)

theorem portion_at (c : Dev nD) (t : Fin cfg0.N) (p : Fin 256) (d : Fin 1024) (s : Fin 4) (a : Vec Ideal S256x1024 .bf16) (b : Vec Ideal S1024x1024 .bf16)
    (ha : ∀ (p : Fin 256) (k : Fin 1024) (h : s.val * 1024 + k.val < 4096), a (ix2 p k) = fire (rise (ns m c) (ws m c) (token t p) ⟨s.val * 1024 + k.val, h⟩))
    (hb : ∀ k d : Fin 1024, b (ix2 k d) = vs m c (ix2 ⟨s.val * 1024 + k.val, by omega⟩ d)) :
    ∑ k : Fin 1024, a (ix2 p k) * b (ix2 k d) = ∑ k, portion m c t p d s k :=
  Finset.sum_congr rfl fun k _ => congrArg₂ (fun u v : EReal => u * v) (ha p k (by omega)) (hb k d)

/-- The rows after the second layer, and their squares, as the body forms them. -/
def ys (c : Dev nD) (t : Fin cfg0.N) : Vec Ideal S256x1024 .f32 :=
  k0_pay14 (iblk m c 0 t) (k0_pay7 (iblk m c 0 t) (iblk m c 1 t) (w0 m c t) (v0 m c t)) (k0_pay9 (iblk m c 0 t) (w1 m c t)) (v1 m c t) (w2 m c t) (v2 m c t) (w3 m c t) (v3 m c t)
def qs (c : Dev nD) (t : Fin cfg0.N) : Vec Ideal S256 .f32 :=
  k0_pay15 (iblk m c 0 t) (k0_pay7 (iblk m c 0 t) (iblk m c 1 t) (w0 m c t) (v0 m c t)) (k0_pay9 (iblk m c 0 t) (w1 m c t)) (v1 m c t) (w2 m c t) (v2 m c t) (w3 m c t) (v3 m c t)

theorem qs_at (c : Dev nD) (t : Fin cfg0.N) (p : Fin 256) : qs m c t (ix1 p) = ∑ k : Fin 1024, ys m c t (ix2 p k) * ys m c t (ix2 p k) :=
  squares_at _ _ _ _ _ _ _ _ p

theorem ys_at (c : Dev nD) (t : Fin cfg0.N) (p : Fin 256) (d : Fin 1024) : ys m c t (ix2 p d) = out (ns m c) (hs m c) (ws m c) (vs m c) (token t p) d := by
  refine (rest_at _ _ _ _ _ _ _ _ p d).trans ?_
  rw [first_at, hs_at]
  unfold out
  rw [Chips.four (show 4 * 1024 = 4096 from rfl) _ (portion m c t p d) (fun s k h => rfl),
    portion_at m c t p d 0 _ _ (fires_at m c t 0 _ (chip_at m c t 0 0 rfl _)) (units_at m c t 0 0 rfl _),
    portion_at m c t p d 1 (k0_pay9 (iblk m c 0 t) (w1 m c t)) _ (fires_at m c t 1 _ (chip_at m c t 1 1 rfl _)) (units_at m c t 1 1024 rfl _),
    portion_at m c t p d 2 _ _ (fires_at m c t 2 _ (chip_at m c t 2 2 rfl _)) (units_at m c t 2 2048 rfl _),
    portion_at m c t p d 3 _ _ (fires_at m c t 3 _ (chip_at m c t 3 3 rfl _)) (units_at m c t 3 3072 rfl _)]
  simp only [add_assoc]

end Cert.MlpTalk

end
-- ==== Proof.MlpResults.lean ====
/-
The two layers, the last norm and the loss: what the kernel leaves in its six results, and that the reference leaves the same.
-/
module

public import proofs.«01_k».proof.Defs
public import proofs.«01_k».proof.Proof.MlpValue

@[expose] public section

noncomputable section

namespace Cert.MlpTalk

open Idealize.ShloMosaic Idealize.ShloMosaic.TcCoe Idealize.ShloMosaic.StableHlo
open Idealize.SL Idealize.SL.Sem
open Cert.BackTalk (scale along square width small)
open Cert.MlpIdeal Cert.MlpIdeal.Gen Cert.MlpIdeal.Value

variable (m : (ℓ : Loc nD τ sig) → Buf (Elt Ideal) ℓ)

theorem zero2 : (![0, 0] : Fin 2 → Nat) = fun _ => 0 := funext fun a => by fin_cases a <;> rfl

/-- A point's block of the first result, put together from the four chips' parts. -/
theorem left_up (c : Dev nD) (t : Fin cfg0.N) :
    (outsAt0 m c t.val t.isLt).1 = fun j : S256x4096.Idx => rise (ns m c) (ws m c) (token t (j 0)) (j 1) := by
  by_cases h0 : t.val % 16 = 0
  on_goal 1 =>
    rw [outsAt0_A m c t h0]
    dsimp only
    unfold out0_A_6
    rw [View.read_writes_eq_canon _ _ _ (fun _ => cover0_A_6 ..)]
    unfold kernelRun0_A
  on_goal 2 =>
    rw [outsAt0_B m c t h0]
    dsimp only
    unfold out0_B_6
    rw [View.read_writes_eq_canon _ _ _ (fun _ => cover0_B_6 ..)]
    unfold kernelRun0_B
  all_goals
    dsimp only
    sl_unfold_words
    simp only [View.readAt_eq_ld, (hs0_0 t).read_unread, (hs0_3 t).read_unread, View.ld_unit_zero (S := S256x1024) zero2]
    refine Chips.canon_four (Val := Elt Ideal) (e := .f32) (R := 256) (w := 1024) (W := 4096) rfl (fun j => rise (ns m c) (ws m c) (token t (j 0)) (j 1)) _ _ _ _ _ _ _ _ rfl rfl rfl rfl _ _ _ _ ?_ ?_ ?_ ?_
    · exact piece_at m c t 0 _ (chip_at m c t 0 0 rfl _)
    · exact piece_at m c t 1 _ (chip_at m c t 1 1 rfl _)
    · exact piece_at m c t 2 _ (chip_at m c t 2 2 rfl _)
    · exact piece_at m c t 3 _ (chip_at m c t 3 3 rfl _)

/-- The same of the second. -/
theorem left_act (c : Dev nD) (t : Fin cfg0.N) :
    (outsAt0 m c t.val t.isLt).2.1 = fun j : S256x4096.Idx => fire (rise (ns m c) (ws m c) (token t (j 0)) (j 1)) := by
  by_cases h0 : t.val % 16 = 0
  on_goal 1 =>
    rw [outsAt0_A m c t h0]
    dsimp only
    unfold out0_A_7
    rw [View.read_writes_eq_canon _ _ _ (fun _ => cover0_A_7 ..)]
    unfold kernelRun0_A
  on_goal 2 =>
    rw [outsAt0_B m c t h0]
    dsimp only
    unfold out0_B_7
    rw [View.read_writes_eq_canon _ _ _ (fun _ => cover0_B_7 ..)]
    unfold kernelRun0_B
  all_goals
    dsimp only
    sl_unfold_words
    simp only [View.readAt_eq_ld, (hs0_0 t).read_unread, (hs0_3 t).read_unread, View.ld_unit_zero (S := S256x1024) zero2]
    refine Chips.canon_four (Val := Elt Ideal) (e := .bf16) (R := 256) (w := 1024) (W := 4096) rfl (fun j => fire (rise (ns m c) (ws m c) (token t (j 0)) (j 1))) _ _ _ _ _ _ _ _ rfl rfl rfl rfl _ _ _ _ ?_ ?_ ?_ ?_
    · exact fires_at m c t 0 _ (chip_at m c t 0 0 rfl _)
    · exact fires_at m c t 1 _ (chip_at m c t 1 1 rfl _)
    · exact fires_at m c t 2 _ (chip_at m c t 2 2 rfl _)
    · exact fires_at m c t 3 _ (chip_at m c t 3 3 rfl _)

/-- A point's block of what flows back. -/
def rowsBack (c : Dev nD) (t : Fin cfg0.N) : Vec Ideal S256x1024 .f32 :=
  k0_pay1 (k0_pay16 (qs m c t)) (k0_pay17 (ys m c t) (qs m c t)) (k0_pay22 (ys m c t) (qs m c t) (iblk m c 5 t) (iblk m c 2 t) (iblk m c 5 t))

theorem left_back (c : Dev nD) (t : Fin cfg0.N) : (outsAt0 m c t.val t.isLt).2.2.1 = rowsBack m c t := by
  by_cases h0 : t.val % 16 = 0
  on_goal 1 =>
    rw [outsAt0_A m c t h0]
    dsimp only
    unfold out0_A_8
    rw [View.read_writes_eq_canon _ _ _ (fun _ => cover0_A_8 ..)]
    unfold kernelRun0_A
  on_goal 2 =>
    rw [outsAt0_B m c t h0]
    dsimp only
    unfold out0_B_8
    rw [View.read_writes_eq_canon _ _ _ (fun _ => cover0_B_8 ..)]
    unfold kernelRun0_B
  all_goals
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      View.ld_unit_zero (S := S256x1024) zero2, View.ld_unit_zero (S := S1x1024) zero2]
    rfl

/-- The rounded copy: over the extended reals the same. -/
theorem left_copy (c : Dev nD) (t : Fin cfg0.N) : (outsAt0 m c t.val t.isLt).2.2.2.1 = rowsBack m c t := by
  by_cases h0 : t.val % 16 = 0
  on_goal 1 =>
    rw [outsAt0_A m c t h0]
    dsimp only
    unfold out0_A_9
    rw [View.read_writes_eq_canon _ _ _ (fun _ => cover0_A_9 ..)]
    unfold kernelRun0_A
  on_goal 2 =>
    rw [outsAt0_B m c t h0]
    dsimp only
    unfold out0_B_9
    rw [View.read_writes_eq_canon _ _ _ (fun _ => cover0_B_9 ..)]
    unfold kernelRun0_B
  all_goals
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread,
      View.ld_unit_zero (S := S256x1024) zero2, View.ld_unit_zero (S := S1x1024) zero2]
    rfl

/-- The running loss after the first point, and after a later one. -/
theorem loss_first (c : Dev nD) (t : Fin cfg0.N) (h0 : t.val % 16 = 0) :
    (outsAt0 m c t.val t.isLt).2.2.2.2.1 = k0_pay19 (ys m c t) (qs m c t) (iblk m c 5 t) (iblk m c 2 t) (k0_pay3 (F := Ideal)) := by
  rw [outsAt0_A m c t h0]
  dsimp only
  unfold out0_A_10
  rw [View.read_writes_eq_canon _ _ _ (fun _ => cover0_A_10 ..)]
  unfold kernelRun0_A
  dsimp only
  sl_unfold_words
  rw [View.canon_cons_unit_zero (S := S8x128) zero2, View.readCov_unit_zero (S := S8x128) _ zero2]
  simp only [View.readAt_eq_ld, (hs0_0 t).read_unread, (hs0_1 t).read_unread, (hs0_2 t).read_unread, (hs0_3 t).read_unread, (hs0_4 t).read_unread, (hs0_5 t).read_unread,
    View.ld_unit_zero (S := S256x1024) zero2, View.ld_unit_zero (S := S1x1024) zero2]
  rfl

theorem loss_later (c : Dev nD) (t : Fin cfg0.N) (h0 : ¬t.val % 16 = 0) :
    (outsAt0 m c t.val t.isLt).2.2.2.2.1 = k0_pay19 (ys m c t) (qs m c t) (iblk m c 5 t) (iblk m c 2 t) (outsAt0 m c (t.val - 1) (Nat.lt_of_le_of_lt (Nat.sub_le _ _) t.isLt)).2.2.2.2.1 := by
  rw [outsAt0_B m c t h0]
  dsimp only
  unfold out0_B_10
  rw [View.read_writes_eq_canon _ _ _ (fun _ => cover0_B_10 ..)]
  unfold kernelRun0_B
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_5 t).read_unread, (hs0_10 t).read_unread,
    View.ld_unit_zero (S := S256x1024) zero2, View.ld_unit_zero (S := S1x1024) zero2, View.ld_unit_zero (S := S8x128) zero2]
  rfl

/-- The running gradient of the gain after the first point, and after a later one. -/
theorem gain_first (c : Dev nD) (t : Fin cfg0.N) (h0 : t.val % 16 = 0) :
    (outsAt0 m c t.val t.isLt).2.2.2.2.2 = k0_pay21 (ys m c t) (qs m c t) (iblk m c 5 t) (iblk m c 2 t) (k0_pay4 (F := Ideal)) := by
  rw [outsAt0_A m c t h0]
  dsimp only
  unfold out0_A_11
  rw [View.read_writes_eq_canon _ _ _ (fun _ => cover0_A_11 ..)]
  unfold kernelRun0_A
  dsimp only
  sl_unfold_words
  rw [View.canon_cons_unit_zero (S := S1x1024) zero2, View.readCov_unit_zero (S := S1x1024) _ zero2]
  simp only [View.readAt_eq_ld, (hs0_0 t).read_unread, (hs0_1 t).read_unread, (hs0_2 t).read_unread, (hs0_3 t).read_unread, (hs0_4 t).read_unread, (hs0_5 t).read_unread,
    View.ld_unit_zero (S := S256x1024) zero2, View.ld_unit_zero (S := S1x1024) zero2]
  rfl

theorem gain_later (c : Dev nD) (t : Fin cfg0.N) (h0 : ¬t.val % 16 = 0) :
    (outsAt0 m c t.val t.isLt).2.2.2.2.2 = k0_pay21 (ys m c t) (qs m c t) (iblk m c 5 t) (iblk m c 2 t) (outsAt0 m c (t.val - 1) (Nat.lt_of_le_of_lt (Nat.sub_le _ _) t.isLt)).2.2.2.2.2 := by
  rw [outsAt0_B m c t h0]
  dsimp only
  unfold out0_B_11
  rw [View.read_writes_eq_canon _ _ _ (fun _ => cover0_B_11 ..)]
  unfold kernelRun0_B
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_5 t).read_unread, (hs0_11 t).read_unread,
    View.ld_unit_zero (S := S256x1024) zero2, View.ld_unit_zero (S := S1x1024) zero2]
  rfl

/-- The rows a point works on, as the reference has them. -/
theorem ys_row (c : Dev nD) (t : Fin cfg0.N) (p : Fin 256) : (fun k : Fin 1024 => ys m c t (ix2 p k)) = out (ns m c) (hs m c) (ws m c) (vs m c) (token t p) :=
  funext fun k => ys_at m c t p k
theorem gs_row (c : Dev nD) (t : Fin cfg0.N) : (fun k : Fin 1024 => (iblk m c 5 t) (ix2 0 k)) = gainRow (gs m c) :=
  funext fun k => gs_at m c t k
theorem ts_row (c : Dev nD) (t : Fin cfg0.N) (p : Fin 256) : (fun k : Fin 1024 => (iblk m c 2 t) (ix2 p k)) = rowOf (ts m c) (token t p) :=
  funext fun k => ts_at m c t p k

theorem rowsBack_at (c : Dev nD) (t : Fin cfg0.N) (p : Fin 256) (d : Fin 1024) :
    rowsBack m c t (ix2 p d) = back (ns m c) (hs m c) (ts m c) (ws m c) (vs m c) (gs m c) (ix2 (token t p) d) := by
  refine (rows_at (ys m c t) (qs m c t) (qs_at m c t) (iblk m c 5 t) (iblk m c 2 t) p d).trans ?_
  rw [ys_row, gs_row, ts_row, funext fun k : Fin 1024 => congrArg (slope _ _ _ k * ·) (gs_at m c t k)]
  rfl

/-- What a token, given by its number, adds to the loss, and to the gain's gradient; nothing past the last. -/
def costs (c : Dev nD) (k : Nat) : EReal := if h : k < 4096 then cost (out (ns m c) (hs m c) (ws m c) (vs m c) ⟨k, h⟩) (gainRow (gs m c)) (rowOf (ts m c) ⟨k, h⟩) else 0
def adds (c : Dev nD) (k : Nat) (d : Fin 1024) : EReal := if h : k < 4096 then gainOf (ns m c) (hs m c) (ts m c) (ws m c) (vs m c) (gs m c) ⟨k, h⟩ d else 0

theorem costs_eq (c : Dev nD) (n : Fin 4096) : cost (out (ns m c) (hs m c) (ws m c) (vs m c) n) (gainRow (gs m c)) (rowOf (ts m c) n) = costs m c n.val := by
  unfold costs
  rw [dif_pos n.isLt]

theorem adds_eq (c : Dev nD) (n : Fin 4096) (d : Fin 1024) : gainOf (ns m c) (hs m c) (ts m c) (ws m c) (vs m c) (gs m c) n d = adds m c n.val d := by
  unfold adds
  rw [dif_pos n.isLt]

theorem cost_step (c : Dev nD) (t : Fin cfg0.N) (v : Vec Ideal S8x128 .f32) (a : Fin 8) (b : Fin 128) :
    k0_pay19 (ys m c t) (qs m c t) (iblk m c 5 t) (iblk m c 2 t) v (ix2 a b) = v (ix2 a b) + ∑ p : Fin 256, costs m c (t.val * 256 + p.val) := by
  refine (costs_at (ys m c t) (qs m c t) (qs_at m c t) (iblk m c 5 t) (iblk m c 2 t) v a b).trans (congrArg _ (Finset.sum_congr rfl fun p _ => ?_))
  rw [ys_row, gs_row, ts_row]
  exact costs_eq m c (token t p)

theorem gain_step (c : Dev nD) (t : Fin cfg0.N) (v : Vec Ideal S1x1024 .f32) (d : Fin 1024) :
    k0_pay21 (ys m c t) (qs m c t) (iblk m c 5 t) (iblk m c 2 t) v (ix2 0 d) = v (ix2 0 d) + ∑ p : Fin 256, adds m c (t.val * 256 + p.val) d := by
  refine (gains_at (ys m c t) (qs m c t) (qs_at m c t) (iblk m c 5 t) (iblk m c 2 t) v d).trans (congrArg _ (Finset.sum_congr rfl fun p _ => ?_))
  rw [ys_row, gs_row, ts_row, ys_at]
  exact adds_eq m c (token t p) d

/-- The running sums after point `n`: the tokens up to it. -/
theorem cost_sum_at (c : Dev nD) (n : Nat) (h : n < cfg0.N) (i : Fin 8 × Fin 128) :
    (outsAt0 m c n h).2.2.2.2.1 (ix2 i.1 i.2) = ∑ s ∈ Finset.range (n % 16 + 1), ∑ p : Fin 256, costs m c ((n - n % 16 + s) * 256 + p.val) :=
  TileSum.running 16 (fun n h (i : Fin 8 × Fin 128) => (outsAt0 m c n h).2.2.2.2.1 (ix2 i.1 i.2)) (fun n _ => ∑ p : Fin 256, costs m c (n * 256 + p.val))
    (fun n h hz i => by
      refine (congrFun (loss_first m c ⟨n, h⟩ hz) _).trans ?_
      rw [cost_step, start_loss, zero_add])
    (fun n h hz i => by
      refine (congrFun (loss_later m c ⟨n + 1, h⟩ hz) _).trans ?_
      rw [cost_step]
      rfl)
    n h i

theorem gain_sum_at (c : Dev nD) (n : Nat) (h : n < cfg0.N) (d : Fin 1024) :
    (outsAt0 m c n h).2.2.2.2.2 (ix2 0 d) = ∑ s ∈ Finset.range (n % 16 + 1), ∑ p : Fin 256, adds m c ((n - n % 16 + s) * 256 + p.val) d :=
  TileSum.running 16 (fun n h d => (outsAt0 m c n h).2.2.2.2.2 (ix2 0 d)) (fun n d => ∑ p : Fin 256, adds m c (n * 256 + p.val) d)
    (fun n h hz d => by
      refine (congrFun (gain_first m c ⟨n, h⟩ hz) _).trans ?_
      rw [gain_step, start_gain, zero_add])
    (fun n h hz d => by
      refine (congrFun (gain_later m c ⟨n + 1, h⟩ hz) _).trans ?_
      rw [gain_step]
      rfl)
    n h d

/-- What a point writes back of the first result: its rows. -/
theorem flushed_up (c : Dev nD) (t : Fin cfg0.N) :
    (dats m 0 c).flushed 6 t = ((cfg0.win 6).blk t).view.read (Elt Ideal) (up (ns m c) (ws m c)) := by
  rw [flushed6, left_up]
  obtain ⟨⟨e0, e1⟩, -⟩ := indexOut t
  funext j
  obtain ⟨p, d, rfl⟩ : ∃ (p : Fin 256) (d : Fin 4096), j = ix2 p d := ⟨j 0, j 1, eq_ix2 j⟩
  have e : ((cfg0.win 6).blk t).view.emb (ix2 p d) = ix2 (token t p) d := funext fun a => Fin.ext (match a with
    | ⟨0, _⟩ => by show win0_6.index t (0 : Fin 2) * 256 + 1 * p.val = t.val * 256 + p.val; omega
    | ⟨1, _⟩ => by show win0_6.index t (1 : Fin 2) * 4096 + 1 * d.val = d.val; omega)
  refine Eq.trans ?_ (congrArg (up (ns m c) (ws m c)) e).symm
  rfl

/-- The same of the second. -/
theorem flushed_act (c : Dev nD) (t : Fin cfg0.N) :
    (dats m 0 c).flushed 7 t = ((cfg0.win 7).blk t).view.read (Elt Ideal) (act (ns m c) (ws m c)) := by
  rw [flushed7, left_act]
  obtain ⟨-, ⟨e0, e1⟩, -⟩ := indexOut t
  funext j
  obtain ⟨p, d, rfl⟩ : ∃ (p : Fin 256) (d : Fin 4096), j = ix2 p d := ⟨j 0, j 1, eq_ix2 j⟩
  have e : ((cfg0.win 7).blk t).view.emb (ix2 p d) = ix2 (token t p) d := funext fun a => Fin.ext (match a with
    | ⟨0, _⟩ => by show win0_7.index t (0 : Fin 2) * 256 + 1 * p.val = t.val * 256 + p.val; omega
    | ⟨1, _⟩ => by show win0_7.index t (1 : Fin 2) * 4096 + 1 * d.val = d.val; omega)
  refine Eq.trans ?_ (congrArg (act (ns m c) (ws m c)) e).symm
  rfl

/-- The same of the third, and of its copy. -/
theorem flushed_back (c : Dev nD) (t : Fin cfg0.N) :
    (dats m 0 c).flushed 8 t = ((cfg0.win 8).blk t).view.read (Elt Ideal) (back (ns m c) (hs m c) (ts m c) (ws m c) (vs m c) (gs m c)) := by
  rw [flushed8, left_back]
  obtain ⟨-, -, ⟨e0, e1⟩, -⟩ := indexOut t
  funext j
  obtain ⟨p, d, rfl⟩ : ∃ (p : Fin 256) (d : Fin 1024), j = ix2 p d := ⟨j 0, j 1, eq_ix2 j⟩
  have e : ((cfg0.win 8).blk t).view.emb (ix2 p d) = ix2 (token t p) d := funext fun a => Fin.ext (match a with
    | ⟨0, _⟩ => by show win0_8.index t (0 : Fin 2) * 256 + 1 * p.val = t.val * 256 + p.val; omega
    | ⟨1, _⟩ => by show win0_8.index t (1 : Fin 2) * 1024 + 1 * d.val = d.val; omega)
  refine Eq.trans ?_ (congrArg (back (ns m c) (hs m c) (ts m c) (ws m c) (vs m c) (gs m c)) e).symm
  exact rowsBack_at m c t p d

theorem flushed_copy (c : Dev nD) (t : Fin cfg0.N) :
    (dats m 0 c).flushed 9 t = ((cfg0.win 9).blk t).view.read (Elt Ideal) (back (ns m c) (hs m c) (ts m c) (ws m c) (vs m c) (gs m c)) := by
  rw [flushed9, left_copy]
  obtain ⟨-, -, -, ⟨e0, e1⟩, -⟩ := indexOut t
  funext j
  obtain ⟨p, d, rfl⟩ : ∃ (p : Fin 256) (d : Fin 1024), j = ix2 p d := ⟨j 0, j 1, eq_ix2 j⟩
  have e : ((cfg0.win 9).blk t).view.emb (ix2 p d) = ix2 (token t p) d := funext fun a => Fin.ext (match a with
    | ⟨0, _⟩ => by show win0_9.index t (0 : Fin 2) * 256 + 1 * p.val = t.val * 256 + p.val; omega
    | ⟨1, _⟩ => by show win0_9.index t (1 : Fin 2) * 1024 + 1 * d.val = d.val; omega)
  refine Eq.trans ?_ (congrArg (back (ns m c) (hs m c) (ts m c) (ws m c) (vs m c) (gs m c)) e).symm
  exact rowsBack_at m c t p d

/-- What the last point writes back of the loss: the sum over all the tokens. The same of the gradient of the gain. -/
theorem flushed_loss (c : Dev nD) (t : Fin cfg0.N) (hf : (cfg0.win 10).flush t = true) :
    (dats m 0 c).flushed 10 t = ((cfg0.win 10).blk t).view.read (Elt Ideal) (loss (ns m c) (hs m c) (ts m c) (ws m c) (vs m c) (gs m c)) := by
  have hN := points
  have ht := t.isLt
  have h15 : t.val = 15 := by have := (flush0_10 t).mp hf; omega
  rw [flushed10]
  obtain ⟨-, -, -, -, ⟨e0, e1⟩, -⟩ := indexOut t
  funext j
  obtain ⟨p, d, rfl⟩ : ∃ (p : Fin 8) (d : Fin 128), j = ix2 p d := ⟨j 0, j 1, eq_ix2 j⟩
  have e : ((cfg0.win 10).blk t).view.emb (ix2 p d) = ix2 p d := funext fun a => Fin.ext (match a with
    | ⟨0, _⟩ => by show win0_10.index t (0 : Fin 2) * 8 + 1 * p.val = p.val; omega
    | ⟨1, _⟩ => by show win0_10.index t (1 : Fin 2) * 128 + 1 * d.val = d.val; omega)
  refine Eq.trans ?_ (congrArg (loss (ns m c) (hs m c) (ts m c) (ws m c) (vs m c) (gs m c)) e).symm
  refine (cost_sum_at m c t.val t.isLt (p, d)).trans ?_
  rw [h15]
  show ∑ s ∈ Finset.range 16, ∑ p : Fin 256, costs m c ((0 + s) * 256 + p.val) = ∑ n : Fin 4096, cost (out (ns m c) (hs m c) (ws m c) (vs m c) n) (gainRow (gs m c)) (rowOf (ts m c) n)
  simp only [Nat.zero_add, costs_eq]
  exact TileSum.rows (show 16 * 256 = 4096 from rfl) (fun k => costs m c k)

theorem flushed_gain (c : Dev nD) (t : Fin cfg0.N) (hf : (cfg0.win 11).flush t = true) :
    (dats m 0 c).flushed 11 t = ((cfg0.win 11).blk t).view.read (Elt Ideal) (gain (ns m c) (hs m c) (ts m c) (ws m c) (vs m c) (gs m c)) := by
  have hN := points
  have ht := t.isLt
  have h15 : t.val = 15 := by have := (flush0_11 t).mp hf; omega
  rw [flushed11]
  obtain ⟨-, -, -, -, -, e0, e1⟩ := indexOut t
  funext j
  obtain ⟨p, d, rfl⟩ : ∃ (p : Fin 1) (d : Fin 1024), j = ix2 p d := ⟨j 0, j 1, eq_ix2 j⟩
  have e : ((cfg0.win 11).blk t).view.emb (ix2 p d) = ix2 p d := funext fun a => Fin.ext (match a with
    | ⟨0, _⟩ => by show win0_11.index t (0 : Fin 2) * 1 + 1 * p.val = p.val; omega
    | ⟨1, _⟩ => by show win0_11.index t (1 : Fin 2) * 1024 + 1 * d.val = d.val; omega)
  refine Eq.trans ?_ (congrArg (gain (ns m c) (hs m c) (ts m c) (ws m c) (vs m c) (gs m c)) e).symm
  obtain rfl : p = 0 := Subsingleton.elim _ _
  refine (gain_sum_at m c t.val t.isLt d).trans ?_
  rw [h15]
  show ∑ s ∈ Finset.range 16, ∑ p : Fin 256, adds m c ((0 + s) * 256 + p.val) d = ∑ n : Fin 4096, gainOf (ns m c) (hs m c) (ts m c) (ws m c) (vs m c) (gs m c) n d
  simp only [Nat.zero_add, adds_eq]
  exact TileSum.rows (show 16 * 256 = 4096 from rfl) (fun k => adds m c k d)

/-- Every row of a result is in the block of one point; the last point writes back the whole of the sums. -/
theorem covered_up (i : S4096x4096.Idx) : ∃ t : Fin cfg0.N, (cfg0.win 6).flush t = true ∧ i ∈ ((cfg0.win 6).blk t).view.set := by
  have hi : (i 0).val < 4096 := (i 0).isLt
  have hj : (i 1).val < 4096 := (i 1).isLt
  have hN := points
  obtain ⟨t, ht⟩ : ∃ t : Fin cfg0.N, t.val = (i 0).val / 256 := ⟨⟨(i 0).val / 256, by omega⟩, rfl⟩
  obtain ⟨⟨e0, e1⟩, -⟩ := indexOut t
  refine ⟨t, flush0_6 t, ?_⟩
  show i ∈ ((View.whole main_v0_0).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 4096 ≤ (i 1).val ∧ (i 1).val < win0_6.index t (1 : Fin 2) * 4096 + 4096; omega

theorem covered_act (i : S4096x4096.Idx) : ∃ t : Fin cfg0.N, (cfg0.win 7).flush t = true ∧ i ∈ ((cfg0.win 7).blk t).view.set := by
  have hi : (i 0).val < 4096 := (i 0).isLt
  have hj : (i 1).val < 4096 := (i 1).isLt
  have hN := points
  obtain ⟨t, ht⟩ : ∃ t : Fin cfg0.N, t.val = (i 0).val / 256 := ⟨⟨(i 0).val / 256, by omega⟩, rfl⟩
  obtain ⟨-, ⟨e0, e1⟩, -⟩ := indexOut t
  refine ⟨t, flush0_7 t, ?_⟩
  show i ∈ ((View.whole main_v0_1).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 4096 ≤ (i 1).val ∧ (i 1).val < win0_7.index t (1 : Fin 2) * 4096 + 4096; omega

theorem covered_back (i : S4096x1024.Idx) : ∃ t : Fin cfg0.N, (cfg0.win 8).flush t = true ∧ i ∈ ((cfg0.win 8).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨-, -, ⟨e0, e1⟩, -⟩ := indexOut t
  refine ⟨t, flush0_8 t, ?_⟩
  show i ∈ ((View.whole main_v0_2).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

theorem covered_copy (i : S4096x1024.Idx) : ∃ t : Fin cfg0.N, (cfg0.win 9).flush t = true ∧ i ∈ ((cfg0.win 9).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨-, -, -, ⟨e0, e1⟩, -⟩ := indexOut t
  refine ⟨t, flush0_9 t, ?_⟩
  show i ∈ ((View.whole main_v0_3).slice (win0_9.rect t)).set
  rw [View.set_slice_whole, Rect.mem_set_unit]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

theorem covered_loss (i : S8x128.Idx) : ∃ t : Fin cfg0.N, (cfg0.win 10).flush t = true ∧ i ∈ ((cfg0.win 10).blk t).view.set := by
  have hi : (i 0).val < 8 := (i 0).isLt
  have hj : (i 1).val < 128 := (i 1).isLt
  have hN := points
  obtain ⟨t, ht⟩ : ∃ t : Fin cfg0.N, t.val = 15 := ⟨⟨15, by omega⟩, rfl⟩
  obtain ⟨-, -, -, -, ⟨e0, e1⟩, -⟩ := indexOut t
  refine ⟨t, (flush0_10 t).mpr (by omega), ?_⟩
  show i ∈ ((View.whole main_v0_4).slice (win0_10.rect t)).set
  rw [View.set_slice_whole, Rect.mem_set_unit]
  intro a
  match a with
  | ⟨0, _⟩ => show win0_10.index t (0 : Fin 2) * 8 ≤ (i 0).val ∧ (i 0).val < win0_10.index t (0 : Fin 2) * 8 + 8; omega
  | ⟨1, _⟩ => show win0_10.index t (1 : Fin 2) * 128 ≤ (i 1).val ∧ (i 1).val < win0_10.index t (1 : Fin 2) * 128 + 128; omega

theorem covered_gain (i : S1x1024.Idx) : ∃ t : Fin cfg0.N, (cfg0.win 11).flush t = true ∧ i ∈ ((cfg0.win 11).blk t).view.set := by
  have hi : (i 0).val < 1 := (i 0).isLt
  have hj : (i 1).val < 1024 := (i 1).isLt
  have hN := points
  obtain ⟨t, ht⟩ : ∃ t : Fin cfg0.N, t.val = 15 := ⟨⟨15, by omega⟩, rfl⟩
  obtain ⟨-, -, -, -, -, e0, e1⟩ := indexOut t
  refine ⟨t, (flush0_11 t).mpr (by omega), ?_⟩
  show i ∈ ((View.whole main_v0_5).slice (win0_11.rect t)).set
  rw [View.set_slice_whole, Rect.mem_set_unit]
  intro a
  match a with
  | ⟨0, _⟩ => show win0_11.index t (0 : Fin 2) * 1 ≤ (i 0).val ∧ (i 0).val < win0_11.index t (0 : Fin 2) * 1 + 1; omega
  | ⟨1, _⟩ => show win0_11.index t (1 : Fin 2) * 1024 ≤ (i 1).val ∧ (i 1).val < win0_11.index t (1 : Fin 2) * 1024 + 1024; omega

/-- The call's six results are the reference's. -/
theorem algebraic_Mlp : Cert.algebraic_MlpIdeal_MlpReferenceIdeal := fun m g m' g' _ hin =>
  ⟨fun c => up (ns m c) (ws m c), fun c => act (ns m c) (ws m c),
    fun c => back (ns m c) (hs m c) (ts m c) (ws m c) (vs m c) (gs m c), fun c => back (ns m c) (hs m c) (ts m c) (ws m c) (vs m c) (gs m c),
    fun c => loss (ns m c) (hs m c) (ts m c) (ws m c) (vs m c) (gs m c), fun c => gain (ns m c) (hs m c) (ts m c) (ws m c) (vs m c) (gs m c),
    (θ_run defs _ _).mono (fun r h c => by
        obtain ⟨h0, h1, h2, h3, h4, h5, hk⟩ := h c
        exact ⟨h0.trans ((dats m 0 c).arrAt_eq_of_cover 6 _ (fun t _ => flushed_up m c t) covered_up),
          h1.trans ((dats m 0 c).arrAt_eq_of_cover 7 _ (fun t _ => flushed_act m c t) covered_act),
          h2.trans ((dats m 0 c).arrAt_eq_of_cover 8 _ (fun t _ => flushed_back m c t) covered_back),
          h3.trans ((dats m 0 c).arrAt_eq_of_cover 9 _ (fun t _ => flushed_copy m c t) covered_copy),
          h4.trans ((dats m 0 c).arrAt_eq_of_cover 10 _ (flushed_loss m c) covered_loss),
          h5.trans ((dats m 0 c).arrAt_eq_of_cover 11 _ (flushed_gain m c) covered_gain), hk⟩)
      (run_blocks (F := Ideal) m g),
    (θ_run Cert.MlpReferenceIdeal.defs _ _).mono (fun r h c => by
        obtain ⟨h0, h1, h2, h3, h4, h5⟩ := hin c
        obtain ⟨r0, r1, r2, r3, r4, r5, hk⟩ := h c
        have eb : back _ _ _ _ _ _ = back (ns m c) (hs m c) (ts m c) (ws m c) (vs m c) (gs m c) :=
          congr (congr (congr (congr (congr (congrArg back h0) h1) h2) h3) h4) h5
        refine ⟨r0.trans ((Cert.MlpReferenceIdeal.Read.val_main_v4_eq _ _).trans ((up_reference _ _).trans (congr (congrArg up h0) h3))),
          r1.trans ((Cert.MlpReferenceIdeal.Read.val_main_v62_eq _ _).trans ((act_reference _ _).trans (congr (congrArg act h0) h3))),
          r2.trans ((Cert.MlpReferenceIdeal.Read.val_main_v61_eq m' c).trans ((back_reference _ _ _ _ _ _).trans eb)),
          r3.trans ((Cert.MlpReferenceIdeal.Read.val_main_v63_eq m' c).trans ((back_reference _ _ _ _ _ _).trans eb)),
          r4.trans ((Cert.MlpReferenceIdeal.Read.val_main_v64_eq m' c).trans ((loss_reference _ _ _ _ _ _).trans ?_)),
          r5.trans ((Cert.MlpReferenceIdeal.Read.val_main_v65_eq m' c).trans ((gain_reference _ _ _ _ _ _).trans ?_)), hk⟩
        · show loss _ _ _ _ _ _ = loss (ns m c) (hs m c) (ts m c) (ws m c) (vs m c) (gs m c)
          exact congr (congr (congr (congr (congr (congrArg loss h0) h1) h2) h3) h4) h5
        · show gain _ _ _ _ _ _ = gain (ns m c) (hs m c) (ts m c) (ws m c) (vs m c) (gs m c)
          exact congr (congr (congr (congr (congr (congrArg gain h0) h1) h2) h3) h4) h5)
      (Cert.MlpReferenceIdeal.Value.run (F := Ideal) m' g')⟩

theorem frame_Mlp_ideal : Cert.quiescent_MlpIdeal := fun m g _ => Cert.MlpIdeal.Gen.frame (F := Ideal) m g

theorem frame_Mlp : Cert.quiescent_Mlp := fun m g _ => Cert.Mlp.Gen.frame m g

theorem frame_Mlp_reference_ideal : Cert.quiescent_MlpReferenceIdeal := fun m g _ =>
  (θ_run Cert.MlpReferenceIdeal.defs _ _).mono (fun r h => ⟨fun c => (h c).2.2.2.2.2.2, sem_eq_zero_of_no_sems (by decide) r.2⟩)
    (Cert.MlpReferenceIdeal.Value.run (F := Ideal) m g)

theorem frame_Mlp_reference : Cert.quiescent_MlpReference := fun m g _ =>
  (θ_run Cert.MlpReferenceIdeal.defs _ _).mono (fun r h => ⟨fun c => (h c).2.2.2.2.2.2, sem_eq_zero_of_no_sems (by decide) r.2⟩)
    (Cert.MlpReferenceIdeal.Value.run (F := Bits) m g)

end Cert.MlpTalk

end
-- ==== Proof.BackMlpReference.lean ====
/-
What flows back through the two layers and through the norm before them, as the reference computes it.
-/
module

public import proofs.«01_k».proof.Proof.Chips
public import proofs.«01_k».proof.Proof.RmsStep
public import proofs.«01_k».proof.Proof.Gen.BackMlpReferenceIdeal.Read
public import Idealize.ShloMosaic.Lib.Pointwise
public import Idealize.ShloMosaic.Lib.Pointwise.Reduce
public import Idealize.ShloMosaic.Lib.IdealHost

@[expose] public section

noncomputable section

namespace Cert.BackMlpTalk

open Idealize.ShloMosaic Idealize.ShloMosaic.TcCoe Idealize.ShloMosaic.StableHlo
open Idealize.SL Idealize.SL.Sem
open Cert.BackTalk (scale along through along_eq_through square width small half)
open Cert.BackMlpReferenceIdeal Cert.BackMlpReferenceIdeal.Read

/-- The slope of the square of what is positive. -/
def drive (u : EReal) : EReal := Ideal.ofBits .f32 0x40000000#32 * max u 0

/-- What flows back into the first layer: through the second layer's weight, then through the square. -/
def pull (y : S4096x1024.Idx → EReal) (u : S4096x4096.Idx → EReal) (v : S4096x1024.Idx → EReal) (n k : Fin 4096) : EReal :=
  (∑ d : Fin 1024, y (ix2 n d) * v (ix2 k d)) * drive (u (ix2 n k))

def dup (y : S4096x1024.Idx → EReal) (u : S4096x4096.Idx → EReal) (v : S4096x1024.Idx → EReal) : S4096x4096.Idx → EReal := fun i => pull y u v (i 0) (i 1)

/-- What flows back through the first layer's weight, which lies in four parts, one of a chip each, of 1024 columns. -/
def flow (y : S4096x1024.Idx → EReal) (u : S4096x4096.Idx → EReal) (v : S4096x1024.Idx → EReal) (w : S4x1024x1024.Idx → EReal) (n : Fin 4096) (d : Fin 1024) : EReal :=
  ∑ k : Fin 4096, pull y u v n k * w (ix3 ⟨k.val / 1024, by omega⟩ d ⟨k.val % 1024, by omega⟩)

/-- The row of a token. -/
def row (x : S4096x1024.Idx → EReal) (n : Fin 4096) : Fin 1024 → EReal := fun k => x (ix2 n k)

/-- What flows back out of the norm's argument, on top of what reaches it around the norm. -/
def back (b y : S4096x1024.Idx → EReal) (u : S4096x4096.Idx → EReal) (x : S4096x1024.Idx → EReal) (w : S4x1024x1024.Idx → EReal) (v : S4096x1024.Idx → EReal) (g : S1x1024.Idx → EReal) : S4096x1024.Idx → EReal :=
  fun i => b (ix2 (i 0) (i 1)) + along (row x (i 0)) (fun k => flow y u v w (i 0) k * g (ix2 0 k)) (i 1)

/-- What token `n` adds to the gain's gradient. -/
def gainOf (y : S4096x1024.Idx → EReal) (u : S4096x4096.Idx → EReal) (x : S4096x1024.Idx → EReal) (w : S4x1024x1024.Idx → EReal) (v : S4096x1024.Idx → EReal) (n : Fin 4096) (d : Fin 1024) : EReal :=
  flow y u v w n d * (x (ix2 n d) * scale (row x n))

/-- The gain's gradient. -/
def gain (y : S4096x1024.Idx → EReal) (u : S4096x4096.Idx → EReal) (x : S4096x1024.Idx → EReal) (w : S4x1024x1024.Idx → EReal) (v : S4096x1024.Idx → EReal) : S1x1024.Idx → EReal :=
  fun i => ∑ n : Fin 4096, gainOf y u x w v n (i 1)

theorem dup_at (x1 : S4096x1024.Idx → EReal) (x2 : S4096x4096.Idx → EReal) (x5 : S4096x1024.Idx → EReal) (n k : Fin 4096) :
    val_main_v16 (F := Ideal) x1 x2 x5 (ix2 n k) = pull x1 x2 x5 n k := by
  pointwise [val_main_v16, val_main_v15, val_main_v14, val_main_v13, val_main_v12, val_main_v10, val_main_v9, val_main_v8, val_main_v5, val_main_v4, val_main_v3, val_main_call0_v0, val_main_call0_cst, val_main_cst, val_main_cst_1, val_main_cst_2]
  unfold pull drive
  split
  · rfl
  · next h => rw [max_eq_right (not_lt.1 h), mul_zero, mul_zero]

/-- The reference's first result: where a unit is silent the slope is zero, so that choosing zero there changes nothing. -/
theorem dup_reference (x1 : S4096x1024.Idx → EReal) (x2 : S4096x4096.Idx → EReal) (x5 : S4096x1024.Idx → EReal) :
    val_main_v56 (F := Ideal) x1 x2 x5 = dup x1 x2 x5 :=
  funext fun i => (congrArg (val_main_v16 (F := Ideal) x1 x2 x5) (eq_ix2 i)).trans (dup_at x1 x2 x5 (i 0) (i 1))

theorem flow_at (x1 : S4096x1024.Idx → EReal) (x2 : S4096x4096.Idx → EReal) (x4 : S4x1024x1024.Idx → EReal) (x5 : S4096x1024.Idx → EReal) (n : Fin 4096) (d : Fin 1024) :
    val_main_v35 (F := Ideal) x1 x2 x4 x5 (ix2 n d) = flow x1 x2 x5 x4 n d := by
  unfold flow
  rw [Finset.sum_congr rfl fun k _ => congrArg (· * x4 (ix3 ⟨k.val / 1024, by omega⟩ d ⟨k.val % 1024, by omega⟩)) (dup_at x1 x2 x5 n k).symm]
  unfold val_main_v35
  generalize val_main_v16 (F := Ideal) x1 x2 x5 = z
  pointwise [val_main_v2, val_main_v1, val_main_v0]

theorem back_at (x0 x1 : S4096x1024.Idx → EReal) (x2 : S4096x4096.Idx → EReal) (x3 : S4096x1024.Idx → EReal) (x4 : S4x1024x1024.Idx → EReal) (x5 : S4096x1024.Idx → EReal) (x6 : S1x1024.Idx → EReal) (n : Fin 4096) (d : Fin 1024) :
    val_main_v57 (F := Ideal) x0 x1 x2 x3 x4 x5 x6 (ix2 n d) = x0 (ix2 n d) + along (row x3 n) (fun k => flow x1 x2 x5 x4 n k * x6 (ix2 0 k)) d := by
  rw [funext fun k => congrArg (· * x6 (ix2 0 k)) (flow_at x1 x2 x4 x5 n k).symm, along_eq_through]
  unfold val_main_v57 val_main_v55 val_main_v54 val_main_v53 val_main_v52 val_main_v51 val_main_v50 val_main_v49 val_main_v48 val_main_v47 val_main_v46 val_main_v45 val_main_v44 val_main_v43 val_main_v42 val_main_v40 val_main_v39 val_main_v31 val_main_v28 val_main_v27 val_main_v26 val_main_v25 val_main_v24 val_main_v23 val_main_v22 val_main_v21 val_main_v20 val_main_v19 val_main_v18 val_main_v17
  generalize val_main_v35 (F := Ideal) x1 x2 x4 x5 = z
  pointwise [val_main_cst_3, val_main_cst_4, val_main_cst_5, val_main_cst_6, val_main_cst_9, val_main_cst_10, val_main_cst_11]
  simp only [Fin.sum_univ_one]
  unfold through scale square width small half row
  rfl

/-- The reference's second result. -/
theorem back_reference (x0 x1 : S4096x1024.Idx → EReal) (x2 : S4096x4096.Idx → EReal) (x3 : S4096x1024.Idx → EReal) (x4 : S4x1024x1024.Idx → EReal) (x5 : S4096x1024.Idx → EReal) (x6 : S1x1024.Idx → EReal) :
    val_main_v57 (F := Ideal) x0 x1 x2 x3 x4 x5 x6 = back x0 x1 x2 x3 x4 x5 x6 :=
  funext fun i => (congrArg _ (eq_ix2 i)).trans (back_at x0 x1 x2 x3 x4 x5 x6 (i 0) (i 1))

theorem gain_at (x1 : S4096x1024.Idx → EReal) (x2 : S4096x4096.Idx → EReal) (x3 : S4096x1024.Idx → EReal) (x4 : S4x1024x1024.Idx → EReal) (x5 : S4096x1024.Idx → EReal) (d : Fin 1024) :
    val_main_v58 (F := Ideal) x1 x2 x3 x4 x5 (ix2 0 d) = ∑ n : Fin 4096, gainOf x1 x2 x3 x4 x5 n d := by
  have e : ∑ n : Fin 4096, gainOf x1 x2 x3 x4 x5 n d = ∑ n : Fin 4096, x3 (ix2 n d) * scale (row x3 n) * val_main_v35 (F := Ideal) x1 x2 x4 x5 (ix2 n d) :=
    Finset.sum_congr rfl fun n _ => (mul_comm _ _).trans (congrArg _ (flow_at x1 x2 x4 x5 n d).symm)
  rw [e]
  unfold val_main_v58 val_main_v41 val_main_v38 val_main_v37 val_main_v36 val_main_v30 val_main_v29 val_main_v25 val_main_v24 val_main_v23 val_main_v22 val_main_v21 val_main_v20 val_main_v19 val_main_v18
  generalize val_main_v35 (F := Ideal) x1 x2 x4 x5 = z
  pointwise [val_main_cst_3, val_main_cst_4, val_main_cst_5, val_main_cst_7, val_main_cst_8]
  simp only [Fin.sum_univ_one]
  unfold scale square width small row
  rfl

/-- The reference's third result. -/
theorem gain_reference (x1 : S4096x1024.Idx → EReal) (x2 : S4096x4096.Idx → EReal) (x3 : S4096x1024.Idx → EReal) (x4 : S4x1024x1024.Idx → EReal) (x5 : S4096x1024.Idx → EReal) :
    val_main_v58 (F := Ideal) x1 x2 x3 x4 x5 = gain x1 x2 x3 x4 x5 :=
  funext fun i => (congrArg _ ((eq_ix2 i).trans (congrArg (ix2 · (i 1)) (Subsingleton.elim (α := Fin 1) _ _)))).trans (gain_at x1 x2 x3 x4 x5 (i 1))

end Cert.BackMlpTalk

end
-- ==== Proof.BackMlpValue.lean ====
/-
What flows back through the two layers and the norm before them: the kernel takes 256 tokens at a time, and the hidden units
of one chip after another; the gradient of the gain it adds up over the blocks of tokens. Over the extended reals its results
are the reference's.
-/
module

public import proofs.«01_k».proof.Defs
public import proofs.«01_k».proof.Proof.BackMlpReference
public import proofs.«01_k».proof.Proof.Gen.BackMlp.Frame
public import proofs.«01_k».proof.Proof.Gen.BackMlpIdeal.Value
public import proofs.«01_k».proof.Proof.Gen.BackMlpReference

@[expose] public section

noncomputable section

namespace Cert.BackMlpTalk

open Idealize.ShloMosaic Idealize.ShloMosaic.TcCoe Idealize.ShloMosaic.StableHlo
open Idealize.SL Idealize.SL.Sem
open Cert.BackTalk (scale along square width small)
open Cert.BackMlpIdeal Cert.BackMlpIdeal.Gen Cert.BackMlpIdeal.Value

/-- One chip's hidden units. -/
theorem pull_at (v3 : Vec Ideal S256x1024 .bf16) (v5 : Vec Ideal S1024x1024 .bf16) (v7 : Vec Ideal S256x1024 .f32) (p : Fin 256) (k : Fin 1024) :
    k0_pay2 v3 v5 v7 (ix2 p k) = (∑ d : Fin 1024, v3 (ix2 p d) * v5 (ix2 k d)) * drive (v7 (ix2 p k)) := by
  pointwise [k0_pay2]
  rfl

/-- What flows back through the first layer's weight, chip by chip. -/
theorem flows_sum (v3 : Vec Ideal S256x1024 .bf16) (v5 : Vec Ideal S1024x1024 .bf16) (v7 : Vec Ideal S256x1024 .f32) (v15 : Vec Ideal S1x1024x1024 .bf16)
    (v27 : Vec Ideal S256x1024 .bf16) (v29 : Vec Ideal S1x1024x1024 .bf16) (v33 : Vec Ideal S1024x1024 .bf16) (v35 : Vec Ideal S256x1024 .f32) (v43 : Vec Ideal S1x1024x1024 .bf16)
    (v55 : Vec Ideal S256x1024 .bf16) (v57 : Vec Ideal S1x1024x1024 .bf16) (p : Fin 256) (d : Fin 1024) :
    k0_pay8 (k0_pay6 v3 (k0_pay3 v3 v5 v7 v15) v27 v29 v33 v35 v43) v55 v57 (ix2 p d)
      = ∑ k : Fin 1024, k0_pay2 v3 v5 v7 (ix2 p k) * v15 (ix3 0 d k) + ∑ k : Fin 1024, v27 (ix2 p k) * v29 (ix3 0 d k)
        + ∑ k : Fin 1024, k0_pay2 v3 v33 v35 (ix2 p k) * v43 (ix3 0 d k) + ∑ k : Fin 1024, v55 (ix2 p k) * v57 (ix3 0 d k) := by
  rw [show k0_pay2 v3 v33 v35 = k0_pay5 v3 v33 v35 from rfl]
  unfold k0_pay8 k0_pay6 k0_pay3
  generalize k0_pay2 v3 v5 v7 = z
  generalize k0_pay5 v3 v33 v35 = z'
  pointwise []

/-- What flows back out of the norm's argument. -/
theorem rows_at (v46 : Vec Ideal S256x1024 .f32) (v55 : Vec Ideal S256x1024 .bf16) (v57 : Vec Ideal S1x1024x1024 .bf16) (v61 v79 : Vec Ideal S256x1024 .f32) (v80 : Vec Ideal S1x1024 .f32) (p : Fin 256) (d : Fin 1024) :
    k0_pay12 v46 v55 v57 v61 v79 v80 (ix2 p d)
      = v79 (ix2 p d) + along (fun k : Fin 1024 => v61 (ix2 p k)) (fun k => k0_pay8 v46 v55 v57 (ix2 p k) * v80 (ix2 0 k)) d := by
  unfold k0_pay12
  generalize k0_pay8 v46 v55 v57 = z
  pointwise [k0_pay10, k0_pay9]
  rfl

/-- What a block adds to the gradient of the gain. -/
theorem gains_at (v46 : Vec Ideal S256x1024 .f32) (v55 : Vec Ideal S256x1024 .bf16) (v57 : Vec Ideal S1x1024x1024 .bf16) (v61 : Vec Ideal S256x1024 .f32) (v72 : Vec Ideal S1x1024 .f32) (d : Fin 1024) :
    k0_pay11 v46 v55 v57 v61 v72 (ix2 0 d)
      = v72 (ix2 0 d) + ∑ p : Fin 256, k0_pay8 v46 v55 v57 (ix2 p d) * (v61 (ix2 p d) * scale (fun k : Fin 1024 => v61 (ix2 p k))) := by
  unfold k0_pay11
  generalize k0_pay8 v46 v55 v57 = z
  pointwise [k0_pay10, k0_pay9]
  rfl

theorem start_at (i : S1x1024.Idx) : k0_pay1 (F := Ideal) i = 0 := by
  pointwise [k0_pay1]

/-- The blocks of a point: its rows of the arrays of tokens, and the whole of the rest. -/
theorem index : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0) :=
  by show ∀ t : Fin grid0.N, _; decide +kernel

/-- The same of the results. -/
theorem indexOut : ∀ t : Fin cfg0.N, (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = 0 ∧ win0_9.index t (1 : Fin 2) = 0) :=
  by show ∀ t : Fin grid0.N, _; decide +kernel

theorem points : cfg0.N = 16 := N_0

/-- The token of a row of a point's block. -/
def token (t : Fin cfg0.N) (p : Fin 256) : Fin 4096 := ⟨t.val * 256 + p.val, by have := t.isLt; have := points; omega⟩

variable (m : (ℓ : Loc nD τ sig) → Buf (Elt Ideal) ℓ)

/-- A device's arguments: what flows back past the layers and into them, the hidden units, the norm's argument, the two
    weights, and the gain. -/
abbrev bs (c : Dev nD) : S4096x1024.Idx → EReal := m ((c.tc : Thread nD τ).loc main_arg0)
abbrev ys (c : Dev nD) : S4096x1024.Idx → EReal := m ((c.tc : Thread nD τ).loc main_arg1)
abbrev us (c : Dev nD) : S4096x4096.Idx → EReal := m ((c.tc : Thread nD τ).loc main_arg2)
abbrev xs (c : Dev nD) : S4096x1024.Idx → EReal := m ((c.tc : Thread nD τ).loc main_arg3)
abbrev ws (c : Dev nD) : S4x1024x1024.Idx → EReal := m ((c.tc : Thread nD τ).loc main_arg4)
abbrev vs (c : Dev nD) : S4096x1024.Idx → EReal := m ((c.tc : Thread nD τ).loc main_arg5)
abbrev gs (c : Dev nD) : S1x1024.Idx → EReal := m ((c.tc : Thread nD τ).loc main_arg6)

theorem bs_at (c : Dev nD) (t : Fin cfg0.N) (p : Fin 256) (k : Fin 1024) : iblk m c 0 t (ix2 p k) = bs m c (ix2 (token t p) k) := by
  obtain ⟨⟨e0, e1⟩, -⟩ := index t
  show V m c main_arg0 (((cfg0.win 0).blk t).view.emb (ix2 p k)) = _
  refine congrArg (bs m c) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem ys_at (c : Dev nD) (t : Fin cfg0.N) (p : Fin 256) (k : Fin 1024) : iblk m c 1 t (ix2 p k) = ys m c (ix2 (token t p) k) := by
  obtain ⟨-, ⟨e0, e1⟩, -⟩ := index t
  show V m c main_arg1 (((cfg0.win 1).blk t).view.emb (ix2 p k)) = _
  refine congrArg (ys m c) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem us_at (c : Dev nD) (t : Fin cfg0.N) (p : Fin 256) (k : Fin 4096) : iblk m c 2 t (ix2 p k) = us m c (ix2 (token t p) k) := by
  obtain ⟨-, -, ⟨e0, e1⟩, -⟩ := index t
  show V m c main_arg2 (((cfg0.win 2).blk t).view.emb (ix2 p k)) = _
  refine congrArg (us m c) (funext fun a => Fin.ext ?_)
  match a with
  | ⟨0, _⟩ => show win0_2.index t (0 : Fin 2) * 256 + 1 * p.val = t.val * 256 + p.val; omega
  | ⟨1, _⟩ => show win0_2.index t (1 : Fin 2) * 4096 + 1 * k.val = k.val; omega

theorem xs_at (c : Dev nD) (t : Fin cfg0.N) (p : Fin 256) (k : Fin 1024) : iblk m c 3 t (ix2 p k) = xs m c (ix2 (token t p) k) := by
  obtain ⟨-, -, -, ⟨e0, e1⟩, -⟩ := index t
  show V m c main_arg3 (((cfg0.win 3).blk t).view.emb (ix2 p k)) = _
  refine congrArg (xs m c) (funext fun a => Fin.ext ?_)
  match a with
  | ⟨0, _⟩ => show win0_3.index t (0 : Fin 2) * 256 + 1 * p.val = t.val * 256 + p.val; omega
  | ⟨1, _⟩ => show win0_3.index t (1 : Fin 2) * 1024 + 1 * k.val = k.val; omega

theorem ws_at (c : Dev nD) (t : Fin cfg0.N) (s : Fin 4) (d : Fin 1024) (k : Fin 1024) : iblk m c 4 t (ix3 s d k) = ws m c (ix3 s d k) := by
  obtain ⟨-, -, -, -, ⟨e0, e1, e2⟩, -⟩ := index t
  show V m c main_arg4 (((cfg0.win 4).blk t).view.emb (ix3 s d k)) = _
  refine congrArg (ws m c) (funext fun a => Fin.ext ?_)
  match a with
  | ⟨0, _⟩ => show win0_4.index t (0 : Fin 3) * 4 + 1 * s.val = s.val; omega
  | ⟨1, _⟩ => show win0_4.index t (1 : Fin 3) * 1024 + 1 * d.val = d.val; omega
  | ⟨2, _⟩ => show win0_4.index t (2 : Fin 3) * 1024 + 1 * k.val = k.val; omega

theorem vs_at (c : Dev nD) (t : Fin cfg0.N) (p : Fin 4096) (k : Fin 1024) : iblk m c 5 t (ix2 p k) = vs m c (ix2 p k) := by
  obtain ⟨-, -, -, -, -, ⟨e0, e1⟩, -⟩ := index t
  show V m c main_arg5 (((cfg0.win 5).blk t).view.emb (ix2 p k)) = _
  refine congrArg (vs m c) (funext fun a => Fin.ext ?_)
  match a with
  | ⟨0, _⟩ => show win0_5.index t (0 : Fin 2) * 4096 + 1 * p.val = p.val; omega
  | ⟨1, _⟩ => show win0_5.index t (1 : Fin 2) * 1024 + 1 * k.val = k.val; omega

theorem gs_at (c : Dev nD) (t : Fin cfg0.N) (p : Fin 1) (k : Fin 1024) : iblk m c 6 t (ix2 p k) = gs m c (ix2 p k) := by
  obtain ⟨-, -, -, -, -, -, e0, e1⟩ := index t
  show V m c main_arg6 (((cfg0.win 6).blk t).view.emb (ix2 p k)) = _
  refine congrArg (gs m c) (funext fun a => Fin.ext ?_)
  match a with
  | ⟨0, _⟩ => show win0_6.index t (0 : Fin 2) * 1 + 1 * p.val = p.val; omega
  | ⟨1, _⟩ => show win0_6.index t (1 : Fin 2) * 1024 + 1 * k.val = k.val; omega

/-- What the body reads of one chip: its part of the first layer's weight, its rows of the second's, its columns of the hidden units. -/
abbrev w0 (c : Dev nD) (t : Fin cfg0.N) : Vec Ideal S1x1024x1024 .bf16 := View.ld (iblk m c 4 t) (Rect.unit ![0, 0, 0] S1x1024x1024.size inb_S4x1024x1024_S1x1024x1024_0_0_0)
abbrev w1 (c : Dev nD) (t : Fin cfg0.N) : Vec Ideal S1x1024x1024 .bf16 := View.ld (iblk m c 4 t) (Rect.unit ![1, 0, 0] S1x1024x1024.size inb_S4x1024x1024_S1x1024x1024_1_0_0)
abbrev w2 (c : Dev nD) (t : Fin cfg0.N) : Vec Ideal S1x1024x1024 .bf16 := View.ld (iblk m c 4 t) (Rect.unit ![2, 0, 0] S1x1024x1024.size inb_S4x1024x1024_S1x1024x1024_2_0_0)
abbrev w3 (c : Dev nD) (t : Fin cfg0.N) : Vec Ideal S1x1024x1024 .bf16 := View.ld (iblk m c 4 t) (Rect.unit ![3, 0, 0] S1x1024x1024.size inb_S4x1024x1024_S1x1024x1024_3_0_0)
abbrev v0 (c : Dev nD) (t : Fin cfg0.N) : Vec Ideal S1024x1024 .bf16 := View.ld (iblk m c 5 t) (Rect.unit ![0, 0] S1024x1024.size inb_S4096x1024_S1024x1024_0_0)
abbrev v1 (c : Dev nD) (t : Fin cfg0.N) : Vec Ideal S1024x1024 .bf16 := View.ld (iblk m c 5 t) (Rect.unit ![1024, 0] S1024x1024.size inb_S4096x1024_S1024x1024_1024_0)
abbrev v2 (c : Dev nD) (t : Fin cfg0.N) : Vec Ideal S1024x1024 .bf16 := View.ld (iblk m c 5 t) (Rect.unit ![2048, 0] S1024x1024.size inb_S4096x1024_S1024x1024_2048_0)
abbrev v3 (c : Dev nD) (t : Fin cfg0.N) : Vec Ideal S1024x1024 .bf16 := View.ld (iblk m c 5 t) (Rect.unit ![3072, 0] S1024x1024.size inb_S4096x1024_S1024x1024_3072_0)
abbrev u0 (c : Dev nD) (t : Fin cfg0.N) : Vec Ideal S256x1024 .f32 := View.ld (iblk m c 2 t) (Rect.unit ![0, 0] S256x1024.size inb_S256x4096_S256x1024_0_0)
abbrev u1 (c : Dev nD) (t : Fin cfg0.N) : Vec Ideal S256x1024 .f32 := View.ld (iblk m c 2 t) (Rect.unit ![0, 1024] S256x1024.size inb_S256x4096_S256x1024_0_1024)
abbrev u2 (c : Dev nD) (t : Fin cfg0.N) : Vec Ideal S256x1024 .f32 := View.ld (iblk m c 2 t) (Rect.unit ![0, 2048] S256x1024.size inb_S256x4096_S256x1024_0_2048)
abbrev u3 (c : Dev nD) (t : Fin cfg0.N) : Vec Ideal S256x1024 .f32 := View.ld (iblk m c 2 t) (Rect.unit ![0, 3072] S256x1024.size inb_S256x4096_S256x1024_0_3072)

theorem chip_at (c : Dev nD) (t : Fin cfg0.N) (s : Fin 4) (o : Nat) (ho : o = s.val)
    (h : ∀ a, (![o, 0, 0] : Fin 3 → Nat) a + S1x1024x1024.size a ≤ S4x1024x1024.size a) (j k : Fin 1024) :
    View.ld (iblk m c 4 t) (Rect.unit ![o, 0, 0] S1x1024x1024.size h) (ix3 0 j k) = ws m c (ix3 s j k) := by
  subst ho
  exact (Chips.ld_chip (iblk m c 4 t) s.val h j k s.isLt).trans (ws_at m c t s j k)

theorem units_at (c : Dev nD) (t : Fin cfg0.N) (s : Fin 4) (o : Nat) (ho : o = s.val * 1024)
    (h : ∀ a, (![o, 0] : Fin 2 → Nat) a + S1024x1024.size a ≤ S4096x1024.size a) (k d : Fin 1024) :
    View.ld (iblk m c 5 t) (Rect.unit ![o, 0] S1024x1024.size h) (ix2 k d) = vs m c (ix2 ⟨s.val * 1024 + k.val, by omega⟩ d) := by
  subst ho
  exact (Chips.ld_rows (iblk m c 5 t) (s.val * 1024) h k d (by omega)).trans (vs_at m c t _ d)

theorem columns_at (c : Dev nD) (t : Fin cfg0.N) (s : Fin 4) (o : Nat) (ho : o = s.val * 1024)
    (h : ∀ a, (![0, o] : Fin 2 → Nat) a + S256x1024.size a ≤ S256x4096.size a) (p : Fin 256) (k : Fin 1024) :
    View.ld (iblk m c 2 t) (Rect.unit ![0, o] S256x1024.size h) (ix2 p k) = us m c (ix2 (token t p) ⟨s.val * 1024 + k.val, by omega⟩) := by
  subst ho
  exact (Chips.ld_columns (iblk m c 2 t) (s.val * 1024) h p k (by omega)).trans (us_at m c t p _)

/-- One chip's hidden units are the reference's. -/
theorem piece_at (c : Dev nD) (t : Fin cfg0.N) (s : Fin 4) (v : Vec Ideal S1024x1024 .bf16) (u : Vec Ideal S256x1024 .f32)
    (hv : ∀ k d : Fin 1024, v (ix2 k d) = vs m c (ix2 ⟨s.val * 1024 + k.val, by omega⟩ d))
    (hu : ∀ (p : Fin 256) (k : Fin 1024), u (ix2 p k) = us m c (ix2 (token t p) ⟨s.val * 1024 + k.val, by omega⟩))
    (p : Fin 256) (k : Fin 1024) (h : s.val * 1024 + k.val < 4096) :
    k0_pay2 (iblk m c 1 t) v u (ix2 p k) = pull (ys m c) (us m c) (vs m c) (token t p) ⟨s.val * 1024 + k.val, h⟩ :=
  (pull_at _ _ _ p k).trans (congrArg₂ (fun a b : EReal => a * b)
    (Finset.sum_congr rfl fun d _ => congrArg₂ (fun a b : EReal => a * b) (ys_at m c t p d) (hv k d)) (congrArg drive (hu p k)))

/-- One chip's part of what flows back. -/
def portion (c : Dev nD) (t : Fin cfg0.N) (p : Fin 256) (d : Fin 1024) (s : Fin 4) (k : Fin 1024) : EReal :=
  pull (ys m c) (us m c) (vs m c) (token t p) ⟨s.val * 1024 + k.val, by omega⟩ * ws m c (ix3 s d k)

theorem portion_at (c : Dev nD) (t : Fin cfg0.N) (p : Fin 256) (d : Fin 1024) (s : Fin 4) (a : Vec Ideal S256x1024 .bf16) (b : Vec Ideal S1x1024x1024 .bf16)
    (ha : ∀ (p : Fin 256) (k : Fin 1024) (h : s.val * 1024 + k.val < 4096), a (ix2 p k) = pull (ys m c) (us m c) (vs m c) (token t p) ⟨s.val * 1024 + k.val, h⟩)
    (hb : ∀ d k : Fin 1024, b (ix3 0 d k) = ws m c (ix3 s d k)) :
    ∑ k : Fin 1024, a (ix2 p k) * b (ix3 0 d k) = ∑ k, portion m c t p d s k :=
  Finset.sum_congr rfl fun k _ => congrArg₂ (fun u v : EReal => u * v) (ha p k (by omega)) (hb d k)

/-- What flows back through the first layer's weight, as the body forms it: what it has after three chips, and then the fourth. -/
def three (c : Dev nD) (t : Fin cfg0.N) : Vec Ideal S256x1024 .f32 :=
  k0_pay6 (iblk m c 1 t) (k0_pay3 (iblk m c 1 t) (v0 m c t) (u0 m c t) (w0 m c t)) (k0_pay4 (iblk m c 1 t) (v1 m c t) (u1 m c t)) (w1 m c t) (v2 m c t) (u2 m c t) (w2 m c t)
def last (c : Dev nD) (t : Fin cfg0.N) : Vec Ideal S256x1024 .bf16 := k0_pay7 (iblk m c 1 t) (v3 m c t) (u3 m c t)

theorem flows_at (c : Dev nD) (t : Fin cfg0.N) (p : Fin 256) (d : Fin 1024) :
    k0_pay8 (three m c t) (last m c t) (w3 m c t) (ix2 p d) = flow (ys m c) (us m c) (vs m c) (ws m c) (token t p) d := by
  refine (flows_sum _ _ _ _ _ _ _ _ _ _ _ p d).trans ?_
  unfold flow
  rw [Chips.four (show 4 * 1024 = 4096 from rfl) _ (portion m c t p d) (fun s k h => ?_),
    portion_at m c t p d 0 _ _ (piece_at m c t 0 _ _ (units_at m c t 0 0 rfl _) (columns_at m c t 0 0 rfl _)) (chip_at m c t 0 0 rfl _),
    portion_at m c t p d 1 (k0_pay4 (iblk m c 1 t) (v1 m c t) (u1 m c t)) _ (piece_at m c t 1 _ _ (units_at m c t 1 1024 rfl _) (columns_at m c t 1 1024 rfl _)) (chip_at m c t 1 1 rfl _),
    portion_at m c t p d 2 _ _ (piece_at m c t 2 _ _ (units_at m c t 2 2048 rfl _) (columns_at m c t 2 2048 rfl _)) (chip_at m c t 2 2 rfl _),
    portion_at m c t p d 3 (last m c t) _ (piece_at m c t 3 _ _ (units_at m c t 3 3072 rfl _) (columns_at m c t 3 3072 rfl _)) (chip_at m c t 3 3 rfl _)]
  have e1 : (⟨(s.val * 1024 + k.val) / 1024, by omega⟩ : Fin 4) = s := Fin.ext (by show (s.val * 1024 + k.val) / 1024 = s.val; omega)
  have e2 : (⟨(s.val * 1024 + k.val) % 1024, by omega⟩ : Fin 1024) = k := Fin.ext (by show (s.val * 1024 + k.val) % 1024 = k.val; omega)
  refine congrArg (pull (ys m c) (us m c) (vs m c) (token t p) ⟨s.val * 1024 + k.val, h⟩ * ·) (congrArg (ws m c) ?_)
  show ix3 (⟨(s.val * 1024 + k.val) / 1024, by omega⟩ : Fin 4) d (⟨(s.val * 1024 + k.val) % 1024, by omega⟩ : Fin 1024) = ix3 s d k
  rw [e1, e2]

theorem zero2 : (![0, 0] : Fin 2 → Nat) = fun _ => 0 := funext fun a => by fin_cases a <;> rfl

/-- A point's block of the first result, put together from the four chips' parts. -/
theorem left_dup (c : Dev nD) (t : Fin cfg0.N) :
    (outsAt0 m c t.val t.isLt).1 = fun j : S256x4096.Idx => pull (ys m c) (us m c) (vs m c) (token t (j 0)) (j 1) := by
  by_cases h0 : t.val % 16 = 0
  on_goal 1 =>
    rw [outsAt0_A m c t h0]
    dsimp only
    unfold out0_A_7
    rw [View.read_writes_eq_canon _ _ _ (fun _ => cover0_A_7 ..)]
    unfold kernelRun0_A
  on_goal 2 =>
    rw [outsAt0_B m c t h0]
    dsimp only
    unfold out0_B_7
    rw [View.read_writes_eq_canon _ _ _ (fun _ => cover0_B_7 ..)]
    unfold kernelRun0_B
  all_goals
    dsimp only
    sl_unfold_words
    simp only [View.readAt_eq_ld, (hs0_1 t).read_unread, (hs0_2 t).read_unread, (hs0_5 t).read_unread, View.ld_unit_zero (S := S256x1024) zero2]
    refine Chips.canon_four (Val := Elt Ideal) (e := .bf16) (R := 256) (w := 1024) (W := 4096) rfl (fun j => pull (ys m c) (us m c) (vs m c) (token t (j 0)) (j 1)) _ _ _ _ _ _ _ _ rfl rfl rfl rfl _ _ _ _ ?_ ?_ ?_ ?_
    · exact piece_at m c t 0 _ _ (units_at m c t 0 0 rfl _) (columns_at m c t 0 0 rfl _)
    · exact piece_at m c t 1 _ _ (units_at m c t 1 1024 rfl _) (columns_at m c t 1 1024 rfl _)
    · exact piece_at m c t 2 _ _ (units_at m c t 2 2048 rfl _) (columns_at m c t 2 2048 rfl _)
    · exact piece_at m c t 3 _ _ (units_at m c t 3 3072 rfl _) (columns_at m c t 3 3072 rfl _)

/-- A point's block of what flows back. -/
theorem left_back (c : Dev nD) (t : Fin cfg0.N) :
    (outsAt0 m c t.val t.isLt).2.1 = k0_pay12 (three m c t) (last m c t) (w3 m c t) (iblk m c 3 t) (iblk m c 0 t) (iblk m c 6 t) := by
  by_cases h0 : t.val % 16 = 0
  on_goal 1 =>
    rw [outsAt0_A m c t h0]
    dsimp only
    unfold out0_A_8
    rw [View.read_writes_eq_canon _ _ _ (fun _ => cover0_A_8 ..)]
    unfold kernelRun0_A
  on_goal 2 =>
    rw [outsAt0_B m c t h0]
    dsimp only
    unfold out0_B_8
    rw [View.read_writes_eq_canon _ _ _ (fun _ => cover0_B_8 ..)]
    unfold kernelRun0_B
  all_goals
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) zero2, View.ld_unit_zero (S := S1x1024) zero2]
    rfl

/-- The running sum after the first point, and after a later one. -/
theorem gain_first (c : Dev nD) (t : Fin cfg0.N) (h0 : t.val % 16 = 0) :
    (outsAt0 m c t.val t.isLt).2.2 = k0_pay11 (three m c t) (last m c t) (w3 m c t) (iblk m c 3 t) (k0_pay1 (F := Ideal)) := by
  rw [outsAt0_A m c t h0]
  dsimp only
  unfold out0_A_9
  rw [View.read_writes_eq_canon _ _ _ (fun _ => cover0_A_9 ..)]
  unfold kernelRun0_A
  dsimp only
  sl_unfold_words
  rw [View.canon_cons_unit_zero (S := S1x1024) zero2, View.readCov_unit_zero (S := S1x1024) _ zero2]
  simp only [View.readAt_eq_ld, (hs0_0 t).read_unread, (hs0_1 t).read_unread, (hs0_2 t).read_unread, (hs0_3 t).read_unread, (hs0_4 t).read_unread, (hs0_5 t).read_unread, (hs0_6 t).read_unread,
    View.ld_unit_zero (S := S256x1024) zero2, View.ld_unit_zero (S := S1x1024) zero2]
  rfl

theorem gain_later (c : Dev nD) (t : Fin cfg0.N) (h0 : ¬t.val % 16 = 0) :
    (outsAt0 m c t.val t.isLt).2.2 = k0_pay11 (three m c t) (last m c t) (w3 m c t) (iblk m c 3 t) (outsAt0 m c (t.val - 1) (Nat.lt_of_le_of_lt (Nat.sub_le _ _) t.isLt)).2.2 := by
  rw [outsAt0_B m c t h0]
  dsimp only
  unfold out0_B_9
  rw [View.read_writes_eq_canon _ _ _ (fun _ => cover0_B_9 ..)]
  unfold kernelRun0_B
  dsimp only
  sl_unfold_words
  rw [View.canon_unit_zero zero2]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread,
    View.ld_unit_zero (S := S256x1024) zero2, View.ld_unit_zero (S := S1x1024) zero2]
  rfl

/-- What a token, given by its number, adds to the gain's gradient; nothing past the last. -/
def adds (c : Dev nD) (k : Nat) (d : Fin 1024) : EReal := if h : k < 4096 then gainOf (ys m c) (us m c) (xs m c) (ws m c) (vs m c) ⟨k, h⟩ d else 0

theorem adds_eq (c : Dev nD) (n : Fin 4096) (d : Fin 1024) : gainOf (ys m c) (us m c) (xs m c) (ws m c) (vs m c) n d = adds m c n.val d := by
  unfold adds
  rw [dif_pos n.isLt]

theorem gain_step (c : Dev nD) (t : Fin cfg0.N) (v : Vec Ideal S1x1024 .f32) (d : Fin 1024) :
    k0_pay11 (three m c t) (last m c t) (w3 m c t) (iblk m c 3 t) v (ix2 0 d) = v (ix2 0 d) + ∑ p : Fin 256, adds m c (t.val * 256 + p.val) d := by
  refine (gains_at _ _ _ _ _ d).trans (congrArg _ (Finset.sum_congr rfl fun p _ => ?_))
  rw [flows_at, xs_at, funext fun k : Fin 1024 => xs_at m c t p k]
  exact adds_eq m c (token t p) d

/-- The running sum after point `n`: the tokens up to it. -/
theorem gain_sum_at (c : Dev nD) (n : Nat) (h : n < cfg0.N) (d : Fin 1024) :
    (outsAt0 m c n h).2.2 (ix2 0 d) = ∑ s ∈ Finset.range (n % 16 + 1), ∑ p : Fin 256, adds m c ((n - n % 16 + s) * 256 + p.val) d :=
  TileSum.running 16 (fun n h d => (outsAt0 m c n h).2.2 (ix2 0 d)) (fun n d => ∑ p : Fin 256, adds m c (n * 256 + p.val) d)
    (fun n h hz d => by
      refine (congrFun (gain_first m c ⟨n, h⟩ hz) _).trans ?_
      rw [gain_step, start_at, zero_add])
    (fun n h hz d => by
      refine (congrFun (gain_later m c ⟨n + 1, h⟩ hz) _).trans ?_
      rw [gain_step]
      rfl)
    n h d

/-- What a point writes back of the first result: its rows. The same of the second. -/
theorem flushed_dup (c : Dev nD) (t : Fin cfg0.N) :
    (dats m 0 c).flushed 7 t = ((cfg0.win 7).blk t).view.read (Elt Ideal) (dup (ys m c) (us m c) (vs m c)) := by
  rw [flushed7, left_dup]
  obtain ⟨⟨e0, e1⟩, -⟩ := indexOut t
  funext j
  obtain ⟨p, d, rfl⟩ : ∃ (p : Fin 256) (d : Fin 4096), j = ix2 p d := ⟨j 0, j 1, eq_ix2 j⟩
  have e : ((cfg0.win 7).blk t).view.emb (ix2 p d) = ix2 (token t p) d := funext fun a => Fin.ext (match a with
    | ⟨0, _⟩ => by show win0_7.index t (0 : Fin 2) * 256 + 1 * p.val = t.val * 256 + p.val; omega
    | ⟨1, _⟩ => by show win0_7.index t (1 : Fin 2) * 4096 + 1 * d.val = d.val; omega)
  refine Eq.trans ?_ (congrArg (dup (ys m c) (us m c) (vs m c)) e).symm
  rfl

theorem flushed_back (c : Dev nD) (t : Fin cfg0.N) :
    (dats m 0 c).flushed 8 t = ((cfg0.win 8).blk t).view.read (Elt Ideal) (back (bs m c) (ys m c) (us m c) (xs m c) (ws m c) (vs m c) (gs m c)) := by
  rw [flushed8, left_back]
  obtain ⟨-, ⟨e0, e1⟩, -⟩ := indexOut t
  funext j
  obtain ⟨p, d, rfl⟩ : ∃ (p : Fin 256) (d : Fin 1024), j = ix2 p d := ⟨j 0, j 1, eq_ix2 j⟩
  have e : ((cfg0.win 8).blk t).view.emb (ix2 p d) = ix2 (token t p) d := funext fun a => Fin.ext (match a with
    | ⟨0, _⟩ => by show win0_8.index t (0 : Fin 2) * 256 + 1 * p.val = t.val * 256 + p.val; omega
    | ⟨1, _⟩ => by show win0_8.index t (1 : Fin 2) * 1024 + 1 * d.val = d.val; omega)
  refine Eq.trans ?_ (congrArg (back (bs m c) (ys m c) (us m c) (xs m c) (ws m c) (vs m c) (gs m c)) e).symm
  refine (rows_at _ _ _ _ _ _ p d).trans ?_
  rw [bs_at, funext fun k : Fin 1024 => xs_at m c t p k, funext fun k : Fin 1024 => congrArg₂ (fun a b : EReal => a * b) (flows_at m c t p k) (gs_at m c t 0 k)]
  rfl

/-- What the last point writes back of the third: the sum over all the tokens. -/
theorem flushed_gain (c : Dev nD) (t : Fin cfg0.N) (hf : (cfg0.win 9).flush t = true) :
    (dats m 0 c).flushed 9 t = ((cfg0.win 9).blk t).view.read (Elt Ideal) (gain (ys m c) (us m c) (xs m c) (ws m c) (vs m c)) := by
  have hN := points
  have ht := t.isLt
  have h15 : t.val = 15 := by have := (flush0_9 t).mp hf; omega
  rw [flushed9]
  obtain ⟨-, -, e0, e1⟩ := indexOut t
  funext j
  obtain ⟨p, d, rfl⟩ : ∃ (p : Fin 1) (d : Fin 1024), j = ix2 p d := ⟨j 0, j 1, eq_ix2 j⟩
  have e : ((cfg0.win 9).blk t).view.emb (ix2 p d) = ix2 p d := funext fun a => Fin.ext (match a with
    | ⟨0, _⟩ => by show win0_9.index t (0 : Fin 2) * 1 + 1 * p.val = p.val; omega
    | ⟨1, _⟩ => by show win0_9.index t (1 : Fin 2) * 1024 + 1 * d.val = d.val; omega)
  refine Eq.trans ?_ (congrArg (gain (ys m c) (us m c) (xs m c) (ws m c) (vs m c)) e).symm
  obtain rfl : p = 0 := Subsingleton.elim _ _
  refine (gain_sum_at m c t.val t.isLt d).trans ?_
  rw [h15]
  show ∑ s ∈ Finset.range 16, ∑ p : Fin 256, adds m c ((0 + s) * 256 + p.val) d = ∑ n : Fin 4096, gainOf (ys m c) (us m c) (xs m c) (ws m c) (vs m c) n d
  simp only [Nat.zero_add, adds_eq]
  exact TileSum.rows (show 16 * 256 = 4096 from rfl) (fun k => adds m c k d)

/-- Every row of a result is in the block of one point; the last point writes back the whole of the sum. -/
theorem covered_dup (i : S4096x4096.Idx) : ∃ t : Fin cfg0.N, (cfg0.win 7).flush t = true ∧ i ∈ ((cfg0.win 7).blk t).view.set := by
  have hi : (i 0).val < 4096 := (i 0).isLt
  have hj : (i 1).val < 4096 := (i 1).isLt
  have hN := points
  obtain ⟨t, ht⟩ : ∃ t : Fin cfg0.N, t.val = (i 0).val / 256 := ⟨⟨(i 0).val / 256, by omega⟩, rfl⟩
  obtain ⟨⟨e0, e1⟩, -⟩ := indexOut t
  refine ⟨t, flush0_7 t, ?_⟩
  show i ∈ ((View.whole main_v0_0).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 4096 ≤ (i 1).val ∧ (i 1).val < win0_7.index t (1 : Fin 2) * 4096 + 4096; omega

theorem covered_back (i : S4096x1024.Idx) : ∃ t : Fin cfg0.N, (cfg0.win 8).flush t = true ∧ i ∈ ((cfg0.win 8).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨-, ⟨e0, e1⟩, -⟩ := indexOut t
  refine ⟨t, flush0_8 t, ?_⟩
  show i ∈ ((View.whole main_v0_1).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

theorem covered_gain (i : S1x1024.Idx) : ∃ t : Fin cfg0.N, (cfg0.win 9).flush t = true ∧ i ∈ ((cfg0.win 9).blk t).view.set := by
  have hi : (i 0).val < 1 := (i 0).isLt
  have hj : (i 1).val < 1024 := (i 1).isLt
  have hN := points
  obtain ⟨t, ht⟩ : ∃ t : Fin cfg0.N, t.val = 15 := ⟨⟨15, by omega⟩, rfl⟩
  obtain ⟨-, -, e0, e1⟩ := indexOut t
  refine ⟨t, (flush0_9 t).mpr (by omega), ?_⟩
  show i ∈ ((View.whole main_v0_2).slice (win0_9.rect t)).set
  rw [View.set_slice_whole, Rect.mem_set_unit]
  intro a
  match a with
  | ⟨0, _⟩ => show win0_9.index t (0 : Fin 2) * 1 ≤ (i 0).val ∧ (i 0).val < win0_9.index t (0 : Fin 2) * 1 + 1; omega
  | ⟨1, _⟩ => show win0_9.index t (1 : Fin 2) * 1024 ≤ (i 1).val ∧ (i 1).val < win0_9.index t (1 : Fin 2) * 1024 + 1024; omega

/-- The call's three results are the reference's. -/
theorem algebraic_BackMlp : Cert.algebraic_BackMlpIdeal_BackMlpReferenceIdeal := fun m g m' g' _ hin =>
  ⟨fun c => dup (ys m c) (us m c) (vs m c), fun c => back (bs m c) (ys m c) (us m c) (xs m c) (ws m c) (vs m c) (gs m c), fun c => gain (ys m c) (us m c) (xs m c) (ws m c) (vs m c),
    (θ_run defs _ _).mono (fun r h c => by
        obtain ⟨h0, h1, h2, hk⟩ := h c
        exact ⟨h0.trans ((dats m 0 c).arrAt_eq_of_cover 7 _ (fun t _ => flushed_dup m c t) covered_dup),
          h1.trans ((dats m 0 c).arrAt_eq_of_cover 8 _ (fun t _ => flushed_back m c t) covered_back),
          h2.trans ((dats m 0 c).arrAt_eq_of_cover 9 _ (flushed_gain m c) covered_gain), hk⟩)
      (run_blocks (F := Ideal) m g),
    (θ_run Cert.BackMlpReferenceIdeal.defs _ _).mono (fun r h c => by
        obtain ⟨h0, h1, h2, h3, h4, h5, h6⟩ := hin c
        obtain ⟨r0, r1, r2, hk⟩ := h c
        refine ⟨r0.trans ((Cert.BackMlpReferenceIdeal.Read.val_main_v56_eq _ _ _).trans ((dup_reference _ _ _).trans (congr (congr (congrArg dup h1) h2) h5))),
          r1.trans ((Cert.BackMlpReferenceIdeal.Read.val_main_v57_eq m' c).trans ((back_reference _ _ _ _ _ _ _).trans ?_)),
          r2.trans ((Cert.BackMlpReferenceIdeal.Read.val_main_v58_eq _ _ _ _ _).trans ((gain_reference _ _ _ _ _).trans ?_)), hk⟩
        · show back _ _ _ _ _ _ _ = back (bs m c) (ys m c) (us m c) (xs m c) (ws m c) (vs m c) (gs m c)
          exact congr (congr (congr (congr (congr (congr (congrArg back h0) h1) h2) h3) h4) h5) h6
        · show gain _ _ _ _ _ = gain (ys m c) (us m c) (xs m c) (ws m c) (vs m c)
          exact congr (congr (congr (congr (congrArg gain h1) h2) h3) h4) h5)
      (Cert.BackMlpReferenceIdeal.Value.run (F := Ideal) m' g')⟩

theorem frame_BackMlp_ideal : Cert.quiescent_BackMlpIdeal := fun m g _ => Cert.BackMlpIdeal.Gen.frame (F := Ideal) m g

theorem frame_BackMlp : Cert.quiescent_BackMlp := fun m g _ => Cert.BackMlp.Gen.frame m g

theorem frame_BackMlp_reference_ideal : Cert.quiescent_BackMlpReferenceIdeal := fun m g _ =>
  (θ_run Cert.BackMlpReferenceIdeal.defs _ _).mono (fun r h => ⟨fun c => (h c).2.2.2, sem_eq_zero_of_no_sems (by decide) r.2⟩)
    (Cert.BackMlpReferenceIdeal.Value.run (F := Ideal) m g)

theorem frame_BackMlp_reference : Cert.quiescent_BackMlpReference := fun m g _ =>
  (θ_run Cert.BackMlpReferenceIdeal.defs _ _).mono (fun r h => ⟨fun c => (h c).2.2.2, sem_eq_zero_of_no_sems (by decide) r.2⟩)
    (Cert.BackMlpReferenceIdeal.Value.run (F := Bits) m g)

end Cert.BackMlpTalk

end
-- ==== Proof.GatingReference.lean ====
/-
The spatial gating within chunks of 128 tokens, as the reference computes it.
-/
module

public import proofs.«01_k».proof.Proof.Chips
public import proofs.«01_k».proof.Proof.Gen.GatingReferenceIdeal.Read
public import Idealize.ShloMosaic.Lib.Affine
public import Idealize.ShloMosaic.Lib.Pointwise
public import Idealize.ShloMosaic.Lib.Pointwise.Reduce
public import Idealize.ShloMosaic.Lib.IdealHost

@[expose] public section

noncomputable section

namespace Cert.GatingTalk

open Idealize.ShloMosaic Idealize.ShloMosaic.TcCoe Idealize.ShloMosaic.StableHlo
open Idealize.SL Idealize.SL.Sem
open Cert.GatingReferenceIdeal Cert.GatingReferenceIdeal.Read

/-- The constants of the activation, and of the norm: the row's length and what is added under the root. -/
def oneHalf : EReal := Ideal.ofBits .f32 0x3F000000#32
def outer : EReal := Ideal.ofBits .f32 0x3F4C422A#32
def inner : EReal := Ideal.ofBits .f32 0x3D372713#32
def width : EReal := Ideal.ofBits .f32 0x44800000#32
def small : EReal := Ideal.ofBits .f32 0x3727C5AC#32

theorem outer_eq : ∃ a : ℝ, 0 < a ∧ outer = (a : EReal) := by
  refine ⟨13386282 / 16777216, by norm_num, ?_⟩
  simp [outer, Ideal.ofBits, Ideal.ieee, -EReal.coe_mul]; norm_num

theorem inner_eq : ∃ a : ℝ, 0 < a ∧ inner = (a : EReal) := by
  refine ⟨12003091 / 268435456, by norm_num, ?_⟩
  simp [inner, Ideal.ofBits, Ideal.ieee, -EReal.coe_mul]; norm_num

/-- The activation, as the reference writes it. -/
def gelu (x : EReal) : EReal := x * (oneHalf * (1 + Ideal.tanh (outer * (x + inner * (x * x * x)))))

/-- The cubic under the hyperbolic tangent, with `x` taken out. -/
theorem cubic (x : EReal) : outer * x * (1 + inner * (x * x)) = outer * (x + inner * (x * x * x)) := by
  obtain ⟨a, ha, ea⟩ := outer_eq
  obtain ⟨b, hb, eb⟩ := inner_eq
  rw [ea, eb]
  have e : (1 : EReal) + ⊤ = ⊤ := EReal.add_top_of_ne_bot (EReal.coe_ne_bot 1)
  induction x with
  | bot => simp [EReal.coe_mul_bot_of_pos ha, EReal.coe_mul_bot_of_pos hb, EReal.coe_mul_top_of_pos hb, e]
  | coe r =>
    norm_cast
    ring
  | top => simp [EReal.coe_mul_top_of_pos ha, EReal.coe_mul_top_of_pos hb, e]

/-- The activation, as the kernel writes it. -/
theorem gelu_eq (x : EReal) : oneHalf * x * (1 + Ideal.tanh (outer * x * (1 + inner * (x * x)))) = gelu x := by
  unfold gelu
  rw [cubic, mul_comm oneHalf x, mul_assoc]

/-- A row less its mean; that over its deviation. -/
def centred (f : Fin 1024 → EReal) (d : Fin 1024) : EReal := f d - Ideal.div (∑ k, f k) width
def normed (f : Fin 1024 → EReal) (d : Fin 1024) : EReal := centred f d * Ideal.rsqrt (Ideal.div (∑ k, centred f k * centred f k) width + small)

/-- A token's weight on another of its chunk: none on a later one. -/
def causal (t s : Fin 128) (v : EReal) : EReal := if s ≤ t then v else 0

theorem causal_eq (t s : Fin 128) (v : EReal) : Scalar.select (IntOp.cmpi .sge (BitVec.ofNat 32 t.val) (BitVec.ofNat 32 s.val)) v 0 = causal t s v := by
  have int (n : Fin 128) : (BitVec.ofNat 32 n.val).toInt = n.val := by
    have h : (BitVec.ofNat 32 n.val).toNat = n.val := by
      rw [BitVec.toNat_ofNat]
      omega
    rw [BitVec.toInt_eq_toNat_of_lt (by rw [h]; omega), h]
  unfold Scalar.select causal
  refine if_congr ?_ rfl rfl
  refine IntOp.cmpi_sge.trans ?_
  rw [int, int, Fin.le_def]
  omega

/-- The half that is gated with: its columns of the projection through the activation, normalized, with gain and offset. -/
def gates (z : S4096x6144.Idx → EReal) (g b : S1x1024.Idx → EReal) (n : Fin 4096) (d : Fin 1024) : EReal :=
  normed (fun k => gelu (z (ix2 n ⟨3072 + k.val, by omega⟩))) d * g (ix2 0 d) + b (ix2 0 d)

/-- The other half times the first, mixed along its chunk of 128 tokens with the weights of one of four groups of columns. -/
def gated (z : S4096x6144.Idx → EReal) (g b : S1x1024.Idx → EReal) (w : S4x128x128.Idx → EReal) (o : S128x1024.Idx → EReal) (n : Fin 4096) (d : Fin 1024) : EReal :=
  gelu (z (ix2 n ⟨2048 + d.val, by omega⟩)) *
    (∑ s : Fin 128, gates z g b ⟨n.val / 128 * 128 + s.val, by omega⟩ d * causal ⟨n.val % 128, by omega⟩ s (w (ix3 ⟨d.val / 256, by omega⟩ ⟨n.val % 128, by omega⟩ s))
      + o (ix2 ⟨n.val % 128, by omega⟩ d))

def allGated (z : S4096x6144.Idx → EReal) (g b : S1x1024.Idx → EReal) (w : S4x128x128.Idx → EReal) (o : S128x1024.Idx → EReal) : S4096x1024.Idx → EReal :=
  fun i => gated z g b w o (i 0) (i 1)

theorem first_at (x0 : S4096x6144.Idx → EReal) (n : Fin 4096) (d : Fin 1024) : val_main_v13 (F := Ideal) x0 (ix2 n d) = gelu (x0 (ix2 n ⟨2048 + d.val, by omega⟩)) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem second_at (x0 : S4096x6144.Idx → EReal) (n : Fin 4096) (d : Fin 1024) : val_main_v27 (F := Ideal) x0 (ix2 n d) = gelu (x0 (ix2 n ⟨3072 + d.val, by omega⟩)) := by
  pointwise [val_main_v27, val_main_v26, val_main_v25, val_main_v24, val_main_v23, val_main_v22, val_main_v21, val_main_v20, val_main_v19, val_main_v18, val_main_v17, val_main_v16, val_main_v15, val_main_v14, val_main_cst_3, val_main_cst_4, val_main_cst_5, val_main_cst_6]
  rfl

theorem weight_at (x3 : S4x128x128.Idx → EReal) (g : Fin 4) (t s : Fin 128) : val_main_v59 (F := Ideal) x3 (ix3 g t s) = causal t s (x3 (ix3 g t s)) := by
  rw [← causal_eq]
  pointwise [val_main_v59, val_main_v58, val_main_v57, val_main_v56, val_main_v55, val_main_call0_v0, val_main_call0_v1, val_main_call0_v2, val_main_call0_v3, val_main_call0_v4, val_main_call0_v5, val_main_call0_c, val_main_call0_cst, val_main_cst_12]
  rw [show IntOp.addi (BitVec.ofNat 32 t.val) 0#32 = BitVec.ofNat 32 t.val from BitVec.add_zero _]

theorem gates_at (x0 : S4096x6144.Idx → EReal) (x1 x2 : S1x1024.Idx → EReal) (n : Fin 4096) (d : Fin 1024) : val_main_v53 (F := Ideal) x0 x1 x2 (ix2 n d) = gates x0 x1 x2 n d := by
  unfold gates
  rw [← funext fun k : Fin 1024 => second_at x0 n k]
  unfold val_main_v53 val_main_v50 val_main_v47 val_main_v46 val_main_v45 val_main_v44 val_main_v42 val_main_v41 val_main_v40 val_main_v38 val_main_v37 val_main_v36 val_main_v35 val_main_v34 val_main_v33 val_main_v31 val_main_v30
  generalize val_main_v27 (F := Ideal) x0 = z
  pointwise [val_main_v52, val_main_v51, val_main_v49, val_main_v48, val_main_v43, val_main_v39, val_main_v32, val_main_v29, val_main_v28, val_main_cst_7, val_main_cst_8, val_main_cst_9, val_main_cst_10, val_main_cst_11]
  rfl

theorem gated_at (x0 : S4096x6144.Idx → EReal) (x1 x2 : S1x1024.Idx → EReal) (x3 : S4x128x128.Idx → EReal) (x4 : S128x1024.Idx → EReal) (n : Fin 4096) (d : Fin 1024) :
    val_main_v67 (F := Ideal) x0 x1 x2 x3 x4 (ix2 n d) = gated x0 x1 x2 x3 x4 n d := by
  unfold gated
  simp only [← first_at, ← gates_at, ← weight_at]
  unfold val_main_v67 val_main_v66 val_main_v65 val_main_v61 val_main_v60 val_main_v54
  generalize val_main_v59 (F := Ideal) x3 = w
  generalize val_main_v13 (F := Ideal) x0 = u
  generalize val_main_v53 (F := Ideal) x0 x1 x2 = z
  pointwise [val_main_v62, val_main_v63, val_main_v64]

/-- The reference's result. -/
theorem gated_reference (x0 : S4096x6144.Idx → EReal) (x1 x2 : S1x1024.Idx → EReal) (x3 : S4x128x128.Idx → EReal) (x4 : S128x1024.Idx → EReal) :
    val_main_v68 (F := Ideal) x0 x1 x2 x3 x4 = allGated x0 x1 x2 x3 x4 :=
  funext fun i => (congrArg (val_main_v67 (F := Ideal) x0 x1 x2 x3 x4) (eq_ix2 i)).trans (gated_at x0 x1 x2 x3 x4 (i 0) (i 1))

end Cert.GatingTalk

end
-- ==== Proof.GatingValue.lean ====
/-
The spatial gating: the kernel takes 256 tokens at a time, in two chunks of 128, and the columns of one group after another.
Over the extended reals its result is the reference's.
-/
module

public import proofs.«01_k».proof.Defs
public import proofs.«01_k».proof.Proof.GatingReference
public import proofs.«01_k».proof.Proof.Gen.Gating.Frame
public import proofs.«01_k».proof.Proof.Gen.GatingIdeal.Value
public import proofs.«01_k».proof.Proof.Gen.GatingReference

@[expose] public section

noncomputable section

namespace Cert.GatingTalk

open Idealize.ShloMosaic Idealize.ShloMosaic.TcCoe Idealize.ShloMosaic.StableHlo
open Idealize.SL Idealize.SL.Sem
open Cert.GatingIdeal Cert.GatingIdeal.Gen Cert.GatingIdeal.Value

/-- A block's two halves: the first through the activation, the second also normalized. -/
theorem first_block (v : Vec Ideal S256x1024 .f32) (p : Fin 256) (d : Fin 1024) : k0_pay5 v (ix2 p d) = gelu (v (ix2 p d)) := by
  rw [← gelu_eq]
  pointwise [k0_pay5]
  rfl

theorem centred_block (v : Vec Ideal S256x1024 .f32) (p : Fin 256) (d : Fin 1024) : k0_pay6 v (ix2 p d) = centred (fun k => gelu (v (ix2 p k))) d := by
  rw [← funext fun k : Fin 1024 => first_block v p k]
  rw [show k0_pay6 v = subf (k0_pay5 v) (broadcastTo S256x1024 (divf (shapeCast S256x1 (multiReduction (F := Ideal) .add [1] S256 (k0_pay5 v) 0x00000000#32 reduces_S256x1024_S256 (.inl rfl) rfl) shapeCasts_S256_S256x1) (broadcast S256x1 (Scalar.ofBits .f32 0x44800000#32))) broadcasts_S256x1_S256x1024) from rfl]
  generalize k0_pay5 v = z
  pointwise []
  rfl

theorem gates_block (v : Vec Ideal S256x1024 .f32) (g b : Vec Ideal S1x1024 .f32) (p : Fin 256) (d : Fin 1024) :
    k0_pay8 (k0_pay6 v) (k0_pay7 v) g b (ix2 p d) = normed (fun k => gelu (v (ix2 p k))) d * g (ix2 0 d) + b (ix2 0 d) := by
  unfold normed
  simp only [← centred_block]
  unfold k0_pay8 k0_pay7
  generalize k0_pay6 v = z
  pointwise []
  rfl

/-- A group's weights. -/
theorem weight_block (v : Vec Ideal S1x128x128 .f32) (t s : Fin 128) : k0_pay10 v (ix2 t s) = causal t s (v (ix3 0 t s)) := by
  rw [← causal_eq]
  pointwise [k0_pay10, k0_pay9]

/-- One chunk's rows, and one group's columns, of a block: from row `r` and column `o` on. -/
def tile (U : Vec Ideal S256x1024 .f32) (Z : Vec Ideal S256x1024 .bf16) (W : Vec Ideal S128x128 .bf16) (B : Vec Ideal S128x256 .f32)
    (r o : Nat) (hr : r + 128 ≤ 256) (ho : o + 256 ≤ 1024) (t : Fin 128) (d : Fin 256) : EReal :=
  U (ix2 ⟨r + t.val, by omega⟩ ⟨o + d.val, by omega⟩) * (∑ s : Fin 128, W (ix2 t s) * Z (ix2 ⟨r + s.val, by omega⟩ ⟨o + d.val, by omega⟩) + B (ix2 t d))

section Tiles

variable (U : Vec Ideal S256x1024 .f32) (W : Vec Ideal S128x128 .bf16) (B : Vec Ideal S128x256 .f32) (t : Fin 128) (d : Fin 256)

theorem tile00 (v35 : Vec Ideal S256x1024 .f32) (v40 : Vec Ideal S256x1 .f32) (g b : Vec Ideal S1x1024 .f32) (w : Vec Ideal S1x128x128 .f32) :
    k0_pay15 U (k0_pay14 v35 v40 g b w) B (ix2 t d) = tile U (k0_pay8 v35 v40 g b) (k0_pay10 w) B 0 0 (by omega) (by omega) t d := by
  unfold k0_pay15 k0_pay14 tile
  generalize k0_pay8 v35 v40 g b = Z
  generalize k0_pay10 w = W
  pointwise []
theorem tile01 (Z : Vec Ideal S256x1024 .bf16) : k0_pay16 U Z W B (ix2 t d) = tile U Z W B 0 256 (by omega) (by omega) t d := by
  unfold tile
  pointwise [k0_pay16]
theorem tile02 (Z : Vec Ideal S256x1024 .bf16) : k0_pay17 U Z W B (ix2 t d) = tile U Z W B 0 512 (by omega) (by omega) t d := by
  unfold tile
  pointwise [k0_pay17]
theorem tile03 (Z : Vec Ideal S256x1024 .bf16) : k0_pay18 U Z W B (ix2 t d) = tile U Z W B 0 768 (by omega) (by omega) t d := by
  unfold tile
  pointwise [k0_pay18]
theorem tile10 (Z : Vec Ideal S256x1024 .bf16) : k0_pay1 (k0_pay19 Z W B) (k0_pay20 U) (ix2 t d) = tile U Z W B 128 0 (by omega) (by omega) t d := by
  unfold tile
  pointwise [k0_pay1, k0_pay19, k0_pay20]
theorem tile11 (Z : Vec Ideal S256x1024 .bf16) : k0_pay2 U Z W B (ix2 t d) = tile U Z W B 128 256 (by omega) (by omega) t d := by
  unfold tile
  pointwise [k0_pay2]
theorem tile12 (Z : Vec Ideal S256x1024 .bf16) : k0_pay3 U Z W B (ix2 t d) = tile U Z W B 128 512 (by omega) (by omega) t d := by
  unfold tile
  pointwise [k0_pay3]
theorem tile13 (Z : Vec Ideal S256x1024 .bf16) : k0_pay4 U Z W B (ix2 t d) = tile U Z W B 128 768 (by omega) (by omega) t d := by
  unfold tile
  pointwise [k0_pay4]

end Tiles

/-- The blocks of a point: its rows of the arrays of tokens, and the whole of the rest. -/
theorem index : ∀ t : Fin cfg0.N, (win0_0.index t (0 : Fin 2) = t.val ∧ win0_0.index t (1 : Fin 2) = 2)
    ∧ (win0_1.index t (0 : Fin 2) = t.val ∧ win0_1.index t (1 : Fin 2) = 3)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0) :=
  by show ∀ t : Fin grid0.N, _; decide +kernel

/-- The same of the results. -/
theorem indexOut : ∀ t : Fin cfg0.N, (win0_6.index t (0 : Fin 2) = t.val ∧ win0_6.index t (1 : Fin 2) = 0) :=
  by show ∀ t : Fin grid0.N, _; decide +kernel

theorem points : cfg0.N = 16 := N_0

/-- The token of a row of a point's block. -/
def token (t : Fin cfg0.N) (p : Fin 256) : Fin 4096 := ⟨t.val * 256 + p.val, by have := t.isLt; have := points; omega⟩

variable (m : (ℓ : Loc nD τ sig) → Buf (Elt Ideal) ℓ)

/-- A device's arguments: the first projection, the gain and the offset of the norm, the weights of the four groups, and their offset. -/
abbrev zs (c : Dev nD) : S4096x6144.Idx → EReal := m ((c.tc : Thread nD τ).loc main_arg0)
abbrev gs (c : Dev nD) : S1x1024.Idx → EReal := m ((c.tc : Thread nD τ).loc main_arg1)
abbrev bs (c : Dev nD) : S1x1024.Idx → EReal := m ((c.tc : Thread nD τ).loc main_arg2)
abbrev ws (c : Dev nD) : S4x128x128.Idx → EReal := m ((c.tc : Thread nD τ).loc main_arg3)
abbrev os (c : Dev nD) : S128x1024.Idx → EReal := m ((c.tc : Thread nD τ).loc main_arg4)

theorem zs_at (c : Dev nD) (t : Fin cfg0.N) (p : Fin 256) (k : Fin 1024) : iblk m c 0 t (ix2 p k) = zs m c (ix2 (token t p) ⟨2048 + k.val, by omega⟩) := by
  obtain ⟨⟨e0, e1⟩, -⟩ := index t
  show V m c main_arg0 (((cfg0.win 0).blk t).view.emb (ix2 p k)) = _
  refine congrArg (zs m c) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = 2048 + k.val; omega

theorem zs1_at (c : Dev nD) (t : Fin cfg0.N) (p : Fin 256) (k : Fin 1024) : iblk m c 1 t (ix2 p k) = zs m c (ix2 (token t p) ⟨3072 + k.val, by omega⟩) := by
  obtain ⟨-, ⟨e0, e1⟩, -⟩ := index t
  show V m c main_arg0 (((cfg0.win 1).blk t).view.emb (ix2 p k)) = _
  refine congrArg (zs m c) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = 3072 + k.val; omega

theorem gs_at (c : Dev nD) (t : Fin cfg0.N) (p : Fin 1) (k : Fin 1024) : iblk m c 2 t (ix2 p k) = gs m c (ix2 p k) := by
  obtain ⟨-, -, ⟨e0, e1⟩, -⟩ := index t
  show V m c main_arg1 (((cfg0.win 2).blk t).view.emb (ix2 p k)) = _
  refine congrArg (gs m c) (funext fun a => Fin.ext ?_)
  match a with
  | ⟨0, _⟩ => show win0_2.index t (0 : Fin 2) * 1 + 1 * p.val = p.val; omega
  | ⟨1, _⟩ => show win0_2.index t (1 : Fin 2) * 1024 + 1 * k.val = k.val; omega

theorem bs_at (c : Dev nD) (t : Fin cfg0.N) (p : Fin 1) (k : Fin 1024) : iblk m c 3 t (ix2 p k) = bs m c (ix2 p k) := by
  obtain ⟨-, -, -, ⟨e0, e1⟩, -⟩ := index t
  show V m c main_arg2 (((cfg0.win 3).blk t).view.emb (ix2 p k)) = _
  refine congrArg (bs m c) (funext fun a => Fin.ext ?_)
  match a with
  | ⟨0, _⟩ => show win0_3.index t (0 : Fin 2) * 1 + 1 * p.val = p.val; omega
  | ⟨1, _⟩ => show win0_3.index t (1 : Fin 2) * 1024 + 1 * k.val = k.val; omega

theorem ws_at (c : Dev nD) (t : Fin cfg0.N) (s : Fin 4) (d : Fin 128) (k : Fin 128) : iblk m c 4 t (ix3 s d k) = ws m c (ix3 s d k) := by
  obtain ⟨-, -, -, -, ⟨e0, e1, e2⟩, -⟩ := index t
  show V m c main_arg3 (((cfg0.win 4).blk t).view.emb (ix3 s d k)) = _
  refine congrArg (ws m c) (funext fun a => Fin.ext ?_)
  match a with
  | ⟨0, _⟩ => show win0_4.index t (0 : Fin 3) * 4 + 1 * s.val = s.val; omega
  | ⟨1, _⟩ => show win0_4.index t (1 : Fin 3) * 128 + 1 * d.val = d.val; omega
  | ⟨2, _⟩ => show win0_4.index t (2 : Fin 3) * 128 + 1 * k.val = k.val; omega

theorem os_at (c : Dev nD) (t : Fin cfg0.N) (p : Fin 128) (k : Fin 1024) : iblk m c 5 t (ix2 p k) = os m c (ix2 p k) := by
  obtain ⟨-, -, -, -, -, e0, e1⟩ := index t
  show V m c main_arg4 (((cfg0.win 5).blk t).view.emb (ix2 p k)) = _
  refine congrArg (os m c) (funext fun a => Fin.ext ?_)
  match a with
  | ⟨0, _⟩ => show win0_5.index t (0 : Fin 2) * 128 + 1 * p.val = p.val; omega
  | ⟨1, _⟩ => show win0_5.index t (1 : Fin 2) * 1024 + 1 * k.val = k.val; omega

theorem zero2 : (![0, 0] : Fin 2 → Nat) = fun _ => 0 := funext fun a => by fin_cases a <;> rfl

/-- A block's two halves, of the arguments. -/
def U (c : Dev nD) (t : Fin cfg0.N) : Vec Ideal S256x1024 .f32 := k0_pay5 (iblk m c 0 t)
def Z (c : Dev nD) (t : Fin cfg0.N) : Vec Ideal S256x1024 .bf16 := k0_pay8 (k0_pay6 (iblk m c 1 t)) (k0_pay7 (iblk m c 1 t)) (iblk m c 2 t) (iblk m c 3 t)

theorem U_at (c : Dev nD) (t : Fin cfg0.N) (p : Fin 256) (d : Fin 1024) : U m c t (ix2 p d) = gelu (zs m c (ix2 (token t p) ⟨2048 + d.val, by omega⟩)) :=
  (first_block _ p d).trans (congrArg gelu (zs_at m c t p d))

theorem Z_at (c : Dev nD) (t : Fin cfg0.N) (p : Fin 256) (d : Fin 1024) : Z m c t (ix2 p d) = gates (zs m c) (gs m c) (bs m c) (token t p) d := by
  refine (gates_block _ _ _ p d).trans ?_
  rw [funext fun k : Fin 1024 => congrArg gelu (zs1_at m c t p k), gs_at, bs_at]
  rfl

theorem group_at (c : Dev nD) (t : Fin cfg0.N) (s : Fin 4) (o : Nat) (ho : o = s.val)
    (h : ∀ a, (![o, 0, 0] : Fin 3 → Nat) a + S1x128x128.size a ≤ S4x128x128.size a) (j k : Fin 128) :
    k0_pay10 (View.ld (iblk m c 4 t) (Rect.unit ![o, 0, 0] S1x128x128.size h)) (ix2 j k) = causal j k (ws m c (ix3 s j k)) := by
  subst ho
  exact (weight_block _ j k).trans (congrArg (causal j k) ((Chips.ld_chip (iblk m c 4 t) s.val h j k s.isLt).trans (ws_at m c t s j k)))

theorem offset_at (c : Dev nD) (t : Fin cfg0.N) (s : Fin 4) (o : Nat) (ho : o = s.val * 256)
    (h : ∀ a, (![0, o] : Fin 2 → Nat) a + S128x256.size a ≤ S128x1024.size a) (p : Fin 128) (k : Fin 256) :
    View.ld (iblk m c 5 t) (Rect.unit ![0, o] S128x256.size h) (ix2 p k) = os m c (ix2 p ⟨s.val * 256 + k.val, by omega⟩) := by
  subst ho
  exact (Chips.ld_columns (iblk m c 5 t) (s.val * 256) h p k (by omega)).trans (os_at m c t p _)

/-- One chunk's rows and one group's columns of a point's block are the reference's. -/
theorem piece_at (c : Dev nD) (t : Fin cfg0.N) (a : Fin 2) (g : Fin 4) (r o : Nat) (er : r = a.val * 128) (eo : o = g.val * 256) (hr : r + 128 ≤ 256) (ho : o + 256 ≤ 1024)
    (W : Vec Ideal S128x128 .bf16) (B : Vec Ideal S128x256 .f32) (hW : ∀ j k : Fin 128, W (ix2 j k) = causal j k (ws m c (ix3 g j k)))
    (hB : ∀ (p : Fin 128) (k : Fin 256), B (ix2 p k) = os m c (ix2 p ⟨g.val * 256 + k.val, by omega⟩)) (p : Fin 128) (k : Fin 256) :
    tile (U m c t) (Z m c t) W B r o hr ho p k = gated (zs m c) (gs m c) (bs m c) (ws m c) (os m c) (token t ⟨r + p.val, by omega⟩) ⟨o + k.val, by omega⟩ := by
  subst er eo
  have hN := points
  have ht := t.isLt
  have e1 : (⟨(t.val * 256 + (a.val * 128 + p.val)) % 128, by omega⟩ : Fin 128) = p := Fin.ext (by show (t.val * 256 + (a.val * 128 + p.val)) % 128 = p.val; omega)
  have e2 : (⟨(g.val * 256 + k.val) / 256, by omega⟩ : Fin 4) = g := Fin.ext (by show (g.val * 256 + k.val) / 256 = g.val; omega)
  have e3 (s : Fin 128) : (⟨(t.val * 256 + (a.val * 128 + p.val)) / 128 * 128 + s.val, by omega⟩ : Fin 4096) = token t ⟨a.val * 128 + s.val, by omega⟩ :=
    Fin.ext (by show (t.val * 256 + (a.val * 128 + p.val)) / 128 * 128 + s.val = t.val * 256 + (a.val * 128 + s.val); omega)
  show _ = gelu (zs m c (ix2 (token t ⟨a.val * 128 + p.val, by omega⟩) ⟨2048 + (g.val * 256 + k.val), by omega⟩)) *
    (∑ s : Fin 128, gates (zs m c) (gs m c) (bs m c) (⟨(t.val * 256 + (a.val * 128 + p.val)) / 128 * 128 + s.val, by omega⟩ : Fin 4096) ⟨g.val * 256 + k.val, by omega⟩
        * causal (⟨(t.val * 256 + (a.val * 128 + p.val)) % 128, by omega⟩ : Fin 128) s (ws m c (ix3 (⟨(g.val * 256 + k.val) / 256, by omega⟩ : Fin 4) (⟨(t.val * 256 + (a.val * 128 + p.val)) % 128, by omega⟩ : Fin 128) s))
      + os m c (ix2 (⟨(t.val * 256 + (a.val * 128 + p.val)) % 128, by omega⟩ : Fin 128) ⟨g.val * 256 + k.val, by omega⟩))
  rw [e1, e2]
  unfold tile
  refine congrArg₂ (fun u v : EReal => u * v) (U_at m c t _ _) (congrArg₂ (fun u v : EReal => u + v) (Finset.sum_congr rfl fun s _ => ?_) (hB p k))
  rw [e3]
  exact (congrArg₂ (fun u v : EReal => u * v) (hW p s) (Z_at m c t _ _)).trans (mul_comm _ _)

/-- A store of one chunk's rows and one group's columns of a function of the block. -/
theorem piece_emb (G : S256x1024.Idx → EReal) (P : Vec Ideal S128x256 .bf16) (r o : Nat) (hr : r + 128 ≤ 256) (ho : o + 256 ≤ 1024)
    (h : ∀ a, (![r, o] : Fin 2 → Nat) a + S128x256.size a ≤ S256x1024.size a)
    (g : ∀ (p : Fin 128) (k : Fin 256), P (ix2 p k) = G (ix2 ⟨r + p.val, by omega⟩ ⟨o + k.val, by omega⟩)) (x : S128x256.Idx) :
    P x = G ((Rect.unit (s := S256x1024) ![r, o] S128x256.size h).emb x) := by
  obtain ⟨p, k, rfl⟩ : ∃ (p : Fin 128) (k : Fin 256), x = ix2 p k := ⟨x 0, x 1, eq_ix2 x⟩
  refine (g p k).trans (congrArg G (funext fun a => Fin.ext ?_))
  match a with
  | ⟨0, _⟩ => show r + p.val = r + 1 * p.val; omega
  | ⟨1, _⟩ => show o + k.val = o + 1 * k.val; omega

theorem mem_piece (r o : Nat) (h : ∀ a, (![r, o] : Fin 2 → Nat) a + S128x256.size a ≤ S256x1024.size a) (y : S256x1024.Idx)
    (h0 : r ≤ (y 0).val ∧ (y 0).val < r + 128) (h1 : o ≤ (y 1).val ∧ (y 1).val < o + 256) :
    y ∈ (Rect.unit (s := S256x1024) ![r, o] S128x256.size h).set := by
  rw [Rect.mem_set_unit]
  intro a
  match a with
  | ⟨0, _⟩ => exact h0
  | ⟨1, _⟩ => exact h1

/-- The weights of a group are cut out in the same way for each of the four. -/
theorem groups : k0_pay11 (F := Ideal) = k0_pay10 ∧ k0_pay12 (F := Ideal) = k0_pay10 ∧ k0_pay13 (F := Ideal) = k0_pay10 := ⟨rfl, rfl, rfl⟩

/-- A point's block of the reference's result. -/
def block (c : Dev nD) (t : Fin cfg0.N) : S256x1024.Idx → EReal := fun j => gated (zs m c) (gs m c) (bs m c) (ws m c) (os m c) (token t (j 0)) (j 1)

/-- What a store of a chunk's rows and a group's columns holds, once it is that tile. -/
theorem store_at (c : Dev nD) (t : Fin cfg0.N) (a : Fin 2) (g : Fin 4) (r o : Nat) (er : r = a.val * 128) (eo : o = g.val * 256) (hr : r + 128 ≤ 256) (ho : o + 256 ≤ 1024)
    (h : ∀ a, (![r, o] : Fin 2 → Nat) a + S128x256.size a ≤ S256x1024.size a)
    (hw : ∀ a, (![g.val, 0, 0] : Fin 3 → Nat) a + S1x128x128.size a ≤ S4x128x128.size a)
    (hb : ∀ a, (![0, o] : Fin 2 → Nat) a + S128x256.size a ≤ S128x1024.size a)
    (P : Vec Ideal S128x256 .bf16)
    (e : ∀ (p : Fin 128) (k : Fin 256), P (ix2 p k) = tile (U m c t) (Z m c t) (k0_pay10 (View.ld (iblk m c 4 t) (Rect.unit ![g.val, 0, 0] S1x128x128.size hw)))
      (View.ld (iblk m c 5 t) (Rect.unit ![0, o] S128x256.size hb)) r o hr ho p k) (x : S128x256.Idx) :
    P x = block m c t ((Rect.unit (s := S256x1024) ![r, o] S128x256.size h).emb x) :=
  piece_emb (block m c t) P r o hr ho h (fun p k => (e p k).trans
    (piece_at m c t a g r o er eo hr ho _ _ (group_at m c t g g.val rfl hw) (offset_at m c t g o eo hb) p k)) x

/-- What the body leaves of its result at a point: the reference's rows. -/
theorem left_gated (c : Dev nD) (t : Fin cfg0.N) :
    out0_6 (iblk m c 0 t) (iblk m c 1 t) (iblk m c 2 t) (iblk m c 3 t) (iblk m c 4 t) (iblk m c 5 t) = block m c t := by
  unfold out0_6 k0_pay27 k0_pay26 k0_pay25 k0_pay24 k0_pay23 k0_pay22 k0_pay21
  simp only [View.ld_unit_zero (S := S256x1024) zero2, View.ld_unit_zero (S := S1x1024) zero2, groups.1, groups.2.1, groups.2.2]
  funext y
  refine (congrFun (congrArg View.canon (List.append_nil _).symm) y).trans (View.canon_append_of_pieces (Val := Elt Ideal) (e := .bf16) (S := S256x1024)
    (block m c t) [] _ ?_ y ?_)
  · intro q hq
    simp only [List.mem_cons, List.not_mem_nil, or_false] at hq
    rcases hq with rfl | rfl | rfl | rfl | rfl | rfl | rfl | rfl
    · exact store_at m c t 1 3 128 768 rfl rfl (by omega) (by omega) inb_S256x1024_S128x256_128_768 inb_S4x128x128_S1x128x128_3_0_0 inb_S128x1024_S128x256_0_768 _ fun p k => tile13 (U m c t) _ _ p k (Z m c t)
    · exact store_at m c t 1 2 128 512 rfl rfl (by omega) (by omega) inb_S256x1024_S128x256_128_512 inb_S4x128x128_S1x128x128_2_0_0 inb_S128x1024_S128x256_0_512 _ fun p k => tile12 (U m c t) _ _ p k (Z m c t)
    · exact store_at m c t 1 1 128 256 rfl rfl (by omega) (by omega) inb_S256x1024_S128x256_128_256 inb_S4x128x128_S1x128x128_1_0_0 inb_S128x1024_S128x256_0_256 _ fun p k => tile11 (U m c t) _ _ p k (Z m c t)
    · exact store_at m c t 1 0 128 0 rfl rfl (by omega) (by omega) inb_S256x1024_S128x256_128_0 inb_S4x128x128_S1x128x128_0_0_0 inb_S128x1024_S128x256_0_0 _ fun p k => tile10 (U m c t) _ _ p k (Z m c t)
    · exact store_at m c t 0 3 0 768 rfl rfl (by omega) (by omega) inb_S256x1024_S128x256_0_768 inb_S4x128x128_S1x128x128_3_0_0 inb_S128x1024_S128x256_0_768 _ fun p k => tile03 (U m c t) _ _ p k (Z m c t)
    · exact store_at m c t 0 2 0 512 rfl rfl (by omega) (by omega) inb_S256x1024_S128x256_0_512 inb_S4x128x128_S1x128x128_2_0_0 inb_S128x1024_S128x256_0_512 _ fun p k => tile02 (U m c t) _ _ p k (Z m c t)
    · exact store_at m c t 0 1 0 256 rfl rfl (by omega) (by omega) inb_S256x1024_S128x256_0_256 inb_S4x128x128_S1x128x128_1_0_0 inb_S128x1024_S128x256_0_256 _ fun p k => tile01 (U m c t) _ _ p k (Z m c t)
    · exact store_at m c t 0 0 0 0 rfl rfl (by omega) (by omega) inb_S256x1024_S128x256_0_0 inb_S4x128x128_S1x128x128_0_0_0 inb_S128x1024_S128x256_0_0 _ fun p k => tile00 (U m c t) _ p k _ _ _ _ _
  · have y0 : (y 0).val < 256 := (y 0).isLt
    have y1 : (y 1).val < 1024 := (y 1).isLt
    simp only [List.exists_mem_cons_iff, List.not_mem_nil, false_and, exists_false, or_false]
    by_cases hr : (y 0).val < 128
    · by_cases c1 : (y 1).val < 256
      · exact .inr (.inr (.inr (.inr (.inr (.inr (.inr (mem_piece 0 0 _ y (by omega) (by omega))))))))
      by_cases c2 : (y 1).val < 512
      · exact .inr (.inr (.inr (.inr (.inr (.inr (.inl (mem_piece 0 256 _ y (by omega) (by omega))))))))
      by_cases c3 : (y 1).val < 768
      · exact .inr (.inr (.inr (.inr (.inr (.inl (mem_piece 0 512 _ y (by omega) (by omega)))))))
      · exact .inr (.inr (.inr (.inr (.inl (mem_piece 0 768 _ y (by omega) (by omega))))))
    · by_cases c1 : (y 1).val < 256
      · exact .inr (.inr (.inr (.inl (mem_piece 128 0 _ y (by omega) (by omega)))))
      by_cases c2 : (y 1).val < 512
      · exact .inr (.inr (.inl (mem_piece 128 256 _ y (by omega) (by omega))))
      by_cases c3 : (y 1).val < 768
      · exact .inr (.inl (mem_piece 128 512 _ y (by omega) (by omega)))
      · exact .inl (mem_piece 128 768 _ y (by omega) (by omega))

/-- What a point writes back of each result: its rows. -/
theorem flushed_gated (c : Dev nD) (t : Fin cfg0.N) :
    (dats m 0 c).flushed 6 t = ((cfg0.win 6).blk t).view.read (Elt Ideal) (allGated (zs m c) (gs m c) (bs m c) (ws m c) (os m c)) := by
  rw [flushed6, left_gated]
  obtain ⟨e0, e1⟩ := indexOut t
  funext j
  obtain ⟨p, d, rfl⟩ : ∃ (p : Fin 256) (d : Fin 1024), j = ix2 p d := ⟨j 0, j 1, eq_ix2 j⟩
  have e : ((cfg0.win 6).blk t).view.emb (ix2 p d) = ix2 (token t p) d := funext fun a => Fin.ext (match a with
    | ⟨0, _⟩ => by show win0_6.index t (0 : Fin 2) * 256 + 1 * p.val = t.val * 256 + p.val; omega
    | ⟨1, _⟩ => by show win0_6.index t (1 : Fin 2) * 1024 + 1 * d.val = d.val; omega)
  refine Eq.trans ?_ (congrArg (allGated (zs m c) (gs m c) (bs m c) (ws m c) (os m c)) e).symm
  rfl

/-- Every row of a result is in the block of one point. -/
theorem covered_gated (i : S4096x1024.Idx) : ∃ t : Fin cfg0.N, (cfg0.win 6).flush t = true ∧ i ∈ ((cfg0.win 6).blk t).view.set := by
  have hi : (i 0).val < 4096 := (i 0).isLt
  have hj : (i 1).val < 1024 := (i 1).isLt
  have hN := points
  obtain ⟨t, ht⟩ : ∃ t : Fin cfg0.N, t.val = (i 0).val / 256 := ⟨⟨(i 0).val / 256, by omega⟩, rfl⟩
  obtain ⟨e0, e1⟩ := indexOut t
  refine ⟨t, flush0_6 t, ?_⟩
  show i ∈ ((View.whole main_v0).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The call's results are the reference's. -/
theorem algebraic_Gating : Cert.algebraic_GatingIdeal_GatingReferenceIdeal := fun m g m' g' _ hin =>
  ⟨fun c => allGated (zs m c) (gs m c) (bs m c) (ws m c) (os m c),
    (θ_run defs _ _).mono (fun r h c => by
        obtain ⟨h0, hk⟩ := h c
        exact ⟨h0.trans ((dats m 0 c).arrAt_eq_of_cover 6 _ (fun t _ => flushed_gated m c t) covered_gated), hk⟩)
      (run_blocks (F := Ideal) m g),
    (θ_run Cert.GatingReferenceIdeal.defs _ _).mono (fun r h c => by
        obtain ⟨h0, h1, h2, h3, h4⟩ := hin c
        obtain ⟨r0, hk⟩ := h c
        refine ⟨r0.trans ((Cert.GatingReferenceIdeal.Read.val_main_v68_eq m' c).trans ((gated_reference _ _ _ _ _).trans ?_)), hk⟩
        show allGated _ _ _ _ _ = allGated (zs m c) (gs m c) (bs m c) (ws m c) (os m c)
        exact congr (congr (congr (congr (congrArg allGated h0) h1) h2) h3) h4)
      (Cert.GatingReferenceIdeal.Value.run (F := Ideal) m' g')⟩

theorem frame_Gating_ideal : Cert.quiescent_GatingIdeal := fun m g _ => Cert.GatingIdeal.Gen.frame (F := Ideal) m g

theorem frame_Gating : Cert.quiescent_Gating := fun m g _ => Cert.Gating.Gen.frame m g

theorem frame_Gating_reference_ideal : Cert.quiescent_GatingReferenceIdeal := fun m g _ =>
  (θ_run Cert.GatingReferenceIdeal.defs _ _).mono (fun r h => ⟨fun c => (h c).2, sem_eq_zero_of_no_sems (by decide) r.2⟩)
    (Cert.GatingReferenceIdeal.Value.run (F := Ideal) m g)

theorem frame_Gating_reference : Cert.quiescent_GatingReference := fun m g _ =>
  (θ_run Cert.GatingReferenceIdeal.defs _ _).mono (fun r h => ⟨fun c => (h c).2, sem_eq_zero_of_no_sems (by decide) r.2⟩)
    (Cert.GatingReferenceIdeal.Value.run (F := Bits) m g)

end Cert.GatingTalk

end
-- ==== Proof.lean ====
/-
The claims, put together: of each call the frames of its four programs. Of each exchange, that the devices' results are
their blocks of the reference's, over the extended reals and word for word. Of the optimizer, of the sums of the chips'
parts, of the gradients of the large weights on one device, of the forward pass's first projection, its spatial gating, its
joining of the two branches and its layers with the loss, and of the backward pass through the layers and through the first projection, that
the results are the reference's over the extended reals.
-/
module

public import proofs.«01_k».proof.Defs
public import proofs.«01_k».proof.Proof.Gen.Share
public import proofs.«01_k».proof.Proof.Gen.ShareIdeal
public import proofs.«01_k».proof.Proof.Gen.ShareIdeal.Launch
public import proofs.«01_k».proof.Proof.Gen.ShareIdeal.Points
public import proofs.«01_k».proof.Proof.Gen.ShareIdeal.Skeleton
public import proofs.«01_k».proof.Proof.Gen.ShareReference
public import proofs.«01_k».proof.Proof.Gen.ShareReferenceIdeal
public import proofs.«01_k».proof.Proof.Gen.ShareReferenceIdeal.Run
public import proofs.«01_k».proof.Proof.ShareValue
public import proofs.«01_k».proof.Proof.Gen.Exchange
public import proofs.«01_k».proof.Proof.Gen.ExchangeIdeal
public import proofs.«01_k».proof.Proof.Gen.ExchangeIdeal.Launch
public import proofs.«01_k».proof.Proof.Gen.ExchangeIdeal.Points
public import proofs.«01_k».proof.Proof.Gen.ExchangeIdeal.Skeleton
public import proofs.«01_k».proof.Proof.Gen.ExchangeReference
public import proofs.«01_k».proof.Proof.Gen.ExchangeReferenceIdeal
public import proofs.«01_k».proof.Proof.Gen.ExchangeReferenceIdeal.Run
public import proofs.«01_k».proof.Proof.ExchangeValue
public import proofs.«01_k».proof.Proof.Gen.Halves
public import proofs.«01_k».proof.Proof.Gen.HalvesIdeal
public import proofs.«01_k».proof.Proof.Gen.HalvesIdeal.Launch
public import proofs.«01_k».proof.Proof.Gen.HalvesIdeal.Points
public import proofs.«01_k».proof.Proof.Gen.HalvesIdeal.Skeleton
public import proofs.«01_k».proof.Proof.Gen.HalvesReference
public import proofs.«01_k».proof.Proof.Gen.HalvesReferenceIdeal
public import proofs.«01_k».proof.Proof.Gen.HalvesReferenceIdeal.Run
public import proofs.«01_k».proof.Proof.HalvesValue
public import proofs.«01_k».proof.Proof.Gen.Gather
public import proofs.«01_k».proof.Proof.Gen.GatherIdeal
public import proofs.«01_k».proof.Proof.Gen.GatherIdeal.Launch
public import proofs.«01_k».proof.Proof.Gen.GatherIdeal.Points
public import proofs.«01_k».proof.Proof.Gen.GatherIdeal.Skeleton
public import proofs.«01_k».proof.Proof.Gen.GatherReference
public import proofs.«01_k».proof.Proof.Gen.GatherReferenceIdeal
public import proofs.«01_k».proof.Proof.Gen.GatherReferenceIdeal.Run
public import proofs.«01_k».proof.Proof.GatherValue
public import proofs.«01_k».proof.Proof.Gen.AdamwIn.Frame
public import proofs.«01_k».proof.Proof.Gen.AdamwInIdeal.Value
public import proofs.«01_k».proof.Proof.Gen.AdamwInReference
public import proofs.«01_k».proof.Proof.Gen.AdamwInReferenceIdeal.Run
public import proofs.«01_k».proof.Proof.Gen.AdamwGate.Frame
public import proofs.«01_k».proof.Proof.Gen.AdamwGateIdeal.Value
public import proofs.«01_k».proof.Proof.Gen.AdamwGateReference
public import proofs.«01_k».proof.Proof.Gen.AdamwGateReferenceIdeal.Run
public import proofs.«01_k».proof.Proof.Gen.AdamwOut.Frame
public import proofs.«01_k».proof.Proof.Gen.AdamwOutIdeal.Value
public import proofs.«01_k».proof.Proof.Gen.AdamwOutReference
public import proofs.«01_k».proof.Proof.Gen.AdamwOutReferenceIdeal.Run
public import proofs.«01_k».proof.Proof.Gen.AdamwUp.Frame
public import proofs.«01_k».proof.Proof.Gen.AdamwUpIdeal.Value
public import proofs.«01_k».proof.Proof.Gen.AdamwUpReference
public import proofs.«01_k».proof.Proof.Gen.AdamwUpReferenceIdeal.Run
public import proofs.«01_k».proof.Proof.Gen.SmallFirst.Frame
public import proofs.«01_k».proof.Proof.Gen.SmallFirstIdeal.Value
public import proofs.«01_k».proof.Proof.Gen.SmallFirstReference
public import proofs.«01_k».proof.Proof.Gen.SmallFirstReferenceIdeal.Run
public import proofs.«01_k».proof.Proof.Gen.SmallNext.Frame
public import proofs.«01_k».proof.Proof.Gen.SmallNextIdeal.Value
public import proofs.«01_k».proof.Proof.Gen.SmallNextReference
public import proofs.«01_k».proof.Proof.Gen.SmallNextReferenceIdeal.Run
public import proofs.«01_k».proof.Proof.Gen.SmallLast.Frame
public import proofs.«01_k».proof.Proof.Gen.SmallLastIdeal.Value
public import proofs.«01_k».proof.Proof.Gen.SmallLastReference
public import proofs.«01_k».proof.Proof.Gen.SmallLastReferenceIdeal.Run
public import proofs.«01_k».proof.Proof.Gen.ChipSumIn.Frame
public import proofs.«01_k».proof.Proof.Gen.ChipSumInIdeal.Value
public import proofs.«01_k».proof.Proof.Gen.ChipSumInReference
public import proofs.«01_k».proof.Proof.Gen.ChipSumInReferenceIdeal.Run
public import proofs.«01_k».proof.Proof.Gen.ChipSumGate.Frame
public import proofs.«01_k».proof.Proof.Gen.ChipSumGateIdeal.Value
public import proofs.«01_k».proof.Proof.Gen.ChipSumGateReference
public import proofs.«01_k».proof.Proof.Gen.ChipSumGateReferenceIdeal.Run
public import proofs.«01_k».proof.Proof.Gen.ChipSumOut.Frame
public import proofs.«01_k».proof.Proof.Gen.ChipSumOutIdeal.Value
public import proofs.«01_k».proof.Proof.Gen.ChipSumOutReference
public import proofs.«01_k».proof.Proof.Gen.ChipSumOutReferenceIdeal.Run
public import proofs.«01_k».proof.Proof.Gen.ChipSumUp.Frame
public import proofs.«01_k».proof.Proof.Gen.ChipSumUpIdeal.Value
public import proofs.«01_k».proof.Proof.Gen.ChipSumUpReference
public import proofs.«01_k».proof.Proof.Gen.ChipSumUpReferenceIdeal.Run
public import proofs.«01_k».proof.Proof.Gen.GradIn.Frame
public import proofs.«01_k».proof.Proof.Gen.GradInIdeal.Value
public import proofs.«01_k».proof.Proof.Gen.GradInReference
public import proofs.«01_k».proof.Proof.Gen.GradInReferenceIdeal.Run
public import proofs.«01_k».proof.Proof.Gen.GradOut.Frame
public import proofs.«01_k».proof.Proof.Gen.GradOutIdeal.Value
public import proofs.«01_k».proof.Proof.Gen.GradOutReference
public import proofs.«01_k».proof.Proof.Gen.GradOutReferenceIdeal.Run
public import proofs.«01_k».proof.Proof.Gen.GradUp.Frame
public import proofs.«01_k».proof.Proof.Gen.GradUpIdeal.Value
public import proofs.«01_k».proof.Proof.Gen.GradUpReference
public import proofs.«01_k».proof.Proof.Gen.GradUpReferenceIdeal.Run
public import proofs.«01_k».proof.Proof.Gen.GradDown.Frame
public import proofs.«01_k».proof.Proof.Gen.GradDownIdeal.Value
public import proofs.«01_k».proof.Proof.Gen.GradDownReference
public import proofs.«01_k».proof.Proof.Gen.GradDownReferenceIdeal.Run
public import proofs.«01_k».proof.Proof.Gen.BackIn.Frame
public import proofs.«01_k».proof.Proof.Gen.BackInIdeal.Value
public import proofs.«01_k».proof.Proof.Gen.BackInReference
public import proofs.«01_k».proof.Proof.Gen.BackInReferenceIdeal.Run
public import proofs.«01_k».proof.Proof.Gen.ForwardIn.Frame
public import proofs.«01_k».proof.Proof.Gen.ForwardInIdeal.Value
public import proofs.«01_k».proof.Proof.Gen.ForwardInReference
public import proofs.«01_k».proof.Proof.Gen.ForwardInReferenceIdeal.Run
public import proofs.«01_k».proof.Proof.Gen.Merge.Frame
public import proofs.«01_k».proof.Proof.Gen.MergeIdeal.Value
public import proofs.«01_k».proof.Proof.Gen.MergeReference
public import proofs.«01_k».proof.Proof.Gen.MergeReferenceIdeal.Run
public import proofs.«01_k».proof.Proof.Gen.Mlp.Frame
public import proofs.«01_k».proof.Proof.Gen.MlpIdeal.Value
public import proofs.«01_k».proof.Proof.Gen.MlpReference
public import proofs.«01_k».proof.Proof.Gen.MlpReferenceIdeal.Run
public import proofs.«01_k».proof.Proof.Gen.BackMlp.Frame
public import proofs.«01_k».proof.Proof.Gen.BackMlpIdeal.Value
public import proofs.«01_k».proof.Proof.Gen.BackMlpReference
public import proofs.«01_k».proof.Proof.Gen.BackMlpReferenceIdeal.Run
public import proofs.«01_k».proof.Proof.Gen.Gating.Frame
public import proofs.«01_k».proof.Proof.Gen.GatingIdeal.Value
public import proofs.«01_k».proof.Proof.Gen.GatingReference
public import proofs.«01_k».proof.Proof.Gen.GatingReferenceIdeal.Run
public import proofs.«01_k».proof.Proof.AdamwValue
public import proofs.«01_k».proof.Proof.SmallValue
public import proofs.«01_k».proof.Proof.ChipSumValue
public import proofs.«01_k».proof.Proof.GradValue
public import proofs.«01_k».proof.Proof.BackValue
public import proofs.«01_k».proof.Proof.ForwardValue
public import proofs.«01_k».proof.Proof.MergeValue
public import proofs.«01_k».proof.Proof.MlpResults
public import proofs.«01_k».proof.Proof.BackMlpValue
public import proofs.«01_k».proof.Proof.GatingValue

@[expose] public section

noncomputable section

namespace Cert.Proof

open Idealize.ShloMosaic Idealize.ShloMosaic.TcCoe
open Idealize.SL Idealize.SL.Sem

theorem claim : Cert.Claim :=
  ⟨Cert.Share.Gen.facts, Cert.ShareIdeal.Gen.facts, Cert.ShareReference.Gen.facts, Cert.ShareReferenceIdeal.Gen.facts, Cert.Exchange.Gen.facts, Cert.ExchangeIdeal.Gen.facts, Cert.ExchangeReference.Gen.facts, Cert.ExchangeReferenceIdeal.Gen.facts, Cert.Halves.Gen.facts, Cert.HalvesIdeal.Gen.facts, Cert.HalvesReference.Gen.facts, Cert.HalvesReferenceIdeal.Gen.facts, Cert.Gather.Gen.facts, Cert.GatherIdeal.Gen.facts, Cert.GatherReference.Gen.facts, Cert.GatherReferenceIdeal.Gen.facts, Cert.AdamwIn.Gen.facts, Cert.AdamwInIdeal.Gen.facts, Cert.AdamwInReference.Gen.facts, Cert.AdamwInReferenceIdeal.Gen.facts, Cert.AdamwGate.Gen.facts, Cert.AdamwGateIdeal.Gen.facts, Cert.AdamwGateReference.Gen.facts, Cert.AdamwGateReferenceIdeal.Gen.facts, Cert.AdamwOut.Gen.facts, Cert.AdamwOutIdeal.Gen.facts, Cert.AdamwOutReference.Gen.facts, Cert.AdamwOutReferenceIdeal.Gen.facts, Cert.AdamwUp.Gen.facts, Cert.AdamwUpIdeal.Gen.facts, Cert.AdamwUpReference.Gen.facts, Cert.AdamwUpReferenceIdeal.Gen.facts, Cert.SmallFirst.Gen.facts, Cert.SmallFirstIdeal.Gen.facts, Cert.SmallFirstReference.Gen.facts, Cert.SmallFirstReferenceIdeal.Gen.facts, Cert.SmallNext.Gen.facts, Cert.SmallNextIdeal.Gen.facts, Cert.SmallNextReference.Gen.facts, Cert.SmallNextReferenceIdeal.Gen.facts, Cert.SmallLast.Gen.facts, Cert.SmallLastIdeal.Gen.facts, Cert.SmallLastReference.Gen.facts, Cert.SmallLastReferenceIdeal.Gen.facts, Cert.ChipSumIn.Gen.facts, Cert.ChipSumInIdeal.Gen.facts, Cert.ChipSumInReference.Gen.facts, Cert.ChipSumInReferenceIdeal.Gen.facts, Cert.ChipSumGate.Gen.facts, Cert.ChipSumGateIdeal.Gen.facts, Cert.ChipSumGateReference.Gen.facts, Cert.ChipSumGateReferenceIdeal.Gen.facts, Cert.ChipSumOut.Gen.facts, Cert.ChipSumOutIdeal.Gen.facts, Cert.ChipSumOutReference.Gen.facts, Cert.ChipSumOutReferenceIdeal.Gen.facts, Cert.ChipSumUp.Gen.facts, Cert.ChipSumUpIdeal.Gen.facts, Cert.ChipSumUpReference.Gen.facts, Cert.ChipSumUpReferenceIdeal.Gen.facts, Cert.GradIn.Gen.facts, Cert.GradInIdeal.Gen.facts, Cert.GradInReference.Gen.facts, Cert.GradInReferenceIdeal.Gen.facts, Cert.GradOut.Gen.facts, Cert.GradOutIdeal.Gen.facts, Cert.GradOutReference.Gen.facts, Cert.GradOutReferenceIdeal.Gen.facts, Cert.GradUp.Gen.facts, Cert.GradUpIdeal.Gen.facts, Cert.GradUpReference.Gen.facts, Cert.GradUpReferenceIdeal.Gen.facts, Cert.GradDown.Gen.facts, Cert.GradDownIdeal.Gen.facts, Cert.GradDownReference.Gen.facts, Cert.GradDownReferenceIdeal.Gen.facts, Cert.BackIn.Gen.facts, Cert.BackInIdeal.Gen.facts, Cert.BackInReference.Gen.facts, Cert.BackInReferenceIdeal.Gen.facts, Cert.ForwardIn.Gen.facts, Cert.ForwardInIdeal.Gen.facts, Cert.ForwardInReference.Gen.facts, Cert.ForwardInReferenceIdeal.Gen.facts, Cert.Merge.Gen.facts, Cert.MergeIdeal.Gen.facts, Cert.MergeReference.Gen.facts, Cert.MergeReferenceIdeal.Gen.facts, Cert.Mlp.Gen.facts, Cert.MlpIdeal.Gen.facts, Cert.MlpReference.Gen.facts, Cert.MlpReferenceIdeal.Gen.facts, Cert.BackMlp.Gen.facts, Cert.BackMlpIdeal.Gen.facts, Cert.BackMlpReference.Gen.facts, Cert.BackMlpReferenceIdeal.Gen.facts, Cert.Gating.Gen.facts, Cert.GatingIdeal.Gen.facts, Cert.GatingReference.Gen.facts, Cert.GatingReferenceIdeal.Gen.facts,
    ShareTalk.frame, ShareTalk.frame_ideal, ShareTalk.frame_reference, ShareTalk.frame_reference_ideal,
    ExchangeTalk.frame, ExchangeTalk.frame_ideal, ExchangeTalk.frame_reference, ExchangeTalk.frame_reference_ideal,
    HalvesTalk.frame, HalvesTalk.frame_ideal, HalvesTalk.frame_reference, HalvesTalk.frame_reference_ideal,
    GatherTalk.frame, GatherTalk.frame_ideal, GatherTalk.frame_reference, GatherTalk.frame_reference_ideal,
    AdamwTalk.frame_AdamwIn, AdamwTalk.frame_AdamwIn_ideal, AdamwTalk.frame_AdamwIn_reference, AdamwTalk.frame_AdamwIn_reference_ideal,
    AdamwTalk.frame_AdamwGate, AdamwTalk.frame_AdamwGate_ideal, AdamwTalk.frame_AdamwGate_reference, AdamwTalk.frame_AdamwGate_reference_ideal,
    AdamwTalk.frame_AdamwOut, AdamwTalk.frame_AdamwOut_ideal, AdamwTalk.frame_AdamwOut_reference, AdamwTalk.frame_AdamwOut_reference_ideal,
    AdamwTalk.frame_AdamwUp, AdamwTalk.frame_AdamwUp_ideal, AdamwTalk.frame_AdamwUp_reference, AdamwTalk.frame_AdamwUp_reference_ideal,
    AdamwTalk.frame_SmallFirst, AdamwTalk.frame_SmallFirst_ideal, AdamwTalk.frame_SmallFirst_reference, AdamwTalk.frame_SmallFirst_reference_ideal,
    AdamwTalk.frame_SmallNext, AdamwTalk.frame_SmallNext_ideal, AdamwTalk.frame_SmallNext_reference, AdamwTalk.frame_SmallNext_reference_ideal,
    AdamwTalk.frame_SmallLast, AdamwTalk.frame_SmallLast_ideal, AdamwTalk.frame_SmallLast_reference, AdamwTalk.frame_SmallLast_reference_ideal,
    SumTalk.frame_ChipSumIn, SumTalk.frame_ChipSumIn_ideal, SumTalk.frame_ChipSumIn_reference, SumTalk.frame_ChipSumIn_reference_ideal,
    SumTalk.frame_ChipSumGate, SumTalk.frame_ChipSumGate_ideal, SumTalk.frame_ChipSumGate_reference, SumTalk.frame_ChipSumGate_reference_ideal,
    SumTalk.frame_ChipSumOut, SumTalk.frame_ChipSumOut_ideal, SumTalk.frame_ChipSumOut_reference, SumTalk.frame_ChipSumOut_reference_ideal,
    SumTalk.frame_ChipSumUp, SumTalk.frame_ChipSumUp_ideal, SumTalk.frame_ChipSumUp_reference, SumTalk.frame_ChipSumUp_reference_ideal,
    GradTalk.frame_GradIn, GradTalk.frame_GradIn_ideal, GradTalk.frame_GradIn_reference, GradTalk.frame_GradIn_reference_ideal,
    GradTalk.frame_GradOut, GradTalk.frame_GradOut_ideal, GradTalk.frame_GradOut_reference, GradTalk.frame_GradOut_reference_ideal,
    GradTalk.frame_GradUp, GradTalk.frame_GradUp_ideal, GradTalk.frame_GradUp_reference, GradTalk.frame_GradUp_reference_ideal,
    GradTalk.frame_GradDown, GradTalk.frame_GradDown_ideal, GradTalk.frame_GradDown_reference, GradTalk.frame_GradDown_reference_ideal,
    BackTalk.frame_BackIn, BackTalk.frame_BackIn_ideal, BackTalk.frame_BackIn_reference, BackTalk.frame_BackIn_reference_ideal,
    ForwardTalk.frame_ForwardIn, ForwardTalk.frame_ForwardIn_ideal, ForwardTalk.frame_ForwardIn_reference, ForwardTalk.frame_ForwardIn_reference_ideal,
    MergeTalk.frame_Merge, MergeTalk.frame_Merge_ideal, MergeTalk.frame_Merge_reference, MergeTalk.frame_Merge_reference_ideal,
    MlpTalk.frame_Mlp, MlpTalk.frame_Mlp_ideal, MlpTalk.frame_Mlp_reference, MlpTalk.frame_Mlp_reference_ideal,
    BackMlpTalk.frame_BackMlp, BackMlpTalk.frame_BackMlp_ideal, BackMlpTalk.frame_BackMlp_reference, BackMlpTalk.frame_BackMlp_reference_ideal,
    GatingTalk.frame_Gating, GatingTalk.frame_Gating_ideal, GatingTalk.frame_Gating_reference, GatingTalk.frame_Gating_reference_ideal,
    trivial, ShareTalk.algebraic, ShareTalk.bitexact,
    trivial, ExchangeTalk.algebraic, ExchangeTalk.bitexact,
    trivial, HalvesTalk.algebraic, HalvesTalk.bitexact,
    trivial, GatherTalk.algebraic, GatherTalk.bitexact,
    trivial, AdamwTalk.algebraic_AdamwIn, trivial, AdamwTalk.algebraic_AdamwGate, trivial, AdamwTalk.algebraic_AdamwOut, trivial, AdamwTalk.algebraic_AdamwUp, trivial, AdamwTalk.algebraic_SmallFirst, trivial, AdamwTalk.algebraic_SmallNext, trivial, AdamwTalk.algebraic_SmallLast, trivial, SumTalk.algebraic_ChipSumIn, trivial, SumTalk.algebraic_ChipSumGate, trivial, SumTalk.algebraic_ChipSumOut, trivial, SumTalk.algebraic_ChipSumUp, trivial, GradTalk.algebraic_GradIn, trivial, GradTalk.algebraic_GradOut, trivial, GradTalk.algebraic_GradUp, trivial, GradTalk.algebraic_GradDown, trivial, BackTalk.algebraic_BackIn, trivial, ForwardTalk.algebraic_ForwardIn, trivial, MergeTalk.algebraic_Merge, trivial, MlpTalk.algebraic_Mlp, trivial, BackMlpTalk.algebraic_BackMlp, trivial, GatingTalk.algebraic_Gating⟩

end Cert.Proof

end
